-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_mem_finite [hPre_mem_finite : Cert.Pre_mem_finite.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))) = (fun _ => 1#1)

def Pre_MlpLoss (m : (ℓ : Loc Cert.MlpLoss.nD Cert.MlpLoss.τ Cert.MlpLoss.sig) → Buf (Elt Bits) ℓ) : Prop :=
  True

def Pre_MlpLossIdeal (m : (ℓ : Loc Cert.MlpLossIdeal.nD Cert.MlpLossIdeal.τ Cert.MlpLossIdeal.sig) → Buf (Elt Ideal) ℓ) : Prop :=
  True

def Pre_MlpLossIdeal_mlp_finite [hPre_mlp_finite : Cert.Pre_mlp_finite.Facts] (m : (ℓ : Loc Cert.MlpLossIdeal.nD Cert.MlpLossIdeal.τ Cert.MlpLossIdeal.sig) → Buf (Elt Ideal) ℓ) : Prop :=
  ∀ c : Dev Cert.MlpLossIdeal.nD,
    (Cert.Pre_mlp_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6)) (m ((c.tc : Thread Cert.MlpLossIdeal.nD Cert.MlpLossIdeal.τ).loc Cert.MlpLossIdeal.main_arg7))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_GradInA (m : (ℓ : Loc Cert.GradInA.nD Cert.GradInA.τ Cert.GradInA.sig) → Buf (Elt Bits) ℓ) : Prop :=
  True

def Pre_GradInAIdeal (m : (ℓ : Loc Cert.GradInAIdeal.nD Cert.GradInAIdeal.τ Cert.GradInAIdeal.sig) → Buf (Elt Ideal) ℓ) : Prop :=
  True

def Pre_GradInAReferenceIdeal (m : (ℓ : Loc Cert.GradInAReferenceIdeal.nD Cert.GradInAReferenceIdeal.τ Cert.GradInAReferenceIdeal.sig) → Buf (Elt Ideal) ℓ) : Prop :=
  True

def Pre_GradInB (m : (ℓ : Loc Cert.GradInB.nD Cert.GradInB.τ Cert.GradInB.sig) → Buf (Elt Bits) ℓ) : Prop :=
  True

def Pre_GradInBIdeal (m : (ℓ : Loc Cert.GradInBIdeal.nD Cert.GradInBIdeal.τ Cert.GradInBIdeal.sig) → Buf (Elt Ideal) ℓ) : Prop :=
  True

def Pre_GradInBReferenceIdeal (m : (ℓ : Loc Cert.GradInBReferenceIdeal.nD Cert.GradInBReferenceIdeal.τ Cert.GradInBReferenceIdeal.sig) → Buf (Elt Ideal) ℓ) : Prop :=
  True

def Pre_GradInD (m : (ℓ : Loc Cert.GradInD.nD Cert.GradInD.τ Cert.GradInD.sig) → Buf (Elt Bits) ℓ) : Prop :=
  True

def Pre_GradInDIdeal (m : (ℓ : Loc Cert.GradInDIdeal.nD Cert.GradInDIdeal.τ Cert.GradInDIdeal.sig) → Buf (Elt Ideal) ℓ) : Prop :=
  True

def Pre_GradInDReferenceIdeal (m : (ℓ : Loc Cert.GradInDReferenceIdeal.nD Cert.GradInDReferenceIdeal.τ Cert.GradInDReferenceIdeal.sig) → Buf (Elt Ideal) ℓ) : Prop :=
  True

def Pre_GradXHead (m : (ℓ : Loc Cert.GradXHead.nD Cert.GradXHead.τ Cert.GradXHead.sig) → Buf (Elt Bits) ℓ) : Prop :=
  True

def Pre_GradXHeadIdeal (m : (ℓ : Loc Cert.GradXHeadIdeal.nD Cert.GradXHeadIdeal.τ Cert.GradXHeadIdeal.sig) → Buf (Elt Ideal) ℓ) : Prop :=
  True

def Pre_GradXHeadReferenceIdeal (m : (ℓ : Loc Cert.GradXHeadReferenceIdeal.nD Cert.GradXHeadReferenceIdeal.τ Cert.GradXHeadReferenceIdeal.sig) → Buf (Elt Ideal) ℓ) : Prop :=
  True

def Pre_GradXTail (m : (ℓ : Loc Cert.GradXTail.nD Cert.GradXTail.τ Cert.GradXTail.sig) → Buf (Elt Bits) ℓ) : Prop :=
  True

def Pre_GradXTailIdeal (m : (ℓ : Loc Cert.GradXTailIdeal.nD Cert.GradXTailIdeal.τ Cert.GradXTailIdeal.sig) → Buf (Elt Ideal) ℓ) : Prop :=
  True

def Pre_GradXTailReferenceIdeal (m : (ℓ : Loc Cert.GradXTailReferenceIdeal.nD Cert.GradXTailReferenceIdeal.τ Cert.GradXTailReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_GradKv (m : (ℓ : Loc Cert.GradKv.nD Cert.GradKv.τ Cert.GradKv.sig) → Buf (Elt Bits) ℓ) : Prop :=
  True

def Pre_GradKvIdeal (m : (ℓ : Loc Cert.GradKvIdeal.nD Cert.GradKvIdeal.τ Cert.GradKvIdeal.sig) → Buf (Elt Ideal) ℓ) : Prop :=
  True

def Pre_GradKvReferenceIdeal (m : (ℓ : Loc Cert.GradKvReferenceIdeal.nD Cert.GradKvReferenceIdeal.τ Cert.GradKvReferenceIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdReferenceIdeal (m : (ℓ : Loc Cert.HgrnFwdReferenceIdeal.nD Cert.HgrnFwdReferenceIdeal.τ Cert.HgrnFwdReferenceIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swa_finite [hPre_swa_finite : Cert.Pre_swa_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swa_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) = (fun _ => 1#1)

def Pre_SwaFwdReferenceIdeal (m : (ℓ : Loc Cert.SwaFwdReferenceIdeal.nD Cert.SwaFwdReferenceIdeal.τ Cert.SwaFwdReferenceIdeal.sig) → Buf (Elt Ideal) ℓ) : Prop :=
  True

def Pre_SwaFwdReferenceIdeal_swa_finite [hPre_swa_finite : Cert.Pre_swa_finite.Facts] (m : (ℓ : Loc Cert.SwaFwdReferenceIdeal.nD Cert.SwaFwdReferenceIdeal.τ Cert.SwaFwdReferenceIdeal.sig) → Buf (Elt Ideal) ℓ) : Prop :=
  ∀ c : Dev Cert.SwaFwdReferenceIdeal.nD,
    (Cert.Pre_swa_finite.fn (F := Ideal) (m ((c.tc : Thread Cert.SwaFwdReferenceIdeal.nD Cert.SwaFwdReferenceIdeal.τ).loc Cert.SwaFwdReferenceIdeal.main_arg0)) (m ((c.tc : Thread Cert.SwaFwdReferenceIdeal.nD Cert.SwaFwdReferenceIdeal.τ).loc Cert.SwaFwdReferenceIdeal.main_arg1)) (m ((c.tc : Thread Cert.SwaFwdReferenceIdeal.nD Cert.SwaFwdReferenceIdeal.τ).loc Cert.SwaFwdReferenceIdeal.main_arg2))) = (fun _ => 1#1)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdIdeal_pre_mem_finite [hMemBwdIdeal : Cert.MemBwdIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_mem_finite m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MlpLoss [hMlpLoss : Cert.MlpLoss.Facts] : Prop :=
  ∀ (m : (ℓ : Loc Cert.MlpLoss.nD Cert.MlpLoss.τ Cert.MlpLoss.sig) → Buf (Elt Bits) ℓ) (g : Dev Cert.MlpLoss.nD → PrngReg), Pre_MlpLoss m →
    θ_run (Cert.MlpLoss.defs (F := Bits)) (onTc (τ := Cert.MlpLoss.τ) (Cert.MlpLoss.main (F := Bits))) ⟨m, fun _ => 0, g⟩ (fun r => (∀ c : Dev Cert.MlpLoss.nD,
      r.2.mem ((c.tc : Thread Cert.MlpLoss.nD Cert.MlpLoss.τ).loc Cert.MlpLoss.main_arg0) = m ((c.tc : Thread Cert.MlpLoss.nD Cert.MlpLoss.τ).loc Cert.MlpLoss.main_arg0)
      ∧ r.2.mem ((c.tc : Thread Cert.MlpLoss.nD Cert.MlpLoss.τ).loc Cert.MlpLoss.main_arg1) = m ((c.tc : Thread Cert.MlpLoss.nD Cert.MlpLoss.τ).loc Cert.MlpLoss.main_arg1)
      ∧ r.2.mem ((c.tc : Thread Cert.MlpLoss.nD Cert.MlpLoss.τ).loc Cert.MlpLoss.main_arg2) = m ((c.tc : Thread Cert.MlpLoss.nD Cert.MlpLoss.τ).loc Cert.MlpLoss.main_arg2)
      ∧ r.2.mem ((c.tc : Thread Cert.MlpLoss.nD Cert.MlpLoss.τ).loc Cert.MlpLoss.main_arg3) = m ((c.tc : Thread Cert.MlpLoss.nD Cert.MlpLoss.τ).loc Cert.MlpLoss.main_arg3)
      ∧ r.2.mem ((c.tc : Thread Cert.MlpLoss.nD Cert.MlpLoss.τ).loc Cert.MlpLoss.main_arg4) = m ((c.tc : Thread Cert.MlpLoss.nD Cert.MlpLoss.τ).loc Cert.MlpLoss.main_arg4)
      ∧ r.2.mem ((c.tc : Thread Cert.MlpLoss.nD Cert.MlpLoss.τ).loc Cert.MlpLoss.main_arg5) = m ((c.tc : Thread Cert.MlpLoss.nD Cert.MlpLoss.τ).loc Cert.MlpLoss.main_arg5)
      ∧ r.2.mem ((c.tc : Thread Cert.MlpLoss.nD Cert.MlpLoss.τ).loc Cert.MlpLoss.main_arg6) = m ((c.tc : Thread Cert.MlpLoss.nD Cert.MlpLoss.τ).loc Cert.MlpLoss.main_arg6)
      ∧ r.2.mem ((c.tc : Thread Cert.MlpLoss.nD Cert.MlpLoss.τ).loc Cert.MlpLoss.main_arg7) = m ((c.tc : Thread Cert.MlpLoss.nD Cert.MlpLoss.τ).loc Cert.MlpLoss.main_arg7))
      ∧ r.2.sem = fun _ => 0)

def quiescent_MlpLossIdeal [hMlpLossIdeal : Cert.MlpLossIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6)
      ∧ r.2.mem ((c.tc : Thread Cert.MlpLossIdeal.nD Cert.MlpLossIdeal.τ).loc Cert.MlpLossIdeal.main_arg7) = m ((c.tc : Thread Cert.MlpLossIdeal.nD Cert.MlpLossIdeal.τ).loc Cert.MlpLossIdeal.main_arg7))
      ∧ r.2.sem = fun _ => 0)

def quiescent_MlpLossIdeal_pre_mlp_finite [hMlpLossIdeal : Cert.MlpLossIdeal.Facts] [hPre_mlp_finite : Cert.Pre_mlp_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal_mlp_finite m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6)
      ∧ r.2.mem ((c.tc : Thread Cert.MlpLossIdeal.nD Cert.MlpLossIdeal.τ).loc Cert.MlpLossIdeal.main_arg7) = m ((c.tc : Thread Cert.MlpLossIdeal.nD Cert.MlpLossIdeal.τ).loc Cert.MlpLossIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_GradInA [hGradInA : Cert.GradInA.Facts] : Prop :=
  ∀ (m : (ℓ : Loc Cert.GradInA.nD Cert.GradInA.τ Cert.GradInA.sig) → Buf (Elt Bits) ℓ) (g : Dev Cert.GradInA.nD → PrngReg), Pre_GradInA m →
    θ_run (Cert.GradInA.defs (F := Bits)) (onTc (τ := Cert.GradInA.τ) (Cert.GradInA.main (F := Bits))) ⟨m, fun _ => 0, g⟩ (fun r => (∀ c : Dev Cert.GradInA.nD,
      r.2.mem ((c.tc : Thread Cert.GradInA.nD Cert.GradInA.τ).loc Cert.GradInA.main_arg0) = m ((c.tc : Thread Cert.GradInA.nD Cert.GradInA.τ).loc Cert.GradInA.main_arg0)
      ∧ r.2.mem ((c.tc : Thread Cert.GradInA.nD Cert.GradInA.τ).loc Cert.GradInA.main_arg1) = m ((c.tc : Thread Cert.GradInA.nD Cert.GradInA.τ).loc Cert.GradInA.main_arg1))
      ∧ r.2.sem = fun _ => 0)

def quiescent_GradInAIdeal [hGradInAIdeal : Cert.GradInAIdeal.Facts] : Prop :=
  ∀ (m : (ℓ : Loc Cert.GradInAIdeal.nD Cert.GradInAIdeal.τ Cert.GradInAIdeal.sig) → Buf (Elt Ideal) ℓ) (g : Dev Cert.GradInAIdeal.nD → PrngReg), Pre_GradInAIdeal m →
    θ_run (Cert.GradInAIdeal.defs (F := Ideal)) (onTc (τ := Cert.GradInAIdeal.τ) (Cert.GradInAIdeal.main (F := Ideal))) ⟨m, fun _ => 0, g⟩ (fun r => (∀ c : Dev Cert.GradInAIdeal.nD,
      r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
      ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ r.2.sem = fun _ => 0)

def quiescent_GradInAReferenceIdeal [hGradInAReferenceIdeal : Cert.GradInAReferenceIdeal.Facts] : Prop :=
  ∀ (m : (ℓ : Loc Cert.GradInAReferenceIdeal.nD Cert.GradInAReferenceIdeal.τ Cert.GradInAReferenceIdeal.sig) → Buf (Elt Ideal) ℓ) (g : Dev Cert.GradInAReferenceIdeal.nD → PrngReg), Pre_GradInAReferenceIdeal m →
    θ_run (Cert.GradInAReferenceIdeal.defs (F := Ideal)) (onTc (τ := Cert.GradInAReferenceIdeal.τ) (Cert.GradInAReferenceIdeal.main (F := Ideal))) ⟨m, fun _ => 0, g⟩ (fun r => (∀ c : Dev Cert.GradInAReferenceIdeal.nD,
      r.2.mem ((c.tc : Thread Cert.GradInAReferenceIdeal.nD Cert.GradInAReferenceIdeal.τ).loc Cert.GradInAReferenceIdeal.main_arg0) = m ((c.tc : Thread Cert.GradInAReferenceIdeal.nD Cert.GradInAReferenceIdeal.τ).loc Cert.GradInAReferenceIdeal.main_arg0)
      ∧ r.2.mem ((c.tc : Thread Cert.GradInAReferenceIdeal.nD Cert.GradInAReferenceIdeal.τ).loc Cert.GradInAReferenceIdeal.main_arg1) = m ((c.tc : Thread Cert.GradInAReferenceIdeal.nD Cert.GradInAReferenceIdeal.τ).loc Cert.GradInAReferenceIdeal.main_arg1))
      ∧ r.2.sem = fun _ => 0)

def quiescent_GradInB [hGradInB : Cert.GradInB.Facts] : Prop :=
  ∀ (m : (ℓ : Loc Cert.GradInB.nD Cert.GradInB.τ Cert.GradInB.sig) → Buf (Elt Bits) ℓ) (g : Dev Cert.GradInB.nD → PrngReg), Pre_GradInB m →
    θ_run (Cert.GradInB.defs (F := Bits)) (onTc (τ := Cert.GradInB.τ) (Cert.GradInB.main (F := Bits))) ⟨m, fun _ => 0, g⟩ (fun r => (∀ c : Dev Cert.GradInB.nD,
      r.2.mem ((c.tc : Thread Cert.GradInB.nD Cert.GradInB.τ).loc Cert.GradInB.main_arg0) = m ((c.tc : Thread Cert.GradInB.nD Cert.GradInB.τ).loc Cert.GradInB.main_arg0)
      ∧ r.2.mem ((c.tc : Thread Cert.GradInB.nD Cert.GradInB.τ).loc Cert.GradInB.main_arg1) = m ((c.tc : Thread Cert.GradInB.nD Cert.GradInB.τ).loc Cert.GradInB.main_arg1))
      ∧ r.2.sem = fun _ => 0)

def quiescent_GradInBIdeal [hGradInBIdeal : Cert.GradInBIdeal.Facts] : Prop :=
  ∀ (m : (ℓ : Loc Cert.GradInBIdeal.nD Cert.GradInBIdeal.τ Cert.GradInBIdeal.sig) → Buf (Elt Ideal) ℓ) (g : Dev Cert.GradInBIdeal.nD → PrngReg), Pre_GradInBIdeal m →
    θ_run (Cert.GradInBIdeal.defs (F := Ideal)) (onTc (τ := Cert.GradInBIdeal.τ) (Cert.GradInBIdeal.main (F := Ideal))) ⟨m, fun _ => 0, g⟩ (fun r => (∀ c : Dev Cert.GradInBIdeal.nD,
      r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
      ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1))
      ∧ r.2.sem = fun _ => 0)

def quiescent_GradInBReferenceIdeal [hGradInBReferenceIdeal : Cert.GradInBReferenceIdeal.Facts] : Prop :=
  ∀ (m : (ℓ : Loc Cert.GradInBReferenceIdeal.nD Cert.GradInBReferenceIdeal.τ Cert.GradInBReferenceIdeal.sig) → Buf (Elt Ideal) ℓ) (g : Dev Cert.GradInBReferenceIdeal.nD → PrngReg), Pre_GradInBReferenceIdeal m →
    θ_run (Cert.GradInBReferenceIdeal.defs (F := Ideal)) (onTc (τ := Cert.GradInBReferenceIdeal.τ) (Cert.GradInBReferenceIdeal.main (F := Ideal))) ⟨m, fun _ => 0, g⟩ (fun r => (∀ c : Dev Cert.GradInBReferenceIdeal.nD,
      r.2.mem ((c.tc : Thread Cert.GradInBReferenceIdeal.nD Cert.GradInBReferenceIdeal.τ).loc Cert.GradInBReferenceIdeal.main_arg0) = m ((c.tc : Thread Cert.GradInBReferenceIdeal.nD Cert.GradInBReferenceIdeal.τ).loc Cert.GradInBReferenceIdeal.main_arg0)
      ∧ r.2.mem ((c.tc : Thread Cert.GradInBReferenceIdeal.nD Cert.GradInBReferenceIdeal.τ).loc Cert.GradInBReferenceIdeal.main_arg1) = m ((c.tc : Thread Cert.GradInBReferenceIdeal.nD Cert.GradInBReferenceIdeal.τ).loc Cert.GradInBReferenceIdeal.main_arg1))
      ∧ r.2.sem = fun _ => 0)

def quiescent_GradInD [hGradInD : Cert.GradInD.Facts] : Prop :=
  ∀ (m : (ℓ : Loc Cert.GradInD.nD Cert.GradInD.τ Cert.GradInD.sig) → Buf (Elt Bits) ℓ) (g : Dev Cert.GradInD.nD → PrngReg), Pre_GradInD m →
    θ_run (Cert.GradInD.defs (F := Bits)) (onTc (τ := Cert.GradInD.τ) (Cert.GradInD.main (F := Bits))) ⟨m, fun _ => 0, g⟩ (fun r => (∀ c : Dev Cert.GradInD.nD,
      r.2.mem ((c.tc : Thread Cert.GradInD.nD Cert.GradInD.τ).loc Cert.GradInD.main_arg0) = m ((c.tc : Thread Cert.GradInD.nD Cert.GradInD.τ).loc Cert.GradInD.main_arg0)
      ∧ r.2.mem ((c.tc : Thread Cert.GradInD.nD Cert.GradInD.τ).loc Cert.GradInD.main_arg1) = m ((c.tc : Thread Cert.GradInD.nD Cert.GradInD.τ).loc Cert.GradInD.main_arg1))
      ∧ r.2.sem = fun _ => 0)

def quiescent_GradInDIdeal [hGradInDIdeal : Cert.GradInDIdeal.Facts] : Prop :=
  ∀ (m : (ℓ : Loc Cert.GradInDIdeal.nD Cert.GradInDIdeal.τ Cert.GradInDIdeal.sig) → Buf (Elt Ideal) ℓ) (g : Dev Cert.GradInDIdeal.nD → PrngReg), Pre_GradInDIdeal m →
    θ_run (Cert.GradInDIdeal.defs (F := Ideal)) (onTc (τ := Cert.GradInDIdeal.τ) (Cert.GradInDIdeal.main (F := Ideal))) ⟨m, fun _ => 0, g⟩ (fun r => (∀ c : Dev Cert.GradInDIdeal.nD,
      r.2.mem ((c.tc : Thread Cert.GradInDIdeal.nD Cert.GradInDIdeal.τ).loc Cert.GradInDIdeal.main_arg0) = m ((c.tc : Thread Cert.GradInDIdeal.nD Cert.GradInDIdeal.τ).loc Cert.GradInDIdeal.main_arg0)
      ∧ r.2.mem ((c.tc : Thread Cert.GradInDIdeal.nD Cert.GradInDIdeal.τ).loc Cert.GradInDIdeal.main_arg1) = m ((c.tc : Thread Cert.GradInDIdeal.nD Cert.GradInDIdeal.τ).loc Cert.GradInDIdeal.main_arg1))
      ∧ r.2.sem = fun _ => 0)

def quiescent_GradInDReferenceIdeal [hGradInDReferenceIdeal : Cert.GradInDReferenceIdeal.Facts] : Prop :=
  ∀ (m : (ℓ : Loc Cert.GradInDReferenceIdeal.nD Cert.GradInDReferenceIdeal.τ Cert.GradInDReferenceIdeal.sig) → Buf (Elt Ideal) ℓ) (g : Dev Cert.GradInDReferenceIdeal.nD → PrngReg), Pre_GradInDReferenceIdeal m →
    θ_run (Cert.GradInDReferenceIdeal.defs (F := Ideal)) (onTc (τ := Cert.GradInDReferenceIdeal.τ) (Cert.GradInDReferenceIdeal.main (F := Ideal))) ⟨m, fun _ => 0, g⟩ (fun r => (∀ c : Dev Cert.GradInDReferenceIdeal.nD,
      r.2.mem ((c.tc : Thread Cert.GradInDReferenceIdeal.nD Cert.GradInDReferenceIdeal.τ).loc Cert.GradInDReferenceIdeal.main_arg0) = m ((c.tc : Thread Cert.GradInDReferenceIdeal.nD Cert.GradInDReferenceIdeal.τ).loc Cert.GradInDReferenceIdeal.main_arg0)
      ∧ r.2.mem ((c.tc : Thread Cert.GradInDReferenceIdeal.nD Cert.GradInDReferenceIdeal.τ).loc Cert.GradInDReferenceIdeal.main_arg1) = m ((c.tc : Thread Cert.GradInDReferenceIdeal.nD Cert.GradInDReferenceIdeal.τ).loc Cert.GradInDReferenceIdeal.main_arg1))
      ∧ r.2.sem = fun _ => 0)

def quiescent_GradXHead [hGradXHead : Cert.GradXHead.Facts] : Prop :=
  ∀ (m : (ℓ : Loc Cert.GradXHead.nD Cert.GradXHead.τ Cert.GradXHead.sig) → Buf (Elt Bits) ℓ) (g : Dev Cert.GradXHead.nD → PrngReg), Pre_GradXHead m →
    θ_run (Cert.GradXHead.defs (F := Bits)) (onTc (τ := Cert.GradXHead.τ) (Cert.GradXHead.main (F := Bits))) ⟨m, fun _ => 0, g⟩ (fun r => (∀ c : Dev Cert.GradXHead.nD,
      r.2.mem ((c.tc : Thread Cert.GradXHead.nD Cert.GradXHead.τ).loc Cert.GradXHead.main_arg0) = m ((c.tc : Thread Cert.GradXHead.nD Cert.GradXHead.τ).loc Cert.GradXHead.main_arg0)
      ∧ r.2.mem ((c.tc : Thread Cert.GradXHead.nD Cert.GradXHead.τ).loc Cert.GradXHead.main_arg1) = m ((c.tc : Thread Cert.GradXHead.nD Cert.GradXHead.τ).loc Cert.GradXHead.main_arg1)
      ∧ r.2.mem ((c.tc : Thread Cert.GradXHead.nD Cert.GradXHead.τ).loc Cert.GradXHead.main_arg2) = m ((c.tc : Thread Cert.GradXHead.nD Cert.GradXHead.τ).loc Cert.GradXHead.main_arg2)
      ∧ r.2.mem ((c.tc : Thread Cert.GradXHead.nD Cert.GradXHead.τ).loc Cert.GradXHead.main_arg3) = m ((c.tc : Thread Cert.GradXHead.nD Cert.GradXHead.τ).loc Cert.GradXHead.main_arg3)
      ∧ r.2.mem ((c.tc : Thread Cert.GradXHead.nD Cert.GradXHead.τ).loc Cert.GradXHead.main_arg4) = m ((c.tc : Thread Cert.GradXHead.nD Cert.GradXHead.τ).loc Cert.GradXHead.main_arg4)
      ∧ r.2.mem ((c.tc : Thread Cert.GradXHead.nD Cert.GradXHead.τ).loc Cert.GradXHead.main_arg5) = m ((c.tc : Thread Cert.GradXHead.nD Cert.GradXHead.τ).loc Cert.GradXHead.main_arg5))
      ∧ r.2.sem = fun _ => 0)

def quiescent_GradXHeadIdeal [hGradXHeadIdeal : Cert.GradXHeadIdeal.Facts] : Prop :=
  ∀ (m : (ℓ : Loc Cert.GradXHeadIdeal.nD Cert.GradXHeadIdeal.τ Cert.GradXHeadIdeal.sig) → Buf (Elt Ideal) ℓ) (g : Dev Cert.GradXHeadIdeal.nD → PrngReg), Pre_GradXHeadIdeal m →
    θ_run (Cert.GradXHeadIdeal.defs (F := Ideal)) (onTc (τ := Cert.GradXHeadIdeal.τ) (Cert.GradXHeadIdeal.main (F := Ideal))) ⟨m, fun _ => 0, g⟩ (fun r => (∀ c : Dev Cert.GradXHeadIdeal.nD,
      r.2.mem ((c.tc : Thread Cert.GradXHeadIdeal.nD Cert.GradXHeadIdeal.τ).loc Cert.GradXHeadIdeal.main_arg0) = m ((c.tc : Thread Cert.GradXHeadIdeal.nD Cert.GradXHeadIdeal.τ).loc Cert.GradXHeadIdeal.main_arg0)
      ∧ r.2.mem ((c.tc : Thread Cert.GradXHeadIdeal.nD Cert.GradXHeadIdeal.τ).loc Cert.GradXHeadIdeal.main_arg1) = m ((c.tc : Thread Cert.GradXHeadIdeal.nD Cert.GradXHeadIdeal.τ).loc Cert.GradXHeadIdeal.main_arg1)
      ∧ r.2.mem ((c.tc : Thread Cert.GradXHeadIdeal.nD Cert.GradXHeadIdeal.τ).loc Cert.GradXHeadIdeal.main_arg2) = m ((c.tc : Thread Cert.GradXHeadIdeal.nD Cert.GradXHeadIdeal.τ).loc Cert.GradXHeadIdeal.main_arg2)
      ∧ r.2.mem ((c.tc : Thread Cert.GradXHeadIdeal.nD Cert.GradXHeadIdeal.τ).loc Cert.GradXHeadIdeal.main_arg3) = m ((c.tc : Thread Cert.GradXHeadIdeal.nD Cert.GradXHeadIdeal.τ).loc Cert.GradXHeadIdeal.main_arg3)
      ∧ r.2.mem ((c.tc : Thread Cert.GradXHeadIdeal.nD Cert.GradXHeadIdeal.τ).loc Cert.GradXHeadIdeal.main_arg4) = m ((c.tc : Thread Cert.GradXHeadIdeal.nD Cert.GradXHeadIdeal.τ).loc Cert.GradXHeadIdeal.main_arg4)
      ∧ r.2.mem ((c.tc : Thread Cert.GradXHeadIdeal.nD Cert.GradXHeadIdeal.τ).loc Cert.GradXHeadIdeal.main_arg5) = m ((c.tc : Thread Cert.GradXHeadIdeal.nD Cert.GradXHeadIdeal.τ).loc Cert.GradXHeadIdeal.main_arg5))
      ∧ r.2.sem = fun _ => 0)

def quiescent_GradXHeadReferenceIdeal [hGradXHeadReferenceIdeal : Cert.GradXHeadReferenceIdeal.Facts] : Prop :=
  ∀ (m : (ℓ : Loc Cert.GradXHeadReferenceIdeal.nD Cert.GradXHeadReferenceIdeal.τ Cert.GradXHeadReferenceIdeal.sig) → Buf (Elt Ideal) ℓ) (g : Dev Cert.GradXHeadReferenceIdeal.nD → PrngReg), Pre_GradXHeadReferenceIdeal m →
    θ_run (Cert.GradXHeadReferenceIdeal.defs (F := Ideal)) (onTc (τ := Cert.GradXHeadReferenceIdeal.τ) (Cert.GradXHeadReferenceIdeal.main (F := Ideal))) ⟨m, fun _ => 0, g⟩ (fun r => (∀ c : Dev Cert.GradXHeadReferenceIdeal.nD,
      r.2.mem ((c.tc : Thread Cert.GradXHeadReferenceIdeal.nD Cert.GradXHeadReferenceIdeal.τ).loc Cert.GradXHeadReferenceIdeal.main_arg0) = m ((c.tc : Thread Cert.GradXHeadReferenceIdeal.nD Cert.GradXHeadReferenceIdeal.τ).loc Cert.GradXHeadReferenceIdeal.main_arg0)
      ∧ r.2.mem ((c.tc : Thread Cert.GradXHeadReferenceIdeal.nD Cert.GradXHeadReferenceIdeal.τ).loc Cert.GradXHeadReferenceIdeal.main_arg1) = m ((c.tc : Thread Cert.GradXHeadReferenceIdeal.nD Cert.GradXHeadReferenceIdeal.τ).loc Cert.GradXHeadReferenceIdeal.main_arg1)
      ∧ r.2.mem ((c.tc : Thread Cert.GradXHeadReferenceIdeal.nD Cert.GradXHeadReferenceIdeal.τ).loc Cert.GradXHeadReferenceIdeal.main_arg2) = m ((c.tc : Thread Cert.GradXHeadReferenceIdeal.nD Cert.GradXHeadReferenceIdeal.τ).loc Cert.GradXHeadReferenceIdeal.main_arg2)
      ∧ r.2.mem ((c.tc : Thread Cert.GradXHeadReferenceIdeal.nD Cert.GradXHeadReferenceIdeal.τ).loc Cert.GradXHeadReferenceIdeal.main_arg3) = m ((c.tc : Thread Cert.GradXHeadReferenceIdeal.nD Cert.GradXHeadReferenceIdeal.τ).loc Cert.GradXHeadReferenceIdeal.main_arg3)
      ∧ r.2.mem ((c.tc : Thread Cert.GradXHeadReferenceIdeal.nD Cert.GradXHeadReferenceIdeal.τ).loc Cert.GradXHeadReferenceIdeal.main_arg4) = m ((c.tc : Thread Cert.GradXHeadReferenceIdeal.nD Cert.GradXHeadReferenceIdeal.τ).loc Cert.GradXHeadReferenceIdeal.main_arg4)
      ∧ r.2.mem ((c.tc : Thread Cert.GradXHeadReferenceIdeal.nD Cert.GradXHeadReferenceIdeal.τ).loc Cert.GradXHeadReferenceIdeal.main_arg5) = m ((c.tc : Thread Cert.GradXHeadReferenceIdeal.nD Cert.GradXHeadReferenceIdeal.τ).loc Cert.GradXHeadReferenceIdeal.main_arg5))
      ∧ r.2.sem = fun _ => 0)

def quiescent_GradXTail [hGradXTail : Cert.GradXTail.Facts] : Prop :=
  ∀ (m : (ℓ : Loc Cert.GradXTail.nD Cert.GradXTail.τ Cert.GradXTail.sig) → Buf (Elt Bits) ℓ) (g : Dev Cert.GradXTail.nD → PrngReg), Pre_GradXTail m →
    θ_run (Cert.GradXTail.defs (F := Bits)) (onTc (τ := Cert.GradXTail.τ) (Cert.GradXTail.main (F := Bits))) ⟨m, fun _ => 0, g⟩ (fun r => (∀ c : Dev Cert.GradXTail.nD,
      r.2.mem ((c.tc : Thread Cert.GradXTail.nD Cert.GradXTail.τ).loc Cert.GradXTail.main_arg0) = m ((c.tc : Thread Cert.GradXTail.nD Cert.GradXTail.τ).loc Cert.GradXTail.main_arg0)
      ∧ r.2.mem ((c.tc : Thread Cert.GradXTail.nD Cert.GradXTail.τ).loc Cert.GradXTail.main_arg1) = m ((c.tc : Thread Cert.GradXTail.nD Cert.GradXTail.τ).loc Cert.GradXTail.main_arg1)
      ∧ r.2.mem ((c.tc : Thread Cert.GradXTail.nD Cert.GradXTail.τ).loc Cert.GradXTail.main_arg2) = m ((c.tc : Thread Cert.GradXTail.nD Cert.GradXTail.τ).loc Cert.GradXTail.main_arg2)
      ∧ r.2.mem ((c.tc : Thread Cert.GradXTail.nD Cert.GradXTail.τ).loc Cert.GradXTail.main_arg3) = m ((c.tc : Thread Cert.GradXTail.nD Cert.GradXTail.τ).loc Cert.GradXTail.main_arg3)
      ∧ r.2.mem ((c.tc : Thread Cert.GradXTail.nD Cert.GradXTail.τ).loc Cert.GradXTail.main_arg4) = m ((c.tc : Thread Cert.GradXTail.nD Cert.GradXTail.τ).loc Cert.GradXTail.main_arg4)
      ∧ r.2.mem ((c.tc : Thread Cert.GradXTail.nD Cert.GradXTail.τ).loc Cert.GradXTail.main_arg5) = m ((c.tc : Thread Cert.GradXTail.nD Cert.GradXTail.τ).loc Cert.GradXTail.main_arg5))
      ∧ r.2.sem = fun _ => 0)

def quiescent_GradXTailIdeal [hGradXTailIdeal : Cert.GradXTailIdeal.Facts] : Prop :=
  ∀ (m : (ℓ : Loc Cert.GradXTailIdeal.nD Cert.GradXTailIdeal.τ Cert.GradXTailIdeal.sig) → Buf (Elt Ideal) ℓ) (g : Dev Cert.GradXTailIdeal.nD → PrngReg), Pre_GradXTailIdeal m →
    θ_run (Cert.GradXTailIdeal.defs (F := Ideal)) (onTc (τ := Cert.GradXTailIdeal.τ) (Cert.GradXTailIdeal.main (F := Ideal))) ⟨m, fun _ => 0, g⟩ (fun r => (∀ c : Dev Cert.GradXTailIdeal.nD,
      r.2.mem ((c.tc : Thread Cert.GradXTailIdeal.nD Cert.GradXTailIdeal.τ).loc Cert.GradXTailIdeal.main_arg0) = m ((c.tc : Thread Cert.GradXTailIdeal.nD Cert.GradXTailIdeal.τ).loc Cert.GradXTailIdeal.main_arg0)
      ∧ r.2.mem ((c.tc : Thread Cert.GradXTailIdeal.nD Cert.GradXTailIdeal.τ).loc Cert.GradXTailIdeal.main_arg1) = m ((c.tc : Thread Cert.GradXTailIdeal.nD Cert.GradXTailIdeal.τ).loc Cert.GradXTailIdeal.main_arg1)
      ∧ r.2.mem ((c.tc : Thread Cert.GradXTailIdeal.nD Cert.GradXTailIdeal.τ).loc Cert.GradXTailIdeal.main_arg2) = m ((c.tc : Thread Cert.GradXTailIdeal.nD Cert.GradXTailIdeal.τ).loc Cert.GradXTailIdeal.main_arg2)
      ∧ r.2.mem ((c.tc : Thread Cert.GradXTailIdeal.nD Cert.GradXTailIdeal.τ).loc Cert.GradXTailIdeal.main_arg3) = m ((c.tc : Thread Cert.GradXTailIdeal.nD Cert.GradXTailIdeal.τ).loc Cert.GradXTailIdeal.main_arg3)
      ∧ r.2.mem ((c.tc : Thread Cert.GradXTailIdeal.nD Cert.GradXTailIdeal.τ).loc Cert.GradXTailIdeal.main_arg4) = m ((c.tc : Thread Cert.GradXTailIdeal.nD Cert.GradXTailIdeal.τ).loc Cert.GradXTailIdeal.main_arg4)
      ∧ r.2.mem ((c.tc : Thread Cert.GradXTailIdeal.nD Cert.GradXTailIdeal.τ).loc Cert.GradXTailIdeal.main_arg5) = m ((c.tc : Thread Cert.GradXTailIdeal.nD Cert.GradXTailIdeal.τ).loc Cert.GradXTailIdeal.main_arg5))
      ∧ r.2.sem = fun _ => 0)

def quiescent_GradXTailReferenceIdeal [hGradXTailReferenceIdeal : Cert.GradXTailReferenceIdeal.Facts] : Prop :=
  ∀ (m : (ℓ : Loc Cert.GradXTailReferenceIdeal.nD Cert.GradXTailReferenceIdeal.τ Cert.GradXTailReferenceIdeal.sig) → Buf (Elt Ideal) ℓ) (g : Dev Cert.GradXTailReferenceIdeal.nD → PrngReg), Pre_GradXTailReferenceIdeal m →
    θ_run (Cert.GradXTailReferenceIdeal.defs (F := Ideal)) (onTc (τ := Cert.GradXTailReferenceIdeal.τ) (Cert.GradXTailReferenceIdeal.main (F := Ideal))) ⟨m, fun _ => 0, g⟩ (fun r => (∀ c : Dev Cert.GradXTailReferenceIdeal.nD,
      r.2.mem ((c.tc : Thread Cert.GradXTailReferenceIdeal.nD Cert.GradXTailReferenceIdeal.τ).loc Cert.GradXTailReferenceIdeal.main_arg0) = m ((c.tc : Thread Cert.GradXTailReferenceIdeal.nD Cert.GradXTailReferenceIdeal.τ).loc Cert.GradXTailReferenceIdeal.main_arg0)
      ∧ r.2.mem ((c.tc : Thread Cert.GradXTailReferenceIdeal.nD Cert.GradXTailReferenceIdeal.τ).loc Cert.GradXTailReferenceIdeal.main_arg1) = m ((c.tc : Thread Cert.GradXTailReferenceIdeal.nD Cert.GradXTailReferenceIdeal.τ).loc Cert.GradXTailReferenceIdeal.main_arg1)
      ∧ r.2.mem ((c.tc : Thread Cert.GradXTailReferenceIdeal.nD Cert.GradXTailReferenceIdeal.τ).loc Cert.GradXTailReferenceIdeal.main_arg2) = m ((c.tc : Thread Cert.GradXTailReferenceIdeal.nD Cert.GradXTailReferenceIdeal.τ).loc Cert.GradXTailReferenceIdeal.main_arg2)
      ∧ r.2.mem ((c.tc : Thread Cert.GradXTailReferenceIdeal.nD Cert.GradXTailReferenceIdeal.τ).loc Cert.GradXTailReferenceIdeal.main_arg3) = m ((c.tc : Thread Cert.GradXTailReferenceIdeal.nD Cert.GradXTailReferenceIdeal.τ).loc Cert.GradXTailReferenceIdeal.main_arg3)
      ∧ r.2.mem ((c.tc : Thread Cert.GradXTailReferenceIdeal.nD Cert.GradXTailReferenceIdeal.τ).loc Cert.GradXTailReferenceIdeal.main_arg4) = m ((c.tc : Thread Cert.GradXTailReferenceIdeal.nD Cert.GradXTailReferenceIdeal.τ).loc Cert.GradXTailReferenceIdeal.main_arg4)
      ∧ r.2.mem ((c.tc : Thread Cert.GradXTailReferenceIdeal.nD Cert.GradXTailReferenceIdeal.τ).loc Cert.GradXTailReferenceIdeal.main_arg5) = m ((c.tc : Thread Cert.GradXTailReferenceIdeal.nD Cert.GradXTailReferenceIdeal.τ).loc Cert.GradXTailReferenceIdeal.main_arg5))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_GradKv [hGradKv : Cert.GradKv.Facts] : Prop :=
  ∀ (m : (ℓ : Loc Cert.GradKv.nD Cert.GradKv.τ Cert.GradKv.sig) → Buf (Elt Bits) ℓ) (g : Dev Cert.GradKv.nD → PrngReg), Pre_GradKv m →
    θ_run (Cert.GradKv.defs (F := Bits)) (onTc (τ := Cert.GradKv.τ) (Cert.GradKv.main (F := Bits))) ⟨m, fun _ => 0, g⟩ (fun r => (∀ c : Dev Cert.GradKv.nD,
      r.2.mem ((c.tc : Thread Cert.GradKv.nD Cert.GradKv.τ).loc Cert.GradKv.main_arg0) = m ((c.tc : Thread Cert.GradKv.nD Cert.GradKv.τ).loc Cert.GradKv.main_arg0)
      ∧ r.2.mem ((c.tc : Thread Cert.GradKv.nD Cert.GradKv.τ).loc Cert.GradKv.main_arg1) = m ((c.tc : Thread Cert.GradKv.nD Cert.GradKv.τ).loc Cert.GradKv.main_arg1))
      ∧ r.2.sem = fun _ => 0)

def quiescent_GradKvIdeal [hGradKvIdeal : Cert.GradKvIdeal.Facts] : Prop :=
  ∀ (m : (ℓ : Loc Cert.GradKvIdeal.nD Cert.GradKvIdeal.τ Cert.GradKvIdeal.sig) → Buf (Elt Ideal) ℓ) (g : Dev Cert.GradKvIdeal.nD → PrngReg), Pre_GradKvIdeal m →
    θ_run (Cert.GradKvIdeal.defs (F := Ideal)) (onTc (τ := Cert.GradKvIdeal.τ) (Cert.GradKvIdeal.main (F := Ideal))) ⟨m, fun _ => 0, g⟩ (fun r => (∀ c : Dev Cert.GradKvIdeal.nD,
      r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
      ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ r.2.sem = fun _ => 0)

def quiescent_GradKvReferenceIdeal [hGradKvReferenceIdeal : Cert.GradKvReferenceIdeal.Facts] : Prop :=
  ∀ (m : (ℓ : Loc Cert.GradKvReferenceIdeal.nD Cert.GradKvReferenceIdeal.τ Cert.GradKvReferenceIdeal.sig) → Buf (Elt Ideal) ℓ) (g : Dev Cert.GradKvReferenceIdeal.nD → PrngReg), Pre_GradKvReferenceIdeal m →
    θ_run (Cert.GradKvReferenceIdeal.defs (F := Ideal)) (onTc (τ := Cert.GradKvReferenceIdeal.τ) (Cert.GradKvReferenceIdeal.main (F := Ideal))) ⟨m, fun _ => 0, g⟩ (fun r => (∀ c : Dev Cert.GradKvReferenceIdeal.nD,
      r.2.mem ((c.tc : Thread Cert.GradKvReferenceIdeal.nD Cert.GradKvReferenceIdeal.τ).loc Cert.GradKvReferenceIdeal.main_arg0) = m ((c.tc : Thread Cert.GradKvReferenceIdeal.nD Cert.GradKvReferenceIdeal.τ).loc Cert.GradKvReferenceIdeal.main_arg0)
      ∧ r.2.mem ((c.tc : Thread Cert.GradKvReferenceIdeal.nD Cert.GradKvReferenceIdeal.τ).loc Cert.GradKvReferenceIdeal.main_arg1) = m ((c.tc : Thread Cert.GradKvReferenceIdeal.nD Cert.GradKvReferenceIdeal.τ).loc Cert.GradKvReferenceIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1)
      ∧ r.2.mem ((c.tc : Thread Cert.MemFwdReferenceIdeal.nD Cert.MemFwdReferenceIdeal.τ).loc Cert.MemFwdReferenceIdeal.main_arg2) = m ((c.tc : Thread Cert.MemFwdReferenceIdeal.nD Cert.MemFwdReferenceIdeal.τ).loc Cert.MemFwdReferenceIdeal.main_arg2))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2)
      ∧ r.2.mem ((c.tc : Thread Cert.HgrnFwd.nD Cert.HgrnFwd.τ).loc Cert.HgrnFwd.main_arg3) = m ((c.tc : Thread Cert.HgrnFwd.nD Cert.HgrnFwd.τ).loc Cert.HgrnFwd.main_arg3))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2)
      ∧ r.2.mem ((c.tc : Thread Cert.HgrnFwdIdeal.nD Cert.HgrnFwdIdeal.τ).loc Cert.HgrnFwdIdeal.main_arg3) = m ((c.tc : Thread Cert.HgrnFwdIdeal.nD Cert.HgrnFwdIdeal.τ).loc Cert.HgrnFwdIdeal.main_arg3))
      ∧ r.2.sem = fun _ => 0)

def quiescent_HgrnFwdReferenceIdeal [hHgrnFwdReferenceIdeal : Cert.HgrnFwdReferenceIdeal.Facts] : Prop :=
  ∀ (m : (ℓ : Loc Cert.HgrnFwdReferenceIdeal.nD Cert.HgrnFwdReferenceIdeal.τ Cert.HgrnFwdReferenceIdeal.sig) → Buf (Elt Ideal) ℓ) (g : Dev Cert.HgrnFwdReferenceIdeal.nD → PrngReg), Pre_HgrnFwdReferenceIdeal m →
    θ_run (Cert.HgrnFwdReferenceIdeal.defs (F := Ideal)) (onTc (τ := Cert.HgrnFwdReferenceIdeal.τ) (Cert.HgrnFwdReferenceIdeal.main (F := Ideal))) ⟨m, fun _ => 0, g⟩ (fun r => (∀ c : Dev Cert.HgrnFwdReferenceIdeal.nD,
      r.2.mem ((c.tc : Thread Cert.HgrnFwdReferenceIdeal.nD Cert.HgrnFwdReferenceIdeal.τ).loc Cert.HgrnFwdReferenceIdeal.main_arg0) = m ((c.tc : Thread Cert.HgrnFwdReferenceIdeal.nD Cert.HgrnFwdReferenceIdeal.τ).loc Cert.HgrnFwdReferenceIdeal.main_arg0)
      ∧ r.2.mem ((c.tc : Thread Cert.HgrnFwdReferenceIdeal.nD Cert.HgrnFwdReferenceIdeal.τ).loc Cert.HgrnFwdReferenceIdeal.main_arg1) = m ((c.tc : Thread Cert.HgrnFwdReferenceIdeal.nD Cert.HgrnFwdReferenceIdeal.τ).loc Cert.HgrnFwdReferenceIdeal.main_arg1)
      ∧ r.2.mem ((c.tc : Thread Cert.HgrnFwdReferenceIdeal.nD Cert.HgrnFwdReferenceIdeal.τ).loc Cert.HgrnFwdReferenceIdeal.main_arg2) = m ((c.tc : Thread Cert.HgrnFwdReferenceIdeal.nD Cert.HgrnFwdReferenceIdeal.τ).loc Cert.HgrnFwdReferenceIdeal.main_arg2)
      ∧ r.2.mem ((c.tc : Thread Cert.HgrnFwdReferenceIdeal.nD Cert.HgrnFwdReferenceIdeal.τ).loc Cert.HgrnFwdReferenceIdeal.main_arg3) = m ((c.tc : Thread Cert.HgrnFwdReferenceIdeal.nD Cert.HgrnFwdReferenceIdeal.τ).loc Cert.HgrnFwdReferenceIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_swa_finite [hSwaFwdIdeal : Cert.SwaFwdIdeal.Facts] [hPre_swa_finite : Cert.Pre_swa_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swa_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdReferenceIdeal [hSwaFwdReferenceIdeal : Cert.SwaFwdReferenceIdeal.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def quiescent_SwaFwdReferenceIdeal_pre_swa_finite [hSwaFwdReferenceIdeal : Cert.SwaFwdReferenceIdeal.Facts] [hPre_swa_finite : Cert.Pre_swa_finite.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal_swa_finite m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def preserves_MemBwd_MemBwdIdeal : Prop :=
  True

def algebraic_MemBwdIdeal_MemReferenceIdeal_on_mem_written_pre_mem_finite [hMemBwdIdeal : Cert.MemBwdIdeal.Facts] [hMemReferenceIdeal : Cert.MemReferenceIdeal.Facts] [hPre_mem_finite : Cert.Pre_mem_finite.Facts] [hOn_mem_written : Cert.On_mem_written.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemBwdIdeal_mem_finite m →
    (∀ c : Dev Cert.MemBwdIdeal.nD,
      m' ((c.tc : Thread Cert.MemReferenceIdeal.nD Cert.MemReferenceIdeal.τ).loc Cert.MemReferenceIdeal.main_arg0) = m ((c.tc : Thread Cert.MemBwdIdeal.nD Cert.MemBwdIdeal.τ).loc Cert.MemBwdIdeal.main_arg0)
      ∧ m' ((c.tc : Thread Cert.MemReferenceIdeal.nD Cert.MemReferenceIdeal.τ).loc Cert.MemReferenceIdeal.main_arg1) = m ((c.tc : Thread Cert.MemBwdIdeal.nD Cert.MemBwdIdeal.τ).loc Cert.MemBwdIdeal.main_arg1)
      ∧ m' ((c.tc : Thread Cert.MemReferenceIdeal.nD Cert.MemReferenceIdeal.τ).loc Cert.MemReferenceIdeal.main_arg2) = m ((c.tc : Thread Cert.MemBwdIdeal.nD Cert.MemBwdIdeal.τ).loc Cert.MemBwdIdeal.main_arg2)
      ∧ m' ((c.tc : Thread Cert.MemReferenceIdeal.nD Cert.MemReferenceIdeal.τ).loc Cert.MemReferenceIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          (∀ i : (⟨2, ![8192, 1024]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).1 i = 1#1 → r.2.mem ((c.tc : Thread Cert.MemBwdIdeal.nD Cert.MemBwdIdeal.τ).loc Cert.MemBwdIdeal.main_v0_0) i = v0 c i)
          ∧ (∀ i : (⟨2, ![256, 2048]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.1 i = 1#1 → r.2.mem ((c.tc : Thread Cert.MemBwdIdeal.nD Cert.MemBwdIdeal.τ).loc Cert.MemBwdIdeal.main_v0_1) i = v1 c i)
          ∧ (∀ i : (⟨2, ![9472, 1024]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.2 i = 1#1 → r.2.mem ((c.tc : Thread Cert.MemBwdIdeal.nD Cert.MemBwdIdeal.τ).loc Cert.MemBwdIdeal.main_v0_2) i = v2 c i)
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          (∀ i : (⟨2, ![8192, 1024]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).1 i = 1#1 → r.2.mem ((c.tc : Thread Cert.MemReferenceIdeal.nD Cert.MemReferenceIdeal.τ).loc Cert.MemReferenceIdeal.main_v77) i = v0 c i)
          ∧ (∀ i : (⟨2, ![256, 2048]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.1 i = 1#1 → r.2.mem ((c.tc : Thread Cert.MemReferenceIdeal.nD Cert.MemReferenceIdeal.τ).loc Cert.MemReferenceIdeal.main_v78) i = v1 c i)
          ∧ (∀ i : (⟨2, ![9472, 1024]⟩ : Shape).Idx, (Cert.On_mem_written.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))).2.2 i = 1#1 → r.2.mem ((c.tc : Thread Cert.MemReferenceIdeal.nD Cert.MemReferenceIdeal.τ).loc Cert.MemReferenceIdeal.main_v76) i = v2 c i)
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_MlpLoss_MlpLossIdeal : Prop :=
  True

def algebraic_MlpLossIdeal_MlpReferenceIdeal_pre_mlp_finite [hMlpLossIdeal : Cert.MlpLossIdeal.Facts] [hMlpReferenceIdeal : Cert.MlpReferenceIdeal.Facts] [hPre_mlp_finite : Cert.Pre_mlp_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpLossIdeal_mlp_finite m →
    (∀ c : Dev Cert.MlpLossIdeal.nD,
      m' ((c.tc : Thread Cert.MlpReferenceIdeal.nD Cert.MlpReferenceIdeal.τ).loc Cert.MlpReferenceIdeal.main_arg0) = m ((c.tc : Thread Cert.MlpLossIdeal.nD Cert.MlpLossIdeal.τ).loc Cert.MlpLossIdeal.main_arg0)
      ∧ m' ((c.tc : Thread Cert.MlpReferenceIdeal.nD Cert.MlpReferenceIdeal.τ).loc Cert.MlpReferenceIdeal.main_arg1) = m ((c.tc : Thread Cert.MlpLossIdeal.nD Cert.MlpLossIdeal.τ).loc Cert.MlpLossIdeal.main_arg1)
      ∧ m' ((c.tc : Thread Cert.MlpReferenceIdeal.nD Cert.MlpReferenceIdeal.τ).loc Cert.MlpReferenceIdeal.main_arg2) = m ((c.tc : Thread Cert.MlpLossIdeal.nD Cert.MlpLossIdeal.τ).loc Cert.MlpLossIdeal.main_arg2)
      ∧ m' ((c.tc : Thread Cert.MlpReferenceIdeal.nD Cert.MlpReferenceIdeal.τ).loc Cert.MlpReferenceIdeal.main_arg3) = m ((c.tc : Thread Cert.MlpLossIdeal.nD Cert.MlpLossIdeal.τ).loc Cert.MlpLossIdeal.main_arg3)
      ∧ m' ((c.tc : Thread Cert.MlpReferenceIdeal.nD Cert.MlpReferenceIdeal.τ).loc Cert.MlpReferenceIdeal.main_arg4) = m ((c.tc : Thread Cert.MlpLossIdeal.nD Cert.MlpLossIdeal.τ).loc Cert.MlpLossIdeal.main_arg4)
      ∧ m' ((c.tc : Thread Cert.MlpReferenceIdeal.nD Cert.MlpReferenceIdeal.τ).loc Cert.MlpReferenceIdeal.main_arg5) = m ((c.tc : Thread Cert.MlpLossIdeal.nD Cert.MlpLossIdeal.τ).loc Cert.MlpLossIdeal.main_arg5)
      ∧ m' ((c.tc : Thread Cert.MlpReferenceIdeal.nD Cert.MlpReferenceIdeal.τ).loc Cert.MlpReferenceIdeal.main_arg6) = m ((c.tc : Thread Cert.MlpLossIdeal.nD Cert.MlpLossIdeal.τ).loc Cert.MlpLossIdeal.main_arg6)
      ∧ m' ((c.tc : Thread Cert.MlpReferenceIdeal.nD Cert.MlpReferenceIdeal.τ).loc Cert.MlpReferenceIdeal.main_arg7) = m ((c.tc : Thread Cert.MlpLossIdeal.nD Cert.MlpLossIdeal.τ).loc Cert.MlpLossIdeal.main_arg7)) →
    ∃ (v0 : (c : Dev Cert.MlpLossIdeal.nD) → Buf (Elt Ideal) ((c.tc : Thread Cert.MlpLossIdeal.nD Cert.MlpLossIdeal.τ).loc Cert.MlpLossIdeal.main_v19_0)) (v1 : (c : Dev Cert.MlpLossIdeal.nD) → Buf (Elt Ideal) ((c.tc : Thread Cert.MlpLossIdeal.nD Cert.MlpLossIdeal.τ).loc Cert.MlpLossIdeal.main_v19_1)) (v2 : (c : Dev Cert.MlpLossIdeal.nD) → Buf (Elt Ideal) ((c.tc : Thread Cert.MlpLossIdeal.nD Cert.MlpLossIdeal.τ).loc Cert.MlpLossIdeal.main_v19_2)) (v3 : (c : Dev Cert.MlpLossIdeal.nD) → Buf (Elt Ideal) ((c.tc : Thread Cert.MlpLossIdeal.nD Cert.MlpLossIdeal.τ).loc Cert.MlpLossIdeal.main_v19_3)) (v4 : (c : Dev Cert.MlpLossIdeal.nD) → Buf (Elt Ideal) ((c.tc : Thread Cert.MlpLossIdeal.nD Cert.MlpLossIdeal.τ).loc Cert.MlpLossIdeal.main_v19_4)) (v5 : (c : Dev Cert.MlpLossIdeal.nD) → Buf (Elt Ideal) ((c.tc : Thread Cert.MlpLossIdeal.nD Cert.MlpLossIdeal.τ).loc Cert.MlpLossIdeal.main_v19_5)),
      θ_run (Cert.MlpLossIdeal.defs (F := Ideal)) (onTc (τ := Cert.MlpLossIdeal.τ) (Cert.MlpLossIdeal.main (F := Ideal))) ⟨m, fun _ => 0, g⟩ (fun r => ∀ c : Dev Cert.MlpLossIdeal.nD,
          r.2.mem ((c.tc : Thread Cert.MlpLossIdeal.nD Cert.MlpLossIdeal.τ).loc Cert.MlpLossIdeal.main_v19_0) = v0 c
          ∧ r.2.mem ((c.tc : Thread Cert.MlpLossIdeal.nD Cert.MlpLossIdeal.τ).loc Cert.MlpLossIdeal.main_v19_1) = v1 c
          ∧ r.2.mem ((c.tc : Thread Cert.MlpLossIdeal.nD Cert.MlpLossIdeal.τ).loc Cert.MlpLossIdeal.main_v19_2) = v2 c
          ∧ r.2.mem ((c.tc : Thread Cert.MlpLossIdeal.nD Cert.MlpLossIdeal.τ).loc Cert.MlpLossIdeal.main_v19_3) = v3 c
          ∧ r.2.mem ((c.tc : Thread Cert.MlpLossIdeal.nD Cert.MlpLossIdeal.τ).loc Cert.MlpLossIdeal.main_v19_4) = v4 c
          ∧ r.2.mem ((c.tc : Thread Cert.MlpLossIdeal.nD Cert.MlpLossIdeal.τ).loc Cert.MlpLossIdeal.main_v19_5) = v5 c
          ∧ r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
          ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
          ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
          ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
          ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
          ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
          ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6)
          ∧ r.2.mem ((c.tc : Thread Cert.MlpLossIdeal.nD Cert.MlpLossIdeal.τ).loc Cert.MlpLossIdeal.main_arg7) = m ((c.tc : Thread Cert.MlpLossIdeal.nD Cert.MlpLossIdeal.τ).loc Cert.MlpLossIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v144) = v0 c
          ∧ r.2.mem ((c.tc : Thread Cert.MlpReferenceIdeal.nD Cert.MlpReferenceIdeal.τ).loc Cert.MlpReferenceIdeal.main_v149) = v1 c
          ∧ r.2.mem ((c.tc : Thread Cert.MlpReferenceIdeal.nD Cert.MlpReferenceIdeal.τ).loc Cert.MlpReferenceIdeal.main_v150) = v2 c
          ∧ r.2.mem ((c.tc : Thread Cert.MlpReferenceIdeal.nD Cert.MlpReferenceIdeal.τ).loc Cert.MlpReferenceIdeal.main_v151) = v3 c
          ∧ r.2.mem ((c.tc : Thread Cert.MlpReferenceIdeal.nD Cert.MlpReferenceIdeal.τ).loc Cert.MlpReferenceIdeal.main_v152) = v4 c
          ∧ r.2.mem ((c.tc : Thread Cert.MlpReferenceIdeal.nD Cert.MlpReferenceIdeal.τ).loc Cert.MlpReferenceIdeal.main_v148) = v5 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)
      ∧ m' ((c.tc : Thread Cert.MergeFwdReferenceIdeal.nD Cert.MergeFwdReferenceIdeal.τ).loc Cert.MergeFwdReferenceIdeal.main_arg5) = m ((c.tc : Thread Cert.MergeFwdIdeal.nD Cert.MergeFwdIdeal.τ).loc Cert.MergeFwdIdeal.main_arg5)
      ∧ m' ((c.tc : Thread Cert.MergeFwdReferenceIdeal.nD Cert.MergeFwdReferenceIdeal.τ).loc Cert.MergeFwdReferenceIdeal.main_arg6) = m ((c.tc : Thread Cert.MergeFwdIdeal.nD Cert.MergeFwdIdeal.τ).loc Cert.MergeFwdIdeal.main_arg6)
      ∧ m' ((c.tc : Thread Cert.MergeFwdReferenceIdeal.nD Cert.MergeFwdReferenceIdeal.τ).loc Cert.MergeFwdReferenceIdeal.main_arg7) = m ((c.tc : Thread Cert.MergeFwdIdeal.nD Cert.MergeFwdIdeal.τ).loc Cert.MergeFwdIdeal.main_arg7)
      ∧ m' ((c.tc : Thread Cert.MergeFwdReferenceIdeal.nD Cert.MergeFwdReferenceIdeal.τ).loc Cert.MergeFwdReferenceIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)) (v5 : (c : Dev Cert.MergeFwdIdeal.nD) → Buf (Elt Ideal) ((c.tc : Thread Cert.MergeFwdIdeal.nD Cert.MergeFwdIdeal.τ).loc Cert.MergeFwdIdeal.main_v0_5)) (v6 : (c : Dev Cert.MergeFwdIdeal.nD) → Buf (Elt Ideal) ((c.tc : Thread Cert.MergeFwdIdeal.nD Cert.MergeFwdIdeal.τ).loc Cert.MergeFwdIdeal.main_v0_6)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_v0_5) = v5 c
          ∧ r.2.mem ((c.tc : Thread Cert.MergeFwdIdeal.nD Cert.MergeFwdIdeal.τ).loc Cert.MergeFwdIdeal.main_v0_6) = v6 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v10) = v0 c
          ∧ r.2.mem ((c.tc : Thread Cert.MergeFwdReferenceIdeal.nD Cert.MergeFwdReferenceIdeal.τ).loc Cert.MergeFwdReferenceIdeal.main_v51) = v1 c
          ∧ r.2.mem ((c.tc : Thread Cert.MergeFwdReferenceIdeal.nD Cert.MergeFwdReferenceIdeal.τ).loc Cert.MergeFwdReferenceIdeal.main_v49) = v2 c
          ∧ r.2.mem ((c.tc : Thread Cert.MergeFwdReferenceIdeal.nD Cert.MergeFwdReferenceIdeal.τ).loc Cert.MergeFwdReferenceIdeal.main_v52) = v3 c
          ∧ r.2.mem ((c.tc : Thread Cert.MergeFwdReferenceIdeal.nD Cert.MergeFwdReferenceIdeal.τ).loc Cert.MergeFwdReferenceIdeal.main_v53) = v4 c
          ∧ r.2.mem ((c.tc : Thread Cert.MergeFwdReferenceIdeal.nD Cert.MergeFwdReferenceIdeal.τ).loc Cert.MergeFwdReferenceIdeal.main_v54) = v5 c
          ∧ r.2.mem ((c.tc : Thread Cert.MergeFwdReferenceIdeal.nD Cert.MergeFwdReferenceIdeal.τ).loc Cert.MergeFwdReferenceIdeal.main_v55) = v6 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v5) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v7) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_GradInA_GradInAIdeal : Prop :=
  True

def algebraic_GradInAIdeal_GradInAReferenceIdeal [hGradInAIdeal : Cert.GradInAIdeal.Facts] [hGradInAReferenceIdeal : Cert.GradInAReferenceIdeal.Facts] : Prop :=
  ∀ (m : (ℓ : Loc Cert.GradInAIdeal.nD Cert.GradInAIdeal.τ Cert.GradInAIdeal.sig) → Buf (Elt Ideal) ℓ) (g : Dev Cert.GradInAIdeal.nD → PrngReg)
    (m' : (ℓ : Loc Cert.GradInAReferenceIdeal.nD Cert.GradInAReferenceIdeal.τ Cert.GradInAReferenceIdeal.sig) → Buf (Elt Ideal) ℓ) (g' : Dev Cert.GradInAReferenceIdeal.nD → PrngReg), Pre_GradInAIdeal m →
    (∀ c : Dev Cert.GradInAIdeal.nD,
      m' ((c.tc : Thread Cert.GradInAReferenceIdeal.nD Cert.GradInAReferenceIdeal.τ).loc Cert.GradInAReferenceIdeal.main_arg0) = m ((c.tc : Thread Cert.GradInAIdeal.nD Cert.GradInAIdeal.τ).loc Cert.GradInAIdeal.main_arg0)
      ∧ m' ((c.tc : Thread Cert.GradInAReferenceIdeal.nD Cert.GradInAReferenceIdeal.τ).loc Cert.GradInAReferenceIdeal.main_arg1) = m ((c.tc : Thread Cert.GradInAIdeal.nD Cert.GradInAIdeal.τ).loc Cert.GradInAIdeal.main_arg1)) →
    ∃ (v0 : (c : Dev Cert.GradInAIdeal.nD) → Buf (Elt Ideal) ((c.tc : Thread Cert.GradInAIdeal.nD Cert.GradInAIdeal.τ).loc Cert.GradInAIdeal.main_v0)),
      θ_run (Cert.GradInAIdeal.defs (F := Ideal)) (onTc (τ := Cert.GradInAIdeal.τ) (Cert.GradInAIdeal.main (F := Ideal))) ⟨m, fun _ => 0, g⟩ (fun r => ∀ c : Dev Cert.GradInAIdeal.nD,
          r.2.mem ((c.tc : Thread Cert.GradInAIdeal.nD Cert.GradInAIdeal.τ).loc Cert.GradInAIdeal.main_v0) = v0 c
          ∧ r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
          ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ θ_run (Cert.GradInAReferenceIdeal.defs (F := Ideal)) (onTc (τ := Cert.GradInAReferenceIdeal.τ) (Cert.GradInAReferenceIdeal.main (F := Ideal))) ⟨m', fun _ => 0, g'⟩ (fun r => ∀ c : Dev Cert.GradInAReferenceIdeal.nD,
          r.2.mem ((c.tc : Thread Cert.GradInAReferenceIdeal.nD Cert.GradInAReferenceIdeal.τ).loc Cert.GradInAReferenceIdeal.main_v6) = v0 c
          ∧ r.2.mem ((c.tc : Thread Cert.GradInAReferenceIdeal.nD Cert.GradInAReferenceIdeal.τ).loc Cert.GradInAReferenceIdeal.main_arg0) = m' ((c.tc : Thread Cert.GradInAReferenceIdeal.nD Cert.GradInAReferenceIdeal.τ).loc Cert.GradInAReferenceIdeal.main_arg0)
          ∧ r.2.mem ((c.tc : Thread Cert.GradInAReferenceIdeal.nD Cert.GradInAReferenceIdeal.τ).loc Cert.GradInAReferenceIdeal.main_arg1) = m' ((c.tc : Thread Cert.GradInAReferenceIdeal.nD Cert.GradInAReferenceIdeal.τ).loc Cert.GradInAReferenceIdeal.main_arg1))

def preserves_GradInB_GradInBIdeal : Prop :=
  True

def algebraic_GradInBIdeal_GradInBReferenceIdeal [hGradInBIdeal : Cert.GradInBIdeal.Facts] [hGradInBReferenceIdeal : Cert.GradInBReferenceIdeal.Facts] : Prop :=
  ∀ (m : (ℓ : Loc Cert.GradInBIdeal.nD Cert.GradInBIdeal.τ Cert.GradInBIdeal.sig) → Buf (Elt Ideal) ℓ) (g : Dev Cert.GradInBIdeal.nD → PrngReg)
    (m' : (ℓ : Loc Cert.GradInBReferenceIdeal.nD Cert.GradInBReferenceIdeal.τ Cert.GradInBReferenceIdeal.sig) → Buf (Elt Ideal) ℓ) (g' : Dev Cert.GradInBReferenceIdeal.nD → PrngReg), Pre_GradInBIdeal m →
    (∀ c : Dev Cert.GradInBIdeal.nD,
      m' ((c.tc : Thread Cert.GradInBReferenceIdeal.nD Cert.GradInBReferenceIdeal.τ).loc Cert.GradInBReferenceIdeal.main_arg0) = m ((c.tc : Thread Cert.GradInBIdeal.nD Cert.GradInBIdeal.τ).loc Cert.GradInBIdeal.main_arg0)
      ∧ m' ((c.tc : Thread Cert.GradInBReferenceIdeal.nD Cert.GradInBReferenceIdeal.τ).loc Cert.GradInBReferenceIdeal.main_arg1) = m ((c.tc : Thread Cert.GradInBIdeal.nD Cert.GradInBIdeal.τ).loc Cert.GradInBIdeal.main_arg1)) →
    ∃ (v0 : (c : Dev Cert.GradInBIdeal.nD) → Buf (Elt Ideal) ((c.tc : Thread Cert.GradInBIdeal.nD Cert.GradInBIdeal.τ).loc Cert.GradInBIdeal.main_v0)),
      θ_run (Cert.GradInBIdeal.defs (F := Ideal)) (onTc (τ := Cert.GradInBIdeal.τ) (Cert.GradInBIdeal.main (F := Ideal))) ⟨m, fun _ => 0, g⟩ (fun r => ∀ c : Dev Cert.GradInBIdeal.nD,
          r.2.mem ((c.tc : Thread Cert.GradInBIdeal.nD Cert.GradInBIdeal.τ).loc Cert.GradInBIdeal.main_v0) = v0 c
          ∧ r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
          ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1))
      ∧ θ_run (Cert.GradInBReferenceIdeal.defs (F := Ideal)) (onTc (τ := Cert.GradInBReferenceIdeal.τ) (Cert.GradInBReferenceIdeal.main (F := Ideal))) ⟨m', fun _ => 0, g'⟩ (fun r => ∀ c : Dev Cert.GradInBReferenceIdeal.nD,
          r.2.mem ((c.tc : Thread Cert.GradInBReferenceIdeal.nD Cert.GradInBReferenceIdeal.τ).loc Cert.GradInBReferenceIdeal.main_v6) = v0 c
          ∧ r.2.mem ((c.tc : Thread Cert.GradInBReferenceIdeal.nD Cert.GradInBReferenceIdeal.τ).loc Cert.GradInBReferenceIdeal.main_arg0) = m' ((c.tc : Thread Cert.GradInBReferenceIdeal.nD Cert.GradInBReferenceIdeal.τ).loc Cert.GradInBReferenceIdeal.main_arg0)
          ∧ r.2.mem ((c.tc : Thread Cert.GradInBReferenceIdeal.nD Cert.GradInBReferenceIdeal.τ).loc Cert.GradInBReferenceIdeal.main_arg1) = m' ((c.tc : Thread Cert.GradInBReferenceIdeal.nD Cert.GradInBReferenceIdeal.τ).loc Cert.GradInBReferenceIdeal.main_arg1))

def preserves_GradInD_GradInDIdeal : Prop :=
  True

def algebraic_GradInDIdeal_GradInDReferenceIdeal [hGradInDIdeal : Cert.GradInDIdeal.Facts] [hGradInDReferenceIdeal : Cert.GradInDReferenceIdeal.Facts] : Prop :=
  ∀ (m : (ℓ : Loc Cert.GradInDIdeal.nD Cert.GradInDIdeal.τ Cert.GradInDIdeal.sig) → Buf (Elt Ideal) ℓ) (g : Dev Cert.GradInDIdeal.nD → PrngReg)
    (m' : (ℓ : Loc Cert.GradInDReferenceIdeal.nD Cert.GradInDReferenceIdeal.τ Cert.GradInDReferenceIdeal.sig) → Buf (Elt Ideal) ℓ) (g' : Dev Cert.GradInDReferenceIdeal.nD → PrngReg), Pre_GradInDIdeal m →
    (∀ c : Dev Cert.GradInDIdeal.nD,
      m' ((c.tc : Thread Cert.GradInDReferenceIdeal.nD Cert.GradInDReferenceIdeal.τ).loc Cert.GradInDReferenceIdeal.main_arg0) = m ((c.tc : Thread Cert.GradInDIdeal.nD Cert.GradInDIdeal.τ).loc Cert.GradInDIdeal.main_arg0)
      ∧ m' ((c.tc : Thread Cert.GradInDReferenceIdeal.nD Cert.GradInDReferenceIdeal.τ).loc Cert.GradInDReferenceIdeal.main_arg1) = m ((c.tc : Thread Cert.GradInDIdeal.nD Cert.GradInDIdeal.τ).loc Cert.GradInDIdeal.main_arg1)) →
    ∃ (v0 : (c : Dev Cert.GradInDIdeal.nD) → Buf (Elt Ideal) ((c.tc : Thread Cert.GradInDIdeal.nD Cert.GradInDIdeal.τ).loc Cert.GradInDIdeal.main_v0)),
      θ_run (Cert.GradInDIdeal.defs (F := Ideal)) (onTc (τ := Cert.GradInDIdeal.τ) (Cert.GradInDIdeal.main (F := Ideal))) ⟨m, fun _ => 0, g⟩ (fun r => ∀ c : Dev Cert.GradInDIdeal.nD,
          r.2.mem ((c.tc : Thread Cert.GradInDIdeal.nD Cert.GradInDIdeal.τ).loc Cert.GradInDIdeal.main_v0) = v0 c
          ∧ r.2.mem ((c.tc : Thread Cert.GradInDIdeal.nD Cert.GradInDIdeal.τ).loc Cert.GradInDIdeal.main_arg0) = m ((c.tc : Thread Cert.GradInDIdeal.nD Cert.GradInDIdeal.τ).loc Cert.GradInDIdeal.main_arg0)
          ∧ r.2.mem ((c.tc : Thread Cert.GradInDIdeal.nD Cert.GradInDIdeal.τ).loc Cert.GradInDIdeal.main_arg1) = m ((c.tc : Thread Cert.GradInDIdeal.nD Cert.GradInDIdeal.τ).loc Cert.GradInDIdeal.main_arg1))
      ∧ θ_run (Cert.GradInDReferenceIdeal.defs (F := Ideal)) (onTc (τ := Cert.GradInDReferenceIdeal.τ) (Cert.GradInDReferenceIdeal.main (F := Ideal))) ⟨m', fun _ => 0, g'⟩ (fun r => ∀ c : Dev Cert.GradInDReferenceIdeal.nD,
          r.2.mem ((c.tc : Thread Cert.GradInDReferenceIdeal.nD Cert.GradInDReferenceIdeal.τ).loc Cert.GradInDReferenceIdeal.main_v6) = v0 c
          ∧ r.2.mem ((c.tc : Thread Cert.GradInDReferenceIdeal.nD Cert.GradInDReferenceIdeal.τ).loc Cert.GradInDReferenceIdeal.main_arg0) = m' ((c.tc : Thread Cert.GradInDReferenceIdeal.nD Cert.GradInDReferenceIdeal.τ).loc Cert.GradInDReferenceIdeal.main_arg0)
          ∧ r.2.mem ((c.tc : Thread Cert.GradInDReferenceIdeal.nD Cert.GradInDReferenceIdeal.τ).loc Cert.GradInDReferenceIdeal.main_arg1) = m' ((c.tc : Thread Cert.GradInDReferenceIdeal.nD Cert.GradInDReferenceIdeal.τ).loc Cert.GradInDReferenceIdeal.main_arg1))

def preserves_GradXHead_GradXHeadIdeal : Prop :=
  True

def algebraic_GradXHeadIdeal_GradXHeadReferenceIdeal [hGradXHeadIdeal : Cert.GradXHeadIdeal.Facts] [hGradXHeadReferenceIdeal : Cert.GradXHeadReferenceIdeal.Facts] : Prop :=
  ∀ (m : (ℓ : Loc Cert.GradXHeadIdeal.nD Cert.GradXHeadIdeal.τ Cert.GradXHeadIdeal.sig) → Buf (Elt Ideal) ℓ) (g : Dev Cert.GradXHeadIdeal.nD → PrngReg)
    (m' : (ℓ : Loc Cert.GradXHeadReferenceIdeal.nD Cert.GradXHeadReferenceIdeal.τ Cert.GradXHeadReferenceIdeal.sig) → Buf (Elt Ideal) ℓ) (g' : Dev Cert.GradXHeadReferenceIdeal.nD → PrngReg), Pre_GradXHeadIdeal m →
    (∀ c : Dev Cert.GradXHeadIdeal.nD,
      m' ((c.tc : Thread Cert.GradXHeadReferenceIdeal.nD Cert.GradXHeadReferenceIdeal.τ).loc Cert.GradXHeadReferenceIdeal.main_arg0) = m ((c.tc : Thread Cert.GradXHeadIdeal.nD Cert.GradXHeadIdeal.τ).loc Cert.GradXHeadIdeal.main_arg0)
      ∧ m' ((c.tc : Thread Cert.GradXHeadReferenceIdeal.nD Cert.GradXHeadReferenceIdeal.τ).loc Cert.GradXHeadReferenceIdeal.main_arg1) = m ((c.tc : Thread Cert.GradXHeadIdeal.nD Cert.GradXHeadIdeal.τ).loc Cert.GradXHeadIdeal.main_arg1)
      ∧ m' ((c.tc : Thread Cert.GradXHeadReferenceIdeal.nD Cert.GradXHeadReferenceIdeal.τ).loc Cert.GradXHeadReferenceIdeal.main_arg2) = m ((c.tc : Thread Cert.GradXHeadIdeal.nD Cert.GradXHeadIdeal.τ).loc Cert.GradXHeadIdeal.main_arg2)
      ∧ m' ((c.tc : Thread Cert.GradXHeadReferenceIdeal.nD Cert.GradXHeadReferenceIdeal.τ).loc Cert.GradXHeadReferenceIdeal.main_arg3) = m ((c.tc : Thread Cert.GradXHeadIdeal.nD Cert.GradXHeadIdeal.τ).loc Cert.GradXHeadIdeal.main_arg3)
      ∧ m' ((c.tc : Thread Cert.GradXHeadReferenceIdeal.nD Cert.GradXHeadReferenceIdeal.τ).loc Cert.GradXHeadReferenceIdeal.main_arg4) = m ((c.tc : Thread Cert.GradXHeadIdeal.nD Cert.GradXHeadIdeal.τ).loc Cert.GradXHeadIdeal.main_arg4)
      ∧ m' ((c.tc : Thread Cert.GradXHeadReferenceIdeal.nD Cert.GradXHeadReferenceIdeal.τ).loc Cert.GradXHeadReferenceIdeal.main_arg5) = m ((c.tc : Thread Cert.GradXHeadIdeal.nD Cert.GradXHeadIdeal.τ).loc Cert.GradXHeadIdeal.main_arg5)) →
    ∃ (v0 : (c : Dev Cert.GradXHeadIdeal.nD) → Buf (Elt Ideal) ((c.tc : Thread Cert.GradXHeadIdeal.nD Cert.GradXHeadIdeal.τ).loc Cert.GradXHeadIdeal.main_v0)),
      θ_run (Cert.GradXHeadIdeal.defs (F := Ideal)) (onTc (τ := Cert.GradXHeadIdeal.τ) (Cert.GradXHeadIdeal.main (F := Ideal))) ⟨m, fun _ => 0, g⟩ (fun r => ∀ c : Dev Cert.GradXHeadIdeal.nD,
          r.2.mem ((c.tc : Thread Cert.GradXHeadIdeal.nD Cert.GradXHeadIdeal.τ).loc Cert.GradXHeadIdeal.main_v0) = v0 c
          ∧ r.2.mem ((c.tc : Thread Cert.GradXHeadIdeal.nD Cert.GradXHeadIdeal.τ).loc Cert.GradXHeadIdeal.main_arg0) = m ((c.tc : Thread Cert.GradXHeadIdeal.nD Cert.GradXHeadIdeal.τ).loc Cert.GradXHeadIdeal.main_arg0)
          ∧ r.2.mem ((c.tc : Thread Cert.GradXHeadIdeal.nD Cert.GradXHeadIdeal.τ).loc Cert.GradXHeadIdeal.main_arg1) = m ((c.tc : Thread Cert.GradXHeadIdeal.nD Cert.GradXHeadIdeal.τ).loc Cert.GradXHeadIdeal.main_arg1)
          ∧ r.2.mem ((c.tc : Thread Cert.GradXHeadIdeal.nD Cert.GradXHeadIdeal.τ).loc Cert.GradXHeadIdeal.main_arg2) = m ((c.tc : Thread Cert.GradXHeadIdeal.nD Cert.GradXHeadIdeal.τ).loc Cert.GradXHeadIdeal.main_arg2)
          ∧ r.2.mem ((c.tc : Thread Cert.GradXHeadIdeal.nD Cert.GradXHeadIdeal.τ).loc Cert.GradXHeadIdeal.main_arg3) = m ((c.tc : Thread Cert.GradXHeadIdeal.nD Cert.GradXHeadIdeal.τ).loc Cert.GradXHeadIdeal.main_arg3)
          ∧ r.2.mem ((c.tc : Thread Cert.GradXHeadIdeal.nD Cert.GradXHeadIdeal.τ).loc Cert.GradXHeadIdeal.main_arg4) = m ((c.tc : Thread Cert.GradXHeadIdeal.nD Cert.GradXHeadIdeal.τ).loc Cert.GradXHeadIdeal.main_arg4)
          ∧ r.2.mem ((c.tc : Thread Cert.GradXHeadIdeal.nD Cert.GradXHeadIdeal.τ).loc Cert.GradXHeadIdeal.main_arg5) = m ((c.tc : Thread Cert.GradXHeadIdeal.nD Cert.GradXHeadIdeal.τ).loc Cert.GradXHeadIdeal.main_arg5))
      ∧ θ_run (Cert.GradXHeadReferenceIdeal.defs (F := Ideal)) (onTc (τ := Cert.GradXHeadReferenceIdeal.τ) (Cert.GradXHeadReferenceIdeal.main (F := Ideal))) ⟨m', fun _ => 0, g'⟩ (fun r => ∀ c : Dev Cert.GradXHeadReferenceIdeal.nD,
          r.2.mem ((c.tc : Thread Cert.GradXHeadReferenceIdeal.nD Cert.GradXHeadReferenceIdeal.τ).loc Cert.GradXHeadReferenceIdeal.main_v25) = v0 c
          ∧ r.2.mem ((c.tc : Thread Cert.GradXHeadReferenceIdeal.nD Cert.GradXHeadReferenceIdeal.τ).loc Cert.GradXHeadReferenceIdeal.main_arg0) = m' ((c.tc : Thread Cert.GradXHeadReferenceIdeal.nD Cert.GradXHeadReferenceIdeal.τ).loc Cert.GradXHeadReferenceIdeal.main_arg0)
          ∧ r.2.mem ((c.tc : Thread Cert.GradXHeadReferenceIdeal.nD Cert.GradXHeadReferenceIdeal.τ).loc Cert.GradXHeadReferenceIdeal.main_arg1) = m' ((c.tc : Thread Cert.GradXHeadReferenceIdeal.nD Cert.GradXHeadReferenceIdeal.τ).loc Cert.GradXHeadReferenceIdeal.main_arg1)
          ∧ r.2.mem ((c.tc : Thread Cert.GradXHeadReferenceIdeal.nD Cert.GradXHeadReferenceIdeal.τ).loc Cert.GradXHeadReferenceIdeal.main_arg2) = m' ((c.tc : Thread Cert.GradXHeadReferenceIdeal.nD Cert.GradXHeadReferenceIdeal.τ).loc Cert.GradXHeadReferenceIdeal.main_arg2)
          ∧ r.2.mem ((c.tc : Thread Cert.GradXHeadReferenceIdeal.nD Cert.GradXHeadReferenceIdeal.τ).loc Cert.GradXHeadReferenceIdeal.main_arg3) = m' ((c.tc : Thread Cert.GradXHeadReferenceIdeal.nD Cert.GradXHeadReferenceIdeal.τ).loc Cert.GradXHeadReferenceIdeal.main_arg3)
          ∧ r.2.mem ((c.tc : Thread Cert.GradXHeadReferenceIdeal.nD Cert.GradXHeadReferenceIdeal.τ).loc Cert.GradXHeadReferenceIdeal.main_arg4) = m' ((c.tc : Thread Cert.GradXHeadReferenceIdeal.nD Cert.GradXHeadReferenceIdeal.τ).loc Cert.GradXHeadReferenceIdeal.main_arg4)
          ∧ r.2.mem ((c.tc : Thread Cert.GradXHeadReferenceIdeal.nD Cert.GradXHeadReferenceIdeal.τ).loc Cert.GradXHeadReferenceIdeal.main_arg5) = m' ((c.tc : Thread Cert.GradXHeadReferenceIdeal.nD Cert.GradXHeadReferenceIdeal.τ).loc Cert.GradXHeadReferenceIdeal.main_arg5))

def preserves_GradXTail_GradXTailIdeal : Prop :=
  True

def algebraic_GradXTailIdeal_GradXTailReferenceIdeal [hGradXTailIdeal : Cert.GradXTailIdeal.Facts] [hGradXTailReferenceIdeal : Cert.GradXTailReferenceIdeal.Facts] : Prop :=
  ∀ (m : (ℓ : Loc Cert.GradXTailIdeal.nD Cert.GradXTailIdeal.τ Cert.GradXTailIdeal.sig) → Buf (Elt Ideal) ℓ) (g : Dev Cert.GradXTailIdeal.nD → PrngReg)
    (m' : (ℓ : Loc Cert.GradXTailReferenceIdeal.nD Cert.GradXTailReferenceIdeal.τ Cert.GradXTailReferenceIdeal.sig) → Buf (Elt Ideal) ℓ) (g' : Dev Cert.GradXTailReferenceIdeal.nD → PrngReg), Pre_GradXTailIdeal m →
    (∀ c : Dev Cert.GradXTailIdeal.nD,
      m' ((c.tc : Thread Cert.GradXTailReferenceIdeal.nD Cert.GradXTailReferenceIdeal.τ).loc Cert.GradXTailReferenceIdeal.main_arg0) = m ((c.tc : Thread Cert.GradXTailIdeal.nD Cert.GradXTailIdeal.τ).loc Cert.GradXTailIdeal.main_arg0)
      ∧ m' ((c.tc : Thread Cert.GradXTailReferenceIdeal.nD Cert.GradXTailReferenceIdeal.τ).loc Cert.GradXTailReferenceIdeal.main_arg1) = m ((c.tc : Thread Cert.GradXTailIdeal.nD Cert.GradXTailIdeal.τ).loc Cert.GradXTailIdeal.main_arg1)
      ∧ m' ((c.tc : Thread Cert.GradXTailReferenceIdeal.nD Cert.GradXTailReferenceIdeal.τ).loc Cert.GradXTailReferenceIdeal.main_arg2) = m ((c.tc : Thread Cert.GradXTailIdeal.nD Cert.GradXTailIdeal.τ).loc Cert.GradXTailIdeal.main_arg2)
      ∧ m' ((c.tc : Thread Cert.GradXTailReferenceIdeal.nD Cert.GradXTailReferenceIdeal.τ).loc Cert.GradXTailReferenceIdeal.main_arg3) = m ((c.tc : Thread Cert.GradXTailIdeal.nD Cert.GradXTailIdeal.τ).loc Cert.GradXTailIdeal.main_arg3)
      ∧ m' ((c.tc : Thread Cert.GradXTailReferenceIdeal.nD Cert.GradXTailReferenceIdeal.τ).loc Cert.GradXTailReferenceIdeal.main_arg4) = m ((c.tc : Thread Cert.GradXTailIdeal.nD Cert.GradXTailIdeal.τ).loc Cert.GradXTailIdeal.main_arg4)
      ∧ m' ((c.tc : Thread Cert.GradXTailReferenceIdeal.nD Cert.GradXTailReferenceIdeal.τ).loc Cert.GradXTailReferenceIdeal.main_arg5) = m ((c.tc : Thread Cert.GradXTailIdeal.nD Cert.GradXTailIdeal.τ).loc Cert.GradXTailIdeal.main_arg5)) →
    ∃ (v0 : (c : Dev Cert.GradXTailIdeal.nD) → Buf (Elt Ideal) ((c.tc : Thread Cert.GradXTailIdeal.nD Cert.GradXTailIdeal.τ).loc Cert.GradXTailIdeal.main_v0)),
      θ_run (Cert.GradXTailIdeal.defs (F := Ideal)) (onTc (τ := Cert.GradXTailIdeal.τ) (Cert.GradXTailIdeal.main (F := Ideal))) ⟨m, fun _ => 0, g⟩ (fun r => ∀ c : Dev Cert.GradXTailIdeal.nD,
          r.2.mem ((c.tc : Thread Cert.GradXTailIdeal.nD Cert.GradXTailIdeal.τ).loc Cert.GradXTailIdeal.main_v0) = v0 c
          ∧ r.2.mem ((c.tc : Thread Cert.GradXTailIdeal.nD Cert.GradXTailIdeal.τ).loc Cert.GradXTailIdeal.main_arg0) = m ((c.tc : Thread Cert.GradXTailIdeal.nD Cert.GradXTailIdeal.τ).loc Cert.GradXTailIdeal.main_arg0)
          ∧ r.2.mem ((c.tc : Thread Cert.GradXTailIdeal.nD Cert.GradXTailIdeal.τ).loc Cert.GradXTailIdeal.main_arg1) = m ((c.tc : Thread Cert.GradXTailIdeal.nD Cert.GradXTailIdeal.τ).loc Cert.GradXTailIdeal.main_arg1)
          ∧ r.2.mem ((c.tc : Thread Cert.GradXTailIdeal.nD Cert.GradXTailIdeal.τ).loc Cert.GradXTailIdeal.main_arg2) = m ((c.tc : Thread Cert.GradXTailIdeal.nD Cert.GradXTailIdeal.τ).loc Cert.GradXTailIdeal.main_arg2)
          ∧ r.2.mem ((c.tc : Thread Cert.GradXTailIdeal.nD Cert.GradXTailIdeal.τ).loc Cert.GradXTailIdeal.main_arg3) = m ((c.tc : Thread Cert.GradXTailIdeal.nD Cert.GradXTailIdeal.τ).loc Cert.GradXTailIdeal.main_arg3)
          ∧ r.2.mem ((c.tc : Thread Cert.GradXTailIdeal.nD Cert.GradXTailIdeal.τ).loc Cert.GradXTailIdeal.main_arg4) = m ((c.tc : Thread Cert.GradXTailIdeal.nD Cert.GradXTailIdeal.τ).loc Cert.GradXTailIdeal.main_arg4)
          ∧ r.2.mem ((c.tc : Thread Cert.GradXTailIdeal.nD Cert.GradXTailIdeal.τ).loc Cert.GradXTailIdeal.main_arg5) = m ((c.tc : Thread Cert.GradXTailIdeal.nD Cert.GradXTailIdeal.τ).loc Cert.GradXTailIdeal.main_arg5))
      ∧ θ_run (Cert.GradXTailReferenceIdeal.defs (F := Ideal)) (onTc (τ := Cert.GradXTailReferenceIdeal.τ) (Cert.GradXTailReferenceIdeal.main (F := Ideal))) ⟨m', fun _ => 0, g'⟩ (fun r => ∀ c : Dev Cert.GradXTailReferenceIdeal.nD,
          r.2.mem ((c.tc : Thread Cert.GradXTailReferenceIdeal.nD Cert.GradXTailReferenceIdeal.τ).loc Cert.GradXTailReferenceIdeal.main_v25) = v0 c
          ∧ r.2.mem ((c.tc : Thread Cert.GradXTailReferenceIdeal.nD Cert.GradXTailReferenceIdeal.τ).loc Cert.GradXTailReferenceIdeal.main_arg0) = m' ((c.tc : Thread Cert.GradXTailReferenceIdeal.nD Cert.GradXTailReferenceIdeal.τ).loc Cert.GradXTailReferenceIdeal.main_arg0)
          ∧ r.2.mem ((c.tc : Thread Cert.GradXTailReferenceIdeal.nD Cert.GradXTailReferenceIdeal.τ).loc Cert.GradXTailReferenceIdeal.main_arg1) = m' ((c.tc : Thread Cert.GradXTailReferenceIdeal.nD Cert.GradXTailReferenceIdeal.τ).loc Cert.GradXTailReferenceIdeal.main_arg1)
          ∧ r.2.mem ((c.tc : Thread Cert.GradXTailReferenceIdeal.nD Cert.GradXTailReferenceIdeal.τ).loc Cert.GradXTailReferenceIdeal.main_arg2) = m' ((c.tc : Thread Cert.GradXTailReferenceIdeal.nD Cert.GradXTailReferenceIdeal.τ).loc Cert.GradXTailReferenceIdeal.main_arg2)
          ∧ r.2.mem ((c.tc : Thread Cert.GradXTailReferenceIdeal.nD Cert.GradXTailReferenceIdeal.τ).loc Cert.GradXTailReferenceIdeal.main_arg3) = m' ((c.tc : Thread Cert.GradXTailReferenceIdeal.nD Cert.GradXTailReferenceIdeal.τ).loc Cert.GradXTailReferenceIdeal.main_arg3)
          ∧ r.2.mem ((c.tc : Thread Cert.GradXTailReferenceIdeal.nD Cert.GradXTailReferenceIdeal.τ).loc Cert.GradXTailReferenceIdeal.main_arg4) = m' ((c.tc : Thread Cert.GradXTailReferenceIdeal.nD Cert.GradXTailReferenceIdeal.τ).loc Cert.GradXTailReferenceIdeal.main_arg4)
          ∧ r.2.mem ((c.tc : Thread Cert.GradXTailReferenceIdeal.nD Cert.GradXTailReferenceIdeal.τ).loc Cert.GradXTailReferenceIdeal.main_arg5) = m' ((c.tc : Thread Cert.GradXTailReferenceIdeal.nD Cert.GradXTailReferenceIdeal.τ).loc Cert.GradXTailReferenceIdeal.main_arg5))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v5) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v2) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_GradKv_GradKvIdeal : Prop :=
  True

def algebraic_GradKvIdeal_GradKvReferenceIdeal [hGradKvIdeal : Cert.GradKvIdeal.Facts] [hGradKvReferenceIdeal : Cert.GradKvReferenceIdeal.Facts] : Prop :=
  ∀ (m : (ℓ : Loc Cert.GradKvIdeal.nD Cert.GradKvIdeal.τ Cert.GradKvIdeal.sig) → Buf (Elt Ideal) ℓ) (g : Dev Cert.GradKvIdeal.nD → PrngReg)
    (m' : (ℓ : Loc Cert.GradKvReferenceIdeal.nD Cert.GradKvReferenceIdeal.τ Cert.GradKvReferenceIdeal.sig) → Buf (Elt Ideal) ℓ) (g' : Dev Cert.GradKvReferenceIdeal.nD → PrngReg), Pre_GradKvIdeal m →
    (∀ c : Dev Cert.GradKvIdeal.nD,
      m' ((c.tc : Thread Cert.GradKvReferenceIdeal.nD Cert.GradKvReferenceIdeal.τ).loc Cert.GradKvReferenceIdeal.main_arg0) = m ((c.tc : Thread Cert.GradKvIdeal.nD Cert.GradKvIdeal.τ).loc Cert.GradKvIdeal.main_arg0)
      ∧ m' ((c.tc : Thread Cert.GradKvReferenceIdeal.nD Cert.GradKvReferenceIdeal.τ).loc Cert.GradKvReferenceIdeal.main_arg1) = m ((c.tc : Thread Cert.GradKvIdeal.nD Cert.GradKvIdeal.τ).loc Cert.GradKvIdeal.main_arg1)) →
    ∃ (v0 : (c : Dev Cert.GradKvIdeal.nD) → Buf (Elt Ideal) ((c.tc : Thread Cert.GradKvIdeal.nD Cert.GradKvIdeal.τ).loc Cert.GradKvIdeal.main_v1)),
      θ_run (Cert.GradKvIdeal.defs (F := Ideal)) (onTc (τ := Cert.GradKvIdeal.τ) (Cert.GradKvIdeal.main (F := Ideal))) ⟨m, fun _ => 0, g⟩ (fun r => ∀ c : Dev Cert.GradKvIdeal.nD,
          r.2.mem ((c.tc : Thread Cert.GradKvIdeal.nD Cert.GradKvIdeal.τ).loc Cert.GradKvIdeal.main_v1) = v0 c
          ∧ r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
          ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ θ_run (Cert.GradKvReferenceIdeal.defs (F := Ideal)) (onTc (τ := Cert.GradKvReferenceIdeal.τ) (Cert.GradKvReferenceIdeal.main (F := Ideal))) ⟨m', fun _ => 0, g'⟩ (fun r => ∀ c : Dev Cert.GradKvReferenceIdeal.nD,
          r.2.mem ((c.tc : Thread Cert.GradKvReferenceIdeal.nD Cert.GradKvReferenceIdeal.τ).loc Cert.GradKvReferenceIdeal.main_v5) = v0 c
          ∧ r.2.mem ((c.tc : Thread Cert.GradKvReferenceIdeal.nD Cert.GradKvReferenceIdeal.τ).loc Cert.GradKvReferenceIdeal.main_arg0) = m' ((c.tc : Thread Cert.GradKvReferenceIdeal.nD Cert.GradKvReferenceIdeal.τ).loc Cert.GradKvReferenceIdeal.main_arg0)
          ∧ r.2.mem ((c.tc : Thread Cert.GradKvReferenceIdeal.nD Cert.GradKvReferenceIdeal.τ).loc Cert.GradKvReferenceIdeal.main_arg1) = m' ((c.tc : Thread Cert.GradKvReferenceIdeal.nD Cert.GradKvReferenceIdeal.τ).loc Cert.GradKvReferenceIdeal.main_arg1))

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)
      ∧ m' ((c.tc : Thread Cert.MemFwdReferenceIdeal.nD Cert.MemFwdReferenceIdeal.τ).loc Cert.MemFwdReferenceIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0_0)) (v1 : (c : Dev Cert.MemFwdIdeal.nD) → Buf (Elt Ideal) ((c.tc : Thread Cert.MemFwdIdeal.nD Cert.MemFwdIdeal.τ).loc Cert.MemFwdIdeal.main_v0_1)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0_0) = v0 c
          ∧ r.2.mem ((c.tc : Thread Cert.MemFwdIdeal.nD Cert.MemFwdIdeal.τ).loc Cert.MemFwdIdeal.main_v0_1) = v1 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v6) = v0 c
          ∧ r.2.mem ((c.tc : Thread Cert.MemFwdReferenceIdeal.nD Cert.MemFwdReferenceIdeal.τ).loc Cert.MemFwdReferenceIdeal.main_v29) = v1 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1)
          ∧ r.2.mem ((c.tc : Thread Cert.MemFwdReferenceIdeal.nD Cert.MemFwdReferenceIdeal.τ).loc Cert.MemFwdReferenceIdeal.main_arg2) = m' ((c.tc : Thread Cert.MemFwdReferenceIdeal.nD Cert.MemFwdReferenceIdeal.τ).loc Cert.MemFwdReferenceIdeal.main_arg2))

def preserves_HgrnFwd_HgrnFwdIdeal : Prop :=
  True

def algebraic_HgrnFwdIdeal_HgrnFwdReferenceIdeal [hHgrnFwdIdeal : Cert.HgrnFwdIdeal.Facts] [hHgrnFwdReferenceIdeal : Cert.HgrnFwdReferenceIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg)
    (m' : (ℓ : Loc Cert.HgrnFwdReferenceIdeal.nD Cert.HgrnFwdReferenceIdeal.τ Cert.HgrnFwdReferenceIdeal.sig) → Buf (Elt Ideal) ℓ) (g' : Dev Cert.HgrnFwdReferenceIdeal.nD → PrngReg), Pre_HgrnFwdIdeal m →
    (∀ c : Dev Cert.HgrnFwdIdeal.nD,
      m' ((c.tc : Thread Cert.HgrnFwdReferenceIdeal.nD Cert.HgrnFwdReferenceIdeal.τ).loc Cert.HgrnFwdReferenceIdeal.main_arg0) = m ((c.tc : Thread Cert.HgrnFwdIdeal.nD Cert.HgrnFwdIdeal.τ).loc Cert.HgrnFwdIdeal.main_arg0)
      ∧ m' ((c.tc : Thread Cert.HgrnFwdReferenceIdeal.nD Cert.HgrnFwdReferenceIdeal.τ).loc Cert.HgrnFwdReferenceIdeal.main_arg1) = m ((c.tc : Thread Cert.HgrnFwdIdeal.nD Cert.HgrnFwdIdeal.τ).loc Cert.HgrnFwdIdeal.main_arg1)
      ∧ m' ((c.tc : Thread Cert.HgrnFwdReferenceIdeal.nD Cert.HgrnFwdReferenceIdeal.τ).loc Cert.HgrnFwdReferenceIdeal.main_arg2) = m ((c.tc : Thread Cert.HgrnFwdIdeal.nD Cert.HgrnFwdIdeal.τ).loc Cert.HgrnFwdIdeal.main_arg2)
      ∧ m' ((c.tc : Thread Cert.HgrnFwdReferenceIdeal.nD Cert.HgrnFwdReferenceIdeal.τ).loc Cert.HgrnFwdReferenceIdeal.main_arg3) = m ((c.tc : Thread Cert.HgrnFwdIdeal.nD Cert.HgrnFwdIdeal.τ).loc Cert.HgrnFwdIdeal.main_arg3)) →
    ∃ (v0 : (c : Dev Cert.HgrnFwdIdeal.nD) → Buf (Elt Ideal) ((c.tc : Thread Cert.HgrnFwdIdeal.nD Cert.HgrnFwdIdeal.τ).loc Cert.HgrnFwdIdeal.main_v0_0)) (v1 : (c : Dev Cert.HgrnFwdIdeal.nD) → Buf (Elt Ideal) ((c.tc : Thread Cert.HgrnFwdIdeal.nD Cert.HgrnFwdIdeal.τ).loc Cert.HgrnFwdIdeal.main_v0_1)) (v2 : (c : Dev Cert.HgrnFwdIdeal.nD) → Buf (Elt Ideal) ((c.tc : Thread Cert.HgrnFwdIdeal.nD Cert.HgrnFwdIdeal.τ).loc Cert.HgrnFwdIdeal.main_v0_2)) (v3 : (c : Dev Cert.HgrnFwdIdeal.nD) → Buf (Elt Ideal) ((c.tc : Thread Cert.HgrnFwdIdeal.nD Cert.HgrnFwdIdeal.τ).loc Cert.HgrnFwdIdeal.main_v0_3)),
      θ_run (Cert.HgrnFwdIdeal.defs (F := Ideal)) (onTc (τ := Cert.HgrnFwdIdeal.τ) (Cert.HgrnFwdIdeal.main (F := Ideal))) ⟨m, fun _ => 0, g⟩ (fun r => ∀ c : Dev Cert.HgrnFwdIdeal.nD,
          r.2.mem ((c.tc : Thread Cert.HgrnFwdIdeal.nD Cert.HgrnFwdIdeal.τ).loc Cert.HgrnFwdIdeal.main_v0_0) = v0 c
          ∧ r.2.mem ((c.tc : Thread Cert.HgrnFwdIdeal.nD Cert.HgrnFwdIdeal.τ).loc Cert.HgrnFwdIdeal.main_v0_1) = v1 c
          ∧ r.2.mem ((c.tc : Thread Cert.HgrnFwdIdeal.nD Cert.HgrnFwdIdeal.τ).loc Cert.HgrnFwdIdeal.main_v0_2) = v2 c
          ∧ r.2.mem ((c.tc : Thread Cert.HgrnFwdIdeal.nD Cert.HgrnFwdIdeal.τ).loc Cert.HgrnFwdIdeal.main_v0_3) = v3 c
          ∧ r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
          ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
          ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2)
          ∧ r.2.mem ((c.tc : Thread Cert.HgrnFwdIdeal.nD Cert.HgrnFwdIdeal.τ).loc Cert.HgrnFwdIdeal.main_arg3) = m ((c.tc : Thread Cert.HgrnFwdIdeal.nD Cert.HgrnFwdIdeal.τ).loc Cert.HgrnFwdIdeal.main_arg3))
      ∧ θ_run (Cert.HgrnFwdReferenceIdeal.defs (F := Ideal)) (onTc (τ := Cert.HgrnFwdReferenceIdeal.τ) (Cert.HgrnFwdReferenceIdeal.main (F := Ideal))) ⟨m', fun _ => 0, g'⟩ (fun r => ∀ c : Dev Cert.HgrnFwdReferenceIdeal.nD,
          r.2.mem ((c.tc : Thread Cert.HgrnFwdReferenceIdeal.nD Cert.HgrnFwdReferenceIdeal.τ).loc Cert.HgrnFwdReferenceIdeal.main_v4) = v0 c
          ∧ r.2.mem ((c.tc : Thread Cert.HgrnFwdReferenceIdeal.nD Cert.HgrnFwdReferenceIdeal.τ).loc Cert.HgrnFwdReferenceIdeal.main_v108) = v1 c
          ∧ r.2.mem ((c.tc : Thread Cert.HgrnFwdReferenceIdeal.nD Cert.HgrnFwdReferenceIdeal.τ).loc Cert.HgrnFwdReferenceIdeal.main_v109) = v2 c
          ∧ r.2.mem ((c.tc : Thread Cert.HgrnFwdReferenceIdeal.nD Cert.HgrnFwdReferenceIdeal.τ).loc Cert.HgrnFwdReferenceIdeal.main_v86) = v3 c
          ∧ r.2.mem ((c.tc : Thread Cert.HgrnFwdReferenceIdeal.nD Cert.HgrnFwdReferenceIdeal.τ).loc Cert.HgrnFwdReferenceIdeal.main_arg0) = m' ((c.tc : Thread Cert.HgrnFwdReferenceIdeal.nD Cert.HgrnFwdReferenceIdeal.τ).loc Cert.HgrnFwdReferenceIdeal.main_arg0)
          ∧ r.2.mem ((c.tc : Thread Cert.HgrnFwdReferenceIdeal.nD Cert.HgrnFwdReferenceIdeal.τ).loc Cert.HgrnFwdReferenceIdeal.main_arg1) = m' ((c.tc : Thread Cert.HgrnFwdReferenceIdeal.nD Cert.HgrnFwdReferenceIdeal.τ).loc Cert.HgrnFwdReferenceIdeal.main_arg1)
          ∧ r.2.mem ((c.tc : Thread Cert.HgrnFwdReferenceIdeal.nD Cert.HgrnFwdReferenceIdeal.τ).loc Cert.HgrnFwdReferenceIdeal.main_arg2) = m' ((c.tc : Thread Cert.HgrnFwdReferenceIdeal.nD Cert.HgrnFwdReferenceIdeal.τ).loc Cert.HgrnFwdReferenceIdeal.main_arg2)
          ∧ r.2.mem ((c.tc : Thread Cert.HgrnFwdReferenceIdeal.nD Cert.HgrnFwdReferenceIdeal.τ).loc Cert.HgrnFwdReferenceIdeal.main_arg3) = m' ((c.tc : Thread Cert.HgrnFwdReferenceIdeal.nD Cert.HgrnFwdReferenceIdeal.τ).loc Cert.HgrnFwdReferenceIdeal.main_arg3))

def preserves_SwaFwd_SwaFwdIdeal : Prop :=
  True

def algebraic_SwaFwdIdeal_SwaFwdReferenceIdeal_on_swa_later_pre_swa_finite [hSwaFwdIdeal : Cert.SwaFwdIdeal.Facts] [hSwaFwdReferenceIdeal : Cert.SwaFwdReferenceIdeal.Facts] [hPre_swa_finite : Cert.Pre_swa_finite.Facts] [hOn_swa_later : Cert.On_swa_later.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdReferenceIdeal.nD Cert.SwaFwdReferenceIdeal.τ Cert.SwaFwdReferenceIdeal.sig) → Buf (Elt Ideal) ℓ) (g' : Dev Cert.SwaFwdReferenceIdeal.nD → PrngReg), Pre_SwaFwdIdeal_swa_finite m →
    (∀ c : Dev Cert.SwaFwdIdeal.nD,
      m' ((c.tc : Thread Cert.SwaFwdReferenceIdeal.nD Cert.SwaFwdReferenceIdeal.τ).loc Cert.SwaFwdReferenceIdeal.main_arg0) = m ((c.tc : Thread Cert.SwaFwdIdeal.nD Cert.SwaFwdIdeal.τ).loc Cert.SwaFwdIdeal.main_arg0)
      ∧ m' ((c.tc : Thread Cert.SwaFwdReferenceIdeal.nD Cert.SwaFwdReferenceIdeal.τ).loc Cert.SwaFwdReferenceIdeal.main_arg1) = m ((c.tc : Thread Cert.SwaFwdIdeal.nD Cert.SwaFwdIdeal.τ).loc Cert.SwaFwdIdeal.main_arg1)
      ∧ m' ((c.tc : Thread Cert.SwaFwdReferenceIdeal.nD Cert.SwaFwdReferenceIdeal.τ).loc Cert.SwaFwdReferenceIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v13)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          (∀ i : (⟨2, ![8192, 1024]⟩ : Shape).Idx, (Cert.On_swa_later.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) i = 1#1 → r.2.mem ((c.tc : Thread Cert.SwaFwdIdeal.nD Cert.SwaFwdIdeal.τ).loc Cert.SwaFwdIdeal.main_v13) i = v0 c i)
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdReferenceIdeal.defs (F := Ideal)) (onTc (τ := Cert.SwaFwdReferenceIdeal.τ) (Cert.SwaFwdReferenceIdeal.main (F := Ideal))) ⟨m', fun _ => 0, g'⟩ (fun r => ∀ c : Dev Cert.SwaFwdReferenceIdeal.nD,
          (∀ i : (⟨2, ![8192, 1024]⟩ : Shape).Idx, (Cert.On_swa_later.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) i = 1#1 → r.2.mem ((c.tc : Thread Cert.SwaFwdReferenceIdeal.nD Cert.SwaFwdReferenceIdeal.τ).loc Cert.SwaFwdReferenceIdeal.main_v55) i = v0 c i)
          ∧ r.2.mem ((c.tc : Thread Cert.SwaFwdReferenceIdeal.nD Cert.SwaFwdReferenceIdeal.τ).loc Cert.SwaFwdReferenceIdeal.main_arg0) = m' ((c.tc : Thread Cert.SwaFwdReferenceIdeal.nD Cert.SwaFwdReferenceIdeal.τ).loc Cert.SwaFwdReferenceIdeal.main_arg0)
          ∧ r.2.mem ((c.tc : Thread Cert.SwaFwdReferenceIdeal.nD Cert.SwaFwdReferenceIdeal.τ).loc Cert.SwaFwdReferenceIdeal.main_arg1) = m' ((c.tc : Thread Cert.SwaFwdReferenceIdeal.nD Cert.SwaFwdReferenceIdeal.τ).loc Cert.SwaFwdReferenceIdeal.main_arg1)
          ∧ r.2.mem ((c.tc : Thread Cert.SwaFwdReferenceIdeal.nD Cert.SwaFwdReferenceIdeal.τ).loc Cert.SwaFwdReferenceIdeal.main_arg2) = m' ((c.tc : Thread Cert.SwaFwdReferenceIdeal.nD Cert.SwaFwdReferenceIdeal.τ).loc Cert.SwaFwdReferenceIdeal.main_arg2))

def Claim : Prop :=
  ∃ (hMemBwd : Cert.MemBwd.Facts) (hMemBwdIdeal : Cert.MemBwdIdeal.Facts) (hMemReferenceIdeal : Cert.MemReferenceIdeal.Facts) (hMlpLoss : Cert.MlpLoss.Facts) (hMlpLossIdeal : Cert.MlpLossIdeal.Facts) (hMlpReferenceIdeal : Cert.MlpReferenceIdeal.Facts) (hMergeFwd : Cert.MergeFwd.Facts) (hMergeFwdIdeal : Cert.MergeFwdIdeal.Facts) (hMergeFwdReferenceIdeal : Cert.MergeFwdReferenceIdeal.Facts) (hGradDown : Cert.GradDown.Facts) (hGradDownIdeal : Cert.GradDownIdeal.Facts) (hGradDownReferenceIdeal : Cert.GradDownReferenceIdeal.Facts) (hGradUp : Cert.GradUp.Facts) (hGradUpIdeal : Cert.GradUpIdeal.Facts) (hGradUpReferenceIdeal : Cert.GradUpReferenceIdeal.Facts) (hGradInA : Cert.GradInA.Facts) (hGradInAIdeal : Cert.GradInAIdeal.Facts) (hGradInAReferenceIdeal : Cert.GradInAReferenceIdeal.Facts) (hGradInB : Cert.GradInB.Facts) (hGradInBIdeal : Cert.GradInBIdeal.Facts) (hGradInBReferenceIdeal : Cert.GradInBReferenceIdeal.Facts) (hGradInD : Cert.GradInD.Facts) (hGradInDIdeal : Cert.GradInDIdeal.Facts) (hGradInDReferenceIdeal : Cert.GradInDReferenceIdeal.Facts) (hGradXHead : Cert.GradXHead.Facts) (hGradXHeadIdeal : Cert.GradXHeadIdeal.Facts) (hGradXHeadReferenceIdeal : Cert.GradXHeadReferenceIdeal.Facts) (hGradXTail : Cert.GradXTail.Facts) (hGradXTailIdeal : Cert.GradXTailIdeal.Facts) (hGradXTailReferenceIdeal : Cert.GradXTailReferenceIdeal.Facts) (hProjB : Cert.ProjB.Facts) (hProjBIdeal : Cert.ProjBIdeal.Facts) (hProjBReferenceIdeal : Cert.ProjBReferenceIdeal.Facts) (hMemKv : Cert.MemKv.Facts) (hMemKvIdeal : Cert.MemKvIdeal.Facts) (hMemKvReferenceIdeal : Cert.MemKvReferenceIdeal.Facts) (hGradKv : Cert.GradKv.Facts) (hGradKvIdeal : Cert.GradKvIdeal.Facts) (hGradKvReferenceIdeal : Cert.GradKvReferenceIdeal.Facts) (hMemFwd : Cert.MemFwd.Facts) (hMemFwdIdeal : Cert.MemFwdIdeal.Facts) (hMemFwdReferenceIdeal : Cert.MemFwdReferenceIdeal.Facts) (hHgrnFwd : Cert.HgrnFwd.Facts) (hHgrnFwdIdeal : Cert.HgrnFwdIdeal.Facts) (hHgrnFwdReferenceIdeal : Cert.HgrnFwdReferenceIdeal.Facts) (hSwaFwd : Cert.SwaFwd.Facts) (hSwaFwdIdeal : Cert.SwaFwdIdeal.Facts) (hSwaFwdReferenceIdeal : Cert.SwaFwdReferenceIdeal.Facts) (hPre_mem_finite : Cert.Pre_mem_finite.Facts) (hPre_mlp_finite : Cert.Pre_mlp_finite.Facts) (hPre_swa_finite : Cert.Pre_swa_finite.Facts) (hOn_mem_written : Cert.On_mem_written.Facts) (hOn_swa_later : Cert.On_swa_later.Facts),
    quiescent_MemBwd (hMemBwd := hMemBwd)
    ∧ quiescent_MemBwdIdeal (hMemBwdIdeal := hMemBwdIdeal)
    ∧ quiescent_MemBwdIdeal_pre_mem_finite (hMemBwdIdeal := hMemBwdIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_MlpLoss (hMlpLoss := hMlpLoss)
    ∧ quiescent_MlpLossIdeal (hMlpLossIdeal := hMlpLossIdeal)
    ∧ quiescent_MlpLossIdeal_pre_mlp_finite (hMlpLossIdeal := hMlpLossIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_GradInA (hGradInA := hGradInA)
    ∧ quiescent_GradInAIdeal (hGradInAIdeal := hGradInAIdeal)
    ∧ quiescent_GradInAReferenceIdeal (hGradInAReferenceIdeal := hGradInAReferenceIdeal)
    ∧ quiescent_GradInB (hGradInB := hGradInB)
    ∧ quiescent_GradInBIdeal (hGradInBIdeal := hGradInBIdeal)
    ∧ quiescent_GradInBReferenceIdeal (hGradInBReferenceIdeal := hGradInBReferenceIdeal)
    ∧ quiescent_GradInD (hGradInD := hGradInD)
    ∧ quiescent_GradInDIdeal (hGradInDIdeal := hGradInDIdeal)
    ∧ quiescent_GradInDReferenceIdeal (hGradInDReferenceIdeal := hGradInDReferenceIdeal)
    ∧ quiescent_GradXHead (hGradXHead := hGradXHead)
    ∧ quiescent_GradXHeadIdeal (hGradXHeadIdeal := hGradXHeadIdeal)
    ∧ quiescent_GradXHeadReferenceIdeal (hGradXHeadReferenceIdeal := hGradXHeadReferenceIdeal)
    ∧ quiescent_GradXTail (hGradXTail := hGradXTail)
    ∧ quiescent_GradXTailIdeal (hGradXTailIdeal := hGradXTailIdeal)
    ∧ quiescent_GradXTailReferenceIdeal (hGradXTailReferenceIdeal := hGradXTailReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_GradKv (hGradKv := hGradKv)
    ∧ quiescent_GradKvIdeal (hGradKvIdeal := hGradKvIdeal)
    ∧ quiescent_GradKvReferenceIdeal (hGradKvReferenceIdeal := hGradKvReferenceIdeal)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ quiescent_HgrnFwd (hHgrnFwd := hHgrnFwd)
    ∧ quiescent_HgrnFwdIdeal (hHgrnFwdIdeal := hHgrnFwdIdeal)
    ∧ quiescent_HgrnFwdReferenceIdeal (hHgrnFwdReferenceIdeal := hHgrnFwdReferenceIdeal)
    ∧ quiescent_SwaFwd (hSwaFwd := hSwaFwd)
    ∧ quiescent_SwaFwdIdeal (hSwaFwdIdeal := hSwaFwdIdeal)
    ∧ quiescent_SwaFwdIdeal_pre_swa_finite (hSwaFwdIdeal := hSwaFwdIdeal) (hPre_swa_finite := hPre_swa_finite)
    ∧ quiescent_SwaFwdReferenceIdeal (hSwaFwdReferenceIdeal := hSwaFwdReferenceIdeal)
    ∧ quiescent_SwaFwdReferenceIdeal_pre_swa_finite (hSwaFwdReferenceIdeal := hSwaFwdReferenceIdeal) (hPre_swa_finite := hPre_swa_finite)
    ∧ preserves_MemBwd_MemBwdIdeal
    ∧ algebraic_MemBwdIdeal_MemReferenceIdeal_on_mem_written_pre_mem_finite (hMemBwdIdeal := hMemBwdIdeal) (hMemReferenceIdeal := hMemReferenceIdeal) (hPre_mem_finite := hPre_mem_finite) (hOn_mem_written := hOn_mem_written)
    ∧ preserves_MlpLoss_MlpLossIdeal
    ∧ algebraic_MlpLossIdeal_MlpReferenceIdeal_pre_mlp_finite (hMlpLossIdeal := hMlpLossIdeal) (hMlpReferenceIdeal := hMlpReferenceIdeal) (hPre_mlp_finite := hPre_mlp_finite)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradUp_GradUpIdeal
    ∧ algebraic_GradUpIdeal_GradUpReferenceIdeal (hGradUpIdeal := hGradUpIdeal) (hGradUpReferenceIdeal := hGradUpReferenceIdeal)
    ∧ preserves_GradInA_GradInAIdeal
    ∧ algebraic_GradInAIdeal_GradInAReferenceIdeal (hGradInAIdeal := hGradInAIdeal) (hGradInAReferenceIdeal := hGradInAReferenceIdeal)
    ∧ preserves_GradInB_GradInBIdeal
    ∧ algebraic_GradInBIdeal_GradInBReferenceIdeal (hGradInBIdeal := hGradInBIdeal) (hGradInBReferenceIdeal := hGradInBReferenceIdeal)
    ∧ preserves_GradInD_GradInDIdeal
    ∧ algebraic_GradInDIdeal_GradInDReferenceIdeal (hGradInDIdeal := hGradInDIdeal) (hGradInDReferenceIdeal := hGradInDReferenceIdeal)
    ∧ preserves_GradXHead_GradXHeadIdeal
    ∧ algebraic_GradXHeadIdeal_GradXHeadReferenceIdeal (hGradXHeadIdeal := hGradXHeadIdeal) (hGradXHeadReferenceIdeal := hGradXHeadReferenceIdeal)
    ∧ preserves_GradXTail_GradXTailIdeal
    ∧ algebraic_GradXTailIdeal_GradXTailReferenceIdeal (hGradXTailIdeal := hGradXTailIdeal) (hGradXTailReferenceIdeal := hGradXTailReferenceIdeal)
    ∧ preserves_ProjB_ProjBIdeal
    ∧ algebraic_ProjBIdeal_ProjBReferenceIdeal (hProjBIdeal := hProjBIdeal) (hProjBReferenceIdeal := hProjBReferenceIdeal)
    ∧ preserves_MemKv_MemKvIdeal
    ∧ algebraic_MemKvIdeal_MemKvReferenceIdeal (hMemKvIdeal := hMemKvIdeal) (hMemKvReferenceIdeal := hMemKvReferenceIdeal)
    ∧ preserves_GradKv_GradKvIdeal
    ∧ algebraic_GradKvIdeal_GradKvReferenceIdeal (hGradKvIdeal := hGradKvIdeal) (hGradKvReferenceIdeal := hGradKvReferenceIdeal)
    ∧ preserves_MemFwd_MemFwdIdeal
    ∧ algebraic_MemFwdIdeal_MemFwdReferenceIdeal (hMemFwdIdeal := hMemFwdIdeal) (hMemFwdReferenceIdeal := hMemFwdReferenceIdeal)
    ∧ preserves_HgrnFwd_HgrnFwdIdeal
    ∧ algebraic_HgrnFwdIdeal_HgrnFwdReferenceIdeal (hHgrnFwdIdeal := hHgrnFwdIdeal) (hHgrnFwdReferenceIdeal := hHgrnFwdReferenceIdeal)
    ∧ preserves_SwaFwd_SwaFwdIdeal
    ∧ algebraic_SwaFwdIdeal_SwaFwdReferenceIdeal_on_swa_later_pre_swa_finite (hSwaFwdIdeal := hSwaFwdIdeal) (hSwaFwdReferenceIdeal := hSwaFwdReferenceIdeal) (hPre_swa_finite := hPre_swa_finite) (hOn_swa_later := hOn_swa_later)
-- ==== On_mem_written.lean ====
abbrev S8192x1024 : Shape := ⟨2, ![8192, 1024]⟩
abbrev S256x2048 : Shape := ⟨2, ![256, 2048]⟩
abbrev S9472x1024 : Shape := ⟨2, ![9472, 1024]⟩
abbrev S_ : Shape := ⟨0, ![]⟩

class Facts : Prop where
  bcast_S_S8192x1024 : S_.BroadcastsInDim S8192x1024 (![] : Fin 0 → Fin S8192x1024.rank)
  bcast_S_S256x2048 : S_.BroadcastsInDim S256x2048 (![] : Fin 0 → Fin S256x2048.rank)
  bcast_S_S9472x1024 : S_.BroadcastsInDim S9472x1024 (![] : Fin 0 → Fin S9472x1024.rank)

variable [Facts]

def fn {F : FTy → Type} [FloatOps F] (main_arg0 : FVec F S8192x1024 .bf16) (main_arg1 : FVec F S8192x1024 .bf16) (main_arg2 : FVec F S8192x1024 .bf16) (main_arg3 : FVec F S256x2048 .bf16) : IVec S8192x1024 1 × IVec S256x2048 1 × IVec S9472x1024 1 :=
  let main_v0 : IVec S9472x1024 32 := iotaInDim S9472x1024 32 0
  let main_c : IVec S_ 1 := constantI S_ 1 1#1
  let main_v1 : IVec S8192x1024 1 := broadcastInDim S8192x1024 ![] bcast_S_S8192x1024 main_c
  let main_c_0 : IVec S_ 1 := constantI S_ 1 1#1
  let main_v2 : IVec S256x2048 1 := broadcastInDim S256x2048 ![] bcast_S_S256x2048 main_c_0
  let main_c_1 : IVec S_ 32 := constantI S_ 32 5376#32
  let main_v3 : IVec S9472x1024 32 := broadcastInDim S9472x1024 ![] bcast_S_S9472x1024 main_c_1
  let main_v4 : IVec S9472x1024 1 := cmpi .sge main_v0 main_v3
  let main_c_2 : IVec S_ 32 := constantI S_ 32 6400#32
  let main_v5 : IVec S9472x1024 32 := broadcastInDim S9472x1024 ![] bcast_S_S9472x1024 main_c_2
  let main_v6 : IVec S9472x1024 1 := cmpi .slt main_v0 main_v5
  let main_v7 : IVec S9472x1024 1 := andi main_v4 main_v6
  (main_v1, main_v2, main_v7)
-- ==== On_swa_later.lean ====
abbrev S8192x1280 : Shape := ⟨2, ![8192, 1280]⟩
abbrev S16x32768 : Shape := ⟨2, ![16, 32768]⟩
abbrev S1x16 : Shape := ⟨2, ![1, 16]⟩
abbrev S8192 : Shape := ⟨1, ![8192]⟩
abbrev S8192x1 : Shape := ⟨2, ![8192, 1]⟩
abbrev S_ : Shape := ⟨0, ![]⟩
abbrev S8192x1024 : Shape := ⟨2, ![8192, 1024]⟩

class Facts : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)

variable [Facts]

def fn {F : FTy → Type} [FloatOps F] (main_arg0 : FVec F S8192x1280 .bf16) (main_arg1 : FVec F S16x32768 .f32) (main_arg2 : FVec F S1x16 .f32) : IVec S8192x1024 1 :=
  let main_v0 : IVec S8192 32 := iotaInDim S8192 32 0
  let main_v1 : IVec S8192x1 32 := broadcastInDim S8192x1 ![0] bcast_S8192_S8192x1_0 main_v0
  let main_c : IVec S_ 32 := constantI S_ 32 128#32
  let main_v2 : IVec S8192x1 32 := broadcastInDim S8192x1 ![] bcast_S_S8192x1 main_c
  let main_v3 : IVec S8192x1 1 := cmpi .sge main_v1 main_v2
  let main_v4 : IVec S8192x1024 1 := broadcastInDim S8192x1024 ![0, 1] bcast_S8192x1_S8192x1024_0_1 main_v3
  main_v4
-- ==== Pre_mem_finite.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .bf16) (main_arg1 : FVec F S8192x1024 .bf16) (main_arg2 : FVec F S8192x1024 .bf16) (main_arg3 : FVec F S256x2048 .bf16) : IVec S_ 1 :=
  let main_v0 : FVec F S8192x1024 .f32 := (extf .f32 · bitsLt_bf16_f32) main_arg1
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg3
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  main_v10
-- ==== Pre_mlp_finite.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S4096x1024 .bf16) (main_v28 : IVec S_ 1) (main_v33 : IVec S_ 1) : IVec S_ 1 :=
  let main_v34 : IVec S_ 1 := andi main_v28 main_v33
  let main_v35 : FVec F S4096x1024 .f32 := (extf .f32 · bitsLt_bf16_f32) main_arg7
  let main_v36 : FVec F S4096x1024 .f32 := Host.absf main_v35
  let main_cst_12 : FVec F S_ .f32 := constant S_ .f32 0x7F800000#32
  let main_v37 : FVec F S4096x1024 .f32 := broadcastInDim S4096x1024 ![] bcast_S_S4096x1024 main_cst_12
  let main_v38 : IVec S4096x1024 1 := cmpf .olt main_v36 main_v37
  let main_c_13 : IVec S_ 1 := constantI S_ 1 1#1
  let main_v39 : IVec S_ 1 := (fun x v => Host.reduce IntOp.andi x v reducesTo_S4096x1024_S_d0_1 h_S_) main_v38 main_c_13
  let main_v40 : IVec S_ 1 := andi main_v34 main_v39
  main_v40

def fn_part1 {F : FTy → Type} [FloatOps F] (main_arg4 : FVec F S1x1024 .f32) (main_arg5 : FVec F S1x1024 .f32) (main_arg6 : FVec F S1024x4096 .bf16) (main_arg7 : FVec F S4096x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x4096 .f32 := (extf .f32 · bitsLt_bf16_f32) main_arg6
  let main_v30 : FVec F S1024x4096 .f32 := Host.absf main_v29
  let main_cst_10 : FVec F S_ .f32 := constant S_ .f32 0x7F800000#32
  let main_v31 : FVec F S1024x4096 .f32 := broadcastInDim S1024x4096 ![] bcast_S_S1024x4096 main_cst_10
  let main_v32 : IVec S1024x4096 1 := cmpf .olt main_v30 main_v31
  let main_c_11 : IVec S_ 1 := constantI S_ 1 1#1
  let main_v33 : IVec S_ 1 := (fun x v => Host.reduce IntOp.andi x v reducesTo_S1024x4096_S_d0_1 h_S_) main_v32 main_c_11
  fn_part2 (F := F) main_arg7 main_v28 main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x4096 .bf16) (main_arg7 : FVec F S4096x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_swa_finite.lean ====
abbrev S8192x1280 : Shape := ⟨2, ![8192, 1280]⟩
abbrev S16x32768 : Shape := ⟨2, ![16, 32768]⟩
abbrev S1x16 : Shape := ⟨2, ![1, 16]⟩
abbrev S_ : Shape := ⟨0, ![]⟩

class Facts : Prop where
  bitsLt_bf16_f32 : FTy.bits .bf16 < FTy.bits .f32
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S16x32768 : S_.BroadcastsInDim S16x32768 (![] : Fin 0 → Fin S16x32768.rank)
  reducesTo_S16x32768_S_d0_1 : S16x32768.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x1280 .bf16) (main_arg1 : FVec F S16x32768 .f32) (main_arg2 : FVec F S1x16 .f32) : IVec S_ 1 :=
  let main_v0 : FVec F S8192x1280 .f32 := (extf .f32 · bitsLt_bf16_f32) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_c : IVec S_ 1 := constantI S_ 1 1#1
  let main_v4 : IVec S_ 1 := (fun x v => Host.reduce IntOp.andi x v reducesTo_S8192x1280_S_d0_1 h_S_) main_v3 main_c
  let main_cst_0 : FVec F S_ .f32 := constant S_ .f32 0x7F800000#32
  let main_v5 : FVec F S16x32768 .f32 := broadcastInDim S16x32768 ![] bcast_S_S16x32768 main_cst_0
  let main_v6 : IVec S16x32768 1 := cmpf .olt main_arg1 main_v5
  let main_c_1 : IVec S_ 1 := constantI S_ 1 1#1
  let main_v7 : IVec S_ 1 := (fun x v => Host.reduce IntOp.andi x v reducesTo_S16x32768_S_d0_1 h_S_) main_v6 main_c_1
  let main_v8 : IVec S_ 1 := andi main_v4 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== MemBwd.lean ====
abbrev S8192x1024 : Shape := ⟨2, ![8192, 1024]⟩
abbrev S256x2048 : Shape := ⟨2, ![256, 2048]⟩
abbrev S9472x1024 : Shape := ⟨2, ![9472, 1024]⟩
abbrev S512x1024 : Shape := ⟨2, ![512, 1024]⟩
abbrev S1024x1024 : Shape := ⟨2, ![1024, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S256x2048, .bf16⟩
  | .hbm, ⟨4, _⟩ => ⟨S8192x1024, .bf16⟩
  | .hbm, ⟨5, _⟩ => ⟨S256x2048, .f32⟩
  | .hbm, ⟨6, _⟩ => ⟨S9472x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S256x2048, .bf16⟩
  | .local _ .vmem, ⟨7, _⟩ => ⟨S512x1024, .bf16⟩
  | .local _ .vmem, ⟨8, _⟩ => ⟨S512x1024, .bf16⟩
  | .local _ .vmem, ⟨9, _⟩ => ⟨S256x2048, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S_ : Shape := ⟨0, ![]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024x1024 : Shape := ⟨2, ![1024, 1024]⟩
abbrev S5376x1024 : Shape := ⟨2, ![5376, 1024]⟩
abbrev S3072x1024 : Shape := ⟨2, ![3072, 1024]⟩
abbrev S9472x1024 : Shape := ⟨2, ![9472, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S256x2048, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S256x2048, .f32⟩
  | .hbm, ⟨8, _⟩ => ⟨S256x1024, .f32⟩
  | .hbm, ⟨9, _⟩ => ⟨S256x1024, .f32⟩
  | .hbm, ⟨10, _⟩ => ⟨S8192x4x256, .f32⟩
  | .hbm, ⟨11, _⟩ => ⟨S_, .f32⟩
  | .hbm, ⟨12, _⟩ => ⟨S8192x4x256, .f32⟩
  | .hbm, ⟨13, _⟩ => ⟨S8192x4x256, .f32⟩
  | .hbm, ⟨14, _⟩ => ⟨S256x4x256, .f32⟩
  | .hbm, ⟨15, _⟩ => ⟨S256x4x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x256x8192, .f32⟩
  | .hbm, ⟨56, _⟩ => ⟨S8192x4x256, .f32⟩
  | .hbm, ⟨57, _⟩ => ⟨S8192x1024, .f32⟩
  | .hbm, ⟨58, _⟩ => ⟨S8192x4x256, .f32⟩
  | .hbm, ⟨59, _⟩ => ⟨S4x256x8192, .f32⟩
  | .hbm, ⟨60, _⟩ => ⟨S4x8192x256, .f32⟩
  | .hbm, ⟨61, _⟩ => ⟨S4x256x256, .f32⟩
  | .hbm, ⟨62, _⟩ => ⟨S256x4x256, .f32⟩
  | .hbm, ⟨63, _⟩ => ⟨S4x8192x256, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S4x8192x1, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192, .f32⟩
  | .hbm, ⟨74, _⟩ => ⟨S4x8192x256, .f32⟩
  | .hbm, ⟨75, _⟩ => ⟨S4x8192x256, .f32⟩
  | .hbm, ⟨76, _⟩ => ⟨S4x8192x256, .f32⟩
  | .hbm, ⟨77, _⟩ => ⟨S4x256x256, .f32⟩
  | .hbm, ⟨78, _⟩ => ⟨S256x4x256, .f32⟩
  | .hbm, ⟨79, _⟩ => ⟨S4x8192x256, .f32⟩
  | .hbm, ⟨80, _⟩ => ⟨S8192x4x256, .f32⟩
  | .hbm, ⟨81, _⟩ => ⟨S256x1024, .f32⟩
  | .hbm, ⟨82, _⟩ => ⟨S256x1024, .f32⟩
  | .hbm, ⟨83, _⟩ => ⟨S_, .f32⟩
  | .hbm, ⟨84, _⟩ => ⟨S8192x4x256, .f32⟩
  | .hbm, ⟨85, _⟩ => ⟨S8192x4x256, .f32⟩
  | .hbm, ⟨86, _⟩ => ⟨S8192x1024, .f32⟩
  | .hbm, ⟨87, _⟩ => ⟨S_, .f32⟩
  | .hbm, ⟨88, _⟩ => ⟨S1024x1024, .f32⟩
  | .hbm, ⟨89, _⟩ => ⟨S8192x1024, .f32⟩
  | .hbm, ⟨90, _⟩ => ⟨S1024x1024, .f32⟩
  | .hbm, ⟨91, _⟩ => ⟨S1024x1024, .f32⟩
  | .hbm, ⟨92, _⟩ => ⟨S_, .f32⟩
  | .hbm, ⟨93, _⟩ => ⟨S5376x1024, .f32⟩
  | .hbm, ⟨94, _⟩ => ⟨S_, .f32⟩
  | .hbm, ⟨95, _⟩ => ⟨S3072x1024, .f32⟩
  | .hbm, ⟨96, _⟩ => ⟨S1024x1024, .f32⟩
  | .hbm, ⟨97, _⟩ => ⟨S9472x1024, .f32⟩
  | .hbm, ⟨98, _⟩ => ⟨S8192x1024, .bf16⟩
  | .hbm, ⟨99, _⟩ => ⟨S256x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== MlpLoss.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S8x1024 : Shape := ⟨2, ![8, 1024]⟩
abbrev S256x1024 : Shape := ⟨2, ![256, 1024]⟩
abbrev S256x1 : Shape := ⟨2, ![256, 1]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S1024 : Shape := ⟨1, ![1024]⟩

abbrev nBuf : Space → Nat
  | .hbm => 38
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S1024x4x1024, .bf16⟩
  | .hbm, ⟨28, _⟩ => ⟨S4x1024x1024, .bf16⟩
  | .hbm, ⟨29, _⟩ => ⟨S4x1024x1024, .bf16⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x4096, .bf16⟩
  | .hbm, ⟨36, _⟩ => ⟨S8192x4096, .bf16⟩
  | .hbm, ⟨37, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x1024x1024, .bf16⟩
  | .local _ .vmem, ⟨11, _⟩ => ⟨S4x1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlpReferenceIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S3x1024 : Shape := ⟨2, ![3, 1024]⟩
abbrev S8x1024 : Shape := ⟨2, ![8, 1024]⟩

abbrev nBuf : Space → Nat
  | .hbm => 209
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x4096, .bf16⟩
  | 7 => ⟨S4096x1024, .bf16⟩
  | 8 => ⟨S_, .f32⟩
  | 9 => ⟨S8192x4096, .f32⟩
  | 10 => ⟨S_, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S1024x4096, .f32⟩
  | 42 => ⟨S8192x4096, .f32⟩
  | 43 => ⟨S8192x4096, .f32⟩
  | 44 => ⟨S_, .f32⟩
  | 45 => ⟨S8192x4096, .f32⟩
  | 46 => ⟨S8192x4096, .f32⟩
  | 47 => ⟨S_, .f32⟩
  | 48 => ⟨S8192x4096, .f32⟩
  | 49 => ⟨S8192x4096, .i1⟩
  | 50 => ⟨S_, .f32⟩
  | 51 => ⟨S8192x4096, .f32⟩
  | 52 => ⟨S8192x4096, .f32⟩
  | 53 => ⟨S_, .f32⟩
  | 54 => ⟨S8192x4096, .f32⟩
  | 55 => ⟨S8192x4096, .f32⟩
  | 56 => ⟨S4096x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192, .f32⟩
  | 99 => ⟨S_, .f32⟩
  | 100 => ⟨S8192, .f32⟩
  | 101 => ⟨S8192, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S8192, .f32⟩
  | 110 => ⟨S_, .f32⟩
  | 111 => ⟨S8192, .f32⟩
  | 112 => ⟨S8192, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S8192x1024, .f32⟩
  | 48 => ⟨S8192x1024, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S3x1024, .f32⟩
  | 76 => ⟨S8x1024, .f32⟩
  | 77 => ⟨S8192x1024, .bf16⟩
  | 78 => ⟨S8192x1024, .bf16⟩
  | 79 => ⟨S8192x4096, .bf16⟩
  | 80 => ⟨S8192x4096, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_v70 : Ref sig .tc := ⟨.hbm, 101, rfl⟩
abbrev main_cst_20 : Ref sig .tc := ⟨.hbm, 102, rfl⟩
abbrev main_v71 : Ref sig .tc := ⟨.hbm, 103, rfl⟩
abbrev main_cst_21 : Ref sig .tc := ⟨.hbm, 104, rfl⟩
abbrev main_v72 : Ref sig .tc := ⟨.hbm, 105, rfl⟩
abbrev main_cst_22 : Ref sig .tc := ⟨.hbm, 106, rfl⟩
abbrev main_cst_23 : Ref sig .tc := ⟨.hbm, 107, rfl⟩
abbrev main_v73 : Ref sig .tc := ⟨.hbm, 108, rfl⟩
abbrev main_v74 : Ref sig .tc := ⟨.hbm, 109, rfl⟩
abbrev main_cst_24 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_25 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_26 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_27 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_28 : Ref sig .tc := ⟨.hbm, 131, rfl⟩
abbrev main_v92 : Ref sig .tc := ⟨.hbm, 132, rfl⟩
abbrev main_v93 : Ref sig .tc := ⟨.hbm, 133, rfl⟩
abbrev main_cst_29 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_30 : Ref sig .tc := ⟨.hbm, 142, rfl⟩
abbrev main_v101 : Ref sig .tc := ⟨.hbm, 143, rfl⟩
abbrev main_v102 : Ref sig .tc := ⟨.hbm, 144, rfl⟩
abbrev main_cst_31 : Ref sig .tc := ⟨.hbm, 145, rfl⟩
abbrev main_v103 : Ref sig .tc := ⟨.hbm, 146, rfl⟩
abbrev main_v104 : Ref sig .tc := ⟨.hbm, 147, rfl⟩
abbrev main_cst_32 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_33 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_34 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_35 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_36 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_37 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_38 : Ref sig .tc := ⟨.hbm, 178, rfl⟩
abbrev main_v129 : Ref sig .tc := ⟨.hbm, 179, rfl⟩
abbrev main_v130 : Ref sig .tc := ⟨.hbm, 180, rfl⟩
abbrev main_cst_39 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_40 : Ref sig .tc := ⟨.hbm, 189, rfl⟩
abbrev main_v138 : Ref sig .tc := ⟨.hbm, 190, rfl⟩
abbrev main_v139 : Ref sig .tc := ⟨.hbm, 191, rfl⟩
abbrev main_cst_41 : Ref sig .tc := ⟨.hbm, 192, rfl⟩
abbrev main_v140 : Ref sig .tc := ⟨.hbm, 193, rfl⟩
abbrev main_v141 : Ref sig .tc := ⟨.hbm, 194, rfl⟩
abbrev main_cst_42 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_43 : Ref sig .tc := ⟨.hbm, 199, rfl⟩
abbrev main_v145 : Ref sig .tc := ⟨.hbm, 200, rfl⟩
abbrev main_v146 : Ref sig .tc := ⟨.hbm, 201, rfl⟩
abbrev main_cst_44 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩

abbrev nD : Nat := 1
abbrev τ : Topo := Topo.v7x

variable {F : FTy → Type} [FloatOps F]
-- ==== MergeFwd.lean ====
abbrev S8192x1024 : Shape := ⟨2, ![8192, 1024]⟩
abbrev S9472x1024 : Shape := ⟨2, ![9472, 1024]⟩
abbrev S1024x1024 : Shape := ⟨2, ![1024, 1024]⟩
abbrev S8192x3072 : Shape := ⟨2, ![8192, 3072]⟩
abbrev S8192x1 : Shape := ⟨2, ![8192, 1]⟩
abbrev S256x1024 : Shape := ⟨2, ![256, 1024]⟩
abbrev S3072x1024 : Shape := ⟨2, ![3072, 1024]⟩
abbrev S256x3072 : Shape := ⟨2, ![256, 3072]⟩
abbrev S256x1 : Shape := ⟨2, ![256, 1]⟩
abbrev S256 : Shape := ⟨1, ![256]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S9472x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8192x3072, .f32⟩
  | .hbm, ⟨10, _⟩ => ⟨S8192x1024, .f32⟩
  | .hbm, ⟨11, _⟩ => ⟨S8192x1, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S3072x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x3072, .f32⟩
  | .local _ .vmem, ⟨14, _⟩ => ⟨S256x3072, .f32⟩
  | .local _ .vmem, ⟨15, _⟩ => ⟨S256x1024, .f32⟩
  | .local _ .vmem, ⟨16, _⟩ => ⟨S256x1024, .f32⟩
  | .local _ .vmem, ⟨17, _⟩ => ⟨S256x1, .f32⟩
  | .local _ .vmem, ⟨18, _⟩ => ⟨S256x1, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6400_i32 : BitVec 32 := 6400#32
  let c0_i32 : BitVec 32 := 0#32
  let c0_i32_0 : BitVec 32 := 0#32
  ![c6400_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeFwdReferenceIdeal.lean ====
abbrev S8192x1024 : Shape := ⟨2, ![8192, 1024]⟩
abbrev S9472x1024 : Shape := ⟨2, ![9472, 1024]⟩
abbrev S1024x1024 : Shape := ⟨2, ![1024, 1024]⟩
abbrev S1024x9472 : Shape := ⟨2, ![1024, 9472]⟩
abbrev S8192x9472 : Shape := ⟨2, ![8192, 9472]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S9472x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S9472x1024, .f32⟩
  | .hbm, ⟨17, _⟩ => ⟨S1024x9472, .f32⟩
  | .hbm, ⟨18, _⟩ => ⟨S8192x9472, .f32⟩
  | .hbm, ⟨19, _⟩ => ⟨S8192x3072, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== GradDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradUp.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S2048x256 : Shape := ⟨2, ![2048, 256]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradInA.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInAReferenceIdeal.lean ====
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradInB.lean ====
abbrev S8192x1280 : Shape := ⟨2, ![8192, 1280]⟩
abbrev S8192x1024 : Shape := ⟨2, ![8192, 1024]⟩
abbrev S1280x1024 : Shape := ⟨2, ![1280, 1024]⟩
abbrev S2048x1280 : Shape := ⟨2, ![2048, 1280]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1280x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradInBReferenceIdeal.lean ====
abbrev S8192x1280 : Shape := ⟨2, ![8192, 1280]⟩
abbrev S8192x1024 : Shape := ⟨2, ![8192, 1024]⟩
abbrev S_ : Shape := ⟨0, ![]⟩
abbrev S1024x1280 : Shape := ⟨2, ![1024, 1280]⟩
abbrev S1280x1024 : Shape := ⟨2, ![1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1280, .f32⟩
  | .hbm, ⟨5, _⟩ => ⟨S8192x1280, .f32⟩
  | .hbm, ⟨6, _⟩ => ⟨S8192x1280, .f32⟩
  | .hbm, ⟨7, _⟩ => ⟨S1280x1024, .f32⟩
  | .hbm, ⟨8, _⟩ => ⟨S1024x1280, .f32⟩
  | .hbm, ⟨9, _⟩ => ⟨S1280x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradInD.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInDReferenceIdeal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradXHead.lean ====
abbrev S8192x4096 : Shape := ⟨2, ![8192, 4096]⟩
abbrev S8192x1280 : Shape := ⟨2, ![8192, 1280]⟩
abbrev S8192x1024 : Shape := ⟨2, ![8192, 1024]⟩
abbrev S8192x3072 : Shape := ⟨2, ![8192, 3072]⟩
abbrev S9472x1024 : Shape := ⟨2, ![9472, 1024]⟩
abbrev S1536x1024 : Shape := ⟨2, ![1536, 1024]⟩
abbrev S512x4096 : Shape := ⟨2, ![512, 4096]⟩
abbrev S512x1280 : Shape := ⟨2, ![512, 1280]⟩
abbrev S512x1024 : Shape := ⟨2, ![512, 1024]⟩
abbrev S512x3072 : Shape := ⟨2, ![512, 3072]⟩
abbrev S4096x1024 : Shape := ⟨2, ![4096, 1024]⟩
abbrev S1280x1024 : Shape := ⟨2, ![1280, 1024]⟩
abbrev S1024x1024 : Shape := ⟨2, ![1024, 1024]⟩
abbrev S3072x1024 : Shape := ⟨2, ![3072, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .bf16⟩
  | .hbm, ⟨2, _⟩ => ⟨S8192x1024, .bf16⟩
  | .hbm, ⟨3, _⟩ => ⟨S8192x3072, .bf16⟩
  | .hbm, ⟨4, _⟩ => ⟨S9472x1024, .bf16⟩
  | .hbm, ⟨5, _⟩ => ⟨S8192x1024, .f32⟩
  | .hbm, ⟨6, _⟩ => ⟨S1536x1024, .f32⟩
  | .local _ .vmem, ⟨0, _⟩ => ⟨S512x4096, .bf16⟩
  | .local _ .vmem, ⟨1, _⟩ => ⟨S512x4096, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S9472x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9472x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GradXHeadReferenceIdeal.lean ====
abbrev S8192x4096 : Shape := ⟨2, ![8192, 4096]⟩
abbrev S8192x1280 : Shape := ⟨2, ![8192, 1280]⟩
abbrev S8192x1024 : Shape := ⟨2, ![8192, 1024]⟩
abbrev S8192x3072 : Shape := ⟨2, ![8192, 3072]⟩
abbrev S9472x1024 : Shape := ⟨2, ![9472, 1024]⟩
abbrev S1024x9472 : Shape := ⟨2, ![1024, 9472]⟩
abbrev S_ : Shape := ⟨0, ![]⟩
abbrev S8192x9472 : Shape := ⟨2, ![8192, 9472]⟩
abbrev S1536x1024 : Shape := ⟨2, ![1536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .bf16⟩
  | .hbm, ⟨2, _⟩ => ⟨S8192x1024, .bf16⟩
  | .hbm, ⟨3, _⟩ => ⟨S8192x3072, .bf16⟩
  | .hbm, ⟨4, _⟩ => ⟨S9472x1024, .bf16⟩
  | .hbm, ⟨5, _⟩ => ⟨S8192x1024, .f32⟩
  | .hbm, ⟨6, _⟩ => ⟨S9472x1024, .f32⟩
  | .hbm, ⟨7, _⟩ => ⟨S1024x9472, .f32⟩
  | .hbm, ⟨8, _⟩ => ⟨S_, .f32⟩
  | .hbm, ⟨9, _⟩ => ⟨S8192x1024, .f32⟩
  | .hbm, ⟨10, _⟩ => ⟨S8192x9472, .f32⟩
  | .hbm, ⟨11, _⟩ => ⟨S8192x4096, .f32⟩
  | .hbm, ⟨12, _⟩ => ⟨S8192x1280, .f32⟩
  | .hbm, ⟨13, _⟩ => ⟨S8192x1024, .f32⟩
  | .hbm, ⟨14, _⟩ => ⟨S8192x3072, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x1280, .f32⟩
  | .hbm, ⟨20, _⟩ => ⟨S8192x1024, .f32⟩
  | .hbm, ⟨21, _⟩ => ⟨S8192x3072, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x9472, .f32⟩
  | .hbm, ⟨27, _⟩ => ⟨S_, .f32⟩
  | .hbm, ⟨28, _⟩ => ⟨S8192x9472, .f32⟩
  | .hbm, ⟨29, _⟩ => ⟨S8192x9472, .f32⟩
  | .hbm, ⟨30, _⟩ => ⟨S_, .f32⟩
  | .hbm, ⟨31, _⟩ => ⟨S8192x9472, .f32⟩
  | .hbm, ⟨32, _⟩ => ⟨S8192x9472, .f32⟩
  | .hbm, ⟨33, _⟩ => ⟨S_, .f32⟩
  | .hbm, ⟨34, _⟩ => ⟨S8192x9472, .f32⟩
  | .hbm, ⟨35, _⟩ => ⟨S8192x9472, .f32⟩
  | .hbm, ⟨36, _⟩ => ⟨S8192x1024, .f32⟩
  | .hbm, ⟨37, _⟩ => ⟨S8192x1024, .f32⟩
  | .hbm, ⟨38, _⟩ => ⟨S1536x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== GradXTail.lean ====
abbrev S8192x4096 : Shape := ⟨2, ![8192, 4096]⟩
abbrev S8192x1280 : Shape := ⟨2, ![8192, 1280]⟩
abbrev S8192x1024 : Shape := ⟨2, ![8192, 1024]⟩
abbrev S8192x3072 : Shape := ⟨2, ![8192, 3072]⟩
abbrev S9472x1024 : Shape := ⟨2, ![9472, 1024]⟩
abbrev S6656x1024 : Shape := ⟨2, ![6656, 1024]⟩
abbrev S512x4096 : Shape := ⟨2, ![512, 4096]⟩
abbrev S512x1280 : Shape := ⟨2, ![512, 1280]⟩
abbrev S512x1024 : Shape := ⟨2, ![512, 1024]⟩
abbrev S512x3072 : Shape := ⟨2, ![512, 3072]⟩
abbrev S4096x1024 : Shape := ⟨2, ![4096, 1024]⟩
abbrev S1280x1024 : Shape := ⟨2, ![1280, 1024]⟩
abbrev S1024x1024 : Shape := ⟨2, ![1024, 1024]⟩
abbrev S3072x1024 : Shape := ⟨2, ![3072, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .bf16⟩
  | .hbm, ⟨2, _⟩ => ⟨S8192x1024, .bf16⟩
  | .hbm, ⟨3, _⟩ => ⟨S8192x3072, .bf16⟩
  | .hbm, ⟨4, _⟩ => ⟨S9472x1024, .bf16⟩
  | .hbm, ⟨5, _⟩ => ⟨S8192x1024, .f32⟩
  | .hbm, ⟨6, _⟩ => ⟨S6656x1024, .f32⟩
  | .local _ .vmem, ⟨0, _⟩ => ⟨S512x4096, .bf16⟩
  | .local _ .vmem, ⟨1, _⟩ => ⟨S512x4096, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S9472x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9472x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GradXTailReferenceIdeal.lean ====
abbrev S8192x4096 : Shape := ⟨2, ![8192, 4096]⟩
abbrev S8192x1280 : Shape := ⟨2, ![8192, 1280]⟩
abbrev S8192x1024 : Shape := ⟨2, ![8192, 1024]⟩
abbrev S8192x3072 : Shape := ⟨2, ![8192, 3072]⟩
abbrev S9472x1024 : Shape := ⟨2, ![9472, 1024]⟩
abbrev S1024x9472 : Shape := ⟨2, ![1024, 9472]⟩
abbrev S_ : Shape := ⟨0, ![]⟩
abbrev S8192x9472 : Shape := ⟨2, ![8192, 9472]⟩
abbrev S6656x1024 : Shape := ⟨2, ![6656, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1280, .bf16⟩
  | .hbm, ⟨2, _⟩ => ⟨S8192x1024, .bf16⟩
  | .hbm, ⟨3, _⟩ => ⟨S8192x3072, .bf16⟩
  | .hbm, ⟨4, _⟩ => ⟨S9472x1024, .bf16⟩
  | .hbm, ⟨5, _⟩ => ⟨S8192x1024, .f32⟩
  | .hbm, ⟨6, _⟩ => ⟨S9472x1024, .f32⟩
  | .hbm, ⟨7, _⟩ => ⟨S1024x9472, .f32⟩
  | .hbm, ⟨8, _⟩ => ⟨S_, .f32⟩
  | .hbm, ⟨9, _⟩ => ⟨S8192x1024, .f32⟩
  | .hbm, ⟨10, _⟩ => ⟨S8192x9472, .f32⟩
  | .hbm, ⟨11, _⟩ => ⟨S8192x4096, .f32⟩
  | .hbm, ⟨12, _⟩ => ⟨S8192x1280, .f32⟩
  | .hbm, ⟨13, _⟩ => ⟨S8192x1024, .f32⟩
  | .hbm, ⟨14, _⟩ => ⟨S8192x3072, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x1280, .f32⟩
  | .hbm, ⟨20, _⟩ => ⟨S8192x1024, .f32⟩
  | .hbm, ⟨21, _⟩ => ⟨S8192x3072, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x9472, .f32⟩
  | .hbm, ⟨27, _⟩ => ⟨S_, .f32⟩
  | .hbm, ⟨28, _⟩ => ⟨S8192x9472, .f32⟩
  | .hbm, ⟨29, _⟩ => ⟨S8192x9472, .f32⟩
  | .hbm, ⟨30, _⟩ => ⟨S_, .f32⟩
  | .hbm, ⟨31, _⟩ => ⟨S8192x9472, .f32⟩
  | .hbm, ⟨32, _⟩ => ⟨S8192x9472, .f32⟩
  | .hbm, ⟨33, _⟩ => ⟨S_, .f32⟩
  | .hbm, ⟨34, _⟩ => ⟨S8192x9472, .f32⟩
  | .hbm, ⟨35, _⟩ => ⟨S8192x9472, .f32⟩
  | .hbm, ⟨36, _⟩ => ⟨S8192x1024, .f32⟩
  | .hbm, ⟨37, _⟩ => ⟨S8192x1024, .f32⟩
  | .hbm, ⟨38, _⟩ => ⟨S6656x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== ProjB.lean ====
abbrev S8192x1024 : Shape := ⟨2, ![8192, 1024]⟩
abbrev S9472x1024 : Shape := ⟨2, ![9472, 1024]⟩
abbrev S8192x1280 : Shape := ⟨2, ![8192, 1280]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S9472x1024, .bf16⟩
  | .hbm, ⟨2, _⟩ => ⟨S8192x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .bf16⟩
  | .local _ .vmem, ⟨4, _⟩ => ⟨S1024x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_mult1 (i : grid0.Coords) : BitVec 32 :=
  let c4096_i32 : BitVec 32 := 4096#32
  let arg1 : BitVec 32 := BitVec.ofNat 32 (i 1).val
  let c1280_i32 : BitVec 32 := 1280#32
  let v0 : BitVec 32 := Scalar.muli arg1 c1280_i32
  let v1 : BitVec 32 := Scalar.addi c4096_i32 v0
  v1
def k0_mult2 (i : grid0.Coords) : BitVec 32 :=
  let arg2 : BitVec 32 := BitVec.ofNat 32 (i 2).val
  let c1024_i32 : BitVec 32 := 1024#32
  let v3 : BitVec 32 := Scalar.muli arg2 c1024_i32
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1280_i32 : BitVec 32 := 1280#32
  let v0 : BitVec 32 := Scalar.muli arg1 c1280_i32
  let c4096_i32 : BitVec 32 := 4096#32
  let v1 : BitVec 32 := Scalar.addi c4096_i32 v0
  let v2 : BitVec 32 := v1
  let c1024_i32 : BitVec 32 := 1024#32
  let v3 : BitVec 32 := Scalar.muli arg2 c1024_i32
  let v4 : BitVec 32 := v3
  let c0_i32 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBReferenceIdeal.lean ====
abbrev S8192x1024 : Shape := ⟨2, ![8192, 1024]⟩
abbrev S9472x1024 : Shape := ⟨2, ![9472, 1024]⟩
abbrev S1024x9472 : Shape := ⟨2, ![1024, 9472]⟩
abbrev S8192x9472 : Shape := ⟨2, ![8192, 9472]⟩
abbrev S8192x1280 : Shape := ⟨2, ![8192, 1280]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S9472x1024, .bf16⟩
  | .hbm, ⟨2, _⟩ => ⟨S8192x1024, .f32⟩
  | .hbm, ⟨3, _⟩ => ⟨S9472x1024, .f32⟩
  | .hbm, ⟨4, _⟩ => ⟨S1024x9472, .f32⟩
  | .hbm, ⟨5, _⟩ => ⟨S8192x9472, .f32⟩
  | .hbm, ⟨6, _⟩ => ⟨S8192x1280, .f32⟩
  | .hbm, ⟨7, _⟩ => ⟨S8192x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MemKv.lean ====
abbrev S256x1024 : Shape := ⟨2, ![256, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S256x1024, .bf16⟩
  | .hbm, ⟨3, _⟩ => ⟨S1024x4x512, .bf16⟩
  | .hbm, ⟨4, _⟩ => ⟨S4x1024x512, .bf16⟩
  | .hbm, ⟨5, _⟩ => ⟨S256x2048, .bf16⟩
  | .local _ .vmem, ⟨0, _⟩ => ⟨S256x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvReferenceIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S1024x2048, .f32⟩
  | .hbm, ⟨3, _⟩ => ⟨S256x2048, .f32⟩
  | .hbm, ⟨4, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradKv.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S256x1024, .bf16⟩
  | .hbm, ⟨3, _⟩ => ⟨S4x1024x512, .f32⟩
  | .local _ .vmem, ⟨0, _⟩ => ⟨S256x1024, .bf16⟩
  | .local _ .vmem, ⟨1, _⟩ => ⟨S256x512, .f32⟩
  | .local _ .vmem, ⟨2, _⟩ => ⟨S256x512, .f32⟩
  | .local _ .vmem, ⟨3, _⟩ => ⟨S1x1024x512, .f32⟩
  | .local _ .vmem, ⟨4, _⟩ => ⟨S1x1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKvReferenceIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemFwd.lean ====
abbrev S8192x1024 : Shape := ⟨2, ![8192, 1024]⟩
abbrev S9472x1024 : Shape := ⟨2, ![9472, 1024]⟩
abbrev S256x2048 : Shape := ⟨2, ![256, 2048]⟩
abbrev S512x1024 : Shape := ⟨2, ![512, 1024]⟩
abbrev S1024x1024 : Shape := ⟨2, ![1024, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S9472x1024, .bf16⟩
  | .hbm, ⟨2, _⟩ => ⟨S256x2048, .bf16⟩
  | .hbm, ⟨3, _⟩ => ⟨S8192x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5376_i32 : BitVec 32 := 5376#32
  let c0_i32 : BitVec 32 := 0#32
  let c0_i32_0 : BitVec 32 := 0#32
  ![c5376_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemFwdReferenceIdeal.lean ====
abbrev S8192x1024 : Shape := ⟨2, ![8192, 1024]⟩
abbrev S9472x1024 : Shape := ⟨2, ![9472, 1024]⟩
abbrev S256x2048 : Shape := ⟨2, ![256, 2048]⟩
abbrev S1024x9472 : Shape := ⟨2, ![1024, 9472]⟩
abbrev S8192x9472 : Shape := ⟨2, ![8192, 9472]⟩
abbrev S256x1024 : Shape := ⟨2, ![256, 1024]⟩
abbrev S8192x4x256 : Shape := ⟨3, ![8192, 4, 256]⟩
abbrev S_ : Shape := ⟨0, ![]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S9472x1024, .bf16⟩
  | .hbm, ⟨2, _⟩ => ⟨S256x2048, .bf16⟩
  | .hbm, ⟨3, _⟩ => ⟨S8192x1024, .f32⟩
  | .hbm, ⟨4, _⟩ => ⟨S9472x1024, .f32⟩
  | .hbm, ⟨5, _⟩ => ⟨S1024x9472, .f32⟩
  | .hbm, ⟨6, _⟩ => ⟨S8192x9472, .f32⟩
  | .hbm, ⟨7, _⟩ => ⟨S8192x1024, .f32⟩
  | .hbm, ⟨8, _⟩ => ⟨S256x2048, .f32⟩
  | .hbm, ⟨9, _⟩ => ⟨S8192x1024, .bf16⟩
  | .hbm, ⟨10, _⟩ => ⟨S256x1024, .f32⟩
  | .hbm, ⟨11, _⟩ => ⟨S256x1024, .f32⟩
  | .hbm, ⟨12, _⟩ => ⟨S8192x4x256, .f32⟩
  | .hbm, ⟨13, _⟩ => ⟨S_, .f32⟩
  | .hbm, ⟨14, _⟩ => ⟨S8192x4x256, .f32⟩
  | .hbm, ⟨15, _⟩ => ⟨S8192x4x256, .f32⟩
  | .hbm, ⟨16, _⟩ => ⟨S256x4x256, .f32⟩
  | .hbm, ⟨17, _⟩ => ⟨S256x4x256, .f32⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x256, .f32⟩
  | .hbm, ⟨32, _⟩ => ⟨S4x8192x256, .f32⟩
  | .hbm, ⟨33, _⟩ => ⟨S4x256x8192, .f32⟩
  | .hbm, ⟨34, _⟩ => ⟨S8192x4x256, .f32⟩
  | .hbm, ⟨35, _⟩ => ⟨S8192x1024, .f32⟩
  | .hbm, ⟨36, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== HgrnFwd.lean ====
abbrev S8192x1024 : Shape := ⟨2, ![8192, 1024]⟩
abbrev S9472x1024 : Shape := ⟨2, ![9472, 1024]⟩
abbrev S2x1024 : Shape := ⟨2, ![2, 1024]⟩
abbrev S1x1024 : Shape := ⟨2, ![1, 1024]⟩
abbrev S8192x4096 : Shape := ⟨2, ![8192, 4096]⟩
abbrev S8x128x128x128 : Shape := ⟨4, ![8, 128, 128, 128]⟩
abbrev S256x1024 : Shape := ⟨2, ![256, 1024]⟩
abbrev S4096x1024 : Shape := ⟨2, ![4096, 1024]⟩
abbrev S256x4096 : Shape := ⟨2, ![256, 4096]⟩
abbrev S8x4x128x128 : Shape := ⟨4, ![8, 4, 128, 128]⟩
abbrev S8x128x128 : Shape := ⟨3, ![8, 128, 128]⟩
abbrev S64x64 : Shape := ⟨2, ![64, 64]⟩
abbrev S64x1024 : Shape := ⟨2, ![64, 1024]⟩
abbrev S1x128x128 : Shape := ⟨3, ![1, 128, 128]⟩
abbrev S128x128 : Shape := ⟨2, ![128, 128]⟩
abbrev S64x128 : Shape := ⟨2, ![64, 128]⟩
abbrev S1x1x128x128 : Shape := ⟨4, ![1, 1, 128, 128]⟩
abbrev S1x128 : Shape := ⟨2, ![1, 128]⟩
abbrev S64 : Shape := ⟨1, ![64]⟩
abbrev S64x1 : Shape := ⟨2, ![64, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S9472x1024, .bf16⟩
  | .hbm, ⟨2, _⟩ => ⟨S2x1024, .f32⟩
  | .hbm, ⟨3, _⟩ => ⟨S1x1024, .f32⟩
  | .hbm, ⟨4, _⟩ => ⟨S8192x4096, .f32⟩
  | .hbm, ⟨5, _⟩ => ⟨S8192x1024, .bf16⟩
  | .hbm, ⟨6, _⟩ => ⟨S8192x1024, .f32⟩
  | .hbm, ⟨7, _⟩ => ⟨S8x128x128x128, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S2x1024, .f32⟩
  | .local _ .vmem, ⟨4, _⟩ => ⟨S1x1024, .f32⟩
  | .local _ .vmem, ⟨5, _⟩ => ⟨S256x4096, .f32⟩
  | .local _ .vmem, ⟨6, _⟩ => ⟨S256x4096, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S8x4x128x128, .f32⟩
  | .local _ .vmem, ⟨12, _⟩ => ⟨S8x4x128x128, .f32⟩
  | .local _ .vmem, ⟨13, _⟩ => ⟨S8x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_mult1 : BitVec 32 :=
  let c0_i32_11 : BitVec 32 := 0#32
  let c64_i32 : BitVec 32 := 64#32
  let v23 : BitVec 32 := Scalar.muli c0_i32_11 c64_i32
  v23
def k0_off1 (c0_i32_11 : BitVec 32) : Fin 2 → Nat :=
  let c64_i32 : BitVec 32 := 64#32
  let v23 : BitVec 32 := Scalar.muli c0_i32_11 c64_i32
  let v24 : BitVec 32 := v23
  let v25 : Index := Scalar.indexCast v24
  let c0_12 : Index := 0#32
  ![v25.toNat, 0]
def k0_off2 (c0_i32_11 : BitVec 32) : Fin 2 → Nat :=
  let c64_i32 : BitVec 32 := 64#32
  let v23 : BitVec 32 := Scalar.muli c0_i32_11 c64_i32
  let v24 : BitVec 32 := v23
  let v28 : Index := Scalar.indexCast v24
  let c1024 : Index := 1024#32
  ![v28.toNat, 1024]
def k0_off3 (c0_i32_11 : BitVec 32) : Fin 2 → Nat :=
  let c64_i32 : BitVec 32 := 64#32
  let v23 : BitVec 32 := Scalar.muli c0_i32_11 c64_i32
  let v24 : BitVec 32 := v23
  let v31 : Index := Scalar.indexCast v24
  let c2048 : Index := 2048#32
  ![v31.toNat, 2048]
def k0_off4 (c0_i32_11 : BitVec 32) : Fin 2 → Nat :=
  let c64_i32 : BitVec 32 := 64#32
  let v23 : BitVec 32 := Scalar.muli c0_i32_11 c64_i32
  let v24 : BitVec 32 := v23
  let v34 : Index := Scalar.indexCast v24
  let c3072 : Index := 3072#32
  ![v34.toNat, 3072]
def k0_off5 (c0_i32_11 : BitVec 32) : Fin 2 → Nat :=
  let c64_i32 : BitVec 32 := 64#32
  let v23 : BitVec 32 := Scalar.muli c0_i32_11 c64_i32
  let v24 : BitVec 32 := v23
  let v300 : Index := Scalar.indexCast v24
  let c0_125 : Index := 0#32
  ![v300.toNat, 0]
def k0_mult2 : BitVec 32 :=
  let c1_i32 : BitVec 32 := 1#32
  let c64_i32_144 : BitVec 32 := 64#32
  let v372 : BitVec 32 := Scalar.muli c1_i32 c64_i32_144
  v372
def k0_mult3 : BitVec 32 :=
  let c2_i32 : BitVec 32 := 2#32
  let c64_i32_286 : BitVec 32 := 64#32
  let v721 : BitVec 32 := Scalar.muli c2_i32 c64_i32_286
  v721
def k0_mult4 : BitVec 32 :=
  let c3_i32 : BitVec 32 := 3#32
  let c64_i32_428 : BitVec 32 := 64#32
  let v1070 : BitVec 32 := Scalar.muli c3_i32 c64_i32_428
  v1070
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnFwdReferenceIdeal.lean ====
abbrev S8192x1024 : Shape := ⟨2, ![8192, 1024]⟩
abbrev S9472x1024 : Shape := ⟨2, ![9472, 1024]⟩
abbrev S2x1024 : Shape := ⟨2, ![2, 1024]⟩
abbrev S1x1024 : Shape := ⟨2, ![1, 1024]⟩
abbrev S1024x9472 : Shape := ⟨2, ![1024, 9472]⟩
abbrev S8192x9472 : Shape := ⟨2, ![8192, 9472]⟩
abbrev S8192x4096 : Shape := ⟨2, ![8192, 4096]⟩
abbrev S_ : Shape := ⟨0, ![]⟩
abbrev S1024 : Shape := ⟨1, ![1024]⟩
abbrev S8192x8x128 : Shape := ⟨3, ![8192, 8, 128]⟩
abbrev S8x128 : Shape := ⟨2, ![8, 128]⟩
abbrev S1x8x128 : Shape := ⟨3, ![1, 8, 128]⟩
abbrev S128x64x8x128 : Shape := ⟨4, ![128, 64, 8, 128]⟩
abbrev S64x64 : Shape := ⟨2, ![64, 64]⟩
abbrev S128x8x128x64 : Shape := ⟨4, ![128, 8, 128, 64]⟩
abbrev S128x1x8x128 : Shape := ⟨4, ![128, 1, 8, 128]⟩
abbrev S128x8x64x64 : Shape := ⟨4, ![128, 8, 64, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S128x8x128 : Shape := ⟨3, ![128, 8, 128]⟩
abbrev S128x128x8x128 : Shape := ⟨4, ![128, 128, 8, 128]⟩
abbrev S128x8x128x128 : Shape := ⟨4, ![128, 8, 128, 128]⟩
abbrev S128x128x1x1 : Shape := ⟨4, ![128, 128, 1, 1]⟩
abbrev S8x128x128x128 : Shape := ⟨4, ![8, 128, 128, 128]⟩
abbrev S8192x8 : Shape := ⟨2, ![8192, 8]⟩
abbrev S8192x8x1 : Shape := ⟨3, ![8192, 8, 1]⟩

abbrev nBuf : Space → Nat
  | .hbm => 149
  | .vmem => 0
  | .smem => 0
  | _ => 0

abbrev hbmTy0_0 (i : Nat) : BufTy := match i % 128 with
  | 0 => ⟨S8192x1024, .bf16⟩
  | 1 => ⟨S9472x1024, .bf16⟩
  | 2 => ⟨S2x1024, .f32⟩
  | 3 => ⟨S1x1024, .f32⟩
  | 4 => ⟨S8192x1024, .f32⟩
  | 5 => ⟨S9472x1024, .f32⟩
  | 6 => ⟨S1024x9472, .f32⟩
  | 7 => ⟨S8192x9472, .f32⟩
  | 8 => ⟨S8192x4096, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S_, .f32⟩
  | 16 => ⟨S1024, .f32⟩
  | 17 => ⟨S1024, .f32⟩
  | 18 => ⟨S1x1024, .f32⟩
  | 19 => ⟨S2x1024, .f32⟩
  | 20 => ⟨S2x1024, .f32⟩
  | 21 => ⟨S2x1024, .f32⟩
  | 22 => ⟨S_, .f32⟩
  | 23 => ⟨S1024, .f32⟩
  | 24 => ⟨S1x1024, .f32⟩
  | 25 => ⟨S2x1024, .f32⟩
  | 26 => ⟨S2x1024, .f32⟩
  | 27 => ⟨S1x1024, .f32⟩
  | 28 => ⟨S1024, .f32⟩
  | 29 => ⟨S8192x8x128, .f32⟩
  | 30 => ⟨S8192x8x128, .f32⟩
  | 31 => ⟨S8192x8x128, .f32⟩
  | 32 => ⟨S8x128, .f32⟩
  | 33 => ⟨S_, .f32⟩
  | 34 => ⟨S8x128, .f32⟩
  | 35 => ⟨S8x128, .f32⟩
  | 36 => ⟨S8192x8x128, .f32⟩
  | 37 => ⟨S8192x8x128, .f32⟩
  | 38 => ⟨S_, .f32⟩
  | 39 => ⟨S8192x8x128, .f32⟩
  | 40 => ⟨S8192x8x128, .f32⟩
  | 41 => ⟨S_, .f32⟩
  | 42 => ⟨S8192x8x128, .f32⟩
  | 43 => ⟨S8192x8x128, .f32⟩
  | 44 => ⟨S1x8x128, .f32⟩
  | 45 => ⟨S8192x8x128, .f32⟩
  | 46 => ⟨S8192x8x128, .f32⟩
  | 47 => ⟨S1x8x128, .f32⟩
  | 48 => ⟨S8192x8x128, .f32⟩
  | 49 => ⟨S8192x8x128, .f32⟩
  | 50 => ⟨S8192x8x128, .f32⟩
  | 51 => ⟨S_, .f32⟩
  | 52 => ⟨S8192x8x128, .f32⟩
  | 53 => ⟨S8192x8x128, .f32⟩
  | 54 => ⟨S128x64x8x128, .f32⟩
  | 55 => ⟨S128x64x8x128, .f32⟩
  | 56 => ⟨S128x64x8x128, .f32⟩
  | 57 => ⟨S128x64x8x128, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S64x64, .f32⟩
  | 70 => ⟨S128x8x128x64, .f32⟩
  | 71 => ⟨S128x64x8x128, .f32⟩
  | 72 => ⟨S128x1x8x128, .f32⟩
  | 73 => ⟨S128x64x8x128, .f32⟩
  | 74 => ⟨S128x64x8x128, .f32⟩
  | 75 => ⟨S128x64x8x128, .f32⟩
  | 76 => ⟨S128x64x8x128, .f32⟩
  | 77 => ⟨S128x64x8x128, .f32⟩
  | 78 => ⟨S128x64x8x128, .f32⟩
  | 79 => ⟨S128x64x8x128, .f32⟩
  | 80 => ⟨S128x64x8x128, .f32⟩
  | 81 => ⟨S128x64x8x128, .f32⟩
  | 82 => ⟨S128x8x64x64, .f32⟩
  | 83 => ⟨S_, .f32⟩
  | 84 => ⟨S_, .f32⟩
  | 85 => ⟨S128x8x64x64, .i1⟩
  | 86 => ⟨S128x8x64x64, .f32⟩
  | 87 => ⟨S128x8x64x64, .f32⟩
  | 88 => ⟨S128x8x128x64, .f32⟩
  | 89 => ⟨S128x64x8x128, .f32⟩
  | 90 => ⟨S128, .i32⟩
  | 91 => ⟨S1x128, .i32⟩
  | 92 => ⟨S128x1, .i32⟩
  | 93 => ⟨S128x128, .i32⟩
  | 94 => ⟨S128x128, .i32⟩
  | 95 => ⟨S128x128, .i1⟩
  | 96 => ⟨S128x1x128, .i1⟩
  | 97 => ⟨S128x128, .i1⟩
  | 98 => ⟨S1x128x128, .i1⟩
  | 99 => ⟨S128x128x128, .i1⟩
  | 100 => ⟨S128x128x128, .i1⟩
  | 101 => ⟨S128x128x128, .i1⟩
  | 102 => ⟨S128x128x128, .f32⟩
  | 103 => ⟨S128x8x128, .f32⟩
  | 104 => ⟨S128x128x8x128, .f32⟩
  | 105 => ⟨S128x128x8x128, .f32⟩
  | 106 => ⟨S128x8x128x128, .f32⟩
  | 107 => ⟨S128x128x1x1, .i1⟩
  | 108 => ⟨S_, .f32⟩
  | 109 => ⟨S_, .f32⟩
  | 110 => ⟨S128x128x8x128, .i1⟩
  | 111 => ⟨S128x128x8x128, .f32⟩
  | 112 => ⟨S128x128x8x128, .f32⟩
  | 113 => ⟨S8x128x128x128, .f32⟩
  | 114 => ⟨S8x128x128x128, .f32⟩
  | 115 => ⟨S128x8x128x64, .f32⟩
  | 116 => ⟨S128x64x8x128, .f32⟩
  | 117 => ⟨S128x64x8x128, .f32⟩
  | 118 => ⟨S8192x8x128, .f32⟩
  | 119 => ⟨S8192x8x128, .f32⟩
  | 120 => ⟨S_, .f32⟩
  | 121 => ⟨S8192x8, .f32⟩
  | 122 => ⟨S8192x8x1, .f32⟩
  | 123 => ⟨S_, .f32⟩
  | 124 => ⟨S8192x8x1, .f32⟩
  | 125 => ⟨S8192x8x1, .f32⟩
  | 126 => ⟨S_, .f32⟩
  | 127 => ⟨S8192x8x1, .f32⟩
  | _ => ⟨S8192x1024, .bf16⟩

abbrev hbmTy0_1 (i : Nat) : BufTy := match i % 128 with
  | 0 => ⟨S8192x8x1, .f32⟩
  | 1 => ⟨S8192x8x1, .f32⟩
  | 2 => ⟨S8192x8x128, .f32⟩
  | 3 => ⟨S8192x8x128, .f32⟩
  | 4 => ⟨S8192x1024, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S8192x1024, .bf16⟩
  | 20 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_v47 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_7 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_8 : Ref sig .tc := ⟨.hbm, 120, rfl⟩
abbrev main_v92 : Ref sig .tc := ⟨.hbm, 121, rfl⟩
abbrev main_v93 : Ref sig .tc := ⟨.hbm, 122, rfl⟩
abbrev main_cst_9 : Ref sig .tc := ⟨.hbm, 123, rfl⟩
abbrev main_v94 : Ref sig .tc := ⟨.hbm, 124, rfl⟩
abbrev main_v95 : Ref sig .tc := ⟨.hbm, 125, rfl⟩
abbrev main_cst_10 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== SwaFwd.lean ====
abbrev S8192x1280 : Shape := ⟨2, ![8192, 1280]⟩
abbrev S16x32768 : Shape := ⟨2, ![16, 32768]⟩
abbrev S1x16 : Shape := ⟨2, ![1, 16]⟩
abbrev S16x128x256 : Shape := ⟨3, ![16, 128, 256]⟩
abbrev S256x16x128 : Shape := ⟨3, ![256, 16, 128]⟩
abbrev S256x2048 : Shape := ⟨2, ![256, 2048]⟩
abbrev S256 : Shape := ⟨1, ![256]⟩
abbrev S256x1 : Shape := ⟨2, ![256, 1]⟩
abbrev S_ : Shape := ⟨0, ![]⟩
abbrev S1x256x2048 : Shape := ⟨3, ![1, 256, 2048]⟩
abbrev S2x256x2048 : Shape := ⟨3, ![2, 256, 2048]⟩
abbrev S1x16x128 : Shape := ⟨3, ![1, 16, 128]⟩
abbrev S1x2048 : Shape := ⟨2, ![1, 2048]⟩
abbrev S8192x1024 : Shape := ⟨2, ![8192, 1024]⟩
abbrev S128x1280 : Shape := ⟨2, ![128, 1280]⟩
abbrev S128x256 : Shape := ⟨2, ![128, 256]⟩
abbrev S128x1024 : Shape := ⟨2, ![128, 1024]⟩
abbrev S128x64 : Shape := ⟨2, ![128, 64]⟩
abbrev S256x64 : Shape := ⟨2, ![256, 64]⟩
abbrev S1024x64 : Shape := ⟨2, ![1024, 64]⟩
abbrev S256x1024 : Shape := ⟨2, ![256, 1024]⟩
abbrev S1x256x1024 : Shape := ⟨3, ![1, 256, 1024]⟩
abbrev S1x1024 : Shape := ⟨2, ![1, 1024]⟩
abbrev S1024 : Shape := ⟨1, ![1024]⟩
abbrev S64x1024 : Shape := ⟨2, ![64, 1024]⟩
abbrev S64x128 : Shape := ⟨2, ![64, 128]⟩
abbrev S128x128 : Shape := ⟨2, ![128, 128]⟩
abbrev S128x512 : Shape := ⟨2, ![128, 512]⟩

abbrev nBuf : Space → Nat
  | .hbm => 22
  | .vmem => 11
  | .smem => 0
  | _ => 0

abbrev bufTy : (tb : Table) → Fin (tcTables nBuf tb) → BufTy
  | .hbm, ⟨0, _⟩ => ⟨S8192x1280, .bf16⟩
  | .hbm, ⟨1, _⟩ => ⟨S16x32768, .f32⟩
  | .hbm, ⟨2, _⟩ => ⟨S1x16, .f32⟩
  | .hbm, ⟨3, _⟩ => ⟨S16x128x256, .f32⟩
  | .hbm, ⟨4, _⟩ => ⟨S256x16x128, .f32⟩
  | .hbm, ⟨5, _⟩ => ⟨S256x2048, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S256x1, .i32⟩
  | .hbm, ⟨10, _⟩ => ⟨S256x1, .i1⟩
  | .hbm, ⟨11, _⟩ => ⟨S_, .f32⟩
  | .hbm, ⟨12, _⟩ => ⟨S_, .f32⟩
  | .hbm, ⟨13, _⟩ => ⟨S256x2048, .i1⟩
  | .hbm, ⟨14, _⟩ => ⟨S256x2048, .f32⟩
  | .hbm, ⟨15, _⟩ => ⟨S256x2048, .f32⟩
  | .hbm, ⟨16, _⟩ => ⟨S1x256x2048, .f32⟩
  | .hbm, ⟨17, _⟩ => ⟨S1x256x2048, .f32⟩
  | .hbm, ⟨18, _⟩ => ⟨S2x256x2048, .f32⟩
  | .hbm, ⟨19, _⟩ => ⟨S1x16x128, .f32⟩
  | .hbm, ⟨20, _⟩ => ⟨S1x2048, .f32⟩
  | .hbm, ⟨21, _⟩ => ⟨S8192x1024, .bf16⟩
  | .local _ .vmem, ⟨0, _⟩ => ⟨S128x1280, .bf16⟩
  | .local _ .vmem, ⟨1, _⟩ => ⟨S128x1280, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S1x256x2048, .f32⟩
  | .local _ .vmem, ⟨7, _⟩ => ⟨S1x256x2048, .f32⟩
  | .local _ .vmem, ⟨8, _⟩ => ⟨S1x2048, .f32⟩
  | .local _ .vmem, ⟨9, _⟩ => ⟨S128x1024, .bf16⟩
  | .local _ .vmem, ⟨10, _⟩ => ⟨S128x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SwaFwdReferenceIdeal.lean ====
abbrev S8192x1280 : Shape := ⟨2, ![8192, 1280]⟩
abbrev S16x32768 : Shape := ⟨2, ![16, 32768]⟩
abbrev S1x16 : Shape := ⟨2, ![1, 16]⟩
abbrev S8192x1024 : Shape := ⟨2, ![8192, 1024]⟩
abbrev S8192x128 : Shape := ⟨2, ![8192, 128]⟩
abbrev S64x128x2x8x64 : Shape := ⟨5, ![64, 128, 2, 8, 64]⟩
abbrev S_ : Shape := ⟨0, ![]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S2x64x256x128x8 : Shape := ⟨5, ![2, 64, 256, 128, 8]⟩
abbrev S2x8x64x128x256 : Shape := ⟨5, ![2, 8, 64, 128, 256]⟩
abbrev S64 : Shape := ⟨1, ![64]⟩
abbrev S64x1x1 : Shape := ⟨3, ![64, 1, 1]⟩
abbrev S256 : Shape := ⟨1, ![256]⟩
abbrev S1x1x256 : Shape := ⟨3, ![1, 1, 256]⟩
abbrev S64x1x256 : Shape := ⟨3, ![64, 1, 256]⟩
abbrev S2x8x1x128x256 : Shape := ⟨5, ![2, 8, 1, 128, 256]⟩
abbrev S2x8x1x1x1 : Shape := ⟨5, ![2, 8, 1, 1, 1]⟩
abbrev S2x8x64x128 : Shape := ⟨4, ![2, 8, 64, 128]⟩
abbrev S2x8x64x128x1 : Shape := ⟨5, ![2, 8, 64, 128, 1]⟩
abbrev S64x2x64x8x128 : Shape := ⟨5, ![64, 2, 64, 8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S16x32768, .f32⟩
  | .hbm, ⟨2, _⟩ => ⟨S1x16, .f32⟩
  | .hbm, ⟨3, _⟩ => ⟨S8192x1024, .bf16⟩
  | .hbm, ⟨4, _⟩ => ⟨S8192x1024, .f32⟩
  | .hbm, ⟨5, _⟩ => ⟨S8192x128, .bf16⟩
  | .hbm, ⟨6, _⟩ => ⟨S8192x128, .f32⟩
  | .hbm, ⟨7, _⟩ => ⟨S8192x128, .bf16⟩
  | .hbm, ⟨8, _⟩ => ⟨S8192x128, .f32⟩
  | .hbm, ⟨9, _⟩ => ⟨S64x128x2x8x64, .f32⟩
  | .hbm, ⟨10, _⟩ => ⟨S_, .f32⟩
  | .hbm, ⟨11, _⟩ => ⟨S64x128x2x8x64, .f32⟩
  | .hbm, ⟨12, _⟩ => ⟨S64x128x2x8x64, .f32⟩
  | .hbm, ⟨13, _⟩ => ⟨S64x128x2x64, .f32⟩
  | .hbm, ⟨14, _⟩ => ⟨S64x128x2x64, .f32⟩
  | .hbm, ⟨15, _⟩ => ⟨S1x128x2x64, .f32⟩
  | .hbm, ⟨16, _⟩ => ⟨S_, .f32⟩
  | .hbm, ⟨17, _⟩ => ⟨S1x128x2x64, .f32⟩
  | .hbm, ⟨18, _⟩ => ⟨S63x128x2x64, .f32⟩
  | .hbm, ⟨19, _⟩ => ⟨S64x128x2x64, .f32⟩
  | .hbm, ⟨20, _⟩ => ⟨S64x256x2x64, .f32⟩
  | .hbm, ⟨21, _⟩ => ⟨S63x128x2x64, .f32⟩
  | .hbm, ⟨22, _⟩ => ⟨S64x128x2x64, .f32⟩
  | .hbm, ⟨23, _⟩ => ⟨S64x256x2x64, .f32⟩
  | .hbm, ⟨24, _⟩ => ⟨S2x64x256x128x8, .f32⟩
  | .hbm, ⟨25, _⟩ => ⟨S2x8x64x128x256, .f32⟩
  | .hbm, ⟨26, _⟩ => ⟨S64, .i32⟩
  | .hbm, ⟨27, _⟩ => ⟨S64x1x1, .i32⟩
  | .hbm, ⟨28, _⟩ => ⟨S_, .i32⟩
  | .hbm, ⟨29, _⟩ => ⟨S64x1x1, .i32⟩
  | .hbm, ⟨30, _⟩ => ⟨S64x1x1, .i1⟩
  | .hbm, ⟨31, _⟩ => ⟨S256, .i32⟩
  | .hbm, ⟨32, _⟩ => ⟨S1x1x256, .i32⟩
  | .hbm, ⟨33, _⟩ => ⟨S_, .i32⟩
  | .hbm, ⟨34, _⟩ => ⟨S1x1x256, .i32⟩
  | .hbm, ⟨35, _⟩ => ⟨S1x1x256, .i1⟩
  | .hbm, ⟨36, _⟩ => ⟨S64x1x256, .i1⟩
  | .hbm, ⟨37, _⟩ => ⟨S64x1x256, .i1⟩
  | .hbm, ⟨38, _⟩ => ⟨S64x1x256, .i1⟩
  | .hbm, ⟨39, _⟩ => ⟨S2x8x1x128x256, .f32⟩
  | .hbm, ⟨40, _⟩ => ⟨S2x8x64x128x256, .f32⟩
  | .hbm, ⟨41, _⟩ => ⟨S2x8x64x128x256, .f32⟩
  | .hbm, ⟨42, _⟩ => ⟨S_, .f32⟩
  | .hbm, ⟨43, _⟩ => ⟨S_, .f32⟩
  | .hbm, ⟨44, _⟩ => ⟨S2x8x64x128x256, .i1⟩
  | .hbm, ⟨45, _⟩ => ⟨S2x8x64x128x256, .f32⟩
  | .hbm, ⟨46, _⟩ => ⟨S2x8x64x128x256, .f32⟩
  | .hbm, ⟨47, _⟩ => ⟨S2x8x1x1x1, .f32⟩
  | .hbm, ⟨48, _⟩ => ⟨S_, .f32⟩
  | .hbm, ⟨49, _⟩ => ⟨S2x8x64x128, .f32⟩
  | .hbm, ⟨50, _⟩ => ⟨S2x8x64x128x1, .f32⟩
  | .hbm, ⟨51, _⟩ => ⟨S2x8x64x128x1, .f32⟩
  | .hbm, ⟨52, _⟩ => ⟨S2x8x64x128x1, .f32⟩
  | .hbm, ⟨53, _⟩ => ⟨S2x8x64x128x256, .f32⟩
  | .hbm, ⟨54, _⟩ => ⟨S2x8x64x128x256, .f32⟩
  | .hbm, ⟨55, _⟩ => ⟨S2x8x64x128x256, .f32⟩
  | .hbm, ⟨56, _⟩ => ⟨S_, .f32⟩
  | .hbm, ⟨57, _⟩ => ⟨S2x8x64x128, .f32⟩
  | .hbm, ⟨58, _⟩ => ⟨S2x8x64x128x1, .f32⟩
  | .hbm, ⟨59, _⟩ => ⟨S2x8x64x128x1, .f32⟩
  | .hbm, ⟨60, _⟩ => ⟨S2x8x64x128x1, .f32⟩
  | .hbm, ⟨61, _⟩ => ⟨S2x8x64x128x1, .f32⟩
  | .hbm, ⟨62, _⟩ => ⟨S2x8x64x128x1, .f32⟩
  | .hbm, ⟨63, _⟩ => ⟨S2x8x64x128x256, .f32⟩
  | .hbm, ⟨64, _⟩ => ⟨S2x8x64x128x256, .f32⟩
  | .hbm, ⟨65, _⟩ => ⟨S64x2x64x8x128, .f32⟩
  | .hbm, ⟨66, _⟩ => ⟨S64x128x2x8x64, .f32⟩
  | .hbm, ⟨67, _⟩ => ⟨S8192x1024, .f32⟩
  | .hbm, ⟨68, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Proof.MemSpec.lean ====
module

public import Idealize.ShloMosaic.Lib.Pointwise
public import Idealize.ShloMosaic.Lib.Pipeline.ValueKit

/-! The memory attention's backward pass for one row and one head, on extended reals: the functions both programs are
    read as. `q` and `o` are the row's query and output gradient, `k` and `v` the head's 256 keys and values. -/

@[expose] public section

noncomputable section

namespace Cert.MemSpec

open Idealize.ShloMosaic

/-- The score scale `256^(-1/2)`. -/
def scale : EReal := ((1 / 16 : ℝ) : EReal)

theorem scale_f32 : Ideal.ofBits .f32 0x3D800000#32 = scale := by
  unfold scale
  simp [Ideal.ofBits, Ideal.ieee, -EReal.coe_mul]; norm_num

theorem scale_bf16 : Ideal.ofBits .bf16 0x3D80#16 = scale := by
  unfold scale
  simp [Ideal.ofBits, Ideal.ieee, -EReal.coe_mul]; norm_num

/-- The start of a row's maximum. -/
def low : EReal := ⊥

theorem low_f32 : Ideal.ofBits .f32 0xFF800000#32 = low := by
  unfold low
  simp [Ideal.ofBits, Ideal.ieee]

/-- Row of scores. -/
def score (q : Fin 256 → EReal) (k : Fin 256 → Fin 256 → EReal) (j : Fin 256) : EReal := ∑ d, q d * scale * k j d

/-- A row's largest score. -/
def peak (s : Fin 256 → EReal) : EReal := Finset.univ.fold max low s

/-- Unnormalised weights. -/
def weight (s : Fin 256 → EReal) (j : Fin 256) : EReal := Ideal.exp (s j - peak s)

/-- The row's softmax. -/
def prob (s : Fin 256 → EReal) (j : Fin 256) : EReal := Ideal.div (weight s j) (∑ i, weight s i)

/-- The gradient with respect to the probabilities. -/
def grad (o : Fin 256 → EReal) (v : Fin 256 → Fin 256 → EReal) (j : Fin 256) : EReal := ∑ d, o d * v j d

/-- The gradient with respect to the scores. -/
def dscore (p g : Fin 256 → EReal) (j : Fin 256) : EReal := p j * (g j - ∑ i, p i * g i)

/-- The gradient with respect to the query. -/
def dquery (ds : Fin 256 → EReal) (k : Fin 256 → Fin 256 → EReal) (d : Fin 256) : EReal := (∑ j, ds j * k j d) * scale

/-! ## By head: a row of 1024 columns is four heads of 256; keys are columns 0–1023 and values columns 1024–2047 -/

/-- Column `d` of head `h`. -/
def hcol (h : Fin 4) (d : Fin 256) : Fin 1024 := ⟨256 * h.val + d.val, by omega⟩
def kcol (h : Fin 4) (d : Fin 256) : Fin 2048 := ⟨256 * h.val + d.val, by omega⟩
def vcol (h : Fin 4) (d : Fin 256) : Fin 2048 := ⟨1024 + (256 * h.val + d.val), by omega⟩

variable (z o : Fin 1024 → EReal) (kv : Fin 256 → Fin 2048 → EReal)

/-- Head `h`'s keys and values. -/
def keys (h : Fin 4) (j d : Fin 256) : EReal := kv j (kcol h d)
def vals (h : Fin 4) (j d : Fin 256) : EReal := kv j (vcol h d)

/-- Head `h`'s probabilities on a row. -/
def probs (h : Fin 4) : Fin 256 → EReal := prob (score (fun d => z (hcol h d)) (keys kv h))

/-- Head `h`'s score gradients on a row. -/
def dscores (h : Fin 4) : Fin 256 → EReal := dscore (probs z kv h) (grad (fun d => o (hcol h d)) (vals kv h))

/-- The row's query gradient, all heads side by side. -/
def dq (c : Fin 1024) : EReal :=
  dquery (dscores z o kv ⟨c.val / 256, by omega⟩) (keys kv ⟨c.val / 256, by omega⟩) ⟨c.val % 256, by omega⟩

/-- What the row adds to entry `(j, c)` of the key and value gradient. -/
def dkv (j : Fin 256) (c : Fin 2048) : EReal :=
  if h : c.val < 1024 then dscores z o kv ⟨c.val / 256, by omega⟩ j * (z ⟨c.val, h⟩ * scale)
  else probs z kv ⟨(c.val - 1024) / 256, by omega⟩ j * o ⟨c.val - 1024, by omega⟩

/-- A row of a block as a function of the column. -/
def row {n k : ℕ} {α : Type} (x : (⟨2, ![n, k]⟩ : Shape).Idx → α) (r : Fin n) : Fin k → α := fun d => x (ix2 r d)

end Cert.MemSpec

end
-- ==== Proof.MlpSpec.lean ====
module

public import proofs.«01_k».proof.Proof.MemSpec

/-! The layer norm, squared-ReLU network, second layer norm and mean squared error for one row, forwards and backwards, on
    extended reals: the functions the fused call is read as. -/

@[expose] public section

noncomputable section

namespace Cert.MlpSpec

open Idealize.ShloMosaic Cert.MemSpec

/-- A row of 1024 columns, a panel of a weight matrix. -/
abbrev R := Fin 1024 → EReal
abbrev W := Fin 1024 → Fin 1024 → EReal

/-! ## The constants -/

def width : EReal := ((1024 : ℝ) : EReal)
def eps : EReal := ((10995116 / 1099511627776 : ℝ) : EReal)
def alpha : EReal := ((9975792 / 8388608 : ℝ) : EReal)
def two : EReal := ((2 : ℝ) : EReal)
def share : EReal := ((1 / 1024 : ℝ) : EReal)

theorem width_f32 : Ideal.ofBits .f32 0x44800000#32 = width := by
  unfold width; simp [Ideal.ofBits, Ideal.ieee, -EReal.coe_mul]; norm_num
theorem eps_f32 : Ideal.ofBits .f32 0x3727C5AC#32 = eps := by
  unfold eps; simp [Ideal.ofBits, Ideal.ieee, -EReal.coe_mul]; norm_num
theorem alpha_f32 : Ideal.ofBits .f32 0x3F9837F0#32 = alpha := by
  unfold alpha; simp [Ideal.ofBits, Ideal.ieee, -EReal.coe_mul]; norm_num
theorem two_f32 : Ideal.ofBits .f32 0x40000000#32 = two := by
  unfold two; simp [Ideal.ofBits, Ideal.ieee, -EReal.coe_mul]; norm_num
theorem share_f32 : Ideal.ofBits .f32 0x3A800000#32 = share := by
  unfold share; simp [Ideal.ofBits, Ideal.ieee, -EReal.coe_mul]; norm_num

/-! ## A row's layer norm -/

def mean (x : R) : EReal := Ideal.div (∑ c, x c) width
def cent (x : R) : R := fun c => x c - mean x
/-- The variance with the small constant added. -/
def spread (x : R) : EReal := mean (fun c => cent x c * cent x c) + eps
def rstd (x : R) : EReal := Ideal.rsqrt (spread x)
def xhat (x : R) : R := fun c => cent x c * rstd x
/-- The gradient of the norm's input from that of its normalised value `d`. -/
def back (xh : R) (r : EReal) (d : R) : R := fun c => r * (d c - mean d - xh c * mean (fun j => d j * xh j))

/-! ## A row through the network, forwards and backwards; the hidden layer is four panels of 1024 -/

def affine (xh g b : R) : R := fun c => xh c * g c + b c
/-- The panel's part of the hidden layer. -/
def hid (h : R) (U : W) : R := fun f => ∑ c, h c * U c f
def act (z : R) : R := fun f => max (z f) 0 * max (z f) 0
def down (a : R) (D : W) : R := fun c => ∑ f, a f * D f c
def second (h : R) (a : Fin 4 → R) (D : Fin 4 → W) : R := fun c =>
  alpha * h c + (down (a 0) (D 0) c + down (a 1) (D 1) c + down (a 2) (D 2) c + down (a 3) (D 3) c)
def err (p g b t : R) : R := fun c => affine (xhat p) g b c - t c
def dy (e : R) : R := fun c => e c * share
def gain (d g : R) : R := fun c => d c * g c
/-- The panel's hidden gradient. -/
def du (q z : R) (D : W) : R := fun f => (∑ c, q c * D f c) * (two * max (z f) 0)
def up (v : R) (U : W) : R := fun c => ∑ f, v f * U c f
def first (q : R) (v : Fin 4 → R) (U : Fin 4 → W) : R := fun c =>
  alpha * q c + up (v 0) (U 0) c + up (v 1) (U 1) c + up (v 2) (U 2) c + up (v 3) (U 3) c

section Row

variable (xh : R) (r : EReal) (t g1 b1 g2 b2 : R) (U D : Fin 4 → W)

def h1 : R := affine xh g1 b1
def z (p : Fin 4) : R := hid (h1 xh g1 b1) (U p)
def a (p : Fin 4) : R := act (z xh g1 b1 U p)
def pre2 : R := second (h1 xh g1 b1) (a xh g1 b1 U) D
def er : R := err (pre2 xh g1 b1 U D) g2 b2 t
def dyr : R := dy (er xh t g1 b1 g2 b2 U D)
def dpre2 : R := back (xhat (pre2 xh g1 b1 U D)) (rstd (pre2 xh g1 b1 U D)) (gain (dyr xh t g1 b1 g2 b2 U D) g2)
def dur (p : Fin 4) : R := du (dpre2 xh t g1 b1 g2 b2 U D) (z xh g1 b1 U p) (D p)
def dh1 : R := first (dpre2 xh t g1 b1 g2 b2 U D) (dur xh t g1 b1 g2 b2 U D) U
def dpre1 : R := back xh r (gain (dh1 xh t g1 b1 g2 b2 U D) g1)

/-- What the row adds to the five rows of sums; the other three rows are zero. -/
def part (k : Fin 8) : R := fun c =>
  if k = 0 then dyr xh t g1 b1 g2 b2 U D c * xhat (pre2 xh g1 b1 U D) c
  else if k = 1 then dyr xh t g1 b1 g2 b2 U D c
  else if k = 2 then dh1 xh t g1 b1 g2 b2 U D c * xh c
  else if k = 3 then dh1 xh t g1 b1 g2 b2 U D c
  else if k = 4 then er xh t g1 b1 g2 b2 U D c * er xh t g1 b1 g2 b2 U D c
  else 0

end Row

/-- Panel `p` of a block of four. -/
def panel {α : Type} (x : (⟨3, ![4, 1024, 1024]⟩ : Shape).Idx → α) (p : Fin 4) : Fin 1024 → Fin 1024 → α := fun i j => x (ix3 p i j)

end Cert.MlpSpec

end
-- ==== Proof.GradXSpec.lean ====
module

public import proofs.«01_k».proof.Proof.MlpSpec

@[expose] public section

noncomputable section

namespace Cert.GradXSpec

open Idealize.ShloMosaic Cert.MemSpec Cert.MlpSpec

/-- The gradient of one row: the residual's share and the four branches' products with their rows of the transposed weights. -/
def dx (r : R) (a : Fin 4096 → EReal) (b : Fin 1280 → EReal) (c : Fin 1024 → EReal) (d : Fin 3072 → EReal) (w : Fin 9472 → R) : R := fun j =>
  alpha * r j + ∑ k, a k * w ⟨k.val, by omega⟩ j + ∑ k, b k * w ⟨4096 + k.val, by omega⟩ j + ∑ k, c k * w ⟨5376 + k.val, by omega⟩ j +
    ∑ k, d k * w ⟨6400 + k.val, by omega⟩ j

/-- A sum over all rows of the weights, range by range. -/
theorem sum_ranges (f : Fin 9472 → EReal) : ∑ k, f k =
    ∑ k : Fin 4096, f ⟨k.val, by omega⟩ + ∑ k : Fin 1280, f ⟨4096 + k.val, by omega⟩ + ∑ k : Fin 1024, f ⟨5376 + k.val, by omega⟩ +
      ∑ k : Fin 3072, f ⟨6400 + k.val, by omega⟩ := by
  have h3 := Fin.sum_univ_add (a := 6400) (b := 3072) (f : Fin (6400 + 3072) → EReal)
  have h2 := Fin.sum_univ_add (a := 5376) (b := 1024) (fun k : Fin (5376 + 1024) => f ⟨k.val, by omega⟩)
  have h1 := Fin.sum_univ_add (a := 4096) (b := 1280) (fun k : Fin (4096 + 1280) => f ⟨k.val, by omega⟩)
  refine h3.trans (congrArg₂ (· + ·) ?_ rfl)
  refine Eq.trans ?_ (h2.trans (congrArg₂ (· + ·) ?_ rfl))
  · rfl
  · exact Eq.trans (by rfl) (h1.trans (by rfl))

/-- The row's gradient from one product over all rows of the weights. -/
theorem dx_of_sum (r : R) (a : Fin 4096 → EReal) (b : Fin 1280 → EReal) (c : Fin 1024 → EReal) (d : Fin 3072 → EReal) (w : Fin 9472 → R)
    (y : Fin 9472 → EReal) (ha : ∀ k : Fin 4096, y ⟨k.val, by omega⟩ = a k) (hb : ∀ k : Fin 1280, y ⟨4096 + k.val, by omega⟩ = b k)
    (hc : ∀ k : Fin 1024, y ⟨5376 + k.val, by omega⟩ = c k) (hd : ∀ k : Fin 3072, y ⟨6400 + k.val, by omega⟩ = d k) (j : Fin 1024) :
    alpha * r j + ∑ k, y k * w k j = dx r a b c d w j := by
  rw [sum_ranges fun k => y k * w k j]
  simp only [ha, hb, hc, hd]
  unfold dx
  simp only [add_assoc]

theorem zero_f32 : Ideal.ofBits .f32 0x00000000#32 = 0 := by simp [Ideal.ofBits, Ideal.ieee]

end Cert.GradXSpec
end
-- ==== Proof.MergeSpec.lean ====
module

public import proofs.«01_k».proof.Proof.MlpSpec

/-! The gated merge of the three branches for one row, forwards and backwards, on extended reals: the functions the two calls
    are read as. -/

@[expose] public section

noncomputable section

namespace Cert.MergeSpec

open Idealize.ShloMosaic Cert.MemSpec Cert.MlpSpec

/-- The logistic gate. -/
def gate (z : EReal) : EReal := Ideal.div 1 (1 + Ideal.exp (-z))
/-- Part `k` of the three parts of a row of gate inputs. -/
def third (k : Fin 3) (z : Fin 3072 → EReal) : R := fun c => z ⟨k.val * 1024 + c.val, by omega⟩
/-- A row times the transpose of a matrix. -/
def across {n : ℕ} (q : R) (D : Fin n → R) : Fin n → EReal := fun f => ∑ c, q c * D f c

/-- The sum of the gated branches, `z` the gates' inputs and `p` the branches' projections. -/
def merged (z p : Fin 3 → R) : R := fun c => gate (z 0 c) * p 0 c + gate (z 1 c) * p 1 c + gate (z 2 c) * p 2 c
/-- What the layer norm is applied to. -/
def pre (x m : R) (U : W) : R := fun c => alpha * x c + hid m U c

/-- The gradient of a gate's input, from that of the merged row. -/
def dgate (d p z : R) : R := fun c => d c * p c * gate (z c) * (1 - gate (z c))
/-- The gradient of a branch's projection, from that of the merged row. -/
def dproj (d z : R) : R := fun c => d c * gate (z c)

theorem merged_zero (z p : Fin 3 → R) (c : Fin 1024) :
    0 + gate (z 0 c) * p 0 c + gate (z 1 c) * p 1 c + gate (z 2 c) * p 2 c = merged z p c := by
  unfold merged; rw [zero_add]

end Cert.MergeSpec
end
-- ==== Proof.HgrnSpec.lean ====
module

public import proofs.«01_k».proof.Proof.GradXSpec
public import proofs.«01_k».proof.Proof.MergeSpec

@[expose] public section

set_option maxRecDepth 16384

noncomputable section

namespace Cert.HgrnSpec

open Idealize.ShloMosaic Cert.MemSpec Cert.MlpSpec

/-- Sixty-four rows of 1024 columns: one chunk. -/
abbrev Blk := Fin 64 → R
/-- The eight heads' states, 128 value columns by 128 key columns each. -/
abbrev St := Fin 8 → Fin 128 → Fin 128 → EReal

/-- Column `d` of head `h`. -/
def col (h : Fin 8) (d : Fin 128) : Fin 1024 := ⟨h.val * 128 + d.val, by omega⟩

/-! ## The constants -/

def tiny : EReal := ((8796093 / 8796093022208 : ℝ) : EReal)
def many : EReal := ((128 : ℝ) : EReal)

theorem tiny_f32 : Ideal.ofBits .f32 0x358637BD#32 = tiny := by
  unfold tiny; simp [Ideal.ofBits, Ideal.ieee, -EReal.coe_mul]; norm_num
theorem many_f32 : Ideal.ofBits .f32 0x43000000#32 = many := by
  unfold many; simp [Ideal.ofBits, Ideal.ieee, -EReal.coe_mul]; norm_num
theorem one_f32 : Ideal.ofBits .f32 0x3F800000#32 = 1 := by
  simp [Ideal.ofBits, Ideal.ieee, -EReal.coe_mul]; norm_num

/-! ## One chunk -/

/-- The lower bound from the two rows of logits: the first share of their softmax. -/
def lower (l0 l1 : R) : R := fun j =>
  Ideal.div (Ideal.exp (l0 j - max (l0 j) (l1 j))) (Ideal.exp (l0 j - max (l0 j) (l1 j)) + Ideal.exp (l1 j - max (l0 j) (l1 j)))

variable (lb : R) (q fl v hg : Blk)

def gate (c : Fin 64) (j : Fin 1024) : EReal := lb j + (1 - lb j) * Ideal.logistic (fl c j)
def logs (c : Fin 64) (j : Fin 1024) : EReal := Ideal.log (gate lb fl c j)
/-- Whether row `t` is no later than row `c`. -/
def past (c t : Fin 64) : EReal := if t.val ≤ c.val then 1 else 0
/-- The decay of the logarithms up to row `c`. -/
def dec (c : Fin 64) (j : Fin 1024) : EReal := ∑ t, past c t * logs lb fl t j
def last : Fin 64 := ⟨63, by omega⟩
def qIn (c : Fin 64) (j : Fin 1024) : EReal := q c j * Ideal.exp (dec lb fl c j)
def kIn (c : Fin 64) (j : Fin 1024) : EReal := (1 - gate lb fl c j) * Ideal.exp (-dec lb fl c j)
def kOut (c : Fin 64) (j : Fin 1024) : EReal := (1 - gate lb fl c j) * Ideal.exp (dec lb fl last j - dec lb fl c j)
def att (h : Fin 8) (c s : Fin 64) : EReal :=
  if s.val ≤ c.val then ∑ d, qIn lb q fl c (col h d) * kIn lb fl s (col h d) else 0
def upd : St := fun h a d => ∑ s, v s (col h a) * kOut lb fl s (col h d)
def fade (j : Fin 1024) : EReal := Ideal.exp (dec lb fl last j)
/-- The states after the chunk, from those before. -/
def next (S : St) : St := fun h a d => S h a d * fade lb fl (col h d) + upd lb fl v h a d
/-- The chunk's output. -/
def out (S : St) (h : Fin 8) (c : Fin 64) (a : Fin 128) : EReal :=
  (∑ s, att lb q fl h c s * v s (col h a)) + ∑ d, qIn lb q fl c (col h d) * S h a d
/-- The normed and gated output of one row of one head. -/
def gated (o : Fin 128 → EReal) (gain g : EReal) (a : Fin 128) : EReal :=
  o a * Ideal.rsqrt (Ideal.div (∑ x, o x * o x) many + tiny) * gain * (g * Ideal.logistic g)

/-! ## Sums of logarithms that are at most zero -/

theorem lower_bound (l0 l1 : R) (j : Fin 1024) : lower l0 l1 j = ⊥ ∨ ∃ r : ℝ, 0 ≤ r ∧ r ≤ 1 ∧ lower l0 l1 j = (r : EReal) := by
  have below : ∀ x : EReal, x ≤ 0 → ∃ r : ℝ, 0 ≤ r ∧ Ideal.exp x = (r : EReal) := by
    intro x hx
    induction x using EReal.rec with
    | bot => exact ⟨0, le_refl _, by simp⟩
    | coe r => exact ⟨Real.exp r, (Real.exp_pos r).le, rfl⟩
    | top => exact absurd hx (by simp)
  have gap : ∀ x y : EReal, x ≤ y → x - y ≤ 0 := by
    intro x y h
    induction x using EReal.rec with
    | bot => simp
    | coe r =>
      induction y using EReal.rec with
      | bot => exact absurd h (by simp)
      | coe s => exact_mod_cast sub_nonpos.mpr (EReal.coe_le_coe_iff.mp h)
      | top => simp
    | top =>
      have : y = ⊤ := top_le_iff.mp h
      subst this; simp
  obtain ⟨a, ha, ea⟩ := below _ (gap _ _ (le_max_left (l0 j) (l1 j)))
  obtain ⟨b, hb, eb⟩ := below _ (gap _ _ (le_max_right (l0 j) (l1 j)))
  unfold lower
  rw [ea, eb]
  unfold Ideal.div
  by_cases z : a + b = 0
  · have a0 : a = 0 := by linarith
    have b0 : b = 0 := by linarith
    subst a0 b0
    left; simp
  · right
    refine ⟨a / (a + b), div_nonneg ha (by linarith), div_le_one_of_le₀ (by linarith) (by linarith), ?_⟩
    rw [if_neg (by exact_mod_cast z)]
    rw [div_eq_mul_inv]
    push_cast
    rw [EReal.coe_inv]
    push_cast
    rfl

theorem logistic_unit (x : EReal) : ∃ s : ℝ, 0 ≤ s ∧ s ≤ 1 ∧ Ideal.logistic x = (s : EReal) := by
  induction x using EReal.rec with
  | bot => exact ⟨0, le_refl _, zero_le_one, by simp⟩
  | coe r =>
    have := Real.exp_pos (-r)
    exact ⟨(1 + Real.exp (-r))⁻¹, by positivity, inv_le_one_of_one_le₀ (by linarith), by simp⟩
  | top => exact ⟨1, zero_le_one, le_refl _, by simp⟩

/-- What a lower bound may be. -/
def Lower (lb : R) : Prop := ∀ j, lb j = ⊥ ∨ ∃ r : ℝ, 0 ≤ r ∧ r ≤ 1 ∧ lb j = (r : EReal)

theorem log_nonpos (x : EReal) (h : x ≤ 1) : Ideal.log x ≤ 0 := by
  induction x using EReal.rec with
  | bot => exact bot_le
  | coe r =>
    unfold Ideal.log
    show (if r ≤ 0 then (⊥ : EReal) else (Real.log r : EReal)) ≤ 0
    split
    · exact bot_le
    · rename_i z
      exact_mod_cast Real.log_nonpos (by linarith) (by exact_mod_cast h)
  | top => exact absurd (top_le_iff.mp h) (EReal.coe_ne_top 1)

theorem logs_nonpos (hl : Lower lb) (c : Fin 64) (j : Fin 1024) : logs lb fl c j ≤ 0 := by
  refine log_nonpos _ ?_
  unfold gate
  obtain ⟨s, s0, s1, es⟩ := logistic_unit (fl c j)
  rw [es]
  rcases hl j with e | ⟨r, r0, r1, e⟩
  · rw [e]; simp
  · rw [e]
    have : r + (1 - r) * s ≤ 1 := by nlinarith
    exact_mod_cast this

theorem sum_bot {ι : Type} [DecidableEq ι] (A : Finset ι) (f : ι → EReal) (i : ι) (hi : i ∈ A) (h : f i = ⊥) : ∑ x ∈ A, f x = ⊥ := by
  rw [← Finset.add_sum_erase A f hi, h, EReal.bot_add]

theorem sum_nonpos {ι : Type} (A : Finset ι) (f : ι → EReal) (h : ∀ i ∈ A, f i ≤ 0) : ∑ x ∈ A, f x ≤ 0 := Finset.sum_nonpos h

/-- A number's remainders after taking it off itself add nothing to sums of numbers at most zero. -/
theorem split_sum (g : Fin 64 → EReal) (hg : ∀ t, g t ≤ 0) (c : Fin 64) :
    (∑ t, past c t * g t) + (∑ t, past c t * (g t - g t)) + ∑ t, past c t * (g t - g t - (g t - g t)) = ∑ t, past c t * g t := by
  by_cases b : ∃ t : Fin 64, t.val ≤ c.val ∧ g t = ⊥
  · obtain ⟨t, ht, e⟩ := b
    have : ∑ t, past c t * g t = ⊥ := by
      refine sum_bot _ _ t (Finset.mem_univ _) ?_
      unfold past; rw [if_pos ht, e, one_mul]
    rw [this, EReal.bot_add, EReal.bot_add]
  · have z : ∀ t : Fin 64, past c t * (g t - g t) = 0 ∧ past c t * (g t - g t - (g t - g t)) = 0 := by
      intro t
      unfold past
      by_cases ht : t.val ≤ c.val
      · have n : g t ≠ ⊥ := fun e => b ⟨t, ht, e⟩
        have p : g t ≠ ⊤ := fun e => absurd (hg t) (by rw [e]; simp)
        rw [if_pos ht, one_mul, one_mul, EReal.sub_self p n]
        exact ⟨rfl, by simp⟩
      · rw [if_neg ht, zero_mul, zero_mul]; exact ⟨rfl, rfl⟩
    rw [Finset.sum_congr rfl fun t _ => (z t).1, Finset.sum_congr rfl fun t _ => (z t).2]
    simp

theorem dec_nonpos (hl : Lower lb) (c : Fin 64) (j : Fin 1024) : dec lb fl c j ≤ 0 := by
  refine sum_nonpos _ _ fun t _ => ?_
  unfold past
  split
  · rw [one_mul]; exact logs_nonpos lb fl hl t j
  · rw [zero_mul]

/-! ## The recurrence and its sum -/

theorem exp_unit (x : EReal) (h : x ≤ 0) : 0 ≤ Ideal.exp x ∧ Ideal.exp x ≠ ⊤ := by
  induction x using EReal.rec with
  | bot => simp
  | coe r => exact ⟨by rw [Ideal.exp_coe]; exact_mod_cast (Real.exp_pos r).le, by rw [Ideal.exp_coe]; exact EReal.coe_ne_top _⟩
  | top => exact absurd h (by simp)

theorem exp_add (x y : EReal) (hx : x ≤ 0) (hy : y ≤ 0) : Ideal.exp (x + y) = Ideal.exp x * Ideal.exp y := by
  induction x using EReal.rec with
  | bot => simp
  | coe r =>
    induction y using EReal.rec with
    | bot => simp
    | coe s =>
      rw [← EReal.coe_add, Ideal.exp_coe, Ideal.exp_coe, Ideal.exp_coe, Real.exp_add]
      push_cast; rfl
    | top => exact absurd hy (by simp)
  | top => exact absurd hx (by simp)

theorem sum_mul_of_unit {ι : Type} (A : Finset ι) (f : ι → EReal) (e : EReal) (h0 : 0 ≤ e) (h1 : e ≠ ⊤) :
    (∑ x ∈ A, f x) * e = ∑ x ∈ A, f x * e := by
  classical
  induction A using Finset.induction_on with
  | empty => simp
  | insert a s ha ih => rw [Finset.sum_insert ha, Finset.sum_insert ha, EReal.right_distrib_of_nonneg_of_ne_top h0 h1, ih]

/-- How much of chunk `j`'s update the state before chunk `n` keeps. -/
def kept {N : ℕ} (g : Fin N → EReal) (n : ℕ) (j : Fin N) : EReal :=
  if j.val < n then Ideal.exp (∑ i, (if j.val < i.val ∧ i.val < n then (1 : EReal) else 0) * g i) else 0

theorem kept_step {N : ℕ} (g : Fin N → EReal) (hg : ∀ i, g i ≤ 0) (n : Fin N) (j : Fin N) (h : j.val < n.val) :
    kept g (n.val + 1) j = kept g n.val j * Ideal.exp (g n) := by
  unfold kept
  rw [if_pos h, if_pos (by omega)]
  have e : ∀ i : Fin N, (if j.val < i.val ∧ i.val < n.val + 1 then (1 : EReal) else 0) * g i
      = (if j.val < i.val ∧ i.val < n.val then (1 : EReal) else 0) * g i + (if i = n then g n else 0) := by
    intro i
    by_cases a : i = n
    · subst a
      rw [if_pos ⟨h, by omega⟩, if_neg (by omega), if_pos rfl, one_mul, zero_mul, zero_add]
    · have : i.val ≠ n.val := fun x => a (Fin.ext x)
      rw [if_neg a, add_zero]
      congr 1
      exact if_congr (by omega) rfl rfl
  rw [Finset.sum_congr rfl fun i _ => e i, Finset.sum_add_distrib, Finset.sum_ite_eq' Finset.univ n fun _ => g n, if_pos (Finset.mem_univ _)]
  refine exp_add _ _ (sum_nonpos _ _ fun i _ => ?_) (hg n)
  split
  · rw [one_mul]; exact hg i
  · rw [zero_mul]

theorem kept_new {N : ℕ} (g : Fin N → EReal) (n : Fin N) : kept g (n.val + 1) n = 1 := by
  unfold kept
  rw [if_pos (by omega), Finset.sum_congr rfl fun i _ => (show _ = (0 : EReal) by rw [if_neg (by omega), zero_mul])]
  rw [Finset.sum_const_zero, ← EReal.coe_zero, Ideal.exp_coe, Real.exp_zero, EReal.coe_one]

/-- The sum over the earlier chunks obeys the recurrence. -/
theorem sum_step {N : ℕ} (g u : Fin N → EReal) (hg : ∀ i, g i ≤ 0) (n : Fin N) :
    ∑ j, u j * kept g (n.val + 1) j = (∑ j, u j * kept g n.val j) * Ideal.exp (g n) + u n := by
  rw [sum_mul_of_unit _ _ _ (exp_unit _ (hg n)).1 (exp_unit _ (hg n)).2]
  have e : ∀ j : Fin N, u j * kept g (n.val + 1) j = u j * kept g n.val j * Ideal.exp (g n) + (if j = n then u n else 0) := by
    intro j
    rcases lt_trichotomy j.val n.val with h | h | h
    · rw [kept_step g hg n j h, if_neg (by intro x; subst x; omega), add_zero, mul_assoc]
    · have : j = n := Fin.ext h
      subst this
      rw [kept_new, if_pos rfl, mul_one]
      unfold kept; rw [if_neg (by omega), mul_zero, zero_mul, zero_add]
    · rw [if_neg (by intro x; subst x; omega), add_zero]
      unfold kept; rw [if_neg (by omega), if_neg (by omega), mul_zero, zero_mul]
  rw [Finset.sum_congr rfl fun j _ => e j, Finset.sum_add_distrib, Finset.sum_ite_eq' Finset.univ n fun _ => u n, if_pos (Finset.mem_univ _)]

/-! ## All chunks -/

/-- A chunk of the projections: the rows of chunk `n`, the columns from `o`. -/
def cut (Z : Fin 8192 → Fin 4096 → EReal) (o : Fin 4) (n : ℕ) : Blk := fun c j =>
  if h : n < 128 then Z ⟨n * 64 + c.val, by omega⟩ ⟨o.val * 1024 + j.val, by omega⟩ else 0

/-- The states before chunk `n`. -/
def state (lb : R) (Z : Fin 8192 → Fin 4096 → EReal) : ℕ → St
  | 0 => fun _ _ _ => 0
  | n + 1 => next lb (cut Z 1 n) (cut Z 2 n) (state lb Z n)

theorem state_eq_sum (hl : Lower lb) (Z : Fin 8192 → Fin 4096 → EReal) (h : Fin 8) (a d : Fin 128) : ∀ n, n ≤ 128 →
    ∑ j : Fin 128, upd lb (cut Z 1 j.val) (cut Z 2 j.val) h a d * kept (fun i : Fin 128 => dec lb (cut Z 1 i.val) last (col h d)) n j
      = state lb Z n h a d
  | 0, _ => by
    unfold state kept
    refine (Finset.sum_congr rfl fun j _ => ?_).trans Finset.sum_const_zero
    rw [if_neg (by omega), mul_zero]
  | n + 1, hn => by
    rw [sum_step _ _ (fun i => dec_nonpos lb _ hl _ _) ⟨n, by omega⟩, state_eq_sum hl Z h a d n (by omega)]
    rfl

/-! ## By row and column -/

/-- The recurrence's output at row `r`, column `j`. -/
def rawAt (lb : R) (Z : Fin 8192 → Fin 4096 → EReal) (r : Fin 8192) (j : Fin 1024) : EReal :=
  out lb (cut Z 0 (r.val / 64)) (cut Z 1 (r.val / 64)) (cut Z 2 (r.val / 64)) (state lb Z (r.val / 64)) ⟨j.val / 128, by omega⟩ ⟨r.val % 64, by omega⟩ ⟨j.val % 128, by omega⟩
/-- The same normed and gated. -/
def gatedAt (lb gain : R) (Z : Fin 8192 → Fin 4096 → EReal) (r : Fin 8192) (j : Fin 1024) : EReal :=
  gated (fun x => rawAt lb Z r (col ⟨j.val / 128, by omega⟩ x)) (gain j) (cut Z 3 (r.val / 64) ⟨r.val % 64, by omega⟩ j) ⟨j.val % 128, by omega⟩

/-- Row `c` of chunk `n`. -/
def rowAt (n : Fin 128) (c : Fin 64) : Fin 8192 := ⟨n.val * 64 + c.val, by omega⟩

theorem rawAt_mk (lb : R) (Z : Fin 8192 → Fin 4096 → EReal) (n : Fin 128) (c : Fin 64) (h : Fin 8) (a : Fin 128) :
    rawAt lb Z (rowAt n c) (col h a) = out lb (cut Z 0 n.val) (cut Z 1 n.val) (cut Z 2 n.val) (state lb Z n.val) h c a := by
  have e1 : (n.val * 64 + c.val) / 64 = n.val := by omega
  have e2 : (⟨(n.val * 64 + c.val) % 64, by omega⟩ : Fin 64) = c := Fin.ext (by show (n.val * 64 + c.val) % 64 = c.val; omega)
  have e3 : (⟨(h.val * 128 + a.val) / 128, by omega⟩ : Fin 8) = h := Fin.ext (by show (h.val * 128 + a.val) / 128 = h.val; omega)
  have e4 : (⟨(h.val * 128 + a.val) % 128, by omega⟩ : Fin 128) = a := Fin.ext (by show (h.val * 128 + a.val) % 128 = a.val; omega)
  unfold rawAt rowAt col
  simp only [e1, e2, e3, e4]

theorem gatedAt_mk (lb gain : R) (Z : Fin 8192 → Fin 4096 → EReal) (n : Fin 128) (c : Fin 64) (h : Fin 8) (a : Fin 128) :
    gatedAt lb gain Z (rowAt n c) (col h a)
      = gated (fun x => rawAt lb Z (rowAt n c) (col h x)) (gain (col h a)) (cut Z 3 n.val c (col h a)) a := by
  have e1 : (n.val * 64 + c.val) / 64 = n.val := by omega
  have e2 : (⟨(n.val * 64 + c.val) % 64, by omega⟩ : Fin 64) = c := Fin.ext (by show (n.val * 64 + c.val) % 64 = c.val; omega)
  have e3 : (⟨(col h a).val / 128, by have := (col h a).isLt; omega⟩ : Fin 8) = h := Fin.ext (by show (h.val * 128 + a.val) / 128 = h.val; omega)
  have e4 : (⟨(col h a).val % 128, by omega⟩ : Fin 128) = a := Fin.ext (by show (h.val * 128 + a.val) % 128 = a.val; omega)
  unfold gatedAt
  rw [e3, e4]
  have e5 : (rowAt n c).val / 64 = n.val := e1
  have e6 : (⟨(rowAt n c).val % 64, by omega⟩ : Fin 64) = c := e2
  rw [e5, e6]

theorem cut_mk (Z : Fin 8192 → Fin 4096 → EReal) (o : Fin 4) (n : Fin 128) (c : Fin 64) (j : Fin 1024) :
    cut Z o n.val c j = Z (rowAt n c) ⟨o.val * 1024 + j.val, by omega⟩ := by
  unfold cut
  rw [dif_pos n.isLt]
  rfl

theorem rows_exist (r : Fin 8192) : ∃ (n : Fin 128) (c : Fin 64), r = rowAt n c :=
  ⟨⟨r.val / 64, by omega⟩, ⟨r.val % 64, by omega⟩, Fin.ext (by show r.val = r.val / 64 * 64 + r.val % 64; omega)⟩
theorem cols_exist (j : Fin 1024) : ∃ (h : Fin 8) (a : Fin 128), j = col h a :=
  ⟨⟨j.val / 128, by omega⟩, ⟨j.val % 128, by omega⟩, Fin.ext (by show j.val = j.val / 128 * 128 + j.val % 128; omega)⟩

end Cert.HgrnSpec
end
-- ==== Proof.SwaSpec.lean ====
module

public import proofs.«01_k».proof.Proof.MemSpec
public import proofs.«01_k».proof.Proof.HgrnSpec

/-! Sliding-window attention of one query in one head, over the extended reals. -/

@[expose] public section

set_option maxRecDepth 16384

noncomputable section

namespace Cert.SwaSpec

open Idealize.ShloMosaic
open Cert.MemSpec (low low_f32)

/-- The score scale `64^(-1/2)`. -/
def scale : EReal := ((1 / 8 : ℝ) : EReal)

theorem scale_f32 : Ideal.ofBits .f32 0x3E000000#32 = scale := by
  unfold scale
  simp [Ideal.ofBits, Ideal.ieee, -EReal.coe_mul]; norm_num

theorem scale_bf16 : Ideal.ofBits .bf16 0x3E00#16 = scale := by
  unfold scale
  simp [Ideal.ofBits, Ideal.ieee, -EReal.coe_mul]; norm_num

/-- A query's score against key `j` of its window, with its bias. -/
def score (q : Fin 64 → EReal) (k : Fin 256 → Fin 64 → EReal) (b : Fin 256 → EReal) (j : Fin 256) : EReal := (∑ d, k j d * (q d * scale)) + b j

/-- The largest of the scores and the sink. -/
def peak (s : Fin 256 → EReal) (t : EReal) : EReal := max (Finset.univ.fold max low s) t

/-- The weights' sum, the sink's among them, about a level `m`. -/
def total (s : Fin 256 → EReal) (t m : EReal) : EReal := (∑ j, Ideal.exp (s j - m)) + Ideal.exp (t - m)

/-- The values weighed by weights over their sum. -/
def mix (s : Fin 256 → EReal) (t m : EReal) (v : Fin 256 → Fin 64 → EReal) (d : Fin 64) : EReal :=
  ∑ j, v j d * Ideal.div (Ideal.exp (s j - m)) (total s t m)

/-- The same with the sum inverted once. -/
def mixInv (s : Fin 256 → EReal) (t m : EReal) (v : Fin 256 → Fin 64 → EReal) (d : Fin 64) : EReal :=
  ∑ j, v j d * (Ideal.exp (s j - m) * Ideal.div 1 (total s t m))

theorem exp_nonneg (x : EReal) : 0 ≤ Ideal.exp x := by
  induction x using EReal.rec with
  | bot => exact le_refl _
  | top => exact le_top
  | coe r => rw [Ideal.exp_coe]; exact EReal.coe_nonneg.mpr (Real.exp_pos r).le

/-- With no infinite score above and a finite sink the weights' sum is positive. -/
theorem total_pos (s : Fin 256 → EReal) (t : EReal) (hs : ∀ j, s j ≠ ⊤) (ht : t ≠ ⊤ ∧ t ≠ ⊥) : 0 < total s t (peak s t) := by
  have h1 : peak s t ≠ ⊤ := by
    unfold peak
    refine ne_of_lt (max_lt ?_ (lt_top_iff_ne_top.mpr ht.1))
    rw [Finset.fold_max_lt]
    exact ⟨by unfold low; exact bot_lt_top, fun j _ => lt_top_iff_ne_top.mpr (hs j)⟩
  have h2 : peak s t ≠ ⊥ := by
    unfold peak
    exact ne_of_gt (lt_of_lt_of_le (bot_lt_iff_ne_bot.mpr ht.2) (le_max_right _ _))
  unfold total
  generalize peak s t = m at h1 h2
  lift m to ℝ using ⟨h1, h2⟩
  lift t to ℝ using ht
  rw [← EReal.coe_sub t m, Ideal.exp_coe]
  exact lt_of_lt_of_le (EReal.coe_pos.mpr (Real.exp_pos _)) (le_add_of_nonneg_left (Finset.sum_nonneg fun j _ => exp_nonneg _))

theorem mixInv_eq (s : Fin 256 → EReal) (t : EReal) (hs : ∀ j, s j ≠ ⊤) (ht : t ≠ ⊤ ∧ t ≠ ⊥) (v : Fin 256 → Fin 64 → EReal) (d : Fin 64) :
    mixInv s t (peak s t) v d = mix s t (peak s t) v d := by
  have h := (total_pos s t hs ht).ne'
  unfold mixInv mix
  refine Finset.sum_congr rfl fun j _ => ?_
  unfold Ideal.div
  rw [if_neg h, if_neg h, one_mul]

/-- A score of finite queries and keys with a bias below infinity is below infinity. -/
theorem score_ne_top (q : Fin 64 → EReal) (k : Fin 256 → Fin 64 → EReal) (b : Fin 256 → EReal) (j : Fin 256)
    (hq : ∀ d, q d ≠ ⊤ ∧ q d ≠ ⊥) (hk : ∀ d, k j d ≠ ⊤ ∧ k j d ≠ ⊥) (hb : b j ≠ ⊤) : score q k b j ≠ ⊤ := by
  unfold score scale
  have e : ∀ d, k j d * (q d * ((1 / 8 : ℝ) : EReal)) = (((k j d).toReal * ((q d).toReal * (1 / 8 : ℝ)) : ℝ) : EReal) := by
    intro d
    rw [EReal.coe_mul, EReal.coe_mul, EReal.coe_toReal (hk d).1 (hk d).2, EReal.coe_toReal (hq d).1 (hq d).2]
  simp only [e]
  have s : ∀ u : Finset (Fin 64), ∃ r : ℝ, ∑ d ∈ u, (((k j d).toReal * ((q d).toReal * (1 / 8 : ℝ)) : ℝ) : EReal) = (r : EReal) := by
    intro u
    induction u using Finset.induction_on with
    | empty => exact ⟨0, by simp⟩
    | insert a u ha ih =>
      obtain ⟨r, hr⟩ := ih
      exact ⟨_, by rw [Finset.sum_insert ha, hr, ← EReal.coe_add]⟩
  obtain ⟨r, hr⟩ := s Finset.univ
  rw [hr]
  exact EReal.add_ne_top (EReal.coe_ne_top r) hb

end Cert.SwaSpec
end
-- ==== Proof.SwaRefScores.lean ====
module

public import proofs.«01_k».proof.Proof.SwaSpec
public import proofs.«01_k».proof.Proof.Gen.SwaFwdReferenceIdeal.Read
public import Idealize.ShloMosaic.Lib.Pointwise

/-! The sliding-window reference, index by index, past its first block. -/

@[expose] public section

set_option backward.proofsInPublic true
set_option maxRecDepth 16384

noncomputable section

namespace Cert.SwaFwdReferenceIdeal.Point

open Cert.SwaFwdReferenceIdeal Cert.SwaFwdReferenceIdeal.Gen Cert.SwaFwdReferenceIdeal.Read Idealize.ShloMosaic Idealize.ShloMosaic.TcCoe Idealize.SL.Sem Cert.SwaSpec
open Cert.MemSpec (low low_f32)

variable (X : FVec Ideal S8192x1280 .bf16) (B : FVec Ideal S16x32768 .f32) (S : FVec Ideal S1x16 .f32)

/-- A query's row, and its key `j`'s row past the first block. -/
def rowAt (n : Fin 64) (q : Fin 128) : Fin 8192 := ⟨n.val * 128 + q.val, by omega⟩
def keyRow (n : Fin 64) (j : Fin 256) : Fin 8192 := ⟨(n.val - 1) * 128 + j.val, by omega⟩

/-- Queries, keys, values, biases and sinks of block `n`, part `p` and head `h`. -/
def qAt (n : Fin 64) (q : Fin 128) (p : Fin 2) (h : Fin 8) : Fin 64 → EReal := fun d => X (ix2 (rowAt n q) ⟨p.val * 512 + h.val * 64 + d.val, by omega⟩)
def kAt (n : Fin 64) (p : Fin 2) : Fin 256 → Fin 64 → EReal := fun j d => X (ix2 (keyRow n j) ⟨1024 + (p.val * 64 + d.val), by omega⟩)
def vAt (n : Fin 64) (p : Fin 2) : Fin 256 → Fin 64 → EReal := fun j d => X (ix2 (keyRow n j) ⟨1152 + (p.val * 64 + d.val), by omega⟩)
def bAt (q : Fin 128) (p : Fin 2) (h : Fin 8) : Fin 256 → EReal := fun j => B (ix2 ⟨p.val * 8 + h.val, by omega⟩ ⟨q.val * 256 + j.val, by omega⟩)
def sAt (p : Fin 2) (h : Fin 8) : EReal := S (ix2 0 ⟨p.val * 8 + h.val, by omega⟩)
def scoreAt (n : Fin 64) (q : Fin 128) (p : Fin 2) (h : Fin 8) : Fin 256 → EReal := score (qAt X n q p h) (kAt X n p) (bAt B q p h)

theorem v8_at (n : Fin 64) (q : Fin 128) (p : Fin 2) (h : Fin 8) (d : Fin 64) : val_main_v8 (F := Ideal) X (ix5 n q p h d) = qAt X n q p h d * scale := by
  unfold qAt rowAt
  pointwise [val_main_v8, val_main_v7, val_main_v6, val_main_v1, val_main_v0, val_main_cst, scale_f32]

theorem v9_at (n : Fin 64) (s : Fin 128) (p : Fin 2) (d : Fin 64) : val_main_v9 (F := Ideal) X (ix4 n s p d) = X (ix2 (rowAt n s) ⟨1024 + (p.val * 64 + d.val), by omega⟩) := by
  unfold rowAt
  pointwise [val_main_v9, val_main_v3, val_main_v2]

theorem v10_at (n : Fin 64) (s : Fin 128) (p : Fin 2) (d : Fin 64) : val_main_v10 (F := Ideal) X (ix4 n s p d) = X (ix2 (rowAt n s) ⟨1152 + (p.val * 64 + d.val), by omega⟩) := by
  unfold rowAt
  pointwise [val_main_v10, val_main_v5, val_main_v4]

theorem v15_at (n : Fin 64) (hn : 0 < n.val) (j : Fin 256) (p : Fin 2) (d : Fin 64) : val_main_v15 (F := Ideal) X (ix4 n j p d) = kAt X n p j d := by
  have e := v9_at X
  unfold kAt keyRow
  unfold val_main_v15 val_main_v14 val_main_v13
  generalize val_main_v9 (F := Ideal) X = a at e
  pointwise [e]
  split
  · split
    · exact absurd hn (by omega)
    · rfl
  · congr 2
    apply Fin.ext
    show n.val * 128 + (j.val - 128) = (n.val - 1) * 128 + j.val
    omega

theorem v18_at (n : Fin 64) (hn : 0 < n.val) (j : Fin 256) (p : Fin 2) (d : Fin 64) : val_main_v18 (F := Ideal) X (ix4 n j p d) = vAt X n p j d := by
  have e := v10_at X
  unfold vAt keyRow
  unfold val_main_v18 val_main_v17 val_main_v16
  generalize val_main_v10 (F := Ideal) X = a at e
  pointwise [e]
  split
  · split
    · exact absurd hn (by omega)
    · rfl
  · congr 2
    apply Fin.ext
    show n.val * 128 + (j.val - 128) = (n.val - 1) * 128 + j.val
    omega

theorem v20_at (n : Fin 64) (hn : 0 < n.val) (p : Fin 2) (h : Fin 8) (q : Fin 128) (j : Fin 256) :
    val_main_v20 (F := Ideal) X (ix5 p h n q j) = ∑ d, kAt X n p j d * (qAt X n q p h d * scale) := by
  have e := v15_at X n hn
  have f := v8_at X n q p h
  unfold val_main_v20 val_main_v19
  generalize val_main_v15 (F := Ideal) X = a at e
  generalize val_main_v8 (F := Ideal) X = b at f
  pointwise [e, f]

theorem v24_at : ∀ n : Fin 64, 0 < n.val → val_main_v24 (F := Ideal) (ix3 n 0 0) = 1#1 := by
  intro n hn
  have e : val_main_v22 (F := Ideal) (ix3 n 0 0) = BitVec.ofNat 32 n.val := by pointwise [val_main_v22, val_main_v21]
  have f : val_main_v23 (F := Ideal) (ix3 n 0 0) = 0#32 := by pointwise [val_main_v23, val_main_c]
  rw [val_main_v24_apply, e, f]
  revert n
  decide

theorem v31_at (n : Fin 64) (hn : 0 < n.val) (j : Fin 256) : val_main_v31 (F := Ideal) (ix3 n 0 j) = 1#1 := by
  have e := v24_at n hn
  unfold val_main_v31 val_main_v29
  generalize val_main_v24 (F := Ideal) = a at e
  generalize val_main_v30 (F := Ideal) = b
  pointwise [e]
  generalize b (ix3 n 0 j) = x
  revert x
  decide

theorem v35_at (n : Fin 64) (hn : 0 < n.val) (p : Fin 2) (h : Fin 8) (q : Fin 128) (j : Fin 256) :
    val_main_v35 (F := Ideal) X B (ix5 p h n q j) = scoreAt X B n q p h j := by
  have e := v20_at X n hn p h q
  have f := v31_at n hn
  unfold scoreAt score bAt
  unfold val_main_v35 val_main_call0_v1 val_main_v34 val_main_v33 val_main_v32
  generalize val_main_v20 (F := Ideal) X = a at e
  generalize val_main_v31 (F := Ideal) = b at f
  pointwise [e, f]

theorem v36_at (p : Fin 2) (h : Fin 8) : val_main_v36 (F := Ideal) S (ix5 p h 0 0 0) = sAt S p h := by
  unfold sAt
  pointwise [val_main_v36]

end Cert.SwaFwdReferenceIdeal.Point
end
-- ==== Proof.SwaRef.lean ====
module

public import proofs.«01_k».proof.Proof.SwaRefScores
public import proofs.«01_k».proof.Proof.Gen.SwaFwdReferenceIdeal.Read
public import Idealize.ShloMosaic.Lib.Pointwise

/-! The sliding-window reference, index by index, past its first block. -/

@[expose] public section

set_option backward.proofsInPublic true
set_option maxRecDepth 16384

noncomputable section

namespace Cert.SwaFwdReferenceIdeal.Point

open Cert.SwaFwdReferenceIdeal Cert.SwaFwdReferenceIdeal.Gen Cert.SwaFwdReferenceIdeal.Read Idealize.ShloMosaic Idealize.ShloMosaic.TcCoe Idealize.SL.Sem Cert.SwaSpec
open Cert.MemSpec (low low_f32)

variable (X : FVec Ideal S8192x1280 .bf16) (B : FVec Ideal S16x32768 .f32) (S : FVec Ideal S1x16 .f32)

/-- A maximum along the last of five axes, at an index. -/
theorem rowMax_at {n0 n1 n2 n3 n4 : ℕ} {u : Shape} (a : FVec Ideal (⟨5, ![n0, n1, n2, n3, n4]⟩ : Shape) .f32) (z : FVec Ideal u .f32)
    (r : (⟨5, ![n0, n1, n2, n3, n4]⟩ : Shape).ReducesTo [4] (⟨4, ![n0, n1, n2, n3]⟩ : Shape)) (hu : 0 < u.numel) (w : EReal) (hz : ∀ i, z i = w)
    (i0 : Fin n0) (i1 : Fin n1) (i2 : Fin n2) (i3 : Fin n3) (f : Fin n4 → EReal) (hf : ∀ k, a (ix5 i0 i1 i2 i3 k) = f k) (x : EReal)
    (hx : x = Finset.univ.fold max w f) :
    Host.reduce FloatOps.maximumf a z r hu (ix4 i0 i1 i2 i3) = x := by
  have e : f = fun k => a (ix5 i0 i1 i2 i3 k) := funext fun k => (hf k).symm
  rw [Host.reduce_eq_fold, Shape.ReducesTo.fold_fiber_r5_a4, hz, hx, e]
  rfl

theorem low_at (i : S_.Idx) : val_main_cst_3 (F := Ideal) i = low := by
  unfold val_main_cst_3
  pointwise [low_f32]

theorem v37_at (n : Fin 64) (hn : 0 < n.val) (p : Fin 2) (h : Fin 8) (q : Fin 128) :
    val_main_v37 (F := Ideal) X B (ix4 p h n q) = Finset.univ.fold max low (scoreAt X B n q p h) := by
  have e := v35_at X B n hn p h q
  unfold val_main_v37
  generalize val_main_v35 (F := Ideal) X B = a at e
  generalize scoreAt X B n q p h = f at e
  have z := low_at
  generalize val_main_cst_3 (F := Ideal) = b at z
  exact rowMax_at a b _ _ low z p h n q f e _ rfl

theorem larger_at {s : Shape} (a b : FVec Ideal s .f32) (i : s.Idx) (x y : EReal) (ha : a i = x) (hb : b i = y) : maximumf a b i = max x y := by
  rw [← ha, ← hb]; rfl

theorem v38_at (n : Fin 64) (hn : 0 < n.val) (p : Fin 2) (h : Fin 8) (q : Fin 128) :
    val_main_v38 (F := Ideal) X B (ix5 p h n q 0) = Finset.univ.fold max low (scoreAt X B n q p h) := by
  have i : idx_main_v38 (ix5 p h n q 0) = ix4 p h n q := funext fun a => match a with
    | 0 => rfl
    | 1 => rfl
    | 2 => rfl
    | 3 => rfl
  rw [val_main_v38_apply, i]
  exact v37_at X B n hn p h q

theorem v39_at (n : Fin 64) (p : Fin 2) (h : Fin 8) (q : Fin 128) : val_main_v39 (F := Ideal) S (ix5 p h n q 0) = sAt S p h := by
  have i : idx_main_v39 (ix5 p h n q 0) = ix5 p h 0 0 0 := funext fun a => match a with
    | 0 => rfl
    | 1 => rfl
    | 2 => rfl
    | 3 => rfl
    | 4 => rfl
  rw [val_main_v39_apply, i]
  exact v36_at S p h

theorem v40_at (n : Fin 64) (hn : 0 < n.val) (p : Fin 2) (h : Fin 8) (q : Fin 128) :
    val_main_v40 (F := Ideal) X B S (ix5 p h n q 0) = peak (scoreAt X B n q p h) (sAt S p h) := by
  have e := v38_at X B n hn p h q
  have f := v39_at S n p h q
  unfold peak val_main_v40
  generalize Finset.univ.fold max low (scoreAt X B n q p h) = x at e
  generalize sAt S p h = y at f
  generalize val_main_v38 (F := Ideal) X B = a at e
  generalize val_main_v39 (F := Ideal) S = b at f
  exact larger_at a b _ x y e f

theorem v43_at (n : Fin 64) (hn : 0 < n.val) (p : Fin 2) (h : Fin 8) (q : Fin 128) (j : Fin 256) :
    val_main_v43 (F := Ideal) X B S (ix5 p h n q j) = Ideal.exp (scoreAt X B n q p h j - peak (scoreAt X B n q p h) (sAt S p h)) := by
  have e := v35_at X B n hn p h q
  have f := v40_at X B S n hn p h q
  unfold val_main_v43 val_main_v42 val_main_v41
  generalize val_main_v35 (F := Ideal) X B = a at e
  generalize val_main_v40 (F := Ideal) X B S = b at f
  pointwise [e, f]

theorem v49_at (n : Fin 64) (hn : 0 < n.val) (p : Fin 2) (h : Fin 8) (q : Fin 128) :
    val_main_v49 (F := Ideal) X B S (ix5 p h n q 0) = total (scoreAt X B n q p h) (sAt S p h) (peak (scoreAt X B n q p h) (sAt S p h)) := by
  have e := v43_at X B S n hn p h q
  have f := v40_at X B S n hn p h q
  have g := v36_at S p h
  unfold total
  unfold val_main_v49 val_main_v48 val_main_v47 val_main_v46 val_main_v45 val_main_v44
  generalize val_main_v43 (F := Ideal) X B S = a at e
  generalize val_main_v40 (F := Ideal) X B S = b at f
  generalize val_main_v36 (F := Ideal) S = d at g
  pointwise [e, f, g, val_main_cst_4, GradXSpec.zero_f32]

theorem v51_at (n : Fin 64) (hn : 0 < n.val) (p : Fin 2) (h : Fin 8) (q : Fin 128) (j : Fin 256) :
    val_main_v51 (F := Ideal) X B S (ix5 p h n q j) = Ideal.div (Ideal.exp (scoreAt X B n q p h j - peak (scoreAt X B n q p h) (sAt S p h)))
      (total (scoreAt X B n q p h) (sAt S p h) (peak (scoreAt X B n q p h) (sAt S p h))) := by
  have e := v43_at X B S n hn p h q
  have f := v49_at X B S n hn p h q
  unfold val_main_v51 val_main_v50
  generalize val_main_v43 (F := Ideal) X B S = a at e
  generalize val_main_v49 (F := Ideal) X B S = b at f
  pointwise [e, f]

/-- A query's attention in head `h` of part `p`. -/
def attend (n : Fin 64) (q : Fin 128) (p : Fin 2) (h : Fin 8) : Fin 64 → EReal :=
  mix (scoreAt X B n q p h) (sAt S p h) (peak (scoreAt X B n q p h) (sAt S p h)) (vAt X n p)

theorem v53_at (n : Fin 64) (hn : 0 < n.val) (q : Fin 128) (p : Fin 2) (h : Fin 8) (d : Fin 64) :
    val_main_v53 (F := Ideal) X B S (ix5 n q p h d) = attend X B S n q p h d := by
  have e := v18_at X n hn
  have f := v51_at X B S n hn p h q
  unfold attend mix
  unfold val_main_v53 val_main_v52
  generalize val_main_v18 (F := Ideal) X = a at e
  generalize val_main_v51 (F := Ideal) X B S = b at f
  pointwise [e, f]

theorem v55_at (n : Fin 64) (hn : 0 < n.val) (q : Fin 128) (p : Fin 2) (h : Fin 8) (d : Fin 64) :
    val_main_v55 (F := Ideal) X B S (ix2 (rowAt n q) ⟨p.val * 512 + h.val * 64 + d.val, by omega⟩) = attend X B S n q p h d := by
  rw [← v53_at X B S n hn]
  rw [val_main_v55_apply, val_main_v54_apply]
  show val_main_v53 (F := Ideal) X B S _ = _
  congr 1
  funext a
  unfold rowAt
  match a with
  | 0 => apply Fin.ext; show ((n.val * 128 + q.val) * 1024 + (p.val * 512 + h.val * 64 + d.val)) / 131072 = n.val; omega
  | 1 => apply Fin.ext; show ((n.val * 128 + q.val) * 1024 + (p.val * 512 + h.val * 64 + d.val)) / 1024 % 128 = q.val; omega
  | 2 => apply Fin.ext; show ((n.val * 128 + q.val) * 1024 + (p.val * 512 + h.val * 64 + d.val)) / 512 % 2 = p.val; omega
  | 3 => apply Fin.ext; show ((n.val * 128 + q.val) * 1024 + (p.val * 512 + h.val * 64 + d.val)) / 64 % 8 = h.val; omega
  | 4 => apply Fin.ext; show ((n.val * 128 + q.val) * 1024 + (p.val * 512 + h.val * 64 + d.val)) % 64 = d.val; omega

end Cert.SwaFwdReferenceIdeal.Point
end
-- ==== Proof.MemMask.lean ====
module

public import proofs.«01_k».proof.Defs
public import proofs.«01_k».proof.Proof.MemSpec
public import Idealize.ShloMosaic.Lib.ReduceAll

/-! What the precondition and the mask of the memory attention's claim say of the arguments and of an index. -/

@[expose] public section

set_option maxRecDepth 16384

noncomputable section

namespace Cert.MemMask

open Idealize.ShloMosaic

/-- An extended real whose absolute value is below the infinite word is a real. -/
theorem real_of_lt (a : EReal) (h : Ideal.cmp .olt (max a (-a)) (Ideal.ofBits .f32 0x7F800000#32) = 1#1) : a ≠ ⊤ ∧ a ≠ ⊥ := by
  have e : Ideal.ofBits .f32 0x7F800000#32 = ⊤ := by simp [Ideal.ofBits, Ideal.ieee]
  rw [e] at h
  constructor <;> rintro rfl <;> simp [Ideal.cmp] at h

section
variable [Cert.Pre_mem_finite.Facts]

instance : Subsingleton Cert.Pre_mem_finite.S_.Idx := ⟨fun a b => funext fun k => k.elim0⟩

/-- Under the precondition no element of the queries, the keys or the values is infinite. -/
theorem finite_of_pre (x z o : FVec Ideal Cert.Pre_mem_finite.S8192x1024 .bf16) (kv : FVec Ideal Cert.Pre_mem_finite.S256x2048 .bf16)
    (h : Cert.Pre_mem_finite.fn (F := Ideal) x z o kv = fun _ => 1#1) :
    (∀ i, z i ≠ ⊤ ∧ z i ≠ ⊥) ∧ (∀ i, kv i ≠ ⊤ ∧ kv i ≠ ⊥) := by
  have h0 := congrFun h (fun k => k.elim0)
  obtain ⟨h1, h2⟩ := IntOp.andi_eq_one.1 h0
  exact ⟨fun i => real_of_lt _ (Host.reduce_andi_all _ _ _ _ _ h1 i), fun i => real_of_lt _ (Host.reduce_andi_all _ _ _ _ _ h2 i)⟩

end

theorem ofBool_eq (b : Bool) : BitVec.ofBool b = 1#1 ↔ b = true := by cases b <;> decide

section
variable [Cert.On_mem_written.Facts]

/-- The mask selects of the third result the rows 5376 to 6399. -/
theorem rows_of_mask (x z o : FVec Ideal Cert.On_mem_written.S8192x1024 .bf16) (kv : FVec Ideal Cert.On_mem_written.S256x2048 .bf16)
    (k : Fin 9472) (b : Fin 1024) (h : (Cert.On_mem_written.fn (F := Ideal) x z o kv).2.2 (ix2 k b) = 1#1) : 5376 ≤ k.val ∧ k.val < 6400 := by
  obtain ⟨h1, h2⟩ := IntOp.andi_eq_one.1 h
  have hk : (BitVec.ofNat 32 k.val).toInt = k.val := by
    have hb := k.isLt
    have e : (BitVec.ofNat 32 k.val).toNat = k.val := by rw [BitVec.toNat_ofNat]; omega
    rw [BitVec.toInt_eq_toNat_of_lt (by omega), e]
  constructor
  · have h1 : IntOp.cmpi .sge (BitVec.ofNat 32 k.val) 5376#32 = 1#1 := h1
    simp only [IntOp.cmpi, ofBool_eq, BitVec.sle_iff_toInt_le, BitVec.slt_iff_toInt_lt, hk] at h1
    have e : (5376#32).toInt = 5376 := by decide
    omega
  · have h2 : IntOp.cmpi .slt (BitVec.ofNat 32 k.val) 6400#32 = 1#1 := h2
    simp only [IntOp.cmpi, ofBool_eq, BitVec.slt_iff_toInt_lt, hk] at h2
    have e : (6400#32).toInt = 6400 := by decide
    omega

end

end Cert.MemMask
end
-- ==== Proof.SwaTile.lean ====
module

public import proofs.«01_k».proof.Proof.SwaSpec
public import proofs.«01_k».proof.Proof.Gen.SwaFwdIdeal.Value
public import Idealize.ShloMosaic.Lib.Pointwise

/-! One block of the sliding-window kernel, index by index. -/

@[expose] public section

set_option backward.proofsInPublic true
set_option maxRecDepth 16384

noncomputable section

namespace Cert.SwaFwdIdeal.Tile

open Cert.SwaFwdIdeal Cert.SwaFwdIdeal.Gen Idealize.ShloMosaic Idealize.ShloMosaic.TcCoe Idealize.SL.Sem Cert.SwaSpec
open Cert.MemSpec (low low_f32)

/-- Lane of head `h` of a part and query `q`; column of part `p`, pair `w`, place `e` and coordinate `d`. -/
def lane (h : Fin 8) (q : Fin 128) : Fin 1024 := ⟨h.val * 128 + q.val, by omega⟩
def hcol (p : Fin 2) (h : Fin 8) (d : Fin 64) : Fin 1024 := ⟨p.val * 512 + h.val * 64 + d.val, by omega⟩
def head (w : Fin 4) (e : Fin 2) : Fin 8 := ⟨w.val * 2 + e.val, by omega⟩
def kcol (p : Fin 2) (d : Fin 64) : Fin 256 := ⟨p.val * 64 + d.val, by omega⟩
def vcol (p : Fin 2) (d : Fin 64) : Fin 256 := ⟨128 + (p.val * 64 + d.val), by omega⟩

theorem stack2_at (f : Fin 2 → FVec Ideal S128x64 .bf16) (n : Fin 2) (r : Fin 128) (d : Fin 64) :
    concatenate S256x64 0 (List.ofFn fun i : Fin 2 => (⟨S128x64, f i⟩ : (s : Shape) × (s.Idx → _))) concatenates_S128x64_S128x64_S256x64_d0 (ix2 ⟨n.val * 128 + r.val, by omega⟩ d) = f n (ix2 r d) := by
  refine concatenate_ofFn_apply (t := S256x64) (s₁ := S128x64) 0 f _ rfl 128 rfl _ n ?_ _ ?_ ?_
  · show (n.val * 128 + r.val) / 128 = n.val
    omega
  · show r.val = (n.val * 128 + r.val) % 128
    omega
  · intro b hb
    match b with
    | 0 => exact absurd rfl hb
    | 1 => rfl

theorem stack8_at (f : Fin 8 → FVec Ideal S128x64 .bf16) (n : Fin 8) (r : Fin 128) (d : Fin 64) :
    concatenate S1024x64 0 (List.ofFn fun i : Fin 8 => (⟨S128x64, f i⟩ : (s : Shape) × (s.Idx → _))) concatenates_S128x64_S128x64_S128x64_S128x64_S128x64_S128x64_S128x64_S128x64_S1024x64_d0 (ix2 (lane n r) d) = f n (ix2 r d) := by
  refine concatenate_ofFn_apply (t := S1024x64) (s₁ := S128x64) 0 f _ rfl 128 rfl _ n ?_ _ ?_ ?_
  · show (n.val * 128 + r.val) / 128 = n.val
    omega
  · show r.val = (n.val * 128 + r.val) % 128
    omega
  · intro b hb
    match b with
    | 0 => exact absurd rfl hb
    | 1 => rfl

theorem pair_at (f : Fin 2 → FVec Ideal S64x128 .f32) (n : Fin 2) (d : Fin 64) (q : Fin 128) :
    concatenate S128x128 0 (List.ofFn fun i : Fin 2 => (⟨S64x128, f i⟩ : (s : Shape) × (s.Idx → _))) concatenates_S64x128_S64x128_S128x128_d0 (ix2 ⟨n.val * 64 + d.val, by omega⟩ q) = f n (ix2 d q) := by
  refine concatenate_ofFn_apply (t := S128x128) (s₁ := S64x128) 0 f _ rfl 64 rfl _ n ?_ _ ?_ ?_
  · show (n.val * 64 + d.val) / 64 = n.val
    omega
  · show d.val = (n.val * 64 + d.val) % 64
    omega
  · intro b hb
    match b with
    | 0 => exact absurd rfl hb
    | 1 => rfl

theorem row4_at (f : Fin 4 → FVec Ideal S128x128 .f32) (n : Fin 4) (q a : Fin 128) :
    concatenate S128x512 1 (List.ofFn fun i : Fin 4 => (⟨S128x128, f i⟩ : (s : Shape) × (s.Idx → _))) concatenates_S128x128_S128x128_S128x128_S128x128_S128x512_d1 (ix2 q ⟨n.val * 128 + a.val, by omega⟩) = f n (ix2 q a) := by
  refine concatenate_ofFn_apply (t := S128x512) (s₁ := S128x128) 1 f _ rfl 128 rfl _ n ?_ _ ?_ ?_
  · show (n.val * 128 + a.val) / 128 = n.val
    omega
  · show a.val = (n.val * 128 + a.val) % 128
    omega
  · intro b hb
    match b with
    | 0 => rfl
    | 1 => exact absurd rfl hb

theorem row2_at (f : Fin 2 → FVec Ideal S128x512 .f32) (n : Fin 2) (q : Fin 128) (a : Fin 512) :
    concatenate S128x1024 1 (List.ofFn fun i : Fin 2 => (⟨S128x512, f i⟩ : (s : Shape) × (s.Idx → _))) concatenates_S128x512_S128x512_S128x1024_d1 (ix2 q ⟨n.val * 512 + a.val, by omega⟩) = f n (ix2 q a) := by
  refine concatenate_ofFn_apply (t := S128x1024) (s₁ := S128x512) 1 f _ rfl 512 rfl _ n ?_ _ ?_ ?_
  · show (n.val * 512 + a.val) / 512 = n.val
    omega
  · show a.val = (n.val * 512 + a.val) % 512
    omega
  · intro b hb
    match b with
    | 0 => rfl
    | 1 => exact absurd rfl hb

section
variable (kc kp : FVec Ideal S128x256 .bf16) (K : Fin 256 → Fin 256 → EReal) (hp : ∀ (r : Fin 128) (c : Fin 256), kp (ix2 r c) = K ⟨r.val, by omega⟩ c)
  (hc : ∀ (r : Fin 128) (c : Fin 256), kc (ix2 r c) = K ⟨128 + r.val, by omega⟩ c)
include hp hc

/-- The two key blocks stacked, cut at column `o`. -/
theorem keys_at (o : ℕ) (ho : o + 64 ≤ 256) (hs : S128x256.Slices ![0, o] S128x64) (s : Fin 256) (d : Fin 64) :
    concatenate S256x64 0 [⟨S128x64, extractStridedSlice S128x64 ![0, o] kp hs⟩, ⟨S128x64, extractStridedSlice S128x64 ![0, o] kc hs⟩] concatenates_S128x64_S128x64_S256x64_d0 (ix2 s d) = K s ⟨o + d.val, by omega⟩ := by
  pointwise [hp, hc]
  split
  · rfl
  · congr 1
    apply Fin.ext
    show 128 + (s.val - 128) = s.val
    omega

theorem pay3_at (s : Fin 256) (d : Fin 64) : k0_pay3 (F := Ideal) kc kp (ix2 s d) = K s (vcol 0 d) := by
  refine (keys_at kc kp K hp hc 128 (by omega) _ s d).trans ?_
  congr 1
  apply Fin.ext; show 128 + d.val = 128 + (0 * 64 + d.val); omega
theorem pay4_at (s : Fin 256) (d : Fin 64) : k0_pay4 (F := Ideal) kc kp (ix2 s d) = K s (vcol 1 d) := by
  refine (keys_at kc kp K hp hc 192 (by omega) _ s d).trans ?_
  congr 1
  apply Fin.ext; show 192 + d.val = 128 + (1 * 64 + d.val); omega

end

section
variable (z : FVec Ideal S128x1024 .bf16)

/-- The eight heads of part `p`, stacked. -/
theorem cutsQ (p : Fin 2) (h : Fin 8) : S128x1024.Slices ![0, p.val * 512 + h.val * 64] S128x64 := by revert p h; decide
def heads (p : Fin 2) : FVec Ideal S1024x64 .bf16 :=
  concatenate S1024x64 0 (List.ofFn fun h : Fin 8 => (⟨S128x64, extractStridedSlice S128x64 ![0, p.val * 512 + h.val * 64] (k0_pay2 (F := Ideal) z) (cutsQ p h)⟩ : (s : Shape) × (s.Idx → _))) concatenates_S128x64_S128x64_S128x64_S128x64_S128x64_S128x64_S128x64_S128x64_S1024x64_d0

theorem heads_at (p : Fin 2) (h : Fin 8) (q : Fin 128) (d : Fin 64) : heads z p (ix2 (lane h q) d) = z (ix2 q (hcol p h d)) * scale := by
  unfold heads
  refine (stack8_at _ h q d).trans ?_
  refine (extractStridedSlice_apply _ _ _ _ (ix2 q (hcol p h d)) ?_).trans ?_
  · intro b
    match b with
    | 0 => simp
    | 1 => simp [hcol]
  · pointwise [k0_pay2, scale_bf16]

variable (kc kp : FVec Ideal S128x256 .bf16) (K : Fin 256 → Fin 256 → EReal) (hp : ∀ (r : Fin 128) (c : Fin 256), kp (ix2 r c) = K ⟨r.val, by omega⟩ c)
  (hc : ∀ (r : Fin 128) (c : Fin 256), kc (ix2 r c) = K ⟨128 + r.val, by omega⟩ c)

/-- The scores of part 0 with their biases, and of part 1 without. -/
theorem pay6_eq (b : FVec Ideal S1x256x1024 .f32) : k0_pay6 (F := Ideal) z kc kp b = addf (matmul dot_S256x64_S1024x64_S256x1024_1_1_0_0_n_n none
    (concatenate S256x64 0 [⟨S128x64, extractStridedSlice S128x64 ![0, 0] kp slices_S128x256_o0_0_S128x64⟩, ⟨S128x64, extractStridedSlice S128x64 ![0, 0] kc slices_S128x256_o0_0_S128x64⟩] concatenates_S128x64_S128x64_S256x64_d0)
    (heads z 0) (constant S256x1024 .f32 0x00000000#32)) (shapeCast S256x1024 b shapeCasts_S1x256x1024_S256x1024) := rfl
theorem pay5_eq : k0_pay5 (F := Ideal) z kc kp = matmul dot_S256x64_S1024x64_S256x1024_1_1_0_0_n_n none
    (concatenate S256x64 0 [⟨S128x64, extractStridedSlice S128x64 ![0, 64] kp slices_S128x256_o0_64_S128x64⟩, ⟨S128x64, extractStridedSlice S128x64 ![0, 64] kc slices_S128x256_o0_64_S128x64⟩] concatenates_S128x64_S128x64_S256x64_d0)
    (heads z 1) (constant S256x1024 .f32 0x00000000#32) := rfl

include hp hc
theorem pay6_at (b : FVec Ideal S1x256x1024 .f32) (j : Fin 256) (h : Fin 8) (q : Fin 128) :
    k0_pay6 (F := Ideal) z kc kp b (ix2 j (lane h q)) = score (fun d => z (ix2 q (hcol 0 h d))) (fun j d => K j (kcol 0 d)) (fun j => b (ix3 0 j (lane h q))) j := by
  rw [pay6_eq]
  have e := keys_at kc kp K hp hc 0 (by omega) slices_S128x256_o0_0_S128x64
  have f := heads_at z 0 h q
  generalize concatenate S256x64 0 [⟨S128x64, extractStridedSlice S128x64 ![0, 0] kp slices_S128x256_o0_0_S128x64⟩, ⟨S128x64, extractStridedSlice S128x64 ![0, 0] kc slices_S128x256_o0_0_S128x64⟩] concatenates_S128x64_S128x64_S256x64_d0 = k at e
  generalize heads z 0 = y at f
  generalize lane h q = l at f
  unfold score
  pointwise [e, f, GradXSpec.zero_f32]
  refine congrArg (· + b (ix3 0 j l)) (Finset.sum_congr rfl fun d _ => ?_)
  refine congrArg (· * (z (ix2 q (hcol 0 h d)) * scale)) (congrArg (K j) ?_)
  apply Fin.ext
  show d.val = 0 * 64 + d.val
  omega
theorem pay5_at (j : Fin 256) (h : Fin 8) (q : Fin 128) :
    k0_pay5 (F := Ideal) z kc kp (ix2 j (lane h q)) = ∑ d, K j (kcol 1 d) * (z (ix2 q (hcol 1 h d)) * scale) := by
  rw [pay5_eq]
  have e := keys_at kc kp K hp hc 64 (by omega) slices_S128x256_o0_64_S128x64
  have f := heads_at z 1 h q
  generalize concatenate S256x64 0 [⟨S128x64, extractStridedSlice S128x64 ![0, 64] kp slices_S128x256_o0_64_S128x64⟩, ⟨S128x64, extractStridedSlice S128x64 ![0, 64] kc slices_S128x256_o0_64_S128x64⟩] concatenates_S128x64_S128x64_S256x64_d0 = k at e
  generalize heads z 1 = y at f
  generalize lane h q = l at f
  pointwise [e, f, GradXSpec.zero_f32]
  refine Finset.sum_congr rfl fun d _ => ?_
  congr 2

end

section
theorem pay8_at (z : FVec Ideal S128x1024 .bf16) (kc kp : FVec Ideal S128x256 .bf16) (b : FVec Ideal S1x256x1024 .f32) (l : Fin 1024) :
    k0_pay8 (F := Ideal) z kc kp b (ix2 0 l) = Finset.univ.fold max low (fun j => k0_pay6 (F := Ideal) z kc kp b (ix2 j l)) := by
  unfold k0_pay8
  generalize k0_pay6 (F := Ideal) z kc kp b = a
  pointwise [low_f32]

theorem pay9_at (v : FVec Ideal S256x64 .bf16) (s : FVec Ideal S256x1024 .f32) (t u : FVec Ideal S1x1024 .f32) (d : Fin 64) (l : Fin 1024) :
    k0_pay9 (F := Ideal) v s t u (ix2 d l) = mixInv (fun j => s (ix2 j l)) (t (ix2 0 l)) (max (u (ix2 0 l)) (t (ix2 0 l))) (fun j d => v (ix2 j d)) d := by
  unfold mixInv total
  pointwise [k0_pay9, HgrnSpec.one_f32, GradXSpec.zero_f32]

theorem pay10_at (v : FVec Ideal S256x64 .bf16) (s : FVec Ideal S256x1024 .f32) (b : FVec Ideal S1x256x1024 .f32) (t : FVec Ideal S1x1024 .f32) (d : Fin 64) (l : Fin 1024) :
    k0_pay10 (F := Ideal) v s b t (ix2 d l) = mixInv (fun j => s (ix2 j l) + b (ix3 0 j l)) (t (ix2 0 l)) (peak (fun j => s (ix2 j l) + b (ix3 0 j l)) (t (ix2 0 l))) (fun j d => v (ix2 j d)) d := by
  unfold mixInv total peak
  pointwise [k0_pay10, HgrnSpec.one_f32, GradXSpec.zero_f32, low_f32]

/-- Two heads of a part, side by side. -/
theorem cutsP (w : Fin 4) (e : Fin 2) : S64x1024.Slices ![0, (w.val * 2 + e.val) * 128] S64x128 := by revert w e; decide
def pair (x : FVec Ideal S64x1024 .f32) (w : Fin 4) : FVec Ideal S128x128 .f32 :=
  transpose S128x128 [1, 0] (concatenate S128x128 0 (List.ofFn fun e : Fin 2 => (⟨S64x128, extractStridedSlice S64x128 ![0, (w.val * 2 + e.val) * 128] x (cutsP w e)⟩ : (s : Shape) × (s.Idx → _))) concatenates_S64x128_S64x128_S128x128_d0) transposes_S128x128_p1_0_S128x128

theorem pair_apply (x : FVec Ideal S64x1024 .f32) (w : Fin 4) (e : Fin 2) (q : Fin 128) (d : Fin 64) : pair x w (ix2 q ⟨e.val * 64 + d.val, by omega⟩) = x (ix2 d (lane (head w e) q)) := by
  have f := pair_at (fun e : Fin 2 => extractStridedSlice S64x128 ![0, (w.val * 2 + e.val) * 128] x (cutsP w e)) e d q
  unfold pair
  generalize concatenate S128x128 0 (List.ofFn fun e : Fin 2 => (⟨S64x128, extractStridedSlice S64x128 ![0, (w.val * 2 + e.val) * 128] x (cutsP w e)⟩ : (s : Shape) × (s.Idx → _))) concatenates_S64x128_S64x128_S128x128_d0 = y at f
  pointwise []
  refine f.trans ?_
  refine (extractStridedSlice_apply _ _ _ _ (ix2 d (lane (head w e) q)) ?_)
  intro b
  match b with
  | 0 => simp
  | 1 => simp [lane, head]

/-- The block's result: two parts of four pairs. -/
def result (x : Fin 2 → FVec Ideal S64x1024 .f32) : FVec Ideal S128x1024 .bf16 :=
  truncf .bf16 (concatenate S128x1024 1 (List.ofFn fun p : Fin 2 => (⟨S128x512, concatenate S128x512 1 (List.ofFn fun w : Fin 4 => (⟨S128x128, pair (x p) w⟩ : (s : Shape) × (s.Idx → _))) concatenates_S128x128_S128x128_S128x128_S128x128_S128x512_d1⟩ : (s : Shape) × (s.Idx → _))) concatenates_S128x512_S128x512_S128x1024_d1) bitsLt_bf16_f32

theorem result_at (x : Fin 2 → FVec Ideal S64x1024 .f32) (q : Fin 128) (p : Fin 2) (w : Fin 4) (e : Fin 2) (d : Fin 64) :
    result x (ix2 q (hcol p (head w e) d)) = x p (ix2 d (lane (head w e) q)) := by
  have c : hcol p (head w e) d = ⟨p.val * 512 + (⟨w.val * 128 + (⟨e.val * 64 + d.val, by omega⟩ : Fin 128).val, by show w.val * 128 + (e.val * 64 + d.val) < 512; omega⟩ : Fin 512).val, by show p.val * 512 + (w.val * 128 + (e.val * 64 + d.val)) < 1024; omega⟩ := by
    apply Fin.ext
    show p.val * 512 + (w.val * 2 + e.val) * 64 + d.val = p.val * 512 + (w.val * 128 + (e.val * 64 + d.val))
    omega
  rw [c]
  refine (row2_at _ p q _).trans ?_
  refine (row4_at _ w q _).trans ?_
  exact pair_apply (x p) w e q d

theorem pay1_eq (v : FVec Ideal S256x64 .bf16) (s : FVec Ideal S256x1024 .f32) (t u : FVec Ideal S1x1024 .f32) (y : FVec Ideal S64x1024 .f32) :
    k0_pay1 (F := Ideal) (k0_pay9 v s t u) y (k0_pay11 v s t u) (k0_pay12 v s t u) (k0_pay13 v s t u) = result (fun p => match p with | 0 => k0_pay9 v s t u | 1 => y) := rfl

end

end Cert.SwaFwdIdeal.Tile
end
-- ==== Proof.SwaBlock.lean ====
module

public import proofs.«01_k».proof.Proof.SwaTile

/-! What the sliding-window kernel stores at a grid point, index by index. -/

@[expose] public section

set_option backward.proofsInPublic true
set_option maxRecDepth 16384

noncomputable section

namespace Cert.SwaFwdIdeal.Block

open Cert.SwaFwdIdeal Cert.SwaFwdIdeal.Gen Cert.SwaFwdIdeal.Tile Idealize.ShloMosaic Idealize.ShloMosaic.TcCoe Idealize.SL.Sem Cert.SwaSpec
open Cert.MemSpec (low low_f32)

variable (x0 : Vec Ideal S128x1280 .bf16) (x1 x2 : Vec Ideal S128x256 .bf16) (x3 : Vec Ideal S1x256x2048 .f32) (x4 : Vec Ideal S1x2048 .f32)

theorem ld_z (q : Fin 128) (c : Fin 1024) : (View.ld x0 r0_0 : Vec Ideal S128x1024 .bf16) (ix2 q c) = x0 (ix2 q ⟨c.val, by omega⟩) :=
  congrArg x0 (funext fun a => Fin.ext (match a with
    | 0 => by show 0 + 1 * q.val = q.val; omega
    | 1 => by show 0 + 1 * c.val = c.val; omega))
theorem ld_b0 (j : Fin 256) (l : Fin 1024) : (View.ld x3 r0_2 : Vec Ideal S1x256x1024 .f32) (ix3 0 j l) = x3 (ix3 0 j ⟨l.val, by omega⟩) :=
  congrArg x3 (funext fun a => Fin.ext (match a with
    | 0 => rfl
    | 1 => by show 0 + 1 * j.val = j.val; omega
    | 2 => by show 0 + 1 * l.val = l.val; omega))
theorem ld_b1 (j : Fin 256) (l : Fin 1024) : (View.ld x3 r0_4 : Vec Ideal S1x256x1024 .f32) (ix3 0 j l) = x3 (ix3 0 j ⟨1024 + l.val, by omega⟩) :=
  congrArg x3 (funext fun a => Fin.ext (match a with
    | 0 => rfl
    | 1 => by show 0 + 1 * j.val = j.val; omega
    | 2 => by show 1024 + 1 * l.val = 1024 + l.val; omega))
theorem ld_s0 (l : Fin 1024) : (View.ld x4 r0_3 : Vec Ideal S1x1024 .f32) (ix2 0 l) = x4 (ix2 0 ⟨l.val, by omega⟩) :=
  congrArg x4 (funext fun a => Fin.ext (match a with
    | 0 => rfl
    | 1 => by show 0 + 1 * l.val = l.val; omega))
theorem ld_s1 (l : Fin 1024) : (View.ld x4 r0_5 : Vec Ideal S1x1024 .f32) (ix2 0 l) = x4 (ix2 0 ⟨1024 + l.val, by omega⟩) :=
  congrArg x4 (funext fun a => Fin.ext (match a with
    | 0 => rfl
    | 1 => by show 1024 + 1 * l.val = 1024 + l.val; omega))

theorem pay7_at (v : Vec Ideal S1x1024 .f32) (l : Fin 1024) : k0_pay7 (F := Ideal) v (ix2 0 l) = v (ix2 0 l) := by
  pointwise [k0_pay7]

/-- The two parts' results, before they are laid out. -/
def parts (p : Fin 2) : FVec Ideal S64x1024 .f32 := match p with
  | 0 => k0_pay9 (F := Ideal) (k0_pay3 (F := Ideal) x1 x2) (k0_pay6 (F := Ideal) (View.ld x0 r0_0) x1 x2 (View.ld x3 r0_2)) (k0_pay7 (F := Ideal) (View.ld x4 r0_3)) (k0_pay8 (F := Ideal) (View.ld x0 r0_0) x1 x2 (View.ld x3 r0_2))
  | 1 => k0_pay10 (F := Ideal) (k0_pay4 (F := Ideal) x1 x2) (k0_pay5 (F := Ideal) (View.ld x0 r0_0) x1 x2) (View.ld x3 r0_4) (View.ld x4 r0_5)

theorem out_eq : out0_5 (F := Ideal) x0 x1 x2 x3 x4 = result (parts x0 x1 x2 x3 x4) := by
  unfold out0_5 k0_pay14 k0_pay15 k0_pay16 k0_pay17
  rw [pay1_eq]
  frame_out
  rfl

variable (K : Fin 256 → Fin 256 → EReal)
variable (hp : ∀ (r : Fin 128) (c : Fin 256), x2 (ix2 r c) = K ⟨r.val, by omega⟩ c) (hc : ∀ (r : Fin 128) (c : Fin 256), x1 (ix2 r c) = K ⟨128 + r.val, by omega⟩ c)
variable (bb : Fin 16 → Fin 128 → Fin 256 → EReal) (hb : ∀ (j : Fin 256) (h : Fin 16) (q : Fin 128), x3 (ix3 0 j ⟨h.val * 128 + q.val, by omega⟩) = bb h q j)
variable (ss : Fin 16 → EReal) (hs : ∀ (h : Fin 16) (q : Fin 128), x4 (ix2 0 ⟨h.val * 128 + q.val, by omega⟩) = ss h)

/-- A query's scores. -/
def scores (q : Fin 128) (p : Fin 2) (h : Fin 8) : Fin 256 → EReal :=
  score (fun d => x0 (ix2 q ⟨p.val * 512 + h.val * 64 + d.val, by omega⟩)) (fun j d => K j (kcol p d)) (bb ⟨p.val * 8 + h.val, by omega⟩ q)

include hp hc hb hs
theorem part0_at (q : Fin 128) (h : Fin 8) (d : Fin 64) :
    parts x0 x1 x2 x3 x4 0 (ix2 d (lane h q)) = mixInv (scores x0 K bb q 0 h) (ss ⟨(0 : Fin 2).val * 8 + h.val, by have := h.isLt; show 0 * 8 + h.val < 16; omega⟩) (peak (scores x0 K bb q 0 h) (ss ⟨(0 : Fin 2).val * 8 + h.val, by have := h.isLt; show 0 * 8 + h.val < 16; omega⟩)) (fun j d => K j (vcol 0 d)) d := by
  have f : (fun j => k0_pay6 (F := Ideal) (View.ld x0 r0_0) x1 x2 (View.ld x3 r0_2) (ix2 j (lane h q))) = scores x0 K bb q 0 h := by
    funext j
    refine (pay6_at _ x1 x2 K hp hc _ j h q).trans ?_
    unfold scores
    congr 1
    · funext d; exact ld_z x0 q _
    · funext j
      refine (ld_b0 x3 j _).trans ((congrArg (fun l => x3 (ix3 0 j l)) (Fin.ext ?_)).trans (hb j ⟨(0 : Fin 2).val * 8 + h.val, by have := h.isLt; show 0 * 8 + h.val < 16; omega⟩ q))
      show h.val * 128 + q.val = (0 * 8 + h.val) * 128 + q.val
      omega
  have g : k0_pay7 (F := Ideal) (View.ld x4 r0_3) (ix2 0 (lane h q)) = ss ⟨(0 : Fin 2).val * 8 + h.val, by have := h.isLt; show 0 * 8 + h.val < 16; omega⟩ := by
    refine (pay7_at _ _).trans ((ld_s0 x4 _).trans ((congrArg (fun l => x4 (ix2 0 l)) (Fin.ext ?_)).trans (hs ⟨(0 : Fin 2).val * 8 + h.val, by have := h.isLt; show 0 * 8 + h.val < 16; omega⟩ q)))
    show h.val * 128 + q.val = (0 * 8 + h.val) * 128 + q.val
    omega
  have v : (fun j d => k0_pay3 (F := Ideal) x1 x2 (ix2 j d)) = fun (j : Fin 256) (d : Fin 64) => K j (vcol 0 d) := funext fun j => funext fun d => pay3_at x1 x2 K hp hc j d
  unfold parts
  refine (pay9_at _ _ _ _ d (lane h q)).trans ?_
  rw [pay8_at, f, g, v]
  rfl

theorem part1_at (q : Fin 128) (h : Fin 8) (d : Fin 64) :
    parts x0 x1 x2 x3 x4 1 (ix2 d (lane h q)) = mixInv (scores x0 K bb q 1 h) (ss ⟨(1 : Fin 2).val * 8 + h.val, by have := h.isLt; show 1 * 8 + h.val < 16; omega⟩) (peak (scores x0 K bb q 1 h) (ss ⟨(1 : Fin 2).val * 8 + h.val, by have := h.isLt; show 1 * 8 + h.val < 16; omega⟩)) (fun j d => K j (vcol 1 d)) d := by
  have f : (fun j => k0_pay5 (F := Ideal) (View.ld x0 r0_0) x1 x2 (ix2 j (lane h q)) + (View.ld x3 r0_4 : Vec Ideal S1x256x1024 .f32) (ix3 0 j (lane h q))) = scores x0 K bb q 1 h := by
    funext j
    unfold scores score
    refine congrArg₂ (· + ·) ((pay5_at _ x1 x2 K hp hc j h q).trans (Finset.sum_congr rfl fun d _ => ?_)) ?_
    · exact congrArg (fun z => K j (kcol 1 d) * (z * scale)) (ld_z x0 q _)
    · refine (ld_b1 x3 j _).trans ((congrArg (fun l => x3 (ix3 0 j l)) (Fin.ext ?_)).trans (hb j ⟨(1 : Fin 2).val * 8 + h.val, by have := h.isLt; show 1 * 8 + h.val < 16; omega⟩ q))
      show 1024 + (h.val * 128 + q.val) = (1 * 8 + h.val) * 128 + q.val
      omega
  have g : (View.ld x4 r0_5 : Vec Ideal S1x1024 .f32) (ix2 0 (lane h q)) = ss ⟨(1 : Fin 2).val * 8 + h.val, by have := h.isLt; show 1 * 8 + h.val < 16; omega⟩ := by
    refine (ld_s1 x4 _).trans ((congrArg (fun l => x4 (ix2 0 l)) (Fin.ext ?_)).trans (hs ⟨(1 : Fin 2).val * 8 + h.val, by have := h.isLt; show 1 * 8 + h.val < 16; omega⟩ q))
    show 1024 + (h.val * 128 + q.val) = (1 * 8 + h.val) * 128 + q.val
    omega
  have v : (fun j d => k0_pay4 (F := Ideal) x1 x2 (ix2 j d)) = fun (j : Fin 256) (d : Fin 64) => K j (vcol 1 d) := funext fun j => funext fun d => pay4_at x1 x2 K hp hc j d
  unfold parts
  refine (pay10_at _ _ _ _ d (lane h q)).trans ?_
  rw [f, g, v]

theorem block_at (q : Fin 128) (p : Fin 2) (h : Fin 8) (d : Fin 64) :
    out0_5 (F := Ideal) x0 x1 x2 x3 x4 (ix2 q (hcol p h d)) = mixInv (scores x0 K bb q p h) (ss ⟨p.val * 8 + h.val, by omega⟩) (peak (scores x0 K bb q p h) (ss ⟨p.val * 8 + h.val, by omega⟩)) (fun j d => K j (vcol p d)) d := by
  obtain ⟨w, e, rfl⟩ : ∃ (w : Fin 4) (e : Fin 2), h = head w e := ⟨⟨h.val / 2, by omega⟩, ⟨h.val % 2, by omega⟩, Fin.ext (show h.val = h.val / 2 * 2 + h.val % 2 by omega)⟩
  rw [out_eq]
  refine (result_at _ q p w e d).trans ?_
  match p with
  | 0 => exact part0_at x0 x1 x2 x3 x4 K hp hc bb hb ss hs q _ d
  | 1 => exact part1_at x0 x1 x2 x3 x4 K hp hc bb hb ss hs q _ d

end Cert.SwaFwdIdeal.Block
end
-- ==== Proof.SwaArrays.lean ====
module

public import proofs.«01_k».proof.Proof.SwaBlock

/-! The sliding-window kernel's operands and its result array. -/

@[expose] public section

set_option backward.proofsInPublic true
set_option maxRecDepth 16384

noncomputable section

namespace Cert.SwaFwdIdeal.Arrays

open Cert.SwaFwdIdeal Cert.SwaFwdIdeal.Gen Cert.SwaFwdIdeal.Tile Cert.SwaFwdIdeal.Block Cert.SwaFwdIdeal.Value Idealize.ShloMosaic Idealize.ShloMosaic.TcCoe Idealize.SL.Sem Cert.SwaSpec
open Cert.MemSpec (low low_f32)

variable (m : (ℓ : Loc nD τ sig) → Buf (Elt Ideal) ℓ) (c : Dev nD)

/-- The launch's arrays. -/
abbrev X : S8192x1280.Idx → EReal := m ((c : Thread nD τ).loc main_arg0)
abbrev B : S16x32768.Idx → EReal := m ((c : Thread nD τ).loc main_arg1)
abbrev S : S1x16.Idx → EReal := m ((c : Thread nD τ).loc main_arg2)

theorem second_at (a b : FVec Ideal S1x256x2048 .f32) (j : Fin 256) (l : Fin 2048) :
    concatenate S2x256x2048 0 [⟨S1x256x2048, a⟩, ⟨S1x256x2048, b⟩] concatenates_S1x256x2048_S1x256x2048_S2x256x2048_d0 (ix3 1 j l) = b (ix3 0 j l) := by
  pointwise []

/-- The second bias table: the biases, transposed. -/
theorem host_bias (j : Fin 256) (h : Fin 16) (q : Fin 128) : V m c main_v10 (ix3 1 j ⟨h.val * 128 + q.val, by omega⟩) = B m c (ix2 h ⟨q.val * 256 + j.val, by omega⟩) := by
  unfold V
  simp only [hostOps0, hostOps0_1, hostOps0_2, List.flatten_cons, List.flatten_nil, List.append_nil, List.cons_append, List.nil_append]
  after_results
  refine (second_at _ _ _ _).trans ?_
  pointwise []
  exact congrArg (m (c, Proc.tc.devRef main_arg1)) (congrArg₂ ix2 (Fin.ext (show (h.val * 128 + q.val) / 128 = h.val by omega)) (Fin.ext (show (h.val * 128 + q.val) % 128 * 256 + j.val = q.val * 256 + j.val by omega)))

/-- The sinks, each repeated over its head's lanes. -/
theorem host_sink (h : Fin 16) (q : Fin 128) : V m c main_v12 (ix2 0 ⟨h.val * 128 + q.val, by omega⟩) = S m c (ix2 0 h) := by
  unfold V
  simp only [hostOps0, hostOps0_1, hostOps0_2, List.flatten_cons, List.flatten_nil, List.append_nil, List.cons_append, List.nil_append]
  after_results
  pointwise []

theorem N_eq : cfg0.N = 64 := N_0

/-- Where the windows' blocks lie. -/
theorem placesIn : ∀ t : Fin cfg0.N, (win0_0.index t 0 = t.val ∧ win0_0.index t 1 = 0) ∧ (win0_1.index t 0 = t.val ∧ win0_1.index t 1 = 4) ∧
    (win0_2.index t 0 = t.val - 1 ∧ win0_2.index t 1 = 4) ∧ ((win0_3.index t 0 = if t.val = 0 then 0 else 1) ∧ win0_3.index t 1 = 0 ∧ win0_3.index t 2 = 0) ∧
    (win0_4.index t 0 = 0 ∧ win0_4.index t 1 = 0) := by decide +kernel
theorem placesOut : ∀ t : Fin cfg0.N, (win0_5.index t 0 = t.val ∧ win0_5.index t 1 = 0) := by decide +kernel
theorem flushes : ∀ t : Fin cfg0.N, (cfg0.win 5).flush t = true := by decide +kernel

/-- Row `q` of block `t` as a row of the array, and row `j` of its keys. -/
def laneAt (t : Fin cfg0.N) (q : Fin 128) : Fin 8192 := ⟨t.val * 128 + q.val, by have h := lt_of_lt_of_eq t.isLt N_eq; omega⟩
def keyAt (t : Fin cfg0.N) (j : Fin 256) : Fin 8192 := ⟨(t.val - 1) * 128 + j.val, by have h := lt_of_lt_of_eq t.isLt N_eq; omega⟩

theorem row0 (t : Fin cfg0.N) (q : Fin 128) (d : Fin 1280) : iblk m c 0 t (ix2 q d) = X m c (ix2 (laneAt t q) d) := by
  have e := placesIn t
  refine (congrFun (V_main_arg0 m c) _).trans ?_
  unfold laneAt X; blk_ext [e.1.1, e.1.2]

/-- The keys and values a block reads, by row and column. -/
def keys (t : Fin cfg0.N) : Fin 256 → Fin 256 → EReal := fun j d => X m c (ix2 (keyAt t j) ⟨1024 + d.val, by omega⟩)

theorem row1 (t : Fin cfg0.N) (ht : 0 < t.val) (r : Fin 128) (d : Fin 256) : iblk m c 1 t (ix2 r d) = keys m c t ⟨128 + r.val, by omega⟩ d := by
  have e := placesIn t
  refine (congrFun (V_main_arg0 m c) _).trans ?_
  unfold keys keyAt X; blk_ext [e.2.1.1, e.2.1.2]
theorem row2 (t : Fin cfg0.N) (r : Fin 128) (d : Fin 256) : iblk m c 2 t (ix2 r d) = keys m c t ⟨r.val, by omega⟩ d := by
  have e := placesIn t
  refine (congrFun (V_main_arg0 m c) _).trans ?_
  unfold keys keyAt X; blk_ext [e.2.2.1.1, e.2.2.1.2]
theorem row3 (t : Fin cfg0.N) (ht : 0 < t.val) (j : Fin 256) (h : Fin 16) (q : Fin 128) : iblk m c 3 t (ix3 0 j ⟨h.val * 128 + q.val, by omega⟩) = B m c (ix2 h ⟨q.val * 256 + j.val, by omega⟩) := by
  have e := placesIn t
  have f := e.2.2.2.1.1
  rw [if_neg (by omega)] at f
  have g : ((View.whole main_v10).slice (win0_3.rect t)).emb (ix3 0 j ⟨h.val * 128 + q.val, by omega⟩) = ix3 1 j ⟨h.val * 128 + q.val, by omega⟩ := by
    blk_ext [f, e.2.2.2.1.2.1, e.2.2.2.1.2.2]
  exact (congrArg (V m c main_v10) g).trans (host_bias m c j h q)
theorem row4 (t : Fin cfg0.N) (h : Fin 16) (q : Fin 128) : iblk m c 4 t (ix2 0 ⟨h.val * 128 + q.val, by omega⟩) = S m c (ix2 0 h) := by
  have e := placesIn t
  have g : ((View.whole main_v12).slice (win0_4.rect t)).emb (ix2 0 ⟨h.val * 128 + q.val, by omega⟩) = ix2 0 ⟨h.val * 128 + q.val, by omega⟩ := by
    blk_ext [e.2.2.2.2.1, e.2.2.2.2.2]
  exact (congrArg (V m c main_v12) g).trans (host_sink m c h q)

/-- The result at a row of a block past the first. -/
theorem final_at (t : Fin cfg0.N) (ht : 0 < t.val) (q : Fin 128) (p : Fin 2) (h : Fin 8) (d : Fin 64) :
    (dats m 0 c).arrAt 5 cfg0.N (ix2 (laneAt t q) (hcol p h d)) =
      mixInv (scores (iblk m c 0 t) (keys m c t) (fun h q j => B m c (ix2 h ⟨q.val * 256 + j.val, by omega⟩)) q p h) (S m c (ix2 0 ⟨p.val * 8 + h.val, by omega⟩))
        (peak (scores (iblk m c 0 t) (keys m c t) (fun h q j => B m c (ix2 h ⟨q.val * 256 + j.val, by omega⟩)) q p h) (S m c (ix2 0 ⟨p.val * 8 + h.val, by omega⟩)))
        (fun j d => keys m c t j (vcol p d)) d := by
  have b := congrFun (blocks5 m c t (flushes t)) (ix2 q (hcol p h d))
  rw [flushed5] at b
  have a : ((View.whole main_v13).slice (win0_5.rect t)).emb (ix2 q (hcol p h d)) = ix2 (laneAt t q) (hcol p h d) := by
    have e := placesOut t
    unfold laneAt; blk_ext [e.1, e.2]
  refine (congrArg ((dats m 0 c).arrAt 5 cfg0.N) a.symm).trans (Eq.trans b ?_)
  refine Eq.trans ?_ (block_at (iblk m c 0 t) (iblk m c 1 t) (iblk m c 2 t) (iblk m c 3 t) (iblk m c 4 t) (keys m c t) (row2 m c t) (row1 m c t ht)
    (fun h q j => B m c (ix2 h ⟨q.val * 256 + j.val, by omega⟩)) (row3 m c t ht) (fun h => S m c (ix2 0 h)) (row4 m c t) q p h d)
  rfl

end Cert.SwaFwdIdeal.Arrays
end
-- ==== Proof.SwaMask.lean ====
module

public import proofs.«01_k».proof.Defs
public import proofs.«01_k».proof.Proof.MemMask
public import proofs.«01_k».proof.Proof.SwaArrays
public import proofs.«01_k».proof.Proof.SwaRefScores

/-! What the precondition and the mask of the sliding-window attention's claim say, and the kernel's result under them. -/

@[expose] public section

set_option backward.proofsInPublic true
set_option maxRecDepth 16384

noncomputable section

namespace Cert.SwaMask

open Idealize.ShloMosaic Cert.SwaSpec
open Cert.SwaFwdReferenceIdeal.Point (rowAt keyRow qAt kAt vAt bAt sAt scoreAt)

/-- An extended real below the infinite word is not the top. -/
theorem ne_top_of_lt (a : EReal) (h : Ideal.cmp .olt a (Ideal.ofBits .f32 0x7F800000#32) = 1#1) : a ≠ ⊤ := by
  have e : Ideal.ofBits .f32 0x7F800000#32 = ⊤ := by simp [Ideal.ofBits, Ideal.ieee]
  rw [e] at h
  rintro rfl
  simp [Ideal.cmp] at h

section
variable [Cert.Pre_swa_finite.Facts]

instance : Subsingleton Cert.Pre_swa_finite.S_.Idx := ⟨fun a b => funext fun k => k.elim0⟩

/-- Under the precondition no projection and no sink is infinite, and no bias is the top. -/
theorem finite_of_pre (x : FVec Ideal Cert.Pre_swa_finite.S8192x1280 .bf16) (b : FVec Ideal Cert.Pre_swa_finite.S16x32768 .f32) (s : FVec Ideal Cert.Pre_swa_finite.S1x16 .f32)
    (h : Cert.Pre_swa_finite.fn (F := Ideal) x b s = fun _ => 1#1) :
    (∀ i, x i ≠ ⊤ ∧ x i ≠ ⊥) ∧ (∀ i, b i ≠ ⊤) ∧ (∀ i, s i ≠ ⊤ ∧ s i ≠ ⊥) := by
  have h0 := congrFun h (fun k => k.elim0)
  obtain ⟨h1, h3⟩ := IntOp.andi_eq_one.1 h0
  obtain ⟨h1, h2⟩ := IntOp.andi_eq_one.1 h1
  exact ⟨fun i => Cert.MemMask.real_of_lt _ (Host.reduce_andi_all _ _ _ _ _ h1 i), fun i => ne_top_of_lt _ (Host.reduce_andi_all _ _ _ _ _ h2 i),
    fun i => Cert.MemMask.real_of_lt _ (Host.reduce_andi_all _ _ _ _ _ h3 i)⟩

end

section
variable [Cert.On_swa_later.Facts]

/-- The mask selects the rows past the first block. -/
theorem rows_of_mask (x : FVec Ideal Cert.On_swa_later.S8192x1280 .bf16) (b : FVec Ideal Cert.On_swa_later.S16x32768 .f32) (s : FVec Ideal Cert.On_swa_later.S1x16 .f32)
    (k : Fin 8192) (j : Fin 1024) (h : Cert.On_swa_later.fn (F := Ideal) x b s (ix2 k j) = 1#1) : 128 ≤ k.val := by
  have hk : (BitVec.ofNat 32 k.val).toInt = k.val := by
    have hb := k.isLt
    have e : (BitVec.ofNat 32 k.val).toNat = k.val := by rw [BitVec.toNat_ofNat]; omega
    rw [BitVec.toInt_eq_toNat_of_lt (by omega), e]
  have h1 : IntOp.cmpi .sge (BitVec.ofNat 32 k.val) 128#32 = 1#1 := h
  simp only [IntOp.cmpi, Cert.MemMask.ofBool_eq, BitVec.sle_iff_toInt_le, BitVec.slt_iff_toInt_lt, hk] at h1
  have e : (128#32).toInt = 128 := by decide
  omega

end

section
variable (X : FVec Ideal Cert.SwaFwdReferenceIdeal.S8192x1280 .bf16) (B : FVec Ideal Cert.SwaFwdReferenceIdeal.S16x32768 .f32) (S : FVec Ideal Cert.SwaFwdReferenceIdeal.S1x16 .f32)

/-- The attention with the weights' sum inverted once is the attention. -/
theorem attend_inv (hX : ∀ i, X i ≠ ⊤ ∧ X i ≠ ⊥) (hB : ∀ i, B i ≠ ⊤) (hS : ∀ i, S i ≠ ⊤ ∧ S i ≠ ⊥) (n : Fin 64) (q : Fin 128) (p : Fin 2) (h : Fin 8) (d : Fin 64) :
    mixInv (scoreAt X B n q p h) (sAt S p h) (peak (scoreAt X B n q p h) (sAt S p h)) (vAt X n p) d = mix (scoreAt X B n q p h) (sAt S p h) (peak (scoreAt X B n q p h) (sAt S p h)) (vAt X n p) d :=
  mixInv_eq _ _ (fun j => score_ne_top _ _ _ j (fun _ => hX _) (fun _ => hX _) (hB _)) (hS _) _ _

end

open Cert.SwaFwdIdeal Cert.SwaFwdIdeal.Gen Cert.SwaFwdIdeal.Tile Cert.SwaFwdIdeal.Arrays Cert.SwaFwdIdeal.Block Idealize.SL.Sem

variable (m : (ℓ : Loc nD τ sig) → Buf (Elt Ideal) ℓ) (c : Dev nD)

/-- The kernel's result at a row past the first block. -/
theorem kernel_at (n : Fin 64) (hn : 0 < n.val) (q : Fin 128) (p : Fin 2) (h : Fin 8) (d : Fin 64) :
    (dats m 0 c).arrAt 5 cfg0.N (ix2 (rowAt n q) (hcol p h d)) =
      mixInv (scoreAt (X m c) (B m c) n q p h) (sAt (S m c) p h) (peak (scoreAt (X m c) (B m c) n q p h) (sAt (S m c) p h)) (vAt (X m c) n p) d := by
  have f := final_at m c ⟨n.val, lt_of_lt_of_eq n.isLt N_eq.symm⟩ hn q p h d
  have s : scores (iblk m c 0 ⟨n.val, lt_of_lt_of_eq n.isLt N_eq.symm⟩) (keys m c ⟨n.val, lt_of_lt_of_eq n.isLt N_eq.symm⟩) (fun h q j => B m c (ix2 h ⟨q.val * 256 + j.val, by omega⟩)) q p h = scoreAt (X m c) (B m c) n q p h := by
    unfold scores scoreAt
    congr 1
    funext d
    exact row0 m c _ q _
  have v : (fun (j : Fin 256) (d : Fin 64) => keys m c ⟨n.val, lt_of_lt_of_eq n.isLt N_eq.symm⟩ j (vcol p d)) = vAt (X m c) n p := by
    funext j d
    refine congrArg (fun l => X m c (ix2 (keyRow n j) l)) (Fin.ext ?_)
    show 1024 + (128 + (p.val * 64 + d.val)) = 1152 + (p.val * 64 + d.val)
    omega
  rw [s, v] at f
  exact f

end Cert.SwaMask
end
-- ==== Proof.SwaFwdClaim.lean ====
module

public import proofs.«01_k».proof.Defs
public import proofs.«01_k».proof.Proof.Gen.SwaFwd
public import proofs.«01_k».proof.Proof.Gen.SwaFwdIdeal
public import proofs.«01_k».proof.Proof.Gen.SwaFwdReferenceIdeal
public import proofs.«01_k».proof.Proof.Gen.SwaFwd.Frame
public import proofs.«01_k».proof.Proof.Gen.SwaFwdReferenceIdeal.Run
public import proofs.«01_k».proof.Proof.Gen.SwaFwdReferenceIdeal.Read
public import proofs.«01_k».proof.Proof.Gen.Pre_swa_finite
public import proofs.«01_k».proof.Proof.Gen.On_swa_later
public import proofs.«01_k».proof.Proof.SwaRef
public import proofs.«01_k».proof.Proof.SwaMask

@[expose] public section

set_option maxRecDepth 16384

noncomputable section

namespace Cert.SwaFwdClaim

open Idealize.ShloMosaic Idealize.SL.Sem Cert.SwaSpec

theorem frame_kernel : Cert.quiescent_SwaFwd := fun m ρ _ => Cert.SwaFwd.Gen.frame m ρ

theorem frame_ideal : Cert.quiescent_SwaFwdIdeal := fun m ρ _ => Cert.SwaFwdIdeal.Gen.frame m ρ

theorem frame_reference : Cert.quiescent_SwaFwdReferenceIdeal := fun m ρ _ =>
  (θ_run Cert.SwaFwdReferenceIdeal.defs _ _).mono (fun r h => ⟨fun c => (h c).2, sem_eq_zero_of_no_sems (by decide) r.2⟩)
    (Cert.SwaFwdReferenceIdeal.Value.run (F := Ideal) m ρ)

/-- A row past the first block and a column, by block, part and head. -/
theorem split_row (k : Fin 8192) (hk : 128 ≤ k.val) : ∃ (n : Fin 64) (q : Fin 128), 0 < n.val ∧ k = Cert.SwaFwdReferenceIdeal.Point.rowAt n q :=
  ⟨⟨k.val / 128, by omega⟩, ⟨k.val % 128, by omega⟩, by show 0 < k.val / 128; omega, Fin.ext (by show k.val = k.val / 128 * 128 + k.val % 128; omega)⟩
theorem split_col (b : Fin 1024) : ∃ (p : Fin 2) (h : Fin 8) (d : Fin 64), b = Cert.SwaFwdIdeal.Tile.hcol p h d :=
  ⟨⟨b.val / 512, by omega⟩, ⟨b.val / 64 % 8, by omega⟩, ⟨b.val % 64, by omega⟩, Fin.ext (by show b.val = b.val / 512 * 512 + b.val / 64 % 8 * 64 + b.val % 64; omega)⟩

/-- Kernel and reference compute the same attention past the first block. -/
theorem value : Cert.algebraic_SwaFwdIdeal_SwaFwdReferenceIdeal_on_swa_later_pre_swa_finite := by
  intro m g m' g' hpre hargs
  have hfin := fun c => Cert.SwaMask.finite_of_pre _ _ _ (hpre c)
  refine ⟨fun c => (Cert.SwaFwdIdeal.Gen.dats m 0 c).arrAt 5 Cert.SwaFwdIdeal.cfg0.N, ?_, ?_⟩
  · refine (θ_run Cert.SwaFwdIdeal.defs _ _).mono (fun r h c => ?_) (Cert.SwaFwdIdeal.Value.run_blocks (F := Ideal) m g)
    obtain ⟨h0, k⟩ := h c
    exact ⟨fun i _ => congrFun h0 i, k⟩
  · refine (θ_run Cert.SwaFwdReferenceIdeal.defs _ _).mono (fun r h c => ?_) (Cert.SwaFwdReferenceIdeal.Value.run (F := Ideal) m' g')
    obtain ⟨h0, k⟩ := h c
    obtain ⟨a0, a1, a2⟩ := hargs c
    obtain ⟨hX, hB, hS⟩ := hfin c
    rw [Cert.SwaFwdReferenceIdeal.Read.val_main_v55_eq, a0, a1, a2] at h0
    refine ⟨fun i hi => ?_, k⟩
    obtain ⟨k, b, rfl⟩ : ∃ (k : Fin 8192) (b : Fin 1024), i = ix2 k b := ⟨i 0, i 1, by idx_vars i⟩
    obtain ⟨n, q, hn, rfl⟩ := split_row k (Cert.SwaMask.rows_of_mask _ _ _ k b hi)
    obtain ⟨p, h, d, rfl⟩ := split_col b
    refine (congrFun h0 _).trans ((Cert.SwaFwdReferenceIdeal.Point.v55_at _ _ _ n hn q p h d).trans ?_)
    exact ((Cert.SwaMask.kernel_at m c n hn q p h d).trans (Cert.SwaMask.attend_inv _ _ _ hX hB hS n q p h d)).symm

end Cert.SwaFwdClaim
end
-- ==== Proof.MemPoint.lean ====
module

public import proofs.«01_k».proof.Proof.Gen.MemBwdIdeal.Value
public import proofs.«01_k».proof.Proof.MemSpec

@[expose] public section

set_option maxRecDepth 16384

noncomputable section

namespace Cert.MemBwdIdeal.Point

open Cert.MemBwdIdeal Cert.MemBwdIdeal.Gen Idealize.ShloMosaic Idealize.ShloMosaic.TcCoe Idealize.SL.Sem Cert.MemSpec

theorem pay4_apply (z : Vec Ideal S512x256 .bf16) (r : Fin 512) (j : Fin 256) : k0_pay4 z (ix2 r j) = z (ix2 r j) * scale := by
  pointwise [k0_pay4, scale_bf16]

theorem pay5_apply (z : Vec Ideal S512x256 .bf16) (r : Fin 512) (j : Fin 256) : k0_pay5 z (ix2 r j) = z (ix2 r j) * scale := by
  pointwise [k0_pay5, scale_bf16]

theorem pay6_apply (z : Vec Ideal S512x256 .bf16) (r : Fin 512) (j : Fin 256) : k0_pay6 z (ix2 r j) = z (ix2 r j) * scale := by
  pointwise [k0_pay6, scale_bf16]

theorem pay7_apply (z : Vec Ideal S512x256 .bf16) (r : Fin 512) (j : Fin 256) : k0_pay7 z (ix2 r j) = z (ix2 r j) * scale := by
  pointwise [k0_pay7, scale_bf16]

theorem pay23_apply (p : FVec Ideal S512x256 .f32) (r : Fin 512) (j : Fin 256) : k0_pay23 p (ix2 r j) = p (ix2 r j) := by
  pointwise [k0_pay23]

theorem pay24_apply (p : FVec Ideal S512x256 .f32) (r : Fin 512) (j : Fin 256) : k0_pay24 p (ix2 r j) = p (ix2 r j) := by
  pointwise [k0_pay24]

theorem pay25_apply (p : FVec Ideal S512x256 .f32) (r : Fin 512) (j : Fin 256) : k0_pay25 p (ix2 r j) = p (ix2 r j) := by
  pointwise [k0_pay25]

theorem pay26_apply (p : FVec Ideal S512x256 .f32) (r : Fin 512) (j : Fin 256) : k0_pay26 p (ix2 r j) = p (ix2 r j) := by
  pointwise [k0_pay26]

theorem pay8_apply (z : Vec Ideal S512x256 .bf16) (k : Vec Ideal S256x256 .bf16) (r : Fin 512) (j : Fin 256) :
    k0_pay8 z k (ix2 r j) = score (row z r) (row k) j := by
  unfold score row
  pointwise [k0_pay8, k0_pay5, scale_bf16]

theorem pay9_apply (z : Vec Ideal S512x256 .bf16) (k : Vec Ideal S256x256 .bf16) (r : Fin 512) (j : Fin 256) :
    k0_pay9 z k (ix2 r j) = score (row z r) (row k) j := by
  unfold score row
  pointwise [k0_pay9, k0_pay6, scale_bf16]

theorem pay10_apply (z : Vec Ideal S512x256 .bf16) (k : Vec Ideal S256x256 .bf16) (r : Fin 512) (j : Fin 256) :
    k0_pay10 z k (ix2 r j) = score (row z r) (row k) j := by
  unfold score row
  pointwise [k0_pay10, k0_pay7, scale_bf16]

theorem pay13_apply (z : Vec Ideal S512x256 .bf16) (k : Vec Ideal S256x256 .bf16) (r : Fin 512) (j : Fin 256) :
    k0_pay13 (k0_pay11 z k) (k0_pay12 z k) (ix2 r j) = prob (score (row z r) (row k)) j := by
  unfold prob weight peak score row
  pointwise [k0_pay13, k0_pay12, k0_pay11, k0_pay4, scale_bf16, low_f32]

theorem pay14_apply (s : FVec Ideal S512x256 .f32) (r : Fin 512) (j : Fin 256) :
    k0_pay14 s (ix2 r j) = prob (row s r) j := by
  unfold prob weight peak row
  pointwise [k0_pay14, low_f32]

theorem pay15_apply (s : FVec Ideal S512x256 .f32) (r : Fin 512) (j : Fin 256) :
    k0_pay15 s (ix2 r j) = prob (row s r) j := by
  unfold prob weight peak row
  pointwise [k0_pay15, low_f32]

theorem pay16_apply (s : FVec Ideal S512x256 .f32) (r : Fin 512) (j : Fin 256) :
    k0_pay16 s (ix2 r j) = prob (row s r) j := by
  unfold prob weight peak row
  pointwise [k0_pay16, low_f32]

theorem pay17_apply (z : Vec Ideal S512x256 .bf16) (k : Vec Ideal S256x256 .bf16) (r : Fin 512) (j : Fin 256) :
    k0_pay17 z k (ix2 r j) = grad (row z r) (row k) j := by
  unfold grad row
  pointwise [k0_pay17]

theorem pay18_apply (z : Vec Ideal S512x256 .bf16) (k : Vec Ideal S256x256 .bf16) (r : Fin 512) (j : Fin 256) :
    k0_pay18 z k (ix2 r j) = grad (row z r) (row k) j := by
  unfold grad row
  pointwise [k0_pay18]

theorem pay19_apply (p : FVec Ideal S512x256 .f32) (g : FVec Ideal S512x256 .f32) (r : Fin 512) (j : Fin 256) :
    k0_pay19 p g (ix2 r j) = dscore (row p r) (row g r) j := by
  unfold dscore row
  pointwise [k0_pay19]

theorem pay20_apply (p : FVec Ideal S512x256 .f32) (g : FVec Ideal S512x256 .f32) (r : Fin 512) (j : Fin 256) :
    k0_pay20 p g (ix2 r j) = dscore (row p r) (row g r) j := by
  unfold dscore row
  pointwise [k0_pay20]

theorem pay21_apply (p : FVec Ideal S512x256 .f32) (z : Vec Ideal S512x256 .bf16) (k : Vec Ideal S256x256 .bf16) (r : Fin 512) (j : Fin 256) :
    k0_pay21 p z k (ix2 r j) = dscore (row p r) (grad (row z r) (row k)) j := by
  unfold dscore grad row
  pointwise [k0_pay21]

theorem pay22_apply (p : FVec Ideal S512x256 .f32) (z : Vec Ideal S512x256 .bf16) (k : Vec Ideal S256x256 .bf16) (r : Fin 512) (j : Fin 256) :
    k0_pay22 p z k (ix2 r j) = dscore (row p r) (grad (row z r) (row k)) j := by
  unfold dscore grad row
  pointwise [k0_pay22]

theorem pay27_apply (p : FVec Ideal S512x256 .f32) (g : FVec Ideal S512x256 .f32) (k : Vec Ideal S256x256 .bf16) (r : Fin 512) (j : Fin 256) :
    k0_pay27 p g k (ix2 r j) = dquery (dscore (row p r) (row g r)) (row k) j := by
  unfold dquery dscore row
  pointwise [k0_pay27, k0_pay19, scale_f32]

theorem pay28_apply (p : FVec Ideal S512x256 .f32) (g : FVec Ideal S512x256 .f32) (k : Vec Ideal S256x256 .bf16) (r : Fin 512) (j : Fin 256) :
    k0_pay28 p g k (ix2 r j) = dquery (dscore (row p r) (row g r)) (row k) j := by
  unfold dquery dscore row
  pointwise [k0_pay28, k0_pay20, scale_f32]

end Cert.MemBwdIdeal.Point
end
-- ==== Proof.MemBlock.lean ====
module

public import proofs.«01_k».proof.Proof.MemPoint
public import Idealize.ShloMosaic.Lib.Pipeline.ReadBack

@[expose] public section

set_option maxRecDepth 16384

noncomputable section

namespace Cert.MemBwdIdeal.Point

open Cert.MemBwdIdeal Cert.MemBwdIdeal.Gen Idealize.ShloMosaic Idealize.ShloMosaic.TcCoe Idealize.SL.Sem Cert.MemSpec

/-! ## The blocks a grid point's stores hold, over the point's input blocks -/

section Blocks

variable {F : FTy → Type} [FloatOps F]
variable (x1 x2 : Vec F S512x1024 .bf16) (x3 : Vec F S256x2048 .bf16)

/-- Four column slices of a row block, four key slices, four value slices. -/
abbrev h0 (x : Vec F S512x1024 .bf16) : Vec F S512x256 .bf16 := View.ld x (Rect.unit ![0, 0] ![512, 256] inb_S512x1024_S512x256_0_0)
abbrev h1 (x : Vec F S512x1024 .bf16) : Vec F S512x256 .bf16 := View.ld x (Rect.unit ![0, 256] ![512, 256] inb_S512x1024_S512x256_0_256)
abbrev h2 (x : Vec F S512x1024 .bf16) : Vec F S512x256 .bf16 := View.ld x (Rect.unit ![0, 512] ![512, 256] inb_S512x1024_S512x256_0_512)
abbrev h3 (x : Vec F S512x1024 .bf16) : Vec F S512x256 .bf16 := View.ld x (Rect.unit ![0, 768] ![512, 256] inb_S512x1024_S512x256_0_768)
abbrev k0 : Vec F S256x256 .bf16 := View.ld x3 (Rect.unit ![0, 0] ![256, 256] inb_S256x2048_S256x256_0_0)
abbrev k1 : Vec F S256x256 .bf16 := View.ld x3 (Rect.unit ![0, 256] ![256, 256] inb_S256x2048_S256x256_0_256)
abbrev k2 : Vec F S256x256 .bf16 := View.ld x3 (Rect.unit ![0, 512] ![256, 256] inb_S256x2048_S256x256_0_512)
abbrev k3 : Vec F S256x256 .bf16 := View.ld x3 (Rect.unit ![0, 768] ![256, 256] inb_S256x2048_S256x256_0_768)
abbrev v0 : Vec F S256x256 .bf16 := View.ld x3 (Rect.unit ![0, 1024] ![256, 256] inb_S256x2048_S256x256_0_1024)
abbrev v1 : Vec F S256x256 .bf16 := View.ld x3 (Rect.unit ![0, 1280] ![256, 256] inb_S256x2048_S256x256_0_1280)
abbrev v2 : Vec F S256x256 .bf16 := View.ld x3 (Rect.unit ![0, 1536] ![256, 256] inb_S256x2048_S256x256_0_1536)
abbrev v3 : Vec F S256x256 .bf16 := View.ld x3 (Rect.unit ![0, 1792] ![256, 256] inb_S256x2048_S256x256_0_1792)

/-- The probabilities by head. -/
def p0 : FVec F S512x256 .f32 := k0_pay13 (k0_pay11 (h0 x1) (k0 x3)) (k0_pay12 (h0 x1) (k0 x3))
def p1 : FVec F S512x256 .f32 := k0_pay14 (k0_pay8 (h1 x1) (k1 x3))
def p2 : FVec F S512x256 .f32 := k0_pay15 (k0_pay9 (h2 x1) (k2 x3))
def p3 : FVec F S512x256 .f32 := k0_pay16 (k0_pay10 (h3 x1) (k3 x3))

/-- The query gradient's block. -/
def dzBlock : FVec F S512x1024 .bf16 :=
  k0_pay29 (k0_pay21 (p2 x1 x3) (h2 x2) (v2 x3)) (k0_pay22 (p3 x1 x3) (h3 x2) (v3 x3))
    (k0_pay27 (p0 x1 x3) (k0_pay17 (h0 x2) (v0 x3)) (k0 x3)) (k0_pay28 (p1 x1 x3) (k0_pay18 (h1 x2) (v1 x3)) (k1 x3))
    (k2 x3) (k3 x3)

/-- The key and value gradient after the point, over what it was before. -/
def dkvBlock (acc : Vec F S256x2048 .f32) : FVec F S256x2048 .f32 :=
  k0_pay30 (k0_pay4 (h0 x1)) (k0_pay5 (h1 x1)) (k0_pay6 (h2 x1)) (k0_pay7 (h3 x1)) (h0 x2) (h1 x2) (h2 x2) (h3 x2)
    (k0_pay19 (p0 x1 x3) (k0_pay17 (h0 x2) (v0 x3))) (k0_pay20 (p1 x1 x3) (k0_pay18 (h1 x2) (v1 x3)))
    (k0_pay21 (p2 x1 x3) (h2 x2) (v2 x3)) (k0_pay22 (p3 x1 x3) (h3 x2) (v3 x3))
    (k0_pay23 (p0 x1 x3)) (k0_pay24 (p1 x1 x3)) (k0_pay25 (p2 x1 x3)) (k0_pay26 (p3 x1 x3)) acc

/-- The weight gradient after the point, over what it was before. -/
def gwBlock (x0 : Vec F S512x1024 .bf16) (acc : Vec F S1024x1024 .f32) : FVec F S1024x1024 .f32 :=
  k0_pay1 (k0_pay31 (k0_pay21 (p2 x1 x3) (h2 x2) (v2 x3)) (k0_pay22 (p3 x1 x3) (h3 x2) (v3 x3))
    (k0_pay27 (p0 x1 x3) (k0_pay17 (h0 x2) (v0 x3)) (k0 x3)) (k0_pay28 (p1 x1 x3) (k0_pay18 (h1 x2) (v1 x3)) (k1 x3))
    (k2 x3) (k3 x3) acc x0)

end Blocks

/-! ## What a grid point leaves, by case -/

section Cases

variable {F : FTy → Type} [FloatOps F]
variable (m : (ℓ : Loc nD τ sig) → Buf (Elt F) ℓ)

theorem dz_at (c : Dev nD) (t : Fin cfg0.N) :
    (outsAt0 m c t.val t.isLt).1 = dzBlock (iblk m c 1 t) (iblk m c 2 t) (iblk m c 3 t) := by
  by_cases a : t.val % 16 = 0
  · have b : ¬t.val % 16 = 15 := by omega
    rw [outsAt0_A m c t a b]; frame_out; rfl
  · by_cases b : t.val % 16 = 15
    · rw [outsAt0_C m c t a b]; frame_out; rfl
    · rw [outsAt0_B m c t a b]; frame_out; rfl

theorem dkv_first (c : Dev nD) (t : Fin cfg0.N) (a : t.val % 16 = 0) :
    (outsAt0 m c t.val t.isLt).2.1 = dkvBlock (iblk m c 1 t) (iblk m c 2 t) (iblk m c 3 t) k0_pay2 := by
  have b : ¬t.val % 16 = 15 := by omega
  rw [outsAt0_A m c t a b]; frame_out; rfl

theorem dkv_next (c : Dev nD) (t : Fin cfg0.N) (a : ¬t.val % 16 = 0) :
    (outsAt0 m c t.val t.isLt).2.1 = dkvBlock (iblk m c 1 t) (iblk m c 2 t) (iblk m c 3 t)
      (outsAt0 m c (t.val - 1) (Nat.lt_of_le_of_lt (Nat.sub_le _ _) t.isLt)).2.1 := by
  by_cases b : t.val % 16 = 15
  · rw [outsAt0_C m c t a b]; frame_out; rfl
  · rw [outsAt0_B m c t a b]; frame_out; rfl

theorem gw_first (c : Dev nD) (t : Fin cfg0.N) (a : t.val % 16 = 0) :
    (outsAt0 m c t.val t.isLt).2.2.1 = gwBlock (iblk m c 1 t) (iblk m c 2 t) (iblk m c 3 t) (iblk m c 0 t) k0_pay3 := by
  have b : ¬t.val % 16 = 15 := by omega
  rw [outsAt0_A m c t a b]; frame_out; rfl

theorem gw_next (c : Dev nD) (t : Fin cfg0.N) (a : ¬t.val % 16 = 0) :
    (outsAt0 m c t.val t.isLt).2.2.1 = gwBlock (iblk m c 1 t) (iblk m c 2 t) (iblk m c 3 t) (iblk m c 0 t)
      (outsAt0 m c (t.val - 1) (Nat.lt_of_le_of_lt (Nat.sub_le _ _) t.isLt)).2.2.1 := by
  by_cases b : t.val % 16 = 15
  · rw [outsAt0_C m c t a b]; frame_out; simp only [read_unread_whole]; rfl
  · rw [outsAt0_B m c t a b]; frame_out; simp only [read_unread_whole]; rfl

end Cases

end Cert.MemBwdIdeal.Point
end
-- ==== Proof.MemLane.lean ====
module

public import proofs.«01_k».proof.Proof.MemBlock

@[expose] public section

set_option maxRecDepth 16384

noncomputable section

namespace Cert.MemBwdIdeal.Point

open Cert.MemBwdIdeal Cert.MemBwdIdeal.Gen Idealize.ShloMosaic Idealize.ShloMosaic.TcCoe Idealize.SL.Sem Cert.MemSpec

/-! ## The slices -/

section Slices

variable (x : Vec Ideal S512x1024 .bf16) (r : Fin 512) (y : Vec Ideal S256x2048 .bf16)

theorem h0_at (d : Fin 256) : h0 x (ix2 r d) = x (ix2 r (hcol 0 d)) := by unfold hcol; pointwise [h0]
theorem h1_at (d : Fin 256) : h1 x (ix2 r d) = x (ix2 r (hcol 1 d)) := by unfold hcol; pointwise [h1]
theorem h2_at (d : Fin 256) : h2 x (ix2 r d) = x (ix2 r (hcol 2 d)) := by unfold hcol; pointwise [h2]
theorem h3_at (d : Fin 256) : h3 x (ix2 r d) = x (ix2 r (hcol 3 d)) := by unfold hcol; pointwise [h3]
theorem k0_at (j d : Fin 256) : k0 y (ix2 j d) = y (ix2 j (kcol 0 d)) := by unfold kcol; pointwise [k0]
theorem k1_at (j d : Fin 256) : k1 y (ix2 j d) = y (ix2 j (kcol 1 d)) := by unfold kcol; pointwise [k1]
theorem k2_at (j d : Fin 256) : k2 y (ix2 j d) = y (ix2 j (kcol 2 d)) := by unfold kcol; pointwise [k2]
theorem k3_at (j d : Fin 256) : k3 y (ix2 j d) = y (ix2 j (kcol 3 d)) := by unfold kcol; pointwise [k3]
theorem v0_at (j d : Fin 256) : v0 y (ix2 j d) = y (ix2 j (vcol 0 d)) := by unfold vcol; pointwise [v0]
theorem v1_at (j d : Fin 256) : v1 y (ix2 j d) = y (ix2 j (vcol 1 d)) := by unfold vcol; pointwise [v1]; congr 2; apply Fin.ext; show _ = _; simp only; omega
theorem v2_at (j d : Fin 256) : v2 y (ix2 j d) = y (ix2 j (vcol 2 d)) := by unfold vcol; pointwise [v2]; congr 2; apply Fin.ext; show _ = _; simp only; omega
theorem v3_at (j d : Fin 256) : v3 y (ix2 j d) = y (ix2 j (vcol 3 d)) := by unfold vcol; pointwise [v3]; congr 2; apply Fin.ext; show _ = _; simp only; omega

theorem row_h0 : row (h0 x) r = fun d => row x r (hcol 0 d) := funext fun d => h0_at x r d
theorem row_k0 : row (k0 y) = keys (row y) 0 := funext fun j => funext fun d => k0_at y j d
theorem row_v0 : row (v0 y) = vals (row y) 0 := funext fun j => funext fun d => v0_at y j d
theorem row_h1 : row (h1 x) r = fun d => row x r (hcol 1 d) := funext fun d => h1_at x r d
theorem row_k1 : row (k1 y) = keys (row y) 1 := funext fun j => funext fun d => k1_at y j d
theorem row_v1 : row (v1 y) = vals (row y) 1 := funext fun j => funext fun d => v1_at y j d
theorem row_h2 : row (h2 x) r = fun d => row x r (hcol 2 d) := funext fun d => h2_at x r d
theorem row_k2 : row (k2 y) = keys (row y) 2 := funext fun j => funext fun d => k2_at y j d
theorem row_v2 : row (v2 y) = vals (row y) 2 := funext fun j => funext fun d => v2_at y j d
theorem row_h3 : row (h3 x) r = fun d => row x r (hcol 3 d) := funext fun d => h3_at x r d
theorem row_k3 : row (k3 y) = keys (row y) 3 := funext fun j => funext fun d => k3_at y j d
theorem row_v3 : row (v3 y) = vals (row y) 3 := funext fun j => funext fun d => v3_at y j d

end Slices

/-! ## Probabilities and score gradients, by head -/

section Heads

variable (x1 x2 : Vec Ideal S512x1024 .bf16) (x3 : Vec Ideal S256x2048 .bf16) (r : Fin 512)

theorem p0_row : row (p0 x1 x3) r = probs (row x1 r) (row x3) 0 := by
  funext j
  show p0 x1 x3 (ix2 r j) = _
  unfold p0 probs; rw [pay13_apply, row_h0, row_k0]
theorem p1_row : row (p1 x1 x3) r = probs (row x1 r) (row x3) 1 := by
  have e : row (k0_pay8 (h1 x1) (k1 x3)) r = score (row (h1 x1) r) (row (k1 x3)) := funext fun j => pay8_apply _ _ r j
  funext j
  show p1 x1 x3 (ix2 r j) = _
  unfold p1 probs; rw [pay14_apply, e, row_h1, row_k1]
theorem p2_row : row (p2 x1 x3) r = probs (row x1 r) (row x3) 2 := by
  have e : row (k0_pay9 (h2 x1) (k2 x3)) r = score (row (h2 x1) r) (row (k2 x3)) := funext fun j => pay9_apply _ _ r j
  funext j
  show p2 x1 x3 (ix2 r j) = _
  unfold p2 probs; rw [pay15_apply, e, row_h2, row_k2]
theorem p3_row : row (p3 x1 x3) r = probs (row x1 r) (row x3) 3 := by
  have e : row (k0_pay10 (h3 x1) (k3 x3)) r = score (row (h3 x1) r) (row (k3 x3)) := funext fun j => pay10_apply _ _ r j
  funext j
  show p3 x1 x3 (ix2 r j) = _
  unfold p3 probs; rw [pay16_apply, e, row_h3, row_k3]
theorem g0_row : row (k0_pay17 (h0 x2) (v0 x3)) r = grad (fun d => row x2 r (hcol 0 d)) (vals (row x3) 0) := by
  rw [← row_h0, ← row_v0]; exact funext fun j => pay17_apply _ _ r j
theorem ds0_at (j : Fin 256) : k0_pay19 (p0 x1 x3) (k0_pay17 (h0 x2) (v0 x3)) (ix2 r j) = dscores (row x1 r) (row x2 r) (row x3) 0 j := by
  rw [pay19_apply, p0_row, g0_row]; rfl
theorem g1_row : row (k0_pay18 (h1 x2) (v1 x3)) r = grad (fun d => row x2 r (hcol 1 d)) (vals (row x3) 1) := by
  rw [← row_h1, ← row_v1]; exact funext fun j => pay18_apply _ _ r j
theorem ds1_at (j : Fin 256) : k0_pay20 (p1 x1 x3) (k0_pay18 (h1 x2) (v1 x3)) (ix2 r j) = dscores (row x1 r) (row x2 r) (row x3) 1 j := by
  rw [pay20_apply, p1_row, g1_row]; rfl
theorem ds2_at (j : Fin 256) : k0_pay21 (p2 x1 x3) (h2 x2) (v2 x3) (ix2 r j) = dscores (row x1 r) (row x2 r) (row x3) 2 j := by
  rw [pay21_apply, p2_row, row_h2, row_v2]; rfl
theorem ds2_row : row (k0_pay21 (p2 x1 x3) (h2 x2) (v2 x3)) r = dscores (row x1 r) (row x2 r) (row x3) 2 := funext fun j => ds2_at x1 x2 x3 r j
theorem ds3_at (j : Fin 256) : k0_pay22 (p3 x1 x3) (h3 x2) (v3 x3) (ix2 r j) = dscores (row x1 r) (row x2 r) (row x3) 3 j := by
  rw [pay22_apply, p3_row, row_h3, row_v3]; rfl
theorem ds3_row : row (k0_pay22 (p3 x1 x3) (h3 x2) (v3 x3)) r = dscores (row x1 r) (row x2 r) (row x3) 3 := funext fun j => ds3_at x1 x2 x3 r j
theorem dq0_at (d : Fin 256) : k0_pay27 (p0 x1 x3) (k0_pay17 (h0 x2) (v0 x3)) (k0 x3) (ix2 r d) =
    dquery (dscores (row x1 r) (row x2 r) (row x3) 0) (keys (row x3) 0) d := by
  rw [pay27_apply, p0_row, g0_row, row_k0]; rfl
theorem dq1_at (d : Fin 256) : k0_pay28 (p1 x1 x3) (k0_pay18 (h1 x2) (v1 x3)) (k1 x3) (ix2 r d) =
    dquery (dscores (row x1 r) (row x2 r) (row x3) 1) (keys (row x3) 1) d := by
  rw [pay28_apply, p1_row, g1_row, row_k1]; rfl

/-- The four heads side by side. -/
theorem pay29_apply (a b : FVec Ideal S512x256 .bf16) (c e : FVec Ideal S512x256 .f32) (k k' : Vec Ideal S256x256 .bf16) (h : Fin 4) (d : Fin 256) :
    k0_pay29 a b c e k k' (ix2 r (hcol h d)) = match h with
      | 0 => c (ix2 r d)
      | 1 => e (ix2 r d)
      | 2 => dquery (row a r) (row k) d
      | 3 => dquery (row b r) (row k') d := by
  have hd := d.isLt
  unfold hcol dquery row
  fin_cases h
  · pointwise [k0_pay29, scale_f32]
  · pointwise [k0_pay29, scale_f32]
  · pointwise [k0_pay29, scale_f32]
    rw [dif_neg (by omega), dif_neg (by omega), dif_pos (by omega)]
    congr 1; refine Finset.sum_congr rfl fun x _ => ?_; congr 3; apply Fin.ext; show _ = _; simp only; omega
  · pointwise [k0_pay29, scale_f32]
    rw [dif_neg (by omega), dif_neg (by omega), dif_neg (by omega)]
    congr 1; refine Finset.sum_congr rfl fun x _ => ?_; congr 3; apply Fin.ext; show _ = _; simp only; omega

theorem dzBlock_hcol (h : Fin 4) (d : Fin 256) :
    dzBlock x1 x2 x3 (ix2 r (hcol h d)) = dquery (dscores (row x1 r) (row x2 r) (row x3) h) (keys (row x3) h) d := by
  unfold dzBlock
  rw [pay29_apply]
  fin_cases h
  · exact dq0_at x1 x2 x3 r d
  · exact dq1_at x1 x2 x3 r d
  · show dquery _ _ d = _; rw [ds2_row, row_k2]; rfl
  · show dquery _ _ d = _; rw [ds3_row, row_k3]; rfl

theorem dzBlock_at (c : Fin 1024) : dzBlock x1 x2 x3 (ix2 r c) = dq (row x1 r) (row x2 r) (row x3) c := by
  have e : c = hcol ⟨c.val / 256, by omega⟩ ⟨c.val % 256, by omega⟩ := by
    apply Fin.ext; show c.val = 256 * (c.val / 256) + c.val % 256; omega
  conv_lhs => rw [e]
  rw [dzBlock_hcol]; rfl

end Heads

end Cert.MemBwdIdeal.Point
end
-- ==== Proof.MemSum.lean ====
module

public import proofs.«01_k».proof.Proof.MemLane

@[expose] public section

set_option maxRecDepth 16384

noncomputable section

namespace Cert.MemBwdIdeal.Point

open Cert.MemBwdIdeal Cert.MemBwdIdeal.Gen Idealize.ShloMosaic Idealize.ShloMosaic.TcCoe Idealize.SL.Sem Cert.MemSpec

/-- The sum over a block's rows of the products of two columns. -/
def rows (a b : (⟨2, ![512, 256]⟩ : Shape).Idx → EReal) (j d : Fin 256) : EReal := ∑ r : Fin 512, a (ix2 r j) * b (ix2 r d)

/-- Eight blocks side by side, each the product of two columns of heads. -/
theorem pay30_apply (z0 z1 z2 z3 : FVec Ideal S512x256 .bf16) (o0 o1 o2 o3 : Vec Ideal S512x256 .bf16)
    (a0 a1 a2 a3 q0 q1 q2 q3 : FVec Ideal S512x256 .bf16) (acc : Vec Ideal S256x2048 .f32) (h : Fin 8) (j d : Fin 256) :
    k0_pay30 z0 z1 z2 z3 o0 o1 o2 o3 a0 a1 a2 a3 q0 q1 q2 q3 acc (ix2 j ⟨256 * h.val + d.val, by omega⟩) =
      acc (ix2 j ⟨256 * h.val + d.val, by omega⟩) + match h with
      | 0 => rows a0 z0 j d
      | 1 => rows a1 z1 j d
      | 2 => rows a2 z2 j d
      | 3 => rows a3 z3 j d
      | 4 => rows q0 o0 j d
      | 5 => rows q1 o1 j d
      | 6 => rows q2 o2 j d
      | 7 => rows q3 o3 j d := by
  have hd := d.isLt
  unfold rows
  fin_cases h
  · pointwise [k0_pay30]
  · pointwise [k0_pay30]
  · pointwise [k0_pay30]
    congr 1; rw [dif_neg (by omega), dif_neg (by omega), dif_pos (by omega)]
    refine Finset.sum_congr rfl fun x _ => ?_; congr 3; apply Fin.ext; show _ = _; simp only; omega
  · pointwise [k0_pay30]
    congr 1; rw [dif_neg (by omega), dif_neg (by omega), dif_neg (by omega), dif_pos (by omega)]
    refine Finset.sum_congr rfl fun x _ => ?_; congr 3; apply Fin.ext; show _ = _; simp only; omega
  · pointwise [k0_pay30]
    congr 1; rw [dif_neg (by omega), dif_neg (by omega), dif_neg (by omega), dif_neg (by omega), dif_pos (by omega)]
    refine Finset.sum_congr rfl fun x _ => ?_; congr 3; apply Fin.ext; show _ = _; simp only; omega
  · pointwise [k0_pay30]
    congr 1; rw [dif_neg (by omega), dif_neg (by omega), dif_neg (by omega), dif_neg (by omega), dif_neg (by omega), dif_pos (by omega)]
    refine Finset.sum_congr rfl fun x _ => ?_; congr 3; apply Fin.ext; show _ = _; simp only; omega
  · pointwise [k0_pay30]
    congr 1; rw [dif_neg (by omega), dif_neg (by omega), dif_neg (by omega), dif_neg (by omega), dif_neg (by omega), dif_neg (by omega), dif_pos (by omega)]
    refine Finset.sum_congr rfl fun x _ => ?_; congr 3; apply Fin.ext; show _ = _; simp only; omega
  · pointwise [k0_pay30]
    congr 1; rw [dif_neg (by omega), dif_neg (by omega), dif_neg (by omega), dif_neg (by omega), dif_neg (by omega), dif_neg (by omega), dif_neg (by omega)]
    refine Finset.sum_congr rfl fun x _ => ?_; congr 3; apply Fin.ext; show _ = _; simp only; omega

section Blocks

variable (x0 x1 x2 : Vec Ideal S512x1024 .bf16) (x3 : Vec Ideal S256x2048 .bf16)

theorem dkvBlock_lane (acc : Vec Ideal S256x2048 .f32) (h : Fin 8) (j d : Fin 256) :
    dkvBlock x1 x2 x3 acc (ix2 j ⟨256 * h.val + d.val, by omega⟩) = acc (ix2 j ⟨256 * h.val + d.val, by omega⟩) +
      ∑ r : Fin 512, dkv (row x1 r) (row x2 r) (row x3) j ⟨256 * h.val + d.val, by omega⟩ := by
  have hd := d.isLt
  unfold dkvBlock
  rw [pay30_apply]
  congr 1
  fin_cases h
  · refine Finset.sum_congr rfl fun r _ => ?_
    rw [ds0_at, pay4_apply, h0_at]
    unfold dkv
    rw [dif_pos (show 256 * 0 + d.val < 1024 by omega)]
    congr 2
    apply Fin.ext; show 0 = (256 * 0 + d.val) / 256; omega
  · refine Finset.sum_congr rfl fun r _ => ?_
    rw [ds1_at, pay5_apply, h1_at]
    unfold dkv
    rw [dif_pos (show 256 * 1 + d.val < 1024 by omega)]
    congr 2
    apply Fin.ext; show 1 = (256 * 1 + d.val) / 256; omega
  · refine Finset.sum_congr rfl fun r _ => ?_
    rw [ds2_at, pay6_apply, h2_at]
    unfold dkv
    rw [dif_pos (show 256 * 2 + d.val < 1024 by omega)]
    congr 2
    apply Fin.ext; show 2 = (256 * 2 + d.val) / 256; omega
  · refine Finset.sum_congr rfl fun r _ => ?_
    rw [ds3_at, pay7_apply, h3_at]
    unfold dkv
    rw [dif_pos (show 256 * 3 + d.val < 1024 by omega)]
    congr 2
    apply Fin.ext; show 3 = (256 * 3 + d.val) / 256; omega
  · refine Finset.sum_congr rfl fun r _ => ?_
    rw [pay23_apply, h0_at]
    show row (p0 x1 x3) r j * _ = _
    rw [p0_row]
    unfold dkv
    rw [dif_neg (show ¬256 * 4 + d.val < 1024 by omega)]
    congr 2
    · apply Fin.ext; show 0 = (256 * 4 + d.val - 1024) / 256; omega
    · congr 1; apply Fin.ext; show 256 * 0 + d.val = 256 * 4 + d.val - 1024; omega
  · refine Finset.sum_congr rfl fun r _ => ?_
    rw [pay24_apply, h1_at]
    show row (p1 x1 x3) r j * _ = _
    rw [p1_row]
    unfold dkv
    rw [dif_neg (show ¬256 * 5 + d.val < 1024 by omega)]
    congr 2
    · apply Fin.ext; show 1 = (256 * 5 + d.val - 1024) / 256; omega
    · congr 1; apply Fin.ext; show 256 * 1 + d.val = 256 * 5 + d.val - 1024; omega
  · refine Finset.sum_congr rfl fun r _ => ?_
    rw [pay25_apply, h2_at]
    show row (p2 x1 x3) r j * _ = _
    rw [p2_row]
    unfold dkv
    rw [dif_neg (show ¬256 * 6 + d.val < 1024 by omega)]
    congr 2
    · apply Fin.ext; show 2 = (256 * 6 + d.val - 1024) / 256; omega
    · congr 1; apply Fin.ext; show 256 * 2 + d.val = 256 * 6 + d.val - 1024; omega
  · refine Finset.sum_congr rfl fun r _ => ?_
    rw [pay26_apply, h3_at]
    show row (p3 x1 x3) r j * _ = _
    rw [p3_row]
    unfold dkv
    rw [dif_neg (show ¬256 * 7 + d.val < 1024 by omega)]
    congr 2
    · apply Fin.ext; show 3 = (256 * 7 + d.val - 1024) / 256; omega
    · congr 1; apply Fin.ext; show 256 * 3 + d.val = 256 * 7 + d.val - 1024; omega

theorem dkvBlock_at (acc : Vec Ideal S256x2048 .f32) (j : Fin 256) (c : Fin 2048) :
    dkvBlock x1 x2 x3 acc (ix2 j c) = acc (ix2 j c) + ∑ r : Fin 512, dkv (row x1 r) (row x2 r) (row x3) j c := by
  have e : c = ⟨256 * (⟨c.val / 256, by omega⟩ : Fin 8).val + (⟨c.val % 256, by omega⟩ : Fin 256).val, by
      show 256 * (c.val / 256) + c.val % 256 < 2048; omega⟩ := by
    apply Fin.ext; show c.val = 256 * (c.val / 256) + c.val % 256; omega
  rw [e]
  exact dkvBlock_lane x1 x2 x3 acc ⟨c.val / 256, by omega⟩ j ⟨c.val % 256, by omega⟩

theorem pay31_apply (a b : FVec Ideal S512x256 .bf16) (c e : FVec Ideal S512x256 .f32) (k k' : Vec Ideal S256x256 .bf16)
    (acc : Vec Ideal S1024x1024 .f32) (x : Vec Ideal S512x1024 .bf16) (i j : Fin 1024) :
    k0_pay1 (k0_pay31 a b c e k k' acc x) (ix2 i j) = acc (ix2 i j) + ∑ r : Fin 512, k0_pay29 a b c e k k' (ix2 r i) * x (ix2 r j) := by
  pointwise [k0_pay1, k0_pay31]

theorem gwBlock_at (acc : Vec Ideal S1024x1024 .f32) (i j : Fin 1024) :
    gwBlock x1 x2 x3 x0 acc (ix2 i j) = acc (ix2 i j) + ∑ r : Fin 512, dq (row x1 r) (row x2 r) (row x3) i * row x0 r j := by
  unfold gwBlock
  rw [pay31_apply]
  congr 1
  refine Finset.sum_congr rfl fun r _ => ?_
  congr 1
  exact dzBlock_at x1 x2 x3 r i

theorem pay2_at (j : Fin 256) (c : Fin 2048) : (k0_pay2 : FVec Ideal S256x2048 .f32) (ix2 j c) = 0 := by
  pointwise [k0_pay2]

theorem pay3_at (i j : Fin 1024) : (k0_pay3 : FVec Ideal S1024x1024 .f32) (ix2 i j) = 0 := by
  pointwise [k0_pay3]

end Blocks

end Cert.MemBwdIdeal.Point
end
-- ==== Proof.MemRows.lean ====
module

public import proofs.«01_k».proof.Proof.MemSum
public import Idealize.ShloMosaic.Lib.VecWindow

@[expose] public section

set_option maxRecDepth 16384

noncomputable section

namespace Cert.MemBwdIdeal.Point

open Cert.MemBwdIdeal Cert.MemBwdIdeal.Gen Idealize.ShloMosaic Idealize.ShloMosaic.TcCoe Idealize.SL.Sem Cert.MemSpec

variable {F : FTy → Type} [FloatOps F]
variable (m : (ℓ : Loc nD τ sig) → Buf (Elt F) ℓ)

theorem out_at (c : Dev nD) (t : Fin cfg0.N) (a : t.val % 16 = 15) :
    (outsAt0 m c t.val t.isLt).2.2.2 = (View.whole main_v0_2).writes (Elt F) (outsAt0 m c (t.val - 1) (Nat.lt_of_le_of_lt (Nat.sub_le _ _) t.isLt)).2.2.2
      [⟨Rect.unit ![5376, 0] ![1024, 1024] inb_S9472x1024_S1024x1024_5376_0, (outsAt0 m c t.val t.isLt).2.2.1⟩] := by
  have b : ¬t.val % 16 = 0 := by omega
  conv_rhs => rw [outsAt0_C m c t b a]
  conv_lhs => rw [outsAt0_C m c t b a]
  unfold hbw0_C_0 sout0_C_0 kernelRun0_C
  dsimp only
  refine congrArg (fun q => (View.whole main_v0_2).writes (Elt F) _ [⟨_, q⟩]) ?_
  unfold kernelRun0_C.sl.dma29 kernelRun0_C.sl.HS0_1
  show View.read _ _ _ = _
  rw [View.read_writes_full]
  rw [View.read_writes_full]

/-- Row `5376 + i` of a buffer written over by one piece of rows 5376–6399: row `i` of the piece. -/
theorem piece_row (f : (View.whole main_v0_2).ty.Contents (Elt F)) (x : Vec F S1024x1024 .f32) (i j : Fin 1024) (k : Fin 9472) (hk : k.val = 5376 + i.val) :
    (View.whole main_v0_2).writes (Elt F) f [⟨Rect.unit ![5376, 0] ![1024, 1024] inb_S9472x1024_S1024x1024_5376_0, x⟩] (ix2 k j) = x (ix2 i j) := by
  have h : View.read (Elt F) (View.whole main_v0_2) ((View.whole main_v0_2).writes (Elt F) f [⟨Rect.unit ![5376, 0] ![1024, 1024] inb_S9472x1024_S1024x1024_5376_0, x⟩]) (ix2 k j) = x (ix2 i j) := by
    refine View.read_writes_cons_unit_of_mem (off' := ![5376, 0]) (View.whole main_v0_2) f inb_S9472x1024_S1024x1024_5376_0 x [] (ix2 k j) (ix2 i j) rfl ?_
    refine Fin.forall_fin_two.mpr ⟨hk, ?_⟩
    exact (Nat.zero_add _).symm
  rw [View.read_whole] at h
  exact h

end Cert.MemBwdIdeal.Point
end
-- ==== Proof.MemArrays.lean ====
module

public import proofs.«01_k».proof.Proof.MemRows

@[expose] public section

set_option maxRecDepth 16384

noncomputable section

namespace Cert.MemBwdIdeal.Arrays

open Cert.MemBwdIdeal Cert.MemBwdIdeal.Gen Cert.MemBwdIdeal.Point Idealize.ShloMosaic Idealize.ShloMosaic.TcCoe Idealize.SL.Sem Cert.MemSpec

variable (m : (ℓ : Loc nD τ sig) → Buf (Elt Ideal) ℓ) (c : Dev nD)

/-- The launch's arrays. -/
abbrev X : S8192x1024.Idx → EReal := m ((c : Thread nD τ).loc main_arg0)
abbrev Z : S8192x1024.Idx → EReal := m ((c : Thread nD τ).loc main_arg1)
abbrev O : S8192x1024.Idx → EReal := m ((c : Thread nD τ).loc main_arg2)
abbrev KV : S256x2048.Idx → EReal := m ((c : Thread nD τ).loc main_arg3)

theorem N16 : cfg0.N = 16 := N_0

/-- Row `r` of block `t` as a row of the array. -/
def lane (t : Fin cfg0.N) (r : Fin 512) : Fin 8192 := ⟨t.val * 512 + r.val, by have h := lt_of_lt_of_eq t.isLt N16; omega⟩

/-- Where the windows' blocks lie. -/
theorem places : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧
    (win0_4.index t 0 = t.val ∧ win0_4.index t 1 = 0) := by decide +kernel

theorem row0 (t : Fin cfg0.N) (r : Fin 512) : row (iblk m c 0 t) r = row (X m c) (lane t r) := by
  have e := places t
  funext d; unfold row lane X; blk_ext [iblk, V, e.1.1, e.1.2]
theorem row1 (t : Fin cfg0.N) (r : Fin 512) : row (iblk m c 1 t) r = row (Z m c) (lane t r) := by
  have e := places t
  funext d; unfold row lane Z; blk_ext [iblk, V, e.2.1.1, e.2.1.2]
theorem row2 (t : Fin cfg0.N) (r : Fin 512) : row (iblk m c 2 t) r = row (O m c) (lane t r) := by
  have e := places t
  funext d; unfold row lane O; blk_ext [iblk, V, e.2.2.1.1, e.2.2.1.2]
theorem row3 (t : Fin cfg0.N) : row (iblk m c 3 t) = row (KV m c) := by
  have e := places t
  funext j d; unfold row KV; blk_ext [iblk, V, e.2.2.2.1.1, e.2.2.2.1.2]

/-- The query gradient. -/
theorem dz_final : (dats m 0 c).arrAt 4 cfg0.N = fun i : S8192x1024.Idx => dq (row (Z m c) (i 0)) (row (O m c) (i 0)) (row (KV m c)) (i 1) := by
  refine (dats m 0 c).arrAt_eq_of_covers 4 _ (by decide +kernel) fun t hf y => ?_
  blk_simp
  rw [after0_4, dz_at]
  have e := places t
  idx_vars y
  rw [dzBlock_at, row1, row2, row3]
  have a : ((View.whole main_v0_0).slice (win0_4.rect t)).emb (ix2 y0 y1) = ix2 (lane t y0) y1 := by
    unfold lane; blk_ext [e.2.2.2.2.1, e.2.2.2.2.2]
  rw [a]
  rfl

/-- The key and value gradient after the last point. -/
theorem dkv_last (j : Fin 256) (d : Fin 2048) : (outsAt0 m c t0_15.val t0_15.isLt).2.1 (ix2 j d) =
    ∑ i : Fin 8192, dkv (row (Z m c) i) (row (O m c) i) (row (KV m c)) j d := by
  have h := Pipeline.eq_sum_fin_of_reset_step_apply_last (fun n h => (outsAt0 m c n h).2.1) 16 (fun _ => 0)
    (fun t j => ∑ r : Fin 512, dkv (row (Z m c) (lane t r)) (row (O m c) (lane t r)) (row (KV m c)) (j 0) (j 1))
    (fun t h j => by
      idx_vars j
      show (outsAt0 m c t.val t.isLt).2.1 _ = _
      rw [dkv_first m c t h, dkvBlock_at, pay2_at]
      refine congrArg _ (Finset.sum_congr rfl fun r _ => ?_)
      rw [row1, row2, row3])
    (fun t h j => by
      idx_vars j
      show (outsAt0 m c t.val t.isLt).2.1 _ = _
      rw [dkv_next m c t h, dkvBlock_at]
      refine congrArg _ (Finset.sum_congr rfl fun r _ => ?_)
      rw [row1, row2, row3])
    (le_of_eq N16) t0_15 (by decide) (ix2 j d)
  rw [zero_add] at h
  refine Eq.trans h ?_
  exact Fin.sum_mul_add_congr (fun t r hl => rfl) (by rw [N16])

/-- The weight gradient after the last point. -/
theorem gw_last (a b : Fin 1024) : (outsAt0 m c t0_15.val t0_15.isLt).2.2.1 (ix2 a b) =
    ∑ i : Fin 8192, dq (row (Z m c) i) (row (O m c) i) (row (KV m c)) a * row (X m c) i b := by
  have h := Pipeline.eq_sum_fin_of_reset_step_apply_last (fun n h => (outsAt0 m c n h).2.2.1) 16 (fun _ => 0)
    (fun t j => ∑ r : Fin 512, dq (row (Z m c) (lane t r)) (row (O m c) (lane t r)) (row (KV m c)) (j 0) * row (X m c) (lane t r) (j 1))
    (fun t h j => by
      idx_vars j
      show (outsAt0 m c t.val t.isLt).2.2.1 _ = _
      rw [gw_first m c t h, gwBlock_at, pay3_at]
      refine congrArg _ (Finset.sum_congr rfl fun r _ => ?_)
      rw [row0, row1, row2, row3])
    (fun t h j => by
      idx_vars j
      show (outsAt0 m c t.val t.isLt).2.2.1 _ = _
      rw [gw_next m c t h, gwBlock_at]
      refine congrArg _ (Finset.sum_congr rfl fun r _ => ?_)
      rw [row0, row1, row2, row3])
    (le_of_eq N16) t0_15 (by decide) (ix2 a b)
  rw [zero_add] at h
  refine Eq.trans h ?_
  exact Fin.sum_mul_add_congr (fun t r hl => rfl) (by rw [N16])

/-- The key and value gradient. -/
theorem dkv_final : (dats m 0 c).arrAt 5 cfg0.N = fun i : S256x2048.Idx =>
    ∑ r : Fin 8192, dkv (row (Z m c) r) (row (O m c) r) (row (KV m c)) (i 0) (i 1) := by
  refine (dats m 0 c).arrAt_eq_of_after_last 5 t0_15 (by decide +kernel) _ fun j => ?_
  blk_simp
  rw [after0_5]
  idx_vars j
  rw [dkv_last]

/-- The weight gradient's rows in the third result. -/
theorem gw_final (f : Buf (Elt Ideal) ((c : Thread nD τ).loc main_v0_2)) (t : Fin cfg0.N) (ht : t = t0_15) (hf : f = (outsAt0 m c t.val t.isLt).2.2.2)
    (k : Fin 9472) (a b : Fin 1024) (hk : k.val = 5376 + a.val) :
    f (ix2 k b) = ∑ i : Fin 8192, dq (row (Z m c) i) (row (O m c) i) (row (KV m c)) a * row (X m c) i b := by
  subst ht
  rw [out_at m c t0_15 (by decide)] at hf
  refine (congrFun hf (ix2 k b)).trans ?_
  exact (piece_row _ _ a b k hk).trans (gw_last m c a b)

end Cert.MemBwdIdeal.Arrays
end
-- ==== Proof.MemAlgebra.lean ====
module

public import proofs.«01_k».proof.Proof.MemSpec

@[expose] public section

noncomputable section

namespace Cert.MemSpec

open Idealize.ShloMosaic

/-- A nonnegative real factor goes into a sum of extended reals. -/
theorem coe_mul_sum {ι : Type} [DecidableEq ι] (u : Finset ι) (c : ℝ) (hc : 0 ≤ c) (f : ι → EReal) : (c : EReal) * ∑ i ∈ u, f i = ∑ i ∈ u, (c : EReal) * f i := by
  induction u using Finset.induction_on with
  | empty => simp
  | insert a u ha ih =>
    rw [Finset.sum_insert ha, Finset.sum_insert ha, ← ih]
    exact EReal.left_distrib_of_nonneg_of_ne_top (EReal.coe_nonneg.mpr hc) (EReal.coe_ne_top c) _ _

theorem coe_sum {ι : Type} [DecidableEq ι] (u : Finset ι) (f : ι → ℝ) : ∑ i ∈ u, (f i : EReal) = ((∑ i ∈ u, f i : ℝ) : EReal) := by
  induction u using Finset.induction_on with
  | empty => simp
  | insert a u ha ih => rw [Finset.sum_insert ha, Finset.sum_insert ha, ih, EReal.coe_add]

/-- The largest of real scores is one of them. -/
theorem peak_coe (σ : Fin 256 → ℝ) : ∃ M : ℝ, peak (fun j => (σ j : EReal)) = (M : EReal) := by
  obtain ⟨i, -, hi⟩ := Finset.exists_mem_eq_sup (Finset.univ : Finset (Fin 256)) ⟨0, Finset.mem_univ 0⟩ (fun j => (σ j : EReal))
  exact ⟨σ i, hi⟩

/-- The weights of real scores are positive reals. -/
theorem weight_coe (σ : Fin 256 → ℝ) : ∃ e : Fin 256 → ℝ, (∀ j, 0 < e j) ∧ weight (fun j => (σ j : EReal)) = fun j => (e j : EReal) := by
  obtain ⟨M, hM⟩ := peak_coe σ
  refine ⟨fun j => Real.exp (σ j - M), fun j => Real.exp_pos _, funext fun j => ?_⟩
  unfold weight
  rw [hM, ← EReal.coe_sub, Ideal.exp_coe]

/-- The reference's gradient with respect to the scores: the quotient rule on the weights over their sum. -/
def quotientDs (s g : Fin 256 → EReal) (j : Fin 256) : EReal :=
  (Ideal.div (g j) (∑ i, weight s i) +
    -∑ i, g i * Ideal.div 1 ((∑ i, weight s i) * (∑ i, weight s i)) * weight s i) * weight s j

/-- On real scores the quotient rule is the probabilities' own form, whatever the output gradient. -/
theorem quotientDs_eq (s g : Fin 256 → EReal) (hs : ∀ j, s j ≠ ⊤ ∧ s j ≠ ⊥) (j : Fin 256) : quotientDs s g j = dscore (prob s) g j := by
  obtain ⟨σ, rfl⟩ : ∃ σ : Fin 256 → ℝ, s = fun j => (σ j : EReal) :=
    ⟨fun j => (s j).toReal, funext fun j => (EReal.coe_toReal (hs j).1 (hs j).2).symm⟩
  obtain ⟨e, he, hw⟩ := weight_coe σ
  have hT : 0 < ∑ i, e i := Finset.sum_pos (fun i _ => he i) ⟨0, Finset.mem_univ 0⟩
  unfold quotientDs dscore prob
  simp only [hw, coe_sum, ← EReal.coe_mul]
  generalize (∑ i, e i) = T at hT
  have hT' : (1 / T) ≥ 0 := by positivity
  simp only [Ideal.div_coe hT.ne', Ideal.div_coe (mul_pos hT hT).ne', one_mul, ← EReal.coe_mul]
  have hB : ∑ i, g i * ((1 / (T * T) : ℝ) : EReal) * (e i : EReal) = ((1 / T : ℝ) : EReal) * ∑ i, ((e i * (1 / T) : ℝ) : EReal) * g i := by
    rw [coe_mul_sum _ _ hT']
    refine Finset.sum_congr rfl fun i _ => ?_
    rw [mul_assoc, ← EReal.coe_mul, ← mul_assoc, ← EReal.coe_mul, mul_comm]
    congr 2
    field_simp
  rw [hB]
  generalize (∑ i, ((e i * (1 / T) : ℝ) : EReal) * g i) = A
  have h1 : g j * ((1 / T : ℝ) : EReal) + -(((1 / T : ℝ) : EReal) * A) = ((1 / T : ℝ) : EReal) * (g j - A) := by
    rw [sub_eq_add_neg, EReal.left_distrib_of_nonneg_of_ne_top (EReal.coe_nonneg.mpr hT') (EReal.coe_ne_top _), mul_comm (g j), mul_neg]
  rw [h1, EReal.coe_mul, mul_comm (e j : EReal), mul_right_comm]

/-- Real queries and keys have real scores. -/
theorem score_real (q : Fin 256 → EReal) (k : Fin 256 → Fin 256 → EReal) (hq : ∀ d, q d ≠ ⊤ ∧ q d ≠ ⊥) (hk : ∀ j d, k j d ≠ ⊤ ∧ k j d ≠ ⊥) (j : Fin 256) :
    score q k j ≠ ⊤ ∧ score q k j ≠ ⊥ := by
  have e : score q k j = ((∑ d, (q d).toReal * (1 / 16) * (k j d).toReal : ℝ) : EReal) := by
    unfold score scale
    rw [← coe_sum]
    refine Finset.sum_congr rfl fun d _ => ?_
    rw [EReal.coe_mul, EReal.coe_mul, EReal.coe_toReal (hq d).1 (hq d).2, EReal.coe_toReal (hk j d).1 (hk j d).2]
  rw [e]
  exact ⟨EReal.coe_ne_top _, EReal.coe_ne_bot _⟩

end Cert.MemSpec

end
-- ==== Proof.MemRefPoint.lean ====
module

public import proofs.«01_k».proof.Proof.Gen.MemReferenceIdeal.Run
public import proofs.«01_k».proof.Proof.Gen.MemReferenceIdeal.Read
public import proofs.«01_k».proof.Proof.MemAlgebra

@[expose] public section

set_option maxRecDepth 16384

noncomputable section

namespace Cert.MemReferenceIdeal.Point

open Cert.MemReferenceIdeal Cert.MemReferenceIdeal.Gen Cert.MemReferenceIdeal.Read Idealize.ShloMosaic Idealize.ShloMosaic.TcCoe Idealize.SL.Sem Cert.MemSpec

variable (X Z O : FVec Ideal S8192x1024 .bf16) (KV : FVec Ideal S256x2048 .bf16)

/-- A row's scores in head `h`. -/
abbrev scores (h : Fin 4) (s : Fin 8192) : Fin 256 → EReal := score (fun d => row Z s (hcol h d)) (keys (row KV) h)

theorem v8_at (s : Fin 8192) (h : Fin 4) (d : Fin 256) : val_main_v8 (F := Ideal) Z (ix3 s h d) = row Z s (hcol h d) * scale := by
  unfold row hcol
  pointwise [val_main_v8, val_main_v7, val_main_v6, val_main_v1, val_main_cst, scale_f32]
  simp only [Nat.mul_comm]

theorem v9_at (j : Fin 256) (h : Fin 4) (d : Fin 256) : val_main_v9 (F := Ideal) KV (ix3 j h d) = keys (row KV) h j d := by
  unfold keys row kcol
  pointwise [val_main_v9, val_main_v4, val_main_v3]
  simp only [Nat.mul_comm]

theorem v10_at (j : Fin 256) (h : Fin 4) (d : Fin 256) : val_main_v10 (F := Ideal) KV (ix3 j h d) = vals (row KV) h j d := by
  unfold vals row vcol
  pointwise [val_main_v10, val_main_v5, val_main_v3]
  simp only [Nat.mul_comm]

theorem v11_at (h : Fin 4) (s : Fin 8192) (j : Fin 256) : val_main_v11 (F := Ideal) Z KV (ix3 h s j) = scores Z KV h s j := by
  unfold scores score
  unfold val_main_v11
  simp only [← v8_at, ← v9_at]
  generalize val_main_v8 (F := Ideal) Z = a
  generalize val_main_v9 (F := Ideal) KV = b
  pointwise []

theorem v12_at (h : Fin 4) (s : Fin 8192) : val_main_v12 (F := Ideal) Z KV (ix2 h s) = peak (scores Z KV h s) := by
  have e : scores Z KV h s = fun j => val_main_v11 (F := Ideal) Z KV (ix3 h s j) := funext fun j => (v11_at Z KV h s j).symm
  rw [e]
  unfold val_main_v12 peak
  generalize val_main_v11 (F := Ideal) Z KV = a
  pointwise [val_main_cst_0, low_f32]

theorem v19_at (h : Fin 4) (s : Fin 8192) : val_main_v19 (F := Ideal) Z KV (ix2 h s) = peak (scores Z KV h s) := by
  rw [val_main_v19_apply, val_main_v18_apply, val_main_cst_2_apply, v12_at]
  show max (Ideal.ofBits .f32 0xFF800000#32) _ = _
  rw [low_f32]
  exact max_eq_right (by unfold low; exact bot_le)

theorem v32_at (h : Fin 4) (s : Fin 8192) (j : Fin 256) : val_main_v32 (F := Ideal) Z KV (ix3 h s j) = weight (scores Z KV h s) j := by
  unfold weight
  rw [← v19_at, ← v11_at]
  unfold val_main_v32 val_main_v31 val_main_v30 val_main_v29
  generalize val_main_v19 (F := Ideal) Z KV = a
  generalize val_main_v11 (F := Ideal) Z KV = b
  pointwise []

theorem v33_at (h : Fin 4) (s : Fin 8192) : val_main_v33 (F := Ideal) Z KV (ix2 h s) = ∑ j, weight (scores Z KV h s) j := by
  simp only [← v32_at]
  unfold val_main_v33
  generalize val_main_v32 (F := Ideal) Z KV = a
  pointwise [val_main_cst_8]

theorem v36_at (h : Fin 4) (s : Fin 8192) (j : Fin 256) : val_main_v36 (F := Ideal) Z KV (ix3 h s j) = prob (scores Z KV h s) j := by
  unfold prob
  rw [← v33_at, ← v32_at]
  unfold val_main_v36 val_main_v35 val_main_v34
  generalize val_main_v33 (F := Ideal) Z KV = a
  generalize val_main_v32 (F := Ideal) Z KV = b
  pointwise []

theorem v45_at (h : Fin 4) (s : Fin 8192) (j : Fin 256) : val_main_v45 (F := Ideal) O KV (ix3 h s j) =
    grad (fun d => row O s (hcol h d)) (vals (row KV) h) j := by
  unfold grad
  simp only [← v10_at]
  unfold val_main_v45 val_main_v44 val_main_v43 val_main_v2
  generalize val_main_v10 (F := Ideal) KV = b
  unfold row hcol
  pointwise []
  simp only [Nat.mul_comm]

theorem one_f32 : Ideal.ofBits .f32 0x3F800000#32 = 1 := by
  simp [Ideal.ofBits, Ideal.ieee, -EReal.coe_mul]; norm_num

theorem v39_at (h : Fin 4) (s : Fin 8192) : val_main_v39 (F := Ideal) Z KV (ix3 h s (0 : Fin 1)) =
    Ideal.div 1 ((∑ i, weight (scores Z KV h s) i) * (∑ i, weight (scores Z KV h s) i)) := by
  rw [← v33_at]
  unfold val_main_v39 val_main_v38 val_main_v37 val_main_v34 val_main_cst_9
  generalize val_main_v33 (F := Ideal) Z KV = a
  pointwise [one_f32]

theorem v51_at (h : Fin 4) (s : Fin 8192) : val_main_v51 (F := Ideal) Z O KV (ix2 h s) =
    ∑ i, grad (fun d => row O s (hcol h d)) (vals (row KV) h) i *
      Ideal.div 1 ((∑ i, weight (scores Z KV h s) i) * (∑ i, weight (scores Z KV h s) i)) * weight (scores Z KV h s) i := by
  rw [← v39_at]
  simp only [← v45_at, ← v32_at]
  unfold val_main_v51 val_main_v50 val_main_v49 val_main_v48 val_main_cst_10
  generalize val_main_v39 (F := Ideal) Z KV = a
  generalize val_main_v45 (F := Ideal) O KV = b
  generalize val_main_v32 (F := Ideal) Z KV = c
  pointwise []

theorem v59_at (h : Fin 4) (s : Fin 8192) (j : Fin 256) : val_main_v59 (F := Ideal) Z O KV (ix3 h s j) =
    quotientDs (scores Z KV h s) (grad (fun d => row O s (hcol h d)) (vals (row KV) h)) j := by
  unfold quotientDs
  rw [← v51_at, ← v45_at, ← v32_at, ← v33_at]
  unfold val_main_v59 val_main_v58 val_main_v57 val_main_v56 val_main_v55 val_main_v54 val_main_v53 val_main_v52 val_main_cst_11 val_main_v34
  generalize val_main_v51 (F := Ideal) Z O KV = a
  generalize val_main_v45 (F := Ideal) O KV = b
  generalize val_main_v32 (F := Ideal) Z KV = c
  generalize val_main_v33 (F := Ideal) Z KV = e
  pointwise []
  rw [Fin.sum_univ_one]

/-- A row's score gradients as the reference has them. -/
abbrev refScores (h : Fin 4) (s : Fin 8192) : Fin 256 → EReal :=
  quotientDs (scores Z KV h s) (grad (fun d => row O s (hcol h d)) (vals (row KV) h))

theorem v67_at (s : Fin 8192) (h : Fin 4) (d : Fin 256) : val_main_v67 (F := Ideal) Z O KV (ix3 s h d) =
    dquery (refScores Z O KV h s) (keys (row KV) h) d := by
  unfold dquery refScores
  simp only [← v59_at, ← v9_at]
  unfold val_main_v67 val_main_v66 val_main_v63 val_main_v62 val_main_cst_12
  generalize val_main_v59 (F := Ideal) Z O KV = a
  generalize val_main_v9 (F := Ideal) KV = b
  pointwise [scale_f32]

theorem v60_at (h : Fin 4) (j d : Fin 256) : val_main_v60 (F := Ideal) Z O KV (ix3 h j d) =
    ∑ s, refScores Z O KV h s j * (row Z s (hcol h d) * scale) := by
  unfold refScores
  simp only [← v59_at, ← v8_at]
  unfold val_main_v60
  generalize val_main_v59 (F := Ideal) Z O KV = a
  generalize val_main_v8 (F := Ideal) Z = b
  pointwise []

theorem v46_at (h : Fin 4) (d j : Fin 256) : val_main_v46 (F := Ideal) Z O KV (ix3 h d j) =
    ∑ s, row O s (hcol h d) * prob (scores Z KV h s) j := by
  simp only [← v36_at]
  unfold val_main_v46 val_main_v44 val_main_v43 val_main_v2
  generalize val_main_v36 (F := Ideal) Z KV = a
  unfold row hcol
  pointwise []
  simp only [Nat.mul_comm]

end Cert.MemReferenceIdeal.Point
end
-- ==== Proof.MemRefOut.lean ====
module

public import proofs.«01_k».proof.Proof.MemRefPoint

@[expose] public section

set_option maxRecDepth 16384

noncomputable section

namespace Cert.MemReferenceIdeal.Point

open Cert.MemReferenceIdeal Cert.MemReferenceIdeal.Gen Cert.MemReferenceIdeal.Read Idealize.ShloMosaic Idealize.ShloMosaic.TcCoe Idealize.SL.Sem Cert.MemSpec

variable (X Z O : FVec Ideal S8192x1024 .bf16) (KV : FVec Ideal S256x2048 .bf16)
variable (hZ : ∀ i, Z i ≠ ⊤ ∧ Z i ≠ ⊥) (hKV : ∀ i, KV i ≠ ⊤ ∧ KV i ≠ ⊥)

include hZ hKV

theorem refScores_eq (h : Fin 4) (s : Fin 8192) : refScores Z O KV h s = dscores (row Z s) (row O s) (row KV) h :=
  funext fun j => quotientDs_eq _ _ (fun j => score_real _ _ (fun d => hZ _) (fun j d => hKV _) j) j

/-- The reference's query gradient. -/
theorem v68_at (s : Fin 8192) (c : Fin 1024) : val_main_v68 (F := Ideal) Z O KV (ix2 s c) = dq (row Z s) (row O s) (row KV) c := by
  have e : val_main_v68 (F := Ideal) Z O KV (ix2 s c) = val_main_v67 (F := Ideal) Z O KV (ix3 s (⟨c.val / 256, by omega⟩ : Fin 4) (⟨c.val % 256, by omega⟩ : Fin 256)) := by
    unfold val_main_v68
    generalize val_main_v67 (F := Ideal) Z O KV = a
    pointwise []
  rw [e, v67_at, refScores_eq Z O KV hZ hKV]
  rfl

theorem v77_at (s : Fin 8192) (c : Fin 1024) : val_main_v77 (F := Ideal) Z O KV (ix2 s c) = dq (row Z s) (row O s) (row KV) c := by
  rw [← v68_at Z O KV hZ hKV]
  unfold val_main_v77
  generalize val_main_v68 (F := Ideal) Z O KV = a
  pointwise []

/-- The reference's key and value gradient. -/
theorem v78_at (j : Fin 256) (c : Fin 2048) : val_main_v78 (F := Ideal) Z O KV (ix2 j c) = ∑ s, dkv (row Z s) (row O s) (row KV) j c := by
  unfold val_main_v78 val_main_v65 val_main_v61 val_main_v64 val_main_v47
  have e60 := v60_at Z O KV
  have e46 := v46_at Z O KV
  generalize val_main_v60 (F := Ideal) Z O KV = a at *
  generalize val_main_v46 (F := Ideal) Z O KV = b at *
  pointwise []
  unfold dkv
  by_cases h : c.val < 1024
  · simp only [h, dif_pos]
    rw [e60]
    refine Finset.sum_congr rfl fun s _ => ?_
    rw [refScores_eq Z O KV hZ hKV]
    refine congrArg (fun y => _ * (row Z s y * scale)) (Fin.ext ?_)
    simp only [hcol]; omega
  · simp only [h, dif_neg, not_false_eq_true]
    rw [e46]
    refine Finset.sum_congr rfl fun s _ => ?_
    rw [mul_comm]
    refine congrArg (fun y => _ * row O s y) (Fin.ext ?_)
    simp only [hcol]; omega

/-- The reference's weight gradient. -/
theorem v71_at (a b : Fin 1024) : val_main_v71 (F := Ideal) X Z O KV (ix2 a b) = ∑ s, dq (row Z s) (row O s) (row KV) a * row X s b := by
  simp only [← v68_at Z O KV hZ hKV]
  unfold val_main_v71 val_main_v0
  generalize val_main_v68 (F := Ideal) Z O KV = a
  unfold row
  pointwise []

theorem v76_at (k : Fin 9472) (a b : Fin 1024) (hk : k.val = 5376 + a.val) :
    val_main_v76 (F := Ideal) X Z O KV (ix2 k b) = ∑ s, dq (row Z s) (row O s) (row KV) a * row X s b := by
  rw [← v71_at X Z O KV hZ hKV]
  unfold val_main_v76 val_main_v75 val_main_v72
  generalize val_main_v71 (F := Ideal) X Z O KV = y
  generalize val_main_v73 (F := Ideal) = u
  generalize val_main_v74 (F := Ideal) = w
  have e : k = ⟨5376 + a.val, by omega⟩ := Fin.ext hk
  rw [e]
  pointwise []

end Cert.MemReferenceIdeal.Point
end
-- ==== Proof.MemClaim.lean ====
module

public import proofs.«01_k».proof.Defs
public import proofs.«01_k».proof.Proof.Gen.MemBwd.Frame
public import proofs.«01_k».proof.Proof.Gen.MemReferenceIdeal.Run
public import proofs.«01_k».proof.Proof.MemArrays
public import proofs.«01_k».proof.Proof.MemRefOut
public import proofs.«01_k».proof.Proof.MemMask
public import proofs.«01_k».proof.Proof.Gen.Pre_mem_finite
public import proofs.«01_k».proof.Proof.Gen.On_mem_written
public import Idealize.ShloMosaic.Adequacy
public import Idealize.ShloMosaic.Init

/-! The claims about the memory attention's backward call. -/

@[expose] public section

set_option maxRecDepth 16384

noncomputable section

namespace Cert.MemClaim

open Idealize.ShloMosaic Idealize.SL.Sem Cert.MemSpec

theorem frame_kernel : Cert.quiescent_MemBwd := fun m ρ _ => Cert.MemBwd.Gen.frame m ρ

theorem frame_ideal : Cert.quiescent_MemBwdIdeal := fun m ρ _ => Cert.MemBwdIdeal.Gen.frame m ρ

theorem frame_reference : Cert.quiescent_MemReferenceIdeal := fun m ρ _ =>
  (θ_run Cert.MemReferenceIdeal.defs _ _).mono
    (fun r h => ⟨fun c => (h c).2.2.2, sem_eq_zero_of_no_sems (by decide) r.2⟩)
    (Cert.MemReferenceIdeal.Value.run (F := Ideal) m ρ)

/-- The weight gradient laid at rows 5376 to 6399 of the packed weights. -/
def packed (x z o : Fin 8192 → Fin 1024 → EReal) (kv : Fin 256 → Fin 2048 → EReal) (k : Fin 9472) (b : Fin 1024) : EReal :=
  ∑ s, dq (z s) (o s) kv ⟨(k.val - 5376) % 1024, by omega⟩ * x s b

/-- The key and value gradient, over all rows. -/
def total (z o : Fin 8192 → Fin 1024 → EReal) (kv : Fin 256 → Fin 2048 → EReal) (j : Fin 256) (c : Fin 2048) : EReal :=
  ∑ s, dkv (z s) (o s) kv j c

/-- Kernel and reference compute the same three gradients where the kernel writes. -/
theorem value : Cert.algebraic_MemBwdIdeal_MemReferenceIdeal_on_mem_written_pre_mem_finite := by
  intro m g m' g' hpre hargs
  have hfin := fun c => Cert.MemMask.finite_of_pre _ _ _ _ (hpre c)
  refine ⟨fun c i => dq (row (Cert.MemBwdIdeal.Arrays.Z m c) (i 0)) (row (Cert.MemBwdIdeal.Arrays.O m c) (i 0)) (row (Cert.MemBwdIdeal.Arrays.KV m c)) (i 1),
    fun c i => total (row (Cert.MemBwdIdeal.Arrays.Z m c)) (row (Cert.MemBwdIdeal.Arrays.O m c)) (row (Cert.MemBwdIdeal.Arrays.KV m c)) (i 0) (i 1),
    fun c i => packed (row (Cert.MemBwdIdeal.Arrays.X m c)) (row (Cert.MemBwdIdeal.Arrays.Z m c)) (row (Cert.MemBwdIdeal.Arrays.O m c)) (row (Cert.MemBwdIdeal.Arrays.KV m c)) (i 0) (i 1), ?_, ?_⟩
  · refine (θ_run Cert.MemBwdIdeal.defs _ _).mono (fun r h c => ?_) (Cert.MemBwdIdeal.Value.run_blocks (F := Ideal) m g)
    obtain ⟨h0, h1, k0, k1, k2, k3, h2⟩ := h c
    refine ⟨fun i _ => ?_, fun i _ => ?_, fun i hi => ?_, k0, k1, k2, k3⟩
    · exact congrFun (h0.trans (Cert.MemBwdIdeal.Arrays.dz_final m c)) i
    · exact congrFun (h1.trans (Cert.MemBwdIdeal.Arrays.dkv_final m c)) i
    · obtain ⟨k, b, rfl⟩ : ∃ (k : Fin 9472) (b : Fin 1024), i = ix2 k b := ⟨i 0, i 1, by idx_vars i⟩
      have hk := Cert.MemMask.rows_of_mask _ _ _ _ k b hi
      exact Cert.MemBwdIdeal.Arrays.gw_final m c _ ⟨(Fin.last Cert.MemBwdIdeal.cfg0.N).val - 1, by rw [Fin.val_last]; have := Cert.MemBwdIdeal.Arrays.N16; omega⟩
        (by apply Fin.ext; have := Cert.MemBwdIdeal.Arrays.N16; simp [this]; rfl) h2 k ⟨(k.val - 5376) % 1024, by omega⟩ b (by show k.val = 5376 + (k.val - 5376) % 1024; omega)
  · refine (θ_run Cert.MemReferenceIdeal.defs _ _).mono (fun r h c => ?_) (Cert.MemReferenceIdeal.Value.run (F := Ideal) m' g')
    obtain ⟨h0, h1, h2, k0, k1, k2, k3⟩ := h c
    obtain ⟨a0, a1, a2, a3⟩ := hargs c
    obtain ⟨hZ, hKV⟩ := hfin c
    rw [Cert.MemReferenceIdeal.Read.val_main_v77_eq, a1, a2, a3] at h0
    rw [Cert.MemReferenceIdeal.Read.val_main_v78_eq, a1, a2, a3] at h1
    rw [Cert.MemReferenceIdeal.Read.val_main_v76_eq, a0, a1, a2, a3] at h2
    refine ⟨fun i _ => ?_, fun i _ => ?_, fun i hi => ?_, k0, k1, k2, k3⟩
    · obtain ⟨k, b, rfl⟩ : ∃ (k : Fin 8192) (b : Fin 1024), i = ix2 k b := ⟨i 0, i 1, by idx_vars i⟩
      exact (congrFun h0 _).trans (Cert.MemReferenceIdeal.Point.v77_at _ _ _ hZ hKV k b)
    · obtain ⟨k, b, rfl⟩ : ∃ (k : Fin 256) (b : Fin 2048), i = ix2 k b := ⟨i 0, i 1, by idx_vars i⟩
      exact (congrFun h1 _).trans (Cert.MemReferenceIdeal.Point.v78_at _ _ _ hZ hKV k b)
    · obtain ⟨k, b, rfl⟩ : ∃ (k : Fin 9472) (b : Fin 1024), i = ix2 k b := ⟨i 0, i 1, by idx_vars i⟩
      have hk := Cert.MemMask.rows_of_mask _ _ _ _ k b hi
      exact (congrFun h2 _).trans (Cert.MemReferenceIdeal.Point.v76_at _ _ _ _ hZ hKV k ⟨(k.val - 5376) % 1024, by omega⟩ b (by show k.val = 5376 + (k.val - 5376) % 1024; omega))

end Cert.MemClaim
end
-- ==== Proof.MlpPoint.lean ====
module

public import proofs.«01_k».proof.Proof.Gen.MlpLossIdeal.Value
public import proofs.«01_k».proof.Proof.MlpSpec

@[expose] public section

set_option maxRecDepth 16384

noncomputable section

namespace Cert.MlpLossIdeal.Point

open Cert.MlpLossIdeal Cert.MlpLossIdeal.Gen Idealize.ShloMosaic Idealize.ShloMosaic.TcCoe Idealize.SL.Sem Cert.MemSpec Cert.MlpSpec

/-- Panel of a block that holds one. -/
def sole (x : Vec Ideal S1x1024x1024 .bf16) : W := fun i j => x (ix3 0 i j)

variable (x : Vec Ideal S256x1024 .f32) (g b : Vec Ideal S1x1024 .f32) (U D U' D' : Vec Ideal S1x1024x1024 .bf16) (h q : FVec Ideal S256x1024 .bf16)
variable (r : Fin 256) (c : Fin 1024)

theorem pay5_apply : k0_pay5 x (ix2 r c) = row x r c := by unfold row; pointwise [k0_pay5]
theorem pay6_apply : k0_pay6 x g b (ix2 r c) = affine (row x r) (row g 0) (row b 0) c := by
  unfold affine row; pointwise [k0_pay6, k0_pay5]
theorem pay7_apply : k0_pay7 x g b (ix2 r c) = affine (row x r) (row g 0) (row b 0) c := by
  unfold affine row; pointwise [k0_pay7, k0_pay6, k0_pay5]
theorem row_pay7 : row (k0_pay7 x g b) r = affine (row x r) (row g 0) (row b 0) := funext fun c => pay7_apply x g b r c

theorem pay8_apply : k0_pay8 x g b U (ix2 r c) = hid (row (k0_pay7 x g b) r) (sole U) c := by
  unfold hid sole row k0_pay8; generalize k0_pay7 x g b = y; pointwise []
theorem pay9_apply : k0_pay9 x g b U (ix2 r c) = act (row (k0_pay8 x g b U) r) c := by
  unfold act row k0_pay9; generalize k0_pay8 x g b U = y; pointwise []
theorem pay10_apply : k0_pay10 x g b U D (ix2 r c) = down (row (k0_pay9 x g b U) r) (sole D) c := by
  unfold down sole row k0_pay10; generalize k0_pay9 x g b U = y; pointwise []
theorem pay11_apply : k0_pay11 x g b U (ix2 r c) = hid (row (k0_pay7 x g b) r) (sole U) c := by
  unfold hid sole row k0_pay11; generalize k0_pay7 x g b = y; pointwise []
theorem pay12_apply (y : FVec Ideal S256x1024 .f32) : k0_pay12 y (Scalar.ofBits .f32 0x00000000#32) (ix2 r c) = act (row y r) c := by
  unfold act row; pointwise [k0_pay12]
theorem pay13_apply : k0_pay13 h U (ix2 r c) = hid (row h r) (sole U) c := by
  unfold hid sole row; pointwise [k0_pay13]
theorem pay14_apply : k0_pay14 h U (ix2 r c) = act (row (k0_pay13 h U) r) c := by
  unfold act row k0_pay14; generalize k0_pay13 h U = y; pointwise []
theorem pay15_apply (s y : FVec Ideal S256x1024 .f32) :
    k0_pay15 h s y (Scalar.ofBits .f32 0x00000000#32) D U D' (ix2 r c) =
      row s r c + down (row (k0_pay12 y (Scalar.ofBits .f32 0x00000000#32)) r) (sole D) c + down (row (k0_pay14 h U) r) (sole D') c := by
  unfold down sole row k0_pay15; generalize k0_pay12 y _ = y'; generalize k0_pay14 h U = z; pointwise []
theorem pay16_apply : k0_pay16 h U (ix2 r c) = hid (row h r) (sole U) c := by
  unfold hid sole row; pointwise [k0_pay16]
theorem pay17_apply : k0_pay17 h U (ix2 r c) = act (row (k0_pay16 h U) r) c := by
  unfold act row k0_pay17; generalize k0_pay16 h U = y; pointwise []

end Cert.MlpLossIdeal.Point
end
-- ==== Proof.MlpBack.lean ====
module

public import proofs.«01_k».proof.Proof.MlpPoint

@[expose] public section

set_option maxRecDepth 16384

noncomputable section

namespace Cert.MlpLossIdeal.Point

open Cert.MlpLossIdeal Cert.MlpLossIdeal.Gen Idealize.ShloMosaic Idealize.ShloMosaic.TcCoe Idealize.SL.Sem Cert.MemSpec Cert.MlpSpec

/-- The one column of a block. -/
def col (x : Vec Ideal S256x1 .f32) (r : Fin 256) : EReal := x (ix2 r 0)

section Norm

variable (hf s : FVec Ideal S256x1024 .f32) (a : FVec Ideal S256x1024 .bf16) (D : Vec Ideal S1x1024x1024 .bf16)
variable (g b : Vec Ideal S1x1024 .f32) (t : Vec Ideal S256x1024 .f32)
variable (r : Fin 256) (c : Fin 1024)

/-- The second norm's input on a row. -/
def sum2 : R := fun c => alpha * row hf r c + (row s r c + down (row a r) (sole D) c)

theorem pay18_apply : k0_pay18 hf s a D (ix2 r c) = cent (sum2 hf s a D r) c := by
  unfold cent mean sum2 down sole row; pointwise [k0_pay18, alpha_f32, width_f32]
theorem row_pay18 : row (k0_pay18 hf s a D) r = cent (sum2 hf s a D r) := funext fun c => pay18_apply hf s a D r c
theorem pay19_apply : k0_pay19 hf s a D (ix2 r 0) = rstd (sum2 hf s a D r) := by
  unfold rstd spread mean
  rw [← row_pay18]
  unfold row k0_pay19; generalize k0_pay18 hf s a D = y; pointwise [width_f32, eps_f32]
theorem pay20_apply : k0_pay20 hf s a D (ix2 r c) = xhat (sum2 hf s a D r) c := by
  unfold xhat
  rw [← row_pay18, ← pay19_apply]
  unfold row k0_pay20; generalize k0_pay18 hf s a D = y; generalize k0_pay19 hf s a D = z; pointwise []
theorem row_pay20 : row (k0_pay20 hf s a D) r = xhat (sum2 hf s a D r) := funext fun c => pay20_apply hf s a D r c
theorem pay21_apply : k0_pay21 hf s a D g b t (ix2 r c) = err (sum2 hf s a D r) (row g 0) (row b 0) (row t r) c := by
  unfold err affine
  rw [← row_pay20]
  unfold row k0_pay21; generalize k0_pay20 hf s a D = y; pointwise []
theorem row_pay21 : row (k0_pay21 hf s a D g b t) r = err (sum2 hf s a D r) (row g 0) (row b 0) (row t r) := funext fun c => pay21_apply hf s a D g b t r c
theorem pay23_apply : k0_pay23 hf s a D g b t (ix2 r c) = dy (row (k0_pay21 hf s a D g b t) r) c := by
  unfold dy row k0_pay23; generalize k0_pay21 hf s a D g b t = y; pointwise [share_f32]
theorem pay22_apply (w : Vec Ideal S1x1024 .f32) : k0_pay22 hf s a D g b t w (ix2 0 c) =
    row w 0 c + ∑ r : Fin 256, row (k0_pay21 hf s a D g b t) r c * row (k0_pay21 hf s a D g b t) r c := by
  unfold row k0_pay22; generalize k0_pay21 hf s a D g b t = y; pointwise []

end Norm

section Back

variable (rs : FVec Ideal S256x1 .f32) (xh d : FVec Ideal S256x1024 .f32) (g w : Vec Ideal S1x1024 .f32)
variable (r : Fin 256) (c : Fin 1024)

theorem pay24_apply : k0_pay24 rs xh d g (ix2 r c) = back (row xh r) (col rs r) (gain (row d r) (row g 0)) c := by
  unfold back mean gain col row; pointwise [k0_pay24, width_f32]
theorem row_pay24 : row (k0_pay24 rs xh d g) r = back (row xh r) (col rs r) (gain (row d r) (row g 0)) := funext fun c => pay24_apply rs xh d g r c
theorem pay25_apply : k0_pay25 xh d w (ix2 0 c) = row w 0 c + ∑ r : Fin 256, row d r c * row xh r c := by
  unfold row; pointwise [k0_pay25]
theorem pay26_apply : k0_pay26 d w (ix2 0 c) = row w 0 c + ∑ r : Fin 256, row d r c := by
  unfold row; pointwise [k0_pay26]
theorem pay27_apply : k0_pay27 rs xh d g (ix2 r c) = row (k0_pay24 rs xh d g) r c := by
  unfold row k0_pay27; generalize k0_pay24 rs xh d g = y; pointwise []
theorem pay28_apply : k0_pay28 rs xh d g (ix2 r c) = alpha * row (k0_pay24 rs xh d g) r c := by
  unfold row k0_pay28; generalize k0_pay24 rs xh d g = y; pointwise [alpha_f32]
theorem pay2_apply : k0_pay2 xh d w (ix2 0 c) = row w 0 c + ∑ r : Fin 256, row d r c * row xh r c := by
  unfold row; pointwise [k0_pay2]
theorem pay3_apply : k0_pay3 d w (ix2 0 c) = row w 0 c + ∑ r : Fin 256, row d r c := by
  unfold row; pointwise [k0_pay3]
theorem pay1_apply (mu : FVec Ideal S256x1 .f32) (h : col mu r = mean (row d r)) :
    k0_pay1 xh rs d mu (ix2 r c) = back (row xh r) (col rs r) (row d r) c := by
  unfold back
  rw [← h]
  unfold mean col row; pointwise [k0_pay1, width_f32]

end Back

section Hidden

variable (z y q : FVec Ideal S256x1024 .f32) (p : FVec Ideal S256x1024 .bf16) (U D U' D' : Vec Ideal S1x1024x1024 .bf16)
variable (g : Vec Ideal S1x1024 .f32)
variable (r : Fin 256) (c : Fin 1024)

theorem pay29_apply : k0_pay29 z p D (ix2 r c) = du (row p r) (row z r) (sole D) c := by
  unfold du sole row; pointwise [k0_pay29, two_f32]
theorem pay30_apply : k0_pay30 z p D (ix2 r c) = du (row p r) (row z r) (sole D) c := by
  unfold du sole row; pointwise [k0_pay30, two_f32]
theorem pay35_apply : k0_pay35 z p D (ix2 r c) = du (row p r) (row z r) (sole D) c := by
  unfold du sole row; pointwise [k0_pay35, two_f32]
theorem pay34_apply : k0_pay34 z (k0_pay32 p D) k0_pay33 (ix2 r c) = du (row p r) (row z r) (sole D) c := by
  unfold du sole row; pointwise [k0_pay34, k0_pay32, k0_pay33, two_f32]
theorem pay31_apply : k0_pay31 z y p q D U D' U' (ix2 r c) =
    row q r c + up (row (k0_pay29 z p D) r) (sole U) c + up (row (k0_pay30 y p D') r) (sole U') c := by
  unfold up sole row k0_pay31; generalize k0_pay29 z p D = v; generalize k0_pay30 y p D' = v'; pointwise []
theorem pay36_apply (o o' : FVec Ideal S256x1024 .f32) : k0_pay36 z y p q o o' U D' U' (ix2 r c) =
    row q r c + up (row (k0_pay34 z o o') r) (sole U) c + up (row (k0_pay35 y p D') r) (sole U') c := by
  unfold up sole row k0_pay36; generalize k0_pay34 z o o' = v; generalize k0_pay35 y p D' = v'; pointwise []
theorem pay37_apply (x : Vec Ideal S256x1 .f32) : col (k0_pay37 x) r = col x r := by
  unfold col; pointwise [k0_pay37]
theorem pay38_apply (o o' : FVec Ideal S256x1024 .f32) : k0_pay38 z y p q o o' U D' U' g (ix2 r c) =
    gain (row (k0_pay36 z y p q o o' U D' U') r) (row g 0) c := by
  unfold gain row k0_pay38; generalize k0_pay36 z y p q o o' U D' U' = v; pointwise []
theorem pay39_apply (o o' : FVec Ideal S256x1024 .f32) : col (k0_pay39 z y p q o o' U D' U' g) r =
    mean (row (k0_pay38 z y p q o o' U D' U' g) r) := by
  unfold mean col row k0_pay39; generalize k0_pay38 z y p q o o' U D' U' g = v; pointwise [width_f32]

end Hidden

end Cert.MlpLossIdeal.Point
end
-- ==== Proof.MlpBlock.lean ====
module

public import proofs.«01_k».proof.Proof.MlpBack
public import Idealize.ShloMosaic.Lib.Pipeline.ReadBack

@[expose] public section

set_option maxRecDepth 16384

noncomputable section

namespace Cert.MlpLossIdeal.Point

open Cert.MlpLossIdeal Cert.MlpLossIdeal.Gen Idealize.ShloMosaic Idealize.ShloMosaic.TcCoe Idealize.SL.Sem Cert.MemSpec Cert.MlpSpec

section Blocks

variable {F : FTy → Type} [FloatOps F]
variable (x0 : Vec F S256x1024 .f32) (x1 : Vec F S256x1 .f32) (x2 : Vec F S256x1024 .f32) (x3 x4 x5 x6 : Vec F S1x1024 .f32) (x7 x8 : Vec F S4x1024x1024 .bf16)

/-- The panels of a weight block. -/
abbrev w0 (x : Vec F S4x1024x1024 .bf16) : Vec F S1x1024x1024 .bf16 := View.ld x (Rect.unit ![0, 0, 0] ![1, 1024, 1024] inb_S4x1024x1024_S1x1024x1024_0_0_0)
abbrev w1 (x : Vec F S4x1024x1024 .bf16) : Vec F S1x1024x1024 .bf16 := View.ld x (Rect.unit ![1, 0, 0] ![1, 1024, 1024] inb_S4x1024x1024_S1x1024x1024_1_0_0)
abbrev w2 (x : Vec F S4x1024x1024 .bf16) : Vec F S1x1024x1024 .bf16 := View.ld x (Rect.unit ![2, 0, 0] ![1, 1024, 1024] inb_S4x1024x1024_S1x1024x1024_2_0_0)
abbrev w3 (x : Vec F S4x1024x1024 .bf16) : Vec F S1x1024x1024 .bf16 := View.ld x (Rect.unit ![3, 0, 0] ![1, 1024, 1024] inb_S4x1024x1024_S1x1024x1024_3_0_0)

/-- The first norm's output, the panels before and after the activation. -/
def hb : FVec F S256x1024 .bf16 := k0_pay7 x0 x3 x4
def z0 : FVec F S256x1024 .f32 := k0_pay8 x0 x3 x4 (w0 x7)
def z1 : FVec F S256x1024 .f32 := k0_pay11 x0 x3 x4 (w1 x7)
def z2 : FVec F S256x1024 .f32 := k0_pay13 (hb x0 x3 x4) (w2 x7)
def z3 : FVec F S256x1024 .f32 := k0_pay16 (hb x0 x3 x4) (w3 x7)
def a0 : FVec F S256x1024 .bf16 := k0_pay9 x0 x3 x4 (w0 x7)
def a1 : FVec F S256x1024 .bf16 := k0_pay12 (z1 x0 x3 x4 x7) (Scalar.ofBits .f32 0x00000000#32)
def a2 : FVec F S256x1024 .bf16 := k0_pay14 (hb x0 x3 x4) (w2 x7)
def a3 : FVec F S256x1024 .bf16 := k0_pay17 (hb x0 x3 x4) (w3 x7)

/-- The sum of three panels' parts of the second matrix product, and what the second norm leaves. -/
def s2 : FVec F S256x1024 .f32 :=
  k0_pay15 (hb x0 x3 x4) (k0_pay10 x0 x3 x4 (w0 x7) (w0 x8)) (z1 x0 x3 x4 x7) (Scalar.ofBits .f32 0x00000000#32) (w1 x8) (w2 x7) (w2 x8)
def rs2 : FVec F S256x1 .f32 := k0_pay19 (k0_pay6 x0 x3 x4) (s2 x0 x3 x4 x7 x8) (a3 x0 x3 x4 x7) (w3 x8)
def xh2 : FVec F S256x1024 .f32 := k0_pay20 (k0_pay6 x0 x3 x4) (s2 x0 x3 x4 x7 x8) (a3 x0 x3 x4 x7) (w3 x8)
def dyb : FVec F S256x1024 .f32 := k0_pay23 (k0_pay6 x0 x3 x4) (s2 x0 x3 x4 x7 x8) (a3 x0 x3 x4 x7) (w3 x8) x5 x6 x2

/-- The second norm's gradient and the panels' hidden gradients. -/
def q2 : FVec F S256x1024 .bf16 := k0_pay27 (rs2 x0 x3 x4 x7 x8) (xh2 x0 x3 x4 x7 x8) (dyb x0 x2 x3 x4 x5 x6 x7 x8) x5
def t0 : FVec F S256x1024 .bf16 := k0_pay29 (z0 x0 x3 x4 x7) (q2 x0 x2 x3 x4 x5 x6 x7 x8) (w0 x8)
def t1 : FVec F S256x1024 .bf16 := k0_pay30 (z1 x0 x3 x4 x7) (q2 x0 x2 x3 x4 x5 x6 x7 x8) (w1 x8)
def t2 : FVec F S256x1024 .bf16 := k0_pay34 (z2 x0 x3 x4 x7) (k0_pay32 (q2 x0 x2 x3 x4 x5 x6 x7 x8) (w2 x8)) k0_pay33
def t3 : FVec F S256x1024 .bf16 := k0_pay35 (z3 x0 x3 x4 x7) (q2 x0 x2 x3 x4 x5 x6 x7 x8) (w3 x8)
def half : FVec F S256x1024 .f32 :=
  k0_pay31 (z0 x0 x3 x4 x7) (z1 x0 x3 x4 x7) (q2 x0 x2 x3 x4 x5 x6 x7 x8)
    (k0_pay28 (rs2 x0 x3 x4 x7 x8) (xh2 x0 x3 x4 x7 x8) (dyb x0 x2 x3 x4 x5 x6 x7 x8) x5) (w0 x8) (w0 x7) (w1 x8) (w1 x7)

/-- The first norm's gradient, of its output and of its normalised value, and its input's. -/
def dhb : FVec F S256x1024 .f32 :=
  k0_pay36 (z2 x0 x3 x4 x7) (z3 x0 x3 x4 x7) (q2 x0 x2 x3 x4 x5 x6 x7 x8) (half x0 x2 x3 x4 x5 x6 x7 x8)
    (k0_pay32 (q2 x0 x2 x3 x4 x5 x6 x7 x8) (w2 x8)) k0_pay33 (w2 x7) (w3 x8) (w3 x7)
def dxb : FVec F S256x1024 .f32 :=
  k0_pay1 (k0_pay5 x0) (k0_pay37 x1)
    (k0_pay38 (z2 x0 x3 x4 x7) (z3 x0 x3 x4 x7) (q2 x0 x2 x3 x4 x5 x6 x7 x8) (half x0 x2 x3 x4 x5 x6 x7 x8)
      (k0_pay32 (q2 x0 x2 x3 x4 x5 x6 x7 x8) (w2 x8)) k0_pay33 (w2 x7) (w3 x8) (w3 x7) x3)
    (k0_pay39 (z2 x0 x3 x4 x7) (z3 x0 x3 x4 x7) (q2 x0 x2 x3 x4 x5 x6 x7 x8) (half x0 x2 x3 x4 x5 x6 x7 x8)
      (k0_pay32 (q2 x0 x2 x3 x4 x5 x6 x7 x8) (w2 x8)) k0_pay33 (w2 x7) (w3 x8) (w3 x7) x3)

/-- The activation's and the hidden gradient's blocks: four column slices. -/
def slices (v0 v1 v2 v3 : FVec F S256x1024 .bf16) : List (View.Piece (Elt F) S256x4096 .bf16) :=
  [⟨Rect.unit ![0, 3072] ![256, 1024] inb_S256x4096_S256x1024_0_3072, v3⟩, ⟨Rect.unit ![0, 2048] ![256, 1024] inb_S256x4096_S256x1024_0_2048, v2⟩,
    ⟨Rect.unit ![0, 1024] ![256, 1024] inb_S256x4096_S256x1024_0_1024, v1⟩, ⟨Rect.unit ![0, 0] ![256, 1024] inb_S256x4096_S256x1024_0_0, v0⟩]

/-- The rows of sums, over what they were before. -/
def sums (acc : Vec F S8x1024 .f32) : List (View.Piece (Elt F) S8x1024 .f32) :=
  [⟨Rect.unit ![3, 0] ![1, 1024] inb_S8x1024_S1x1024_3_0,
      k0_pay3 (dhb x0 x2 x3 x4 x5 x6 x7 x8) (View.ld acc (Rect.unit ![3, 0] ![1, 1024] inb_S8x1024_S1x1024_3_0))⟩,
    ⟨Rect.unit ![2, 0] ![1, 1024] inb_S8x1024_S1x1024_2_0,
      k0_pay2 (k0_pay5 x0) (dhb x0 x2 x3 x4 x5 x6 x7 x8) (View.ld acc (Rect.unit ![2, 0] ![1, 1024] inb_S8x1024_S1x1024_2_0))⟩,
    ⟨Rect.unit ![1, 0] ![1, 1024] inb_S8x1024_S1x1024_1_0,
      k0_pay26 (dyb x0 x2 x3 x4 x5 x6 x7 x8) (View.ld acc (Rect.unit ![1, 0] ![1, 1024] inb_S8x1024_S1x1024_1_0))⟩,
    ⟨Rect.unit ![0, 0] ![1, 1024] inb_S8x1024_S1x1024_0_0,
      k0_pay25 (xh2 x0 x3 x4 x7 x8) (dyb x0 x2 x3 x4 x5 x6 x7 x8) (View.ld acc (Rect.unit ![0, 0] ![1, 1024] inb_S8x1024_S1x1024_0_0))⟩,
    ⟨Rect.unit ![4, 0] ![1, 1024] inb_S8x1024_S1x1024_4_0,
      k0_pay22 (k0_pay6 x0 x3 x4) (s2 x0 x3 x4 x7 x8) (a3 x0 x3 x4 x7) (w3 x8) x5 x6 x2
        (View.ld acc (Rect.unit ![4, 0] ![1, 1024] inb_S8x1024_S1x1024_4_0))⟩]

/-- A block of zeros stored whole. -/
def zeros : View.Piece (Elt F) S8x1024 .f32 := ⟨Rect.unit ![0, 0] ![8, 1024] inb_S8x1024_S8x1024_0_0, k0_pay4⟩

end Blocks

section Cases

variable {F : FTy → Type} [FloatOps F]
variable (m : (ℓ : Loc nD τ sig) → Buf (Elt F) ℓ)

theorem dx_at (c : Dev nD) (t : Fin cfg0.N) : (outsAt0 m c t.val t.isLt).1 =
    dxb (iblk m c 0 t) (iblk m c 1 t) (iblk m c 2 t) (iblk m c 3 t) (iblk m c 4 t) (iblk m c 5 t) (iblk m c 6 t) (iblk m c 7 t) (iblk m c 8 t) := by
  by_cases h : t.val % 32 = 0
  · rw [outsAt0_A m c t h]; frame_out; rfl
  · rw [outsAt0_B m c t h]; frame_out; rfl

theorem q2_at (c : Dev nD) (t : Fin cfg0.N) : (outsAt0 m c t.val t.isLt).2.1 =
    q2 (iblk m c 0 t) (iblk m c 2 t) (iblk m c 3 t) (iblk m c 4 t) (iblk m c 5 t) (iblk m c 6 t) (iblk m c 7 t) (iblk m c 8 t) := by
  by_cases h : t.val % 32 = 0
  · rw [outsAt0_A m c t h]; frame_out; rfl
  · rw [outsAt0_B m c t h]; frame_out; rfl

theorem h_at (c : Dev nD) (t : Fin cfg0.N) : (outsAt0 m c t.val t.isLt).2.2.1 = hb (iblk m c 0 t) (iblk m c 3 t) (iblk m c 4 t) := by
  by_cases h : t.val % 32 = 0
  · rw [outsAt0_A m c t h]; frame_out; rfl
  · rw [outsAt0_B m c t h]; frame_out; rfl

theorem a_at (c : Dev nD) (t : Fin cfg0.N) : (outsAt0 m c t.val t.isLt).2.2.2.1 = View.canon
    (slices (a0 (iblk m c 0 t) (iblk m c 3 t) (iblk m c 4 t) (iblk m c 7 t)) (a1 (iblk m c 0 t) (iblk m c 3 t) (iblk m c 4 t) (iblk m c 7 t))
      (a2 (iblk m c 0 t) (iblk m c 3 t) (iblk m c 4 t) (iblk m c 7 t)) (a3 (iblk m c 0 t) (iblk m c 3 t) (iblk m c 4 t) (iblk m c 7 t))) := by
  by_cases h : t.val % 32 = 0
  · rw [outsAt0_A m c t h]; frame_out; rfl
  · rw [outsAt0_B m c t h]; frame_out; rfl

theorem du_at (c : Dev nD) (t : Fin cfg0.N) : (outsAt0 m c t.val t.isLt).2.2.2.2.1 = View.canon
    (slices (t0 (iblk m c 0 t) (iblk m c 2 t) (iblk m c 3 t) (iblk m c 4 t) (iblk m c 5 t) (iblk m c 6 t) (iblk m c 7 t) (iblk m c 8 t))
      (t1 (iblk m c 0 t) (iblk m c 2 t) (iblk m c 3 t) (iblk m c 4 t) (iblk m c 5 t) (iblk m c 6 t) (iblk m c 7 t) (iblk m c 8 t))
      (t2 (iblk m c 0 t) (iblk m c 2 t) (iblk m c 3 t) (iblk m c 4 t) (iblk m c 5 t) (iblk m c 6 t) (iblk m c 7 t) (iblk m c 8 t))
      (t3 (iblk m c 0 t) (iblk m c 2 t) (iblk m c 3 t) (iblk m c 4 t) (iblk m c 5 t) (iblk m c 6 t) (iblk m c 7 t) (iblk m c 8 t))) := by
  by_cases h : t.val % 32 = 0
  · rw [outsAt0_A m c t h]; frame_out; rfl
  · rw [outsAt0_B m c t h]; frame_out; rfl

theorem sums_first (c : Dev nD) (t : Fin cfg0.N) (h : t.val % 32 = 0) : (outsAt0 m c t.val t.isLt).2.2.2.2.2 = View.canon
    (sums (iblk m c 0 t) (iblk m c 2 t) (iblk m c 3 t) (iblk m c 4 t) (iblk m c 5 t) (iblk m c 6 t) (iblk m c 7 t) (iblk m c 8 t) k0_pay4 ++ [zeros]) := by
  rw [outsAt0_A m c t h]; frame_out
  simp (disch := decide) only [↓View.readCov_skip, View.readCov_fill]
  rfl

theorem sums_next (c : Dev nD) (t : Fin cfg0.N) (h : ¬t.val % 32 = 0) : (outsAt0 m c t.val t.isLt).2.2.2.2.2 =
    (ms0_14 t).view.read (Elt F) ((ms0_14 t).view.writes (Elt F)
      ((hs0_14 t).unread (outsAt0 m c (t.val - 1) (Nat.lt_of_le_of_lt (Nat.sub_le _ _) t.isLt)).2.2.2.2.2)
      (sums (iblk m c 0 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2)) := by
  rw [outsAt0_B m c t h]; frame_out; rfl

end Cases

end Cert.MlpLossIdeal.Point
end
-- ==== Proof.MlpLane.lean ====
module

public import proofs.«01_k».proof.Proof.MlpBlock

@[expose] public section

set_option maxRecDepth 16384

noncomputable section

namespace Cert.MlpLossIdeal.Point

open Cert.MlpLossIdeal Cert.MlpLossIdeal.Gen Idealize.ShloMosaic Idealize.ShloMosaic.TcCoe Idealize.SL.Sem Cert.MemSpec Cert.MlpSpec

/-! ## The blocks by row -/

section Rows

theorem sole_w0 (x : Vec Ideal S4x1024x1024 .bf16) : sole (w0 x) = panel x 0 := by funext i j; unfold sole panel; pointwise [w0]
theorem sole_w1 (x : Vec Ideal S4x1024x1024 .bf16) : sole (w1 x) = panel x 1 := by funext i j; unfold sole panel; pointwise [w1]
theorem sole_w2 (x : Vec Ideal S4x1024x1024 .bf16) : sole (w2 x) = panel x 2 := by funext i j; unfold sole panel; pointwise [w2]
theorem sole_w3 (x : Vec Ideal S4x1024x1024 .bf16) : sole (w3 x) = panel x 3 := by funext i j; unfold sole panel; pointwise [w3]

variable (x0 : Vec Ideal S256x1024 .f32) (x1 : Vec Ideal S256x1 .f32) (x2 : Vec Ideal S256x1024 .f32) (x3 x4 x5 x6 : Vec Ideal S1x1024 .f32) (x7 x8 : Vec Ideal S4x1024x1024 .bf16)
variable (r : Fin 256)

theorem row_hb : row (hb x0 x3 x4) r = h1 (row x0 r) (row x3 0) (row x4 0) := row_pay7 x0 x3 x4 r
theorem row_hf : row (k0_pay6 x0 x3 x4) r = h1 (row x0 r) (row x3 0) (row x4 0) := funext fun c => pay6_apply x0 x3 x4 r c
theorem row_x : row (k0_pay5 x0) r = row x0 r := funext fun c => pay5_apply x0 r c

theorem row_z0 : row (z0 x0 x3 x4 x7) r = z (row x0 r) (row x3 0) (row x4 0) (panel x7) 0 := by
  funext c; refine (pay8_apply x0 x3 x4 (w0 x7) r c).trans ?_; rw [row_pay7, sole_w0]; rfl
theorem row_z1 : row (z1 x0 x3 x4 x7) r = z (row x0 r) (row x3 0) (row x4 0) (panel x7) 1 := by
  funext c; refine (pay11_apply x0 x3 x4 (w1 x7) r c).trans ?_; rw [row_pay7, sole_w1]; rfl
theorem row_z2 : row (z2 x0 x3 x4 x7) r = z (row x0 r) (row x3 0) (row x4 0) (panel x7) 2 := by
  funext c; refine (pay13_apply (w2 x7) (hb x0 x3 x4) r c).trans ?_; rw [row_hb, sole_w2]; rfl
theorem row_z3 : row (z3 x0 x3 x4 x7) r = z (row x0 r) (row x3 0) (row x4 0) (panel x7) 3 := by
  funext c; refine (pay16_apply (w3 x7) (hb x0 x3 x4) r c).trans ?_; rw [row_hb, sole_w3]; rfl
theorem row_a0 : row (a0 x0 x3 x4 x7) r = a (row x0 r) (row x3 0) (row x4 0) (panel x7) 0 := by
  funext c; exact (pay9_apply x0 x3 x4 (w0 x7) r c).trans (congrArg (fun y => act y c) (row_z0 x0 x3 x4 x7 r))
theorem row_a1 : row (a1 x0 x3 x4 x7) r = a (row x0 r) (row x3 0) (row x4 0) (panel x7) 1 := by
  funext c; exact (pay12_apply r c (z1 x0 x3 x4 x7)).trans (congrArg (fun y => act y c) (row_z1 x0 x3 x4 x7 r))
theorem row_a2 : row (a2 x0 x3 x4 x7) r = a (row x0 r) (row x3 0) (row x4 0) (panel x7) 2 := by
  funext c; exact (pay14_apply (w2 x7) (hb x0 x3 x4) r c).trans (congrArg (fun y => act y c) (row_z2 x0 x3 x4 x7 r))
theorem row_a3 : row (a3 x0 x3 x4 x7) r = a (row x0 r) (row x3 0) (row x4 0) (panel x7) 3 := by
  funext c; exact (pay17_apply (w3 x7) (hb x0 x3 x4) r c).trans (congrArg (fun y => act y c) (row_z3 x0 x3 x4 x7 r))

theorem row_s2 : row (s2 x0 x3 x4 x7 x8) r = fun c =>
    down (a (row x0 r) (row x3 0) (row x4 0) (panel x7) 0) (panel x8 0) c + down (a (row x0 r) (row x3 0) (row x4 0) (panel x7) 1) (panel x8 1) c
      + down (a (row x0 r) (row x3 0) (row x4 0) (panel x7) 2) (panel x8 2) c := by
  funext c
  refine (pay15_apply (w2 x7) (w1 x8) (w2 x8) (hb x0 x3 x4) r c (k0_pay10 x0 x3 x4 (w0 x7) (w0 x8)) (z1 x0 x3 x4 x7)).trans ?_
  rw [show row (k0_pay10 x0 x3 x4 (w0 x7) (w0 x8)) r c = down (row (a0 x0 x3 x4 x7) r) (sole (w0 x8)) c from pay10_apply x0 x3 x4 (w0 x7) (w0 x8) r c]
  rw [show k0_pay12 (z1 x0 x3 x4 x7) (Scalar.ofBits .f32 0x00000000#32) = a1 x0 x3 x4 x7 from rfl,
    show k0_pay14 (hb x0 x3 x4) (w2 x7) = a2 x0 x3 x4 x7 from rfl, row_a0, row_a1, row_a2, sole_w0, sole_w1, sole_w2]

theorem sum2_eq : sum2 (k0_pay6 x0 x3 x4) (s2 x0 x3 x4 x7 x8) (a3 x0 x3 x4 x7) (w3 x8) r =
    pre2 (row x0 r) (row x3 0) (row x4 0) (panel x7) (panel x8) := by
  unfold sum2
  rw [row_hf, row_s2, row_a3, sole_w3]
  rfl

theorem col_rs2 : col (rs2 x0 x3 x4 x7 x8) r = rstd (pre2 (row x0 r) (row x3 0) (row x4 0) (panel x7) (panel x8)) := by
  refine (pay19_apply _ _ _ _ r).trans ?_; rw [sum2_eq]
theorem row_xh2 : row (xh2 x0 x3 x4 x7 x8) r = xhat (pre2 (row x0 r) (row x3 0) (row x4 0) (panel x7) (panel x8)) := by
  refine (row_pay20 _ _ _ _ r).trans ?_; rw [sum2_eq]
theorem row_er : row (k0_pay21 (k0_pay6 x0 x3 x4) (s2 x0 x3 x4 x7 x8) (a3 x0 x3 x4 x7) (w3 x8) x5 x6 x2) r =
    er (row x0 r) (row x2 r) (row x3 0) (row x4 0) (row x5 0) (row x6 0) (panel x7) (panel x8) := by
  rw [row_pay21, sum2_eq]; rfl
theorem row_dyb : row (dyb x0 x2 x3 x4 x5 x6 x7 x8) r =
    dyr (row x0 r) (row x2 r) (row x3 0) (row x4 0) (row x5 0) (row x6 0) (panel x7) (panel x8) := by
  funext c; refine (pay23_apply _ _ _ _ _ _ _ r c).trans ?_; rw [row_er]; rfl

theorem row_q2' : row (k0_pay24 (rs2 x0 x3 x4 x7 x8) (xh2 x0 x3 x4 x7 x8) (dyb x0 x2 x3 x4 x5 x6 x7 x8) x5) r =
    dpre2 (row x0 r) (row x2 r) (row x3 0) (row x4 0) (row x5 0) (row x6 0) (panel x7) (panel x8) := by
  rw [row_pay24, row_xh2, col_rs2, row_dyb]; rfl
theorem row_q2 : row (q2 x0 x2 x3 x4 x5 x6 x7 x8) r =
    dpre2 (row x0 r) (row x2 r) (row x3 0) (row x4 0) (row x5 0) (row x6 0) (panel x7) (panel x8) := by
  funext c; exact (pay27_apply _ _ _ _ r c).trans (congrFun (row_q2' x0 x2 x3 x4 x5 x6 x7 x8 r) c)

theorem row_t0 : row (t0 x0 x2 x3 x4 x5 x6 x7 x8) r = dur (row x0 r) (row x2 r) (row x3 0) (row x4 0) (row x5 0) (row x6 0) (panel x7) (panel x8) 0 := by
  funext c; refine (pay29_apply _ _ _ r c).trans ?_; rw [row_q2, row_z0, sole_w0]; rfl
theorem row_t1 : row (t1 x0 x2 x3 x4 x5 x6 x7 x8) r = dur (row x0 r) (row x2 r) (row x3 0) (row x4 0) (row x5 0) (row x6 0) (panel x7) (panel x8) 1 := by
  funext c; refine (pay30_apply _ _ _ r c).trans ?_; rw [row_q2, row_z1, sole_w1]; rfl
theorem row_t2 : row (t2 x0 x2 x3 x4 x5 x6 x7 x8) r = dur (row x0 r) (row x2 r) (row x3 0) (row x4 0) (row x5 0) (row x6 0) (panel x7) (panel x8) 2 := by
  funext c; refine (pay34_apply _ _ _ r c).trans ?_; rw [row_q2, row_z2, sole_w2]; rfl
theorem row_t3 : row (t3 x0 x2 x3 x4 x5 x6 x7 x8) r = dur (row x0 r) (row x2 r) (row x3 0) (row x4 0) (row x5 0) (row x6 0) (panel x7) (panel x8) 3 := by
  funext c; refine (pay35_apply _ _ _ r c).trans ?_; rw [row_q2, row_z3, sole_w3]; rfl

theorem row_dhb : row (dhb x0 x2 x3 x4 x5 x6 x7 x8) r = dh1 (row x0 r) (row x2 r) (row x3 0) (row x4 0) (row x5 0) (row x6 0) (panel x7) (panel x8) := by
  funext c
  refine (pay36_apply (r := r) (c := c) ..).trans ?_
  rw [show row (half x0 x2 x3 x4 x5 x6 x7 x8) r c = _ from pay31_apply _ _ _ _ _ _ _ _ r c]
  rw [show row (k0_pay28 (rs2 x0 x3 x4 x7 x8) (xh2 x0 x3 x4 x7 x8) (dyb x0 x2 x3 x4 x5 x6 x7 x8) x5) r c = _ from pay28_apply _ _ _ _ r c, row_q2']
  rw [show k0_pay29 (z0 x0 x3 x4 x7) (q2 x0 x2 x3 x4 x5 x6 x7 x8) (w0 x8) = t0 x0 x2 x3 x4 x5 x6 x7 x8 from rfl,
    show k0_pay30 (z1 x0 x3 x4 x7) (q2 x0 x2 x3 x4 x5 x6 x7 x8) (w1 x8) = t1 x0 x2 x3 x4 x5 x6 x7 x8 from rfl,
    show k0_pay34 (z2 x0 x3 x4 x7) (k0_pay32 (q2 x0 x2 x3 x4 x5 x6 x7 x8) (w2 x8)) k0_pay33 = t2 x0 x2 x3 x4 x5 x6 x7 x8 from rfl,
    show k0_pay35 (z3 x0 x3 x4 x7) (q2 x0 x2 x3 x4 x5 x6 x7 x8) (w3 x8) = t3 x0 x2 x3 x4 x5 x6 x7 x8 from rfl,
    row_t0, row_t1, row_t2, row_t3, sole_w0, sole_w1, sole_w2, sole_w3]
  rfl

theorem row_dxb : row (dxb x0 x1 x2 x3 x4 x5 x6 x7 x8) r =
    dpre1 (row x0 r) (col x1 r) (row x2 r) (row x3 0) (row x4 0) (row x5 0) (row x6 0) (panel x7) (panel x8) := by
  funext c
  refine (pay1_apply _ _ _ r c _ (pay39_apply (r := r) ..)).trans ?_
  rw [row_x, pay37_apply]
  have e : row (k0_pay38 (z2 x0 x3 x4 x7) (z3 x0 x3 x4 x7) (q2 x0 x2 x3 x4 x5 x6 x7 x8) (half x0 x2 x3 x4 x5 x6 x7 x8)
      (k0_pay32 (q2 x0 x2 x3 x4 x5 x6 x7 x8) (w2 x8)) k0_pay33 (w2 x7) (w3 x8) (w3 x7) x3) r =
      gain (dh1 (row x0 r) (row x2 r) (row x3 0) (row x4 0) (row x5 0) (row x6 0) (panel x7) (panel x8)) (row x3 0) := by
    rw [← row_dhb]; exact funext fun c => pay38_apply (r := r) (c := c) ..
  rw [e]
  rfl

end Rows

/-! ## Blocks stored piece by piece, at an index -/

section Pieces

variable {s : Shape} {e : EltTy} {Val : EltTy → Type} [∀ e, Nonempty (Val e)]

theorem canon_hit {off size : Fin s.rank → ℕ} (inb : ∀ i, off i + size i ≤ s.size i) (v : (Rect.unit off size inb).shape.Idx → Val e)
    (L : List (View.Piece Val s e)) (y : s.Idx) (x : (Rect.unit off size inb).shape.Idx) (h : ∀ i, (y i).val = off i + (x i).val) :
    View.canon (⟨Rect.unit off size inb, v⟩ :: L) y = v x := by
  have hy : y = (Rect.unit off size inb).emb x := funext fun i => Fin.ext ((h i).trans (by
    show _ = off i + 1 * (x i).val
    omega))
  rw [hy]
  exact View.canon_cons_emb _ v L x

theorem canon_miss {off size : Fin s.rank → ℕ} (inb : ∀ i, off i + size i ≤ s.size i) (v : (Rect.unit off size inb).shape.Idx → Val e)
    (L : List (View.Piece Val s e)) (y : s.Idx) (i : Fin s.rank) (h : (y i).val < off i ∨ off i + size i ≤ (y i).val) :
    View.canon (⟨Rect.unit off size inb, v⟩ :: L) y = View.canon L y := by
  refine View.canon_cons_of_not_mem _ L fun hy => ?_
  have hm : y ∈ (Rect.unit off size inb).set := hy
  rw [Rect.mem_set_unit] at hm
  have := hm i
  omega

end Pieces

theorem slices_at (v0 v1 v2 v3 : FVec Ideal S256x1024 .bf16) (S : Fin 4 → R) (r : Fin 256) (k : Fin 4096)
    (e0 : row v0 r = S 0) (e1 : row v1 r = S 1) (e2 : row v2 r = S 2) (e3 : row v3 r = S 3) :
    View.canon (slices v0 v1 v2 v3) (ix2 r k) = S ⟨k.val / 1024, by omega⟩ ⟨k.val % 1024, by omega⟩ := by
  unfold slices
  have hit : ∀ (o : ℕ) (p : Fin 4) (f : Fin 1024), k.val = o + f.val → o = 1024 * p.val → S p f = S ⟨k.val / 1024, by omega⟩ ⟨k.val % 1024, by omega⟩ := by
    intro o p f h1 h2
    have a1 : p = ⟨k.val / 1024, by omega⟩ := Fin.ext (by show p.val = k.val / 1024; omega)
    have a2 : f = ⟨k.val % 1024, by omega⟩ := Fin.ext (by show f.val = k.val % 1024; omega)
    exact congr (congrArg S a1) a2
  by_cases c3 : 3072 ≤ k.val
  · refine (canon_hit _ _ _ _ (ix2 r ⟨k.val - 3072, by omega⟩) (Fin.forall_fin_two.mpr ⟨(Nat.zero_add _).symm, ?_⟩)).trans ?_
    · show k.val = 3072 + (k.val - 3072); omega
    · exact (congrFun e3 _).trans (hit 3072 3 _ (by show k.val = 3072 + (k.val - 3072); omega) rfl)
  rw [canon_miss _ _ _ _ 1 (Or.inl (by show k.val < 3072; omega))]
  by_cases c2 : 2048 ≤ k.val
  · refine (canon_hit _ _ _ _ (ix2 r ⟨k.val - 2048, by omega⟩) (Fin.forall_fin_two.mpr ⟨(Nat.zero_add _).symm, ?_⟩)).trans ?_
    · show k.val = 2048 + (k.val - 2048); omega
    · exact (congrFun e2 _).trans (hit 2048 2 _ (by show k.val = 2048 + (k.val - 2048); omega) rfl)
  rw [canon_miss _ _ _ _ 1 (Or.inl (by show k.val < 2048; omega))]
  by_cases c1 : 1024 ≤ k.val
  · refine (canon_hit _ _ _ _ (ix2 r ⟨k.val - 1024, by omega⟩) (Fin.forall_fin_two.mpr ⟨(Nat.zero_add _).symm, ?_⟩)).trans ?_
    · show k.val = 1024 + (k.val - 1024); omega
    · exact (congrFun e1 _).trans (hit 1024 1 _ (by show k.val = 1024 + (k.val - 1024); omega) rfl)
  rw [canon_miss _ _ _ _ 1 (Or.inl (by show k.val < 1024; omega))]
  refine (canon_hit _ _ _ _ (ix2 r ⟨k.val, by omega⟩) (Fin.forall_fin_two.mpr ⟨(Nat.zero_add _).symm, ?_⟩)).trans ?_
  · show k.val = 0 + k.val; omega
  · exact (congrFun e0 _).trans (hit 0 0 _ (by show k.val = 0 + k.val; omega) rfl)

end Cert.MlpLossIdeal.Point
end
-- ==== Proof.MlpSums.lean ====
module

public import proofs.«01_k».proof.Proof.MlpLane
public import Idealize.ShloMosaic.Lib.WritesUnit

@[expose] public section

set_option maxRecDepth 16384

noncomputable section

namespace Cert.MlpLossIdeal.Point

open Cert.MlpLossIdeal Cert.MlpLossIdeal.Gen Idealize.ShloMosaic Idealize.ShloMosaic.TcCoe Idealize.SL.Sem Cert.MemSpec Cert.MlpSpec

/-! ## The rows of sums, at an index -/

section Sums

variable (x0 : Vec Ideal S256x1024 .f32) (x2 : Vec Ideal S256x1024 .f32) (x3 x4 x5 x6 : Vec Ideal S1x1024 .f32) (x7 x8 : Vec Ideal S4x1024x1024 .bf16)
variable (acc : Vec Ideal S8x1024 .f32) (c : Fin 1024)

/-- Row `r`'s part of row `k` of the sums. -/
def share1 (k : Fin 8) (r : Fin 256) : EReal :=
  part (row x0 r) (row x2 r) (row x3 0) (row x4 0) (row x5 0) (row x6 0) (panel x7) (panel x8) k c

theorem old0 : row (View.ld acc (Rect.unit ![0, 0] ![1, 1024] inb_S8x1024_S1x1024_0_0)) (0 : Fin 1) c = acc (ix2 0 c) := by unfold row; pointwise []
theorem old1 : row (View.ld acc (Rect.unit ![1, 0] ![1, 1024] inb_S8x1024_S1x1024_1_0)) (0 : Fin 1) c = acc (ix2 1 c) := by unfold row; pointwise []
theorem old2 : row (View.ld acc (Rect.unit ![2, 0] ![1, 1024] inb_S8x1024_S1x1024_2_0)) (0 : Fin 1) c = acc (ix2 2 c) := by unfold row; pointwise []
theorem old3 : row (View.ld acc (Rect.unit ![3, 0] ![1, 1024] inb_S8x1024_S1x1024_3_0)) (0 : Fin 1) c = acc (ix2 3 c) := by unfold row; pointwise []
theorem old4 : row (View.ld acc (Rect.unit ![4, 0] ![1, 1024] inb_S8x1024_S1x1024_4_0)) (0 : Fin 1) c = acc (ix2 4 c) := by unfold row; pointwise []

theorem new0 : k0_pay25 (xh2 x0 x3 x4 x7 x8) (dyb x0 x2 x3 x4 x5 x6 x7 x8) (View.ld acc (Rect.unit ![0, 0] ![1, 1024] inb_S8x1024_S1x1024_0_0)) (ix2 0 c) =
    acc (ix2 0 c) + ∑ r : Fin 256, share1 x0 x2 x3 x4 x5 x6 x7 x8 c 0 r := by
  rw [pay25_apply, old0]
  refine congrArg _ (Finset.sum_congr rfl fun r _ => ?_)
  rw [row_xh2, row_dyb]; rfl
theorem new1 : k0_pay26 (dyb x0 x2 x3 x4 x5 x6 x7 x8) (View.ld acc (Rect.unit ![1, 0] ![1, 1024] inb_S8x1024_S1x1024_1_0)) (ix2 0 c) =
    acc (ix2 1 c) + ∑ r : Fin 256, share1 x0 x2 x3 x4 x5 x6 x7 x8 c 1 r := by
  rw [pay26_apply, old1]
  refine congrArg _ (Finset.sum_congr rfl fun r _ => ?_)
  rw [row_dyb]; rfl
theorem new2 : k0_pay2 (k0_pay5 x0) (dhb x0 x2 x3 x4 x5 x6 x7 x8) (View.ld acc (Rect.unit ![2, 0] ![1, 1024] inb_S8x1024_S1x1024_2_0)) (ix2 0 c) =
    acc (ix2 2 c) + ∑ r : Fin 256, share1 x0 x2 x3 x4 x5 x6 x7 x8 c 2 r := by
  rw [pay2_apply, old2]
  refine congrArg _ (Finset.sum_congr rfl fun r _ => ?_)
  rw [row_dhb, row_x]; rfl
theorem new3 : k0_pay3 (dhb x0 x2 x3 x4 x5 x6 x7 x8) (View.ld acc (Rect.unit ![3, 0] ![1, 1024] inb_S8x1024_S1x1024_3_0)) (ix2 0 c) =
    acc (ix2 3 c) + ∑ r : Fin 256, share1 x0 x2 x3 x4 x5 x6 x7 x8 c 3 r := by
  rw [pay3_apply, old3]
  refine congrArg _ (Finset.sum_congr rfl fun r _ => ?_)
  rw [row_dhb]; rfl
theorem new4 : k0_pay22 (k0_pay6 x0 x3 x4) (s2 x0 x3 x4 x7 x8) (a3 x0 x3 x4 x7) (w3 x8) x5 x6 x2
      (View.ld acc (Rect.unit ![4, 0] ![1, 1024] inb_S8x1024_S1x1024_4_0)) (ix2 0 c) =
    acc (ix2 4 c) + ∑ r : Fin 256, share1 x0 x2 x3 x4 x5 x6 x7 x8 c 4 r := by
  rw [pay22_apply, old4]
  refine congrArg _ (Finset.sum_congr rfl fun r _ => ?_)
  rw [row_er]; rfl

theorem share1_low (k : Fin 8) (h : 4 < k.val) : ∑ r : Fin 256, share1 x0 x2 x3 x4 x5 x6 x7 x8 c k r = 0 := by
  refine Finset.sum_eq_zero fun r _ => ?_
  unfold share1 part
  have n : ∀ j : Fin 8, j.val ≤ 4 → k ≠ j := fun j hj e => by subst e; omega
  rw [if_neg (n 0 (by decide)), if_neg (n 1 (by decide)), if_neg (n 2 (by decide)), if_neg (n 3 (by decide)), if_neg (n 4 (by decide))]

theorem pay4_at (y : S8x1024.Idx) : (k0_pay4 (F := Ideal)) y = 0 := by
  obtain ⟨a, b, rfl⟩ : ∃ a b, y = ix2 a b := ⟨y 0, y 1, by idx_vars y⟩
  pointwise [k0_pay4]

/-- Over a block of zeros. -/
theorem sums_zero (k : Fin 8) : View.canon (sums x0 x2 x3 x4 x5 x6 x7 x8 (k0_pay4 (F := Ideal)) ++ [zeros]) (ix2 k c) =
    0 + ∑ r : Fin 256, share1 x0 x2 x3 x4 x5 x6 x7 x8 c k r := by
  unfold sums zeros
  have same : ∀ o : Fin 8, ∀ i : Fin 2, ((ix2 o c : S8x1024.Idx) i).val = (![o.val, 0] : Fin 2 → ℕ) i + ((ix2 (0 : Fin 1) c : S1x1024.Idx) i).val :=
    fun o => Fin.forall_fin_two.mpr ⟨rfl, (Nat.zero_add _).symm⟩
  by_cases c3 : k = 3
  · subst c3
    refine (canon_hit _ _ _ _ (ix2 (0 : Fin 1) c) (same 3)).trans ?_
    rw [new3, pay4_at]
  refine (canon_miss _ _ _ _ 0 (by show k.val < 3 ∨ 3 + 1 ≤ k.val; omega)).trans ?_
  by_cases c2 : k = 2
  · subst c2
    refine (canon_hit _ _ _ _ (ix2 (0 : Fin 1) c) (same 2)).trans ?_
    rw [new2, pay4_at]
  refine (canon_miss _ _ _ _ 0 (by show k.val < 2 ∨ 2 + 1 ≤ k.val; omega)).trans ?_
  by_cases c1 : k = 1
  · subst c1
    refine (canon_hit _ _ _ _ (ix2 (0 : Fin 1) c) (same 1)).trans ?_
    rw [new1, pay4_at]
  refine (canon_miss _ _ _ _ 0 (by show k.val < 1 ∨ 1 + 1 ≤ k.val; omega)).trans ?_
  by_cases c0 : k = 0
  · subst c0
    refine (canon_hit _ _ _ _ (ix2 (0 : Fin 1) c) (same 0)).trans ?_
    rw [new0, pay4_at]
  refine (canon_miss _ _ _ _ 0 (by show k.val < 0 ∨ 0 + 1 ≤ k.val; omega)).trans ?_
  by_cases c4 : k = 4
  · subst c4
    refine (canon_hit _ _ _ _ (ix2 (0 : Fin 1) c) (same 4)).trans ?_
    rw [new4, pay4_at]
  refine (canon_miss _ _ _ _ 0 (by show k.val < 4 ∨ 4 + 1 ≤ k.val; omega)).trans ?_
  refine (canon_hit _ _ _ _ (ix2 k c) (Fin.forall_fin_two.mpr ⟨(Nat.zero_add _).symm, (Nat.zero_add _).symm⟩)).trans ?_
  rw [pay4_at, share1_low _ _ _ _ _ _ _ _ _ k (by omega), add_zero]

/-- Five rows written over a block, at an index. -/
theorem five_over {sg : RefSig} {κ : Kind} {sp : Space} (v : View sg κ sp S8x1024 .f32) (f : v.ty.Contents (Elt Ideal)) (hf : v.read (Elt Ideal) f = acc)
    (p0 p1 p2 p3 p4 : FVec Ideal S1x1024 .f32) (S : Fin 8 → EReal)
    (e0 : p0 (ix2 0 c) = acc (ix2 0 c) + S 0) (e1 : p1 (ix2 0 c) = acc (ix2 1 c) + S 1) (e2 : p2 (ix2 0 c) = acc (ix2 2 c) + S 2)
    (e3 : p3 (ix2 0 c) = acc (ix2 3 c) + S 3) (e4 : p4 (ix2 0 c) = acc (ix2 4 c) + S 4) (low : ∀ k : Fin 8, 4 < k.val → S k = 0) (k : Fin 8) :
    v.read (Elt Ideal) (v.writes (Elt Ideal) f
      [⟨Rect.unit ![3, 0] ![1, 1024] inb_S8x1024_S1x1024_3_0, p3⟩, ⟨Rect.unit ![2, 0] ![1, 1024] inb_S8x1024_S1x1024_2_0, p2⟩,
        ⟨Rect.unit ![1, 0] ![1, 1024] inb_S8x1024_S1x1024_1_0, p1⟩, ⟨Rect.unit ![0, 0] ![1, 1024] inb_S8x1024_S1x1024_0_0, p0⟩,
        ⟨Rect.unit ![4, 0] ![1, 1024] inb_S8x1024_S1x1024_4_0, p4⟩]) (ix2 k c) = acc (ix2 k c) + S k := by
  have same : ∀ o : Fin 8, ∀ i : Fin 2, ((ix2 o c : S8x1024.Idx) i).val = (![o.val, 0] : Fin 2 → ℕ) i + ((ix2 (0 : Fin 1) c : S1x1024.Idx) i).val :=
    fun o => Fin.forall_fin_two.mpr ⟨rfl, (Nat.zero_add _).symm⟩
  by_cases c3 : k = 3
  · subst c3
    exact (View.read_writes_cons_unit_of_mem (off' := ![3, 0]) v f _ _ _ _ (ix2 (0 : Fin 1) c) rfl (same 3)).trans e3
  refine (View.read_writes_cons_unit_of_not_mem (off' := ![3, 0]) v f _ _ _ _ rfl (0 : Fin 2) (by show k.val < 3 ∨ 3 + 1 ≤ k.val; omega)).trans ?_
  by_cases c2 : k = 2
  · subst c2
    exact (View.read_writes_cons_unit_of_mem (off' := ![2, 0]) v f _ _ _ _ (ix2 (0 : Fin 1) c) rfl (same 2)).trans e2
  refine (View.read_writes_cons_unit_of_not_mem (off' := ![2, 0]) v f _ _ _ _ rfl (0 : Fin 2) (by show k.val < 2 ∨ 2 + 1 ≤ k.val; omega)).trans ?_
  by_cases c1 : k = 1
  · subst c1
    exact (View.read_writes_cons_unit_of_mem (off' := ![1, 0]) v f _ _ _ _ (ix2 (0 : Fin 1) c) rfl (same 1)).trans e1
  refine (View.read_writes_cons_unit_of_not_mem (off' := ![1, 0]) v f _ _ _ _ rfl (0 : Fin 2) (by show k.val < 1 ∨ 1 + 1 ≤ k.val; omega)).trans ?_
  by_cases c0 : k = 0
  · subst c0
    exact (View.read_writes_cons_unit_of_mem (off' := ![0, 0]) v f _ _ _ _ (ix2 (0 : Fin 1) c) rfl (same 0)).trans e0
  refine (View.read_writes_cons_unit_of_not_mem (off' := ![0, 0]) v f _ _ _ _ rfl (0 : Fin 2) (by show k.val < 0 ∨ 0 + 1 ≤ k.val; omega)).trans ?_
  by_cases c4 : k = 4
  · subst c4
    exact (View.read_writes_cons_unit_of_mem (off' := ![4, 0]) v f _ _ _ _ (ix2 (0 : Fin 1) c) rfl (same 4)).trans e4
  refine (View.read_writes_cons_unit_of_not_mem (off' := ![4, 0]) v f _ _ _ _ rfl (0 : Fin 2) (by show k.val < 4 ∨ 4 + 1 ≤ k.val; omega)).trans ?_
  rw [low k (by omega), add_zero]
  exact congrFun hf _

/-- Over what the point before left. -/
theorem sums_over (t : Fin cfg0.N) (k : Fin 8) : (ms0_14 t).view.read (Elt Ideal) ((ms0_14 t).view.writes (Elt Ideal) ((hs0_14 t).unread acc)
    (sums x0 x2 x3 x4 x5 x6 x7 x8 acc)) (ix2 k c) = acc (ix2 k c) + ∑ r : Fin 256, share1 x0 x2 x3 x4 x5 x6 x7 x8 c k r :=
  five_over acc c (ms0_14 t).view _ ((hs0_14 t).read_unread acc) _ _ _ _ _ (fun k => ∑ r : Fin 256, share1 x0 x2 x3 x4 x5 x6 x7 x8 c k r)
    (new0 ..) (new1 ..) (new2 ..) (new3 ..) (new4 ..) (share1_low _ _ _ _ _ _ _ _ c) k

end Sums

end Cert.MlpLossIdeal.Point
end
-- ==== Proof.MlpHost.lean ====
module

public import proofs.«01_k».proof.Proof.MlpSums

@[expose] public section

set_option maxRecDepth 16384

noncomputable section

namespace Cert.MlpLossIdeal.Arrays

open Cert.MlpLossIdeal Cert.MlpLossIdeal.Gen Cert.MlpLossIdeal.Point Idealize.ShloMosaic Idealize.ShloMosaic.TcCoe Idealize.SL.Sem Cert.MemSpec Cert.MlpSpec

variable (m : (ℓ : Loc nD τ sig) → Buf (Elt Ideal) ℓ) (c : Dev nD)

/-- The launch's arrays. -/
abbrev P : S8192x1024.Idx → EReal := m ((c : Thread nD τ).loc main_arg0)
abbrev T : S8192x1024.Idx → EReal := m ((c : Thread nD τ).loc main_arg1)
abbrev G1 : S1x1024.Idx → EReal := m ((c : Thread nD τ).loc main_arg2)
abbrev B1 : S1x1024.Idx → EReal := m ((c : Thread nD τ).loc main_arg3)
abbrev G2 : S1x1024.Idx → EReal := m ((c : Thread nD τ).loc main_arg4)
abbrev B2 : S1x1024.Idx → EReal := m ((c : Thread nD τ).loc main_arg5)
abbrev UP : S1024x4096.Idx → EReal := m ((c : Thread nD τ).loc main_arg6)
abbrev DN : S4096x1024.Idx → EReal := m ((c : Thread nD τ).loc main_arg7)

theorem host_rstd (r : Fin 8192) : V m c main_v13 (ix2 r 0) = rstd (row (P m c) r) := by
  unfold V
  after_results
  unfold rstd spread mean cent mean row
  pointwise [width_f32, eps_f32]

theorem host_xhat (r : Fin 8192) (k : Fin 1024) : V m c main_v18 (ix2 r k) = xhat (row (P m c) r) k := by
  unfold V
  after_results
  unfold xhat rstd spread mean cent mean row
  pointwise [width_f32, eps_f32]

theorem host_up (p : Fin 4) (i f : Fin 1024) : V m c main_v15 (ix3 p i f) = UP m c (ix2 i ⟨p.val * 1024 + f.val, by omega⟩) := by
  unfold V
  after_results
  pointwise []

theorem host_down (p : Fin 4) (f i : Fin 1024) : V m c main_v16 (ix3 p f i) = DN m c (ix2 ⟨p.val * 1024 + f.val, by omega⟩ i) := by
  unfold V
  after_results
  pointwise []

end Cert.MlpLossIdeal.Arrays
end
-- ==== Proof.MlpArrays.lean ====
module

public import proofs.«01_k».proof.Proof.MlpHost

@[expose] public section

set_option maxRecDepth 16384

noncomputable section

namespace Cert.MlpLossIdeal.Arrays

open Cert.MlpLossIdeal Cert.MlpLossIdeal.Gen Cert.MlpLossIdeal.Point Idealize.ShloMosaic Idealize.ShloMosaic.TcCoe Idealize.SL.Sem Cert.MemSpec Cert.MlpSpec

variable (m : (ℓ : Loc nD τ sig) → Buf (Elt Ideal) ℓ) (c : Dev nD)

theorem N32 : cfg0.N = 32 := N_0

/-- Row `r` of block `t` as a row of the array. -/
def lane (t : Fin cfg0.N) (r : Fin 256) : Fin 8192 := ⟨t.val * 256 + r.val, by have h := lt_of_lt_of_eq t.isLt N32; omega⟩

/-- Where the windows' blocks lie. -/
theorem placesIn : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧ (win0_4.index t 0 = 0 ∧ win0_4.index t 1 = 0) ∧
    (win0_5.index t 0 = 0 ∧ win0_5.index t 1 = 0) ∧ (win0_6.index t 0 = 0 ∧ win0_6.index t 1 = 0) := by decide +kernel
theorem placesW : ∀ t : Fin cfg0.N, (win0_7.index t 0 = 0 ∧ win0_7.index t 1 = 0 ∧ win0_7.index t 2 = 0) ∧
    (win0_8.index t 0 = 0 ∧ win0_8.index t 1 = 0 ∧ win0_8.index t 2 = 0) := by decide +kernel
theorem placesOut : ∀ t : Fin cfg0.N, (win0_9.index t 0 = t.val ∧ win0_9.index t 1 = 0) ∧ (win0_10.index t 0 = t.val ∧ win0_10.index t 1 = 0) ∧
    (win0_11.index t 0 = t.val ∧ win0_11.index t 1 = 0) ∧ (win0_12.index t 0 = t.val ∧ win0_12.index t 1 = 0) ∧
    (win0_13.index t 0 = t.val ∧ win0_13.index t 1 = 0) := by decide +kernel

/-- The weights' panels. -/
def upP : Fin 4 → W := fun p i f => UP m c (ix2 i ⟨p.val * 1024 + f.val, by omega⟩)
def dnP : Fin 4 → W := fun p f i => DN m c (ix2 ⟨p.val * 1024 + f.val, by omega⟩ i)

theorem row0 (t : Fin cfg0.N) (r : Fin 256) : row (iblk m c 0 t) r = xhat (row (P m c) (lane t r)) := by
  have e := placesIn t
  funext d
  refine Eq.trans ?_ (host_xhat m c (lane t r) d)
  unfold row iblk
  generalize V m c = w
  unfold lane; blk_ext [e.1.1, e.1.2]
theorem col1 (t : Fin cfg0.N) (r : Fin 256) : col (iblk m c 1 t) r = rstd (row (P m c) (lane t r)) := by
  have e := placesIn t
  refine Eq.trans ?_ (host_rstd m c (lane t r))
  unfold col iblk
  generalize V m c = w
  unfold lane; blk_ext [e.2.1.1, e.2.1.2]
theorem row2 (t : Fin cfg0.N) (r : Fin 256) : row (iblk m c 2 t) r = row (T m c) (lane t r) := by
  have e := placesIn t
  funext d
  refine Eq.trans ?_ (congrFun (V_main_arg1 m c) (ix2 (lane t r) d))
  unfold row iblk
  generalize V m c = w
  unfold lane; blk_ext [e.2.2.1.1, e.2.2.1.2]
theorem row3 (t : Fin cfg0.N) : row (iblk m c 3 t) (0 : Fin 1) = row (G1 m c) (0 : Fin 1) := by
  have e := placesIn t
  funext d
  refine Eq.trans ?_ (congrFun (V_main_arg2 m c) (ix2 0 d))
  unfold row iblk
  generalize V m c = w
  blk_ext [e.2.2.2.1.1, e.2.2.2.1.2]
theorem row4 (t : Fin cfg0.N) : row (iblk m c 4 t) (0 : Fin 1) = row (B1 m c) (0 : Fin 1) := by
  have e := placesIn t
  funext d
  refine Eq.trans ?_ (congrFun (V_main_arg3 m c) (ix2 0 d))
  unfold row iblk
  generalize V m c = w
  blk_ext [e.2.2.2.2.1.1, e.2.2.2.2.1.2]
theorem row5 (t : Fin cfg0.N) : row (iblk m c 5 t) (0 : Fin 1) = row (G2 m c) (0 : Fin 1) := by
  have e := placesIn t
  funext d
  refine Eq.trans ?_ (congrFun (V_main_arg4 m c) (ix2 0 d))
  unfold row iblk
  generalize V m c = w
  blk_ext [e.2.2.2.2.2.1.1, e.2.2.2.2.2.1.2]
theorem row6 (t : Fin cfg0.N) : row (iblk m c 6 t) (0 : Fin 1) = row (B2 m c) (0 : Fin 1) := by
  have e := placesIn t
  funext d
  refine Eq.trans ?_ (congrFun (V_main_arg5 m c) (ix2 0 d))
  unfold row iblk
  generalize V m c = w
  blk_ext [e.2.2.2.2.2.2.1, e.2.2.2.2.2.2.2]
theorem panel7 (t : Fin cfg0.N) : panel (iblk m c 7 t) = upP m c := by
  have e := placesW t
  funext p i f
  refine Eq.trans ?_ (host_up m c p i f)
  unfold panel iblk
  generalize V m c = w
  blk_ext [e.1.1, e.1.2.1, e.1.2.2]
theorem panel8 (t : Fin cfg0.N) : panel (iblk m c 8 t) = dnP m c := by
  have e := placesW t
  funext p i f
  refine Eq.trans ?_ (host_down m c p i f)
  unfold panel iblk
  generalize V m c = w
  blk_ext [e.2.1, e.2.2.1, e.2.2.2]

/-- The row functions at row `i` of the launch's arrays. -/
abbrev xr (i : Fin 8192) : R := xhat (row (P m c) i)
abbrev rr (i : Fin 8192) : EReal := rstd (row (P m c) i)
abbrev tr (i : Fin 8192) : R := row (T m c) i
abbrev g1 : R := row (G1 m c) (0 : Fin 1)
abbrev b1 : R := row (B1 m c) (0 : Fin 1)
abbrev g2 : R := row (G2 m c) (0 : Fin 1)
abbrev b2 : R := row (B2 m c) (0 : Fin 1)

/-- The gradient of the first norm's input. -/
theorem dx_final : (dats m 0 c).arrAt 9 cfg0.N = fun i : S8192x1024.Idx =>
    dpre1 (xr m c (i 0)) (rr m c (i 0)) (tr m c (i 0)) (g1 m c) (b1 m c) (g2 m c) (b2 m c) (upP m c) (dnP m c) (i 1) := by
  refine (dats m 0 c).arrAt_eq_of_covers 9 _ (by decide +kernel) fun t hf y => ?_
  blk_simp
  rw [after0_9, dx_at]
  have e := placesOut t
  idx_vars y
  refine (congrFun (row_dxb (iblk m c 0 t) (iblk m c 1 t) (iblk m c 2 t) (iblk m c 3 t) (iblk m c 4 t) (iblk m c 5 t) (iblk m c 6 t) (iblk m c 7 t) (iblk m c 8 t) y0) y1).trans ?_
  rw [row0, col1, row2, row3, row4, row5, row6, panel7, panel8]
  have a : ((View.whole main_v19_0).slice (win0_9.rect t)).emb (ix2 y0 y1) = ix2 (lane t y0) y1 := by
    unfold lane; blk_ext [e.1.1, e.1.2]
  rw [a]
  rfl

/-- The gradient of the second norm's input. -/
theorem q2_final : (dats m 0 c).arrAt 10 cfg0.N = fun i : S8192x1024.Idx =>
    dpre2 (xr m c (i 0)) (tr m c (i 0)) (g1 m c) (b1 m c) (g2 m c) (b2 m c) (upP m c) (dnP m c) (i 1) := by
  refine (dats m 0 c).arrAt_eq_of_covers 10 _ (by decide +kernel) fun t hf y => ?_
  blk_simp
  rw [after0_10, q2_at]
  have e := placesOut t
  idx_vars y
  refine (congrFun (row_q2 (iblk m c 0 t) (iblk m c 2 t) (iblk m c 3 t) (iblk m c 4 t) (iblk m c 5 t) (iblk m c 6 t) (iblk m c 7 t) (iblk m c 8 t) y0) y1).trans ?_
  rw [row0, row2, row3, row4, row5, row6, panel7, panel8]
  have a : ((View.whole main_v19_1).slice (win0_10.rect t)).emb (ix2 y0 y1) = ix2 (lane t y0) y1 := by
    unfold lane; blk_ext [e.2.1.1, e.2.1.2]
  rw [a]
  rfl

/-- The first norm's output. -/
theorem h_final : (dats m 0 c).arrAt 11 cfg0.N = fun i : S8192x1024.Idx => h1 (xr m c (i 0)) (g1 m c) (b1 m c) (i 1) := by
  refine (dats m 0 c).arrAt_eq_of_covers 11 _ (by decide +kernel) fun t hf y => ?_
  blk_simp
  rw [after0_11, h_at]
  have e := placesOut t
  idx_vars y
  refine (congrFun (row_hb (iblk m c 0 t) (iblk m c 3 t) (iblk m c 4 t) y0) y1).trans ?_
  rw [row0, row3, row4]
  have a : ((View.whole main_v19_2).slice (win0_11.rect t)).emb (ix2 y0 y1) = ix2 (lane t y0) y1 := by
    unfold lane; blk_ext [e.2.2.1.1, e.2.2.1.2]
  rw [a]
  rfl

/-- The activation and the hidden gradient, with their four panels side by side. -/
def actAt (i : Fin 8192) (k : Fin 4096) : EReal :=
  a (xr m c i) (g1 m c) (b1 m c) (upP m c) ⟨k.val / 1024, by omega⟩ ⟨k.val % 1024, by omega⟩
def duAt (i : Fin 8192) (k : Fin 4096) : EReal :=
  dur (xr m c i) (tr m c i) (g1 m c) (b1 m c) (g2 m c) (b2 m c) (upP m c) (dnP m c) ⟨k.val / 1024, by omega⟩ ⟨k.val % 1024, by omega⟩

/-- The activation. -/
theorem a_final : (dats m 0 c).arrAt 12 cfg0.N = fun i : S8192x4096.Idx =>
    actAt m c (i 0) (i 1) := by
  refine (dats m 0 c).arrAt_eq_of_covers 12 _ (by decide +kernel) fun t hf y => ?_
  blk_simp
  rw [after0_12, a_at]
  have e := placesOut t
  idx_vars y
  refine (slices_at _ _ _ _ (a (xr m c (lane t y0)) (g1 m c) (b1 m c) (upP m c)) y0 y1 ?_ ?_ ?_ ?_).trans ?_
  · rw [row_a0, row0, row3, row4, panel7]
  · rw [row_a1, row0, row3, row4, panel7]
  · rw [row_a2, row0, row3, row4, panel7]
  · rw [row_a3, row0, row3, row4, panel7]
  have a : ((View.whole main_v19_3).slice (win0_12.rect t)).emb (ix2 y0 y1) = ix2 (lane t y0) y1 := by
    unfold lane; blk_ext [e.2.2.2.1.1, e.2.2.2.1.2]
  rw [a]
  rfl

/-- The hidden gradient. -/
theorem du_final : (dats m 0 c).arrAt 13 cfg0.N = fun i : S8192x4096.Idx =>
    duAt m c (i 0) (i 1) := by
  refine (dats m 0 c).arrAt_eq_of_covers 13 _ (by decide +kernel) fun t hf y => ?_
  blk_simp
  rw [after0_13, du_at]
  have e := placesOut t
  idx_vars y
  refine (slices_at _ _ _ _ (dur (xr m c (lane t y0)) (tr m c (lane t y0)) (g1 m c) (b1 m c) (g2 m c) (b2 m c) (upP m c) (dnP m c)) y0 y1 ?_ ?_ ?_ ?_).trans ?_
  · rw [row_t0, row0, row2, row3, row4, row5, row6, panel7, panel8]
  · rw [row_t1, row0, row2, row3, row4, row5, row6, panel7, panel8]
  · rw [row_t2, row0, row2, row3, row4, row5, row6, panel7, panel8]
  · rw [row_t3, row0, row2, row3, row4, row5, row6, panel7, panel8]
  have a : ((View.whole main_v19_4).slice (win0_13.rect t)).emb (ix2 y0 y1) = ix2 (lane t y0) y1 := by
    unfold lane; blk_ext [e.2.2.2.2.1, e.2.2.2.2.2]
  rw [a]
  rfl

/-- The last grid point. -/
def tEnd : Fin cfg0.N := ⟨31, by rw [N32]; decide⟩

/-- Row `i`'s part of the sums. -/
def partAt (i : Fin 8192) (k : Fin 8) (d : Fin 1024) : EReal :=
  part (xr m c i) (tr m c i) (g1 m c) (b1 m c) (g2 m c) (b2 m c) (upP m c) (dnP m c) k d

theorem share1_at (t : Fin cfg0.N) (d : Fin 1024) (k : Fin 8) :
    (∑ r : Fin 256, share1 (iblk m c 0 t) (iblk m c 2 t) (iblk m c 3 t) (iblk m c 4 t) (iblk m c 5 t) (iblk m c 6 t) (iblk m c 7 t) (iblk m c 8 t) d k r) =
      ∑ r : Fin 256, partAt m c (lane t r) k d := by
  refine Finset.sum_congr rfl fun r _ => ?_
  unfold share1 partAt
  rw [row0, row2, row3, row4, row5, row6, panel7, panel8]

theorem sums_last (k : Fin 8) (d : Fin 1024) : (outsAt0 m c tEnd.val tEnd.isLt).2.2.2.2.2 (ix2 k d) = ∑ i : Fin 8192, partAt m c i k d := by
  have h := Pipeline.eq_sum_fin_of_reset_step_apply_last (fun n h => (outsAt0 m c n h).2.2.2.2.2) 32 (fun _ => 0)
    (fun t j => ∑ r : Fin 256, partAt m c (lane t r) (j 0) (j 1))
    (fun t h j => by
      idx_vars j
      show (outsAt0 m c t.val t.isLt).2.2.2.2.2 _ = _
      rw [sums_first m c t h, sums_zero, share1_at])
    (fun t h j => by
      idx_vars j
      show (outsAt0 m c t.val t.isLt).2.2.2.2.2 _ = _
      rw [sums_next m c t h, sums_over, share1_at])
    (le_of_eq N32) tEnd (by decide) (ix2 k d)
  rw [zero_add] at h
  refine Eq.trans h ?_
  exact Fin.sum_mul_add_congr (fun t r hl => rfl) (by rw [N32])

/-- The rows of sums. -/
theorem sums_final : (dats m 0 c).arrAt 14 cfg0.N = fun i : S8x1024.Idx => ∑ r : Fin 8192, partAt m c r (i 0) (i 1) := by
  refine (dats m 0 c).arrAt_eq_of_after_last 14 tEnd (by decide +kernel) _ fun j => ?_
  blk_simp
  rw [after0_14]
  idx_vars j
  rw [sums_last]

end Cert.MlpLossIdeal.Arrays
end
-- ==== Proof.MlpAlgebra.lean ====
module

public import proofs.«01_k».proof.Proof.MlpSpec
public import proofs.«01_k».proof.Proof.MemAlgebra

@[expose] public section

set_option maxRecDepth 16384

noncomputable section

namespace Cert.MlpSpec

open Idealize.ShloMosaic Cert.MemSpec

/-! ## Entries that are reals -/

def IsReal (x : EReal) : Prop := ∃ y : ℝ, x = (y : EReal)

theorem IsReal.of_ne {x : EReal} (h : x ≠ ⊤ ∧ x ≠ ⊥) : IsReal x := ⟨x.toReal, (EReal.coe_toReal h.1 h.2).symm⟩
theorem IsReal.add {x y : EReal} (hx : IsReal x) (hy : IsReal y) : IsReal (x + y) := by
  obtain ⟨u, rfl⟩ := hx; obtain ⟨v, rfl⟩ := hy; exact ⟨u + v, (EReal.coe_add u v).symm⟩
theorem IsReal.sub {x y : EReal} (hx : IsReal x) (hy : IsReal y) : IsReal (x - y) := by
  obtain ⟨u, rfl⟩ := hx; obtain ⟨v, rfl⟩ := hy; exact ⟨u - v, (EReal.coe_sub u v).symm⟩
theorem IsReal.mul {x y : EReal} (hx : IsReal x) (hy : IsReal y) : IsReal (x * y) := by
  obtain ⟨u, rfl⟩ := hx; obtain ⟨v, rfl⟩ := hy; exact ⟨u * v, (EReal.coe_mul u v).symm⟩
theorem IsReal.relu {x : EReal} (hx : IsReal x) : IsReal (max x 0) := by
  rcases max_choice x 0 with h | h <;> rw [h]
  · exact hx
  · exact ⟨0, rfl⟩
theorem IsReal.sum {n : ℕ} {f : Fin n → EReal} (h : ∀ i, IsReal (f i)) : IsReal (∑ i, f i) := by
  choose g hg using h
  exact ⟨∑ i, g i, by rw [← coe_sum]; exact Finset.sum_congr rfl fun i _ => hg i⟩

/-! ## The layer norm over the reals -/

theorem mean_coe (f : Fin 1024 → ℝ) : mean (fun c => (f c : EReal)) = (((∑ c, f c) * (1 / 1024) : ℝ) : EReal) := by
  unfold mean width
  rw [coe_sum, Ideal.div_coe (by norm_num), ← EReal.coe_mul]

theorem rsqrt_pos {s : ℝ} (hs : 0 < s) : Ideal.rsqrt (s : EReal) = (((√s)⁻¹ : ℝ) : EReal) := by
  show (if s < 0 then ⊥ else if s = 0 then ⊤ else (((√s)⁻¹ : ℝ) : EReal)) = _
  rw [if_neg (not_lt.mpr hs.le), if_neg hs.ne']

/-- A real row's centred entries sum to zero, and its variance with the small constant is a positive real. -/
theorem norm_coe (x : R) (hx : ∀ c, IsReal (x c)) : ∃ (ξ : Fin 1024 → ℝ) (s : ℝ), (∑ c, ξ c) = 0 ∧ 0 < s ∧
    cent x = (fun c => (ξ c : EReal)) ∧ spread x = (s : EReal) ∧ rstd x = (((√s)⁻¹ : ℝ) : EReal) := by
  choose u hu using hx
  obtain rfl : x = fun c => (u c : EReal) := funext hu
  have hc : cent (fun c => (u c : EReal)) = fun c => ((u c - (∑ c, u c) * (1 / 1024) : ℝ) : EReal) := by
    funext c
    unfold cent
    rw [mean_coe, EReal.coe_sub]
  have hs : spread (fun c => (u c : EReal)) =
      (((∑ c, (u c - (∑ c, u c) * (1 / 1024)) * (u c - (∑ c, u c) * (1 / 1024))) * (1 / 1024) + 10995116 / 1099511627776 : ℝ) : EReal) := by
    unfold spread eps
    rw [hc]
    simp only [← EReal.coe_mul]
    rw [mean_coe, EReal.coe_add]
  have hp : 0 < (∑ c, (u c - (∑ c, u c) * (1 / 1024)) * (u c - (∑ c, u c) * (1 / 1024))) * (1 / 1024) + (10995116 / 1099511627776 : ℝ) := by
    have : 0 ≤ ∑ c, (u c - (∑ c, u c) * (1 / 1024)) * (u c - (∑ c, u c) * (1 / 1024)) := Finset.sum_nonneg fun c _ => mul_self_nonneg _
    positivity
  refine ⟨_, _, ?_, hp, hc, hs, ?_⟩
  · rw [Finset.sum_sub_distrib, Finset.sum_const, Finset.card_univ, Fintype.card_fin, nsmul_eq_mul]
    push_cast; ring
  · unfold rstd
    rw [hs, rsqrt_pos hp]

/-- The derivative of the norm as the chain rule writes it, from the centred row, the inverse deviation and the variance. -/
def chain (xc : R) (r s : EReal) (d : R) : R := fun c =>
  (d c * r + xc c * Ideal.div ((∑ j, xc j * d j) * (((-1 / 2 : ℝ) : EReal) * Ideal.div r s)) width +
      Ideal.div ((∑ j, xc j * d j) * (((-1 / 2 : ℝ) : EReal) * Ideal.div r s)) width * xc c) +
    Ideal.div (∑ c, -(d c * r + xc c * Ideal.div ((∑ j, xc j * d j) * (((-1 / 2 : ℝ) : EReal) * Ideal.div r s)) width +
      Ideal.div ((∑ j, xc j * d j) * (((-1 / 2 : ℝ) : EReal) * Ideal.div r s)) width * xc c)) width

/-- On a real row and a real gradient the chain rule's form is the one with two means taken off. -/
theorem chain_eq (x d : R) (hx : ∀ c, IsReal (x c)) (hd : ∀ c, IsReal (d c)) : chain (cent x) (rstd x) (spread x) d = back (xhat x) (rstd x) d := by
  obtain ⟨ξ, s, h0, hs, hc, hv, hr⟩ := norm_coe x hx
  choose δ hδ using hd
  obtain rfl : d = fun c => (δ c : EReal) := funext hδ
  unfold chain back xhat
  rw [hc, hv, hr]
  funext c
  have hq : (√s)⁻¹ * (√s)⁻¹ = 1 / s := by
    rw [← mul_inv, Real.mul_self_sqrt hs.le, one_div]
  generalize (√s)⁻¹ = ρ at hq
  unfold width
  simp only [Ideal.div_coe hs.ne', Ideal.div_coe (show (1024 : ℝ) ≠ 0 by norm_num), ← EReal.coe_mul, ← EReal.coe_add, ← EReal.coe_neg, coe_sum, mean_coe, ← EReal.coe_sub]
  congr 1
  rw [← hq]
  have e1 : (∑ j, δ j * (ξ j * ρ)) = ρ * ∑ j, ξ j * δ j := by
    rw [Finset.mul_sum]; exact Finset.sum_congr rfl fun j _ => by ring
  rw [e1]
  generalize (∑ j, ξ j * δ j) = A
  have e2 : (∑ j, -(δ j * ρ + ξ j * (A * (-1 / 2 * (ρ * (ρ * ρ))) * (1 / 1024)) + A * (-1 / 2 * (ρ * (ρ * ρ))) * (1 / 1024) * ξ j)) = -(ρ * ∑ j, δ j) := by
    have : ∀ j, -(δ j * ρ + ξ j * (A * (-1 / 2 * (ρ * (ρ * ρ))) * (1 / 1024)) + A * (-1 / 2 * (ρ * (ρ * ρ))) * (1 / 1024) * ξ j) =
        -ρ * δ j + (A * (ρ * (ρ * ρ)) * (1 / 1024)) * ξ j := fun j => by ring
    rw [Finset.sum_congr rfl fun j _ => this j, Finset.sum_add_distrib, ← Finset.mul_sum, ← Finset.mul_sum, h0]
    ring
  rw [e2]
  ring

theorem mean_real {x : R} (hx : ∀ c, IsReal (x c)) : IsReal (mean x) := by
  choose u hu using hx
  obtain rfl : x = fun c => (u c : EReal) := funext hu
  exact ⟨_, mean_coe u⟩
theorem rstd_real {x : R} (hx : ∀ c, IsReal (x c)) : IsReal (rstd x) := by
  obtain ⟨ξ, s, -, -, -, -, hr⟩ := norm_coe x hx
  exact ⟨_, hr⟩
theorem xhat_real {x : R} (hx : ∀ c, IsReal (x c)) (c : Fin 1024) : IsReal (xhat x c) := by
  exact ((hx c).sub (mean_real hx)).mul (rstd_real hx)
theorem back_real {xh d : R} {r : EReal} (hx : ∀ c, IsReal (xh c)) (hr : IsReal r) (hd : ∀ c, IsReal (d c)) (c : Fin 1024) : IsReal (back xh r d c) :=
  hr.mul (((hd c).sub (mean_real hd)).sub ((hx c).mul (mean_real fun j => (hd j).mul (hx j))))

/-! ## The row's values are reals where its inputs are -/

section Row

variable {xh t g1 b1 g2 b2 : R} {U D : Fin 4 → W}
  (hx : ∀ c, IsReal (xh c)) (ht : ∀ c, IsReal (t c)) (hg1 : ∀ c, IsReal (g1 c)) (hb1 : ∀ c, IsReal (b1 c))
  (hg2 : ∀ c, IsReal (g2 c)) (hb2 : ∀ c, IsReal (b2 c)) (hU : ∀ p i f, IsReal (U p i f)) (hD : ∀ p i f, IsReal (D p i f))

include hx hg1 hb1 in
theorem h1_real (c : Fin 1024) : IsReal (h1 xh g1 b1 c) := ((hx c).mul (hg1 c)).add (hb1 c)
include hx hg1 hb1 hU in
theorem z_real (p : Fin 4) (f : Fin 1024) : IsReal (z xh g1 b1 U p f) := IsReal.sum fun c => (h1_real hx hg1 hb1 c).mul (hU p c f)
include hx hg1 hb1 hU in
theorem a_real (p : Fin 4) (f : Fin 1024) : IsReal (a xh g1 b1 U p f) := (z_real hx hg1 hb1 hU p f).relu.mul (z_real hx hg1 hb1 hU p f).relu
include hx hg1 hb1 hU hD in
theorem pre2_real (c : Fin 1024) : IsReal (pre2 xh g1 b1 U D c) := by
  have hd : ∀ p, IsReal (down (a xh g1 b1 U p) (D p) c) := fun p => IsReal.sum fun f => (a_real hx hg1 hb1 hU p f).mul (hD p f c)
  exact (IsReal.mul ⟨_, rfl⟩ (h1_real hx hg1 hb1 c)).add ((((hd 0).add (hd 1)).add (hd 2)).add (hd 3))
include hx ht hg1 hb1 hg2 hb2 hU hD in
theorem dyr_real (c : Fin 1024) : IsReal (dyr xh t g1 b1 g2 b2 U D c) :=
  ((((xhat_real (pre2_real hx hg1 hb1 hU hD) c).mul (hg2 c)).add (hb2 c)).sub (ht c)).mul ⟨_, rfl⟩
include hx ht hg1 hb1 hg2 hb2 hU hD in
theorem gain2_real (c : Fin 1024) : IsReal (gain (dyr xh t g1 b1 g2 b2 U D) g2 c) :=
  (dyr_real hx ht hg1 hb1 hg2 hb2 hU hD c).mul (hg2 c)
include hx ht hg1 hb1 hg2 hb2 hU hD in
theorem dpre2_real (c : Fin 1024) : IsReal (dpre2 xh t g1 b1 g2 b2 U D c) :=
  back_real (xhat_real (pre2_real hx hg1 hb1 hU hD)) (rstd_real (pre2_real hx hg1 hb1 hU hD)) (gain2_real hx ht hg1 hb1 hg2 hb2 hU hD) c
include hx ht hg1 hb1 hg2 hb2 hU hD in
theorem dur_real (p : Fin 4) (f : Fin 1024) : IsReal (dur xh t g1 b1 g2 b2 U D p f) :=
  (IsReal.sum fun c => (dpre2_real hx ht hg1 hb1 hg2 hb2 hU hD c).mul (hD p f c)).mul (IsReal.mul ⟨_, rfl⟩ (z_real hx hg1 hb1 hU p f).relu)
include hx ht hg1 hb1 hg2 hb2 hU hD in
theorem gain1_real (c : Fin 1024) : IsReal (gain (dh1 xh t g1 b1 g2 b2 U D) g1 c) := by
  have hu : ∀ p, IsReal (up (dur xh t g1 b1 g2 b2 U D p) (U p) c) := fun p => IsReal.sum fun f => (dur_real hx ht hg1 hb1 hg2 hb2 hU hD p f).mul (hU p c f)
  exact ((((IsReal.mul ⟨_, rfl⟩ (dpre2_real hx ht hg1 hb1 hg2 hb2 hU hD c)).add (hu 0)).add (hu 1)).add (hu 2)).add (hu 3) |>.mul (hg1 c)

end Row

/-! ## Four panels side by side -/

/-- A sum over the 4096 columns is the four panels' sums. -/
theorem sum4 (F : Fin 4 → Fin 1024 → EReal) :
    (∑ k : Fin 4096, F ⟨k.val / 1024, by omega⟩ ⟨k.val % 1024, by omega⟩) = (∑ f, F 0 f) + (∑ f, F 1 f) + (∑ f, F 2 f) + (∑ f, F 3 f) := by
  rw [← Fin.sum_univ_four (fun p => ∑ f, F p f)]
  refine (Fin.sum_mul_add_congr (fun p f hl => ?_) (by decide)).symm
  have h1 : (⟨(p.val * 1024 + f.val) / 1024, by omega⟩ : Fin 4) = p := Fin.ext (by simp only; omega)
  have h2 : (⟨(p.val * 1024 + f.val) % 1024, by omega⟩ : Fin 1024) = f := Fin.ext (by simp only; omega)
  rw [h1, h2]

end Cert.MlpSpec
end
-- ==== Proof.MlpRefPoint.lean ====
module

public import proofs.«01_k».proof.Proof.Gen.MlpReferenceIdeal.Run
public import proofs.«01_k».proof.Proof.Gen.MlpReferenceIdeal.Read
public import proofs.«01_k».proof.Proof.MlpAlgebra

@[expose] public section

set_option maxRecDepth 16384

noncomputable section

namespace Cert.MlpReferenceIdeal.Point

open Cert.MlpReferenceIdeal Cert.MlpReferenceIdeal.Gen Cert.MlpReferenceIdeal.Read Idealize.ShloMosaic Idealize.ShloMosaic.TcCoe Idealize.SL.Sem Cert.MemSpec Cert.MlpSpec

variable (P T : FVec Ideal S8192x1024 .f32) (G1 B1 G2 B2 : FVec Ideal S1x1024 .f32) (UP : FVec Ideal S1024x4096 .bf16) (DN : FVec Ideal S4096x1024 .bf16)

/-- The weights' panels, the rows. -/
abbrev U : Fin 4 → W := fun p i f => UP (ix2 i ⟨p.val * 1024 + f.val, by omega⟩)
abbrev D : Fin 4 → W := fun p f i => DN (ix2 ⟨p.val * 1024 + f.val, by omega⟩ i)
abbrev one (x : FVec Ideal S1x1024 .f32) : R := row x (0 : Fin 1)
abbrev xr (i : Fin 8192) : R := xhat (row P i)

/-! ## The first norm -/

theorem v5_at (i : Fin 8192) : val_main_v5 (F := Ideal) P (ix2 i (0 : Fin 1)) = mean (row P i) := by
  unfold mean row
  unfold val_main_v5 val_main_v4 val_main_v3 val_main_v2 val_main_cst_1 val_main_cst_2
  pointwise [width_f32]

theorem v7_at (i : Fin 8192) (k : Fin 1024) : val_main_v7 (F := Ideal) P (ix2 i k) = cent (row P i) k := by
  unfold cent
  rw [← v5_at]
  unfold val_main_v7 val_main_v6 row
  generalize val_main_v5 (F := Ideal) P = a
  pointwise []

theorem v14_at (i : Fin 8192) : val_main_v14 (F := Ideal) P (ix2 i (0 : Fin 1)) = spread (row P i) := by
  unfold spread mean
  simp only [← v7_at]
  unfold val_main_v14 val_main_v13 val_main_v12 val_main_v11 val_main_v10 val_main_v9 val_main_v8 val_main_cst_3 val_main_cst_4 val_main_cst_5
  generalize val_main_v7 (F := Ideal) P = a
  pointwise [width_f32, eps_f32]

theorem v15_at (i : Fin 8192) : val_main_v15 (F := Ideal) P (ix2 i (0 : Fin 1)) = rstd (row P i) := by
  unfold rstd
  rw [← v14_at]
  unfold val_main_v15
  generalize val_main_v14 (F := Ideal) P = a
  pointwise []

theorem v20_at (i : Fin 8192) (k : Fin 1024) : val_main_v20 (F := Ideal) P (ix2 i k) = xr P i k := by
  unfold xr xhat
  rw [← v15_at, ← v7_at]
  unfold val_main_v20 val_main_v19
  generalize val_main_v15 (F := Ideal) P = a
  generalize val_main_v7 (F := Ideal) P = b
  pointwise []

theorem v24_at (i : Fin 8192) (k : Fin 1024) : val_main_v24 (F := Ideal) P G1 B1 (ix2 i k) = h1 (xr P i) (one G1) (one B1) k := by
  unfold h1 affine
  rw [← v20_at]
  unfold val_main_v24 val_main_v23 val_main_v22 val_main_v21 one row
  generalize val_main_v20 (F := Ideal) P = a
  pointwise []

/-! ## The hidden layer -/

abbrev zk (i : Fin 8192) (k : Fin 4096) : EReal := z (xr P i) (one G1) (one B1) (U UP) ⟨k.val / 1024, by omega⟩ ⟨k.val % 1024, by omega⟩

theorem zero_f32 : Ideal.ofBits .f32 0x00000000#32 = 0 := by
  simp [Ideal.ofBits, Ideal.ieee]

theorem v26_at (i : Fin 8192) (k : Fin 4096) : val_main_v26 (F := Ideal) P G1 B1 UP (ix2 i k) = zk P G1 B1 UP i k := by
  have e : zk P G1 B1 UP i k = ∑ c, h1 (xr P i) (one G1) (one B1) c * UP (ix2 c k) := by
    unfold zk z hid U
    refine Finset.sum_congr rfl fun c _ => congrArg (fun y => _ * UP (ix2 c y)) (Fin.ext ?_)
    show k.val / 1024 * 1024 + k.val % 1024 = k.val
    omega
  rw [e]
  simp only [← v24_at]
  unfold val_main_v26 val_main_v25
  generalize val_main_v24 (F := Ideal) P G1 B1 = a
  pointwise []

theorem v27_at (i : Fin 8192) (k : Fin 4096) : val_main_v27 (F := Ideal) P G1 B1 UP (ix2 i k) = zk P G1 B1 UP i k := by
  rw [val_main_v27_apply, val_main_v0_apply, val_main_cst_apply, v26_at]
  show _ + Ideal.ofBits .f32 0x00000000#32 = _
  rw [zero_f32, add_zero]

theorem v28_at (i : Fin 8192) (k : Fin 4096) : val_main_v28 (F := Ideal) P G1 B1 UP (ix2 i k) = max (zk P G1 B1 UP i k) 0 := by
  rw [val_main_v28_apply, val_main_call0_v0_apply, val_main_call0_cst_apply, v27_at]
  show max _ (Ideal.ofBits .f32 0x00000000#32) = _
  rw [zero_f32]

theorem v32_at (i : Fin 8192) (k : Fin 4096) : val_main_v32 (F := Ideal) P G1 B1 UP (ix2 i k) =
    a (xr P i) (one G1) (one B1) (U UP) ⟨k.val / 1024, by omega⟩ ⟨k.val % 1024, by omega⟩ := by
  rw [val_main_v32_apply, v28_at]
  rfl

theorem v36_at (i : Fin 8192) (c : Fin 1024) : val_main_v36 (F := Ideal) P G1 B1 UP DN (ix2 i c) =
    down (a (xr P i) (one G1) (one B1) (U UP) 0) (D DN 0) c + down (a (xr P i) (one G1) (one B1) (U UP) 1) (D DN 1) c +
      down (a (xr P i) (one G1) (one B1) (U UP) 2) (D DN 2) c + down (a (xr P i) (one G1) (one B1) (U UP) 3) (D DN 3) c := by
  have e : val_main_v36 (F := Ideal) P G1 B1 UP DN (ix2 i c) = ∑ k : Fin 4096, val_main_v32 (F := Ideal) P G1 B1 UP (ix2 i k) * DN (ix2 k c) := by
    unfold val_main_v36 val_main_v35
    generalize val_main_v32 (F := Ideal) P G1 B1 UP = a
    pointwise []
  rw [e]
  refine Eq.trans ?_ (sum4 fun p f => a (xr P i) (one G1) (one B1) (U UP) p f * D DN p f c)
  refine Finset.sum_congr rfl fun k _ => ?_
  rw [v32_at]
  refine congrArg (fun y => _ * DN (ix2 y c)) (Fin.ext ?_)
  show k.val = k.val / 1024 * 1024 + k.val % 1024
  omega

/-- The second norm's input. -/
abbrev pr (i : Fin 8192) : R := pre2 (xr P i) (one G1) (one B1) (U UP) (D DN)

theorem v40_at (i : Fin 8192) (c : Fin 1024) : val_main_v40 (F := Ideal) P G1 B1 UP DN (ix2 i c) = pr P G1 B1 UP DN i c := by
  rw [val_main_v40_apply, val_main_v39_apply, val_main_v38_apply, val_main_v37_apply, val_main_cst_10_apply, val_main_v1_apply, val_main_cst_0_apply, v36_at, v24_at]
  show Ideal.ofBits .f32 0x3F9837F0#32 * _ + _ + Ideal.ofBits .f32 0x00000000#32 = _
  rw [alpha_f32, zero_f32, add_zero]
  rfl

/-! ## The second norm -/

theorem v44_at (i : Fin 8192) : val_main_v44 (F := Ideal) P G1 B1 UP DN (ix2 i (0 : Fin 1)) = mean (pr P G1 B1 UP DN i) := by
  have e : pr P G1 B1 UP DN i = fun c => val_main_v40 (F := Ideal) P G1 B1 UP DN (ix2 i c) := funext fun c => (v40_at P G1 B1 UP DN i c).symm
  rw [e]
  unfold mean
  unfold val_main_v44 val_main_v43 val_main_v42 val_main_v41 val_main_cst_11 val_main_cst_12
  generalize val_main_v40 (F := Ideal) P G1 B1 UP DN = a
  pointwise [width_f32]

theorem v46_at (i : Fin 8192) (k : Fin 1024) : val_main_v46 (F := Ideal) P G1 B1 UP DN (ix2 i k) = cent (pr P G1 B1 UP DN i) k := by
  unfold cent
  rw [← v44_at, ← v40_at]
  unfold val_main_v46 val_main_v45
  generalize val_main_v44 (F := Ideal) P G1 B1 UP DN = a
  generalize val_main_v40 (F := Ideal) P G1 B1 UP DN = b
  pointwise []

theorem v53_at (i : Fin 8192) : val_main_v53 (F := Ideal) P G1 B1 UP DN (ix2 i (0 : Fin 1)) = spread (pr P G1 B1 UP DN i) := by
  unfold spread mean
  simp only [← v46_at]
  unfold val_main_v53 val_main_v52 val_main_v51 val_main_v50 val_main_v49 val_main_v48 val_main_v47 val_main_cst_13 val_main_cst_14 val_main_cst_15
  generalize val_main_v46 (F := Ideal) P G1 B1 UP DN = a
  pointwise [width_f32, eps_f32]

theorem v54_at (i : Fin 8192) : val_main_v54 (F := Ideal) P G1 B1 UP DN (ix2 i (0 : Fin 1)) = rstd (pr P G1 B1 UP DN i) := by
  unfold rstd
  rw [← v53_at]
  unfold val_main_v54
  generalize val_main_v53 (F := Ideal) P G1 B1 UP DN = a
  pointwise []

theorem v59_at (i : Fin 8192) (k : Fin 1024) : val_main_v59 (F := Ideal) P G1 B1 UP DN (ix2 i k) = xhat (pr P G1 B1 UP DN i) k := by
  unfold xhat
  rw [← v54_at, ← v46_at]
  unfold val_main_v59 val_main_v58
  generalize val_main_v54 (F := Ideal) P G1 B1 UP DN = a
  generalize val_main_v46 (F := Ideal) P G1 B1 UP DN = b
  pointwise []

abbrev ek (i : Fin 8192) : R := er (xr P i) (row T i) (one G1) (one B1) (one G2) (one B2) (U UP) (D DN)
abbrev dk (i : Fin 8192) : R := dyr (xr P i) (row T i) (one G1) (one B1) (one G2) (one B2) (U UP) (D DN)

theorem v64_at (i : Fin 8192) (k : Fin 1024) : val_main_v64 (F := Ideal) P T G1 B1 G2 B2 UP DN (ix2 i k) = ek P T G1 B1 G2 B2 UP DN i k := by
  unfold ek er err affine
  rw [← v59_at]
  unfold val_main_v64 val_main_v63 val_main_v62 val_main_v61 val_main_v60 one row
  generalize val_main_v59 (F := Ideal) P G1 B1 UP DN = a
  pointwise []

theorem v78_at (i : Fin 8192) (k : Fin 1024) : val_main_v78 (F := Ideal) P T G1 B1 G2 B2 UP DN (ix2 i k) = dk P T G1 B1 G2 B2 UP DN i k := by
  have e : dk P T G1 B1 G2 B2 UP DN i k = ek P T G1 B1 G2 B2 UP DN i k * share := rfl
  rw [e, ← v64_at]
  rw [val_main_v78_apply, val_main_v77_apply, val_main_v76_apply, val_main_v75_apply, val_main_v74_apply, val_main_v73_apply, val_main_v67_apply, val_main_v66_apply,
    val_main_cst_17_apply, val_main_cst_22_apply, val_main_cst_23_apply, val_main_cst_24_apply]
  generalize val_main_v64 (F := Ideal) P T G1 B1 G2 B2 UP DN (ix2 i k) = y
  show Ideal.div (Ideal.ofBits .f32 0x3F000000#32 * Ideal.ofBits .f32 0x3F800000#32) (Ideal.ofBits .f32 0x44800000#32) * (Ideal.ofBits .f32 0x40000000#32 * y) = _
  have h2 : Ideal.ofBits .f32 0x3F000000#32 = ((1 / 2 : ℝ) : EReal) := by simp [Ideal.ofBits, Ideal.ieee, -EReal.coe_mul]; norm_num
  have h1 : Ideal.ofBits .f32 0x3F800000#32 = ((1 : ℝ) : EReal) := by simp [Ideal.ofBits, Ideal.ieee, -EReal.coe_mul]; norm_num
  rw [h1, h2, width_f32, two_f32]
  unfold width two share
  rw [← EReal.coe_mul, Ideal.div_coe (by norm_num), ← EReal.coe_mul, ← mul_assoc, ← EReal.coe_mul, mul_comm]
  norm_num

end Cert.MlpReferenceIdeal.Point
end
-- ==== Proof.MlpRefBack.lean ====
module

public import proofs.«01_k».proof.Proof.MlpRefPoint

@[expose] public section

set_option maxRecDepth 16384

noncomputable section

namespace Cert.MlpReferenceIdeal.Point

open Cert.MlpReferenceIdeal Cert.MlpReferenceIdeal.Gen Cert.MlpReferenceIdeal.Read Idealize.ShloMosaic Idealize.ShloMosaic.TcCoe Idealize.SL.Sem Cert.MemSpec Cert.MlpSpec

variable (P T : FVec Ideal S8192x1024 .f32) (G1 B1 G2 B2 : FVec Ideal S1x1024 .f32) (UP : FVec Ideal S1024x4096 .bf16) (DN : FVec Ideal S4096x1024 .bf16)

theorem mhalf_f32 : Ideal.ofBits .f32 0xBF000000#32 = ((-1 / 2 : ℝ) : EReal) := by
  simp [Ideal.ofBits, Ideal.ieee, -EReal.coe_mul, -EReal.coe_neg]; norm_num

/-- The gradient of the second norm's normalised value. -/
abbrev gk (i : Fin 8192) : R := gain (dk P T G1 B1 G2 B2 UP DN i) (one G2)

theorem v85_at (i : Fin 8192) (k : Fin 1024) : val_main_v85 (F := Ideal) P T G1 B1 G2 B2 UP DN (ix2 i k) = gk P T G1 B1 G2 B2 UP DN i k := by
  unfold gk gain
  rw [← v78_at]
  unfold val_main_v85 val_main_v84 one row
  generalize val_main_v78 (F := Ideal) P T G1 B1 G2 B2 UP DN = a
  pointwise []

theorem v107_chain (i : Fin 8192) (k : Fin 1024) : val_main_v107 (F := Ideal) P T G1 B1 G2 B2 UP DN (ix2 i k) =
    chain (cent (pr P G1 B1 UP DN i)) (rstd (pr P G1 B1 UP DN i)) (spread (pr P G1 B1 UP DN i)) (gk P T G1 B1 G2 B2 UP DN i) k := by
  unfold chain
  rw [← v54_at, ← v53_at]
  simp only [← v46_at, ← v85_at]
  unfold val_main_v107 val_main_v106 val_main_v105 val_main_v104 val_main_v103 val_main_v102 val_main_v101 val_main_v100 val_main_v99 val_main_v98 val_main_v97 val_main_v96
    val_main_v95 val_main_v94 val_main_v93 val_main_v92 val_main_v91 val_main_v90 val_main_v89 val_main_v88 val_main_v87 val_main_v86 val_main_v57 val_main_v56 val_main_v55
    val_main_cst_16 val_main_cst_27 val_main_cst_28 val_main_cst_29 val_main_cst_30 val_main_cst_31 val_main_cst_32
  generalize val_main_v54 (F := Ideal) P G1 B1 UP DN = a
  generalize val_main_v53 (F := Ideal) P G1 B1 UP DN = b
  generalize val_main_v46 (F := Ideal) P G1 B1 UP DN = c
  generalize val_main_v85 (F := Ideal) P T G1 B1 G2 B2 UP DN = d
  pointwise [width_f32, mhalf_f32]
  simp only [Fin.sum_univ_one]

/-! ## Every entry of the arguments a real -/

variable (hP : ∀ i, P i ≠ ⊤ ∧ P i ≠ ⊥) (hT : ∀ i, T i ≠ ⊤ ∧ T i ≠ ⊥) (hG1 : ∀ i, G1 i ≠ ⊤ ∧ G1 i ≠ ⊥) (hB1 : ∀ i, B1 i ≠ ⊤ ∧ B1 i ≠ ⊥)
  (hG2 : ∀ i, G2 i ≠ ⊤ ∧ G2 i ≠ ⊥) (hB2 : ∀ i, B2 i ≠ ⊤ ∧ B2 i ≠ ⊥) (hUP : ∀ i, UP i ≠ ⊤ ∧ UP i ≠ ⊥) (hDN : ∀ i, DN i ≠ ⊤ ∧ DN i ≠ ⊥)

include hP in
theorem xr_real (i : Fin 8192) (c : Fin 1024) : IsReal (xr P i c) := xhat_real (fun c => .of_ne (hP (ix2 i c))) c

abbrev qk (i : Fin 8192) : R := dpre2 (xr P i) (row T i) (one G1) (one B1) (one G2) (one B2) (U UP) (D DN)

include hP hT hG1 hB1 hG2 hB2 hUP hDN in
theorem v107_at (i : Fin 8192) (k : Fin 1024) : val_main_v107 (F := Ideal) P T G1 B1 G2 B2 UP DN (ix2 i k) = qk P T G1 B1 G2 B2 UP DN i k := by
  rw [v107_chain, chain_eq]
  · rfl
  · exact pre2_real (xr_real P hP i) (fun c => .of_ne (hG1 _)) (fun c => .of_ne (hB1 _)) (fun p i f => .of_ne (hUP _)) (fun p i f => .of_ne (hDN _))
  · exact gain2_real (xr_real P hP i) (fun c => .of_ne (hT _)) (fun c => .of_ne (hG1 _)) (fun c => .of_ne (hB1 _)) (fun c => .of_ne (hG2 _)) (fun c => .of_ne (hB2 _))
      (fun p i f => .of_ne (hUP _)) (fun p i f => .of_ne (hDN _))

/-- The hidden gradient's entry, of the four panels side by side. -/
abbrev uk (i : Fin 8192) (k : Fin 4096) : EReal :=
  dur (xr P i) (row T i) (one G1) (one B1) (one G2) (one B2) (U UP) (D DN) ⟨k.val / 1024, by omega⟩ ⟨k.val % 1024, by omega⟩

theorem pick (x w : EReal) : (if Ideal.cmp .ogt x 0 = 1#1 then w * (two * max x 0) else 0) = w * (two * max x 0) := by
  by_cases h : x > 0
  · have : Ideal.cmp .ogt x 0 = 1#1 := by show BitVec.ofBool (decide (x > 0)) = 1#1; simp [h]
    rw [if_pos this]
  · rw [max_eq_right (not_lt.mp h), mul_zero, mul_zero, ite_self]

include hP hT hG1 hB1 hG2 hB2 hUP hDN in
theorem v113_at (i : Fin 8192) (k : Fin 4096) : val_main_v113 (F := Ideal) P T G1 B1 G2 B2 UP DN (ix2 i k) = uk P T G1 B1 G2 B2 UP DN i k := by
  have e : val_main_v110 (F := Ideal) P T G1 B1 G2 B2 UP DN (ix2 i k) = ∑ c : Fin 1024, qk P T G1 B1 G2 B2 UP DN i c * DN (ix2 k c) := by
    simp only [← v107_at P T G1 B1 G2 B2 UP DN hP hT hG1 hB1 hG2 hB2 hUP hDN]
    unfold val_main_v110 val_main_v35
    generalize val_main_v107 (F := Ideal) P T G1 B1 G2 B2 UP DN = a
    pointwise []
  rw [val_main_v113_apply, val_main_v112_apply, val_main_v111_apply, val_main_v30_apply, val_main_v29_apply, val_main_v34_apply, val_main_v33_apply,
    val_main_cst_34_apply, val_main_cst_7_apply, val_main_cst_9_apply, e, v28_at, v27_at]
  show (if Ideal.cmp .ogt _ (Ideal.ofBits .f32 0x00000000#32) = 1#1 then _ * (Ideal.ofBits .f32 0x40000000#32 * _) else Ideal.ofBits .f32 0x00000000#32) = _
  rw [zero_f32, two_f32, pick]
  show _ = (∑ c, qk P T G1 B1 G2 B2 UP DN i c * DN (ix2 _ c)) * (two * max (zk P G1 B1 UP i k) 0)
  congr 1
  refine Finset.sum_congr rfl fun c _ => congrArg (fun y => _ * DN (ix2 y c)) (Fin.ext ?_)
  show k.val = k.val / 1024 * 1024 + k.val % 1024
  omega

abbrev hk (i : Fin 8192) : R := dh1 (xr P i) (row T i) (one G1) (one B1) (one G2) (one B2) (U UP) (D DN)

include hP hT hG1 hB1 hG2 hB2 hUP hDN in
theorem v115_at (i : Fin 8192) (c : Fin 1024) : val_main_v115 (F := Ideal) P T G1 B1 G2 B2 UP DN (ix2 i c) = hk P T G1 B1 G2 B2 UP DN i c := by
  have e : val_main_v114 (F := Ideal) P T G1 B1 G2 B2 UP DN (ix2 i c) = ∑ k : Fin 4096, uk P T G1 B1 G2 B2 UP DN i k * UP (ix2 c k) := by
    simp only [← v113_at P T G1 B1 G2 B2 UP DN hP hT hG1 hB1 hG2 hB2 hUP hDN]
    unfold val_main_v114 val_main_v25
    generalize val_main_v113 (F := Ideal) P T G1 B1 G2 B2 UP DN = a
    pointwise []
  have e' : (∑ k : Fin 4096, uk P T G1 B1 G2 B2 UP DN i k * UP (ix2 c k)) = _ :=
    Eq.trans (Finset.sum_congr rfl fun k _ => congrArg (fun y => uk P T G1 B1 G2 B2 UP DN i k * UP (ix2 c y)) (Fin.ext (by
      show k.val = k.val / 1024 * 1024 + k.val % 1024
      omega))) (sum4 fun p f => dur (xr P i) (row T i) (one G1) (one B1) (one G2) (one B2) (U UP) (D DN) p f * U UP p c f)
  rw [val_main_v115_apply, val_main_v109_apply, val_main_v108_apply, val_main_cst_33_apply, e, e', v107_at P T G1 B1 G2 B2 UP DN hP hT hG1 hB1 hG2 hB2 hUP hDN]
  show Ideal.ofBits .f32 0x3F9837F0#32 * _ + _ = _
  rw [alpha_f32, ← add_assoc, ← add_assoc, ← add_assoc]
  rfl

abbrev fk (i : Fin 8192) : R := gain (hk P T G1 B1 G2 B2 UP DN i) (one G1)

include hP hT hG1 hB1 hG2 hB2 hUP hDN in
theorem v122_at (i : Fin 8192) (k : Fin 1024) : val_main_v122 (F := Ideal) P T G1 B1 G2 B2 UP DN (ix2 i k) = fk P T G1 B1 G2 B2 UP DN i k := by
  unfold fk gain
  rw [← v115_at P T G1 B1 G2 B2 UP DN hP hT hG1 hB1 hG2 hB2 hUP hDN]
  unfold val_main_v122 val_main_v121 one row
  generalize val_main_v115 (F := Ideal) P T G1 B1 G2 B2 UP DN = a
  pointwise []

include hP hT hG1 hB1 hG2 hB2 hUP hDN in
theorem v144_chain (i : Fin 8192) (k : Fin 1024) : val_main_v144 (F := Ideal) P T G1 B1 G2 B2 UP DN (ix2 i k) =
    chain (cent (row P i)) (rstd (row P i)) (spread (row P i)) (fk P T G1 B1 G2 B2 UP DN i) k := by
  unfold chain
  rw [← v15_at, ← v14_at]
  simp only [← v7_at, ← v122_at P T G1 B1 G2 B2 UP DN hP hT hG1 hB1 hG2 hB2 hUP hDN]
  unfold val_main_v144 val_main_v143 val_main_v142 val_main_v141 val_main_v140 val_main_v139 val_main_v138 val_main_v137 val_main_v136 val_main_v135 val_main_v134 val_main_v133
    val_main_v132 val_main_v131 val_main_v130 val_main_v129 val_main_v128 val_main_v127 val_main_v126 val_main_v125 val_main_v124 val_main_v123 val_main_v18 val_main_v17 val_main_v16
    val_main_cst_6 val_main_cst_37 val_main_cst_38 val_main_cst_39 val_main_cst_40 val_main_cst_41 val_main_cst_42
  generalize val_main_v15 (F := Ideal) P = a
  generalize val_main_v14 (F := Ideal) P = b
  generalize val_main_v7 (F := Ideal) P = c
  generalize val_main_v122 (F := Ideal) P T G1 B1 G2 B2 UP DN = d
  pointwise [width_f32, mhalf_f32]
  simp only [Fin.sum_univ_one]

include hP hT hG1 hB1 hG2 hB2 hUP hDN in
theorem v144_at (i : Fin 8192) (k : Fin 1024) : val_main_v144 (F := Ideal) P T G1 B1 G2 B2 UP DN (ix2 i k) =
    dpre1 (xr P i) (rstd (row P i)) (row T i) (one G1) (one B1) (one G2) (one B2) (U UP) (D DN) k := by
  rw [v144_chain P T G1 B1 G2 B2 UP DN hP hT hG1 hB1 hG2 hB2 hUP hDN, chain_eq]
  · rfl
  · exact fun c => .of_ne (hP (ix2 i c))
  · exact gain1_real (xr_real P hP i) (fun c => .of_ne (hT _)) (fun c => .of_ne (hG1 _)) (fun c => .of_ne (hB1 _)) (fun c => .of_ne (hG2 _)) (fun c => .of_ne (hB2 _))
      (fun p i f => .of_ne (hUP _)) (fun p i f => .of_ne (hDN _))

end Cert.MlpReferenceIdeal.Point
end
-- ==== Proof.MlpRefSums.lean ====
module

public import proofs.«01_k».proof.Proof.MlpRefBack

@[expose] public section

set_option maxRecDepth 16384

noncomputable section

namespace Cert.MlpReferenceIdeal.Point

open Cert.MlpReferenceIdeal Cert.MlpReferenceIdeal.Gen Cert.MlpReferenceIdeal.Read Idealize.ShloMosaic Idealize.ShloMosaic.TcCoe Idealize.SL.Sem Cert.MemSpec Cert.MlpSpec

variable (P T : FVec Ideal S8192x1024 .f32) (G1 B1 G2 B2 : FVec Ideal S1x1024 .f32) (UP : FVec Ideal S1024x4096 .bf16) (DN : FVec Ideal S4096x1024 .bf16)

/-! ## The columns' sums -/

theorem v83_at (k : Fin 1024) : val_main_v83 (F := Ideal) P T G1 B1 G2 B2 UP DN (ix2 (0 : Fin 1) k) =
    ∑ i : Fin 8192, dk P T G1 B1 G2 B2 UP DN i k * xhat (pr P G1 B1 UP DN i) k := by
  simp only [← v78_at, ← v59_at]
  unfold val_main_v83 val_main_v82 val_main_v81 val_main_cst_26
  generalize val_main_v78 (F := Ideal) P T G1 B1 G2 B2 UP DN = a
  generalize val_main_v59 (F := Ideal) P G1 B1 UP DN = b
  pointwise []
  exact Finset.sum_congr rfl fun i _ => mul_comm _ _

theorem v80_at (k : Fin 1024) : val_main_v80 (F := Ideal) P T G1 B1 G2 B2 UP DN (ix2 (0 : Fin 1) k) = ∑ i : Fin 8192, dk P T G1 B1 G2 B2 UP DN i k := by
  simp only [← v78_at]
  unfold val_main_v80 val_main_v79 val_main_cst_25
  generalize val_main_v78 (F := Ideal) P T G1 B1 G2 B2 UP DN = a
  pointwise []

theorem v146_at (k : Fin 1024) : val_main_v146 (F := Ideal) P T G1 B1 G2 B2 UP DN (ix2 (0 : Fin 1) k) =
    ∑ i : Fin 8192, ek P T G1 B1 G2 B2 UP DN i k * ek P T G1 B1 G2 B2 UP DN i k := by
  simp only [← v64_at]
  unfold val_main_v146 val_main_v145 val_main_cst_43 val_main_v65
  generalize val_main_v64 (F := Ideal) P T G1 B1 G2 B2 UP DN = a
  pointwise []

theorem v147_at (j : Fin 3) (k : Fin 1024) : val_main_v147 (F := Ideal) (ix2 j k) = 0 := by
  unfold val_main_v147 val_main_cst_44
  pointwise []

variable (hP : ∀ i, P i ≠ ⊤ ∧ P i ≠ ⊥) (hT : ∀ i, T i ≠ ⊤ ∧ T i ≠ ⊥) (hG1 : ∀ i, G1 i ≠ ⊤ ∧ G1 i ≠ ⊥) (hB1 : ∀ i, B1 i ≠ ⊤ ∧ B1 i ≠ ⊥)
  (hG2 : ∀ i, G2 i ≠ ⊤ ∧ G2 i ≠ ⊥) (hB2 : ∀ i, B2 i ≠ ⊤ ∧ B2 i ≠ ⊥) (hUP : ∀ i, UP i ≠ ⊤ ∧ UP i ≠ ⊥) (hDN : ∀ i, DN i ≠ ⊤ ∧ DN i ≠ ⊥)
include hP hT hG1 hB1 hG2 hB2 hUP hDN

theorem v120_at (k : Fin 1024) : val_main_v120 (F := Ideal) P T G1 B1 G2 B2 UP DN (ix2 (0 : Fin 1) k) =
    ∑ i : Fin 8192, hk P T G1 B1 G2 B2 UP DN i k * xr P i k := by
  simp only [← v115_at P T G1 B1 G2 B2 UP DN hP hT hG1 hB1 hG2 hB2 hUP hDN, ← v20_at]
  unfold val_main_v120 val_main_v119 val_main_v118 val_main_cst_36
  generalize val_main_v115 (F := Ideal) P T G1 B1 G2 B2 UP DN = a
  generalize val_main_v20 (F := Ideal) P = b
  pointwise []
  exact Finset.sum_congr rfl fun i _ => mul_comm _ _

theorem v117_at (k : Fin 1024) : val_main_v117 (F := Ideal) P T G1 B1 G2 B2 UP DN (ix2 (0 : Fin 1) k) = ∑ i : Fin 8192, hk P T G1 B1 G2 B2 UP DN i k := by
  simp only [← v115_at P T G1 B1 G2 B2 UP DN hP hT hG1 hB1 hG2 hB2 hUP hDN]
  unfold val_main_v117 val_main_v116 val_main_cst_35
  generalize val_main_v115 (F := Ideal) P T G1 B1 G2 B2 UP DN = a
  pointwise []

/-- The rows of sums, laid under each other. -/
theorem v148_at (j : Fin 8) (k : Fin 1024) : val_main_v148 (F := Ideal) P T G1 B1 G2 B2 UP DN (ix2 j k) =
    ∑ i : Fin 8192, part (xr P i) (row T i) (one G1) (one B1) (one G2) (one B2) (U UP) (D DN) j k := by
  have e83 := v83_at P T G1 B1 G2 B2 UP DN k
  have e80 := v80_at P T G1 B1 G2 B2 UP DN k
  have e120 := v120_at P T G1 B1 G2 B2 UP DN hP hT hG1 hB1 hG2 hB2 hUP hDN k
  have e117 := v117_at P T G1 B1 G2 B2 UP DN hP hT hG1 hB1 hG2 hB2 hUP hDN k
  have e146 := v146_at P T G1 B1 G2 B2 UP DN k
  have e147 := fun j => v147_at j k
  unfold val_main_v148
  generalize val_main_v83 (F := Ideal) P T G1 B1 G2 B2 UP DN = a at *
  generalize val_main_v80 (F := Ideal) P T G1 B1 G2 B2 UP DN = b at *
  generalize val_main_v120 (F := Ideal) P T G1 B1 G2 B2 UP DN = c at *
  generalize val_main_v117 (F := Ideal) P T G1 B1 G2 B2 UP DN = d at *
  generalize val_main_v146 (F := Ideal) P T G1 B1 G2 B2 UP DN = e at *
  generalize val_main_v147 (F := Ideal) = f at *
  match j with
  | 0 => refine Eq.trans ?_ e83; pointwise []
  | 1 => refine Eq.trans ?_ e80; pointwise []
  | 2 => refine Eq.trans ?_ e120; pointwise []
  | 3 => refine Eq.trans ?_ e117; pointwise []
  | 4 => refine Eq.trans ?_ e146; pointwise []
  | 5 => refine Eq.trans ?_ ((e147 0).trans (Finset.sum_const_zero (s := (Finset.univ : Finset (Fin 8192)))).symm); pointwise []
  | 6 => refine Eq.trans ?_ ((e147 1).trans (Finset.sum_const_zero (s := (Finset.univ : Finset (Fin 8192)))).symm); pointwise []
  | 7 => refine Eq.trans ?_ ((e147 2).trans (Finset.sum_const_zero (s := (Finset.univ : Finset (Fin 8192)))).symm); pointwise []

end Cert.MlpReferenceIdeal.Point
end
-- ==== Proof.MlpClaim.lean ====
module

public import proofs.«01_k».proof.Defs
public import proofs.«01_k».proof.Proof.Gen.MlpLoss
public import proofs.«01_k».proof.Proof.Gen.MlpLossIdeal
public import proofs.«01_k».proof.Proof.Gen.MlpReferenceIdeal
public import proofs.«01_k».proof.Proof.Gen.Pre_mlp_finite
public import proofs.«01_k».proof.Proof.MemMask
public import proofs.«01_k».proof.Proof.MlpArrays
public import proofs.«01_k».proof.Proof.MlpRefSums
public import proofs.«01_k».proof.Proof.Gen.MlpLoss.Frame
public import proofs.«01_k».proof.Proof.Gen.MlpLossIdeal.Frame
public import proofs.«01_k».proof.Proof.Gen.MlpLossIdeal.Value

@[expose] public section

set_option maxRecDepth 16384

noncomputable section

namespace Cert.MlpClaim

open Idealize.ShloMosaic Idealize.SL.Sem Cert.MemSpec Cert.MlpSpec

theorem frame_kernel : Cert.quiescent_MlpLoss := fun m ρ _ => Cert.MlpLoss.Gen.frame m ρ

theorem frame_ideal : Cert.quiescent_MlpLossIdeal := fun m ρ _ => Cert.MlpLossIdeal.Gen.frame m ρ

theorem frame_reference : Cert.quiescent_MlpReferenceIdeal := fun m ρ _ =>
  (θ_run Cert.MlpReferenceIdeal.defs _ _).mono
    (fun r h => ⟨fun c => (h c).2.2.2.2.2.2, sem_eq_zero_of_no_sems (by decide) r.2⟩)
    (Cert.MlpReferenceIdeal.Value.run (F := Ideal) m ρ)

instance : Subsingleton Cert.Pre_mlp_finite.S_.Idx := ⟨fun a b => funext fun k => k.elim0⟩

/-- Under the precondition no element of an argument is infinite. -/
theorem finite_of_pre (p t : FVec Ideal Cert.Pre_mlp_finite.S8192x1024 .f32) (g1 b1 g2 b2 : FVec Ideal Cert.Pre_mlp_finite.S1x1024 .f32)
    (u : FVec Ideal Cert.Pre_mlp_finite.S1024x4096 .bf16) (d : FVec Ideal Cert.Pre_mlp_finite.S4096x1024 .bf16)
    (h : Cert.Pre_mlp_finite.fn (F := Ideal) p t g1 b1 g2 b2 u d = fun _ => 1#1) :
    (∀ i, p i ≠ ⊤ ∧ p i ≠ ⊥) ∧ (∀ i, t i ≠ ⊤ ∧ t i ≠ ⊥) ∧ (∀ i, g1 i ≠ ⊤ ∧ g1 i ≠ ⊥) ∧ (∀ i, b1 i ≠ ⊤ ∧ b1 i ≠ ⊥) ∧
      (∀ i, g2 i ≠ ⊤ ∧ g2 i ≠ ⊥) ∧ (∀ i, b2 i ≠ ⊤ ∧ b2 i ≠ ⊥) ∧ (∀ i, u i ≠ ⊤ ∧ u i ≠ ⊥) ∧ (∀ i, d i ≠ ⊤ ∧ d i ≠ ⊥) := by
  have h0 := congrFun h (fun k => k.elim0)
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun i => Cert.MemMask.real_of_lt _ (Host.reduce_andi_all _ _ _ _ _ h1 i), fun i => Cert.MemMask.real_of_lt _ (Host.reduce_andi_all _ _ _ _ _ h2 i),
    fun i => Cert.MemMask.real_of_lt _ (Host.reduce_andi_all _ _ _ _ _ h3 i), fun i => Cert.MemMask.real_of_lt _ (Host.reduce_andi_all _ _ _ _ _ h4 i),
    fun i => Cert.MemMask.real_of_lt _ (Host.reduce_andi_all _ _ _ _ _ h5 i), fun i => Cert.MemMask.real_of_lt _ (Host.reduce_andi_all _ _ _ _ _ h6 i),
    fun i => Cert.MemMask.real_of_lt _ (Host.reduce_andi_all _ _ _ _ _ h7 i), fun i => Cert.MemMask.real_of_lt _ (Host.reduce_andi_all _ _ _ _ _ h8 i)⟩

section
open Cert.MlpLossIdeal.Arrays
variable (m : (ℓ : Loc Cert.MlpLossIdeal.nD Cert.MlpLossIdeal.τ Cert.MlpLossIdeal.sig) → Buf (Elt Ideal) ℓ) (c : Dev Cert.MlpLossIdeal.nD)

/-- The entries of the results. -/
def dxAt (i : Fin 8192) (k : Fin 1024) : EReal := dpre1 (xr m c i) (rr m c i) (tr m c i) (g1 m c) (b1 m c) (g2 m c) (b2 m c) (upP m c) (dnP m c) k
def q2At (i : Fin 8192) (k : Fin 1024) : EReal := dpre2 (xr m c i) (tr m c i) (g1 m c) (b1 m c) (g2 m c) (b2 m c) (upP m c) (dnP m c) k
def hAt (i : Fin 8192) (k : Fin 1024) : EReal := h1 (xr m c i) (g1 m c) (b1 m c) k
def sumAt (j : Fin 8) (k : Fin 1024) : EReal := ∑ i : Fin 8192, partAt m c i j k

end

/-- Kernel and reference compute the same gradients, activations and sums. -/
theorem value : Cert.algebraic_MlpLossIdeal_MlpReferenceIdeal_pre_mlp_finite := by
  intro m g m' g' hpre hargs
  have hfin := fun c => finite_of_pre _ _ _ _ _ _ _ _ (hpre c)
  refine ⟨fun c i => dxAt m c (i 0) (i 1), fun c i => q2At m c (i 0) (i 1), fun c i => hAt m c (i 0) (i 1),
    fun c i => Cert.MlpLossIdeal.Arrays.actAt m c (i 0) (i 1), fun c i => Cert.MlpLossIdeal.Arrays.duAt m c (i 0) (i 1), fun c i => sumAt m c (i 0) (i 1), ?_, ?_⟩
  · refine (θ_run Cert.MlpLossIdeal.defs _ _).mono (fun r h c => ?_) (Cert.MlpLossIdeal.Value.run_blocks (F := Ideal) m g)
    obtain ⟨h0, h1, h2, h3, h4, h5, k⟩ := h c
    exact ⟨h0.trans (Cert.MlpLossIdeal.Arrays.dx_final m c), h1.trans (Cert.MlpLossIdeal.Arrays.q2_final m c), h2.trans (Cert.MlpLossIdeal.Arrays.h_final m c),
      h3.trans (Cert.MlpLossIdeal.Arrays.a_final m c), h4.trans (Cert.MlpLossIdeal.Arrays.du_final m c), h5.trans (Cert.MlpLossIdeal.Arrays.sums_final m c), k⟩
  · refine (θ_run Cert.MlpReferenceIdeal.defs _ _).mono (fun r h c => ?_) (Cert.MlpReferenceIdeal.Value.run (F := Ideal) m' g')
    obtain ⟨h0, h1, h2, h3, h4, h5, k⟩ := h c
    obtain ⟨a0, a1, a2, a3, a4, a5, a6, a7⟩ := hargs c
    obtain ⟨f0, f1, f2, f3, f4, f5, f6, f7⟩ := hfin c
    replace h0 := h0.trans (Cert.MlpReferenceIdeal.Read.val_main_v144_eq (StableHlo.launchContents m' c))
    replace h1 := h1.trans (Cert.MlpReferenceIdeal.Read.val_main_v149_eq (StableHlo.launchContents m' c))
    replace h2 := h2.trans (Cert.MlpReferenceIdeal.Read.val_main_v150_eq (StableHlo.launchContents m' c))
    replace h3 := h3.trans (Cert.MlpReferenceIdeal.Read.val_main_v151_eq (StableHlo.launchContents m' c))
    replace h4 := h4.trans (Cert.MlpReferenceIdeal.Read.val_main_v152_eq (StableHlo.launchContents m' c))
    replace h5 := h5.trans (Cert.MlpReferenceIdeal.Read.val_main_v148_eq (StableHlo.launchContents m' c))
    replace a0 : StableHlo.launchContents m' c (Proc.devRef .tc Cert.MlpReferenceIdeal.main_arg0) = m ((c.tc : Thread Cert.MlpLossIdeal.nD Cert.MlpLossIdeal.τ).loc Cert.MlpLossIdeal.main_arg0) := a0
    replace a1 : StableHlo.launchContents m' c (Proc.devRef .tc Cert.MlpReferenceIdeal.main_arg1) = m ((c.tc : Thread Cert.MlpLossIdeal.nD Cert.MlpLossIdeal.τ).loc Cert.MlpLossIdeal.main_arg1) := a1
    replace a2 : StableHlo.launchContents m' c (Proc.devRef .tc Cert.MlpReferenceIdeal.main_arg2) = m ((c.tc : Thread Cert.MlpLossIdeal.nD Cert.MlpLossIdeal.τ).loc Cert.MlpLossIdeal.main_arg2) := a2
    replace a3 : StableHlo.launchContents m' c (Proc.devRef .tc Cert.MlpReferenceIdeal.main_arg3) = m ((c.tc : Thread Cert.MlpLossIdeal.nD Cert.MlpLossIdeal.τ).loc Cert.MlpLossIdeal.main_arg3) := a3
    replace a4 : StableHlo.launchContents m' c (Proc.devRef .tc Cert.MlpReferenceIdeal.main_arg4) = m ((c.tc : Thread Cert.MlpLossIdeal.nD Cert.MlpLossIdeal.τ).loc Cert.MlpLossIdeal.main_arg4) := a4
    replace a5 : StableHlo.launchContents m' c (Proc.devRef .tc Cert.MlpReferenceIdeal.main_arg5) = m ((c.tc : Thread Cert.MlpLossIdeal.nD Cert.MlpLossIdeal.τ).loc Cert.MlpLossIdeal.main_arg5) := a5
    replace a6 : StableHlo.launchContents m' c (Proc.devRef .tc Cert.MlpReferenceIdeal.main_arg6) = m ((c.tc : Thread Cert.MlpLossIdeal.nD Cert.MlpLossIdeal.τ).loc Cert.MlpLossIdeal.main_arg6) := a6
    replace a7 : StableHlo.launchContents m' c (Proc.devRef .tc Cert.MlpReferenceIdeal.main_arg7) = m ((c.tc : Thread Cert.MlpLossIdeal.nD Cert.MlpLossIdeal.τ).loc Cert.MlpLossIdeal.main_arg7) := a7
    rw [a0, a1, a2, a3, a4, a5, a6, a7] at h0
    rw [a0, a1, a2, a3, a4, a5, a6, a7] at h1
    rw [a0, a2, a3] at h2
    rw [a0, a2, a3, a6] at h3
    rw [a0, a1, a2, a3, a4, a5, a6, a7] at h4
    rw [a0, a1, a2, a3, a4, a5, a6, a7] at h5
    refine ⟨h0.trans (funext fun i => ?_), h1.trans (funext fun i => ?_), h2.trans (funext fun i => ?_), h3.trans (funext fun i => ?_), h4.trans (funext fun i => ?_), h5.trans (funext fun i => ?_), k⟩
    · obtain ⟨k, b, rfl⟩ : ∃ (k : Fin 8192) (b : Fin 1024), i = ix2 k b := ⟨i 0, i 1, by idx_vars i⟩
      exact Cert.MlpReferenceIdeal.Point.v144_at _ _ _ _ _ _ _ _ f0 f1 f2 f3 f4 f5 f6 f7 k b
    · obtain ⟨k, b, rfl⟩ : ∃ (k : Fin 8192) (b : Fin 1024), i = ix2 k b := ⟨i 0, i 1, by idx_vars i⟩
      exact Cert.MlpReferenceIdeal.Point.v107_at _ _ _ _ _ _ _ _ f0 f1 f2 f3 f4 f5 f6 f7 k b
    · obtain ⟨k, b, rfl⟩ : ∃ (k : Fin 8192) (b : Fin 1024), i = ix2 k b := ⟨i 0, i 1, by idx_vars i⟩
      exact Cert.MlpReferenceIdeal.Point.v24_at _ _ _ k b
    · obtain ⟨k, b, rfl⟩ : ∃ (k : Fin 8192) (b : Fin 4096), i = ix2 k b := ⟨i 0, i 1, by idx_vars i⟩
      exact Cert.MlpReferenceIdeal.Point.v32_at _ _ _ _ k b
    · obtain ⟨k, b, rfl⟩ : ∃ (k : Fin 8192) (b : Fin 4096), i = ix2 k b := ⟨i 0, i 1, by idx_vars i⟩
      exact Cert.MlpReferenceIdeal.Point.v113_at _ _ _ _ _ _ _ _ f0 f1 f2 f3 f4 f5 f6 f7 k b
    · obtain ⟨k, b, rfl⟩ : ∃ (k : Fin 8) (b : Fin 1024), i = ix2 k b := ⟨i 0, i 1, by idx_vars i⟩
      exact Cert.MlpReferenceIdeal.Point.v148_at _ _ _ _ _ _ _ _ f0 f1 f2 f3 f4 f5 f6 f7 k b

end Cert.MlpClaim
end
-- ==== Proof.MergeFwdPoint.lean ====
module

public import proofs.«01_k».proof.Proof.Gen.MergeFwdIdeal.Value
public import proofs.«01_k».proof.Proof.MergeSpec

@[expose] public section

set_option maxRecDepth 16384

noncomputable section

namespace Cert.MergeFwdIdeal.Point

open Cert.MergeFwdIdeal Cert.MergeFwdIdeal.Gen Idealize.ShloMosaic Idealize.ShloMosaic.TcCoe Idealize.SL.Sem Cert.MemSpec Cert.MlpSpec Cert.MergeSpec

variable (x : Vec Ideal S256x1024 .f32) (g : Vec Ideal S3072x1024 .bf16) (o oa ob oc : Vec Ideal S256x1024 .bf16)
variable (w wa wb wc wo : Vec Ideal S1024x1024 .bf16) (z z0 z1 z2 v : Vec Ideal S256x1024 .f32)
variable (r : Fin 256) (c : Fin 1024)

theorem pay1_apply (f : Fin 3072) : k0_pay1 x g (ix2 r f) = across (row x r) (row g) f := by
  unfold across row; pointwise [k0_pay1]
theorem pay2_apply : k0_pay2 o w (ix2 r c) = hid (row o r) (row w) c := by unfold hid row; pointwise [k0_pay2]
theorem pay3_apply : k0_pay3 o w (ix2 r c) = hid (row o r) (row w) c := by rw [← pay2_apply]; pointwise [k0_pay3]
theorem pay4_apply : k0_pay4 o w (ix2 r c) = hid (row o r) (row w) c := by unfold hid row; pointwise [k0_pay4]
theorem pay5_apply : k0_pay5 o w (ix2 r c) = hid (row o r) (row w) c := by rw [← pay4_apply]; pointwise [k0_pay5]
theorem pay7_apply : k0_pay7 o w (ix2 r c) = hid (row o r) (row w) c := by unfold hid row; pointwise [k0_pay7]
theorem pay8_apply : k0_pay8 o w (ix2 r c) = hid (row o r) (row w) c := by rw [← pay7_apply]; pointwise [k0_pay8]

theorem pay6_apply : k0_pay6 oa wa z0 ob wb z1 (ix2 r c) =
    0 + gate (z0 (ix2 r c)) * hid (row oa r) (row wa) c + gate (z1 (ix2 r c)) * hid (row ob r) (row wb) c := by
  rw [← pay2_apply, ← pay4_apply]
  unfold gate k0_pay6
  generalize k0_pay2 oa wa = a
  generalize k0_pay4 ob wb = b
  pointwise []
  rfl
theorem pay9_apply : k0_pay9 v oc wc z2 (ix2 r c) = v (ix2 r c) + gate (z2 (ix2 r c)) * hid (row oc r) (row wc) c := by
  rw [← pay7_apply]
  unfold gate k0_pay9
  generalize k0_pay7 oc wc = a
  pointwise []
  rfl
theorem pay10_apply : k0_pay10 v oc wc z2 x wo (ix2 r c) = cent (pre (row x r) (row (k0_pay9 v oc wc z2) r) (row wo)) c := by
  unfold cent mean pre hid row k0_pay10
  generalize k0_pay9 v oc wc z2 = a
  pointwise [alpha_f32, width_f32]
theorem pay11_apply : k0_pay11 v oc wc z2 x wo (ix2 r 0) = rstd (pre (row x r) (row (k0_pay9 v oc wc z2) r) (row wo)) := by
  unfold rstd spread mean
  simp only [← pay10_apply]
  unfold k0_pay11
  generalize k0_pay10 v oc wc z2 x wo = a
  pointwise [eps_f32, width_f32]
theorem pay12_apply : k0_pay12 v oc wc z2 x wo (ix2 r c) = xhat (pre (row x r) (row (k0_pay9 v oc wc z2) r) (row wo)) c := by
  unfold xhat
  rw [← pay10_apply, ← pay11_apply]
  unfold k0_pay12
  generalize k0_pay10 v oc wc z2 x wo = a
  generalize k0_pay11 v oc wc z2 x wo = b
  pointwise []

end Cert.MergeFwdIdeal.Point
end
-- ==== Proof.MergeFwdBlock.lean ====
module

public import Idealize.ShloMosaic.Lib.Pipeline.ReadBack
public import proofs.«01_k».proof.Proof.MergeFwdPoint

@[expose] public section

set_option maxRecDepth 16384

noncomputable section

namespace Cert.MergeFwdIdeal.Block

open Cert.MergeFwdIdeal Cert.MergeFwdIdeal.Gen Cert.MergeFwdIdeal.Point Idealize.ShloMosaic Idealize.ShloMosaic.TcCoe Idealize.SL.Sem Cert.MemSpec Cert.MlpSpec Cert.MergeSpec

section Blocks

variable {F : FTy → Type} [FloatOps F]
variable (oa ob oc : Vec F S256x1024 .bf16) (x : Vec F S256x1024 .f32) (g : Vec F S3072x1024 .bf16) (wa wb wc wo : Vec F S1024x1024 .bf16)

/-- The gates' inputs, and the three column slices of them. -/
def zb : Vec F S256x3072 .f32 := k0_pay1 x g
def z0 : Vec F S256x1024 .f32 := View.ld (zb x g) (Rect.unit ![0, 0] ![256, 1024] inb_S256x3072_S256x1024_0_0)
def z1 : Vec F S256x1024 .f32 := View.ld (zb x g) (Rect.unit ![0, 1024] ![256, 1024] inb_S256x3072_S256x1024_0_1024)
def z2 : Vec F S256x1024 .f32 := View.ld (zb x g) (Rect.unit ![0, 2048] ![256, 1024] inb_S256x3072_S256x1024_0_2048)

/-- The first two gated branches' sum, and the results. -/
def two : FVec F S256x1024 .f32 := k0_pay6 oa wa (z0 x g) ob wb (z1 x g)
def mb : FVec F S256x1024 .bf16 := k0_pay9 (two oa ob x g wa wb) oc wc (z2 x g)
def rb : FVec F S256x1 .f32 := k0_pay11 (two oa ob x g wa wb) oc wc (z2 x g) x wo
def xb : FVec F S256x1024 .f32 := k0_pay12 (two oa ob x g wa wb) oc wc (z2 x g) x wo

end Blocks

section Cases

variable {F : FTy → Type} [FloatOps F]
variable (m : (ℓ : Loc nD τ sig) → Buf (Elt F) ℓ) (c : Dev nD) (t : Fin cfg0.N)

/-- A column slice loaded after the gates' inputs were stored whole. -/
theorem fill (v : View sig .tc .vmem S256x3072 .f32) (Z : Vec F S256x3072 .f32) (L : List (View.Piece (Elt F) S256x3072 .f32)) (off size : Fin 2 → ℕ)
    (inb : ∀ a, off a + size a ≤ S256x3072.size a) :
    v.readCov (⟨Rect.unit ![0, 0] ![256, 3072] inb_S256x3072_S256x3072_0_0, Z⟩ :: L) (Rect.unit off size inb).toLoadRect = View.ld Z (Rect.unit off size inb) :=
  View.readCov_fill v _ Z L _ (by decide)

theorem z_at : (outsAt0 m c t).1 = zb (iblk m c 3 t) (iblk m c 4 t) := by unfold outsAt0; frame_out; rfl
theorem pa_at : (outsAt0 m c t).2.2.2.2.1 = k0_pay3 (iblk m c 0 t) (iblk m c 5 t) := by unfold outsAt0; frame_out
theorem pb_at : (outsAt0 m c t).2.2.2.2.2.1 = k0_pay5 (iblk m c 1 t) (iblk m c 6 t) := by unfold outsAt0; frame_out
theorem pc_at : (outsAt0 m c t).2.2.2.2.2.2 = k0_pay8 (iblk m c 2 t) (iblk m c 7 t) := by unfold outsAt0; frame_out
theorem m_at : (outsAt0 m c t).2.2.2.1 = mb (iblk m c 0 t) (iblk m c 1 t) (iblk m c 2 t) (iblk m c 3 t) (iblk m c 4 t) (iblk m c 5 t) (iblk m c 6 t) (iblk m c 7 t) := by
  unfold outsAt0; frame_out; simp only [fill]; rfl
set_option maxHeartbeats 2000000 in
theorem r_at : (outsAt0 m c t).2.2.1 = rb (iblk m c 0 t) (iblk m c 1 t) (iblk m c 2 t) (iblk m c 3 t) (iblk m c 4 t) (iblk m c 5 t) (iblk m c 6 t) (iblk m c 7 t) (iblk m c 8 t) := by
  unfold outsAt0; frame_out; simp only [fill]; rfl
set_option maxHeartbeats 2000000 in
theorem x_at : (outsAt0 m c t).2.1 = xb (iblk m c 0 t) (iblk m c 1 t) (iblk m c 2 t) (iblk m c 3 t) (iblk m c 4 t) (iblk m c 5 t) (iblk m c 6 t) (iblk m c 7 t) (iblk m c 8 t) := by
  unfold outsAt0; frame_out; simp only [fill]; rfl

end Cases

/-! ## The blocks' rows -/

section Rows

variable (oa ob oc : Vec Ideal S256x1024 .bf16) (x : Vec Ideal S256x1024 .f32) (g : Vec Ideal S3072x1024 .bf16) (wa wb wc wo : Vec Ideal S1024x1024 .bf16)
variable (r : Fin 256) (k : Fin 1024)

/-- The gates' inputs and the branches' projections of one row of the block. -/
def zs : Fin 3 → R := fun p => third p (across (row x r) (row g))
def ps : Fin 3 → R := ![hid (row oa r) (row wa), hid (row ob r) (row wb), hid (row oc r) (row wc)]

theorem z0_apply : z0 x g (ix2 r k) = zs x g r 0 k := by
  unfold zs third z0; rw [← pay1_apply]; unfold zb
  generalize k0_pay1 x g = y
  exact congrArg y (funext fun a => Fin.ext (by match a with | 0 => exact (Nat.zero_add _).trans (Nat.one_mul _) | 1 => exact congrArg₂ (· + ·) rfl (Nat.one_mul _)))
theorem z1_apply : z1 x g (ix2 r k) = zs x g r 1 k := by
  unfold zs third z1; rw [← pay1_apply]; unfold zb
  generalize k0_pay1 x g = y
  exact congrArg y (funext fun a => Fin.ext (by match a with | 0 => exact (Nat.zero_add _).trans (Nat.one_mul _) | 1 => exact congrArg₂ (· + ·) rfl (Nat.one_mul _)))
theorem z2_apply : z2 x g (ix2 r k) = zs x g r 2 k := by
  unfold zs third z2; rw [← pay1_apply]; unfold zb
  generalize k0_pay1 x g = y
  exact congrArg y (funext fun a => Fin.ext (by match a with | 0 => exact (Nat.zero_add _).trans (Nat.one_mul _) | 1 => exact congrArg₂ (· + ·) rfl (Nat.one_mul _)))
theorem mb_apply : mb oa ob oc x g wa wb wc (ix2 r k) = merged (zs x g r) (ps oa ob oc wa wb wc r) k := by
  unfold mb two; rw [pay9_apply, pay6_apply, z0_apply, z1_apply, z2_apply]; exact merged_zero (zs x g r) (ps oa ob oc wa wb wc r) k
theorem row_mb : row (mb oa ob oc x g wa wb wc) r = merged (zs x g r) (ps oa ob oc wa wb wc r) := funext fun k => mb_apply oa ob oc x g wa wb wc r k
theorem rb_apply : rb oa ob oc x g wa wb wc wo (ix2 r 0) = rstd (pre (row x r) (merged (zs x g r) (ps oa ob oc wa wb wc r)) (row wo)) := by
  rw [← row_mb]; exact pay11_apply ..
theorem xb_apply : xb oa ob oc x g wa wb wc wo (ix2 r k) = xhat (pre (row x r) (merged (zs x g r) (ps oa ob oc wa wb wc r)) (row wo)) k := by
  rw [← row_mb]; exact pay12_apply ..

end Rows

end Cert.MergeFwdIdeal.Block
end
-- ==== Proof.MergeFwdArrays.lean ====
module

public import proofs.«01_k».proof.Proof.MergeFwdBlock

@[expose] public section

set_option maxRecDepth 16384

noncomputable section

namespace Cert.MergeFwdIdeal.Arrays

open Cert.MergeFwdIdeal Cert.MergeFwdIdeal.Gen Cert.MergeFwdIdeal.Point Cert.MergeFwdIdeal.Block Idealize.ShloMosaic Idealize.ShloMosaic.TcCoe Idealize.SL.Sem Cert.MemSpec Cert.MlpSpec Cert.MergeSpec

variable (m : (ℓ : Loc nD τ sig) → Buf (Elt Ideal) ℓ) (c : Dev nD)

theorem N32 : cfg0.N = 32 := N_0

/-- Row `r` of block `t` as a row of the array. -/
def lane (t : Fin cfg0.N) (r : Fin 256) : Fin 8192 := ⟨t.val * 256 + r.val, by have h := lt_of_lt_of_eq t.isLt N32; omega⟩

/-- The launch's arrays. -/
abbrev X : FVec Ideal S8192x1024 .f32 := m ((c : Thread nD τ).loc main_arg0)
abbrev G : FVec Ideal S9472x1024 .bf16 := m ((c : Thread nD τ).loc main_arg1)
abbrev OA : FVec Ideal S8192x1024 .bf16 := m ((c : Thread nD τ).loc main_arg2)
abbrev OB : FVec Ideal S8192x1024 .bf16 := m ((c : Thread nD τ).loc main_arg3)
abbrev OC : FVec Ideal S8192x1024 .bf16 := m ((c : Thread nD τ).loc main_arg4)
abbrev WA : FVec Ideal S1024x1024 .bf16 := m ((c : Thread nD τ).loc main_arg5)
abbrev WB : FVec Ideal S1024x1024 .bf16 := m ((c : Thread nD τ).loc main_arg6)
abbrev WC : FVec Ideal S1024x1024 .bf16 := m ((c : Thread nD τ).loc main_arg7)
abbrev WO : FVec Ideal S1024x1024 .bf16 := m ((c : Thread nD τ).loc main_arg8)

/-- Where the windows' blocks lie. -/
theorem placesIn : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) := by decide +kernel
theorem placesG : ∀ t : Fin cfg0.N, win0_4.index t 0 = 6400 ∧ win0_4.index t 1 = 0 := by decide +kernel
theorem placesW : ∀ t : Fin cfg0.N, (win0_5.index t 0 = 0 ∧ win0_5.index t 1 = 0) ∧ (win0_6.index t 0 = 0 ∧ win0_6.index t 1 = 0) ∧
    (win0_7.index t 0 = 0 ∧ win0_7.index t 1 = 0) ∧ (win0_8.index t 0 = 0 ∧ win0_8.index t 1 = 0) := by decide +kernel
theorem placesOut : ∀ t : Fin cfg0.N, (win0_9.index t 0 = t.val ∧ win0_9.index t 1 = 0) ∧ (win0_10.index t 0 = t.val ∧ win0_10.index t 1 = 0) ∧
    (win0_11.index t 0 = t.val ∧ win0_11.index t 1 = 0) ∧ (win0_12.index t 0 = t.val ∧ win0_12.index t 1 = 0) ∧
    (win0_13.index t 0 = t.val ∧ win0_13.index t 1 = 0) ∧ (win0_14.index t 0 = t.val ∧ win0_14.index t 1 = 0) ∧
    (win0_15.index t 0 = t.val ∧ win0_15.index t 1 = 0) := by decide +kernel

/-- The rows of the gates' weights. -/
def gates : Fin 3072 → R := fun f => row (G m c) ⟨6400 + f.val, by omega⟩

theorem row0 (t : Fin cfg0.N) (r : Fin 256) : row (iblk m c 0 t) r = row (OA m c) (lane t r) := by
  have e := placesIn t
  funext d; unfold row lane OA; blk_ext [iblk, V, e.1.1, e.1.2]
theorem row1 (t : Fin cfg0.N) (r : Fin 256) : row (iblk m c 1 t) r = row (OB m c) (lane t r) := by
  have e := placesIn t
  funext d; unfold row lane OB; blk_ext [iblk, V, e.2.1.1, e.2.1.2]
theorem row2 (t : Fin cfg0.N) (r : Fin 256) : row (iblk m c 2 t) r = row (OC m c) (lane t r) := by
  have e := placesIn t
  funext d; unfold row lane OC; blk_ext [iblk, V, e.2.2.1.1, e.2.2.1.2]
theorem row3 (t : Fin cfg0.N) (r : Fin 256) : row (iblk m c 3 t) r = row (X m c) (lane t r) := by
  have e := placesIn t
  funext d; unfold row lane X; blk_ext [iblk, V, e.2.2.2.1, e.2.2.2.2]
theorem row4 (t : Fin cfg0.N) : row (iblk m c 4 t) = gates m c := by
  have e := placesG t
  funext f d; unfold gates row G
  refine congrArg (m ((c : Thread nD τ).loc main_arg1)) (funext fun a => Fin.ext ?_)
  match a with
  | 0 => exact congrArg₂ (· + ·) e.1 (Nat.one_mul _)
  | 1 => exact (congrArg₂ (· + ·) e.2 (Nat.one_mul _)).trans (Nat.zero_add _)
theorem row5 (t : Fin cfg0.N) : row (iblk m c 5 t) = row (WA m c) := by
  have e := placesW t
  funext f d; unfold row WA; blk_ext [iblk, V, e.1.1, e.1.2]
theorem row6 (t : Fin cfg0.N) : row (iblk m c 6 t) = row (WB m c) := by
  have e := placesW t
  funext f d; unfold row WB; blk_ext [iblk, V, e.2.1.1, e.2.1.2]
theorem row7 (t : Fin cfg0.N) : row (iblk m c 7 t) = row (WC m c) := by
  have e := placesW t
  funext f d; unfold row WC; blk_ext [iblk, V, e.2.2.1.1, e.2.2.1.2]
theorem row8 (t : Fin cfg0.N) : row (iblk m c 8 t) = row (WO m c) := by
  have e := placesW t
  funext f d; unfold row WO; blk_ext [iblk, V, e.2.2.2.1, e.2.2.2.2]

/-- The row functions at row `i` of the launch's arrays. -/
def zr (i : Fin 8192) : Fin 3072 → EReal := across (row (X m c) i) (gates m c)
def pr (i : Fin 8192) : Fin 3 → R := ![hid (row (OA m c) i) (row (WA m c)), hid (row (OB m c) i) (row (WB m c)), hid (row (OC m c) i) (row (WC m c))]
def mr (i : Fin 8192) : R := merged (fun p => third p (zr m c i)) (pr m c i)
def qr (i : Fin 8192) : R := pre (row (X m c) i) (mr m c i) (row (WO m c))

theorem z_final : (dats m 0 c).arrAt 9 cfg0.N = fun i : S8192x3072.Idx => zr m c (i 0) (i 1) := by
  refine (dats m 0 c).arrAt_eq_of_covers 9 _ (by decide +kernel) fun t hf y => ?_
  blk_simp
  rw [after0_9, z_at]
  have e := placesOut t
  idx_vars y
  refine (pay1_apply (iblk m c 3 t) (iblk m c 4 t) y0 y1).trans ?_
  rw [row3, row4]
  have a : ((View.whole main_v0_0).slice (win0_9.rect t)).emb (ix2 y0 y1) = ix2 (lane t y0) y1 := by
    unfold lane; blk_ext [e.1.1, e.1.2]
  rw [a]; rfl

theorem x_final : (dats m 0 c).arrAt 10 cfg0.N = fun i : S8192x1024.Idx => xhat (qr m c (i 0)) (i 1) := by
  refine (dats m 0 c).arrAt_eq_of_covers 10 _ (by decide +kernel) fun t hf y => ?_
  blk_simp
  rw [after0_10, x_at]
  have e := placesOut t
  idx_vars y
  refine (xb_apply (iblk m c 0 t) (iblk m c 1 t) (iblk m c 2 t) (iblk m c 3 t) (iblk m c 4 t) (iblk m c 5 t) (iblk m c 6 t) (iblk m c 7 t) (iblk m c 8 t) y0 y1).trans ?_
  unfold zs ps
  rw [row0, row1, row2, row3, row4, row5, row6, row7, row8]
  have a : ((View.whole main_v0_1).slice (win0_10.rect t)).emb (ix2 y0 y1) = ix2 (lane t y0) y1 := by
    unfold lane; blk_ext [e.2.1.1, e.2.1.2]
  rw [a]; rfl

theorem r_final : (dats m 0 c).arrAt 11 cfg0.N = fun i : S8192x1.Idx => rstd (qr m c (i 0)) := by
  refine (dats m 0 c).arrAt_eq_of_covers 11 _ (by decide +kernel) fun t hf y => ?_
  blk_simp
  rw [after0_11, r_at]
  have e := placesOut t
  idx_vars y
  obtain rfl : y1 = (0 : Fin 1) := Subsingleton.elim _ _
  refine (rb_apply (iblk m c 0 t) (iblk m c 1 t) (iblk m c 2 t) (iblk m c 3 t) (iblk m c 4 t) (iblk m c 5 t) (iblk m c 6 t) (iblk m c 7 t) (iblk m c 8 t) y0).trans ?_
  unfold zs ps
  rw [row0, row1, row2, row3, row4, row5, row6, row7, row8]
  have a : ((View.whole main_v0_2).slice (win0_11.rect t)).emb (ix2 y0 (0 : Fin 1)) = ix2 (lane t y0) (0 : Fin 1) := by
    unfold lane; blk_ext [e.2.2.1.1, e.2.2.1.2]
  rw [a]; rfl

theorem m_final : (dats m 0 c).arrAt 12 cfg0.N = fun i : S8192x1024.Idx => mr m c (i 0) (i 1) := by
  refine (dats m 0 c).arrAt_eq_of_covers 12 _ (by decide +kernel) fun t hf y => ?_
  blk_simp
  rw [after0_12, m_at]
  have e := placesOut t
  idx_vars y
  refine (mb_apply (iblk m c 0 t) (iblk m c 1 t) (iblk m c 2 t) (iblk m c 3 t) (iblk m c 4 t) (iblk m c 5 t) (iblk m c 6 t) (iblk m c 7 t) y0 y1).trans ?_
  unfold zs ps
  rw [row0, row1, row2, row3, row4, row5, row6, row7]
  have a : ((View.whole main_v0_3).slice (win0_12.rect t)).emb (ix2 y0 y1) = ix2 (lane t y0) y1 := by
    unfold lane; blk_ext [e.2.2.2.1.1, e.2.2.2.1.2]
  rw [a]; rfl

theorem pa_final : (dats m 0 c).arrAt 13 cfg0.N = fun i : S8192x1024.Idx => pr m c (i 0) 0 (i 1) := by
  refine (dats m 0 c).arrAt_eq_of_covers 13 _ (by decide +kernel) fun t hf y => ?_
  blk_simp
  rw [after0_13, pa_at]
  have e := placesOut t
  idx_vars y
  refine (pay3_apply (iblk m c 0 t) (iblk m c 5 t) y0 y1).trans ?_
  rw [row0, row5]
  have a : ((View.whole main_v0_4).slice (win0_13.rect t)).emb (ix2 y0 y1) = ix2 (lane t y0) y1 := by
    unfold lane; blk_ext [e.2.2.2.2.1.1, e.2.2.2.2.1.2]
  rw [a]; rfl

theorem pb_final : (dats m 0 c).arrAt 14 cfg0.N = fun i : S8192x1024.Idx => pr m c (i 0) 1 (i 1) := by
  refine (dats m 0 c).arrAt_eq_of_covers 14 _ (by decide +kernel) fun t hf y => ?_
  blk_simp
  rw [after0_14, pb_at]
  have e := placesOut t
  idx_vars y
  refine (pay5_apply (iblk m c 1 t) (iblk m c 6 t) y0 y1).trans ?_
  rw [row1, row6]
  have a : ((View.whole main_v0_5).slice (win0_14.rect t)).emb (ix2 y0 y1) = ix2 (lane t y0) y1 := by
    unfold lane; blk_ext [e.2.2.2.2.2.1.1, e.2.2.2.2.2.1.2]
  rw [a]; rfl

theorem pc_final : (dats m 0 c).arrAt 15 cfg0.N = fun i : S8192x1024.Idx => pr m c (i 0) 2 (i 1) := by
  refine (dats m 0 c).arrAt_eq_of_covers 15 _ (by decide +kernel) fun t hf y => ?_
  blk_simp
  rw [after0_15, pc_at]
  have e := placesOut t
  idx_vars y
  refine (pay8_apply (iblk m c 2 t) (iblk m c 7 t) y0 y1).trans ?_
  rw [row2, row7]
  have a : ((View.whole main_v0_6).slice (win0_15.rect t)).emb (ix2 y0 y1) = ix2 (lane t y0) y1 := by
    unfold lane; blk_ext [e.2.2.2.2.2.2.1, e.2.2.2.2.2.2.2]
  rw [a]; rfl

end Cert.MergeFwdIdeal.Arrays
end
-- ==== Proof.MergeFwdRef.lean ====
module

public import proofs.«01_k».proof.Proof.Gen.MergeFwdReferenceIdeal.Run
public import proofs.«01_k».proof.Proof.Gen.MergeFwdReferenceIdeal.Read
public import proofs.«01_k».proof.Proof.MergeSpec

@[expose] public section

set_option maxRecDepth 16384

noncomputable section

namespace Cert.MergeFwdReferenceIdeal.Point

open Cert.MergeFwdReferenceIdeal Cert.MergeFwdReferenceIdeal.Gen Cert.MergeFwdReferenceIdeal.Read Idealize.ShloMosaic Idealize.ShloMosaic.TcCoe Idealize.SL.Sem Cert.MemSpec Cert.MlpSpec Cert.MergeSpec

variable (X : FVec Ideal S8192x1024 .f32) (G : FVec Ideal S9472x1024 .bf16) (OA OB OC : FVec Ideal S8192x1024 .bf16) (WA WB WC WO : FVec Ideal S1024x1024 .bf16)
variable (i : Fin 8192) (k : Fin 1024)

theorem one_f32 : Ideal.ofBits .f32 0x3F800000#32 = 1 := by
  simp [Ideal.ofBits, Ideal.ieee, -EReal.coe_mul]; norm_num

/-- The gates' inputs, the branches' projections, the merged row and the layer norm's input. -/
abbrev zr : Fin 3072 → EReal := across (row X i) (fun f => row G ⟨6400 + f.val, by omega⟩)
abbrev pr : Fin 3 → R := ![hid (row OA i) (row WA), hid (row OB i) (row WB), hid (row OC i) (row WC)]
abbrev mr : R := merged (fun p => third p (zr X G i)) (pr OA OB OC WA WB WC i)
abbrev qr : R := pre (row X i) (mr X G OA OB OC WA WB WC i) (row WO)

theorem v10_at (f : Fin 3072) : val_main_v10 (F := Ideal) X G (ix2 i f) = zr X G i f := by
  unfold zr across row
  unfold val_main_v10 val_main_v9 val_main_v8 val_main_v7
  pointwise []
theorem v18_at : val_main_v18 (F := Ideal) OA WA (ix2 i k) = hid (row OA i) (row WA) k := by
  unfold hid row val_main_v18 val_main_v0 val_main_v3; pointwise []
theorem v19_at : val_main_v19 (F := Ideal) OB WB (ix2 i k) = hid (row OB i) (row WB) k := by
  unfold hid row val_main_v19 val_main_v1 val_main_v4; pointwise []
theorem v20_at : val_main_v20 (F := Ideal) OC WC (ix2 i k) = hid (row OC i) (row WC) k := by
  unfold hid row val_main_v20 val_main_v2 val_main_v5; pointwise []
theorem v53_at : val_main_v53 (F := Ideal) OA WA (ix2 i k) = hid (row OA i) (row WA) k := by
  rw [← v18_at]; unfold val_main_v53; pointwise []
theorem v54_at : val_main_v54 (F := Ideal) OB WB (ix2 i k) = hid (row OB i) (row WB) k := by
  rw [← v19_at]; unfold val_main_v54; pointwise []
theorem v55_at : val_main_v55 (F := Ideal) OC WC (ix2 i k) = hid (row OC i) (row WC) k := by
  rw [← v20_at]; unfold val_main_v55; pointwise []

theorem v11_at (p : Fin 3) : val_main_v11 (F := Ideal) X G (ix3 i p k) = third p (zr X G i) k := by
  unfold third
  rw [← v10_at]
  unfold val_main_v11
  generalize val_main_v10 (F := Ideal) X G = a
  pointwise []
theorem v17_at (p : Fin 3) : val_main_v17 (F := Ideal) X G (ix3 i p k) = gate (third p (zr X G i) k) := by
  rw [← v11_at]
  unfold gate val_main_v17 val_main_v16 val_main_v15 val_main_v14 val_main_v13 val_main_v12 val_main_cst val_main_cst_0
  generalize val_main_v11 (F := Ideal) X G = a
  pointwise [one_f32]
theorem v22_at : val_main_v22 (F := Ideal) X G (ix2 i k) = gate (third 0 (zr X G i) k) := by
  rw [← v17_at]
  unfold val_main_v22 val_main_v21
  generalize val_main_v17 (F := Ideal) X G = a
  pointwise []
theorem v25_at : val_main_v25 (F := Ideal) X G (ix2 i k) = gate (third 1 (zr X G i) k) := by
  rw [← v17_at]
  unfold val_main_v25 val_main_v24
  generalize val_main_v17 (F := Ideal) X G = a
  pointwise []
theorem v29_at : val_main_v29 (F := Ideal) X G (ix2 i k) = gate (third 2 (zr X G i) k) := by
  rw [← v17_at]
  unfold val_main_v29 val_main_v28
  generalize val_main_v17 (F := Ideal) X G = a
  pointwise []

theorem v31_at : val_main_v31 (F := Ideal) X G OA OB OC WA WB WC (ix2 i k) = mr X G OA OB OC WA WB WC i k := by
  show _ = gate (third 0 (zr X G i) k) * hid (row OA i) (row WA) k + gate (third 1 (zr X G i) k) * hid (row OB i) (row WB) k
    + gate (third 2 (zr X G i) k) * hid (row OC i) (row WC) k
  rw [← v22_at, ← v25_at, ← v29_at, ← v18_at, ← v19_at, ← v20_at]
  unfold val_main_v31 val_main_v30 val_main_v27 val_main_v26 val_main_v23
  generalize val_main_v22 (F := Ideal) X G = a
  generalize val_main_v25 (F := Ideal) X G = b
  generalize val_main_v29 (F := Ideal) X G = d
  generalize val_main_v18 (F := Ideal) OA WA = a'
  generalize val_main_v19 (F := Ideal) OB WB = b'
  generalize val_main_v20 (F := Ideal) OC WC = d'
  pointwise []
theorem v52_at : val_main_v52 (F := Ideal) X G OA OB OC WA WB WC (ix2 i k) = mr X G OA OB OC WA WB WC i k := by
  rw [← v31_at]; unfold val_main_v52
  generalize val_main_v31 (F := Ideal) X G OA OB OC WA WB WC = a
  pointwise []
theorem v35_at : val_main_v35 (F := Ideal) X G OA OB OC WA WB WC WO (ix2 i k) = qr X G OA OB OC WA WB WC WO i k := by
  unfold qr pre hid
  simp only [← v31_at]
  unfold val_main_v35 val_main_v34 val_main_v33 val_main_v32 val_main_v6 val_main_cst_1 row
  generalize val_main_v31 (F := Ideal) X G OA OB OC WA WB WC = a
  pointwise [alpha_f32]
theorem v39_at : val_main_v39 (F := Ideal) X G OA OB OC WA WB WC WO (ix2 i (0 : Fin 1)) = mean (qr X G OA OB OC WA WB WC WO i) := by
  unfold mean
  simp only [← v35_at]
  unfold val_main_v39 val_main_v38 val_main_v37 val_main_v36 val_main_cst_2 val_main_cst_3
  generalize val_main_v35 (F := Ideal) X G OA OB OC WA WB WC WO = a
  pointwise [width_f32]
theorem v41_at : val_main_v41 (F := Ideal) X G OA OB OC WA WB WC WO (ix2 i k) = cent (qr X G OA OB OC WA WB WC WO i) k := by
  unfold cent
  rw [← v35_at, ← v39_at]
  unfold val_main_v41 val_main_v40
  generalize val_main_v35 (F := Ideal) X G OA OB OC WA WB WC WO = a
  generalize val_main_v39 (F := Ideal) X G OA OB OC WA WB WC WO = b
  pointwise []
theorem v48_at : val_main_v48 (F := Ideal) X G OA OB OC WA WB WC WO (ix2 i (0 : Fin 1)) = spread (qr X G OA OB OC WA WB WC WO i) := by
  unfold spread mean
  simp only [← v41_at]
  unfold val_main_v48 val_main_v47 val_main_v46 val_main_v45 val_main_v44 val_main_v43 val_main_v42 val_main_cst_4 val_main_cst_5 val_main_cst_6
  generalize val_main_v41 (F := Ideal) X G OA OB OC WA WB WC WO = a
  pointwise [width_f32, eps_f32]
theorem v49_at : val_main_v49 (F := Ideal) X G OA OB OC WA WB WC WO (ix2 i (0 : Fin 1)) = rstd (qr X G OA OB OC WA WB WC WO i) := by
  unfold rstd
  rw [← v48_at]
  unfold val_main_v49
  generalize val_main_v48 (F := Ideal) X G OA OB OC WA WB WC WO = a
  pointwise []
theorem v51_at : val_main_v51 (F := Ideal) X G OA OB OC WA WB WC WO (ix2 i k) = xhat (qr X G OA OB OC WA WB WC WO i) k := by
  unfold xhat
  rw [← v41_at, ← v49_at]
  unfold val_main_v51 val_main_v50
  generalize val_main_v41 (F := Ideal) X G OA OB OC WA WB WC WO = a
  generalize val_main_v49 (F := Ideal) X G OA OB OC WA WB WC WO = b
  pointwise []

end Cert.MergeFwdReferenceIdeal.Point
end
-- ==== Proof.MergeFwdClaim.lean ====
module

public import proofs.«01_k».proof.Defs
public import proofs.«01_k».proof.Proof.Gen.MergeFwd
public import proofs.«01_k».proof.Proof.Gen.MergeFwdIdeal
public import proofs.«01_k».proof.Proof.Gen.MergeFwdReferenceIdeal
public import proofs.«01_k».proof.Proof.MergeFwdArrays
public import proofs.«01_k».proof.Proof.MergeFwdRef
public import proofs.«01_k».proof.Proof.Gen.MergeFwd.Frame
public import proofs.«01_k».proof.Proof.Gen.MergeFwdIdeal.Frame
public import proofs.«01_k».proof.Proof.Gen.MergeFwdIdeal.Value

@[expose] public section

set_option maxRecDepth 16384

noncomputable section

namespace Cert.MergeFwdClaim

open Idealize.ShloMosaic Idealize.SL.Sem Cert.MemSpec Cert.MlpSpec Cert.MergeSpec

theorem frame_kernel : Cert.quiescent_MergeFwd := fun m ρ _ => Cert.MergeFwd.Gen.frame m ρ

theorem frame_ideal : Cert.quiescent_MergeFwdIdeal := fun m ρ _ => Cert.MergeFwdIdeal.Gen.frame m ρ

theorem frame_reference : Cert.quiescent_MergeFwdReferenceIdeal := fun m ρ _ =>
  (θ_run Cert.MergeFwdReferenceIdeal.defs _ _).mono
    (fun r h => ⟨fun c => (h c).2.2.2.2.2.2.2, sem_eq_zero_of_no_sems (by decide) r.2⟩)
    (Cert.MergeFwdReferenceIdeal.Value.run (F := Ideal) m ρ)

/-- Kernel and reference compute the same gate inputs, normalised rows, merged rows and projections. -/
theorem value : Cert.algebraic_MergeFwdIdeal_MergeFwdReferenceIdeal := by
  intro m g m' g' _ hargs
  refine ⟨fun c i => Cert.MergeFwdIdeal.Arrays.zr m c (i 0) (i 1), fun c i => xhat (Cert.MergeFwdIdeal.Arrays.qr m c (i 0)) (i 1), fun c i => rstd (Cert.MergeFwdIdeal.Arrays.qr m c (i 0)),
    fun c i => Cert.MergeFwdIdeal.Arrays.mr m c (i 0) (i 1), fun c i => Cert.MergeFwdIdeal.Arrays.pr m c (i 0) 0 (i 1), fun c i => Cert.MergeFwdIdeal.Arrays.pr m c (i 0) 1 (i 1),
    fun c i => Cert.MergeFwdIdeal.Arrays.pr m c (i 0) 2 (i 1), ?_, ?_⟩
  · refine (θ_run Cert.MergeFwdIdeal.defs _ _).mono (fun r h c => ?_) (Cert.MergeFwdIdeal.Value.run_blocks (F := Ideal) m g)
    obtain ⟨h0, h1, h2, h3, h4, h5, h6, k⟩ := h c
    exact ⟨h0.trans (Cert.MergeFwdIdeal.Arrays.z_final m c), h1.trans (Cert.MergeFwdIdeal.Arrays.x_final m c), h2.trans (Cert.MergeFwdIdeal.Arrays.r_final m c), h3.trans (Cert.MergeFwdIdeal.Arrays.m_final m c),
      h4.trans (Cert.MergeFwdIdeal.Arrays.pa_final m c), h5.trans (Cert.MergeFwdIdeal.Arrays.pb_final m c), h6.trans (Cert.MergeFwdIdeal.Arrays.pc_final m c), k⟩
  · refine (θ_run Cert.MergeFwdReferenceIdeal.defs _ _).mono (fun r h c => ?_) (Cert.MergeFwdReferenceIdeal.Value.run (F := Ideal) m' g')
    obtain ⟨h0, h1, h2, h3, h4, h5, h6, k⟩ := h c
    obtain ⟨a0, a1, a2, a3, a4, a5, a6, a7, a8⟩ := hargs c
    replace h0 := h0.trans (Cert.MergeFwdReferenceIdeal.Read.val_main_v10_eq _ _)
    replace h1 := h1.trans (Cert.MergeFwdReferenceIdeal.Read.val_main_v51_eq m' c)
    replace h2 := h2.trans (Cert.MergeFwdReferenceIdeal.Read.val_main_v49_eq m' c)
    replace h3 := h3.trans (Cert.MergeFwdReferenceIdeal.Read.val_main_v52_eq _ _ _ _ _ _ _ _)
    replace h4 := h4.trans (Cert.MergeFwdReferenceIdeal.Read.val_main_v53_eq _ _)
    replace h5 := h5.trans (Cert.MergeFwdReferenceIdeal.Read.val_main_v54_eq _ _)
    replace h6 := h6.trans (Cert.MergeFwdReferenceIdeal.Read.val_main_v55_eq _ _)
    replace a0 : m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0) := a0
    replace a1 : m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1) := a1
    replace a2 : m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2) := a2
    replace a3 : m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3) := a3
    replace a4 : m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4) := a4
    replace a5 : m' ((c.tc : Thread Cert.MergeFwdReferenceIdeal.nD Cert.MergeFwdReferenceIdeal.τ).loc Cert.MergeFwdReferenceIdeal.main_arg5) = m ((c.tc : Thread Cert.MergeFwdIdeal.nD Cert.MergeFwdIdeal.τ).loc Cert.MergeFwdIdeal.main_arg5) := a5
    replace a6 : m' ((c.tc : Thread Cert.MergeFwdReferenceIdeal.nD Cert.MergeFwdReferenceIdeal.τ).loc Cert.MergeFwdReferenceIdeal.main_arg6) = m ((c.tc : Thread Cert.MergeFwdIdeal.nD Cert.MergeFwdIdeal.τ).loc Cert.MergeFwdIdeal.main_arg6) := a6
    replace a7 : m' ((c.tc : Thread Cert.MergeFwdReferenceIdeal.nD Cert.MergeFwdReferenceIdeal.τ).loc Cert.MergeFwdReferenceIdeal.main_arg7) = m ((c.tc : Thread Cert.MergeFwdIdeal.nD Cert.MergeFwdIdeal.τ).loc Cert.MergeFwdIdeal.main_arg7) := a7
    replace a8 : m' ((c.tc : Thread Cert.MergeFwdReferenceIdeal.nD Cert.MergeFwdReferenceIdeal.τ).loc Cert.MergeFwdReferenceIdeal.main_arg8) = m ((c.tc : Thread Cert.MergeFwdIdeal.nD Cert.MergeFwdIdeal.τ).loc Cert.MergeFwdIdeal.main_arg8) := a8
    rw [a0, a1] at h0
    rw [a0, a1, a2, a3, a4, a5, a6, a7, a8] at h1
    rw [a0, a1, a2, a3, a4, a5, a6, a7, a8] at h2
    rw [a0, a1, a2, a3, a4, a5, a6, a7] at h3
    rw [a2, a5] at h4
    rw [a3, a6] at h5
    rw [a4, a7] at h6
    refine ⟨h0.trans (funext fun i => ?_), h1.trans (funext fun i => ?_), h2.trans (funext fun i => ?_), h3.trans (funext fun i => ?_), h4.trans (funext fun i => ?_), h5.trans (funext fun i => ?_), h6.trans (funext fun i => ?_), k⟩
    · obtain ⟨k, b, rfl⟩ : ∃ (k : Fin 8192) (b : Fin 3072), i = ix2 k b := ⟨i 0, i 1, by idx_vars i⟩
      exact Cert.MergeFwdReferenceIdeal.Point.v10_at _ _ k b
    · obtain ⟨k, b, rfl⟩ : ∃ (k : Fin 8192) (b : Fin 1024), i = ix2 k b := ⟨i 0, i 1, by idx_vars i⟩
      exact Cert.MergeFwdReferenceIdeal.Point.v51_at _ _ _ _ _ _ _ _ _ k b
    · obtain ⟨k, rfl⟩ : ∃ k : Fin 8192, i = ix2 k (0 : Fin 1) := ⟨i 0, by idx_vars i; rw [Subsingleton.elim i1 0]⟩
      exact Cert.MergeFwdReferenceIdeal.Point.v49_at _ _ _ _ _ _ _ _ _ k
    · obtain ⟨k, b, rfl⟩ : ∃ (k : Fin 8192) (b : Fin 1024), i = ix2 k b := ⟨i 0, i 1, by idx_vars i⟩
      exact Cert.MergeFwdReferenceIdeal.Point.v52_at _ _ _ _ _ _ _ _ k b
    · obtain ⟨k, b, rfl⟩ : ∃ (k : Fin 8192) (b : Fin 1024), i = ix2 k b := ⟨i 0, i 1, by idx_vars i⟩
      exact Cert.MergeFwdReferenceIdeal.Point.v53_at _ _ k b
    · obtain ⟨k, b, rfl⟩ : ∃ (k : Fin 8192) (b : Fin 1024), i = ix2 k b := ⟨i 0, i 1, by idx_vars i⟩
      exact Cert.MergeFwdReferenceIdeal.Point.v54_at _ _ k b
    · obtain ⟨k, b, rfl⟩ : ∃ (k : Fin 8192) (b : Fin 1024), i = ix2 k b := ⟨i 0, i 1, by idx_vars i⟩
      exact Cert.MergeFwdReferenceIdeal.Point.v55_at _ _ k b

end Cert.MergeFwdClaim
end
-- ==== Proof.GradSpec.lean ====
module

public import proofs.«01_k».proof.Proof.MergeSpec

@[expose] public section

noncomputable section

namespace Cert.GradSpec

/-- Entry `i`, `j` of the product of `a` transposed with `b`: the gradient of a product's second factor. -/
def tn {K P Q : ℕ} (a : Fin K → Fin P → EReal) (b : Fin K → Fin Q → EReal) (i : Fin P) (j : Fin Q) : EReal := ∑ k, a k i * b k j

theorem tn_swap {K P Q : ℕ} (a : Fin K → Fin P → EReal) (b : Fin K → Fin Q → EReal) (i : Fin P) (j : Fin Q) : ∑ k, b k j * a k i = tn a b i j :=
  Finset.sum_congr rfl fun _ _ => mul_comm _ _

end Cert.GradSpec
end
-- ==== Proof.GradDownPoint.lean ====
module

public import proofs.«01_k».proof.Proof.Gen.GradDownIdeal.Value
public import proofs.«01_k».proof.Proof.GradSpec
public import proofs.«01_k».proof.Proof.MlpLane

@[expose] public section

set_option maxRecDepth 16384

noncomputable section

namespace Cert.GradDownIdeal.Point

open Cert.GradDownIdeal Cert.GradDownIdeal.Gen Idealize.ShloMosaic Idealize.ShloMosaic.TcCoe Idealize.SL.Sem Cert.MemSpec Cert.GradSpec
open Cert.MlpLossIdeal.Point (canon_hit canon_miss)

section Bands

variable (a : Vec Ideal S2048x256 .bf16) (b : Vec Ideal S2048x1024 .bf16) (z : Vec Ideal S256x1024 .f32) (v : FVec Ideal S256x1024 .f32)
variable (x : Vec Ideal S2048x1024 .bf16) (acc : Vec Ideal S1024x1024 .f32) (r : Fin 256) (j : Fin 1024)

theorem pay1_apply : k0_pay1 a b (ix2 r j) = tn (row a) (row b) r j := by unfold tn row; pointwise [k0_pay1]
theorem pay2_apply : k0_pay2 a b (ix2 r j) = tn (row a) (row b) r j := by unfold tn row; pointwise [k0_pay2]
theorem pay3_apply : k0_pay3 a b (ix2 r j) = tn (row a) (row b) r j := by unfold tn row; pointwise [k0_pay3]
theorem pay4_apply : k0_pay4 a b (ix2 r j) = tn (row a) (row b) r j := by unfold tn row; pointwise [k0_pay4]
theorem pay5_apply : k0_pay5 v z (ix2 r j) = z (ix2 r j) + v (ix2 r j) := by pointwise [k0_pay5]
theorem pay6_apply : k0_pay6 a b z (ix2 r j) = z (ix2 r j) + tn (row a) (row b) r j := by unfold tn row; pointwise [k0_pay6]
theorem pay7_apply : k0_pay7 a b z (ix2 r j) = z (ix2 r j) + tn (row a) (row b) r j := by unfold tn row; pointwise [k0_pay7]
theorem pay8_apply : k0_pay8 a b z (ix2 r j) = z (ix2 r j) + tn (row a) (row b) r j := by unfold tn row; pointwise [k0_pay8]
theorem pay9_apply : k0_pay9 a b (ix2 r j) = tn (row a) (row b) r j := by unfold tn row; pointwise [k0_pay9]

/-- A band of the first factor's columns. -/
theorem band {o : ℕ} (inb : ∀ i, (![0, o] : Fin 2 → ℕ) i + (![2048, 256] : Fin 2 → ℕ) i ≤ S2048x1024.size i) (R : Fin 1024) (hR : R.val = o + r.val) :
    tn (row (View.ld x (Rect.unit ![0, o] ![2048, 256] inb) : Vec Ideal S2048x256 .bf16)) (row b) r j = tn (row x) (row b) R j := by
  refine Finset.sum_congr rfl fun k _ => congrArg (· * _) ?_
  exact congrArg x (funext fun d => Fin.ext (by
    match d with
    | 0 => exact (Nat.zero_add _).trans (Nat.one_mul _)
    | 1 => exact (congrArg (o + ·) (Nat.one_mul _)).trans hR.symm))

/-- A band of the running block's rows. -/
theorem old {o : ℕ} (inb : ∀ i, (![o, 0] : Fin 2 → ℕ) i + (![256, 1024] : Fin 2 → ℕ) i ≤ S1024x1024.size i) (R : Fin 1024) (hR : R.val = o + r.val) :
    (View.ld acc (Rect.unit ![o, 0] ![256, 1024] inb) : Vec Ideal S256x1024 .f32) (ix2 r j) = acc (ix2 R j) :=
  congrArg acc (funext fun d => Fin.ext (by
    match d with
    | 0 => exact (congrArg (o + ·) (Nat.one_mul _)).trans hR.symm
    | 1 => exact (Nat.zero_add _).trans (Nat.one_mul _)))

end Bands

variable (m : (ℓ : Loc nD τ sig) → Buf (Elt Ideal) ℓ) (c : Dev nD) (R : Fin 1024) (j : Fin 1024)

/-- At the first point of a block's run. -/
theorem first (t : Fin cfg0.N) (h : t.val % 4 = 0) : outsAt0 m c t.val t.isLt (ix2 R j) = tn (row (iblk m c 0 t)) (row (iblk m c 1 t)) R j := by
  rw [outsAt0_A m c t h (by have := lt_of_lt_of_eq t.isLt N_0; omega)]; frame_out
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay4_apply _ _ _ _).trans (band _ _ _ _ _ R (by show R.val = 768 + (R.val - 768); omega))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay3_apply _ _ _ _).trans (band _ _ _ _ _ R (by show R.val = 512 + (R.val - 512); omega))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay2_apply _ _ _ _).trans (band _ _ _ _ _ R (by show R.val = 256 + (R.val - 256); omega))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay1_apply _ _ _ _).trans (band _ _ _ _ _ R (by show R.val = 0 + (R.val - 0); omega))

/-- At a later point of a block's run. -/
theorem next (t : Fin cfg0.N) (h : ¬t.val % 4 = 0) : outsAt0 m c t.val t.isLt (ix2 R j) =
    outsAt0 m c (t.val - 1) (Nat.lt_of_le_of_lt (Nat.sub_le _ _) t.isLt) (ix2 R j) + tn (row (iblk m c 0 t)) (row (iblk m c 1 t)) R j := by
  rw [outsAt0_B m c t h (by have := lt_of_lt_of_eq t.isLt N_0; omega)]; frame_out
  generalize outsAt0 m c (t.val - 1) _ = acc
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay5_apply _ _ _ _).trans (congrArg₂ (· + ·) (old acc _ _ _ R (by show R.val = 768 + (R.val - 768); omega)) ((pay9_apply _ _ _ _).trans (band _ _ _ _ _ R (by show R.val = 768 + (R.val - 768); omega))))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay8_apply _ _ _ _ _).trans (congrArg₂ (· + ·) (old acc _ _ _ R (by show R.val = 512 + (R.val - 512); omega)) (band _ _ _ _ _ R (by show R.val = 512 + (R.val - 512); omega)))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay7_apply _ _ _ _ _).trans (congrArg₂ (· + ·) (old acc _ _ _ R (by show R.val = 256 + (R.val - 256); omega)) (band _ _ _ _ _ R (by show R.val = 256 + (R.val - 256); omega)))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay6_apply _ _ _ _ _).trans (congrArg₂ (· + ·) (old acc _ _ _ R (by show R.val = 0 + (R.val - 0); omega)) (band _ _ _ _ _ R (by show R.val = 0 + (R.val - 0); omega)))

end Cert.GradDownIdeal.Point
end
-- ==== Proof.GradDownArrays.lean ====
module

public import proofs.«01_k».proof.Proof.GradDownPoint

@[expose] public section

set_option maxRecDepth 16384

noncomputable section

namespace Cert.GradDownIdeal.Arrays

open Cert.GradDownIdeal Cert.GradDownIdeal.Gen Cert.GradDownIdeal.Point Idealize.ShloMosaic Idealize.ShloMosaic.TcCoe Idealize.SL.Sem Cert.MemSpec Cert.GradSpec

variable (m : (ℓ : Loc nD τ sig) → Buf (Elt Ideal) ℓ) (c : Dev nD)

theorem N_eq : cfg0.N = 16 := N_0

/-- The launch's arrays. -/
abbrev A : FVec Ideal S8192x4096 .bf16 := m ((c : Thread nD τ).loc main_arg0)
abbrev B : FVec Ideal S8192x1024 .bf16 := m ((c : Thread nD τ).loc main_arg1)

/-- Row `k` of the factors' blocks at point `t` and column `R` of the first one's, as a row and a column of the arrays. -/
def lane (t : Fin cfg0.N) (k : Fin 2048) : Fin 8192 := ⟨t.val % 4 * 2048 + k.val, by omega⟩
def side (t : Fin cfg0.N) (R : Fin 1024) : Fin 4096 := ⟨t.val / 4 * 1024 + R.val, by have h := lt_of_lt_of_eq t.isLt N_eq; omega⟩

/-- Where the windows' blocks lie. -/
theorem places : ∀ t : Fin cfg0.N, (win0_0.index t 0 = t.val % 4 ∧ win0_0.index t 1 = t.val / 4) ∧ (win0_1.index t 0 = t.val % 4 ∧ win0_1.index t 1 = 0) ∧
    (win0_2.index t 0 = t.val / 4 ∧ win0_2.index t 1 = 0) := by decide +kernel

theorem at0 (t : Fin cfg0.N) (k : Fin 2048) (R : Fin 1024) : row (iblk m c 0 t) k R = row (A m c) (lane t k) (side t R) := by
  have e := places t
  unfold row lane side A; blk_ext [iblk, V, e.1.1, e.1.2]
theorem at1 (t : Fin cfg0.N) (k : Fin 2048) (j : Fin 1024) : row (iblk m c 1 t) k j = row (B m c) (lane t k) j := by
  have e := places t
  unfold row lane B; blk_ext [iblk, V, e.2.1.1, e.2.1.2]

theorem part (t : Fin cfg0.N) (R : Fin 1024) (j : Fin 1024) : tn (row (iblk m c 0 t)) (row (iblk m c 1 t)) R j =
    ∑ k : Fin 2048, row (A m c) (lane t k) (side t R) * row (B m c) (lane t k) j :=
  Finset.sum_congr rfl fun k _ => congrArg₂ (· * ·) (at0 m c t k R) (at1 m c t k j)

/-- A block after the last point of its run. -/
theorem last (t : Fin cfg0.N) (h : t.val % 4 = 4 - 1) (R : Fin 1024) (j : Fin 1024) :
    outsAt0 m c t.val t.isLt (ix2 R j) = tn (row (A m c)) (row (B m c)) (side t R) j := by
  have e := Pipeline.eq_sum_fin_of_reset_step_apply_of_flush (fun n h => outsAt0 m c n h) 4 (fun _ => 0)
    (fun t y => ∑ k : Fin 2048, row (A m c) (lane t k) (side t (y 0)) * row (B m c) (lane t k) (y 1))
    (fun t h y => by
      idx_vars y
      rw [zero_add]
      exact (first m c _ _ t h).trans (part m c t _ _))
    (fun t h y => by
      idx_vars y
      exact (next m c _ _ t h).trans (congrArg _ (part m c t _ _)))
    t h (ix2 R j)
  rw [zero_add] at e
  refine e.trans ?_
  refine Fin.sum_mul_add_congr (fun s k hl => ?_) (by rfl)
  have a : lane ⟨4 * (t.val / 4) + s.val, Pipeline.run_point_lt_of_flush t h s⟩ k = ⟨s.val * 2048 + k.val, hl⟩ :=
    Fin.ext (by show (4 * (t.val / 4) + s.val) % 4 * 2048 + k.val = s.val * 2048 + k.val; omega)
  have b : side ⟨4 * (t.val / 4) + s.val, Pipeline.run_point_lt_of_flush t h s⟩ R = side t R :=
    Fin.ext (by show (4 * (t.val / 4) + s.val) / 4 * 1024 + R.val = t.val / 4 * 1024 + R.val; omega)
  show row (A m c) (lane _ k) (side _ R) * row (B m c) (lane _ k) j = _
  rw [a, b]

/-- The result: `act` transposed with `dpre2`. -/
theorem final : (dats m 0 c).arrAt 2 cfg0.N = fun i : S4096x1024.Idx => tn (row (A m c)) (row (B m c)) (i 0) (i 1) := by
  refine (dats m 0 c).arrAt_eq_of_covers 2 _ (by decide +kernel) fun t hf y => ?_
  blk_simp
  rw [after0_2]
  have e := places t
  idx_vars y
  refine (last m c t ((flush0_2 t).mp hf) y0 y1).trans ?_
  have a : ((View.whole main_v0).slice (win0_2.rect t)).emb (ix2 y0 y1) = ix2 (side t y0) y1 := by
    unfold side; blk_ext [e.2.2.1, e.2.2.2]
  rw [a]
  rfl

end Cert.GradDownIdeal.Arrays
end
-- ==== Proof.GradDownClaim.lean ====
module

public import proofs.«01_k».proof.Defs
public import proofs.«01_k».proof.Proof.Gen.GradDown
public import proofs.«01_k».proof.Proof.Gen.GradDownIdeal
public import proofs.«01_k».proof.Proof.Gen.GradDownReferenceIdeal
public import proofs.«01_k».proof.Proof.Gen.GradDown.Frame
public import proofs.«01_k».proof.Proof.Gen.GradDownReferenceIdeal.Run
public import proofs.«01_k».proof.Proof.Gen.GradDownReferenceIdeal.Read
public import proofs.«01_k».proof.Proof.GradDownArrays

@[expose] public section

set_option maxRecDepth 16384

noncomputable section

namespace Cert.GradDownClaim

open Idealize.ShloMosaic Idealize.SL.Sem Cert.MemSpec Cert.GradSpec

theorem frame_kernel : Cert.quiescent_GradDown := fun m ρ _ => Cert.GradDown.Gen.frame m ρ

theorem frame_ideal : Cert.quiescent_GradDownIdeal := fun m ρ _ => Cert.GradDownIdeal.Gen.frame m ρ

theorem frame_reference : Cert.quiescent_GradDownReferenceIdeal := fun m ρ _ =>
  (θ_run Cert.GradDownReferenceIdeal.defs _ _).mono (fun r h => ⟨fun c => (h c).2, sem_eq_zero_of_no_sems (by decide) r.2⟩)
    (Cert.GradDownReferenceIdeal.Value.run (F := Ideal) m ρ)

/-- The reference's result at an index. -/
theorem out_at (A : FVec Ideal Cert.GradDownReferenceIdeal.S8192x4096 .bf16) (B : FVec Ideal Cert.GradDownReferenceIdeal.S8192x1024 .bf16) (i : Fin 4096) (j : Fin 1024) :
    Cert.GradDownReferenceIdeal.Read.val_main_v5 (F := Ideal) A B (ix2 i j) = tn (row A) (row B) i j := by
  rw [← tn_swap]
  unfold row Cert.GradDownReferenceIdeal.Read.val_main_v5 Cert.GradDownReferenceIdeal.Read.val_main_v4 Cert.GradDownReferenceIdeal.Read.val_main_v3 Cert.GradDownReferenceIdeal.Read.val_main_v0
  pointwise []

/-- Kernel and reference compute the same gradient. -/
theorem value : Cert.algebraic_GradDownIdeal_GradDownReferenceIdeal := by
  intro m g m' g' _ hargs
  refine ⟨fun c i => tn (row (Cert.GradDownIdeal.Arrays.A m c)) (row (Cert.GradDownIdeal.Arrays.B m c)) (i 0) (i 1), ?_, ?_⟩
  · refine (θ_run Cert.GradDownIdeal.defs _ _).mono (fun r h c => ?_) (Cert.GradDownIdeal.Value.run_blocks (F := Ideal) m g)
    exact ⟨(h c).1.trans (Cert.GradDownIdeal.Arrays.final m c), (h c).2⟩
  · refine (θ_run Cert.GradDownReferenceIdeal.defs _ _).mono (fun r h c => ?_) (Cert.GradDownReferenceIdeal.Value.run (F := Ideal) m' g')
    obtain ⟨h0, k⟩ := h c
    obtain ⟨a0, a1⟩ := hargs c
    replace h0 := h0.trans (Cert.GradDownReferenceIdeal.Read.val_main_v5_eq _ _)
    replace a0 : m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0) := a0
    replace a1 : m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1) := a1
    rw [a0, a1] at h0
    refine ⟨h0.trans (funext fun i => ?_), k⟩
    obtain ⟨k, b, rfl⟩ : ∃ (k : Fin 4096) (b : Fin 1024), i = ix2 k b := ⟨i 0, i 1, by idx_vars i⟩
    exact out_at _ _ k b

end Cert.GradDownClaim
end
-- ==== Proof.GradUpPoint.lean ====
module

public import proofs.«01_k».proof.Proof.Gen.GradUpIdeal.Value
public import proofs.«01_k».proof.Proof.GradSpec
public import proofs.«01_k».proof.Proof.MlpLane

@[expose] public section

set_option maxRecDepth 16384

noncomputable section

namespace Cert.GradUpIdeal.Point

open Cert.GradUpIdeal Cert.GradUpIdeal.Gen Idealize.ShloMosaic Idealize.ShloMosaic.TcCoe Idealize.SL.Sem Cert.MemSpec Cert.GradSpec
open Cert.MlpLossIdeal.Point (canon_hit canon_miss)

section Bands

variable (a : Vec Ideal S2048x256 .bf16) (b : Vec Ideal S2048x1024 .bf16) (z : Vec Ideal S1x256x1024 .f32) (v : FVec Ideal S256x1024 .f32)
variable (x : Vec Ideal S2048x1024 .bf16) (acc : Vec Ideal S1x1024x1024 .f32) (r : Fin 256) (j : Fin 1024)

theorem pay3_apply : k0_pay3 a b (ix3 0 r j) = tn (row a) (row b) r j := by unfold tn row; pointwise [k0_pay3]
theorem pay4_apply : k0_pay4 a b (ix3 0 r j) = tn (row a) (row b) r j := by unfold tn row; pointwise [k0_pay4]
theorem pay5_apply : k0_pay5 a b (ix3 0 r j) = tn (row a) (row b) r j := by unfold tn row; pointwise [k0_pay5]
theorem pay6_apply : k0_pay6 a b (ix3 0 r j) = tn (row a) (row b) r j := by unfold tn row; pointwise [k0_pay6]
theorem pay7_apply : k0_pay7 a b z (ix3 0 r j) = z (ix3 0 r j) + tn (row a) (row b) r j := by unfold tn row; pointwise [k0_pay7]
theorem pay8_apply : k0_pay8 a b z (ix3 0 r j) = z (ix3 0 r j) + tn (row a) (row b) r j := by unfold tn row; pointwise [k0_pay8]
theorem pay2_apply : k0_pay2 a b z (ix3 0 r j) = z (ix3 0 r j) + tn (row a) (row b) r j := by unfold tn row; pointwise [k0_pay2]
theorem pay9_apply : k0_pay9 a b z (ix2 r j) = z (ix3 0 r j) + tn (row a) (row b) r j := by unfold tn row; pointwise [k0_pay9]
theorem pay1_apply : k0_pay1 v (ix3 0 r j) = v (ix2 r j) := by pointwise [k0_pay1]

/-- A band of the first factor's columns. -/
theorem band {o : ℕ} (inb : ∀ i, (![0, o] : Fin 2 → ℕ) i + (![2048, 256] : Fin 2 → ℕ) i ≤ S2048x1024.size i) (R : Fin 1024) (hR : R.val = o + r.val) :
    tn (row (View.ld x (Rect.unit ![0, o] ![2048, 256] inb) : Vec Ideal S2048x256 .bf16)) (row b) r j = tn (row x) (row b) R j := by
  refine Finset.sum_congr rfl fun k _ => congrArg (· * _) ?_
  exact congrArg x (funext fun d => Fin.ext (by
    match d with
    | 0 => exact (Nat.zero_add _).trans (Nat.one_mul _)
    | 1 => exact (congrArg (o + ·) (Nat.one_mul _)).trans hR.symm))

/-- A band of the running panel's rows. -/
theorem old {o : ℕ} (inb : ∀ i, (![0, o, 0] : Fin 3 → ℕ) i + (![1, 256, 1024] : Fin 3 → ℕ) i ≤ S1x1024x1024.size i) (R : Fin 1024) (hR : R.val = o + r.val) :
    (View.ld acc (Rect.unit ![0, o, 0] ![1, 256, 1024] inb) : Vec Ideal S1x256x1024 .f32) (ix3 0 r j) = acc (ix3 0 R j) :=
  congrArg acc (funext fun d => Fin.ext (by
    match d with
    | 0 => rfl
    | 1 => exact (congrArg (o + ·) (Nat.one_mul _)).trans hR.symm
    | 2 => exact (Nat.zero_add _).trans (Nat.one_mul _)))

end Bands

variable (m : (ℓ : Loc nD τ sig) → Buf (Elt Ideal) ℓ) (c : Dev nD) (R : Fin 1024) (j : Fin 1024)

/-- At the first point of a panel's run. -/
theorem first (t : Fin cfg0.N) (h : t.val % 4 = 0) : outsAt0 m c t.val t.isLt (ix3 0 R j) = tn (row (iblk m c 0 t)) (row (iblk m c 1 t)) R j := by
  rw [outsAt0_A m c t h (by have := lt_of_lt_of_eq t.isLt N_0; omega)]; frame_out
  have same : ∀ (o : ℕ) (h : o ≤ R.val) (h' : R.val - o < 256), ∀ i : Fin 3, ((ix3 0 R j : S1x1024x1024.Idx) i).val =
      (![0, o, 0] : Fin 3 → ℕ) i + ((ix3 0 (⟨R.val - o, h'⟩ : Fin 256) j : S1x256x1024.Idx) i).val := fun o h h' i =>
    match i with
    | 0 => rfl
    | 1 => (Nat.add_sub_cancel' h).symm
    | 2 => (Nat.zero_add _).symm
  have hR := R.isLt
  by_cases c768 : 768 ≤ R.val
  · refine (canon_hit _ _ _ _ (ix3 0 (⟨R.val - 768, by omega⟩ : Fin 256) j) (same 768 (by omega) (by omega))).trans ?_
    exact (pay6_apply _ _ _ _).trans (band _ _ _ _ _ R (by show R.val = 768 + (R.val - 768); omega))
  refine (canon_miss _ _ _ _ 1 (by show R.val < 768 ∨ 768 + 256 ≤ R.val; omega)).trans ?_
  by_cases c512 : 512 ≤ R.val
  · refine (canon_hit _ _ _ _ (ix3 0 (⟨R.val - 512, by omega⟩ : Fin 256) j) (same 512 (by omega) (by omega))).trans ?_
    exact (pay5_apply _ _ _ _).trans (band _ _ _ _ _ R (by show R.val = 512 + (R.val - 512); omega))
  refine (canon_miss _ _ _ _ 1 (by show R.val < 512 ∨ 512 + 256 ≤ R.val; omega)).trans ?_
  by_cases c256 : 256 ≤ R.val
  · refine (canon_hit _ _ _ _ (ix3 0 (⟨R.val - 256, by omega⟩ : Fin 256) j) (same 256 (by omega) (by omega))).trans ?_
    exact (pay4_apply _ _ _ _).trans (band _ _ _ _ _ R (by show R.val = 256 + (R.val - 256); omega))
  refine (canon_miss _ _ _ _ 1 (by show R.val < 256 ∨ 256 + 256 ≤ R.val; omega)).trans ?_
  refine (canon_hit _ _ _ _ (ix3 0 (⟨R.val - 0, by omega⟩ : Fin 256) j) (same 0 (by omega) (by omega))).trans ?_
  exact (pay3_apply _ _ _ _).trans (band _ _ _ _ _ R (by show R.val = 0 + (R.val - 0); omega))

/-- At a later point of a panel's run. -/
theorem next (t : Fin cfg0.N) (h : ¬t.val % 4 = 0) : outsAt0 m c t.val t.isLt (ix3 0 R j) =
    outsAt0 m c (t.val - 1) (Nat.lt_of_le_of_lt (Nat.sub_le _ _) t.isLt) (ix3 0 R j) + tn (row (iblk m c 0 t)) (row (iblk m c 1 t)) R j := by
  rw [outsAt0_B m c t h (by have := lt_of_lt_of_eq t.isLt N_0; omega)]; frame_out
  generalize outsAt0 m c (t.val - 1) _ = acc
  have same : ∀ (o : ℕ) (h : o ≤ R.val) (h' : R.val - o < 256), ∀ i : Fin 3, ((ix3 0 R j : S1x1024x1024.Idx) i).val =
      (![0, o, 0] : Fin 3 → ℕ) i + ((ix3 0 (⟨R.val - o, h'⟩ : Fin 256) j : S1x256x1024.Idx) i).val := fun o h h' i =>
    match i with
    | 0 => rfl
    | 1 => (Nat.add_sub_cancel' h).symm
    | 2 => (Nat.zero_add _).symm
  have hR := R.isLt
  by_cases c768 : 768 ≤ R.val
  · refine (canon_hit _ _ _ _ (ix3 0 (⟨R.val - 768, by omega⟩ : Fin 256) j) (same 768 (by omega) (by omega))).trans ?_
    exact (pay2_apply _ _ _ _ _).trans (congrArg₂ (· + ·) (old acc _ _ _ R (by show R.val = 768 + (R.val - 768); omega)) (band _ _ _ _ _ R (by show R.val = 768 + (R.val - 768); omega)))
  refine (canon_miss _ _ _ _ 1 (by show R.val < 768 ∨ 768 + 256 ≤ R.val; omega)).trans ?_
  by_cases c512 : 512 ≤ R.val
  · refine (canon_hit _ _ _ _ (ix3 0 (⟨R.val - 512, by omega⟩ : Fin 256) j) (same 512 (by omega) (by omega))).trans ?_
    exact (pay1_apply _ _ _).trans ((pay9_apply _ _ _ _ _).trans (congrArg₂ (· + ·) (old acc _ _ _ R (by show R.val = 512 + (R.val - 512); omega)) (band _ _ _ _ _ R (by show R.val = 512 + (R.val - 512); omega))))
  refine (canon_miss _ _ _ _ 1 (by show R.val < 512 ∨ 512 + 256 ≤ R.val; omega)).trans ?_
  by_cases c256 : 256 ≤ R.val
  · refine (canon_hit _ _ _ _ (ix3 0 (⟨R.val - 256, by omega⟩ : Fin 256) j) (same 256 (by omega) (by omega))).trans ?_
    exact (pay8_apply _ _ _ _ _).trans (congrArg₂ (· + ·) (old acc _ _ _ R (by show R.val = 256 + (R.val - 256); omega)) (band _ _ _ _ _ R (by show R.val = 256 + (R.val - 256); omega)))
  refine (canon_miss _ _ _ _ 1 (by show R.val < 256 ∨ 256 + 256 ≤ R.val; omega)).trans ?_
  refine (canon_hit _ _ _ _ (ix3 0 (⟨R.val - 0, by omega⟩ : Fin 256) j) (same 0 (by omega) (by omega))).trans ?_
  exact (pay7_apply _ _ _ _ _).trans (congrArg₂ (· + ·) (old acc _ _ _ R (by show R.val = 0 + (R.val - 0); omega)) (band _ _ _ _ _ R (by show R.val = 0 + (R.val - 0); omega)))

end Cert.GradUpIdeal.Point
end
-- ==== Proof.GradUpArrays.lean ====
module

public import proofs.«01_k».proof.Proof.GradUpPoint

@[expose] public section

set_option maxRecDepth 16384

noncomputable section

namespace Cert.GradUpIdeal.Arrays

open Cert.GradUpIdeal Cert.GradUpIdeal.Gen Cert.GradUpIdeal.Point Idealize.ShloMosaic Idealize.ShloMosaic.TcCoe Idealize.SL.Sem Cert.MemSpec Cert.GradSpec

variable (m : (ℓ : Loc nD τ sig) → Buf (Elt Ideal) ℓ) (c : Dev nD)

theorem N_eq : cfg0.N = 16 := N_0

/-- The launch's arrays. -/
abbrev A : FVec Ideal S8192x1024 .bf16 := m ((c : Thread nD τ).loc main_arg0)
abbrev B : FVec Ideal S8192x4096 .bf16 := m ((c : Thread nD τ).loc main_arg1)

/-- The column of the second factor that column `j` of panel `p` stands for. -/
def wide (p : Fin 4) (j : Fin 1024) : Fin 4096 := ⟨p.val * 1024 + j.val, by omega⟩

/-- Row `k` of the factors' blocks at point `t`, and the panel the point works on. -/
def lane (t : Fin cfg0.N) (k : Fin 2048) : Fin 8192 := ⟨t.val % 4 * 2048 + k.val, by omega⟩
def panel (t : Fin cfg0.N) : Fin 4 := ⟨t.val / 4, by have h := lt_of_lt_of_eq t.isLt N_eq; omega⟩

/-- Where the windows' blocks lie. -/
theorem places : ∀ t : Fin cfg0.N, (win0_0.index t 0 = t.val % 4 ∧ win0_0.index t 1 = 0) ∧ (win0_1.index t 0 = t.val % 4 ∧ win0_1.index t 1 = t.val / 4) ∧
    (win0_2.index t 0 = t.val / 4 ∧ win0_2.index t 1 = 0 ∧ win0_2.index t 2 = 0) := by decide +kernel

theorem at0 (t : Fin cfg0.N) (k : Fin 2048) (R : Fin 1024) : row (iblk m c 0 t) k R = row (A m c) (lane t k) R := by
  have e := places t
  unfold row lane A; blk_ext [iblk, V, e.1.1, e.1.2]
theorem at1 (t : Fin cfg0.N) (k : Fin 2048) (j : Fin 1024) : row (iblk m c 1 t) k j = row (B m c) (lane t k) (wide (panel t) j) := by
  have e := places t
  unfold row lane wide panel B; blk_ext [iblk, V, e.2.1.1, e.2.1.2]

theorem part (t : Fin cfg0.N) (R : Fin 1024) (j : Fin 1024) : tn (row (iblk m c 0 t)) (row (iblk m c 1 t)) R j =
    ∑ k : Fin 2048, row (A m c) (lane t k) R * row (B m c) (lane t k) (wide (panel t) j) :=
  Finset.sum_congr rfl fun k _ => congrArg₂ (· * ·) (at0 m c t k R) (at1 m c t k j)

/-- A panel after the last point of its run. -/
theorem last (t : Fin cfg0.N) (h : t.val % 4 = 4 - 1) (R : Fin 1024) (j : Fin 1024) :
    outsAt0 m c t.val t.isLt (ix3 0 R j) = tn (row (A m c)) (row (B m c)) R (wide (panel t) j) := by
  have e := Pipeline.eq_sum_fin_of_reset_step_apply_of_flush (fun n h (y : Fin 1024 × Fin 1024) => outsAt0 m c n h (ix3 0 y.1 y.2)) 4 (fun _ => 0)
    (fun t y => ∑ k : Fin 2048, row (A m c) (lane t k) y.1 * row (B m c) (lane t k) (wide (panel t) y.2))
    (fun t h y => by
      rw [zero_add]
      exact (first m c _ _ t h).trans (part m c t _ _))
    (fun t h y => (next m c _ _ t h).trans (congrArg _ (part m c t _ _)))
    t h (R, j)
  rw [zero_add] at e
  refine e.trans ?_
  refine Fin.sum_mul_add_congr (fun s k hl => ?_) (by rfl)
  have a : lane ⟨4 * (t.val / 4) + s.val, Pipeline.run_point_lt_of_flush t h s⟩ k = ⟨s.val * 2048 + k.val, hl⟩ :=
    Fin.ext (by show (4 * (t.val / 4) + s.val) % 4 * 2048 + k.val = s.val * 2048 + k.val; omega)
  have b : panel ⟨4 * (t.val / 4) + s.val, Pipeline.run_point_lt_of_flush t h s⟩ = panel t :=
    Fin.ext (by show (4 * (t.val / 4) + s.val) / 4 = t.val / 4; omega)
  show row (A m c) (lane _ k) R * row (B m c) (lane _ k) (wide (panel _) j) = _
  rw [a, b]

/-- The result, panel by panel: `h1` transposed with `du`. -/
theorem final : (dats m 0 c).arrAt 2 cfg0.N = fun i : S4x1024x1024.Idx => tn (row (A m c)) (row (B m c)) (i 1) (wide (i 0) (i 2)) := by
  refine (dats m 0 c).arrAt_eq_of_covers 2 _ (by decide +kernel) fun t hf y => ?_
  blk_simp
  rw [after0_2]
  have e := places t
  idx_vars y
  have z : y0 = 0 := Subsingleton.elim _ _
  subst z
  refine (last m c t ((flush0_2 t).mp hf) y1 y2).trans ?_
  have a : ((View.whole main_v0).slice (win0_2.rect t)).emb (ix3 0 y1 y2) = ix3 (panel t) y1 y2 := by
    unfold panel; blk_ext [e.2.2.1, e.2.2.2.1, e.2.2.2.2]
  rw [a]
  rfl

end Cert.GradUpIdeal.Arrays
end
-- ==== Proof.GradUpClaim.lean ====
module

public import proofs.«01_k».proof.Defs
public import proofs.«01_k».proof.Proof.Gen.GradUp
public import proofs.«01_k».proof.Proof.Gen.GradUpIdeal
public import proofs.«01_k».proof.Proof.Gen.GradUpReferenceIdeal
public import proofs.«01_k».proof.Proof.Gen.GradUp.Frame
public import proofs.«01_k».proof.Proof.Gen.GradUpReferenceIdeal.Run
public import proofs.«01_k».proof.Proof.Gen.GradUpReferenceIdeal.Read
public import proofs.«01_k».proof.Proof.GradUpArrays

@[expose] public section

set_option maxRecDepth 16384

noncomputable section

namespace Cert.GradUpClaim

open Idealize.ShloMosaic Idealize.SL.Sem Cert.MemSpec Cert.GradSpec

theorem frame_kernel : Cert.quiescent_GradUp := fun m ρ _ => Cert.GradUp.Gen.frame m ρ

theorem frame_ideal : Cert.quiescent_GradUpIdeal := fun m ρ _ => Cert.GradUpIdeal.Gen.frame m ρ

theorem frame_reference : Cert.quiescent_GradUpReferenceIdeal := fun m ρ _ =>
  (θ_run Cert.GradUpReferenceIdeal.defs _ _).mono (fun r h => ⟨fun c => (h c).2, sem_eq_zero_of_no_sems (by decide) r.2⟩)
    (Cert.GradUpReferenceIdeal.Value.run (F := Ideal) m ρ)

/-- The reference's result at an index. -/
theorem out_at (A : FVec Ideal Cert.GradUpReferenceIdeal.S8192x1024 .bf16) (B : FVec Ideal Cert.GradUpReferenceIdeal.S8192x4096 .bf16) (p : Fin 4) (i j : Fin 1024) :
    Cert.GradUpReferenceIdeal.Read.val_main_v7 (F := Ideal) A B (ix3 p i j) = tn (row A) (row B) i (Cert.GradUpIdeal.Arrays.wide p j) := by
  rw [← tn_swap]
  unfold row Cert.GradUpIdeal.Arrays.wide Cert.GradUpReferenceIdeal.Read.val_main_v7 Cert.GradUpReferenceIdeal.Read.val_main_v6 Cert.GradUpReferenceIdeal.Read.val_main_v5 Cert.GradUpReferenceIdeal.Read.val_main_v4 Cert.GradUpReferenceIdeal.Read.val_main_v3 Cert.GradUpReferenceIdeal.Read.val_main_v0
  pointwise []

/-- Kernel and reference compute the same gradient. -/
theorem value : Cert.algebraic_GradUpIdeal_GradUpReferenceIdeal := by
  intro m g m' g' _ hargs
  refine ⟨fun c i => tn (row (Cert.GradUpIdeal.Arrays.A m c)) (row (Cert.GradUpIdeal.Arrays.B m c)) (i 1) (Cert.GradUpIdeal.Arrays.wide (i 0) (i 2)), ?_, ?_⟩
  · refine (θ_run Cert.GradUpIdeal.defs _ _).mono (fun r h c => ?_) (Cert.GradUpIdeal.Value.run_blocks (F := Ideal) m g)
    exact ⟨(h c).1.trans (Cert.GradUpIdeal.Arrays.final m c), (h c).2⟩
  · refine (θ_run Cert.GradUpReferenceIdeal.defs _ _).mono (fun r h c => ?_) (Cert.GradUpReferenceIdeal.Value.run (F := Ideal) m' g')
    obtain ⟨h0, k⟩ := h c
    obtain ⟨a0, a1⟩ := hargs c
    replace h0 := h0.trans (Cert.GradUpReferenceIdeal.Read.val_main_v7_eq _ _)
    replace a0 : m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0) := a0
    replace a1 : m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1) := a1
    rw [a0, a1] at h0
    refine ⟨h0.trans (funext fun i => ?_), k⟩
    obtain ⟨p, k, b, rfl⟩ : ∃ (p : Fin 4) (k b : Fin 1024), i = ix3 p k b := ⟨i 0, i 1, i 2, by idx_vars i⟩
    exact out_at _ _ p k b

end Cert.GradUpClaim
end
-- ==== Proof.GradInAPoint.lean ====
module

public import proofs.«01_k».proof.Proof.Gen.GradInAIdeal.Value
public import proofs.«01_k».proof.Proof.GradSpec
public import proofs.«01_k».proof.Proof.MlpLane

@[expose] public section

set_option maxRecDepth 16384

noncomputable section

namespace Cert.GradInAIdeal.Point

open Cert.GradInAIdeal Cert.GradInAIdeal.Gen Idealize.ShloMosaic Idealize.ShloMosaic.TcCoe Idealize.SL.Sem Cert.MemSpec Cert.GradSpec
open Cert.MlpLossIdeal.Point (canon_hit canon_miss)

section Bands

variable (a : Vec Ideal S2048x256 .bf16) (b : Vec Ideal S2048x1024 .bf16) (z : Vec Ideal S256x1024 .f32) (v : FVec Ideal S256x1024 .f32)
variable (x : Vec Ideal S2048x1024 .bf16) (acc : Vec Ideal S1024x1024 .f32) (r : Fin 256) (j : Fin 1024)

theorem pay1_apply : k0_pay1 a b (ix2 r j) = tn (row a) (row b) r j := by unfold tn row; pointwise [k0_pay1]
theorem pay2_apply : k0_pay2 a b (ix2 r j) = tn (row a) (row b) r j := by unfold tn row; pointwise [k0_pay2]
theorem pay3_apply : k0_pay3 a b (ix2 r j) = tn (row a) (row b) r j := by unfold tn row; pointwise [k0_pay3]
theorem pay4_apply : k0_pay4 a b (ix2 r j) = tn (row a) (row b) r j := by unfold tn row; pointwise [k0_pay4]
theorem pay5_apply : k0_pay5 v z (ix2 r j) = z (ix2 r j) + v (ix2 r j) := by pointwise [k0_pay5]
theorem pay6_apply : k0_pay6 a b z (ix2 r j) = z (ix2 r j) + tn (row a) (row b) r j := by unfold tn row; pointwise [k0_pay6]
theorem pay7_apply : k0_pay7 a b z (ix2 r j) = z (ix2 r j) + tn (row a) (row b) r j := by unfold tn row; pointwise [k0_pay7]
theorem pay8_apply : k0_pay8 a b z (ix2 r j) = z (ix2 r j) + tn (row a) (row b) r j := by unfold tn row; pointwise [k0_pay8]
theorem pay9_apply : k0_pay9 a b (ix2 r j) = tn (row a) (row b) r j := by unfold tn row; pointwise [k0_pay9]

/-- A band of the first factor's columns. -/
theorem band {o : ℕ} (inb : ∀ i, (![0, o] : Fin 2 → ℕ) i + (![2048, 256] : Fin 2 → ℕ) i ≤ S2048x1024.size i) (R : Fin 1024) (hR : R.val = o + r.val) :
    tn (row (View.ld x (Rect.unit ![0, o] ![2048, 256] inb) : Vec Ideal S2048x256 .bf16)) (row b) r j = tn (row x) (row b) R j := by
  refine Finset.sum_congr rfl fun k _ => congrArg (· * _) ?_
  exact congrArg x (funext fun d => Fin.ext (by
    match d with
    | 0 => exact (Nat.zero_add _).trans (Nat.one_mul _)
    | 1 => exact (congrArg (o + ·) (Nat.one_mul _)).trans hR.symm))

/-- A band of the running block's rows. -/
theorem old {o : ℕ} (inb : ∀ i, (![o, 0] : Fin 2 → ℕ) i + (![256, 1024] : Fin 2 → ℕ) i ≤ S1024x1024.size i) (R : Fin 1024) (hR : R.val = o + r.val) :
    (View.ld acc (Rect.unit ![o, 0] ![256, 1024] inb) : Vec Ideal S256x1024 .f32) (ix2 r j) = acc (ix2 R j) :=
  congrArg acc (funext fun d => Fin.ext (by
    match d with
    | 0 => exact (congrArg (o + ·) (Nat.one_mul _)).trans hR.symm
    | 1 => exact (Nat.zero_add _).trans (Nat.one_mul _)))

end Bands

variable (m : (ℓ : Loc nD τ sig) → Buf (Elt Ideal) ℓ) (c : Dev nD) (R : Fin 1024) (j : Fin 1024)

/-- At the first point of a block's run. -/
theorem first (t : Fin cfg0.N) (h : t.val % 4 = 0) : outsAt0 m c t.val t.isLt (ix2 R j) = tn (row (iblk m c 0 t)) (row (iblk m c 1 t)) R j := by
  rw [outsAt0_A m c t h (by have := lt_of_lt_of_eq t.isLt N_0; omega)]; frame_out
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay4_apply _ _ _ _).trans (band _ _ _ _ _ R (by show R.val = 768 + (R.val - 768); omega))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay3_apply _ _ _ _).trans (band _ _ _ _ _ R (by show R.val = 512 + (R.val - 512); omega))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay2_apply _ _ _ _).trans (band _ _ _ _ _ R (by show R.val = 256 + (R.val - 256); omega))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay1_apply _ _ _ _).trans (band _ _ _ _ _ R (by show R.val = 0 + (R.val - 0); omega))

/-- At a later point of a block's run. -/
theorem next (t : Fin cfg0.N) (h : ¬t.val % 4 = 0) : outsAt0 m c t.val t.isLt (ix2 R j) =
    outsAt0 m c (t.val - 1) (Nat.lt_of_le_of_lt (Nat.sub_le _ _) t.isLt) (ix2 R j) + tn (row (iblk m c 0 t)) (row (iblk m c 1 t)) R j := by
  rw [outsAt0_B m c t h (by have := lt_of_lt_of_eq t.isLt N_0; omega)]; frame_out
  generalize outsAt0 m c (t.val - 1) _ = acc
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay5_apply _ _ _ _).trans (congrArg₂ (· + ·) (old acc _ _ _ R (by show R.val = 768 + (R.val - 768); omega)) ((pay9_apply _ _ _ _).trans (band _ _ _ _ _ R (by show R.val = 768 + (R.val - 768); omega))))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay8_apply _ _ _ _ _).trans (congrArg₂ (· + ·) (old acc _ _ _ R (by show R.val = 512 + (R.val - 512); omega)) (band _ _ _ _ _ R (by show R.val = 512 + (R.val - 512); omega)))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay7_apply _ _ _ _ _).trans (congrArg₂ (· + ·) (old acc _ _ _ R (by show R.val = 256 + (R.val - 256); omega)) (band _ _ _ _ _ R (by show R.val = 256 + (R.val - 256); omega)))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay6_apply _ _ _ _ _).trans (congrArg₂ (· + ·) (old acc _ _ _ R (by show R.val = 0 + (R.val - 0); omega)) (band _ _ _ _ _ R (by show R.val = 0 + (R.val - 0); omega)))

end Cert.GradInAIdeal.Point
end
-- ==== Proof.GradInAArrays.lean ====
module

public import proofs.«01_k».proof.Proof.GradInAPoint

@[expose] public section

set_option maxRecDepth 16384

noncomputable section

namespace Cert.GradInAIdeal.Arrays

open Cert.GradInAIdeal Cert.GradInAIdeal.Gen Cert.GradInAIdeal.Point Idealize.ShloMosaic Idealize.ShloMosaic.TcCoe Idealize.SL.Sem Cert.MemSpec Cert.GradSpec

variable (m : (ℓ : Loc nD τ sig) → Buf (Elt Ideal) ℓ) (c : Dev nD)

theorem N_eq : cfg0.N = 16 := N_0

/-- The launch's arrays. -/
abbrev A : FVec Ideal S8192x4096 .bf16 := m ((c : Thread nD τ).loc main_arg0)
abbrev B : FVec Ideal S8192x1024 .bf16 := m ((c : Thread nD τ).loc main_arg1)

/-- Row `k` of the factors' blocks at point `t` and column `R` of the first one's, as a row and a column of the arrays. -/
def lane (t : Fin cfg0.N) (k : Fin 2048) : Fin 8192 := ⟨t.val % 4 * 2048 + k.val, by omega⟩
def side (t : Fin cfg0.N) (R : Fin 1024) : Fin 4096 := ⟨t.val / 4 * 1024 + R.val, by have h := lt_of_lt_of_eq t.isLt N_eq; omega⟩

/-- Where the windows' blocks lie. -/
theorem places : ∀ t : Fin cfg0.N, (win0_0.index t 0 = t.val % 4 ∧ win0_0.index t 1 = t.val / 4) ∧ (win0_1.index t 0 = t.val % 4 ∧ win0_1.index t 1 = 0) ∧
    (win0_2.index t 0 = t.val / 4 ∧ win0_2.index t 1 = 0) := by decide +kernel

theorem at0 (t : Fin cfg0.N) (k : Fin 2048) (R : Fin 1024) : row (iblk m c 0 t) k R = row (A m c) (lane t k) (side t R) := by
  have e := places t
  unfold row lane side A; blk_ext [iblk, V, e.1.1, e.1.2]
theorem at1 (t : Fin cfg0.N) (k : Fin 2048) (j : Fin 1024) : row (iblk m c 1 t) k j = row (B m c) (lane t k) j := by
  have e := places t
  unfold row lane B; blk_ext [iblk, V, e.2.1.1, e.2.1.2]

theorem part (t : Fin cfg0.N) (R : Fin 1024) (j : Fin 1024) : tn (row (iblk m c 0 t)) (row (iblk m c 1 t)) R j =
    ∑ k : Fin 2048, row (A m c) (lane t k) (side t R) * row (B m c) (lane t k) j :=
  Finset.sum_congr rfl fun k _ => congrArg₂ (· * ·) (at0 m c t k R) (at1 m c t k j)

/-- A block after the last point of its run. -/
theorem last (t : Fin cfg0.N) (h : t.val % 4 = 4 - 1) (R : Fin 1024) (j : Fin 1024) :
    outsAt0 m c t.val t.isLt (ix2 R j) = tn (row (A m c)) (row (B m c)) (side t R) j := by
  have e := Pipeline.eq_sum_fin_of_reset_step_apply_of_flush (fun n h => outsAt0 m c n h) 4 (fun _ => 0)
    (fun t y => ∑ k : Fin 2048, row (A m c) (lane t k) (side t (y 0)) * row (B m c) (lane t k) (y 1))
    (fun t h y => by
      idx_vars y
      rw [zero_add]
      exact (first m c _ _ t h).trans (part m c t _ _))
    (fun t h y => by
      idx_vars y
      exact (next m c _ _ t h).trans (congrArg _ (part m c t _ _)))
    t h (ix2 R j)
  rw [zero_add] at e
  refine e.trans ?_
  refine Fin.sum_mul_add_congr (fun s k hl => ?_) (by rfl)
  have a : lane ⟨4 * (t.val / 4) + s.val, Pipeline.run_point_lt_of_flush t h s⟩ k = ⟨s.val * 2048 + k.val, hl⟩ :=
    Fin.ext (by show (4 * (t.val / 4) + s.val) % 4 * 2048 + k.val = s.val * 2048 + k.val; omega)
  have b : side ⟨4 * (t.val / 4) + s.val, Pipeline.run_point_lt_of_flush t h s⟩ R = side t R :=
    Fin.ext (by show (4 * (t.val / 4) + s.val) / 4 * 1024 + R.val = t.val / 4 * 1024 + R.val; omega)
  show row (A m c) (lane _ k) (side _ R) * row (B m c) (lane _ k) j = _
  rw [a, b]

/-- The result: `dz` transposed with `xb`. -/
theorem final : (dats m 0 c).arrAt 2 cfg0.N = fun i : S4096x1024.Idx => tn (row (A m c)) (row (B m c)) (i 0) (i 1) := by
  refine (dats m 0 c).arrAt_eq_of_covers 2 _ (by decide +kernel) fun t hf y => ?_
  blk_simp
  rw [after0_2]
  have e := places t
  idx_vars y
  refine (last m c t ((flush0_2 t).mp hf) y0 y1).trans ?_
  have a : ((View.whole main_v0).slice (win0_2.rect t)).emb (ix2 y0 y1) = ix2 (side t y0) y1 := by
    unfold side; blk_ext [e.2.2.1, e.2.2.2]
  rw [a]
  rfl

end Cert.GradInAIdeal.Arrays
end
-- ==== Proof.GradInAClaim.lean ====
module

public import proofs.«01_k».proof.Defs
public import proofs.«01_k».proof.Proof.Gen.GradInA
public import proofs.«01_k».proof.Proof.Gen.GradInAIdeal
public import proofs.«01_k».proof.Proof.Gen.GradInAReferenceIdeal
public import proofs.«01_k».proof.Proof.Gen.GradInA.Frame
public import proofs.«01_k».proof.Proof.Gen.GradInAReferenceIdeal.Run
public import proofs.«01_k».proof.Proof.Gen.GradInAReferenceIdeal.Read
public import proofs.«01_k».proof.Proof.GradInAArrays

@[expose] public section

set_option maxRecDepth 16384

noncomputable section

namespace Cert.GradInAClaim

open Idealize.ShloMosaic Idealize.SL.Sem Cert.MemSpec Cert.GradSpec

theorem frame_kernel : Cert.quiescent_GradInA := fun m ρ _ => Cert.GradInA.Gen.frame m ρ

theorem frame_ideal : Cert.quiescent_GradInAIdeal := fun m ρ _ => Cert.GradInAIdeal.Gen.frame m ρ

theorem frame_reference : Cert.quiescent_GradInAReferenceIdeal := fun m ρ _ =>
  (θ_run Cert.GradInAReferenceIdeal.defs _ _).mono (fun r h => ⟨fun c => (h c).2, sem_eq_zero_of_no_sems (by decide) r.2⟩)
    (Cert.GradInAReferenceIdeal.Value.run (F := Ideal) m ρ)

/-- The reference's result at an index. -/
theorem out_at (A : FVec Ideal Cert.GradInAReferenceIdeal.S8192x4096 .bf16) (B : FVec Ideal Cert.GradInAReferenceIdeal.S8192x1024 .bf16) (i : Fin 4096) (j : Fin 1024) :
    Cert.GradInAReferenceIdeal.Read.val_main_v6 (F := Ideal) A B (ix2 i j) = tn (row A) (row B) i j := by
  unfold tn row Cert.GradInAReferenceIdeal.Read.val_main_v6 Cert.GradInAReferenceIdeal.Read.val_main_v5 Cert.GradInAReferenceIdeal.Read.val_main_v4 Cert.GradInAReferenceIdeal.Read.val_main_v3 Cert.GradInAReferenceIdeal.Read.val_main_v0
  pointwise []

/-- Kernel and reference compute the same gradient. -/
theorem value : Cert.algebraic_GradInAIdeal_GradInAReferenceIdeal := by
  intro m g m' g' _ hargs
  refine ⟨fun c i => tn (row (Cert.GradInAIdeal.Arrays.A m c)) (row (Cert.GradInAIdeal.Arrays.B m c)) (i 0) (i 1), ?_, ?_⟩
  · refine (θ_run Cert.GradInAIdeal.defs _ _).mono (fun r h c => ?_) (Cert.GradInAIdeal.Value.run_blocks (F := Ideal) m g)
    exact ⟨(h c).1.trans (Cert.GradInAIdeal.Arrays.final m c), (h c).2⟩
  · refine (θ_run Cert.GradInAReferenceIdeal.defs _ _).mono (fun r h c => ?_) (Cert.GradInAReferenceIdeal.Value.run (F := Ideal) m' g')
    obtain ⟨h0, k⟩ := h c
    obtain ⟨a0, a1⟩ := hargs c
    replace h0 := h0.trans (Cert.GradInAReferenceIdeal.Read.val_main_v6_eq _ _)
    replace a0 : m' ((c.tc : Thread Cert.GradInAReferenceIdeal.nD Cert.GradInAReferenceIdeal.τ).loc Cert.GradInAReferenceIdeal.main_arg0) = m ((c.tc : Thread Cert.GradInAIdeal.nD Cert.GradInAIdeal.τ).loc Cert.GradInAIdeal.main_arg0) := a0
    replace a1 : m' ((c.tc : Thread Cert.GradInAReferenceIdeal.nD Cert.GradInAReferenceIdeal.τ).loc Cert.GradInAReferenceIdeal.main_arg1) = m ((c.tc : Thread Cert.GradInAIdeal.nD Cert.GradInAIdeal.τ).loc Cert.GradInAIdeal.main_arg1) := a1
    rw [a0, a1] at h0
    refine ⟨h0.trans (funext fun i => ?_), k⟩
    obtain ⟨k, b, rfl⟩ : ∃ (k : Fin 4096) (b : Fin 1024), i = ix2 k b := ⟨i 0, i 1, by idx_vars i⟩
    exact out_at _ _ k b

end Cert.GradInAClaim
end
-- ==== Proof.GradInBPoint.lean ====
module

public import proofs.«01_k».proof.Proof.Gen.GradInBIdeal.Value
public import proofs.«01_k».proof.Proof.GradSpec
public import proofs.«01_k».proof.Proof.MlpLane

@[expose] public section

set_option maxRecDepth 16384

noncomputable section

namespace Cert.GradInBIdeal.Point

open Cert.GradInBIdeal Cert.GradInBIdeal.Gen Idealize.ShloMosaic Idealize.ShloMosaic.TcCoe Idealize.SL.Sem Cert.MemSpec Cert.GradSpec
open Cert.MlpLossIdeal.Point (canon_hit canon_miss)

section Bands

variable (a : Vec Ideal S2048x256 .bf16) (b : Vec Ideal S2048x1024 .bf16) (z : Vec Ideal S256x1024 .f32) (v : FVec Ideal S256x1024 .f32)
variable (x : Vec Ideal S2048x1280 .bf16) (acc : Vec Ideal S1280x1024 .f32) (r : Fin 256) (j : Fin 1024)

theorem pay1_apply : k0_pay1 v z (ix2 r j) = z (ix2 r j) + v (ix2 r j) := by pointwise [k0_pay1]
theorem pay2_apply : k0_pay2 a b z (ix2 r j) = z (ix2 r j) + tn (row a) (row b) r j := by unfold tn row; pointwise [k0_pay2]
theorem pay3_apply : k0_pay3 a b (ix2 r j) = tn (row a) (row b) r j := by unfold tn row; pointwise [k0_pay3]
theorem pay4_apply : k0_pay4 a b (ix2 r j) = tn (row a) (row b) r j := by unfold tn row; pointwise [k0_pay4]
theorem pay5_apply : k0_pay5 a b (ix2 r j) = tn (row a) (row b) r j := by unfold tn row; pointwise [k0_pay5]
theorem pay6_apply : k0_pay6 a b (ix2 r j) = tn (row a) (row b) r j := by unfold tn row; pointwise [k0_pay6]
theorem pay7_apply : k0_pay7 a b (ix2 r j) = tn (row a) (row b) r j := by unfold tn row; pointwise [k0_pay7]
theorem pay8_apply : k0_pay8 a b z (ix2 r j) = z (ix2 r j) + tn (row a) (row b) r j := by unfold tn row; pointwise [k0_pay8]
theorem pay9_apply : k0_pay9 a b z (ix2 r j) = z (ix2 r j) + tn (row a) (row b) r j := by unfold tn row; pointwise [k0_pay9]
theorem pay10_apply : k0_pay10 a b z (ix2 r j) = z (ix2 r j) + tn (row a) (row b) r j := by unfold tn row; pointwise [k0_pay10]
theorem pay11_apply : k0_pay11 a b (ix2 r j) = tn (row a) (row b) r j := by unfold tn row; pointwise [k0_pay11]

/-- A band of the first factor's columns. -/
theorem band {o : ℕ} (inb : ∀ i, (![0, o] : Fin 2 → ℕ) i + (![2048, 256] : Fin 2 → ℕ) i ≤ S2048x1280.size i) (R : Fin 1280) (hR : R.val = o + r.val) :
    tn (row (View.ld x (Rect.unit ![0, o] ![2048, 256] inb) : Vec Ideal S2048x256 .bf16)) (row b) r j = tn (row x) (row b) R j := by
  refine Finset.sum_congr rfl fun k _ => congrArg (· * _) ?_
  exact congrArg x (funext fun d => Fin.ext (by
    match d with
    | 0 => exact (Nat.zero_add _).trans (Nat.one_mul _)
    | 1 => exact (congrArg (o + ·) (Nat.one_mul _)).trans hR.symm))

/-- A band of the running block's rows. -/
theorem old {o : ℕ} (inb : ∀ i, (![o, 0] : Fin 2 → ℕ) i + (![256, 1024] : Fin 2 → ℕ) i ≤ S1280x1024.size i) (R : Fin 1280) (hR : R.val = o + r.val) :
    (View.ld acc (Rect.unit ![o, 0] ![256, 1024] inb) : Vec Ideal S256x1024 .f32) (ix2 r j) = acc (ix2 R j) :=
  congrArg acc (funext fun d => Fin.ext (by
    match d with
    | 0 => exact (congrArg (o + ·) (Nat.one_mul _)).trans hR.symm
    | 1 => exact (Nat.zero_add _).trans (Nat.one_mul _)))

end Bands

variable (m : (ℓ : Loc nD τ sig) → Buf (Elt Ideal) ℓ) (c : Dev nD) (R : Fin 1280) (j : Fin 1024)

/-- At the first point of a block's run. -/
theorem first (t : Fin cfg0.N) (h : t.val % 4 = 0) : outsAt0 m c t.val t.isLt (ix2 R j) = tn (row (iblk m c 0 t)) (row (iblk m c 1 t)) R j := by
  rw [outsAt0_A m c t h (by have := lt_of_lt_of_eq t.isLt N_0; omega)]; frame_out
  have same : ∀ (o : ℕ) (h : o ≤ R.val) (h' : R.val - o < 256), ∀ i : Fin 2, ((ix2 R j : S1280x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c1024 : 1024 ≤ R.val
  · refine (canon_hit _ _ _ _ (ix2 (⟨R.val - 1024, by omega⟩ : Fin 256) j) (same 1024 (by omega) (by omega))).trans ?_
    exact (pay7_apply _ _ _ _).trans (band _ _ _ _ _ R (by show R.val = 1024 + (R.val - 1024); omega))
  refine (canon_miss _ _ _ _ 0 (by show R.val < 1024 ∨ 1024 + 256 ≤ R.val; omega)).trans ?_
  by_cases c768 : 768 ≤ R.val
  · refine (canon_hit _ _ _ _ (ix2 (⟨R.val - 768, by omega⟩ : Fin 256) j) (same 768 (by omega) (by omega))).trans ?_
    exact (pay6_apply _ _ _ _).trans (band _ _ _ _ _ R (by show R.val = 768 + (R.val - 768); omega))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay5_apply _ _ _ _).trans (band _ _ _ _ _ R (by show R.val = 512 + (R.val - 512); omega))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay4_apply _ _ _ _).trans (band _ _ _ _ _ R (by show R.val = 256 + (R.val - 256); omega))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay3_apply _ _ _ _).trans (band _ _ _ _ _ R (by show R.val = 0 + (R.val - 0); omega))

/-- At a later point of a block's run. -/
theorem next (t : Fin cfg0.N) (h : ¬t.val % 4 = 0) : outsAt0 m c t.val t.isLt (ix2 R j) =
    outsAt0 m c (t.val - 1) (Nat.lt_of_le_of_lt (Nat.sub_le _ _) t.isLt) (ix2 R j) + tn (row (iblk m c 0 t)) (row (iblk m c 1 t)) R j := by
  rw [outsAt0_B m c t h (by have := lt_of_lt_of_eq t.isLt N_0; omega)]; frame_out
  generalize outsAt0 m c (t.val - 1) _ = acc
  have same : ∀ (o : ℕ) (h : o ≤ R.val) (h' : R.val - o < 256), ∀ i : Fin 2, ((ix2 R j : S1280x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c1024 : 1024 ≤ R.val
  · refine (canon_hit _ _ _ _ (ix2 (⟨R.val - 1024, by omega⟩ : Fin 256) j) (same 1024 (by omega) (by omega))).trans ?_
    exact (pay2_apply _ _ _ _ _).trans (congrArg₂ (· + ·) (old acc _ _ _ R (by show R.val = 1024 + (R.val - 1024); omega)) (band _ _ _ _ _ R (by show R.val = 1024 + (R.val - 1024); omega)))
  refine (canon_miss _ _ _ _ 0 (by show R.val < 1024 ∨ 1024 + 256 ≤ R.val; omega)).trans ?_
  by_cases c768 : 768 ≤ R.val
  · refine (canon_hit _ _ _ _ (ix2 (⟨R.val - 768, by omega⟩ : Fin 256) j) (same 768 (by omega) (by omega))).trans ?_
    exact (pay1_apply _ _ _ _).trans (congrArg₂ (· + ·) (old acc _ _ _ R (by show R.val = 768 + (R.val - 768); omega)) ((pay11_apply _ _ _ _).trans (band _ _ _ _ _ R (by show R.val = 768 + (R.val - 768); omega))))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay10_apply _ _ _ _ _).trans (congrArg₂ (· + ·) (old acc _ _ _ R (by show R.val = 512 + (R.val - 512); omega)) (band _ _ _ _ _ R (by show R.val = 512 + (R.val - 512); omega)))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay9_apply _ _ _ _ _).trans (congrArg₂ (· + ·) (old acc _ _ _ R (by show R.val = 256 + (R.val - 256); omega)) (band _ _ _ _ _ R (by show R.val = 256 + (R.val - 256); omega)))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay8_apply _ _ _ _ _).trans (congrArg₂ (· + ·) (old acc _ _ _ R (by show R.val = 0 + (R.val - 0); omega)) (band _ _ _ _ _ R (by show R.val = 0 + (R.val - 0); omega)))

end Cert.GradInBIdeal.Point
end
-- ==== Proof.GradInBArrays.lean ====
module

public import proofs.«01_k».proof.Proof.GradInBPoint

@[expose] public section

set_option maxRecDepth 16384

noncomputable section

namespace Cert.GradInBIdeal.Arrays

open Cert.GradInBIdeal Cert.GradInBIdeal.Gen Cert.GradInBIdeal.Point Idealize.ShloMosaic Idealize.ShloMosaic.TcCoe Idealize.SL.Sem Cert.MemSpec Cert.GradSpec

variable (m : (ℓ : Loc nD τ sig) → Buf (Elt Ideal) ℓ) (c : Dev nD)

theorem N_eq : cfg0.N = 4 := N_0

/-- The launch's arrays. -/
abbrev A : FVec Ideal S8192x1280 .bf16 := m ((c : Thread nD τ).loc main_arg0)
abbrev B : FVec Ideal S8192x1024 .bf16 := m ((c : Thread nD τ).loc main_arg1)

/-- Row `k` of the factors' blocks at point `t` and column `R` of the first one's, as a row and a column of the arrays. -/
def lane (t : Fin cfg0.N) (k : Fin 2048) : Fin 8192 := ⟨t.val % 4 * 2048 + k.val, by omega⟩
def side (t : Fin cfg0.N) (R : Fin 1280) : Fin 1280 := ⟨t.val / 4 * 1280 + R.val, by have h := lt_of_lt_of_eq t.isLt N_eq; omega⟩

/-- Where the windows' blocks lie. -/
theorem places : ∀ t : Fin cfg0.N, (win0_0.index t 0 = t.val % 4 ∧ win0_0.index t 1 = t.val / 4) ∧ (win0_1.index t 0 = t.val % 4 ∧ win0_1.index t 1 = 0) ∧
    (win0_2.index t 0 = t.val / 4 ∧ win0_2.index t 1 = 0) := by decide +kernel

theorem at0 (t : Fin cfg0.N) (k : Fin 2048) (R : Fin 1280) : row (iblk m c 0 t) k R = row (A m c) (lane t k) (side t R) := by
  have e := places t
  unfold row lane side A; blk_ext [iblk, V, e.1.1, e.1.2]
theorem at1 (t : Fin cfg0.N) (k : Fin 2048) (j : Fin 1024) : row (iblk m c 1 t) k j = row (B m c) (lane t k) j := by
  have e := places t
  unfold row lane B; blk_ext [iblk, V, e.2.1.1, e.2.1.2]

theorem part (t : Fin cfg0.N) (R : Fin 1280) (j : Fin 1024) : tn (row (iblk m c 0 t)) (row (iblk m c 1 t)) R j =
    ∑ k : Fin 2048, row (A m c) (lane t k) (side t R) * row (B m c) (lane t k) j :=
  Finset.sum_congr rfl fun k _ => congrArg₂ (· * ·) (at0 m c t k R) (at1 m c t k j)

/-- A block after the last point of its run. -/
theorem last (t : Fin cfg0.N) (h : t.val % 4 = 4 - 1) (R : Fin 1280) (j : Fin 1024) :
    outsAt0 m c t.val t.isLt (ix2 R j) = tn (row (A m c)) (row (B m c)) (side t R) j := by
  have e := Pipeline.eq_sum_fin_of_reset_step_apply_of_flush (fun n h => outsAt0 m c n h) 4 (fun _ => 0)
    (fun t y => ∑ k : Fin 2048, row (A m c) (lane t k) (side t (y 0)) * row (B m c) (lane t k) (y 1))
    (fun t h y => by
      idx_vars y
      rw [zero_add]
      exact (first m c _ _ t h).trans (part m c t _ _))
    (fun t h y => by
      idx_vars y
      exact (next m c _ _ t h).trans (congrArg _ (part m c t _ _)))
    t h (ix2 R j)
  rw [zero_add] at e
  refine e.trans ?_
  refine Fin.sum_mul_add_congr (fun s k hl => ?_) (by rfl)
  have a : lane ⟨4 * (t.val / 4) + s.val, Pipeline.run_point_lt_of_flush t h s⟩ k = ⟨s.val * 2048 + k.val, hl⟩ :=
    Fin.ext (by show (4 * (t.val / 4) + s.val) % 4 * 2048 + k.val = s.val * 2048 + k.val; omega)
  have b : side ⟨4 * (t.val / 4) + s.val, Pipeline.run_point_lt_of_flush t h s⟩ R = side t R :=
    Fin.ext (by show (4 * (t.val / 4) + s.val) / 4 * 1280 + R.val = t.val / 4 * 1280 + R.val; omega)
  show row (A m c) (lane _ k) (side _ R) * row (B m c) (lane _ k) j = _
  rw [a, b]

/-- The result: `dz` transposed with `xb`. -/
theorem final : (dats m 0 c).arrAt 2 cfg0.N = fun i : S1280x1024.Idx => tn (row (A m c)) (row (B m c)) (i 0) (i 1) := by
  refine (dats m 0 c).arrAt_eq_of_covers 2 _ (by decide +kernel) fun t hf y => ?_
  blk_simp
  rw [after0_2]
  have e := places t
  idx_vars y
  refine (last m c t ((flush0_2 t).mp hf) y0 y1).trans ?_
  have a : ((View.whole main_v0).slice (win0_2.rect t)).emb (ix2 y0 y1) = ix2 (side t y0) y1 := by
    unfold side; blk_ext [e.2.2.1, e.2.2.2]
  rw [a]
  rfl

end Cert.GradInBIdeal.Arrays
end
-- ==== Proof.GradInBClaim.lean ====
module

public import proofs.«01_k».proof.Defs
public import proofs.«01_k».proof.Proof.Gen.GradInB
public import proofs.«01_k».proof.Proof.Gen.GradInBIdeal
public import proofs.«01_k».proof.Proof.Gen.GradInBReferenceIdeal
public import proofs.«01_k».proof.Proof.Gen.GradInB.Frame
public import proofs.«01_k».proof.Proof.Gen.GradInBReferenceIdeal.Run
public import proofs.«01_k».proof.Proof.Gen.GradInBReferenceIdeal.Read
public import proofs.«01_k».proof.Proof.GradInBArrays

@[expose] public section

set_option maxRecDepth 16384

noncomputable section

namespace Cert.GradInBClaim

open Idealize.ShloMosaic Idealize.SL.Sem Cert.MemSpec Cert.GradSpec

theorem frame_kernel : Cert.quiescent_GradInB := fun m ρ _ => Cert.GradInB.Gen.frame m ρ

theorem frame_ideal : Cert.quiescent_GradInBIdeal := fun m ρ _ => Cert.GradInBIdeal.Gen.frame m ρ

theorem frame_reference : Cert.quiescent_GradInBReferenceIdeal := fun m ρ _ =>
  (θ_run Cert.GradInBReferenceIdeal.defs _ _).mono (fun r h => ⟨fun c => (h c).2, sem_eq_zero_of_no_sems (by decide) r.2⟩)
    (Cert.GradInBReferenceIdeal.Value.run (F := Ideal) m ρ)

/-- The reference's result at an index. -/
theorem out_at (A : FVec Ideal Cert.GradInBReferenceIdeal.S8192x1280 .bf16) (B : FVec Ideal Cert.GradInBReferenceIdeal.S8192x1024 .bf16) (i : Fin 1280) (j : Fin 1024) :
    Cert.GradInBReferenceIdeal.Read.val_main_v6 (F := Ideal) A B (ix2 i j) = tn (row A) (row B) i j := by
  unfold tn row Cert.GradInBReferenceIdeal.Read.val_main_v6 Cert.GradInBReferenceIdeal.Read.val_main_v5 Cert.GradInBReferenceIdeal.Read.val_main_v4 Cert.GradInBReferenceIdeal.Read.val_main_v3 Cert.GradInBReferenceIdeal.Read.val_main_v0
  pointwise []

/-- Kernel and reference compute the same gradient. -/
theorem value : Cert.algebraic_GradInBIdeal_GradInBReferenceIdeal := by
  intro m g m' g' _ hargs
  refine ⟨fun c i => tn (row (Cert.GradInBIdeal.Arrays.A m c)) (row (Cert.GradInBIdeal.Arrays.B m c)) (i 0) (i 1), ?_, ?_⟩
  · refine (θ_run Cert.GradInBIdeal.defs _ _).mono (fun r h c => ?_) (Cert.GradInBIdeal.Value.run_blocks (F := Ideal) m g)
    exact ⟨(h c).1.trans (Cert.GradInBIdeal.Arrays.final m c), (h c).2⟩
  · refine (θ_run Cert.GradInBReferenceIdeal.defs _ _).mono (fun r h c => ?_) (Cert.GradInBReferenceIdeal.Value.run (F := Ideal) m' g')
    obtain ⟨h0, k⟩ := h c
    obtain ⟨a0, a1⟩ := hargs c
    replace h0 := h0.trans (Cert.GradInBReferenceIdeal.Read.val_main_v6_eq _ _)
    replace a0 : m' ((c.tc : Thread Cert.GradInBReferenceIdeal.nD Cert.GradInBReferenceIdeal.τ).loc Cert.GradInBReferenceIdeal.main_arg0) = m ((c.tc : Thread Cert.GradInBIdeal.nD Cert.GradInBIdeal.τ).loc Cert.GradInBIdeal.main_arg0) := a0
    replace a1 : m' ((c.tc : Thread Cert.GradInBReferenceIdeal.nD Cert.GradInBReferenceIdeal.τ).loc Cert.GradInBReferenceIdeal.main_arg1) = m ((c.tc : Thread Cert.GradInBIdeal.nD Cert.GradInBIdeal.τ).loc Cert.GradInBIdeal.main_arg1) := a1
    rw [a0, a1] at h0
    refine ⟨h0.trans (funext fun i => ?_), k⟩
    obtain ⟨k, b, rfl⟩ : ∃ (k : Fin 1280) (b : Fin 1024), i = ix2 k b := ⟨i 0, i 1, by idx_vars i⟩
    exact out_at _ _ k b

end Cert.GradInBClaim
end
-- ==== Proof.GradInDPoint.lean ====
module

public import proofs.«01_k».proof.Proof.Gen.GradInDIdeal.Value
public import proofs.«01_k».proof.Proof.GradSpec
public import proofs.«01_k».proof.Proof.MlpLane

@[expose] public section

set_option maxRecDepth 16384

noncomputable section

namespace Cert.GradInDIdeal.Point

open Cert.GradInDIdeal Cert.GradInDIdeal.Gen Idealize.ShloMosaic Idealize.ShloMosaic.TcCoe Idealize.SL.Sem Cert.MemSpec Cert.GradSpec
open Cert.MlpLossIdeal.Point (canon_hit canon_miss)

section Bands

variable (a : Vec Ideal S2048x256 .bf16) (b : Vec Ideal S2048x1024 .bf16) (z : Vec Ideal S256x1024 .f32) (v : FVec Ideal S256x1024 .f32)
variable (x : Vec Ideal S2048x1024 .bf16) (acc : Vec Ideal S1024x1024 .f32) (r : Fin 256) (j : Fin 1024)

theorem pay1_apply : k0_pay1 a b (ix2 r j) = tn (row a) (row b) r j := by unfold tn row; pointwise [k0_pay1]
theorem pay2_apply : k0_pay2 a b (ix2 r j) = tn (row a) (row b) r j := by unfold tn row; pointwise [k0_pay2]
theorem pay3_apply : k0_pay3 a b (ix2 r j) = tn (row a) (row b) r j := by unfold tn row; pointwise [k0_pay3]
theorem pay4_apply : k0_pay4 a b (ix2 r j) = tn (row a) (row b) r j := by unfold tn row; pointwise [k0_pay4]
theorem pay5_apply : k0_pay5 v z (ix2 r j) = z (ix2 r j) + v (ix2 r j) := by pointwise [k0_pay5]
theorem pay6_apply : k0_pay6 a b z (ix2 r j) = z (ix2 r j) + tn (row a) (row b) r j := by unfold tn row; pointwise [k0_pay6]
theorem pay7_apply : k0_pay7 a b z (ix2 r j) = z (ix2 r j) + tn (row a) (row b) r j := by unfold tn row; pointwise [k0_pay7]
theorem pay8_apply : k0_pay8 a b z (ix2 r j) = z (ix2 r j) + tn (row a) (row b) r j := by unfold tn row; pointwise [k0_pay8]
theorem pay9_apply : k0_pay9 a b (ix2 r j) = tn (row a) (row b) r j := by unfold tn row; pointwise [k0_pay9]

/-- A band of the first factor's columns. -/
theorem band {o : ℕ} (inb : ∀ i, (![0, o] : Fin 2 → ℕ) i + (![2048, 256] : Fin 2 → ℕ) i ≤ S2048x1024.size i) (R : Fin 1024) (hR : R.val = o + r.val) :
    tn (row (View.ld x (Rect.unit ![0, o] ![2048, 256] inb) : Vec Ideal S2048x256 .bf16)) (row b) r j = tn (row x) (row b) R j := by
  refine Finset.sum_congr rfl fun k _ => congrArg (· * _) ?_
  exact congrArg x (funext fun d => Fin.ext (by
    match d with
    | 0 => exact (Nat.zero_add _).trans (Nat.one_mul _)
    | 1 => exact (congrArg (o + ·) (Nat.one_mul _)).trans hR.symm))

/-- A band of the running block's rows. -/
theorem old {o : ℕ} (inb : ∀ i, (![o, 0] : Fin 2 → ℕ) i + (![256, 1024] : Fin 2 → ℕ) i ≤ S1024x1024.size i) (R : Fin 1024) (hR : R.val = o + r.val) :
    (View.ld acc (Rect.unit ![o, 0] ![256, 1024] inb) : Vec Ideal S256x1024 .f32) (ix2 r j) = acc (ix2 R j) :=
  congrArg acc (funext fun d => Fin.ext (by
    match d with
    | 0 => exact (congrArg (o + ·) (Nat.one_mul _)).trans hR.symm
    | 1 => exact (Nat.zero_add _).trans (Nat.one_mul _)))

end Bands

variable (m : (ℓ : Loc nD τ sig) → Buf (Elt Ideal) ℓ) (c : Dev nD) (R : Fin 1024) (j : Fin 1024)

/-- At the first point of a block's run. -/
theorem first (t : Fin cfg0.N) (h : t.val % 4 = 0) : outsAt0 m c t.val t.isLt (ix2 R j) = tn (row (iblk m c 0 t)) (row (iblk m c 1 t)) R j := by
  rw [outsAt0_A m c t h (by have := lt_of_lt_of_eq t.isLt N_0; omega)]; frame_out
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay4_apply _ _ _ _).trans (band _ _ _ _ _ R (by show R.val = 768 + (R.val - 768); omega))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay3_apply _ _ _ _).trans (band _ _ _ _ _ R (by show R.val = 512 + (R.val - 512); omega))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay2_apply _ _ _ _).trans (band _ _ _ _ _ R (by show R.val = 256 + (R.val - 256); omega))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay1_apply _ _ _ _).trans (band _ _ _ _ _ R (by show R.val = 0 + (R.val - 0); omega))

/-- At a later point of a block's run. -/
theorem next (t : Fin cfg0.N) (h : ¬t.val % 4 = 0) : outsAt0 m c t.val t.isLt (ix2 R j) =
    outsAt0 m c (t.val - 1) (Nat.lt_of_le_of_lt (Nat.sub_le _ _) t.isLt) (ix2 R j) + tn (row (iblk m c 0 t)) (row (iblk m c 1 t)) R j := by
  rw [outsAt0_B m c t h (by have := lt_of_lt_of_eq t.isLt N_0; omega)]; frame_out
  generalize outsAt0 m c (t.val - 1) _ = acc
  have same : ∀ (o : ℕ) (h : o ≤ R.val) (h' : R.val - o < 256), ∀ i : Fin 2, ((ix2 R j : S1024x1024.Idx) i).val =
      (![o, 0] : Fin 2 → ℕ) i + ((ix2 (⟨R.val - o, h'⟩ : Fin 256) j : S256x1024.Idx) i).val :=
    fun o h h' => Fin.forall_fin_two.mpr ⟨(Nat.add_sub_cancel' h).symm, (Nat.zero_add _).symm⟩
  have hR := R.isLt
  by_cases c768 : 768 ≤ R.val
  · refine (canon_hit _ _ _ _ (ix2 (⟨R.val - 768, by omega⟩ : Fin 256) j) (same 768 (by omega) (by omega))).trans ?_
    exact (pay5_apply _ _ _ _).trans (congrArg₂ (· + ·) (old acc _ _ _ R (by show R.val = 768 + (R.val - 768); omega)) ((pay9_apply _ _ _ _).trans (band _ _ _ _ _ R (by show R.val = 768 + (R.val - 768); omega))))
  refine (canon_miss _ _ _ _ 0 (by show R.val < 768 ∨ 768 + 256 ≤ R.val; omega)).trans ?_
  by_cases c512 : 512 ≤ R.val
  · refine (canon_hit _ _ _ _ (ix2 (⟨R.val - 512, by omega⟩ : Fin 256) j) (same 512 (by omega) (by omega))).trans ?_
    exact (pay8_apply _ _ _ _ _).trans (congrArg₂ (· + ·) (old acc _ _ _ R (by show R.val = 512 + (R.val - 512); omega)) (band _ _ _ _ _ R (by show R.val = 512 + (R.val - 512); omega)))
  refine (canon_miss _ _ _ _ 0 (by show R.val < 512 ∨ 512 + 256 ≤ R.val; omega)).trans ?_
  by_cases c256 : 256 ≤ R.val
  · refine (canon_hit _ _ _ _ (ix2 (⟨R.val - 256, by omega⟩ : Fin 256) j) (same 256 (by omega) (by omega))).trans ?_
    exact (pay7_apply _ _ _ _ _).trans (congrArg₂ (· + ·) (old acc _ _ _ R (by show R.val = 256 + (R.val - 256); omega)) (band _ _ _ _ _ R (by show R.val = 256 + (R.val - 256); omega)))
  refine (canon_miss _ _ _ _ 0 (by show R.val < 256 ∨ 256 + 256 ≤ R.val; omega)).trans ?_
  refine (canon_hit _ _ _ _ (ix2 (⟨R.val - 0, by omega⟩ : Fin 256) j) (same 0 (by omega) (by omega))).trans ?_
  exact (pay6_apply _ _ _ _ _).trans (congrArg₂ (· + ·) (old acc _ _ _ R (by show R.val = 0 + (R.val - 0); omega)) (band _ _ _ _ _ R (by show R.val = 0 + (R.val - 0); omega)))

end Cert.GradInDIdeal.Point
end
-- ==== Proof.GradInDArrays.lean ====
module

public import proofs.«01_k».proof.Proof.GradInDPoint

@[expose] public section

set_option maxRecDepth 16384

noncomputable section

namespace Cert.GradInDIdeal.Arrays

open Cert.GradInDIdeal Cert.GradInDIdeal.Gen Cert.GradInDIdeal.Point Idealize.ShloMosaic Idealize.ShloMosaic.TcCoe Idealize.SL.Sem Cert.MemSpec Cert.GradSpec

variable (m : (ℓ : Loc nD τ sig) → Buf (Elt Ideal) ℓ) (c : Dev nD)

theorem N_eq : cfg0.N = 12 := N_0

/-- The launch's arrays. -/
abbrev A : FVec Ideal S8192x3072 .bf16 := m ((c : Thread nD τ).loc main_arg0)
abbrev B : FVec Ideal S8192x1024 .bf16 := m ((c : Thread nD τ).loc main_arg1)

/-- Row `k` of the factors' blocks at point `t` and column `R` of the first one's, as a row and a column of the arrays. -/
def lane (t : Fin cfg0.N) (k : Fin 2048) : Fin 8192 := ⟨t.val % 4 * 2048 + k.val, by omega⟩
def side (t : Fin cfg0.N) (R : Fin 1024) : Fin 3072 := ⟨t.val / 4 * 1024 + R.val, by have h := lt_of_lt_of_eq t.isLt N_eq; omega⟩

/-- Where the windows' blocks lie. -/
theorem places : ∀ t : Fin cfg0.N, (win0_0.index t 0 = t.val % 4 ∧ win0_0.index t 1 = t.val / 4) ∧ (win0_1.index t 0 = t.val % 4 ∧ win0_1.index t 1 = 0) ∧
    (win0_2.index t 0 = t.val / 4 ∧ win0_2.index t 1 = 0) := by decide +kernel

theorem at0 (t : Fin cfg0.N) (k : Fin 2048) (R : Fin 1024) : row (iblk m c 0 t) k R = row (A m c) (lane t k) (side t R) := by
  have e := places t
  unfold row lane side A; blk_ext [iblk, V, e.1.1, e.1.2]
theorem at1 (t : Fin cfg0.N) (k : Fin 2048) (j : Fin 1024) : row (iblk m c 1 t) k j = row (B m c) (lane t k) j := by
  have e := places t
  unfold row lane B; blk_ext [iblk, V, e.2.1.1, e.2.1.2]

theorem part (t : Fin cfg0.N) (R : Fin 1024) (j : Fin 1024) : tn (row (iblk m c 0 t)) (row (iblk m c 1 t)) R j =
    ∑ k : Fin 2048, row (A m c) (lane t k) (side t R) * row (B m c) (lane t k) j :=
  Finset.sum_congr rfl fun k _ => congrArg₂ (· * ·) (at0 m c t k R) (at1 m c t k j)

/-- A block after the last point of its run. -/
theorem last (t : Fin cfg0.N) (h : t.val % 4 = 4 - 1) (R : Fin 1024) (j : Fin 1024) :
    outsAt0 m c t.val t.isLt (ix2 R j) = tn (row (A m c)) (row (B m c)) (side t R) j := by
  have e := Pipeline.eq_sum_fin_of_reset_step_apply_of_flush (fun n h => outsAt0 m c n h) 4 (fun _ => 0)
    (fun t y => ∑ k : Fin 2048, row (A m c) (lane t k) (side t (y 0)) * row (B m c) (lane t k) (y 1))
    (fun t h y => by
      idx_vars y
      rw [zero_add]
      exact (first m c _ _ t h).trans (part m c t _ _))
    (fun t h y => by
      idx_vars y
      exact (next m c _ _ t h).trans (congrArg _ (part m c t _ _)))
    t h (ix2 R j)
  rw [zero_add] at e
  refine e.trans ?_
  refine Fin.sum_mul_add_congr (fun s k hl => ?_) (by rfl)
  have a : lane ⟨4 * (t.val / 4) + s.val, Pipeline.run_point_lt_of_flush t h s⟩ k = ⟨s.val * 2048 + k.val, hl⟩ :=
    Fin.ext (by show (4 * (t.val / 4) + s.val) % 4 * 2048 + k.val = s.val * 2048 + k.val; omega)
  have b : side ⟨4 * (t.val / 4) + s.val, Pipeline.run_point_lt_of_flush t h s⟩ R = side t R :=
    Fin.ext (by show (4 * (t.val / 4) + s.val) / 4 * 1024 + R.val = t.val / 4 * 1024 + R.val; omega)
  show row (A m c) (lane _ k) (side _ R) * row (B m c) (lane _ k) j = _
  rw [a, b]

/-- The result: `dz` transposed with `xb`. -/
theorem final : (dats m 0 c).arrAt 2 cfg0.N = fun i : S3072x1024.Idx => tn (row (A m c)) (row (B m c)) (i 0) (i 1) := by
  refine (dats m 0 c).arrAt_eq_of_covers 2 _ (by decide +kernel) fun t hf y => ?_
  blk_simp
  rw [after0_2]
  have e := places t
  idx_vars y
  refine (last m c t ((flush0_2 t).mp hf) y0 y1).trans ?_
  have a : ((View.whole main_v0).slice (win0_2.rect t)).emb (ix2 y0 y1) = ix2 (side t y0) y1 := by
    unfold side; blk_ext [e.2.2.1, e.2.2.2]
  rw [a]
  rfl

end Cert.GradInDIdeal.Arrays
end
-- ==== Proof.GradInDClaim.lean ====
module

public import proofs.«01_k».proof.Defs
public import proofs.«01_k».proof.Proof.Gen.GradInD
public import proofs.«01_k».proof.Proof.Gen.GradInDIdeal
public import proofs.«01_k».proof.Proof.Gen.GradInDReferenceIdeal
public import proofs.«01_k».proof.Proof.Gen.GradInD.Frame
public import proofs.«01_k».proof.Proof.Gen.GradInDReferenceIdeal.Run
public import proofs.«01_k».proof.Proof.Gen.GradInDReferenceIdeal.Read
public import proofs.«01_k».proof.Proof.GradInDArrays

@[expose] public section

set_option maxRecDepth 16384

noncomputable section

namespace Cert.GradInDClaim

open Idealize.ShloMosaic Idealize.SL.Sem Cert.MemSpec Cert.GradSpec

theorem frame_kernel : Cert.quiescent_GradInD := fun m ρ _ => Cert.GradInD.Gen.frame m ρ

theorem frame_ideal : Cert.quiescent_GradInDIdeal := fun m ρ _ => Cert.GradInDIdeal.Gen.frame m ρ

theorem frame_reference : Cert.quiescent_GradInDReferenceIdeal := fun m ρ _ =>
  (θ_run Cert.GradInDReferenceIdeal.defs _ _).mono (fun r h => ⟨fun c => (h c).2, sem_eq_zero_of_no_sems (by decide) r.2⟩)
    (Cert.GradInDReferenceIdeal.Value.run (F := Ideal) m ρ)

/-- The reference's result at an index. -/
theorem out_at (A : FVec Ideal Cert.GradInDReferenceIdeal.S8192x3072 .bf16) (B : FVec Ideal Cert.GradInDReferenceIdeal.S8192x1024 .bf16) (i : Fin 3072) (j : Fin 1024) :
    Cert.GradInDReferenceIdeal.Read.val_main_v6 (F := Ideal) A B (ix2 i j) = tn (row A) (row B) i j := by
  unfold tn row Cert.GradInDReferenceIdeal.Read.val_main_v6 Cert.GradInDReferenceIdeal.Read.val_main_v5 Cert.GradInDReferenceIdeal.Read.val_main_v4 Cert.GradInDReferenceIdeal.Read.val_main_v3 Cert.GradInDReferenceIdeal.Read.val_main_v0
  pointwise []

/-- Kernel and reference compute the same gradient. -/
theorem value : Cert.algebraic_GradInDIdeal_GradInDReferenceIdeal := by
  intro m g m' g' _ hargs
  refine ⟨fun c i => tn (row (Cert.GradInDIdeal.Arrays.A m c)) (row (Cert.GradInDIdeal.Arrays.B m c)) (i 0) (i 1), ?_, ?_⟩
  · refine (θ_run Cert.GradInDIdeal.defs _ _).mono (fun r h c => ?_) (Cert.GradInDIdeal.Value.run_blocks (F := Ideal) m g)
    exact ⟨(h c).1.trans (Cert.GradInDIdeal.Arrays.final m c), (h c).2⟩
  · refine (θ_run Cert.GradInDReferenceIdeal.defs _ _).mono (fun r h c => ?_) (Cert.GradInDReferenceIdeal.Value.run (F := Ideal) m' g')
    obtain ⟨h0, k⟩ := h c
    obtain ⟨a0, a1⟩ := hargs c
    replace h0 := h0.trans (Cert.GradInDReferenceIdeal.Read.val_main_v6_eq _ _)
    replace a0 : m' ((c.tc : Thread Cert.GradInDReferenceIdeal.nD Cert.GradInDReferenceIdeal.τ).loc Cert.GradInDReferenceIdeal.main_arg0) = m ((c.tc : Thread Cert.GradInDIdeal.nD Cert.GradInDIdeal.τ).loc Cert.GradInDIdeal.main_arg0) := a0
    replace a1 : m' ((c.tc : Thread Cert.GradInDReferenceIdeal.nD Cert.GradInDReferenceIdeal.τ).loc Cert.GradInDReferenceIdeal.main_arg1) = m ((c.tc : Thread Cert.GradInDIdeal.nD Cert.GradInDIdeal.τ).loc Cert.GradInDIdeal.main_arg1) := a1
    rw [a0, a1] at h0
    refine ⟨h0.trans (funext fun i => ?_), k⟩
    obtain ⟨k, b, rfl⟩ : ∃ (k : Fin 3072) (b : Fin 1024), i = ix2 k b := ⟨i 0, i 1, by idx_vars i⟩
    exact out_at _ _ k b

end Cert.GradInDClaim
end
-- ==== Proof.GradXHeadArrays.lean ====
module

public import proofs.«01_k».proof.Proof.Gen.GradXHeadIdeal.Value
public import proofs.«01_k».proof.Proof.GradXSpec

@[expose] public section

set_option maxRecDepth 16384

noncomputable section

namespace Cert.GradXHeadIdeal.Arrays

open Cert.GradXHeadIdeal Cert.GradXHeadIdeal.Gen Idealize.ShloMosaic Idealize.ShloMosaic.TcCoe Idealize.SL.Sem Cert.MemSpec Cert.MlpSpec Cert.GradXSpec

section Block

variable (r : Vec Ideal S512x1024 .f32) (a : Vec Ideal S512x4096 .bf16) (b : Vec Ideal S512x1280 .bf16) (u : Vec Ideal S512x1024 .bf16) (d : Vec Ideal S512x3072 .bf16)
variable (wa : Vec Ideal S4096x1024 .bf16) (wb : Vec Ideal S1280x1024 .bf16) (wu : Vec Ideal S1024x1024 .bf16) (wd : Vec Ideal S3072x1024 .bf16) (w : Vec Ideal S9472x1024 .bf16)
variable (y : Fin 512) (j : Fin 1024)

theorem pay1_apply : k0_pay1 r a wa b wb u wu d wd (ix2 y j) = alpha * r (ix2 y j) + ∑ k : Fin 4096, a (ix2 y k) * wa (ix2 k j) +
    ∑ k : Fin 1280, b (ix2 y k) * wb (ix2 k j) + ∑ k : Fin 1024, u (ix2 y k) * wu (ix2 k j) + ∑ k : Fin 3072, d (ix2 y k) * wd (ix2 k j) := by
  pointwise [k0_pay1, alpha_f32]

/-- A range of the weights' rows. -/
theorem range_at {o n : ℕ} (inb : ∀ i, (![o, 0] : Fin 2 → ℕ) i + (![n, 1024] : Fin 2 → ℕ) i ≤ S9472x1024.size i) (k : Fin n) (h : o + k.val < 9472) :
    View.ld w (Rect.unit ![o, 0] ![n, 1024] inb) (ix2 k j) = w (ix2 ⟨o + k.val, h⟩ j) :=
  congrArg w (funext fun e => Fin.ext (by
    match e with
    | 0 => exact congrArg (o + ·) (Nat.one_mul _)
    | 1 => exact (Nat.zero_add _).trans (Nat.one_mul _)))
theorem range_first {n : ℕ} (inb : ∀ i, (![0, 0] : Fin 2 → ℕ) i + (![n, 1024] : Fin 2 → ℕ) i ≤ S9472x1024.size i) (k : Fin n) (h : k.val < 9472) :
    View.ld w (Rect.unit ![0, 0] ![n, 1024] inb) (ix2 k j) = w (ix2 ⟨k.val, h⟩ j) :=
  congrArg w (funext fun e => Fin.ext (by
    match e with
    | 0 => exact (Nat.zero_add _).trans (Nat.one_mul _)
    | 1 => exact (Nat.zero_add _).trans (Nat.one_mul _)))

/-- A row of the stored block. -/
theorem out_apply : out0_6 a b u d w r (ix2 y j) = dx (row r y) (row a y) (row b y) (row u y) (row d y) (row w) j := by
  unfold out0_6
  frame_out
  refine (pay1_apply _ _ _ _ _ _ _ _ _ y j).trans ?_
  unfold dx row
  refine congrArg₂ (· + ·) (congrArg₂ (· + ·) (congrArg₂ (· + ·) (congrArg₂ (· + ·) rfl ?_) ?_) ?_) ?_
  · exact Finset.sum_congr rfl fun k _ => congrArg _ (range_first w j _ k _)
  · exact Finset.sum_congr rfl fun k _ => congrArg _ (range_at w j _ k _)
  · exact Finset.sum_congr rfl fun k _ => congrArg _ (range_at w j _ k _)
  · exact Finset.sum_congr rfl fun k _ => congrArg _ (range_at w j _ k _)

end Block

variable (m : (ℓ : Loc nD τ sig) → Buf (Elt Ideal) ℓ) (c : Dev nD)

theorem N_eq : cfg0.N = 3 := N_0

/-- The launch's arrays. -/
abbrev DA : FVec Ideal S8192x4096 .bf16 := m ((c : Thread nD τ).loc main_arg0)
abbrev DB : FVec Ideal S8192x1280 .bf16 := m ((c : Thread nD τ).loc main_arg1)
abbrev DC : FVec Ideal S8192x1024 .bf16 := m ((c : Thread nD τ).loc main_arg2)
abbrev DD : FVec Ideal S8192x3072 .bf16 := m ((c : Thread nD τ).loc main_arg3)
abbrev WI : FVec Ideal S9472x1024 .bf16 := m ((c : Thread nD τ).loc main_arg4)
abbrev DP : FVec Ideal S8192x1024 .f32 := m ((c : Thread nD τ).loc main_arg5)

/-- A row of the result as a row of the arrays. -/
def whole (i : Fin 1536) : Fin 8192 := ⟨0 + i.val, by omega⟩
/-- Row `r` of block `t` of the result. -/
def lane (t : Fin cfg0.N) (r : Fin 512) : Fin 1536 := ⟨t.val * 512 + r.val, by have h := lt_of_lt_of_eq t.isLt N_eq; omega⟩

/-- Where the windows' blocks lie. -/
theorem placesIn : ∀ t : Fin cfg0.N, (win0_0.index t 0 = t.val + 0 ∧ win0_0.index t 1 = 0) ∧ (win0_1.index t 0 = t.val + 0 ∧ win0_1.index t 1 = 0) ∧
    (win0_2.index t 0 = t.val + 0 ∧ win0_2.index t 1 = 0) ∧ (win0_3.index t 0 = t.val + 0 ∧ win0_3.index t 1 = 0) := by decide +kernel
theorem places : ∀ t : Fin cfg0.N, (win0_4.index t 0 = 0 ∧ win0_4.index t 1 = 0) ∧ (win0_5.index t 0 = t.val + 0 ∧ win0_5.index t 1 = 0) ∧
    (win0_6.index t 0 = t.val ∧ win0_6.index t 1 = 0) := by decide +kernel

theorem row0 (t : Fin cfg0.N) (r : Fin 512) : row (iblk m c 0 t) r = row (DA m c) (whole (lane t r)) := by
  have e := placesIn t
  funext d; unfold row whole lane DA; blk_ext [iblk, V, e.1.1, e.1.2]
theorem row1 (t : Fin cfg0.N) (r : Fin 512) : row (iblk m c 1 t) r = row (DB m c) (whole (lane t r)) := by
  have e := placesIn t
  funext d; unfold row whole lane DB; blk_ext [iblk, V, e.2.1.1, e.2.1.2]
theorem row2 (t : Fin cfg0.N) (r : Fin 512) : row (iblk m c 2 t) r = row (DC m c) (whole (lane t r)) := by
  have e := placesIn t
  funext d; unfold row whole lane DC; blk_ext [iblk, V, e.2.2.1.1, e.2.2.1.2]
theorem row3 (t : Fin cfg0.N) (r : Fin 512) : row (iblk m c 3 t) r = row (DD m c) (whole (lane t r)) := by
  have e := placesIn t
  funext d; unfold row whole lane DD; blk_ext [iblk, V, e.2.2.2.1, e.2.2.2.2]
theorem row5 (t : Fin cfg0.N) (r : Fin 512) : row (iblk m c 5 t) r = row (DP m c) (whole (lane t r)) := by
  have e := places t
  funext d; unfold row whole lane DP; blk_ext [iblk, V, e.2.1.1, e.2.1.2]
theorem row4 (t : Fin cfg0.N) : row (iblk m c 4 t) = row (WI m c) := by
  have e := places t
  funext f d; unfold row WI; blk_ext [iblk, V, e.1.1, e.1.2]

/-- Row `i` of the result. -/
def out (i : Fin 1536) : R := dx (row (DP m c) (whole i)) (row (DA m c) (whole i)) (row (DB m c) (whole i)) (row (DC m c) (whole i)) (row (DD m c) (whole i)) (row (WI m c))

theorem final : (dats m 0 c).arrAt 6 cfg0.N = fun i : S1536x1024.Idx => out m c (i 0) (i 1) := by
  refine (dats m 0 c).arrAt_eq_of_covers 6 _ (by decide +kernel) fun t hf y => ?_
  blk_simp
  rw [after0_6]
  have e := places t
  idx_vars y
  refine (out_apply (iblk m c 5 t) (iblk m c 0 t) (iblk m c 1 t) (iblk m c 2 t) (iblk m c 3 t) (iblk m c 4 t) y0 y1).trans ?_
  rw [row0, row1, row2, row3, row4, row5]
  have a : ((View.whole main_v0).slice (win0_6.rect t)).emb (ix2 y0 y1) = ix2 (lane t y0) y1 := by
    unfold lane; blk_ext [e.2.2.1, e.2.2.2]
  rw [a]
  rfl

end Cert.GradXHeadIdeal.Arrays
end
-- ==== Proof.GradXHeadClaim.lean ====
module

public import proofs.«01_k».proof.Defs
public import proofs.«01_k».proof.Proof.Gen.GradXHead
public import proofs.«01_k».proof.Proof.Gen.GradXHeadIdeal
public import proofs.«01_k».proof.Proof.Gen.GradXHeadReferenceIdeal
public import proofs.«01_k».proof.Proof.Gen.GradXHead.Frame
public import proofs.«01_k».proof.Proof.Gen.GradXHeadReferenceIdeal.Run
public import proofs.«01_k».proof.Proof.Gen.GradXHeadReferenceIdeal.Read
public import Idealize.ShloMosaic.Lib.KernelVsHost
public import proofs.«01_k».proof.Proof.GradXHeadArrays

@[expose] public section

set_option maxRecDepth 16384

noncomputable section

namespace Cert.GradXHeadClaim

open Idealize.ShloMosaic Idealize.SL.Sem Cert.MemSpec Cert.MlpSpec Cert.GradXSpec

theorem frame_kernel : Cert.quiescent_GradXHead := fun m ρ _ => Cert.GradXHead.Gen.frame m ρ

theorem frame_ideal : Cert.quiescent_GradXHeadIdeal := fun m ρ _ => Cert.GradXHeadIdeal.Gen.frame m ρ

theorem frame_reference : Cert.quiescent_GradXHeadReferenceIdeal := fun m ρ _ =>
  (θ_run Cert.GradXHeadReferenceIdeal.defs _ _).mono (fun r h => ⟨fun c => (h c).2, sem_eq_zero_of_no_sems (by decide) r.2⟩)
    (Cert.GradXHeadReferenceIdeal.Value.run (F := Ideal) m ρ)

/-! ## The reference's branches, each widened with zeros to all columns -/

section Reference

open Cert.GradXHeadReferenceIdeal Cert.GradXHeadReferenceIdeal.Read

variable (x0 : FVec Ideal S8192x4096 .bf16) (x1 : FVec Ideal S8192x1280 .bf16) (x2 : FVec Ideal S8192x1024 .bf16) (x3 : FVec Ideal S8192x3072 .bf16)
variable (x4 : FVec Ideal S9472x1024 .bf16) (x5 : FVec Ideal S8192x1024 .f32) (i : Fin 8192) (j : Fin 1024)

theorem in21 (k : Fin 4096) : val_main_v21 (F := Ideal) x0 (ix2 i ⟨k.val, by omega⟩) = x0 (ix2 i k) := by
  unfold val_main_v21
  refine (pad_apply_of_inside _ _ _ _ _ _ _ _ (ix2 i k) fun a => ?_).trans rfl
  match a with
  | 0 => show i.val = 0 + i.val * (0 + 1); omega
  | 1 => show k.val = 0 + k.val * (0 + 1); omega
theorem off21 (k : Fin 9472) (h : k.val < 0 ∨ 4096 ≤ k.val) : val_main_v21 (F := Ideal) x0 (ix2 i k) = 0 := by
  unfold val_main_v21
  refine (pad_apply_of_not_inside _ _ _ _ _ _ _ _ (1 : Fin 2) fun q => ?_).trans zero_f32
  have p : 0 ≤ k.val ∧ (k.val - 0) % (0 + 1) = 0 ∧ (k.val - 0) / (0 + 1) < 4096 := q
  omega
theorem in19 (k : Fin 1280) : val_main_v19 (F := Ideal) x1 (ix2 i ⟨4096 + k.val, by omega⟩) = x1 (ix2 i k) := by
  unfold val_main_v19
  refine (pad_apply_of_inside _ _ _ _ _ _ _ _ (ix2 i k) fun a => ?_).trans rfl
  match a with
  | 0 => show i.val = 0 + i.val * (0 + 1); omega
  | 1 => show 4096 + k.val = 4096 + k.val * (0 + 1); omega
theorem off19 (k : Fin 9472) (h : k.val < 4096 ∨ 5376 ≤ k.val) : val_main_v19 (F := Ideal) x1 (ix2 i k) = 0 := by
  unfold val_main_v19
  refine (pad_apply_of_not_inside _ _ _ _ _ _ _ _ (1 : Fin 2) fun q => ?_).trans zero_f32
  have p : 4096 ≤ k.val ∧ (k.val - 4096) % (0 + 1) = 0 ∧ (k.val - 4096) / (0 + 1) < 1280 := q
  omega
theorem in17 (k : Fin 1024) : val_main_v17 (F := Ideal) x2 (ix2 i ⟨5376 + k.val, by omega⟩) = x2 (ix2 i k) := by
  unfold val_main_v17
  refine (pad_apply_of_inside _ _ _ _ _ _ _ _ (ix2 i k) fun a => ?_).trans rfl
  match a with
  | 0 => show i.val = 0 + i.val * (0 + 1); omega
  | 1 => show 5376 + k.val = 5376 + k.val * (0 + 1); omega
theorem off17 (k : Fin 9472) (h : k.val < 5376 ∨ 6400 ≤ k.val) : val_main_v17 (F := Ideal) x2 (ix2 i k) = 0 := by
  unfold val_main_v17
  refine (pad_apply_of_not_inside _ _ _ _ _ _ _ _ (1 : Fin 2) fun q => ?_).trans zero_f32
  have p : 5376 ≤ k.val ∧ (k.val - 5376) % (0 + 1) = 0 ∧ (k.val - 5376) / (0 + 1) < 1024 := q
  omega
theorem in16 (k : Fin 3072) : val_main_v16 (F := Ideal) x3 (ix2 i ⟨6400 + k.val, by omega⟩) = x3 (ix2 i k) := by
  unfold val_main_v16
  refine (pad_apply_of_inside _ _ _ _ _ _ _ _ (ix2 i k) fun a => ?_).trans rfl
  match a with
  | 0 => show i.val = 0 + i.val * (0 + 1); omega
  | 1 => show 6400 + k.val = 6400 + k.val * (0 + 1); omega
theorem off16 (k : Fin 9472) (h : k.val < 6400 ∨ 9472 ≤ k.val) : val_main_v16 (F := Ideal) x3 (ix2 i k) = 0 := by
  unfold val_main_v16
  refine (pad_apply_of_not_inside _ _ _ _ _ _ _ _ (1 : Fin 2) fun q => ?_).trans zero_f32
  have p : 6400 ≤ k.val ∧ (k.val - 6400) % (0 + 1) = 0 ∧ (k.val - 6400) / (0 + 1) < 3072 := q
  omega

/-- The four branches' widened sum at one column. -/
theorem wide_apply (k : Fin 9472) : val_main_v22 (F := Ideal) x0 x1 x2 x3 (ix2 i k) =
    val_main_v16 (F := Ideal) x3 (ix2 i k) + val_main_v17 (F := Ideal) x2 (ix2 i k) + val_main_v19 (F := Ideal) x1 (ix2 i k) + val_main_v21 (F := Ideal) x0 (ix2 i k) := rfl
theorem wide_a (k : Fin 4096) : val_main_v22 (F := Ideal) x0 x1 x2 x3 (ix2 i ⟨k.val, by omega⟩) = x0 (ix2 i k) := by
  rw [wide_apply, off16 _ _ _ (by show k.val < 6400 ∨ 9472 ≤ k.val; omega), off17 _ _ _ (by show k.val < 5376 ∨ 6400 ≤ k.val; omega), off19 _ _ _ (by show k.val < 4096 ∨ 5376 ≤ k.val; omega), in21]
  simp only [zero_add, add_zero]
theorem wide_b (k : Fin 1280) : val_main_v22 (F := Ideal) x0 x1 x2 x3 (ix2 i ⟨4096 + k.val, by omega⟩) = x1 (ix2 i k) := by
  rw [wide_apply, off16 _ _ _ (by show 4096 + k.val < 6400 ∨ 9472 ≤ 4096 + k.val; omega), off17 _ _ _ (by show 4096 + k.val < 5376 ∨ 6400 ≤ 4096 + k.val; omega), in19, off21 _ _ _ (by show 4096 + k.val < 0 ∨ 4096 ≤ 4096 + k.val; omega)]
  simp only [zero_add, add_zero]
theorem wide_c (k : Fin 1024) : val_main_v22 (F := Ideal) x0 x1 x2 x3 (ix2 i ⟨5376 + k.val, by omega⟩) = x2 (ix2 i k) := by
  rw [wide_apply, off16 _ _ _ (by show 5376 + k.val < 6400 ∨ 9472 ≤ 5376 + k.val; omega), in17, off19 _ _ _ (by show 5376 + k.val < 4096 ∨ 5376 ≤ 5376 + k.val; omega), off21 _ _ _ (by show 5376 + k.val < 0 ∨ 4096 ≤ 5376 + k.val; omega)]
  simp only [zero_add, add_zero]
theorem wide_d (k : Fin 3072) : val_main_v22 (F := Ideal) x0 x1 x2 x3 (ix2 i ⟨6400 + k.val, by omega⟩) = x3 (ix2 i k) := by
  rw [wide_apply, in16, off17 _ _ _ (by show 6400 + k.val < 5376 ∨ 6400 ≤ 6400 + k.val; omega), off19 _ _ _ (by show 6400 + k.val < 4096 ∨ 5376 ≤ 6400 + k.val; omega), off21 _ _ _ (by show 6400 + k.val < 0 ∨ 4096 ≤ 6400 + k.val; omega)]
  simp only [zero_add, add_zero]

theorem sum_at : val_main_v24 (F := Ideal) x0 x1 x2 x3 x4 x5 (ix2 i j) =
    alpha * x5 (ix2 i j) + ∑ k : Fin 9472, val_main_v22 (F := Ideal) x0 x1 x2 x3 (ix2 i k) * x4 (ix2 k j) := by
  unfold val_main_v24 val_main_v23 val_main_v15 val_main_v14 val_main_cst_1 val_main_v1 val_main_v0
  generalize val_main_v22 (F := Ideal) x0 x1 x2 x3 = y
  pointwise [alpha_f32]

theorem row_at : val_main_v24 (F := Ideal) x0 x1 x2 x3 x4 x5 (ix2 i j) = dx (row x5 i) (row x0 i) (row x1 i) (row x2 i) (row x3 i) (row x4) j :=
  (sum_at x0 x1 x2 x3 x4 x5 i j).trans
    (dx_of_sum (row x5 i) (row x0 i) (row x1 i) (row x2 i) (row x3 i) (row x4) (fun k => val_main_v22 (F := Ideal) x0 x1 x2 x3 (ix2 i k))
      (wide_a x0 x1 x2 x3 i) (wide_b x0 x1 x2 x3 i) (wide_c x0 x1 x2 x3 i) (wide_d x0 x1 x2 x3 i) j)

/-- The reference's result at an index. -/
theorem out_at (i : Fin 1536) : val_main_v25 (F := Ideal) x0 x1 x2 x3 x4 x5 (ix2 i j) =
    dx (row x5 (Cert.GradXHeadIdeal.Arrays.whole i)) (row x0 (Cert.GradXHeadIdeal.Arrays.whole i)) (row x1 (Cert.GradXHeadIdeal.Arrays.whole i)) (row x2 (Cert.GradXHeadIdeal.Arrays.whole i)) (row x3 (Cert.GradXHeadIdeal.Arrays.whole i)) (row x4) j := by
  rw [← row_at]
  unfold val_main_v25 Cert.GradXHeadIdeal.Arrays.whole
  generalize val_main_v24 (F := Ideal) x0 x1 x2 x3 x4 x5 = y
  pointwise []

end Reference

/-- Kernel and reference compute the same gradient. -/
theorem value : Cert.algebraic_GradXHeadIdeal_GradXHeadReferenceIdeal := by
  intro m g m' g' _ hargs
  refine ⟨fun c i => Cert.GradXHeadIdeal.Arrays.out m c (i 0) (i 1), ?_, ?_⟩
  · refine (θ_run Cert.GradXHeadIdeal.defs _ _).mono (fun r h c => ?_) (Cert.GradXHeadIdeal.Value.run_blocks (F := Ideal) m g)
    exact ⟨(h c).1.trans (Cert.GradXHeadIdeal.Arrays.final m c), (h c).2⟩
  · refine (θ_run Cert.GradXHeadReferenceIdeal.defs _ _).mono (fun r h c => ?_) (Cert.GradXHeadReferenceIdeal.Value.run (F := Ideal) m' g')
    obtain ⟨h0, k⟩ := h c
    obtain ⟨a0, a1, a2, a3, a4, a5⟩ := hargs c
    replace h0 := h0.trans (Cert.GradXHeadReferenceIdeal.Read.val_main_v25_eq _ _ _ _ _ _)
    replace a0 : m' ((c.tc : Thread Cert.GradXHeadReferenceIdeal.nD Cert.GradXHeadReferenceIdeal.τ).loc Cert.GradXHeadReferenceIdeal.main_arg0) = m ((c.tc : Thread Cert.GradXHeadIdeal.nD Cert.GradXHeadIdeal.τ).loc Cert.GradXHeadIdeal.main_arg0) := a0
    replace a1 : m' ((c.tc : Thread Cert.GradXHeadReferenceIdeal.nD Cert.GradXHeadReferenceIdeal.τ).loc Cert.GradXHeadReferenceIdeal.main_arg1) = m ((c.tc : Thread Cert.GradXHeadIdeal.nD Cert.GradXHeadIdeal.τ).loc Cert.GradXHeadIdeal.main_arg1) := a1
    replace a2 : m' ((c.tc : Thread Cert.GradXHeadReferenceIdeal.nD Cert.GradXHeadReferenceIdeal.τ).loc Cert.GradXHeadReferenceIdeal.main_arg2) = m ((c.tc : Thread Cert.GradXHeadIdeal.nD Cert.GradXHeadIdeal.τ).loc Cert.GradXHeadIdeal.main_arg2) := a2
    replace a3 : m' ((c.tc : Thread Cert.GradXHeadReferenceIdeal.nD Cert.GradXHeadReferenceIdeal.τ).loc Cert.GradXHeadReferenceIdeal.main_arg3) = m ((c.tc : Thread Cert.GradXHeadIdeal.nD Cert.GradXHeadIdeal.τ).loc Cert.GradXHeadIdeal.main_arg3) := a3
    replace a4 : m' ((c.tc : Thread Cert.GradXHeadReferenceIdeal.nD Cert.GradXHeadReferenceIdeal.τ).loc Cert.GradXHeadReferenceIdeal.main_arg4) = m ((c.tc : Thread Cert.GradXHeadIdeal.nD Cert.GradXHeadIdeal.τ).loc Cert.GradXHeadIdeal.main_arg4) := a4
    replace a5 : m' ((c.tc : Thread Cert.GradXHeadReferenceIdeal.nD Cert.GradXHeadReferenceIdeal.τ).loc Cert.GradXHeadReferenceIdeal.main_arg5) = m ((c.tc : Thread Cert.GradXHeadIdeal.nD Cert.GradXHeadIdeal.τ).loc Cert.GradXHeadIdeal.main_arg5) := a5
    rw [a0, a1, a2, a3, a4, a5] at h0
    refine ⟨h0.trans (funext fun i => ?_), k⟩
    obtain ⟨k, b, rfl⟩ : ∃ (k : Fin 1536) (b : Fin 1024), i = ix2 k b := ⟨i 0, i 1, by idx_vars i⟩
    exact out_at _ _ _ _ _ _ b k

end Cert.GradXHeadClaim
end
-- ==== Proof.GradXTailArrays.lean ====
module

public import proofs.«01_k».proof.Proof.Gen.GradXTailIdeal.Value
public import proofs.«01_k».proof.Proof.GradXSpec

@[expose] public section

set_option maxRecDepth 16384

noncomputable section

namespace Cert.GradXTailIdeal.Arrays

open Cert.GradXTailIdeal Cert.GradXTailIdeal.Gen Idealize.ShloMosaic Idealize.ShloMosaic.TcCoe Idealize.SL.Sem Cert.MemSpec Cert.MlpSpec Cert.GradXSpec

section Block

variable (r : Vec Ideal S512x1024 .f32) (a : Vec Ideal S512x4096 .bf16) (b : Vec Ideal S512x1280 .bf16) (u : Vec Ideal S512x1024 .bf16) (d : Vec Ideal S512x3072 .bf16)
variable (wa : Vec Ideal S4096x1024 .bf16) (wb : Vec Ideal S1280x1024 .bf16) (wu : Vec Ideal S1024x1024 .bf16) (wd : Vec Ideal S3072x1024 .bf16) (w : Vec Ideal S9472x1024 .bf16)
variable (y : Fin 512) (j : Fin 1024)

theorem pay1_apply : k0_pay1 r a wa b wb u wu d wd (ix2 y j) = alpha * r (ix2 y j) + ∑ k : Fin 4096, a (ix2 y k) * wa (ix2 k j) +
    ∑ k : Fin 1280, b (ix2 y k) * wb (ix2 k j) + ∑ k : Fin 1024, u (ix2 y k) * wu (ix2 k j) + ∑ k : Fin 3072, d (ix2 y k) * wd (ix2 k j) := by
  pointwise [k0_pay1, alpha_f32]

/-- A range of the weights' rows. -/
theorem range_at {o n : ℕ} (inb : ∀ i, (![o, 0] : Fin 2 → ℕ) i + (![n, 1024] : Fin 2 → ℕ) i ≤ S9472x1024.size i) (k : Fin n) (h : o + k.val < 9472) :
    View.ld w (Rect.unit ![o, 0] ![n, 1024] inb) (ix2 k j) = w (ix2 ⟨o + k.val, h⟩ j) :=
  congrArg w (funext fun e => Fin.ext (by
    match e with
    | 0 => exact congrArg (o + ·) (Nat.one_mul _)
    | 1 => exact (Nat.zero_add _).trans (Nat.one_mul _)))
theorem range_first {n : ℕ} (inb : ∀ i, (![0, 0] : Fin 2 → ℕ) i + (![n, 1024] : Fin 2 → ℕ) i ≤ S9472x1024.size i) (k : Fin n) (h : k.val < 9472) :
    View.ld w (Rect.unit ![0, 0] ![n, 1024] inb) (ix2 k j) = w (ix2 ⟨k.val, h⟩ j) :=
  congrArg w (funext fun e => Fin.ext (by
    match e with
    | 0 => exact (Nat.zero_add _).trans (Nat.one_mul _)
    | 1 => exact (Nat.zero_add _).trans (Nat.one_mul _)))

/-- A row of the stored block. -/
theorem out_apply : out0_6 a b u d w r (ix2 y j) = dx (row r y) (row a y) (row b y) (row u y) (row d y) (row w) j := by
  unfold out0_6
  frame_out
  refine (pay1_apply _ _ _ _ _ _ _ _ _ y j).trans ?_
  unfold dx row
  refine congrArg₂ (· + ·) (congrArg₂ (· + ·) (congrArg₂ (· + ·) (congrArg₂ (· + ·) rfl ?_) ?_) ?_) ?_
  · exact Finset.sum_congr rfl fun k _ => congrArg _ (range_first w j _ k _)
  · exact Finset.sum_congr rfl fun k _ => congrArg _ (range_at w j _ k _)
  · exact Finset.sum_congr rfl fun k _ => congrArg _ (range_at w j _ k _)
  · exact Finset.sum_congr rfl fun k _ => congrArg _ (range_at w j _ k _)

end Block

variable (m : (ℓ : Loc nD τ sig) → Buf (Elt Ideal) ℓ) (c : Dev nD)

theorem N_eq : cfg0.N = 13 := N_0

/-- The launch's arrays. -/
abbrev DA : FVec Ideal S8192x4096 .bf16 := m ((c : Thread nD τ).loc main_arg0)
abbrev DB : FVec Ideal S8192x1280 .bf16 := m ((c : Thread nD τ).loc main_arg1)
abbrev DC : FVec Ideal S8192x1024 .bf16 := m ((c : Thread nD τ).loc main_arg2)
abbrev DD : FVec Ideal S8192x3072 .bf16 := m ((c : Thread nD τ).loc main_arg3)
abbrev WI : FVec Ideal S9472x1024 .bf16 := m ((c : Thread nD τ).loc main_arg4)
abbrev DP : FVec Ideal S8192x1024 .f32 := m ((c : Thread nD τ).loc main_arg5)

/-- A row of the result as a row of the arrays. -/
def whole (i : Fin 6656) : Fin 8192 := ⟨1536 + i.val, by omega⟩
/-- Row `r` of block `t` of the result. -/
def lane (t : Fin cfg0.N) (r : Fin 512) : Fin 6656 := ⟨t.val * 512 + r.val, by have h := lt_of_lt_of_eq t.isLt N_eq; omega⟩

/-- Where the windows' blocks lie. -/
theorem placesIn : ∀ t : Fin cfg0.N, (win0_0.index t 0 = t.val + 3 ∧ win0_0.index t 1 = 0) ∧ (win0_1.index t 0 = t.val + 3 ∧ win0_1.index t 1 = 0) ∧
    (win0_2.index t 0 = t.val + 3 ∧ win0_2.index t 1 = 0) ∧ (win0_3.index t 0 = t.val + 3 ∧ win0_3.index t 1 = 0) := by decide +kernel
theorem places : ∀ t : Fin cfg0.N, (win0_4.index t 0 = 0 ∧ win0_4.index t 1 = 0) ∧ (win0_5.index t 0 = t.val + 3 ∧ win0_5.index t 1 = 0) ∧
    (win0_6.index t 0 = t.val ∧ win0_6.index t 1 = 0) := by decide +kernel

theorem row0 (t : Fin cfg0.N) (r : Fin 512) : row (iblk m c 0 t) r = row (DA m c) (whole (lane t r)) := by
  have e := placesIn t
  funext d; unfold row whole lane DA; blk_ext [iblk, V, e.1.1, e.1.2]
theorem row1 (t : Fin cfg0.N) (r : Fin 512) : row (iblk m c 1 t) r = row (DB m c) (whole (lane t r)) := by
  have e := placesIn t
  funext d; unfold row whole lane DB; blk_ext [iblk, V, e.2.1.1, e.2.1.2]
theorem row2 (t : Fin cfg0.N) (r : Fin 512) : row (iblk m c 2 t) r = row (DC m c) (whole (lane t r)) := by
  have e := placesIn t
  funext d; unfold row whole lane DC; blk_ext [iblk, V, e.2.2.1.1, e.2.2.1.2]
theorem row3 (t : Fin cfg0.N) (r : Fin 512) : row (iblk m c 3 t) r = row (DD m c) (whole (lane t r)) := by
  have e := placesIn t
  funext d; unfold row whole lane DD; blk_ext [iblk, V, e.2.2.2.1, e.2.2.2.2]
theorem row5 (t : Fin cfg0.N) (r : Fin 512) : row (iblk m c 5 t) r = row (DP m c) (whole (lane t r)) := by
  have e := places t
  funext d; unfold row whole lane DP; blk_ext [iblk, V, e.2.1.1, e.2.1.2]
theorem row4 (t : Fin cfg0.N) : row (iblk m c 4 t) = row (WI m c) := by
  have e := places t
  funext f d; unfold row WI; blk_ext [iblk, V, e.1.1, e.1.2]

/-- Row `i` of the result. -/
def out (i : Fin 6656) : R := dx (row (DP m c) (whole i)) (row (DA m c) (whole i)) (row (DB m c) (whole i)) (row (DC m c) (whole i)) (row (DD m c) (whole i)) (row (WI m c))

theorem final : (dats m 0 c).arrAt 6 cfg0.N = fun i : S6656x1024.Idx => out m c (i 0) (i 1) := by
  refine (dats m 0 c).arrAt_eq_of_covers 6 _ (by decide +kernel) fun t hf y => ?_
  blk_simp
  rw [after0_6]
  have e := places t
  idx_vars y
  refine (out_apply (iblk m c 5 t) (iblk m c 0 t) (iblk m c 1 t) (iblk m c 2 t) (iblk m c 3 t) (iblk m c 4 t) y0 y1).trans ?_
  rw [row0, row1, row2, row3, row4, row5]
  have a : ((View.whole main_v0).slice (win0_6.rect t)).emb (ix2 y0 y1) = ix2 (lane t y0) y1 := by
    unfold lane; blk_ext [e.2.2.1, e.2.2.2]
  rw [a]
  rfl

end Cert.GradXTailIdeal.Arrays
end
-- ==== Proof.GradXTailClaim.lean ====
module

public import proofs.«01_k».proof.Defs
public import proofs.«01_k».proof.Proof.Gen.GradXTail
public import proofs.«01_k».proof.Proof.Gen.GradXTailIdeal
public import proofs.«01_k».proof.Proof.Gen.GradXTailReferenceIdeal
public import proofs.«01_k».proof.Proof.Gen.GradXTail.Frame
public import proofs.«01_k».proof.Proof.Gen.GradXTailReferenceIdeal.Run
public import proofs.«01_k».proof.Proof.Gen.GradXTailReferenceIdeal.Read
public import Idealize.ShloMosaic.Lib.KernelVsHost
public import proofs.«01_k».proof.Proof.GradXTailArrays

@[expose] public section

set_option maxRecDepth 16384

noncomputable section

namespace Cert.GradXTailClaim

open Idealize.ShloMosaic Idealize.SL.Sem Cert.MemSpec Cert.MlpSpec Cert.GradXSpec

theorem frame_kernel : Cert.quiescent_GradXTail := fun m ρ _ => Cert.GradXTail.Gen.frame m ρ

theorem frame_ideal : Cert.quiescent_GradXTailIdeal := fun m ρ _ => Cert.GradXTailIdeal.Gen.frame m ρ

theorem frame_reference : Cert.quiescent_GradXTailReferenceIdeal := fun m ρ _ =>
  (θ_run Cert.GradXTailReferenceIdeal.defs _ _).mono (fun r h => ⟨fun c => (h c).2, sem_eq_zero_of_no_sems (by decide) r.2⟩)
    (Cert.GradXTailReferenceIdeal.Value.run (F := Ideal) m ρ)

/-! ## The reference's branches, each widened with zeros to all columns -/

section Reference

open Cert.GradXTailReferenceIdeal Cert.GradXTailReferenceIdeal.Read

variable (x0 : FVec Ideal S8192x4096 .bf16) (x1 : FVec Ideal S8192x1280 .bf16) (x2 : FVec Ideal S8192x1024 .bf16) (x3 : FVec Ideal S8192x3072 .bf16)
variable (x4 : FVec Ideal S9472x1024 .bf16) (x5 : FVec Ideal S8192x1024 .f32) (i : Fin 8192) (j : Fin 1024)

theorem in21 (k : Fin 4096) : val_main_v21 (F := Ideal) x0 (ix2 i ⟨k.val, by omega⟩) = x0 (ix2 i k) := by
  unfold val_main_v21
  refine (pad_apply_of_inside _ _ _ _ _ _ _ _ (ix2 i k) fun a => ?_).trans rfl
  match a with
  | 0 => show i.val = 0 + i.val * (0 + 1); omega
  | 1 => show k.val = 0 + k.val * (0 + 1); omega
theorem off21 (k : Fin 9472) (h : k.val < 0 ∨ 4096 ≤ k.val) : val_main_v21 (F := Ideal) x0 (ix2 i k) = 0 := by
  unfold val_main_v21
  refine (pad_apply_of_not_inside _ _ _ _ _ _ _ _ (1 : Fin 2) fun q => ?_).trans zero_f32
  have p : 0 ≤ k.val ∧ (k.val - 0) % (0 + 1) = 0 ∧ (k.val - 0) / (0 + 1) < 4096 := q
  omega
theorem in19 (k : Fin 1280) : val_main_v19 (F := Ideal) x1 (ix2 i ⟨4096 + k.val, by omega⟩) = x1 (ix2 i k) := by
  unfold val_main_v19
  refine (pad_apply_of_inside _ _ _ _ _ _ _ _ (ix2 i k) fun a => ?_).trans rfl
  match a with
  | 0 => show i.val = 0 + i.val * (0 + 1); omega
  | 1 => show 4096 + k.val = 4096 + k.val * (0 + 1); omega
theorem off19 (k : Fin 9472) (h : k.val < 4096 ∨ 5376 ≤ k.val) : val_main_v19 (F := Ideal) x1 (ix2 i k) = 0 := by
  unfold val_main_v19
  refine (pad_apply_of_not_inside _ _ _ _ _ _ _ _ (1 : Fin 2) fun q => ?_).trans zero_f32
  have p : 4096 ≤ k.val ∧ (k.val - 4096) % (0 + 1) = 0 ∧ (k.val - 4096) / (0 + 1) < 1280 := q
  omega
theorem in17 (k : Fin 1024) : val_main_v17 (F := Ideal) x2 (ix2 i ⟨5376 + k.val, by omega⟩) = x2 (ix2 i k) := by
  unfold val_main_v17
  refine (pad_apply_of_inside _ _ _ _ _ _ _ _ (ix2 i k) fun a => ?_).trans rfl
  match a with
  | 0 => show i.val = 0 + i.val * (0 + 1); omega
  | 1 => show 5376 + k.val = 5376 + k.val * (0 + 1); omega
theorem off17 (k : Fin 9472) (h : k.val < 5376 ∨ 6400 ≤ k.val) : val_main_v17 (F := Ideal) x2 (ix2 i k) = 0 := by
  unfold val_main_v17
  refine (pad_apply_of_not_inside _ _ _ _ _ _ _ _ (1 : Fin 2) fun q => ?_).trans zero_f32
  have p : 5376 ≤ k.val ∧ (k.val - 5376) % (0 + 1) = 0 ∧ (k.val - 5376) / (0 + 1) < 1024 := q
  omega
theorem in16 (k : Fin 3072) : val_main_v16 (F := Ideal) x3 (ix2 i ⟨6400 + k.val, by omega⟩) = x3 (ix2 i k) := by
  unfold val_main_v16
  refine (pad_apply_of_inside _ _ _ _ _ _ _ _ (ix2 i k) fun a => ?_).trans rfl
  match a with
  | 0 => show i.val = 0 + i.val * (0 + 1); omega
  | 1 => show 6400 + k.val = 6400 + k.val * (0 + 1); omega
theorem off16 (k : Fin 9472) (h : k.val < 6400 ∨ 9472 ≤ k.val) : val_main_v16 (F := Ideal) x3 (ix2 i k) = 0 := by
  unfold val_main_v16
  refine (pad_apply_of_not_inside _ _ _ _ _ _ _ _ (1 : Fin 2) fun q => ?_).trans zero_f32
  have p : 6400 ≤ k.val ∧ (k.val - 6400) % (0 + 1) = 0 ∧ (k.val - 6400) / (0 + 1) < 3072 := q
  omega

/-- The four branches' widened sum at one column. -/
theorem wide_apply (k : Fin 9472) : val_main_v22 (F := Ideal) x0 x1 x2 x3 (ix2 i k) =
    val_main_v16 (F := Ideal) x3 (ix2 i k) + val_main_v17 (F := Ideal) x2 (ix2 i k) + val_main_v19 (F := Ideal) x1 (ix2 i k) + val_main_v21 (F := Ideal) x0 (ix2 i k) := rfl
theorem wide_a (k : Fin 4096) : val_main_v22 (F := Ideal) x0 x1 x2 x3 (ix2 i ⟨k.val, by omega⟩) = x0 (ix2 i k) := by
  rw [wide_apply, off16 _ _ _ (by show k.val < 6400 ∨ 9472 ≤ k.val; omega), off17 _ _ _ (by show k.val < 5376 ∨ 6400 ≤ k.val; omega), off19 _ _ _ (by show k.val < 4096 ∨ 5376 ≤ k.val; omega), in21]
  simp only [zero_add, add_zero]
theorem wide_b (k : Fin 1280) : val_main_v22 (F := Ideal) x0 x1 x2 x3 (ix2 i ⟨4096 + k.val, by omega⟩) = x1 (ix2 i k) := by
  rw [wide_apply, off16 _ _ _ (by show 4096 + k.val < 6400 ∨ 9472 ≤ 4096 + k.val; omega), off17 _ _ _ (by show 4096 + k.val < 5376 ∨ 6400 ≤ 4096 + k.val; omega), in19, off21 _ _ _ (by show 4096 + k.val < 0 ∨ 4096 ≤ 4096 + k.val; omega)]
  simp only [zero_add, add_zero]
theorem wide_c (k : Fin 1024) : val_main_v22 (F := Ideal) x0 x1 x2 x3 (ix2 i ⟨5376 + k.val, by omega⟩) = x2 (ix2 i k) := by
  rw [wide_apply, off16 _ _ _ (by show 5376 + k.val < 6400 ∨ 9472 ≤ 5376 + k.val; omega), in17, off19 _ _ _ (by show 5376 + k.val < 4096 ∨ 5376 ≤ 5376 + k.val; omega), off21 _ _ _ (by show 5376 + k.val < 0 ∨ 4096 ≤ 5376 + k.val; omega)]
  simp only [zero_add, add_zero]
theorem wide_d (k : Fin 3072) : val_main_v22 (F := Ideal) x0 x1 x2 x3 (ix2 i ⟨6400 + k.val, by omega⟩) = x3 (ix2 i k) := by
  rw [wide_apply, in16, off17 _ _ _ (by show 6400 + k.val < 5376 ∨ 6400 ≤ 6400 + k.val; omega), off19 _ _ _ (by show 6400 + k.val < 4096 ∨ 5376 ≤ 6400 + k.val; omega), off21 _ _ _ (by show 6400 + k.val < 0 ∨ 4096 ≤ 6400 + k.val; omega)]
  simp only [zero_add, add_zero]

theorem sum_at : val_main_v24 (F := Ideal) x0 x1 x2 x3 x4 x5 (ix2 i j) =
    alpha * x5 (ix2 i j) + ∑ k : Fin 9472, val_main_v22 (F := Ideal) x0 x1 x2 x3 (ix2 i k) * x4 (ix2 k j) := by
  unfold val_main_v24 val_main_v23 val_main_v15 val_main_v14 val_main_cst_1 val_main_v1 val_main_v0
  generalize val_main_v22 (F := Ideal) x0 x1 x2 x3 = y
  pointwise [alpha_f32]

theorem row_at : val_main_v24 (F := Ideal) x0 x1 x2 x3 x4 x5 (ix2 i j) = dx (row x5 i) (row x0 i) (row x1 i) (row x2 i) (row x3 i) (row x4) j :=
  (sum_at x0 x1 x2 x3 x4 x5 i j).trans
    (dx_of_sum (row x5 i) (row x0 i) (row x1 i) (row x2 i) (row x3 i) (row x4) (fun k => val_main_v22 (F := Ideal) x0 x1 x2 x3 (ix2 i k))
      (wide_a x0 x1 x2 x3 i) (wide_b x0 x1 x2 x3 i) (wide_c x0 x1 x2 x3 i) (wide_d x0 x1 x2 x3 i) j)

/-- The reference's result at an index. -/
theorem out_at (i : Fin 6656) : val_main_v25 (F := Ideal) x0 x1 x2 x3 x4 x5 (ix2 i j) =
    dx (row x5 (Cert.GradXTailIdeal.Arrays.whole i)) (row x0 (Cert.GradXTailIdeal.Arrays.whole i)) (row x1 (Cert.GradXTailIdeal.Arrays.whole i)) (row x2 (Cert.GradXTailIdeal.Arrays.whole i)) (row x3 (Cert.GradXTailIdeal.Arrays.whole i)) (row x4) j := by
  rw [← row_at]
  unfold val_main_v25 Cert.GradXTailIdeal.Arrays.whole
  generalize val_main_v24 (F := Ideal) x0 x1 x2 x3 x4 x5 = y
  pointwise []

end Reference

/-- Kernel and reference compute the same gradient. -/
theorem value : Cert.algebraic_GradXTailIdeal_GradXTailReferenceIdeal := by
  intro m g m' g' _ hargs
  refine ⟨fun c i => Cert.GradXTailIdeal.Arrays.out m c (i 0) (i 1), ?_, ?_⟩
  · refine (θ_run Cert.GradXTailIdeal.defs _ _).mono (fun r h c => ?_) (Cert.GradXTailIdeal.Value.run_blocks (F := Ideal) m g)
    exact ⟨(h c).1.trans (Cert.GradXTailIdeal.Arrays.final m c), (h c).2⟩
  · refine (θ_run Cert.GradXTailReferenceIdeal.defs _ _).mono (fun r h c => ?_) (Cert.GradXTailReferenceIdeal.Value.run (F := Ideal) m' g')
    obtain ⟨h0, k⟩ := h c
    obtain ⟨a0, a1, a2, a3, a4, a5⟩ := hargs c
    replace h0 := h0.trans (Cert.GradXTailReferenceIdeal.Read.val_main_v25_eq _ _ _ _ _ _)
    replace a0 : m' ((c.tc : Thread Cert.GradXTailReferenceIdeal.nD Cert.GradXTailReferenceIdeal.τ).loc Cert.GradXTailReferenceIdeal.main_arg0) = m ((c.tc : Thread Cert.GradXTailIdeal.nD Cert.GradXTailIdeal.τ).loc Cert.GradXTailIdeal.main_arg0) := a0
    replace a1 : m' ((c.tc : Thread Cert.GradXTailReferenceIdeal.nD Cert.GradXTailReferenceIdeal.τ).loc Cert.GradXTailReferenceIdeal.main_arg1) = m ((c.tc : Thread Cert.GradXTailIdeal.nD Cert.GradXTailIdeal.τ).loc Cert.GradXTailIdeal.main_arg1) := a1
    replace a2 : m' ((c.tc : Thread Cert.GradXTailReferenceIdeal.nD Cert.GradXTailReferenceIdeal.τ).loc Cert.GradXTailReferenceIdeal.main_arg2) = m ((c.tc : Thread Cert.GradXTailIdeal.nD Cert.GradXTailIdeal.τ).loc Cert.GradXTailIdeal.main_arg2) := a2
    replace a3 : m' ((c.tc : Thread Cert.GradXTailReferenceIdeal.nD Cert.GradXTailReferenceIdeal.τ).loc Cert.GradXTailReferenceIdeal.main_arg3) = m ((c.tc : Thread Cert.GradXTailIdeal.nD Cert.GradXTailIdeal.τ).loc Cert.GradXTailIdeal.main_arg3) := a3
    replace a4 : m' ((c.tc : Thread Cert.GradXTailReferenceIdeal.nD Cert.GradXTailReferenceIdeal.τ).loc Cert.GradXTailReferenceIdeal.main_arg4) = m ((c.tc : Thread Cert.GradXTailIdeal.nD Cert.GradXTailIdeal.τ).loc Cert.GradXTailIdeal.main_arg4) := a4
    replace a5 : m' ((c.tc : Thread Cert.GradXTailReferenceIdeal.nD Cert.GradXTailReferenceIdeal.τ).loc Cert.GradXTailReferenceIdeal.main_arg5) = m ((c.tc : Thread Cert.GradXTailIdeal.nD Cert.GradXTailIdeal.τ).loc Cert.GradXTailIdeal.main_arg5) := a5
    rw [a0, a1, a2, a3, a4, a5] at h0
    refine ⟨h0.trans (funext fun i => ?_), k⟩
    obtain ⟨k, b, rfl⟩ : ∃ (k : Fin 6656) (b : Fin 1024), i = ix2 k b := ⟨i 0, i 1, by idx_vars i⟩
    exact out_at _ _ _ _ _ _ b k

end Cert.GradXTailClaim
end
-- ==== Proof.ProjBArrays.lean ====
module

public import proofs.«01_k».proof.Proof.Gen.ProjBIdeal.Value
public import proofs.«01_k».proof.Proof.GradSpec
public import proofs.«01_k».proof.Proof.MergeSpec

@[expose] public section

set_option maxRecDepth 16384

noncomputable section

namespace Cert.ProjBIdeal.Arrays

open Cert.ProjBIdeal Cert.ProjBIdeal.Gen Idealize.ShloMosaic Idealize.ShloMosaic.TcCoe Idealize.SL.Sem Cert.MemSpec Cert.GradSpec Cert.MlpSpec Cert.MergeSpec

theorem out_apply (a : Vec Ideal S1024x1024 .bf16) (w : Vec Ideal S1280x1024 .bf16) (r : Fin 1024) (j : Fin 1280) :
    out0_2 a w (ix2 r j) = across (row a r) (row w) j := by
  unfold out0_2
  frame_out
  unfold across row
  pointwise [k0_pay1]

variable (m : (ℓ : Loc nD τ sig) → Buf (Elt Ideal) ℓ) (c : Dev nD)

theorem N_eq : cfg0.N = 8 := N_0

/-- The launch's arrays. -/
abbrev A : FVec Ideal S8192x1024 .bf16 := m ((c : Thread nD τ).loc main_arg0)
abbrev B : FVec Ideal S9472x1024 .bf16 := m ((c : Thread nD τ).loc main_arg1)

/-- The rows of the weights the call reads. -/
def part (w : FVec Ideal S9472x1024 .bf16) : Fin 1280 → R := fun f => row w ⟨4096 + f.val, by omega⟩

/-- Row `r` of block `t` as a row of the array. -/
def lane (t : Fin cfg0.N) (r : Fin 1024) : Fin 8192 := ⟨t.val * 1024 + r.val, by have h := lt_of_lt_of_eq t.isLt N_eq; omega⟩

/-- Where the windows' blocks lie. -/
theorem places : ∀ t : Fin cfg0.N, (win0_0.index t 0 = t.val ∧ win0_0.index t 1 = 0) ∧ (win0_1.index t 0 = 4096 ∧ win0_1.index t 1 = 0) ∧
    (win0_2.index t 0 = t.val ∧ win0_2.index t 1 = 0) := by decide +kernel

theorem row0 (t : Fin cfg0.N) (r : Fin 1024) : row (iblk m c 0 t) r = row (A m c) (lane t r) := by
  have e := places t
  funext d; unfold row lane A; blk_ext [iblk, V, e.1.1, e.1.2]
theorem row1 (t : Fin cfg0.N) : row (iblk m c 1 t) = part (B m c) := by
  have e := places t
  funext f d; unfold part row B
  refine congrArg (m ((c : Thread nD τ).loc main_arg1)) (funext fun a => Fin.ext ?_)
  match a with
  | 0 => exact congrArg₂ (· + ·) e.2.1.1 (Nat.one_mul _)
  | 1 => exact (congrArg₂ (· + ·) e.2.1.2 (Nat.one_mul _)).trans (Nat.zero_add _)

/-- The result: `xb` times the weights' part, row by row. -/
theorem final : (dats m 0 c).arrAt 2 cfg0.N = fun i : S8192x1280.Idx => across (row (A m c) (i 0)) (part (B m c)) (i 1) := by
  refine (dats m 0 c).arrAt_eq_of_covers 2 _ (by decide +kernel) fun t hf y => ?_
  blk_simp
  rw [after0_2]
  have e := places t
  idx_vars y
  refine (out_apply _ _ y0 y1).trans ?_
  have a : ((View.whole main_v0).slice (win0_2.rect t)).emb (ix2 y0 y1) = ix2 (lane t y0) y1 := by
    unfold lane; blk_ext [e.2.2.1, e.2.2.2]
  rw [a, row0, row1]
  rfl

end Cert.ProjBIdeal.Arrays
end
-- ==== Proof.ProjBClaim.lean ====
module

public import proofs.«01_k».proof.Defs
public import proofs.«01_k».proof.Proof.Gen.ProjB
public import proofs.«01_k».proof.Proof.Gen.ProjBIdeal
public import proofs.«01_k».proof.Proof.Gen.ProjBReferenceIdeal
public import proofs.«01_k».proof.Proof.Gen.ProjB.Frame
public import proofs.«01_k».proof.Proof.Gen.ProjBReferenceIdeal.Run
public import proofs.«01_k».proof.Proof.Gen.ProjBReferenceIdeal.Read
public import proofs.«01_k».proof.Proof.ProjBArrays

@[expose] public section

set_option maxRecDepth 16384

noncomputable section

namespace Cert.ProjBClaim

open Idealize.ShloMosaic Idealize.SL.Sem Cert.MemSpec Cert.GradSpec Cert.MlpSpec Cert.MergeSpec

theorem frame_kernel : Cert.quiescent_ProjB := fun m ρ _ => Cert.ProjB.Gen.frame m ρ

theorem frame_ideal : Cert.quiescent_ProjBIdeal := fun m ρ _ => Cert.ProjBIdeal.Gen.frame m ρ

theorem frame_reference : Cert.quiescent_ProjBReferenceIdeal := fun m ρ _ =>
  (θ_run Cert.ProjBReferenceIdeal.defs _ _).mono (fun r h => ⟨fun c => (h c).2, sem_eq_zero_of_no_sems (by decide) r.2⟩)
    (Cert.ProjBReferenceIdeal.Value.run (F := Ideal) m ρ)

/-- The reference's result at an index. -/
theorem out_at (A : FVec Ideal Cert.ProjBReferenceIdeal.S8192x1024 .bf16) (B : FVec Ideal Cert.ProjBReferenceIdeal.S9472x1024 .bf16) (i : Fin 8192) (j : Fin 1280) :
    Cert.ProjBReferenceIdeal.Read.val_main_v5 (F := Ideal) A B (ix2 i j) = across (row A i) (Cert.ProjBIdeal.Arrays.part B) j := by
  unfold across Cert.ProjBIdeal.Arrays.part row Cert.ProjBReferenceIdeal.Read.val_main_v5 Cert.ProjBReferenceIdeal.Read.val_main_v4 Cert.ProjBReferenceIdeal.Read.val_main_v3 Cert.ProjBReferenceIdeal.Read.val_main_v2 Cert.ProjBReferenceIdeal.Read.val_main_v1 Cert.ProjBReferenceIdeal.Read.val_main_v0
  pointwise []

/-- Kernel and reference compute the same values. -/
theorem value : Cert.algebraic_ProjBIdeal_ProjBReferenceIdeal := by
  intro m g m' g' _ hargs
  refine ⟨fun c i => across (row (Cert.ProjBIdeal.Arrays.A m c) (i 0)) (Cert.ProjBIdeal.Arrays.part (Cert.ProjBIdeal.Arrays.B m c)) (i 1), ?_, ?_⟩
  · refine (θ_run Cert.ProjBIdeal.defs _ _).mono (fun r h c => ?_) (Cert.ProjBIdeal.Value.run_blocks (F := Ideal) m g)
    obtain ⟨h0, k⟩ := h c
    exact ⟨h0.trans (Cert.ProjBIdeal.Arrays.final m c), k⟩
  · refine (θ_run Cert.ProjBReferenceIdeal.defs _ _).mono (fun r h c => ?_) (Cert.ProjBReferenceIdeal.Value.run (F := Ideal) m' g')
    obtain ⟨h0, k⟩ := h c
    obtain ⟨a0, a1⟩ := hargs c
    replace h0 := h0.trans (Cert.ProjBReferenceIdeal.Read.val_main_v5_eq _ _)
    replace a0 : m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0) := a0
    replace a1 : m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1) := a1
    rw [a0, a1] at h0
    refine ⟨h0.trans (funext fun i => ?_), k⟩
    · obtain ⟨k, b, rfl⟩ : ∃ (k : Fin 8192) (b : Fin 1280), i = ix2 k b := ⟨i 0, i 1, by idx_vars i⟩
      exact out_at _ _ k b

end Cert.ProjBClaim
end
-- ==== Proof.MemKvArrays.lean ====
module

public import proofs.«01_k».proof.Proof.Gen.MemKvIdeal.Value
public import proofs.«01_k».proof.Proof.GradSpec
public import proofs.«01_k».proof.Proof.MergeSpec

@[expose] public section

set_option maxRecDepth 16384

noncomputable section

namespace Cert.MemKvIdeal.Arrays

open Cert.MemKvIdeal Cert.MemKvIdeal.Gen Idealize.ShloMosaic Idealize.ShloMosaic.TcCoe Idealize.SL.Sem Cert.MemSpec Cert.GradSpec Cert.MlpSpec Cert.MergeSpec

/-- A product's row: `∑ k, x k * w k j`. -/
def times {n : ℕ} (x : R) (w : Fin 1024 → Fin n → EReal) (j : Fin n) : EReal := ∑ k, x k * w k j

theorem out_apply (a : Vec Ideal S256x1024 .bf16) (w : Vec Ideal S1x1024x512 .bf16) (r : Fin 256) (j : Fin 512) :
    out0_2 a w (ix2 r j) = ∑ k : Fin 1024, a (ix2 r k) * w (ix3 0 k j) := by
  unfold out0_2
  frame_out
  pointwise [k0_pay1]

variable (m : (ℓ : Loc nD τ sig) → Buf (Elt Ideal) ℓ) (c : Dev nD)

theorem N_eq : cfg0.N = 4 := N_0

/-- The launch's arrays. -/
abbrev A : FVec Ideal S256x1024 .f32 := m ((c : Thread nD τ).loc main_arg0)
abbrev B : FVec Ideal S1024x2048 .bf16 := m ((c : Thread nD τ).loc main_arg1)

/-- Column `j` of panel `t`. -/
def wide (t : Fin cfg0.N) (j : Fin 512) : Fin 2048 := ⟨t.val * 512 + j.val, by have h := lt_of_lt_of_eq t.isLt N_eq; omega⟩

theorem host_mem (r : Fin 256) (k : Fin 1024) : V m c main_v0 (ix2 r k) = A m c (ix2 r k) := by
  unfold V
  after_results
  pointwise []
theorem host_w (p : Fin 4) (k : Fin 1024) (j : Fin 512) : V m c main_v2 (ix3 p k j) = B m c (ix2 k ⟨p.val * 512 + j.val, by omega⟩) := by
  unfold V
  after_results
  pointwise []

/-- Where the windows' blocks lie. -/
theorem places : ∀ t : Fin cfg0.N, (win0_0.index t 0 = 0 ∧ win0_0.index t 1 = 0) ∧ (win0_1.index t 0 = t.val ∧ win0_1.index t 1 = 0 ∧ win0_1.index t 2 = 0) ∧
    (win0_2.index t 0 = 0 ∧ win0_2.index t 1 = t.val) := by decide +kernel

theorem at0 (t : Fin cfg0.N) (r : Fin 256) (k : Fin 1024) : (iblk m c 0 t : Vec Ideal S256x1024 .bf16) (ix2 r k) = A m c (ix2 r k) := by
  have e := places t
  rw [← host_mem]
  generalize hw : V m c main_v0 = w
  blk_ext [iblk, hw, e.1.1, e.1.2]
theorem at1 (t : Fin cfg0.N) (k : Fin 1024) (j : Fin 512) : (iblk m c 1 t : Vec Ideal S1x1024x512 .bf16) (ix3 0 k j) = B m c (ix2 k (wide t j)) := by
  have e := places t
  have h := lt_of_lt_of_eq t.isLt N_eq
  refine Eq.trans ?_ (host_w m c ⟨t.val, h⟩ k j)
  generalize hw : V m c main_v2 = w
  blk_ext [iblk, hw, e.2.1.1, e.2.1.2.1, e.2.1.2.2]

/-- The result: the memory times the weights. -/
theorem final : (dats m 0 c).arrAt 2 cfg0.N = fun i : S256x2048.Idx => times (row (A m c) (i 0)) (row (B m c)) (i 1) := by
  refine (dats m 0 c).arrAt_eq_of_covers 2 _ (by decide +kernel) fun t hf y => ?_
  blk_simp
  rw [after0_2]
  have e := places t
  idx_vars y
  refine (out_apply _ _ y0 y1).trans ?_
  have a : ((View.whole main_v3).slice (win0_2.rect t)).emb (ix2 y0 y1) = ix2 y0 (wide t y1) := by
    unfold wide; blk_ext [e.2.2.1, e.2.2.2]
  rw [a]
  exact Finset.sum_congr rfl fun k _ => congrArg₂ (· * ·) (at0 m c t y0 k) (at1 m c t k y1)

end Cert.MemKvIdeal.Arrays
end
-- ==== Proof.MemKvClaim.lean ====
module

public import proofs.«01_k».proof.Defs
public import proofs.«01_k».proof.Proof.Gen.MemKv
public import proofs.«01_k».proof.Proof.Gen.MemKvIdeal
public import proofs.«01_k».proof.Proof.Gen.MemKvReferenceIdeal
public import proofs.«01_k».proof.Proof.Gen.MemKv.Frame
public import proofs.«01_k».proof.Proof.Gen.MemKvReferenceIdeal.Run
public import proofs.«01_k».proof.Proof.Gen.MemKvReferenceIdeal.Read
public import proofs.«01_k».proof.Proof.MemKvArrays

@[expose] public section

set_option maxRecDepth 16384

noncomputable section

namespace Cert.MemKvClaim

open Idealize.ShloMosaic Idealize.SL.Sem Cert.MemSpec Cert.GradSpec Cert.MlpSpec Cert.MergeSpec

theorem frame_kernel : Cert.quiescent_MemKv := fun m ρ _ => Cert.MemKv.Gen.frame m ρ

theorem frame_ideal : Cert.quiescent_MemKvIdeal := fun m ρ _ => Cert.MemKvIdeal.Gen.frame m ρ

theorem frame_reference : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

/-- The reference's result at an index. -/
theorem out_at (A : FVec Ideal Cert.MemKvReferenceIdeal.S256x1024 .f32) (B : FVec Ideal Cert.MemKvReferenceIdeal.S1024x2048 .bf16) (i : Fin 256) (j : Fin 2048) :
    Cert.MemKvReferenceIdeal.Read.val_main_v2 (F := Ideal) A B (ix2 i j) = Cert.MemKvIdeal.Arrays.times (row A i) (row B) j := by
  unfold Cert.MemKvIdeal.Arrays.times row Cert.MemKvReferenceIdeal.Read.val_main_v2 Cert.MemKvReferenceIdeal.Read.val_main_v1 Cert.MemKvReferenceIdeal.Read.val_main_v0
  pointwise []

/-- Kernel and reference compute the same values. -/
theorem value : Cert.algebraic_MemKvIdeal_MemKvReferenceIdeal := by
  intro m g m' g' _ hargs
  refine ⟨fun c i => Cert.MemKvIdeal.Arrays.times (row (Cert.MemKvIdeal.Arrays.A m c) (i 0)) (row (Cert.MemKvIdeal.Arrays.B m c)) (i 1), ?_, ?_⟩
  · refine (θ_run Cert.MemKvIdeal.defs _ _).mono (fun r h c => ?_) (Cert.MemKvIdeal.Value.run_blocks (F := Ideal) m g)
    obtain ⟨h0, k⟩ := h c
    exact ⟨h0.trans (Cert.MemKvIdeal.Arrays.final m c), k⟩
  · refine (θ_run Cert.MemKvReferenceIdeal.defs _ _).mono (fun r h c => ?_) (Cert.MemKvReferenceIdeal.Value.run (F := Ideal) m' g')
    obtain ⟨h0, k⟩ := h c
    obtain ⟨a0, a1⟩ := hargs c
    replace h0 := h0.trans (Cert.MemKvReferenceIdeal.Read.val_main_v2_eq _ _)
    replace a0 : m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0) := a0
    replace a1 : m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1) := a1
    rw [a0, a1] at h0
    refine ⟨h0.trans (funext fun i => ?_), k⟩
    · obtain ⟨k, b, rfl⟩ : ∃ (k : Fin 256) (b : Fin 2048), i = ix2 k b := ⟨i 0, i 1, by idx_vars i⟩
      exact out_at _ _ k b

end Cert.MemKvClaim
end
-- ==== Proof.GradKvArrays.lean ====
module

public import proofs.«01_k».proof.Proof.Gen.GradKvIdeal.Value
public import proofs.«01_k».proof.Proof.GradSpec
public import proofs.«01_k».proof.Proof.MergeSpec

@[expose] public section

set_option maxRecDepth 16384

noncomputable section

namespace Cert.GradKvIdeal.Arrays

open Cert.GradKvIdeal Cert.GradKvIdeal.Gen Idealize.ShloMosaic Idealize.ShloMosaic.TcCoe Idealize.SL.Sem Cert.MemSpec Cert.GradSpec Cert.MlpSpec Cert.MergeSpec

theorem out_apply (a : Vec Ideal S256x1024 .bf16) (b : Vec Ideal S256x512 .f32) (r : Fin 1024) (j : Fin 512) :
    out0_2 a b (ix3 0 r j) = tn (row a) (row b) r j := by
  unfold out0_2
  frame_out
  unfold tn row
  pointwise [k0_pay1]

variable (m : (ℓ : Loc nD τ sig) → Buf (Elt Ideal) ℓ) (c : Dev nD)

theorem N_eq : cfg0.N = 4 := N_0

/-- The launch's arrays. -/
abbrev A : FVec Ideal S256x1024 .f32 := m ((c : Thread nD τ).loc main_arg0)
abbrev B : FVec Ideal S256x2048 .f32 := m ((c : Thread nD τ).loc main_arg1)

/-- The panel a point makes, and the column of the gradient that column `j` of panel `p` stands for. -/
def panel (t : Fin cfg0.N) : Fin 4 := ⟨t.val, lt_of_lt_of_eq t.isLt N_eq⟩
def wide (p : Fin 4) (j : Fin 512) : Fin 2048 := ⟨p.val * 512 + j.val, by omega⟩

theorem host_mem (r : Fin 256) (k : Fin 1024) : V m c main_v0 (ix2 r k) = A m c (ix2 r k) := by
  unfold V
  after_results
  pointwise []
theorem host_grad : V m c main_arg1 = B m c := by
  unfold V
  after_results

/-- Where the windows' blocks lie. -/
theorem places : ∀ t : Fin cfg0.N, (win0_0.index t 0 = 0 ∧ win0_0.index t 1 = 0) ∧ (win0_1.index t 0 = 0 ∧ win0_1.index t 1 = t.val) ∧
    (win0_2.index t 0 = t.val ∧ win0_2.index t 1 = 0 ∧ win0_2.index t 2 = 0) := by decide +kernel

theorem at0 (t : Fin cfg0.N) : row (iblk m c 0 t : Vec Ideal S256x1024 .bf16) = row (A m c) := by
  have e := places t
  funext r k
  unfold row
  rw [← host_mem]
  generalize hw : V m c main_v0 = w
  blk_ext [iblk, hw, e.1.1, e.1.2]
theorem at1 (t : Fin cfg0.N) (k : Fin 256) (j : Fin 512) : row (iblk m c 1 t : Vec Ideal S256x512 .f32) k j = row (B m c) k (wide (panel t) j) := by
  have e := places t
  unfold row wide panel
  rw [← host_grad]
  generalize hw : V m c main_arg1 = w
  blk_ext [iblk, hw, e.2.1.1, e.2.1.2]

/-- The result, panel by panel: the memory transposed with `dmkv`. -/
theorem final : (dats m 0 c).arrAt 2 cfg0.N = fun i : S4x1024x512.Idx => tn (row (A m c)) (row (B m c)) (i 1) (wide (i 0) (i 2)) := by
  refine (dats m 0 c).arrAt_eq_of_covers 2 _ (by decide +kernel) fun t hf y => ?_
  blk_simp
  rw [after0_2]
  have e := places t
  idx_vars y
  have z : y0 = 0 := Subsingleton.elim _ _
  subst z
  refine (out_apply _ _ y1 y2).trans ?_
  have a : ((View.whole main_v1).slice (win0_2.rect t)).emb (ix3 0 y1 y2) = ix3 (panel t) y1 y2 := by
    unfold panel; blk_ext [e.2.2.1, e.2.2.2.1, e.2.2.2.2]
  rw [a, at0]
  exact Finset.sum_congr rfl fun k _ => congrArg _ (at1 m c t k y2)

end Cert.GradKvIdeal.Arrays
end
-- ==== Proof.GradKvClaim.lean ====
module

public import proofs.«01_k».proof.Defs
public import proofs.«01_k».proof.Proof.Gen.GradKv
public import proofs.«01_k».proof.Proof.Gen.GradKvIdeal
public import proofs.«01_k».proof.Proof.Gen.GradKvReferenceIdeal
public import proofs.«01_k».proof.Proof.Gen.GradKv.Frame
public import proofs.«01_k».proof.Proof.Gen.GradKvReferenceIdeal.Run
public import proofs.«01_k».proof.Proof.Gen.GradKvReferenceIdeal.Read
public import proofs.«01_k».proof.Proof.GradKvArrays

@[expose] public section

set_option maxRecDepth 16384

noncomputable section

namespace Cert.GradKvClaim

open Idealize.ShloMosaic Idealize.SL.Sem Cert.MemSpec Cert.GradSpec Cert.MlpSpec Cert.MergeSpec

theorem frame_kernel : Cert.quiescent_GradKv := fun m ρ _ => Cert.GradKv.Gen.frame m ρ

theorem frame_ideal : Cert.quiescent_GradKvIdeal := fun m ρ _ => Cert.GradKvIdeal.Gen.frame m ρ

theorem frame_reference : Cert.quiescent_GradKvReferenceIdeal := fun m ρ _ =>
  (θ_run Cert.GradKvReferenceIdeal.defs _ _).mono (fun r h => ⟨fun c => (h c).2, sem_eq_zero_of_no_sems (by decide) r.2⟩)
    (Cert.GradKvReferenceIdeal.Value.run (F := Ideal) m ρ)

/-- The reference's result at an index. -/
theorem out_at (A : FVec Ideal Cert.GradKvReferenceIdeal.S256x1024 .f32) (B : FVec Ideal Cert.GradKvReferenceIdeal.S256x2048 .f32) (p : Fin 4) (i : Fin 1024) (j : Fin 512) :
    Cert.GradKvReferenceIdeal.Read.val_main_v5 (F := Ideal) A B (ix3 p i j) = tn (row A) (row B) i (Cert.GradKvIdeal.Arrays.wide p j) := by
  rw [← tn_swap]
  unfold row Cert.GradKvIdeal.Arrays.wide Cert.GradKvReferenceIdeal.Read.val_main_v5 Cert.GradKvReferenceIdeal.Read.val_main_v4 Cert.GradKvReferenceIdeal.Read.val_main_v3 Cert.GradKvReferenceIdeal.Read.val_main_v2
  pointwise []

/-- Kernel and reference compute the same values. -/
theorem value : Cert.algebraic_GradKvIdeal_GradKvReferenceIdeal := by
  intro m g m' g' _ hargs
  refine ⟨fun c i => tn (row (Cert.GradKvIdeal.Arrays.A m c)) (row (Cert.GradKvIdeal.Arrays.B m c)) (i 1) (Cert.GradKvIdeal.Arrays.wide (i 0) (i 2)), ?_, ?_⟩
  · refine (θ_run Cert.GradKvIdeal.defs _ _).mono (fun r h c => ?_) (Cert.GradKvIdeal.Value.run_blocks (F := Ideal) m g)
    obtain ⟨h0, k⟩ := h c
    exact ⟨h0.trans (Cert.GradKvIdeal.Arrays.final m c), k⟩
  · refine (θ_run Cert.GradKvReferenceIdeal.defs _ _).mono (fun r h c => ?_) (Cert.GradKvReferenceIdeal.Value.run (F := Ideal) m' g')
    obtain ⟨h0, k⟩ := h c
    obtain ⟨a0, a1⟩ := hargs c
    replace h0 := h0.trans (Cert.GradKvReferenceIdeal.Read.val_main_v5_eq _ _)
    replace a0 : m' ((c.tc : Thread Cert.GradKvReferenceIdeal.nD Cert.GradKvReferenceIdeal.τ).loc Cert.GradKvReferenceIdeal.main_arg0) = m ((c.tc : Thread Cert.GradKvIdeal.nD Cert.GradKvIdeal.τ).loc Cert.GradKvIdeal.main_arg0) := a0
    replace a1 : m' ((c.tc : Thread Cert.GradKvReferenceIdeal.nD Cert.GradKvReferenceIdeal.τ).loc Cert.GradKvReferenceIdeal.main_arg1) = m ((c.tc : Thread Cert.GradKvIdeal.nD Cert.GradKvIdeal.τ).loc Cert.GradKvIdeal.main_arg1) := a1
    rw [a0, a1] at h0
    refine ⟨h0.trans (funext fun i => ?_), k⟩
    · obtain ⟨p, k, b, rfl⟩ : ∃ (p : Fin 4) (k : Fin 1024) (b : Fin 512), i = ix3 p k b := ⟨i 0, i 1, i 2, by idx_vars i⟩
      exact out_at _ _ p k b

end Cert.GradKvClaim
end
-- ==== Proof.MemFwdPoint.lean ====
module

public import proofs.«01_k».proof.Proof.Gen.MemFwdIdeal.Value
public import proofs.«01_k».proof.Proof.MergeSpec
public import Idealize.ShloMosaic.Lib.Pipeline.ReadBack

@[expose] public section

set_option maxRecDepth 16384

noncomputable section

namespace Cert.MemFwdIdeal.Point

open Cert.MemFwdIdeal Cert.MemFwdIdeal.Gen Idealize.ShloMosaic Idealize.ShloMosaic.TcCoe Idealize.SL.Sem Cert.MemSpec Cert.MlpSpec Cert.MergeSpec

/-- One head's output: its probabilities times its values. -/
def mix (p : Fin 256 → EReal) (v : Fin 256 → Fin 256 → EReal) (d : Fin 256) : EReal := ∑ j, p j * v j d

/-- A row's output, all heads side by side, `z` the row's queries and `kv` the keys and values. -/
def heads (z : R) (kv : Fin 256 → Fin 2048 → EReal) (c : Fin 1024) : EReal :=
  mix (probs z kv ⟨c.val / 256, by omega⟩) (vals kv ⟨c.val / 256, by omega⟩) ⟨c.val % 256, by omega⟩

theorem heads_hcol (z : R) (kv : Fin 256 → Fin 2048 → EReal) (h : Fin 4) (d : Fin 256) : heads z kv (hcol h d) = mix (probs z kv h) (vals kv h) d := by
  have a : (⟨(hcol h d).val / 256, by have := (hcol h d).isLt; omega⟩ : Fin 4) = h := Fin.ext (by show (256 * h.val + d.val) / 256 = h.val; omega)
  have b : (⟨(hcol h d).val % 256, by omega⟩ : Fin 256) = d := Fin.ext (by show (256 * h.val + d.val) % 256 = d.val; omega)
  unfold heads
  rw [a, b]

/-! ## The kernel's values on a row -/

section Values

variable (x : Vec Ideal S512x1024 .bf16) (w : Vec Ideal S1024x1024 .bf16) (z : Vec Ideal S512x256 .bf16) (k v k' v' : Vec Ideal S256x256 .bf16)
variable (a b : FVec Ideal S512x256 .bf16) (e f : FVec Ideal S512x256 .f32) (r : Fin 512) (j : Fin 256)

theorem pay2_apply (f : Fin 1024) : k0_pay2 x w (ix2 r f) = across (row x r) (row w) f := by unfold across row; pointwise [k0_pay2]
theorem pay3_apply : k0_pay3 z (ix2 r j) = z (ix2 r j) * scale := by pointwise [k0_pay3, scale_bf16]
theorem pay4_apply : k0_pay4 z k (ix2 r j) = score (row z r) (row k) j := by unfold score row; pointwise [k0_pay4, scale_bf16]
theorem pay5_apply : k0_pay5 z k (ix2 r j) = score (row z r) (row k) j := by unfold score row; pointwise [k0_pay5, scale_bf16]
theorem pay6_apply : k0_pay6 z k (ix2 r j) = score (row z r) (row k) j := by unfold score row; pointwise [k0_pay6, scale_bf16]
theorem pay7_apply : k0_pay7 e (ix2 r j) = prob (row e r) j := by unfold prob weight peak row; pointwise [k0_pay7, low_f32]
theorem pay8_apply : k0_pay8 a k (ix2 r j) = prob (fun i => ∑ d, a (ix2 r d) * k (ix2 i d)) j := by unfold prob weight peak; pointwise [k0_pay8, low_f32]
theorem pay9_apply : k0_pay9 e v (ix2 r j) = mix (prob (row e r)) (row v) j := by unfold mix prob weight peak row; pointwise [k0_pay9, low_f32]
theorem pay10_apply : k0_pay10 e v (ix2 r j) = mix (prob (row e r)) (row v) j := by unfold mix prob weight peak row; pointwise [k0_pay10, low_f32]

/-- The four heads side by side. -/
theorem pay1_apply (h : Fin 4) : k0_pay1 a b e f v v' (ix2 r (hcol h j)) = match h with
      | 0 => e (ix2 r j)
      | 1 => f (ix2 r j)
      | 2 => mix (row a r) (row v) j
      | 3 => mix (row b r) (row v') j := by
  have hj := j.isLt
  unfold hcol mix row
  fin_cases h
  · pointwise [k0_pay1]
  · pointwise [k0_pay1]
  · pointwise [k0_pay1]
    rw [dif_neg (by omega), dif_neg (by omega), dif_pos (by omega)]
    refine Finset.sum_congr rfl fun x _ => ?_
    congr 3; apply Fin.ext; show _ = _; simp only; omega
  · pointwise [k0_pay1]
    rw [dif_neg (by omega), dif_neg (by omega), dif_neg (by omega)]
    refine Finset.sum_congr rfl fun x _ => ?_
    congr 3; apply Fin.ext; show _ = _; simp only; omega

end Values

/-! ## The slices -/

section Slices

variable {F : FTy → Type} [FloatOps F]
variable (x : Vec F S512x1024 .bf16) (y : Vec F S256x2048 .bf16)

def h0 : Vec F S512x256 .bf16 := View.ld x (Rect.unit ![0, 0] ![512, 256] inb_S512x1024_S512x256_0_0)
def h1 : Vec F S512x256 .bf16 := View.ld x (Rect.unit ![0, 256] ![512, 256] inb_S512x1024_S512x256_0_256)
def h2 : Vec F S512x256 .bf16 := View.ld x (Rect.unit ![0, 512] ![512, 256] inb_S512x1024_S512x256_0_512)
def h3 : Vec F S512x256 .bf16 := View.ld x (Rect.unit ![0, 768] ![512, 256] inb_S512x1024_S512x256_0_768)
def k0 : Vec F S256x256 .bf16 := View.ld y (Rect.unit ![0, 0] ![256, 256] inb_S256x2048_S256x256_0_0)
def k1 : Vec F S256x256 .bf16 := View.ld y (Rect.unit ![0, 256] ![256, 256] inb_S256x2048_S256x256_0_256)
def k2 : Vec F S256x256 .bf16 := View.ld y (Rect.unit ![0, 512] ![256, 256] inb_S256x2048_S256x256_0_512)
def k3 : Vec F S256x256 .bf16 := View.ld y (Rect.unit ![0, 768] ![256, 256] inb_S256x2048_S256x256_0_768)
def v0 : Vec F S256x256 .bf16 := View.ld y (Rect.unit ![0, 1024] ![256, 256] inb_S256x2048_S256x256_0_1024)
def v1 : Vec F S256x256 .bf16 := View.ld y (Rect.unit ![0, 1280] ![256, 256] inb_S256x2048_S256x256_0_1280)
def v2 : Vec F S256x256 .bf16 := View.ld y (Rect.unit ![0, 1536] ![256, 256] inb_S256x2048_S256x256_0_1536)
def v3 : Vec F S256x256 .bf16 := View.ld y (Rect.unit ![0, 1792] ![256, 256] inb_S256x2048_S256x256_0_1792)

/-- The output's block, over the queries' block. -/
def attended : FVec F S512x1024 .bf16 :=
  k0_pay1 (k0_pay7 (k0_pay6 (h2 x) (k2 y))) (k0_pay8 (k0_pay3 (h3 x)) (k3 y)) (k0_pay9 (k0_pay4 (h0 x) (k0 y)) (v0 y)) (k0_pay10 (k0_pay5 (h1 x) (k1 y)) (v1 y)) (v2 y) (v3 y)

/-- A column slice loaded after the block was stored whole. -/
theorem fill (v : View sig .tc .vmem S512x1024 .bf16) (Z : Vec F S512x1024 .bf16) (L : List (View.Piece (Elt F) S512x1024 .bf16)) (off size : Fin 2 → ℕ)
    (inb : ∀ a, off a + size a ≤ S512x1024.size a) :
    v.readCov (⟨Rect.unit ![0, 0] ![512, 1024] inb_S512x1024_S512x1024_0_0, Z⟩ :: L) (Rect.unit off size inb).toLoadRect = View.ld Z (Rect.unit off size inb) :=
  View.readCov_fill v _ Z L _ (by decide)

variable (m : (ℓ : Loc nD τ sig) → Buf (Elt F) ℓ) (c : Dev nD) (t : Fin cfg0.N)

theorem z_at : (outsAt0 m c t).1 = k0_pay2 (iblk m c 0 t) (iblk m c 1 t) := by unfold outsAt0; frame_out
theorem o_at : (outsAt0 m c t).2 = attended (k0_pay2 (iblk m c 0 t) (iblk m c 1 t)) (iblk m c 2 t) := by
  unfold outsAt0; frame_out; simp only [fill]; rfl

end Slices

section Heads

variable (x : Vec Ideal S512x1024 .bf16) (y : Vec Ideal S256x2048 .bf16) (r : Fin 512)

theorem row_h0 : row (h0 x) r = fun d => row x r (hcol 0 d) := by funext d; unfold row hcol; pointwise [h0]
theorem row_k0 : row (k0 y) = keys (row y) 0 := by funext j d; unfold keys row kcol; pointwise [k0]
theorem row_v0 : row (v0 y) = vals (row y) 0 := by funext j d; unfold vals row vcol; pointwise [v0]
theorem row_h1 : row (h1 x) r = fun d => row x r (hcol 1 d) := by funext d; unfold row hcol; pointwise [h1]
theorem row_k1 : row (k1 y) = keys (row y) 1 := by funext j d; unfold keys row kcol; pointwise [k1]
theorem row_v1 : row (v1 y) = vals (row y) 1 := by funext j d; unfold vals row vcol; pointwise [v1]; congr 2; apply Fin.ext; show _ = _; simp only; omega
theorem row_h2 : row (h2 x) r = fun d => row x r (hcol 2 d) := by funext d; unfold row hcol; pointwise [h2]
theorem row_k2 : row (k2 y) = keys (row y) 2 := by funext j d; unfold keys row kcol; pointwise [k2]
theorem row_v2 : row (v2 y) = vals (row y) 2 := by funext j d; unfold vals row vcol; pointwise [v2]; congr 2; apply Fin.ext; show _ = _; simp only; omega
theorem row_h3 : row (h3 x) r = fun d => row x r (hcol 3 d) := by funext d; unfold row hcol; pointwise [h3]
theorem row_k3 : row (k3 y) = keys (row y) 3 := by funext j d; unfold keys row kcol; pointwise [k3]
theorem row_v3 : row (v3 y) = vals (row y) 3 := by funext j d; unfold vals row vcol; pointwise [v3]; congr 2; apply Fin.ext; show _ = _; simp only; omega

/-- A row of the output's block. -/
theorem attended_apply (c : Fin 1024) : attended x y (ix2 r c) = heads (row x r) (row y) c := by
  obtain ⟨h, d, rfl⟩ : ∃ (h : Fin 4) (d : Fin 256), c = hcol h d :=
    ⟨⟨c.val / 256, by omega⟩, ⟨c.val % 256, by omega⟩, Fin.ext (by show c.val = 256 * (c.val / 256) + c.val % 256; omega)⟩
  rw [heads_hcol]
  unfold attended
  refine (pay1_apply _ _ _ _ _ _ r d h).trans ?_
  fin_cases h
  · refine (pay9_apply _ _ r d).trans ?_
    have e : row (k0_pay4 (h0 x) (k0 y)) r = score (row (h0 x) r) (row (k0 y)) := funext fun j => pay4_apply _ _ r j
    rw [e, row_h0, row_k0, row_v0]; rfl
  · refine (pay10_apply _ _ r d).trans ?_
    have e : row (k0_pay5 (h1 x) (k1 y)) r = score (row (h1 x) r) (row (k1 y)) := funext fun j => pay5_apply _ _ r j
    rw [e, row_h1, row_k1, row_v1]; rfl
  · have e : row (k0_pay6 (h2 x) (k2 y)) r = score (row (h2 x) r) (row (k2 y)) := funext fun j => pay6_apply _ _ r j
    have p : row (k0_pay7 (k0_pay6 (h2 x) (k2 y))) r = prob (row (k0_pay6 (h2 x) (k2 y)) r) := funext fun j => pay7_apply _ r j
    refine (congrArg₂ (fun p v => mix p v d) p (row_v2 y)).trans ?_
    rw [e, row_h2, row_k2]; rfl
  · have p : row (k0_pay8 (k0_pay3 (h3 x)) (k3 y)) r = prob (score (row (h3 x) r) (row (k3 y))) := funext fun j => (pay8_apply _ _ r j).trans (by
      simp only [pay3_apply]; rfl)
    refine (congrArg₂ (fun p v => mix p v d) p (row_v3 y)).trans ?_
    rw [row_h3, row_k3]; rfl

end Heads

end Cert.MemFwdIdeal.Point
end
-- ==== Proof.MemFwdArrays.lean ====
module

public import proofs.«01_k».proof.Proof.MemFwdPoint

@[expose] public section

set_option maxRecDepth 16384

noncomputable section

namespace Cert.MemFwdIdeal.Arrays

open Cert.MemFwdIdeal Cert.MemFwdIdeal.Gen Cert.MemFwdIdeal.Point Idealize.ShloMosaic Idealize.ShloMosaic.TcCoe Idealize.SL.Sem Cert.MemSpec Cert.MlpSpec Cert.MergeSpec

variable (m : (ℓ : Loc nD τ sig) → Buf (Elt Ideal) ℓ) (c : Dev nD)

theorem N_eq : cfg0.N = 16 := N_0

/-- The launch's arrays. -/
abbrev X : FVec Ideal S8192x1024 .bf16 := m ((c : Thread nD τ).loc main_arg0)
abbrev B : FVec Ideal S9472x1024 .bf16 := m ((c : Thread nD τ).loc main_arg1)
abbrev KV : FVec Ideal S256x2048 .bf16 := m ((c : Thread nD τ).loc main_arg2)

/-- The rows of the weights the call reads. -/
def queryRows (w : FVec Ideal S9472x1024 .bf16) : Fin 1024 → R := fun f => row w ⟨5376 + f.val, by omega⟩

/-- Row `r` of block `t` as a row of the array. -/
def lane (t : Fin cfg0.N) (r : Fin 512) : Fin 8192 := ⟨t.val * 512 + r.val, by have h := lt_of_lt_of_eq t.isLt N_eq; omega⟩

/-- Where the windows' blocks lie. -/
theorem placesIn : ∀ t : Fin cfg0.N, (win0_0.index t 0 = t.val ∧ win0_0.index t 1 = 0) ∧ (win0_1.index t 0 = 5376 ∧ win0_1.index t 1 = 0) ∧
    (win0_2.index t 0 = 0 ∧ win0_2.index t 1 = 0) := by decide +kernel
theorem placesOut : ∀ t : Fin cfg0.N, (win0_3.index t 0 = t.val ∧ win0_3.index t 1 = 0) ∧ (win0_4.index t 0 = t.val ∧ win0_4.index t 1 = 0) := by decide +kernel

theorem row0 (t : Fin cfg0.N) (r : Fin 512) : row (iblk m c 0 t) r = row (X m c) (lane t r) := by
  have e := placesIn t
  funext d; unfold row lane X; blk_ext [iblk, V, e.1.1, e.1.2]
theorem row1 (t : Fin cfg0.N) : row (iblk m c 1 t) = queryRows (B m c) := by
  have e := placesIn t
  funext f d; unfold queryRows row B
  refine congrArg (m ((c : Thread nD τ).loc main_arg1)) (funext fun a => Fin.ext ?_)
  match a with
  | 0 => exact congrArg₂ (· + ·) e.2.1.1 (Nat.one_mul _)
  | 1 => exact (congrArg₂ (· + ·) e.2.1.2 (Nat.one_mul _)).trans (Nat.zero_add _)
theorem row2 (t : Fin cfg0.N) : row (iblk m c 2 t) = row (KV m c) := by
  have e := placesIn t
  funext f d; unfold row KV; blk_ext [iblk, V, e.2.2.1, e.2.2.2]

/-- A row's queries. -/
def query (i : Fin 8192) : R := across (row (X m c) i) (queryRows (B m c))

theorem query_at (t : Fin cfg0.N) (r : Fin 512) : row (k0_pay2 (iblk m c 0 t) (iblk m c 1 t)) r = query m c (lane t r) := by
  funext f
  refine (pay2_apply _ _ r f).trans ?_
  rw [row0, row1]; rfl

/-- The first result: the queries. -/
theorem z_final : (dats m 0 c).arrAt 3 cfg0.N = fun i : S8192x1024.Idx => query m c (i 0) (i 1) := by
  refine (dats m 0 c).arrAt_eq_of_covers 3 _ (by decide +kernel) fun t hf y => ?_
  blk_simp
  rw [after0_3, z_at]
  have e := placesOut t
  idx_vars y
  refine (congrFun (query_at m c t y0) y1).trans ?_
  have a : ((View.whole main_v0_0).slice (win0_3.rect t)).emb (ix2 y0 y1) = ix2 (lane t y0) y1 := by
    unfold lane; blk_ext [e.1.1, e.1.2]
  rw [a]
  rfl

/-- The second result: the attention's output. -/
theorem o_final : (dats m 0 c).arrAt 4 cfg0.N = fun i : S8192x1024.Idx => heads (query m c (i 0)) (row (KV m c)) (i 1) := by
  refine (dats m 0 c).arrAt_eq_of_covers 4 _ (by decide +kernel) fun t hf y => ?_
  blk_simp
  rw [after0_4, o_at]
  have e := placesOut t
  idx_vars y
  refine (attended_apply _ _ y0 y1).trans ?_
  have a : ((View.whole main_v0_1).slice (win0_4.rect t)).emb (ix2 y0 y1) = ix2 (lane t y0) y1 := by
    unfold lane; blk_ext [e.2.1, e.2.2]
  rw [a, query_at, row2]
  rfl

end Cert.MemFwdIdeal.Arrays
end
-- ==== Proof.MemFwdRef.lean ====
module

public import proofs.«01_k».proof.Proof.Gen.MemFwdReferenceIdeal.Run
public import proofs.«01_k».proof.Proof.Gen.MemFwdReferenceIdeal.Read
public import proofs.«01_k».proof.Proof.MemFwdArrays

@[expose] public section

set_option maxRecDepth 16384

noncomputable section

namespace Cert.MemFwdReferenceIdeal.Point

open Cert.MemFwdReferenceIdeal Cert.MemFwdReferenceIdeal.Gen Cert.MemFwdReferenceIdeal.Read Idealize.ShloMosaic Idealize.ShloMosaic.TcCoe Idealize.SL.Sem Cert.MemSpec Cert.MlpSpec Cert.MergeSpec
open Cert.MemFwdIdeal.Point (mix heads heads_hcol)
open Cert.MemFwdIdeal.Arrays (queryRows)

variable (X : FVec Ideal S8192x1024 .bf16) (B : FVec Ideal S9472x1024 .bf16) (KV : FVec Ideal S256x2048 .bf16)

theorem v4_at (s : Fin 8192) (f : Fin 1024) : val_main_v4 (F := Ideal) X B (ix2 s f) = across (row X s) (queryRows B) f := by
  unfold across queryRows row
  pointwise [val_main_v4, val_main_v3, val_main_v2, val_main_v1, val_main_v0]

/-- The first result: the queries. -/
theorem v6_at (s : Fin 8192) (f : Fin 1024) : val_main_v6 (F := Ideal) X B (ix2 s f) = across (row X s) (queryRows B) f := by
  rw [← v4_at]
  unfold val_main_v6
  generalize val_main_v4 (F := Ideal) X B = a
  pointwise []

/-- A row's queries, and its scores in head `h`. -/
abbrev query (s : Fin 8192) : R := across (row X s) (queryRows B)
abbrev scores (h : Fin 4) (s : Fin 8192) : Fin 256 → EReal := score (fun d => query X B s (hcol h d)) (keys (row KV) h)

theorem v11_at (s : Fin 8192) (h : Fin 4) (d : Fin 256) : val_main_v11 (F := Ideal) X B (ix3 s h d) = query X B s (hcol h d) * scale := by
  unfold query
  rw [← v4_at]
  unfold val_main_v11 val_main_v10 val_main_v9 hcol
  generalize val_main_v4 (F := Ideal) X B = a
  pointwise [val_main_cst, scale_f32]
  simp only [Nat.mul_comm]
theorem v12_at (j : Fin 256) (h : Fin 4) (d : Fin 256) : val_main_v12 (F := Ideal) KV (ix3 j h d) = keys (row KV) h j d := by
  unfold keys row kcol
  pointwise [val_main_v12, val_main_v7, val_main_v5]
  simp only [Nat.mul_comm]
theorem v13_at (j : Fin 256) (h : Fin 4) (d : Fin 256) : val_main_v13 (F := Ideal) KV (ix3 j h d) = vals (row KV) h j d := by
  unfold vals row vcol
  pointwise [val_main_v13, val_main_v8, val_main_v5]
  simp only [Nat.mul_comm]
theorem v14_at (h : Fin 4) (s : Fin 8192) (j : Fin 256) : val_main_v14 (F := Ideal) X B KV (ix3 h s j) = scores X B KV h s j := by
  unfold scores score
  unfold val_main_v14
  simp only [← v11_at, ← v12_at]
  generalize val_main_v11 (F := Ideal) X B = a
  generalize val_main_v12 (F := Ideal) KV = b
  pointwise []
theorem v15_at (h : Fin 4) (s : Fin 8192) : val_main_v15 (F := Ideal) X B KV (ix2 h s) = peak (scores X B KV h s) := by
  have e : scores X B KV h s = fun j => val_main_v14 (F := Ideal) X B KV (ix3 h s j) := funext fun j => (v14_at X B KV h s j).symm
  rw [e]
  unfold val_main_v15 peak
  generalize val_main_v14 (F := Ideal) X B KV = a
  pointwise [val_main_cst_0, low_f32]
theorem v17_at (h : Fin 4) (s : Fin 8192) : val_main_v17 (F := Ideal) X B KV (ix2 h s) = peak (scores X B KV h s) := by
  rw [val_main_v17_apply, val_main_v16_apply, val_main_cst_1_apply, v15_at]
  show max (Ideal.ofBits .f32 0xFF800000#32) _ = _
  rw [low_f32]
  exact max_eq_right (by unfold low; exact bot_le)
theorem v21_at (h : Fin 4) (s : Fin 8192) (j : Fin 256) : val_main_v21 (F := Ideal) X B KV (ix3 h s j) = weight (scores X B KV h s) j := by
  unfold weight
  rw [← v17_at, ← v14_at]
  unfold val_main_v21 val_main_v20 val_main_v19 val_main_v18
  generalize val_main_v17 (F := Ideal) X B KV = a
  generalize val_main_v14 (F := Ideal) X B KV = b
  pointwise []
theorem v22_at (h : Fin 4) (s : Fin 8192) : val_main_v22 (F := Ideal) X B KV (ix2 h s) = ∑ j, weight (scores X B KV h s) j := by
  simp only [← v21_at]
  unfold val_main_v22
  generalize val_main_v21 (F := Ideal) X B KV = a
  pointwise [val_main_cst_2]
theorem v25_at (h : Fin 4) (s : Fin 8192) (j : Fin 256) : val_main_v25 (F := Ideal) X B KV (ix3 h s j) = probs (query X B s) (row KV) h j := by
  show _ = prob (scores X B KV h s) j
  unfold prob
  rw [← v22_at, ← v21_at]
  unfold val_main_v25 val_main_v24 val_main_v23
  generalize val_main_v22 (F := Ideal) X B KV = a
  generalize val_main_v21 (F := Ideal) X B KV = b
  pointwise []
theorem v27_at (s : Fin 8192) (h : Fin 4) (d : Fin 256) : val_main_v27 (F := Ideal) X B KV (ix3 s h d) = mix (probs (query X B s) (row KV) h) (vals (row KV) h) d := by
  unfold mix
  simp only [← v25_at, ← v13_at]
  unfold val_main_v27 val_main_v26
  generalize val_main_v25 (F := Ideal) X B KV = a
  generalize val_main_v13 (F := Ideal) KV = b
  pointwise []
  exact Finset.sum_congr rfl fun j _ => mul_comm _ _

/-- The second result: the attention's output. -/
theorem v29_at (s : Fin 8192) (c : Fin 1024) : val_main_v29 (F := Ideal) X B KV (ix2 s c) = heads (query X B s) (row KV) c := by
  unfold heads
  rw [← v27_at]
  unfold val_main_v29 val_main_v28
  generalize val_main_v27 (F := Ideal) X B KV = a
  pointwise []

end Cert.MemFwdReferenceIdeal.Point
end
-- ==== Proof.MemFwdClaim.lean ====
module

public import proofs.«01_k».proof.Defs
public import proofs.«01_k».proof.Proof.Gen.MemFwd
public import proofs.«01_k».proof.Proof.Gen.MemFwdIdeal
public import proofs.«01_k».proof.Proof.Gen.MemFwdReferenceIdeal
public import proofs.«01_k».proof.Proof.Gen.MemFwd.Frame
public import proofs.«01_k».proof.Proof.Gen.MemFwdReferenceIdeal.Run
public import proofs.«01_k».proof.Proof.Gen.MemFwdReferenceIdeal.Read
public import proofs.«01_k».proof.Proof.MemFwdRef

@[expose] public section

set_option maxRecDepth 16384

noncomputable section

namespace Cert.MemFwdClaim

open Idealize.ShloMosaic Idealize.SL.Sem Cert.MemSpec Cert.MlpSpec Cert.MergeSpec

theorem frame_kernel : Cert.quiescent_MemFwd := fun m ρ _ => Cert.MemFwd.Gen.frame m ρ

theorem frame_ideal : Cert.quiescent_MemFwdIdeal := fun m ρ _ => Cert.MemFwdIdeal.Gen.frame m ρ

theorem frame_reference : Cert.quiescent_MemFwdReferenceIdeal := fun m ρ _ =>
  (θ_run Cert.MemFwdReferenceIdeal.defs _ _).mono (fun r h => ⟨fun c => (h c).2.2, sem_eq_zero_of_no_sems (by decide) r.2⟩)
    (Cert.MemFwdReferenceIdeal.Value.run (F := Ideal) m ρ)

/-- Kernel and reference compute the same queries and the same attention. -/
theorem value : Cert.algebraic_MemFwdIdeal_MemFwdReferenceIdeal := by
  intro m g m' g' _ hargs
  refine ⟨fun c i => Cert.MemFwdIdeal.Arrays.query m c (i 0) (i 1), fun c i => Cert.MemFwdIdeal.Point.heads (Cert.MemFwdIdeal.Arrays.query m c (i 0)) (row (Cert.MemFwdIdeal.Arrays.KV m c)) (i 1), ?_, ?_⟩
  · refine (θ_run Cert.MemFwdIdeal.defs _ _).mono (fun r h c => ?_) (Cert.MemFwdIdeal.Value.run_blocks (F := Ideal) m g)
    obtain ⟨h0, h1, k⟩ := h c
    exact ⟨h0.trans (Cert.MemFwdIdeal.Arrays.z_final m c), h1.trans (Cert.MemFwdIdeal.Arrays.o_final m c), k⟩
  · refine (θ_run Cert.MemFwdReferenceIdeal.defs _ _).mono (fun r h c => ?_) (Cert.MemFwdReferenceIdeal.Value.run (F := Ideal) m' g')
    obtain ⟨h0, h1, k⟩ := h c
    obtain ⟨a0, a1, a2⟩ := hargs c
    replace h0 := h0.trans (Cert.MemFwdReferenceIdeal.Read.val_main_v6_eq _ _)
    replace h1 := h1.trans (Cert.MemFwdReferenceIdeal.Read.val_main_v29_eq m' c)
    replace a0 : m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0) := a0
    replace a1 : m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1) := a1
    replace a2 : m' ((c.tc : Thread Cert.MemFwdReferenceIdeal.nD Cert.MemFwdReferenceIdeal.τ).loc Cert.MemFwdReferenceIdeal.main_arg2) = m ((c.tc : Thread Cert.MemFwdIdeal.nD Cert.MemFwdIdeal.τ).loc Cert.MemFwdIdeal.main_arg2) := a2
    rw [a0, a1] at h0
    rw [a0, a1, a2] at h1
    refine ⟨h0.trans (funext fun i => ?_), h1.trans (funext fun i => ?_), k⟩
    · obtain ⟨k, b, rfl⟩ : ∃ (k : Fin 8192) (b : Fin 1024), i = ix2 k b := ⟨i 0, i 1, by idx_vars i⟩
      exact Cert.MemFwdReferenceIdeal.Point.v6_at _ _ k b
    · obtain ⟨k, b, rfl⟩ : ∃ (k : Fin 8192) (b : Fin 1024), i = ix2 k b := ⟨i 0, i 1, by idx_vars i⟩
      exact Cert.MemFwdReferenceIdeal.Point.v29_at _ _ _ k b

end Cert.MemFwdClaim
end
-- ==== Proof.HgrnBlock.lean ====
module

public import proofs.«01_k».proof.Proof.Gen.HgrnFwdIdeal.Value
public import proofs.«01_k».proof.Proof.HgrnSpec
public import Idealize.ShloMosaic.Lib.Pipeline.ReadBack

@[expose] public section

set_option maxRecDepth 16384

noncomputable section

namespace Cert.HgrnBlock

open Cert.HgrnFwdIdeal Cert.HgrnFwdIdeal.Gen Idealize.ShloMosaic Idealize.ShloMosaic.TcCoe Idealize.SL.Sem

/-! ## One chunk as the tile computes it -/

/-- A head's state as it lies in the scratch. -/
abbrev Head := Vec Ideal S1x128x128 .f32

theorem cuts (h : Fin 8) : S64x1024.Slices ![0, 128 * h.val] S64x128 := by revert h; decide
theorem cuts1 (h : Fin 8) : S1x1024.Slices ![0, 128 * h.val] S1x128 := by revert h; decide
theorem cutz (i j : Fin 4) : ∀ a, (![64 * i.val, 1024 * j.val] : Fin 2 → ℕ) a + (![64, 1024] : Fin 2 → ℕ) a ≤ S256x4096.size a := by
  revert i j; decide

/-- The columns of head `h`. -/
def headOf {φ : FTy} (h : Fin 8) (x : FVec Ideal S64x1024 φ) : FVec Ideal S64x128 φ := extractStridedSlice S64x128 ![0, 128 * h.val] x (cuts h)
/-- Rows of chunk `i`, columns of part `j` of the projections. -/
def partOf (z : Vec Ideal S256x4096 .f32) (i j : Fin 4) : Vec Ideal S64x1024 .f32 := View.ld z (Rect.unit (s := S256x4096) ![64 * i.val, 1024 * j.val] ![64, 1024] (cutz i j))
/-- Eight heads side by side. -/
def together (f : Fin 8 → FVec Ideal S64x128 .f32) : FVec Ideal S64x1024 .f32 :=
  concatenate S64x1024 1 (List.ofFn fun h => (⟨S64x128, f h⟩ : (s : Shape) × (s.Idx → Ideal .f32))) concatenates_S64x128_S64x128_S64x128_S64x128_S64x128_S64x128_S64x128_S64x128_S64x1024_d1

variable (lb : FVec Ideal S1x1024 .f32) (q fl v hg : Vec Ideal S64x1024 .f32) (gain : Vec Ideal S1x1024 .f32)

def gQ : FVec Ideal S64x1024 .bf16 := k0_pay15 lb k0_pay6 (k0_pay7 q) (k0_pay8 fl)
def gK : FVec Ideal S64x1024 .bf16 := k0_pay16 lb k0_pay6 (k0_pay8 fl)
def gKo : FVec Ideal S64x1024 .bf16 := k0_pay17 lb k0_pay6 (k0_pay8 fl)
def gV : FVec Ideal S64x1024 .bf16 := k0_pay18 (k0_pay9 v)
def gD : FVec Ideal S1x1024 .f32 := k0_pay19 lb k0_pay6 (k0_pay8 fl)
def gAtt (h : Fin 8) : FVec Ideal S64x64 .bf16 :=
  truncf .bf16 (select k0_pay5 (matmul dot_S64x128_S64x128_S64x64_1_1_0_0_n_n none (headOf h (gQ lb q fl)) (headOf h (gK lb fl)) (constant S64x64 .f32 0x00000000#32))
    (broadcast S64x64 (Scalar.ofBits .f32 0x00000000#32))) bitsLt_bf16_f32
def gSt (s : Head) : FVec Ideal S128x128 .f32 := shapeCast S128x128 s shapeCasts_S1x128x128_S128x128
/-- One head's output over a chunk. -/
def gOut (h : Fin 8) (s : Head) : FVec Ideal S64x128 .f32 :=
  addf (matmul dot_S64x64_S64x128_S64x128_1_0_0_1_n_n none (gAtt lb q fl h) (headOf h (gV v)) (constant S64x128 .f32 0x00000000#32))
    (matmul dot_S64x128_S128x128_S64x128_1_1_0_0_n_n none (headOf h (gQ lb q fl)) (truncf .bf16 (gSt s) bitsLt_bf16_f32) (constant S64x128 .f32 0x00000000#32))
/-- One head's state after a chunk. -/
def gNext (h : Fin 8) (s : Head) : Head :=
  shapeCast S1x128x128 (addf (mulf (gSt s) (broadcastTo S128x128 (extractStridedSlice S1x128 ![0, 128 * h.val] (gD lb fl) (cuts1 h)) broadcasts_S1x128_S128x128))
    (matmul dot_S64x128_S64x128_S128x128_0_0_1_1_n_n none (headOf h (gV v)) (headOf h (gKo lb fl)) (constant S128x128 .f32 0x00000000#32))) shapeCasts_S128x128_S1x128x128
/-- What is stored of a head's state. -/
def gKeep (s : Head) : Vec Ideal S1x1x128x128 .f32 := shapeCast S1x1x128x128 (gSt s) shapeCasts_S128x128_S1x1x128x128
/-- A head's mean square in every one of its columns. -/
def gMean (o : FVec Ideal S64x1024 .f32) (h : Fin 8) : FVec Ideal S64x128 .f32 :=
  broadcastTo S64x128 (shapeCast S64x1 (divf (shapeCast S64x1 (multiReduction .add [1] S64 (headOf h (mulf o o)) 0x00000000#32 reduces_S64x128_S64 (.inl rfl) rfl) shapeCasts_S64_S64x1)
    (broadcast S64x1 (Scalar.ofBits .f32 0x43000000#32))) shapeCasts_S64x1_S64x1) broadcasts_S64x1_S64x128
def gGated (o : FVec Ideal S64x1024 .f32) : FVec Ideal S64x1024 .bf16 :=
  k0_pay88 gain (k0_pay10 hg) o (rsqrt (addf (together (gMean o)) (broadcast S64x1024 (Scalar.ofBits .f32 0x358637BD#32))))

/-! ## The unrolled chunks, each the same -/

section Same
variable (s : Head) (o0 o1 o2 o3 o4 o5 o6 o7 : FVec Ideal S64x128 .f32)
theorem next_0_0 : (k0_pay67 (k0_pay19 lb k0_pay6 (k0_pay8 fl)) (k0_pay20 s) (k0_pay46 (k0_pay17 lb k0_pay6 (k0_pay8 fl)) (k0_pay18 (k0_pay9 v)))) = gNext lb fl v 0 s := rfl
theorem keep_0_0 : (k0_pay66 (k0_pay20 s)) = gKeep s := rfl
theorem next_0_1 : (k0_pay69 (k0_pay19 lb k0_pay6 (k0_pay8 fl)) (k0_pay21 s) (k0_pay47 (k0_pay17 lb k0_pay6 (k0_pay8 fl)) (k0_pay18 (k0_pay9 v)))) = gNext lb fl v 1 s := rfl
theorem keep_0_1 : (k0_pay68 (k0_pay21 s)) = gKeep s := rfl
theorem next_0_2 : (k0_pay72 (k0_pay71 (k0_pay19 lb k0_pay6 (k0_pay8 fl)) (k0_pay22 s) (k0_pay48 (k0_pay17 lb k0_pay6 (k0_pay8 fl)) (k0_pay18 (k0_pay9 v))))) = gNext lb fl v 2 s := rfl
theorem keep_0_2 : (k0_pay70 (k0_pay22 s)) = gKeep s := rfl
theorem next_0_3 : (k0_pay74 (k0_pay19 lb k0_pay6 (k0_pay8 fl)) (k0_pay23 s) (k0_pay49 (k0_pay17 lb k0_pay6 (k0_pay8 fl)) (k0_pay18 (k0_pay9 v)))) = gNext lb fl v 3 s := rfl
theorem keep_0_3 : (k0_pay73 (k0_pay23 s)) = gKeep s := rfl
theorem next_0_4 : (k0_pay76 (k0_pay19 lb k0_pay6 (k0_pay8 fl)) (k0_pay24 s) (k0_pay50 (k0_pay17 lb k0_pay6 (k0_pay8 fl)) (k0_pay18 (k0_pay9 v)))) = gNext lb fl v 4 s := rfl
theorem keep_0_4 : (k0_pay75 (k0_pay24 s)) = gKeep s := rfl
theorem next_0_5 : (k0_pay78 (k0_pay19 lb k0_pay6 (k0_pay8 fl)) (k0_pay25 s) (k0_pay51 (k0_pay17 lb k0_pay6 (k0_pay8 fl)) (k0_pay18 (k0_pay9 v)))) = gNext lb fl v 5 s := rfl
theorem keep_0_5 : (k0_pay77 (k0_pay25 s)) = gKeep s := rfl
theorem next_0_6 : (k0_pay80 (k0_pay19 lb k0_pay6 (k0_pay8 fl)) (k0_pay26 s) (k0_pay52 (k0_pay17 lb k0_pay6 (k0_pay8 fl)) (k0_pay18 (k0_pay9 v)))) = gNext lb fl v 6 s := rfl
theorem keep_0_6 : (k0_pay79 (k0_pay26 s)) = gKeep s := rfl
theorem next_0_7 : (k0_pay82 (k0_pay19 lb k0_pay6 (k0_pay8 fl)) (k0_pay27 s) (k0_pay55 (k0_pay53 (k0_pay18 (k0_pay9 v))) (k0_pay54 (k0_pay17 lb k0_pay6 (k0_pay8 fl))) (constant S128x128 .f32 0x00000000#32))) = gNext lb fl v 7 s := rfl
theorem keep_0_7 : (k0_pay81 (k0_pay27 s)) = gKeep s := rfl
theorem out_0_0 : (k0_pay57 k0_pay5 (k0_pay18 (k0_pay9 v)) (k0_pay28 (k0_pay15 lb k0_pay6 (k0_pay7 q) (k0_pay8 fl)) (k0_pay16 lb k0_pay6 (k0_pay8 fl))) (k0_pay38 (k0_pay36 (k0_pay15 lb k0_pay6 (k0_pay7 q) (k0_pay8 fl))) (k0_pay37 (k0_pay20 s)) (constant S64x128 .f32 0x00000000#32))) = gOut lb q fl v 0 s := rfl
theorem out_0_1 : (k0_pay58 k0_pay5 (k0_pay18 (k0_pay9 v)) (k0_pay29 (k0_pay15 lb k0_pay6 (k0_pay7 q) (k0_pay8 fl)) (k0_pay16 lb k0_pay6 (k0_pay8 fl))) (k0_pay39 (k0_pay15 lb k0_pay6 (k0_pay7 q) (k0_pay8 fl)) (k0_pay21 s))) = gOut lb q fl v 1 s := rfl
theorem out_0_2 : (k0_pay59 k0_pay5 (k0_pay18 (k0_pay9 v)) (k0_pay30 (k0_pay15 lb k0_pay6 (k0_pay7 q) (k0_pay8 fl)) (k0_pay16 lb k0_pay6 (k0_pay8 fl))) (k0_pay40 (k0_pay15 lb k0_pay6 (k0_pay7 q) (k0_pay8 fl)) (k0_pay22 s))) = gOut lb q fl v 2 s := rfl
theorem out_0_3 : (k0_pay60 k0_pay5 (k0_pay18 (k0_pay9 v)) (k0_pay31 (k0_pay15 lb k0_pay6 (k0_pay7 q) (k0_pay8 fl)) (k0_pay16 lb k0_pay6 (k0_pay8 fl))) (k0_pay41 (k0_pay15 lb k0_pay6 (k0_pay7 q) (k0_pay8 fl)) (k0_pay23 s))) = gOut lb q fl v 3 s := rfl
theorem out_0_4 : (k0_pay61 k0_pay5 (k0_pay18 (k0_pay9 v)) (k0_pay32 (k0_pay15 lb k0_pay6 (k0_pay7 q) (k0_pay8 fl)) (k0_pay16 lb k0_pay6 (k0_pay8 fl))) (k0_pay42 (k0_pay15 lb k0_pay6 (k0_pay7 q) (k0_pay8 fl)) (k0_pay24 s))) = gOut lb q fl v 4 s := rfl
theorem out_0_5 : (k0_pay62 k0_pay5 (k0_pay18 (k0_pay9 v)) (k0_pay33 (k0_pay15 lb k0_pay6 (k0_pay7 q) (k0_pay8 fl)) (k0_pay16 lb k0_pay6 (k0_pay8 fl))) (k0_pay43 (k0_pay15 lb k0_pay6 (k0_pay7 q) (k0_pay8 fl)) (k0_pay25 s))) = gOut lb q fl v 5 s := rfl
theorem out_0_6 : (k0_pay64 (k0_pay44 (k0_pay15 lb k0_pay6 (k0_pay7 q) (k0_pay8 fl)) (k0_pay26 s)) (k0_pay63 k0_pay5 (k0_pay18 (k0_pay9 v)) (k0_pay34 (k0_pay15 lb k0_pay6 (k0_pay7 q) (k0_pay8 fl)) (k0_pay16 lb k0_pay6 (k0_pay8 fl))))) = gOut lb q fl v 6 s := rfl
theorem out_0_7 : (k0_pay65 (k0_pay18 (k0_pay9 v)) (k0_pay45 (k0_pay15 lb k0_pay6 (k0_pay7 q) (k0_pay8 fl)) (k0_pay27 s)) (k0_pay56 k0_pay5 (k0_pay35 (k0_pay15 lb k0_pay6 (k0_pay7 q) (k0_pay8 fl)) (k0_pay16 lb k0_pay6 (k0_pay8 fl))))) = gOut lb q fl v 7 s := rfl
theorem raw_0 : (k0_pay83 o0 o1 o2 o3 o4 o5 o6 o7) = together ![o0, o1, o2, o3, o4, o5, o6, o7] := rfl
theorem gated_0 : (k0_pay88 gain (k0_pay10 hg) (k0_pay83 o0 o1 o2 o3 o4 o5 o6 o7) (k0_pay87 (k0_pay84 o0 o1 o2 o3 o4 o5 o6 o7) (k0_pay85 o0 o1 o2 o3 o4 o5 o6 o7) (k0_pay86 o0 o1 o2 o3 o4 o5 o6 o7))) = gGated hg gain (together ![o0, o1, o2, o3, o4, o5, o6, o7]) := rfl
theorem next_1_0 : (k0_pay152 (k0_pay101 (k0_pay95 lb k0_pay6 fl)) (k0_pay102 s) (k0_pay128 (k0_pay99 (k0_pay93 lb fl) (k0_pay94 lb k0_pay6 fl) (k0_pay95 lb k0_pay6 fl)) (k0_pay127 (k0_pay100 (k0_pay90 v))))) = gNext lb fl v 0 s := rfl
theorem keep_1_0 : (k0_pay151 (k0_pay102 s)) = gKeep s := rfl
theorem next_1_1 : (k0_pay154 (k0_pay101 (k0_pay95 lb k0_pay6 fl)) (k0_pay103 s) (k0_pay129 (k0_pay99 (k0_pay93 lb fl) (k0_pay94 lb k0_pay6 fl) (k0_pay95 lb k0_pay6 fl)) (k0_pay100 (k0_pay90 v)))) = gNext lb fl v 1 s := rfl
theorem keep_1_1 : (k0_pay153 (k0_pay103 s)) = gKeep s := rfl
theorem next_1_2 : (k0_pay156 (k0_pay101 (k0_pay95 lb k0_pay6 fl)) (k0_pay104 s) (k0_pay130 (k0_pay99 (k0_pay93 lb fl) (k0_pay94 lb k0_pay6 fl) (k0_pay95 lb k0_pay6 fl)) (k0_pay100 (k0_pay90 v)))) = gNext lb fl v 2 s := rfl
theorem keep_1_2 : (k0_pay155 (k0_pay104 s)) = gKeep s := rfl
theorem next_1_3 : (k0_pay158 (k0_pay101 (k0_pay95 lb k0_pay6 fl)) (k0_pay105 s) (k0_pay131 (k0_pay99 (k0_pay93 lb fl) (k0_pay94 lb k0_pay6 fl) (k0_pay95 lb k0_pay6 fl)) (k0_pay100 (k0_pay90 v)))) = gNext lb fl v 3 s := rfl
theorem keep_1_3 : (k0_pay157 (k0_pay105 s)) = gKeep s := rfl
theorem next_1_4 : (k0_pay161 (k0_pay106 s) (k0_pay132 (k0_pay99 (k0_pay93 lb fl) (k0_pay94 lb k0_pay6 fl) (k0_pay95 lb k0_pay6 fl)) (k0_pay100 (k0_pay90 v))) (k0_pay160 (k0_pay101 (k0_pay95 lb k0_pay6 fl)))) = gNext lb fl v 4 s := rfl
theorem keep_1_4 : (k0_pay159 (k0_pay106 s)) = gKeep s := rfl
theorem next_1_5 : (k0_pay163 (k0_pay101 (k0_pay95 lb k0_pay6 fl)) (k0_pay107 s) (k0_pay133 (k0_pay99 (k0_pay93 lb fl) (k0_pay94 lb k0_pay6 fl) (k0_pay95 lb k0_pay6 fl)) (k0_pay100 (k0_pay90 v)))) = gNext lb fl v 5 s := rfl
theorem keep_1_5 : (k0_pay162 (k0_pay107 s)) = gKeep s := rfl
theorem next_1_6 : (k0_pay165 (k0_pay101 (k0_pay95 lb k0_pay6 fl)) (k0_pay108 s) (k0_pay134 (k0_pay99 (k0_pay93 lb fl) (k0_pay94 lb k0_pay6 fl) (k0_pay95 lb k0_pay6 fl)) (k0_pay100 (k0_pay90 v)))) = gNext lb fl v 6 s := rfl
theorem keep_1_6 : (k0_pay164 (k0_pay108 s)) = gKeep s := rfl
theorem next_1_7 : (k0_pay168 (k0_pay167 (k0_pay101 (k0_pay95 lb k0_pay6 fl)) (k0_pay109 s) (k0_pay135 (k0_pay99 (k0_pay93 lb fl) (k0_pay94 lb k0_pay6 fl) (k0_pay95 lb k0_pay6 fl)) (k0_pay100 (k0_pay90 v))))) = gNext lb fl v 7 s := rfl
theorem keep_1_7 : (k0_pay166 (k0_pay109 s)) = gKeep s := rfl
theorem out_1_0 : (k0_pay143 (k0_pay100 (k0_pay90 v)) (k0_pay119 (k0_pay97 (k0_pay89 q) (k0_pay96 lb k0_pay6 fl)) (k0_pay102 s)) (k0_pay136 k0_pay5 (k0_pay110 (k0_pay89 q) (k0_pay93 lb fl) (k0_pay94 lb k0_pay6 fl) (k0_pay96 lb k0_pay6 fl)))) = gOut lb q fl v 0 s := rfl
theorem out_1_1 : (k0_pay144 (k0_pay100 (k0_pay90 v)) (k0_pay120 (k0_pay97 (k0_pay89 q) (k0_pay96 lb k0_pay6 fl)) (k0_pay103 s)) (k0_pay137 k0_pay5 (k0_pay112 (k0_pay98 (k0_pay93 lb fl) (k0_pay94 lb k0_pay6 fl)) (k0_pay111 (k0_pay89 q) (k0_pay96 lb k0_pay6 fl))))) = gOut lb q fl v 1 s := rfl
theorem out_1_2 : (k0_pay145 (k0_pay100 (k0_pay90 v)) (k0_pay121 (k0_pay97 (k0_pay89 q) (k0_pay96 lb k0_pay6 fl)) (k0_pay104 s)) (k0_pay138 k0_pay5 (k0_pay113 (k0_pay97 (k0_pay89 q) (k0_pay96 lb k0_pay6 fl)) (k0_pay98 (k0_pay93 lb fl) (k0_pay94 lb k0_pay6 fl))))) = gOut lb q fl v 2 s := rfl
theorem out_1_3 : (k0_pay146 (k0_pay100 (k0_pay90 v)) (k0_pay122 (k0_pay97 (k0_pay89 q) (k0_pay96 lb k0_pay6 fl)) (k0_pay105 s)) (k0_pay139 k0_pay5 (k0_pay114 (k0_pay97 (k0_pay89 q) (k0_pay96 lb k0_pay6 fl)) (k0_pay98 (k0_pay93 lb fl) (k0_pay94 lb k0_pay6 fl))))) = gOut lb q fl v 3 s := rfl
theorem out_1_4 : (k0_pay147 (k0_pay100 (k0_pay90 v)) (k0_pay123 (k0_pay97 (k0_pay89 q) (k0_pay96 lb k0_pay6 fl)) (k0_pay106 s)) (k0_pay140 k0_pay5 (k0_pay115 (k0_pay97 (k0_pay89 q) (k0_pay96 lb k0_pay6 fl)) (k0_pay98 (k0_pay93 lb fl) (k0_pay94 lb k0_pay6 fl))))) = gOut lb q fl v 4 s := rfl
theorem out_1_5 : (k0_pay148 (k0_pay100 (k0_pay90 v)) (k0_pay124 (k0_pay97 (k0_pay89 q) (k0_pay96 lb k0_pay6 fl)) (k0_pay107 s)) (k0_pay141 k0_pay5 (k0_pay116 (k0_pay97 (k0_pay89 q) (k0_pay96 lb k0_pay6 fl)) (k0_pay98 (k0_pay93 lb fl) (k0_pay94 lb k0_pay6 fl))))) = gOut lb q fl v 5 s := rfl
theorem out_1_6 : (k0_pay149 (k0_pay100 (k0_pay90 v)) (k0_pay125 (k0_pay97 (k0_pay89 q) (k0_pay96 lb k0_pay6 fl)) (k0_pay108 s)) (k0_pay142 k0_pay5 (k0_pay117 (k0_pay97 (k0_pay89 q) (k0_pay96 lb k0_pay6 fl)) (k0_pay98 (k0_pay93 lb fl) (k0_pay94 lb k0_pay6 fl))))) = gOut lb q fl v 6 s := rfl
theorem out_1_7 : (k0_pay150 k0_pay5 (k0_pay100 (k0_pay90 v)) (k0_pay118 (k0_pay97 (k0_pay89 q) (k0_pay96 lb k0_pay6 fl)) (k0_pay98 (k0_pay93 lb fl) (k0_pay94 lb k0_pay6 fl))) (k0_pay126 (k0_pay97 (k0_pay89 q) (k0_pay96 lb k0_pay6 fl)) (k0_pay109 s)) (Scalar.ofBits .f32 0x00000000#32)) = gOut lb q fl v 7 s := rfl
theorem raw_1 : (k0_pay169 o0 o1 o2 o3 o4 o5 o6 o7) = together ![o0, o1, o2, o3, o4, o5, o6, o7] := rfl
theorem gated_1 : (k0_pay177 gain (k0_pay91 hg) (k0_pay169 o0 o1 o2 o3 o4 o5 o6 o7) (k0_pay170 o0 o1 o2 o3 o4 o5 o6 o7) (k0_pay171 o0 o1 o2 o3 o4 o5 o6 o7) (k0_pay172 o0 o1 o2 o3 o4 o5 o6 o7) (k0_pay173 o0 o1 o2 o3 o4 o5 o6 o7) (k0_pay174 o0 o1 o2 o3 o4 o5 o6 o7) (k0_pay175 o0 o1 o2 o3 o4 o5 o6 o7) (k0_pay176 o0 o1 o2 o3 o4 o5 o6 o7)) = gGated hg gain (together ![o0, o1, o2, o3, o4, o5, o6, o7]) := rfl
theorem next_2_0 : (k0_pay238 (k0_pay190 lb k0_pay6 (k0_pay179 fl)) (k0_pay191 s) (k0_pay217 (k0_pay188 lb k0_pay6 (k0_pay179 fl)) (k0_pay189 (k0_pay180 v)))) = gNext lb fl v 0 s := rfl
theorem keep_2_0 : (k0_pay237 (k0_pay191 s)) = gKeep s := rfl
theorem next_2_1 : (k0_pay240 (k0_pay190 lb k0_pay6 (k0_pay179 fl)) (k0_pay192 s) (k0_pay218 (k0_pay188 lb k0_pay6 (k0_pay179 fl)) (k0_pay189 (k0_pay180 v)))) = gNext lb fl v 1 s := rfl
theorem keep_2_1 : (k0_pay239 (k0_pay192 s)) = gKeep s := rfl
theorem next_2_2 : (k0_pay243 (k0_pay242 (k0_pay190 lb k0_pay6 (k0_pay179 fl)) (k0_pay193 s) (k0_pay219 (k0_pay188 lb k0_pay6 (k0_pay179 fl)) (k0_pay189 (k0_pay180 v))))) = gNext lb fl v 2 s := rfl
theorem keep_2_2 : (k0_pay241 (k0_pay193 s)) = gKeep s := rfl
theorem next_2_3 : (k0_pay245 (k0_pay190 lb k0_pay6 (k0_pay179 fl)) (k0_pay194 s) (k0_pay220 (k0_pay188 lb k0_pay6 (k0_pay179 fl)) (k0_pay189 (k0_pay180 v)))) = gNext lb fl v 3 s := rfl
theorem keep_2_3 : (k0_pay244 (k0_pay194 s)) = gKeep s := rfl
theorem next_2_4 : (k0_pay247 (k0_pay190 lb k0_pay6 (k0_pay179 fl)) (k0_pay195 s) (k0_pay221 (k0_pay188 lb k0_pay6 (k0_pay179 fl)) (k0_pay189 (k0_pay180 v)))) = gNext lb fl v 4 s := rfl
theorem keep_2_4 : (k0_pay246 (k0_pay195 s)) = gKeep s := rfl
theorem next_2_5 : (k0_pay249 (k0_pay190 lb k0_pay6 (k0_pay179 fl)) (k0_pay196 s) (k0_pay222 (k0_pay188 lb k0_pay6 (k0_pay179 fl)) (k0_pay189 (k0_pay180 v)))) = gNext lb fl v 5 s := rfl
theorem keep_2_5 : (k0_pay248 (k0_pay196 s)) = gKeep s := rfl
theorem next_2_6 : (k0_pay251 (k0_pay190 lb k0_pay6 (k0_pay179 fl)) (k0_pay197 s) (k0_pay223 (k0_pay188 lb k0_pay6 (k0_pay179 fl)) (k0_pay189 (k0_pay180 v)))) = gNext lb fl v 6 s := rfl
theorem keep_2_6 : (k0_pay250 (k0_pay197 s)) = gKeep s := rfl
theorem next_2_7 : (k0_pay253 (k0_pay190 lb k0_pay6 (k0_pay179 fl)) (k0_pay198 s) (k0_pay226 (k0_pay224 (k0_pay189 (k0_pay180 v))) (k0_pay225 (k0_pay188 lb k0_pay6 (k0_pay179 fl))) (constant S128x128 .f32 0x00000000#32))) = gNext lb fl v 7 s := rfl
theorem keep_2_7 : (k0_pay252 (k0_pay198 s)) = gKeep s := rfl
theorem out_2_0 : (k0_pay228 k0_pay5 (k0_pay189 (k0_pay180 v)) (k0_pay199 (k0_pay186 lb k0_pay6 (k0_pay178 q) (k0_pay179 fl)) (k0_pay187 lb k0_pay6 (k0_pay179 fl))) (k0_pay209 (k0_pay207 (k0_pay186 lb k0_pay6 (k0_pay178 q) (k0_pay179 fl))) (k0_pay208 (k0_pay191 s)) (constant S64x128 .f32 0x00000000#32))) = gOut lb q fl v 0 s := rfl
theorem out_2_1 : (k0_pay229 k0_pay5 (k0_pay189 (k0_pay180 v)) (k0_pay200 (k0_pay186 lb k0_pay6 (k0_pay178 q) (k0_pay179 fl)) (k0_pay187 lb k0_pay6 (k0_pay179 fl))) (k0_pay210 (k0_pay186 lb k0_pay6 (k0_pay178 q) (k0_pay179 fl)) (k0_pay192 s))) = gOut lb q fl v 1 s := rfl
theorem out_2_2 : (k0_pay230 k0_pay5 (k0_pay189 (k0_pay180 v)) (k0_pay201 (k0_pay186 lb k0_pay6 (k0_pay178 q) (k0_pay179 fl)) (k0_pay187 lb k0_pay6 (k0_pay179 fl))) (k0_pay211 (k0_pay186 lb k0_pay6 (k0_pay178 q) (k0_pay179 fl)) (k0_pay193 s))) = gOut lb q fl v 2 s := rfl
theorem out_2_3 : (k0_pay231 k0_pay5 (k0_pay189 (k0_pay180 v)) (k0_pay202 (k0_pay186 lb k0_pay6 (k0_pay178 q) (k0_pay179 fl)) (k0_pay187 lb k0_pay6 (k0_pay179 fl))) (k0_pay212 (k0_pay186 lb k0_pay6 (k0_pay178 q) (k0_pay179 fl)) (k0_pay194 s))) = gOut lb q fl v 3 s := rfl
theorem out_2_4 : (k0_pay232 k0_pay5 (k0_pay189 (k0_pay180 v)) (k0_pay203 (k0_pay186 lb k0_pay6 (k0_pay178 q) (k0_pay179 fl)) (k0_pay187 lb k0_pay6 (k0_pay179 fl))) (k0_pay213 (k0_pay186 lb k0_pay6 (k0_pay178 q) (k0_pay179 fl)) (k0_pay195 s))) = gOut lb q fl v 4 s := rfl
theorem out_2_5 : (k0_pay233 k0_pay5 (k0_pay189 (k0_pay180 v)) (k0_pay204 (k0_pay186 lb k0_pay6 (k0_pay178 q) (k0_pay179 fl)) (k0_pay187 lb k0_pay6 (k0_pay179 fl))) (k0_pay214 (k0_pay186 lb k0_pay6 (k0_pay178 q) (k0_pay179 fl)) (k0_pay196 s))) = gOut lb q fl v 5 s := rfl
theorem out_2_6 : (k0_pay235 (k0_pay215 (k0_pay186 lb k0_pay6 (k0_pay178 q) (k0_pay179 fl)) (k0_pay197 s)) (k0_pay234 k0_pay5 (k0_pay189 (k0_pay180 v)) (k0_pay205 (k0_pay186 lb k0_pay6 (k0_pay178 q) (k0_pay179 fl)) (k0_pay187 lb k0_pay6 (k0_pay179 fl))))) = gOut lb q fl v 6 s := rfl
theorem out_2_7 : (k0_pay236 (k0_pay189 (k0_pay180 v)) (k0_pay216 (k0_pay186 lb k0_pay6 (k0_pay178 q) (k0_pay179 fl)) (k0_pay198 s)) (k0_pay227 k0_pay5 (k0_pay206 (k0_pay186 lb k0_pay6 (k0_pay178 q) (k0_pay179 fl)) (k0_pay187 lb k0_pay6 (k0_pay179 fl))))) = gOut lb q fl v 7 s := rfl
theorem raw_2 : (k0_pay254 o0 o1 o2 o3 o4 o5 o6 o7) = together ![o0, o1, o2, o3, o4, o5, o6, o7] := rfl
theorem gated_2 : (k0_pay259 gain (k0_pay181 hg) (k0_pay254 o0 o1 o2 o3 o4 o5 o6 o7) (k0_pay258 (k0_pay255 o0 o1 o2 o3 o4 o5 o6 o7) (k0_pay256 o0 o1 o2 o3 o4 o5 o6 o7) (k0_pay257 o0 o1 o2 o3 o4 o5 o6 o7))) = gGated hg gain (together ![o0, o1, o2, o3, o4, o5, o6, o7]) := rfl
theorem next_3_0 : (k0_pay323 (k0_pay272 (k0_pay266 lb k0_pay6 fl)) (k0_pay273 s) (k0_pay299 (k0_pay270 (k0_pay264 lb fl) (k0_pay265 lb k0_pay6 fl) (k0_pay266 lb k0_pay6 fl)) (k0_pay298 (k0_pay271 (k0_pay261 v))))) = gNext lb fl v 0 s := rfl
theorem keep_3_0 : (k0_pay322 (k0_pay273 s)) = gKeep s := rfl
theorem next_3_1 : (k0_pay325 (k0_pay272 (k0_pay266 lb k0_pay6 fl)) (k0_pay274 s) (k0_pay300 (k0_pay270 (k0_pay264 lb fl) (k0_pay265 lb k0_pay6 fl) (k0_pay266 lb k0_pay6 fl)) (k0_pay271 (k0_pay261 v)))) = gNext lb fl v 1 s := rfl
theorem keep_3_1 : (k0_pay324 (k0_pay274 s)) = gKeep s := rfl
theorem next_3_2 : (k0_pay327 (k0_pay272 (k0_pay266 lb k0_pay6 fl)) (k0_pay275 s) (k0_pay301 (k0_pay270 (k0_pay264 lb fl) (k0_pay265 lb k0_pay6 fl) (k0_pay266 lb k0_pay6 fl)) (k0_pay271 (k0_pay261 v)))) = gNext lb fl v 2 s := rfl
theorem keep_3_2 : (k0_pay326 (k0_pay275 s)) = gKeep s := rfl
theorem next_3_3 : (k0_pay329 (k0_pay272 (k0_pay266 lb k0_pay6 fl)) (k0_pay276 s) (k0_pay302 (k0_pay270 (k0_pay264 lb fl) (k0_pay265 lb k0_pay6 fl) (k0_pay266 lb k0_pay6 fl)) (k0_pay271 (k0_pay261 v)))) = gNext lb fl v 3 s := rfl
theorem keep_3_3 : (k0_pay328 (k0_pay276 s)) = gKeep s := rfl
theorem next_3_4 : (k0_pay332 (k0_pay277 s) (k0_pay303 (k0_pay270 (k0_pay264 lb fl) (k0_pay265 lb k0_pay6 fl) (k0_pay266 lb k0_pay6 fl)) (k0_pay271 (k0_pay261 v))) (k0_pay331 (k0_pay272 (k0_pay266 lb k0_pay6 fl)))) = gNext lb fl v 4 s := rfl
theorem keep_3_4 : (k0_pay330 (k0_pay277 s)) = gKeep s := rfl
theorem next_3_5 : (k0_pay334 (k0_pay272 (k0_pay266 lb k0_pay6 fl)) (k0_pay278 s) (k0_pay304 (k0_pay270 (k0_pay264 lb fl) (k0_pay265 lb k0_pay6 fl) (k0_pay266 lb k0_pay6 fl)) (k0_pay271 (k0_pay261 v)))) = gNext lb fl v 5 s := rfl
theorem keep_3_5 : (k0_pay333 (k0_pay278 s)) = gKeep s := rfl
theorem next_3_6 : (k0_pay336 (k0_pay272 (k0_pay266 lb k0_pay6 fl)) (k0_pay279 s) (k0_pay305 (k0_pay270 (k0_pay264 lb fl) (k0_pay265 lb k0_pay6 fl) (k0_pay266 lb k0_pay6 fl)) (k0_pay271 (k0_pay261 v)))) = gNext lb fl v 6 s := rfl
theorem keep_3_6 : (k0_pay335 (k0_pay279 s)) = gKeep s := rfl
theorem next_3_7 : (k0_pay339 (k0_pay338 (k0_pay272 (k0_pay266 lb k0_pay6 fl)) (k0_pay280 s) (k0_pay306 (k0_pay270 (k0_pay264 lb fl) (k0_pay265 lb k0_pay6 fl) (k0_pay266 lb k0_pay6 fl)) (k0_pay271 (k0_pay261 v))))) = gNext lb fl v 7 s := rfl
theorem keep_3_7 : (k0_pay337 (k0_pay280 s)) = gKeep s := rfl
theorem out_3_0 : (k0_pay314 (k0_pay271 (k0_pay261 v)) (k0_pay290 (k0_pay268 (k0_pay260 q) (k0_pay267 lb k0_pay6 fl)) (k0_pay273 s)) (k0_pay307 k0_pay5 (k0_pay281 (k0_pay260 q) (k0_pay264 lb fl) (k0_pay265 lb k0_pay6 fl) (k0_pay267 lb k0_pay6 fl)))) = gOut lb q fl v 0 s := rfl
theorem out_3_1 : (k0_pay315 (k0_pay271 (k0_pay261 v)) (k0_pay291 (k0_pay268 (k0_pay260 q) (k0_pay267 lb k0_pay6 fl)) (k0_pay274 s)) (k0_pay308 k0_pay5 (k0_pay283 (k0_pay269 (k0_pay264 lb fl) (k0_pay265 lb k0_pay6 fl)) (k0_pay282 (k0_pay260 q) (k0_pay267 lb k0_pay6 fl))))) = gOut lb q fl v 1 s := rfl
theorem out_3_2 : (k0_pay316 (k0_pay271 (k0_pay261 v)) (k0_pay292 (k0_pay268 (k0_pay260 q) (k0_pay267 lb k0_pay6 fl)) (k0_pay275 s)) (k0_pay309 k0_pay5 (k0_pay284 (k0_pay268 (k0_pay260 q) (k0_pay267 lb k0_pay6 fl)) (k0_pay269 (k0_pay264 lb fl) (k0_pay265 lb k0_pay6 fl))))) = gOut lb q fl v 2 s := rfl
theorem out_3_3 : (k0_pay317 (k0_pay271 (k0_pay261 v)) (k0_pay293 (k0_pay268 (k0_pay260 q) (k0_pay267 lb k0_pay6 fl)) (k0_pay276 s)) (k0_pay310 k0_pay5 (k0_pay285 (k0_pay268 (k0_pay260 q) (k0_pay267 lb k0_pay6 fl)) (k0_pay269 (k0_pay264 lb fl) (k0_pay265 lb k0_pay6 fl))))) = gOut lb q fl v 3 s := rfl
theorem out_3_4 : (k0_pay318 (k0_pay271 (k0_pay261 v)) (k0_pay294 (k0_pay268 (k0_pay260 q) (k0_pay267 lb k0_pay6 fl)) (k0_pay277 s)) (k0_pay311 k0_pay5 (k0_pay286 (k0_pay268 (k0_pay260 q) (k0_pay267 lb k0_pay6 fl)) (k0_pay269 (k0_pay264 lb fl) (k0_pay265 lb k0_pay6 fl))))) = gOut lb q fl v 4 s := rfl
theorem out_3_5 : (k0_pay319 (k0_pay271 (k0_pay261 v)) (k0_pay295 (k0_pay268 (k0_pay260 q) (k0_pay267 lb k0_pay6 fl)) (k0_pay278 s)) (k0_pay312 k0_pay5 (k0_pay287 (k0_pay268 (k0_pay260 q) (k0_pay267 lb k0_pay6 fl)) (k0_pay269 (k0_pay264 lb fl) (k0_pay265 lb k0_pay6 fl))))) = gOut lb q fl v 5 s := rfl
theorem out_3_6 : (k0_pay320 (k0_pay271 (k0_pay261 v)) (k0_pay296 (k0_pay268 (k0_pay260 q) (k0_pay267 lb k0_pay6 fl)) (k0_pay279 s)) (k0_pay313 k0_pay5 (k0_pay288 (k0_pay268 (k0_pay260 q) (k0_pay267 lb k0_pay6 fl)) (k0_pay269 (k0_pay264 lb fl) (k0_pay265 lb k0_pay6 fl))))) = gOut lb q fl v 6 s := rfl
theorem out_3_7 : (k0_pay321 k0_pay5 (k0_pay271 (k0_pay261 v)) (k0_pay289 (k0_pay268 (k0_pay260 q) (k0_pay267 lb k0_pay6 fl)) (k0_pay269 (k0_pay264 lb fl) (k0_pay265 lb k0_pay6 fl))) (k0_pay297 (k0_pay268 (k0_pay260 q) (k0_pay267 lb k0_pay6 fl)) (k0_pay280 s)) (Scalar.ofBits .f32 0x00000000#32)) = gOut lb q fl v 7 s := rfl
theorem raw_3 : (k0_pay340 o0 o1 o2 o3 o4 o5 o6 o7) = together ![o0, o1, o2, o3, o4, o5, o6, o7] := rfl
theorem gated_3 : (k0_pay1 gain (k0_pay262 hg) (k0_pay340 o0 o1 o2 o3 o4 o5 o6 o7) (k0_pay348 (k0_pay341 o0 o1 o2 o3 o4 o5 o6 o7) (k0_pay342 o0 o1 o2 o3 o4 o5 o6 o7) (k0_pay343 o0 o1 o2 o3 o4 o5 o6 o7) (k0_pay344 o0 o1 o2 o3 o4 o5 o6 o7) (k0_pay345 o0 o1 o2 o3 o4 o5 o6 o7) (k0_pay346 o0 o1 o2 o3 o4 o5 o6 o7) (k0_pay347 o0 o1 o2 o3 o4 o5 o6 o7))) = gGated hg gain (together ![o0, o1, o2, o3, o4, o5, o6, o7]) := rfl
end Same

/-! ## The stores read back -/

section Back
variable {sig' : RefSig} {κ : Kind} {sp : Space} (v : View sig' κ sp S8x128x128 .f32)
theorem back0 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![0, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![0, 0, 0] ![1, 128, 128] j).toLoadRect = c0 := by
  rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_eq_canon']; funext x; exact View.canon_cons_emb _ _ _ _
theorem back1 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![1, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![1, 0, 0] ![1, 128, 128] j).toLoadRect = c1 := by
  rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_eq_canon']; funext x; exact View.canon_cons_emb _ _ _ _
theorem back2 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![2, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![2, 0, 0] ![1, 128, 128] j).toLoadRect = c2 := by
  rw [View.readCov_skip _ _ _ _ _ (rfl)]; rw [View.readCov_skip _ _ _ _ _ (rfl)]; rw [View.readCov_skip _ _ _ _ _ (rfl)]; rw [View.readCov_skip _ _ _ _ _ (rfl)]; rw [View.readCov_skip _ _ _ _ _ (rfl)]; rw [View.readCov_eq_canon']; funext x; exact View.canon_cons_emb _ _ _ _
theorem back3 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![3, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![3, 0, 0] ![1, 128, 128] j).toLoadRect = c3 := by
  rw [View.readCov_skip _ _ _ _ _ (rfl)]; rw [View.readCov_skip _ _ _ _ _ (rfl)]; rw [View.readCov_skip _ _ _ _ _ (rfl)]; rw [View.readCov_skip _ _ _ _ _ (rfl)]; rw [View.readCov_eq_canon']; funext x; exact View.canon_cons_emb _ _ _ _
theorem back4 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![4, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![4, 0, 0] ![1, 128, 128] j).toLoadRect = c4 := by
  rw [View.readCov_skip _ _ _ _ _ (rfl)]; rw [View.readCov_skip _ _ _ _ _ (rfl)]; rw [View.readCov_skip _ _ _ _ _ (rfl)]; rw [View.readCov_eq_canon']; funext x; exact View.canon_cons_emb _ _ _ _
theorem back5 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![5, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![5, 0, 0] ![1, 128, 128] j).toLoadRect = c5 := by
  rw [View.readCov_skip _ _ _ _ _ (rfl)]; rw [View.readCov_skip _ _ _ _ _ (rfl)]; rw [View.readCov_eq_canon']; funext x; exact View.canon_cons_emb _ _ _ _
theorem back6 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![6, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![6, 0, 0] ![1, 128, 128] j).toLoadRect = c6 := by
  rw [View.readCov_skip _ _ _ _ _ (rfl)]; rw [View.readCov_eq_canon']; funext x; exact View.canon_cons_emb _ _ _ _
theorem back7 {i0 : ∀ a, (![0, 0, 0] : Fin 3 → ℕ) a + (![1, 128, 128] : Fin 3 → ℕ) a ≤ S8x128x128.size a} (c0 : (Rect.unit (s := S8x128x128) ![0, 0, 0] ![1, 128, 128] i0).shape.Idx → Elt Ideal .f32) {i1 : ∀ a, (![1, 0, 0] : Fin 3 → ℕ) a + (![1, 128, 128] : Fin 3 → ℕ) a ≤ S8x128x128.size a} (c1 : (Rect.unit (s := S8x128x128) ![1, 0, 0] ![1, 128, 128] i1).shape.Idx → Elt Ideal .f32) {i2 : ∀ a, (![2, 0, 0] : Fin 3 → ℕ) a + (![1, 128, 128] : Fin 3 → ℕ) a ≤ S8x128x128.size a} (c2 : (Rect.unit (s := S8x128x128) ![2, 0, 0] ![1, 128, 128] i2).shape.Idx → Elt Ideal .f32) {i3 : ∀ a, (![3, 0, 0] : Fin 3 → ℕ) a + (![1, 128, 128] : Fin 3 → ℕ) a ≤ S8x128x128.size a} (c3 : (Rect.unit (s := S8x128x128) ![3, 0, 0] ![1, 128, 128] i3).shape.Idx → Elt Ideal .f32) {i4 : ∀ a, (![4, 0, 0] : Fin 3 → ℕ) a + (![1, 128, 128] : Fin 3 → ℕ) a ≤ S8x128x128.size a} (c4 : (Rect.unit (s := S8x128x128) ![4, 0, 0] ![1, 128, 128] i4).shape.Idx → Elt Ideal .f32) {i5 : ∀ a, (![5, 0, 0] : Fin 3 → ℕ) a + (![1, 128, 128] : Fin 3 → ℕ) a ≤ S8x128x128.size a} (c5 : (Rect.unit (s := S8x128x128) ![5, 0, 0] ![1, 128, 128] i5).shape.Idx → Elt Ideal .f32) {i6 : ∀ a, (![6, 0, 0] : Fin 3 → ℕ) a + (![1, 128, 128] : Fin 3 → ℕ) a ≤ S8x128x128.size a} (c6 : (Rect.unit (s := S8x128x128) ![6, 0, 0] ![1, 128, 128] i6).shape.Idx → Elt Ideal .f32) {i7 : ∀ a, (![7, 0, 0] : Fin 3 → ℕ) a + (![1, 128, 128] : Fin 3 → ℕ) a ≤ S8x128x128.size a} (c7 : (Rect.unit (s := S8x128x128) ![7, 0, 0] ![1, 128, 128] i7).shape.Idx → Elt Ideal .f32) (L : List (View.Piece (Elt Ideal) S8x128x128 .f32)) (j : ∀ a, (![7, 0, 0] : Fin 3 → ℕ) a + (![1, 128, 128] : Fin 3 → ℕ) a ≤ S8x128x128.size a) :
    v.readCov (⟨Rect.unit (s := S8x128x128) ![7, 0, 0] ![1, 128, 128] i7, c7⟩ :: ⟨Rect.unit (s := S8x128x128) ![6, 0, 0] ![1, 128, 128] i6, c6⟩ :: ⟨Rect.unit (s := S8x128x128) ![5, 0, 0] ![1, 128, 128] i5, c5⟩ :: ⟨Rect.unit (s := S8x128x128) ![4, 0, 0] ![1, 128, 128] i4, c4⟩ :: ⟨Rect.unit (s := S8x128x128) ![3, 0, 0] ![1, 128, 128] i3, c3⟩ :: ⟨Rect.unit (s := S8x128x128) ![2, 0, 0] ![1, 128, 128] i2, c2⟩ :: ⟨Rect.unit (s := S8x128x128) ![1, 0, 0] ![1, 128, 128] i1, c1⟩ :: ⟨Rect.unit (s := S8x128x128) ![0, 0, 0] ![1, 128, 128] i0, c0⟩ :: L) (Rect.unit (s := S8x128x128) ![7, 0, 0] ![1, 128, 128] j).toLoadRect = c7 := by
  rw [View.readCov_eq_canon']; funext x; exact View.canon_cons_emb _ _ _ _
end Back
/-- A slice of the projections loaded after they were stored whole. -/
theorem fill (v : View sig .tc .vmem S256x4096 .f32) (Z : Vec Ideal S256x4096 .f32) (L : List (View.Piece (Elt Ideal) S256x4096 .f32)) (off size : Fin 2 → ℕ)
    (inb : ∀ a, off a + size a ≤ S256x4096.size a) :
    v.readCov (⟨Rect.unit ![0, 0] ![256, 4096] inb_S256x4096_S256x4096_0_0, Z⟩ :: L) (Rect.unit off size inb).toLoadRect = View.ld Z (Rect.unit off size inb) :=
  View.readCov_fill v _ Z L _ (by decide)
/-- A slice of the states loaded after they were stored whole. -/
theorem fill3 (v : View sig .tc .vmem S8x128x128 .f32) (Z : Vec Ideal S8x128x128 .f32) (L : List (View.Piece (Elt Ideal) S8x128x128 .f32)) (off size : Fin 3 → ℕ)
    (inb : ∀ a, off a + size a ≤ S8x128x128.size a) :
    v.readCov (⟨Rect.unit ![0, 0, 0] ![8, 128, 128] inb_S8x128x128_S8x128x128_0_0_0, Z⟩ :: L) (Rect.unit off size inb).toLoadRect = View.ld Z (Rect.unit off size inb) :=
  View.readCov_fill v _ Z L _ (by decide)

end Cert.HgrnBlock
end
-- ==== Proof.HgrnTile.lean ====
module

public import proofs.«01_k».proof.Proof.HgrnBlock

@[expose] public section

set_option maxRecDepth 16384

noncomputable section

namespace Cert.HgrnTile

open Cert.HgrnFwdIdeal Cert.HgrnFwdIdeal.Gen Cert.HgrnBlock Idealize.ShloMosaic Idealize.ShloMosaic.TcCoe Idealize.SL.Sem

/-! ## What a tile leaves -/

theorem headin (h : Fin 8) : ∀ a, (![h.val, 0, 0] : Fin 3 → ℕ) a + (![1, 128, 128] : Fin 3 → ℕ) a ≤ S8x128x128.size a := by revert h; decide
theorem keepin (i : Fin 4) (h : Fin 8) : ∀ a, (![h.val, i.val, 0, 0] : Fin 4 → ℕ) a + (![1, 1, 128, 128] : Fin 4 → ℕ) a ≤ S8x4x128x128.size a := by revert i h; decide
theorem keepin' (k : Fin 32) : ∀ a, (![7 - k.val % 8, 3 - k.val / 8, 0, 0] : Fin 4 → ℕ) a + (![1, 1, 128, 128] : Fin 4 → ℕ) a ≤ S8x4x128x128.size a := by revert k; decide
theorem rowsin (i : Fin 4) : ∀ a, (![64 * i.val, 0] : Fin 2 → ℕ) a + (![64, 1024] : Fin 2 → ℕ) a ≤ S256x1024.size a := by revert i; decide

/-- A head's state out of all of them. -/
def headOfAll (s : Vec Ideal S8x128x128 .f32) (h : Fin 8) : Head := View.ld s (Rect.unit (s := S8x128x128) ![h.val, 0, 0] ![1, 128, 128] (headin h))

section Tile
variable (lb : FVec Ideal S1x1024 .f32) (z : Vec Ideal S256x4096 .f32) (gain : Vec Ideal S1x1024 .f32) (S : Fin 8 → Head)

/-- The state of head `h` after chunk `i` of the tile, from that before the chunk. -/
def step (i : Fin 4) (h : Fin 8) (s : Head) : Head := gNext lb (partOf z i 1) (partOf z i 2) h s
/-- The state of head `h` before chunk `i` of the tile, and after the last. -/
def tState (h : Fin 8) : Fin 5 → Head :=
  ![S h, step lb z 0 h (S h), step lb z 1 h (step lb z 0 h (S h)), step lb z 2 h (step lb z 1 h (step lb z 0 h (S h))), step lb z 3 h (step lb z 2 h (step lb z 1 h (step lb z 0 h (S h))))]
def tRaw (i : Fin 4) : FVec Ideal S64x1024 .f32 :=
  together ![gOut lb (partOf z i 0) (partOf z i 1) (partOf z i 2) 0 (tState lb z S 0 i.castSucc), gOut lb (partOf z i 0) (partOf z i 1) (partOf z i 2) 1 (tState lb z S 1 i.castSucc), gOut lb (partOf z i 0) (partOf z i 1) (partOf z i 2) 2 (tState lb z S 2 i.castSucc), gOut lb (partOf z i 0) (partOf z i 1) (partOf z i 2) 3 (tState lb z S 3 i.castSucc), gOut lb (partOf z i 0) (partOf z i 1) (partOf z i 2) 4 (tState lb z S 4 i.castSucc), gOut lb (partOf z i 0) (partOf z i 1) (partOf z i 2) 5 (tState lb z S 5 i.castSucc), gOut lb (partOf z i 0) (partOf z i 1) (partOf z i 2) 6 (tState lb z S 6 i.castSucc), gOut lb (partOf z i 0) (partOf z i 1) (partOf z i 2) 7 (tState lb z S 7 i.castSucc)]
def tGated (i : Fin 4) : FVec Ideal S64x1024 .bf16 := gGated (partOf z i 3) gain (tRaw lb z S i)

def rawOf : Vec Ideal S256x1024 .f32 := View.canon (List.ofFn fun i : Fin 4 => (⟨Rect.unit (s := S256x1024) ![64 * i.rev.val, 0] ![64, 1024] (rowsin i.rev), tRaw lb z S i.rev⟩ : View.Piece (Elt Ideal) S256x1024 .f32))
def gatedOf : Vec Ideal S256x1024 .bf16 := View.canon (List.ofFn fun i : Fin 4 => (⟨Rect.unit (s := S256x1024) ![64 * i.rev.val, 0] ![64, 1024] (rowsin i.rev), tGated lb z gain S i.rev⟩ : View.Piece (Elt Ideal) S256x1024 .bf16))
def keptOf : Vec Ideal S8x4x128x128 .f32 := View.canon (List.ofFn fun k : Fin 32 => (⟨Rect.unit (s := S8x4x128x128) ![7 - k.val % 8, 3 - k.val / 8, 0, 0] ![1, 1, 128, 128] (keepin' k),
  gKeep (tState lb z S ⟨7 - k.val % 8, by omega⟩ ⟨3 - k.val / 8, by omega⟩)⟩ : View.Piece (Elt Ideal) S8x4x128x128 .f32))
/-- The states left, with whatever was stored before below them. -/
def Leaves (s : Vec Ideal S8x128x128 .f32) : Prop := ∃ L, s = View.canon ((List.ofFn fun h : Fin 8 => (⟨Rect.unit (s := S8x128x128) ![h.rev.val, 0, 0] ![1, 128, 128] (headin h.rev), tState lb z S h.rev 4⟩ : View.Piece (Elt Ideal) S8x128x128 .f32)) ++ L)
end Tile

variable (m : (ℓ : Loc nD τ sig) → Buf (Elt Ideal) ℓ) (c : Dev nD) (t : Fin cfg0.N)

def bound : FVec Ideal S1x1024 .f32 :=
  k0_pay4 (View.ld (iblk m c 2 t) (Rect.unit (s := S2x1024) ![0, 0] ![1, 1024] inb_S2x1024_S1x1024_0_0)) (View.ld (iblk m c 2 t) (Rect.unit (s := S2x1024) ![1, 0] ![1, 1024] inb_S2x1024_S1x1024_1_0))
def proj : Vec Ideal S256x4096 .f32 := k0_pay3 (iblk m c 0 t) (iblk m c 1 t)
/-- The states before the tile. -/
def before (h : ¬ t.val % 32 = 0) : Fin 8 → Head := headOfAll ((outsAt0 m c (t.val - 1) (by omega)).2.2.2.2)
/-- The states before the first tile. -/
def first : Fin 8 → Head := headOfAll (k0_pay2 (F := Ideal))

/-! ## The pieces named -/

section Fold
theorem fill {sig' : RefSig} {κ : Kind} {sp : Space} (v : View sig' κ sp S256x4096 .f32) (Z : Vec Ideal S256x4096 .f32) (L : List (View.Piece (Elt Ideal) S256x4096 .f32)) {i0 : ∀ a, (![0, 0] : Fin 2 → ℕ) a + (![256, 4096] : Fin 2 → ℕ) a ≤ S256x4096.size a} (off size : Fin 2 → ℕ)
    (inb : ∀ a, off a + size a ≤ S256x4096.size a) :
    v.readCov (⟨Rect.unit (s := S256x4096) ![0, 0] ![256, 4096] i0, Z⟩ :: L) (Rect.unit (s := S256x4096) off size inb).toLoadRect = View.ld Z (Rect.unit off size inb) :=
  View.readCov_fill v _ Z L _ (by decide)
theorem fill3 {sig' : RefSig} {κ : Kind} {sp : Space} (v : View sig' κ sp S8x128x128 .f32) (Z : Vec Ideal S8x128x128 .f32) (L : List (View.Piece (Elt Ideal) S8x128x128 .f32)) {i0 : ∀ a, (![0, 0, 0] : Fin 3 → ℕ) a + (![8, 128, 128] : Fin 3 → ℕ) a ≤ S8x128x128.size a} (off size : Fin 3 → ℕ)
    (inb : ∀ a, off a + size a ≤ S8x128x128.size a) :
    v.readCov (⟨Rect.unit (s := S8x128x128) ![0, 0, 0] ![8, 128, 128] i0, Z⟩ :: L) (Rect.unit (s := S8x128x128) off size inb).toLoadRect = View.ld Z (Rect.unit off size inb) :=
  View.readCov_fill v _ Z L _ (by decide)
theorem carried (w : (Memref.whole cc0_scratch0).IsWhole) (X : Vec Ideal S8x128x128 .f32) : View.read (Elt Ideal) (View.whole cc0_scratch0) (w.unread X) = X := w.read_unread X
theorem proj_fold : k0_pay3 (iblk m c 0 t) (iblk m c 1 t) = proj m c t := rfl
theorem bound_fold {i0 : ∀ a, (![0, 0] : Fin 2 → ℕ) a + (![1, 1024] : Fin 2 → ℕ) a ≤ S2x1024.size a} {i1 : ∀ a, (![1, 0] : Fin 2 → ℕ) a + (![1, 1024] : Fin 2 → ℕ) a ≤ S2x1024.size a} :
    k0_pay4 (F := Ideal) (View.ld (iblk m c 2 t) (Rect.unit (s := S2x1024) ![0, 0] ![1, 1024] i0)) (View.ld (iblk m c 2 t) (Rect.unit (s := S2x1024) ![1, 0] ![1, 1024] i1)) = bound m c t := rfl

theorem part_0_0 (z : Vec Ideal S256x4096 .f32) {i : ∀ a, (![0, 0] : Fin 2 → ℕ) a + (![64, 1024] : Fin 2 → ℕ) a ≤ S256x4096.size a} : View.ld z (Rect.unit (s := S256x4096) ![0, 0] ![64, 1024] i) = partOf z 0 0 := rfl
theorem part_0_1 (z : Vec Ideal S256x4096 .f32) {i : ∀ a, (![0, 1024] : Fin 2 → ℕ) a + (![64, 1024] : Fin 2 → ℕ) a ≤ S256x4096.size a} : View.ld z (Rect.unit (s := S256x4096) ![0, 1024] ![64, 1024] i) = partOf z 0 1 := rfl
theorem part_0_2 (z : Vec Ideal S256x4096 .f32) {i : ∀ a, (![0, 2048] : Fin 2 → ℕ) a + (![64, 1024] : Fin 2 → ℕ) a ≤ S256x4096.size a} : View.ld z (Rect.unit (s := S256x4096) ![0, 2048] ![64, 1024] i) = partOf z 0 2 := rfl
theorem part_0_3 (z : Vec Ideal S256x4096 .f32) {i : ∀ a, (![0, 3072] : Fin 2 → ℕ) a + (![64, 1024] : Fin 2 → ℕ) a ≤ S256x4096.size a} : View.ld z (Rect.unit (s := S256x4096) ![0, 3072] ![64, 1024] i) = partOf z 0 3 := rfl
theorem part_1_0 (z : Vec Ideal S256x4096 .f32) {i : ∀ a, (![64, 0] : Fin 2 → ℕ) a + (![64, 1024] : Fin 2 → ℕ) a ≤ S256x4096.size a} : View.ld z (Rect.unit (s := S256x4096) ![64, 0] ![64, 1024] i) = partOf z 1 0 := rfl
theorem part_1_1 (z : Vec Ideal S256x4096 .f32) {i : ∀ a, (![64, 1024] : Fin 2 → ℕ) a + (![64, 1024] : Fin 2 → ℕ) a ≤ S256x4096.size a} : View.ld z (Rect.unit (s := S256x4096) ![64, 1024] ![64, 1024] i) = partOf z 1 1 := rfl
theorem part_1_2 (z : Vec Ideal S256x4096 .f32) {i : ∀ a, (![64, 2048] : Fin 2 → ℕ) a + (![64, 1024] : Fin 2 → ℕ) a ≤ S256x4096.size a} : View.ld z (Rect.unit (s := S256x4096) ![64, 2048] ![64, 1024] i) = partOf z 1 2 := rfl
theorem part_1_3 (z : Vec Ideal S256x4096 .f32) {i : ∀ a, (![64, 3072] : Fin 2 → ℕ) a + (![64, 1024] : Fin 2 → ℕ) a ≤ S256x4096.size a} : View.ld z (Rect.unit (s := S256x4096) ![64, 3072] ![64, 1024] i) = partOf z 1 3 := rfl
theorem part_2_0 (z : Vec Ideal S256x4096 .f32) {i : ∀ a, (![128, 0] : Fin 2 → ℕ) a + (![64, 1024] : Fin 2 → ℕ) a ≤ S256x4096.size a} : View.ld z (Rect.unit (s := S256x4096) ![128, 0] ![64, 1024] i) = partOf z 2 0 := rfl
theorem part_2_1 (z : Vec Ideal S256x4096 .f32) {i : ∀ a, (![128, 1024] : Fin 2 → ℕ) a + (![64, 1024] : Fin 2 → ℕ) a ≤ S256x4096.size a} : View.ld z (Rect.unit (s := S256x4096) ![128, 1024] ![64, 1024] i) = partOf z 2 1 := rfl
theorem part_2_2 (z : Vec Ideal S256x4096 .f32) {i : ∀ a, (![128, 2048] : Fin 2 → ℕ) a + (![64, 1024] : Fin 2 → ℕ) a ≤ S256x4096.size a} : View.ld z (Rect.unit (s := S256x4096) ![128, 2048] ![64, 1024] i) = partOf z 2 2 := rfl
theorem part_2_3 (z : Vec Ideal S256x4096 .f32) {i : ∀ a, (![128, 3072] : Fin 2 → ℕ) a + (![64, 1024] : Fin 2 → ℕ) a ≤ S256x4096.size a} : View.ld z (Rect.unit (s := S256x4096) ![128, 3072] ![64, 1024] i) = partOf z 2 3 := rfl
theorem part_3_0 (z : Vec Ideal S256x4096 .f32) {i : ∀ a, (![192, 0] : Fin 2 → ℕ) a + (![64, 1024] : Fin 2 → ℕ) a ≤ S256x4096.size a} : View.ld z (Rect.unit (s := S256x4096) ![192, 0] ![64, 1024] i) = partOf z 3 0 := rfl
theorem part_3_1 (z : Vec Ideal S256x4096 .f32) {i : ∀ a, (![192, 1024] : Fin 2 → ℕ) a + (![64, 1024] : Fin 2 → ℕ) a ≤ S256x4096.size a} : View.ld z (Rect.unit (s := S256x4096) ![192, 1024] ![64, 1024] i) = partOf z 3 1 := rfl
theorem part_3_2 (z : Vec Ideal S256x4096 .f32) {i : ∀ a, (![192, 2048] : Fin 2 → ℕ) a + (![64, 1024] : Fin 2 → ℕ) a ≤ S256x4096.size a} : View.ld z (Rect.unit (s := S256x4096) ![192, 2048] ![64, 1024] i) = partOf z 3 2 := rfl
theorem part_3_3 (z : Vec Ideal S256x4096 .f32) {i : ∀ a, (![192, 3072] : Fin 2 → ℕ) a + (![64, 1024] : Fin 2 → ℕ) a ≤ S256x4096.size a} : View.ld z (Rect.unit (s := S256x4096) ![192, 3072] ![64, 1024] i) = partOf z 3 3 := rfl
theorem head_0 (s : Vec Ideal S8x128x128 .f32) {i : ∀ a, (![0, 0, 0] : Fin 3 → ℕ) a + (![1, 128, 128] : Fin 3 → ℕ) a ≤ S8x128x128.size a} : View.ld s (Rect.unit (s := S8x128x128) ![0, 0, 0] ![1, 128, 128] i) = headOfAll s 0 := rfl
theorem head_1 (s : Vec Ideal S8x128x128 .f32) {i : ∀ a, (![1, 0, 0] : Fin 3 → ℕ) a + (![1, 128, 128] : Fin 3 → ℕ) a ≤ S8x128x128.size a} : View.ld s (Rect.unit (s := S8x128x128) ![1, 0, 0] ![1, 128, 128] i) = headOfAll s 1 := rfl
theorem head_2 (s : Vec Ideal S8x128x128 .f32) {i : ∀ a, (![2, 0, 0] : Fin 3 → ℕ) a + (![1, 128, 128] : Fin 3 → ℕ) a ≤ S8x128x128.size a} : View.ld s (Rect.unit (s := S8x128x128) ![2, 0, 0] ![1, 128, 128] i) = headOfAll s 2 := rfl
theorem head_3 (s : Vec Ideal S8x128x128 .f32) {i : ∀ a, (![3, 0, 0] : Fin 3 → ℕ) a + (![1, 128, 128] : Fin 3 → ℕ) a ≤ S8x128x128.size a} : View.ld s (Rect.unit (s := S8x128x128) ![3, 0, 0] ![1, 128, 128] i) = headOfAll s 3 := rfl
theorem head_4 (s : Vec Ideal S8x128x128 .f32) {i : ∀ a, (![4, 0, 0] : Fin 3 → ℕ) a + (![1, 128, 128] : Fin 3 → ℕ) a ≤ S8x128x128.size a} : View.ld s (Rect.unit (s := S8x128x128) ![4, 0, 0] ![1, 128, 128] i) = headOfAll s 4 := rfl
theorem head_5 (s : Vec Ideal S8x128x128 .f32) {i : ∀ a, (![5, 0, 0] : Fin 3 → ℕ) a + (![1, 128, 128] : Fin 3 → ℕ) a ≤ S8x128x128.size a} : View.ld s (Rect.unit (s := S8x128x128) ![5, 0, 0] ![1, 128, 128] i) = headOfAll s 5 := rfl
theorem head_6 (s : Vec Ideal S8x128x128 .f32) {i : ∀ a, (![6, 0, 0] : Fin 3 → ℕ) a + (![1, 128, 128] : Fin 3 → ℕ) a ≤ S8x128x128.size a} : View.ld s (Rect.unit (s := S8x128x128) ![6, 0, 0] ![1, 128, 128] i) = headOfAll s 6 := rfl
theorem head_7 (s : Vec Ideal S8x128x128 .f32) {i : ∀ a, (![7, 0, 0] : Fin 3 → ℕ) a + (![1, 128, 128] : Fin 3 → ℕ) a ≤ S8x128x128.size a} : View.ld s (Rect.unit (s := S8x128x128) ![7, 0, 0] ![1, 128, 128] i) = headOfAll s 7 := rfl
end Fold
theorem z_A (h : t.val % 32 = 0) : (outsAt0 m c t.val t.isLt).1 = proj m c t := by rw [outsAt0_A m c t h]; frame_out; rfl
theorem z_B (h : ¬ t.val % 32 = 0) : (outsAt0 m c t.val t.isLt).1 = proj m c t := by rw [outsAt0_B m c t h]; frame_out; rfl
set_option backward.isDefEq.respectTransparency false in
set_option maxHeartbeats 400000 in
theorem raw_B (h : ¬ t.val % 32 = 0) : (outsAt0 m c t.val t.isLt).2.2.1 = rawOf (bound m c t) (proj m c t) (before m c t h) := by
  rw [outsAt0_B m c t h]
  frame_out
  simp only [↓fill, ↓carried, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem gated_B (h : ¬ t.val % 32 = 0) : (outsAt0 m c t.val t.isLt).2.1 = gatedOf (bound m c t) (proj m c t) (iblk m c 3 t) (before m c t h) := by
  rw [outsAt0_B m c t h]
  frame_out
  simp only [↓fill, ↓carried, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem kept_B (h : ¬ t.val % 32 = 0) : (outsAt0 m c t.val t.isLt).2.2.2.1 = keptOf (bound m c t) (proj m c t) (before m c t h) := by
  rw [outsAt0_B m c t h]
  frame_out
  simp only [↓fill, ↓carried, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem left_B (h : ¬ t.val % 32 = 0) : Leaves (bound m c t) (proj m c t) (before m c t h) (outsAt0 m c t.val t.isLt).2.2.2.2 := by
  rw [outsAt0_B m c t h]
  frame_out
  simp only [↓fill, ↓carried, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  exact ⟨_, rfl⟩
set_option backward.isDefEq.respectTransparency false in
set_option maxHeartbeats 400000 in
theorem raw_A (h : t.val % 32 = 0) : (outsAt0 m c t.val t.isLt).2.2.1 = rawOf (bound m c t) (proj m c t) first := by
  rw [outsAt0_A m c t h]
  frame_out
  simp only [↓fill, ↓fill3, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem gated_A (h : t.val % 32 = 0) : (outsAt0 m c t.val t.isLt).2.1 = gatedOf (bound m c t) (proj m c t) (iblk m c 3 t) first := by
  rw [outsAt0_A m c t h]
  frame_out
  simp only [↓fill, ↓fill3, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem kept_A (h : t.val % 32 = 0) : (outsAt0 m c t.val t.isLt).2.2.2.1 = keptOf (bound m c t) (proj m c t) first := by
  rw [outsAt0_A m c t h]
  frame_out
  simp only [↓fill, ↓fill3, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  rfl
set_option backward.isDefEq.respectTransparency false in
set_option maxHeartbeats 400000 in
theorem left_A (h : t.val % 32 = 0) : Leaves (bound m c t) (proj m c t) first (outsAt0 m c t.val t.isLt).2.2.2.2 := by
  rw [outsAt0_A m c t h]
  frame_out
  simp only [↓fill, ↓fill3, ↓back0, ↓back1, ↓back2, ↓back3, ↓back4, ↓back5, ↓back6, ↓back7, ↓next_0_0, ↓keep_0_0, ↓next_0_1, ↓keep_0_1, ↓next_0_2, ↓keep_0_2, ↓next_0_3, ↓keep_0_3, ↓next_0_4, ↓keep_0_4, ↓next_0_5, ↓keep_0_5, ↓next_0_6, ↓keep_0_6, ↓next_0_7, ↓keep_0_7, ↓out_0_0, ↓out_0_1, ↓out_0_2, ↓out_0_3, ↓out_0_4, ↓out_0_5, ↓out_0_6, ↓out_0_7, ↓raw_0, ↓gated_0, ↓next_1_0, ↓keep_1_0, ↓next_1_1, ↓keep_1_1, ↓next_1_2, ↓keep_1_2, ↓next_1_3, ↓keep_1_3, ↓next_1_4, ↓keep_1_4, ↓next_1_5, ↓keep_1_5, ↓next_1_6, ↓keep_1_6, ↓next_1_7, ↓keep_1_7, ↓out_1_0, ↓out_1_1, ↓out_1_2, ↓out_1_3, ↓out_1_4, ↓out_1_5, ↓out_1_6, ↓out_1_7, ↓raw_1, ↓gated_1, ↓next_2_0, ↓keep_2_0, ↓next_2_1, ↓keep_2_1, ↓next_2_2, ↓keep_2_2, ↓next_2_3, ↓keep_2_3, ↓next_2_4, ↓keep_2_4, ↓next_2_5, ↓keep_2_5, ↓next_2_6, ↓keep_2_6, ↓next_2_7, ↓keep_2_7, ↓out_2_0, ↓out_2_1, ↓out_2_2, ↓out_2_3, ↓out_2_4, ↓out_2_5, ↓out_2_6, ↓out_2_7, ↓raw_2, ↓gated_2, ↓next_3_0, ↓keep_3_0, ↓next_3_1, ↓keep_3_1, ↓next_3_2, ↓keep_3_2, ↓next_3_3, ↓keep_3_3, ↓next_3_4, ↓keep_3_4, ↓next_3_5, ↓keep_3_5, ↓next_3_6, ↓keep_3_6, ↓next_3_7, ↓keep_3_7, ↓out_3_0, ↓out_3_1, ↓out_3_2, ↓out_3_3, ↓out_3_4, ↓out_3_5, ↓out_3_6, ↓out_3_7, ↓raw_3, ↓gated_3, proj_fold, bound_fold, part_0_0, part_0_1, part_0_2, part_0_3, part_1_0, part_1_1, part_1_2, part_1_3, part_2_0, part_2_1, part_2_2, part_2_3, part_3_0, part_3_1, part_3_2, part_3_3, head_0, head_1, head_2, head_3, head_4, head_5, head_6, head_7]
  exact ⟨_, rfl⟩

end Cert.HgrnTile
end
-- ==== Proof.HgrnPoint.lean ====
module

public import proofs.«01_k».proof.Proof.HgrnBlock

@[expose] public section

set_option maxRecDepth 16384

noncomputable section

namespace Cert.HgrnPoint

open Cert.HgrnFwdIdeal Cert.HgrnFwdIdeal.Gen Cert.HgrnBlock Cert.HgrnSpec Cert.MemSpec Cert.MlpSpec Idealize.ShloMosaic Idealize.ShloMosaic.TcCoe Idealize.SL.Sem

variable (lb : FVec Ideal S1x1024 .f32) (q fl v hg : Vec Ideal S64x1024 .f32) (gain : Vec Ideal S1x1024 .f32)

/-- A row, and a chunk, by their indices. -/
def rowOf (x : Vec Ideal S1x1024 .f32) : R := fun j => x (ix2 0 j)
def blkOf (x : Vec Ideal S64x1024 .f32) : Blk := fun c j => x (ix2 c j)

theorem mask_at (c s : Fin 64) : k0_pay5 (ix2 c s) = if s.val ≤ c.val then 1#1 else 0#1 := by
  revert c s; decide +kernel
theorem past_at (c s : Fin 64) : (k0_pay6 (F := Ideal)) (ix2 c s) = past c s := by
  unfold k0_pay6 past
  pointwise []
  rw [mask_at]
  split
  · show (((BitVec.toInt (1#32) : ℤ) : ℝ) : EReal) = 1
    norm_num
  · show (((BitVec.toInt (0#32) : ℤ) : ℝ) : EReal) = 0
    norm_num
theorem gate_at (c : Fin 64) (j : Fin 1024) : k0_pay11 lb (k0_pay8 fl) (ix2 c j) = gate (rowOf lb) (blkOf fl) c j := by
  unfold k0_pay11 k0_pay8 gate rowOf blkOf
  pointwise [one_f32]
theorem spare_at (c : Fin 64) (j : Fin 1024) : k0_pay12 lb (k0_pay8 fl) (ix2 c j) = 1 - gate (rowOf lb) (blkOf fl) c j := by
  unfold k0_pay12
  pointwise [one_f32, gate_at]
theorem dec_at (hl : Lower (rowOf lb)) (c : Fin 64) (j : Fin 1024) : k0_pay13 lb k0_pay6 (k0_pay8 fl) (ix2 c j) = dec (rowOf lb) (blkOf fl) c j := by
  unfold k0_pay13
  pointwise [past_at, gate_at]
  exact split_sum (fun t => logs (rowOf lb) (blkOf fl) t j) (fun t => logs_nonpos _ _ hl t j) c

theorem gQ_at (hl : Lower (rowOf lb)) (c : Fin 64) (j : Fin 1024) : gQ lb q fl (ix2 c j) = qIn (rowOf lb) (blkOf q) (blkOf fl) c j := by
  unfold gQ k0_pay15 k0_pay7 qIn
  pointwise [dec_at lb fl hl]
  rfl
theorem gK_at (hl : Lower (rowOf lb)) (c : Fin 64) (j : Fin 1024) : gK lb fl (ix2 c j) = kIn (rowOf lb) (blkOf fl) c j := by
  unfold gK k0_pay16 kIn
  pointwise [dec_at lb fl hl, spare_at, GradXSpec.zero_f32]
  try rw [zero_sub]
theorem gKo_at (hl : Lower (rowOf lb)) (c : Fin 64) (j : Fin 1024) : gKo lb fl (ix2 c j) = kOut (rowOf lb) (blkOf fl) c j := by
  unfold gKo k0_pay17 k0_pay14 kOut
  pointwise [dec_at lb fl hl, spare_at]
  rfl
theorem gD_at (hl : Lower (rowOf lb)) (j : Fin 1024) : gD lb fl (ix2 0 j) = fade (rowOf lb) (blkOf fl) j := by
  unfold gD k0_pay19 k0_pay14 fade
  pointwise [dec_at lb fl hl]
  rfl
theorem gV_at (c : Fin 64) (j : Fin 1024) : gV v (ix2 c j) = blkOf v c j := by
  unfold gV k0_pay18 k0_pay9 blkOf
  pointwise []

theorem headOf_at {φ : FTy} (h : Fin 8) (x : FVec Ideal S64x1024 φ) (c : Fin 64) (a : Fin 128) : headOf h x (ix2 c a) = x (ix2 c (col h a)) := by
  unfold headOf
  refine (extractStridedSlice_apply _ _ _ _ (ix2 c (col h a)) ?_)
  intro b
  match b with
  | 0 => simp
  | 1 => simp [col]; omega

/-- A head's state by its indices. -/
def stOf (s : Head) : Fin 128 → Fin 128 → EReal := fun a d => s (ix3 0 a d)

theorem gSt_at (s : Head) (a d : Fin 128) : gSt s (ix2 a d) = stOf s a d := by
  unfold gSt stOf
  pointwise []

theorem gAtt_at (hl : Lower (rowOf lb)) (h : Fin 8) (c s : Fin 64) : gAtt lb q fl h (ix2 c s) = att (rowOf lb) (blkOf q) (blkOf fl) h c s := by
  unfold gAtt att
  pointwise [mask_at, headOf_at, gQ_at lb q fl hl, gK_at lb fl hl, GradXSpec.zero_f32]
  by_cases u : s.val ≤ c.val
  · simp only [if_pos u]; rfl
  · simp only [if_neg u]; rfl

theorem gOut_at (hl : Lower (rowOf lb)) (h : Fin 8) (st : Head) (S : St) (e : ∀ a d, stOf st a d = S h a d) (c : Fin 64) (a : Fin 128) :
    gOut lb q fl v h st (ix2 c a) = out (rowOf lb) (blkOf q) (blkOf fl) (blkOf v) S h c a := by
  unfold gOut out
  pointwise [headOf_at, gAtt_at lb q fl hl, gQ_at lb q fl hl, gV_at, gSt_at, e]

theorem gNext_at (hl : Lower (rowOf lb)) (h : Fin 8) (st : Head) (S : St) (e : ∀ a d, stOf st a d = S h a d) (a d : Fin 128) :
    stOf (gNext lb fl v h st) a d = next (rowOf lb) (blkOf fl) (blkOf v) S h a d := by
  have g : extractStridedSlice S1x128 ![0, 128 * h.val] (gD lb fl) (cuts1 h) (ix2 0 d) = fade (rowOf lb) (blkOf fl) (col h d) := by
    rw [← gD_at lb fl hl]
    refine (extractStridedSlice_apply _ _ _ _ (ix2 0 (col h d)) ?_)
    intro b
    match b with
    | 0 => simp
    | 1 => simp [col]; omega
  unfold gNext next upd stOf
  pointwise [headOf_at, gKo_at lb fl hl, gV_at, gSt_at, e, g]

theorem together_at (f : Fin 8 → FVec Ideal S64x128 .f32) (c : Fin 64) (h : Fin 8) (a : Fin 128) : together f (ix2 c (col h a)) = f h (ix2 c a) := by
  unfold together
  refine concatenate_ofFn_apply (t := S64x1024) (s₁ := S64x128) 1 f _ rfl 128 rfl _ h ?_ _ ?_ ?_
  · show (h.val * 128 + a.val) / 128 = h.val
    omega
  · show a.val = (h.val * 128 + a.val) % 128
    omega
  · intro b hb
    match b with
    | 0 => rfl
    | 1 => exact absurd rfl hb

theorem gMean_at (o : FVec Ideal S64x1024 .f32) (h : Fin 8) (c : Fin 64) (a : Fin 128) :
    gMean o h (ix2 c a) = Ideal.div (∑ x, o (ix2 c (col h x)) * o (ix2 c (col h x))) many := by
  unfold gMean
  pointwise [headOf_at, many_f32]

theorem gGated_at (o : FVec Ideal S64x1024 .f32) (c : Fin 64) (h : Fin 8) (a : Fin 128) :
    gGated hg gain o (ix2 c (col h a)) = gated (fun x => o (ix2 c (col h x))) (rowOf gain (col h a)) (blkOf hg c (col h a)) a := by
  unfold gGated k0_pay88 k0_pay10 gated rowOf blkOf
  pointwise [together_at, gMean_at, tiny_f32]

end Cert.HgrnPoint
end
-- ==== Proof.HgrnRows.lean ====
module

public import proofs.«01_k».proof.Proof.HgrnTile
public import proofs.«01_k».proof.Proof.HgrnPoint

@[expose] public section

set_option maxRecDepth 16384

set_option backward.proofsInPublic true

noncomputable section

namespace Cert.HgrnRows

open Cert.HgrnFwdIdeal Cert.HgrnFwdIdeal.Gen Cert.HgrnBlock Cert.HgrnTile Cert.HgrnPoint Cert.HgrnSpec Cert.MemSpec Cert.MlpSpec Cert.MergeSpec Idealize.ShloMosaic Idealize.ShloMosaic.TcCoe Idealize.SL.Sem

/-! ## A tile's blocks read at an index -/

section Tile
variable (lb : FVec Ideal S1x1024 .f32) (z : Vec Ideal S256x4096 .f32) (gain : Vec Ideal S1x1024 .f32) (S : Fin 8 → Head)

theorem partOf_at (i j : Fin 4) (c : Fin 64) (d : Fin 1024) :
    partOf z i j (ix2 c d) = z (ix2 ⟨64 * i.val + c.val, by omega⟩ ⟨1024 * j.val + d.val, by omega⟩) := by
  refine congrArg z (funext fun a => Fin.ext ?_)
  match a with
  | 0 => exact congrArg (64 * i.val + ·) (Nat.one_mul _)
  | 1 => exact congrArg (1024 * j.val + ·) (Nat.one_mul _)

theorem left_head (s : Vec Ideal S8x128x128 .f32) (e : Leaves lb z S s) (h : Fin 8) : headOfAll s h = tState lb z S h 4 := by
  obtain ⟨L, rfl⟩ := e
  have r : ∀ (X : List (View.Piece (Elt Ideal) S8x128x128 .f32)), headOfAll (View.canon X) h
      = (View.whole cc0_scratch0).readCov X (Rect.unit (s := S8x128x128) ![h.val, 0, 0] ![1, 128, 128] (headin h)).toLoadRect :=
    fun X => (View.readCov_eq_canon' (View.whole cc0_scratch0) X (Rect.unit (s := S8x128x128) ![h.val, 0, 0] ![1, 128, 128] (headin h)).toLoadRect).symm
  rw [r]
  match h with
  | 0 => exact back0 _ _ _ _ _ _ _ _ _ _ _
  | 1 => exact back1 _ _ _ _ _ _ _ _ _ _ _
  | 2 => exact back2 _ _ _ _ _ _ _ _ _ _ _
  | 3 => exact back3 _ _ _ _ _ _ _ _ _ _ _
  | 4 => exact back4 _ _ _ _ _ _ _ _ _ _ _
  | 5 => exact back5 _ _ _ _ _ _ _ _ _ _ _
  | 6 => exact back6 _ _ _ _ _ _ _ _ _ _ _
  | 7 => exact back7 _ _ _ _ _ _ _ _ _ _ _

omit lb z gain S in
theorem rows_canon {e : EltTy} (P : Fin 4 → (S64x1024.Idx → Elt Ideal e)) (i : Fin 4) (c : Fin 64) (j : Fin 1024) :
    View.canon (Val := Elt Ideal) (List.ofFn fun k : Fin 4 => (⟨Rect.unit (s := S256x1024) ![64 * k.rev.val, 0] ![64, 1024] (rowsin k.rev), P k⟩ : View.Piece (Elt Ideal) S256x1024 e))
      (ix2 ⟨64 * i.val + c.val, by omega⟩ j) = P i.rev (ix2 c j) := by
  refine View.canon_ofFn_unit_eq_of_forall (S := S256x1024) (fun k : Fin 4 => ![64 * k.rev.val, 0]) ![64, 1024] (fun k => rowsin k.rev) P _ _ ?_ ?_
  · refine ⟨i.rev, fun a => ?_⟩
    rw [Fin.rev_rev]
    match a with
    | 0 => exact ⟨by show 64 * i.val ≤ 64 * i.val + c.val; omega, by show 64 * i.val + c.val < 64 * i.val + 64; omega⟩
    | 1 => exact ⟨by show 0 ≤ j.val; omega, by show j.val < 0 + 1024; omega⟩
  · intro k x hx
    have h0 : 64 * i.val + c.val = 64 * k.rev.val + (x 0).val := hx 0
    have h1 : j.val = 0 + (x 1).val := hx 1
    have b : (x 0).val < 64 := (x 0).isLt
    have e : k = i.rev := by
      have : k.rev = i := Fin.ext (by omega)
      rw [← this, Fin.rev_rev]
    have er : k.rev.val = i.val := by rw [e, Fin.rev_rev]
    rw [e]
    refine congrArg (P i.rev) (funext fun a => Fin.ext ?_)
    match a with
    | 0 => show (x 0).val = c.val; omega
    | 1 => show (x 1).val = j.val; omega
theorem rawOf_at (i : Fin 4) (c : Fin 64) (j : Fin 1024) : rawOf lb z S (ix2 ⟨64 * i.val + c.val, by omega⟩ j) = tRaw lb z S i (ix2 c j) := by
  have g := rows_canon (e := .f32) (fun k => tRaw lb z S k.rev) i c j
  rw [Fin.rev_rev] at g
  exact g
theorem gatedOf_at (i : Fin 4) (c : Fin 64) (j : Fin 1024) : gatedOf lb z gain S (ix2 ⟨64 * i.val + c.val, by omega⟩ j) = tGated lb z gain S i (ix2 c j) := by
  have g := rows_canon (e := .bf16) (fun k => tGated lb z gain S k.rev) i c j
  rw [Fin.rev_rev] at g
  exact g
theorem gKeep_at (s : Head) (a d : Fin 128) : gKeep s (ix4 0 0 a d) = stOf s a d := by
  unfold gKeep
  pointwise [gSt_at]
omit lb z gain S in
theorem kept_canon (P : Fin 32 → (S1x1x128x128.Idx → Elt Ideal .f32)) (h : Fin 8) (i : Fin 4) (a d : Fin 128) :
    View.canon (Val := Elt Ideal) (List.ofFn fun k : Fin 32 => (⟨Rect.unit (s := S8x4x128x128) ![7 - k.val % 8, 3 - k.val / 8, 0, 0] ![1, 1, 128, 128] (keepin' k), P k⟩ : View.Piece (Elt Ideal) S8x4x128x128 .f32))
      (ix4 h i a d) = P ⟨8 * (3 - i.val) + (7 - h.val), by omega⟩ (ix4 0 0 a d) := by
  refine View.canon_ofFn_unit_eq_of_forall (S := S8x4x128x128) (fun k : Fin 32 => ![7 - k.val % 8, 3 - k.val / 8, 0, 0]) ![1, 1, 128, 128] (fun k => keepin' k) P _ _ ?_ ?_
  · refine ⟨⟨8 * (3 - i.val) + (7 - h.val), by omega⟩, fun b => ?_⟩
    match b with
    | 0 => exact ⟨by show 7 - (8 * (3 - i.val) + (7 - h.val)) % 8 ≤ h.val; omega, by show h.val < 7 - (8 * (3 - i.val) + (7 - h.val)) % 8 + 1; omega⟩
    | 1 => exact ⟨by show 3 - (8 * (3 - i.val) + (7 - h.val)) / 8 ≤ i.val; omega, by show i.val < 3 - (8 * (3 - i.val) + (7 - h.val)) / 8 + 1; omega⟩
    | 2 => exact ⟨by show 0 ≤ a.val; omega, by show a.val < 0 + 128; omega⟩
    | 3 => exact ⟨by show 0 ≤ d.val; omega, by show d.val < 0 + 128; omega⟩
  · intro k x hx
    have h0 : h.val = 7 - k.val % 8 + (x 0).val := hx 0
    have h1 : i.val = 3 - k.val / 8 + (x 1).val := hx 1
    have h2 : a.val = 0 + (x 2).val := hx 2
    have h3 : d.val = 0 + (x 3).val := hx 3
    have b0 : (x 0).val < 1 := (x 0).isLt
    have b1 : (x 1).val < 1 := (x 1).isLt
    have bk := k.isLt
    have e : k = ⟨8 * (3 - i.val) + (7 - h.val), by omega⟩ := Fin.ext (by show k.val = 8 * (3 - i.val) + (7 - h.val); omega)
    rw [← e]
    refine congrArg (P k) (funext fun b => Fin.ext ?_)
    match b with
    | 0 => show (x 0).val = 0; omega
    | 1 => show (x 1).val = 0; omega
    | 2 => show (x 2).val = a.val; omega
    | 3 => show (x 3).val = d.val; omega
theorem keptOf_at (h : Fin 8) (i : Fin 4) (a d : Fin 128) : keptOf lb z S (ix4 h i a d) = stOf (tState lb z S h i.castSucc) a d := by
  refine (kept_canon (fun k : Fin 32 => gKeep (tState lb z S ⟨7 - k.val % 8, by omega⟩ ⟨3 - k.val / 8, by omega⟩)) h i a d).trans ?_
  rw [gKeep_at]
  have e0 : (⟨7 - (8 * (3 - i.val) + (7 - h.val)) % 8, by omega⟩ : Fin 8) = h := Fin.ext (by show 7 - (8 * (3 - i.val) + (7 - h.val)) % 8 = h.val; omega)
  have e1 : (⟨3 - (8 * (3 - i.val) + (7 - h.val)) / 8, by omega⟩ : Fin 5) = i.castSucc := Fin.ext (by show 3 - (8 * (3 - i.val) + (7 - h.val)) / 8 = i.val; omega)
  rw [e0, e1]

variable (Z : Fin 8192 → Fin 4096 → EReal) (n : ℕ) (hn : n < 32) (hl : Lower (rowOf lb))
  (hz : ∀ (r : Fin 256) (f : Fin 4096), z (ix2 r f) = Z ⟨n * 256 + r.val, by omega⟩ f)
  (hS : ∀ h a d, stOf (S h) a d = state (rowOf lb) Z (4 * n) h a d)
include hn hl hz hS

theorem cut_at (i j : Fin 4) : blkOf (partOf z i j) = cut Z j (4 * n + i.val) := by
  funext c d
  unfold blkOf cut
  rw [partOf_at, hz, dif_pos (by omega)]
  refine congrArg₂ Z (Fin.ext ?_) (Fin.ext ?_)
  · show n * 256 + (64 * i.val + c.val) = (4 * n + i.val) * 64 + c.val
    omega
  · show 1024 * j.val + d.val = j.val * 1024 + d.val
    omega

theorem step_at (i : Fin 4) (h : Fin 8) (s : Head) (e : ∀ a d, stOf s a d = state (rowOf lb) Z (4 * n + i.val) h a d) (a d : Fin 128) :
    stOf (step lb z i h s) a d = state (rowOf lb) Z (4 * n + i.val + 1) h a d := by
  unfold step
  rw [gNext_at lb _ _ hl h s (state (rowOf lb) Z (4 * n + i.val)) e a d, cut_at lb z S Z n hn hl hz hS, cut_at lb z S Z n hn hl hz hS]
  rfl

theorem tState_at (h : Fin 8) (i : Fin 5) (a d : Fin 128) : stOf (tState lb z S h i) a d = state (rowOf lb) Z (4 * n + i.val) h a d := by
  have s1 := step_at lb z S Z n hn hl hz hS 0 h (S h) (hS h)
  have s2 := step_at lb z S Z n hn hl hz hS 1 h _ s1
  have s3 := step_at lb z S Z n hn hl hz hS 2 h _ s2
  have s4 := step_at lb z S Z n hn hl hz hS 3 h _ s3
  match i with
  | 0 => exact hS h a d
  | 1 => exact s1 a d
  | 2 => exact s2 a d
  | 3 => exact s3 a d
  | 4 => exact s4 a d

theorem tRaw_at (i : Fin 4) (c : Fin 64) (h : Fin 8) (a : Fin 128) :
    tRaw lb z S i (ix2 c (col h a)) = rawAt (rowOf lb) Z (rowAt ⟨4 * n + i.val, by omega⟩ c) (col h a) := by
  rw [rawAt_mk]
  unfold tRaw
  rw [together_at]
  have e : ∀ h : Fin 8, gOut lb (partOf z i 0) (partOf z i 1) (partOf z i 2) h (tState lb z S h i.castSucc) (ix2 c a)
      = out (rowOf lb) (cut Z 0 (4 * n + i.val)) (cut Z 1 (4 * n + i.val)) (cut Z 2 (4 * n + i.val)) (state (rowOf lb) Z (4 * n + i.val)) h c a := by
    intro h
    rw [gOut_at lb _ _ _ hl h _ (state (rowOf lb) Z (4 * n + i.val)) (fun a d => tState_at lb z S Z n hn hl hz hS h i.castSucc a d), cut_at lb z S Z n hn hl hz hS,
      cut_at lb z S Z n hn hl hz hS, cut_at lb z S Z n hn hl hz hS]
  match h with
  | 0 => exact e 0
  | 1 => exact e 1
  | 2 => exact e 2
  | 3 => exact e 3
  | 4 => exact e 4
  | 5 => exact e 5
  | 6 => exact e 6
  | 7 => exact e 7

theorem tGated_at (i : Fin 4) (c : Fin 64) (h : Fin 8) (a : Fin 128) :
    tGated lb z gain S i (ix2 c (col h a)) = gatedAt (rowOf lb) (rowOf gain) Z (rowAt ⟨4 * n + i.val, by omega⟩ c) (col h a) := by
  rw [gatedAt_mk]
  unfold tGated
  rw [gGated_at, cut_at lb z S Z n hn hl hz hS]
  simp only [tRaw_at lb z S Z n hn hl hz hS]

end Tile

end Cert.HgrnRows
end
-- ==== Proof.HgrnFwdArrays.lean ====
module

public import proofs.«01_k».proof.Proof.HgrnRows
public import proofs.«01_k».proof.Proof.MergeSpec

@[expose] public section

set_option maxRecDepth 16384

noncomputable section

namespace Cert.HgrnFwdIdeal.Arrays

open Cert.HgrnFwdIdeal Cert.HgrnFwdIdeal.Gen Cert.HgrnBlock Cert.HgrnTile Cert.HgrnPoint Cert.HgrnRows Cert.HgrnSpec Cert.MemSpec Cert.MlpSpec Cert.MergeSpec Idealize.ShloMosaic Idealize.ShloMosaic.TcCoe Idealize.SL.Sem

variable (m : (ℓ : Loc nD τ sig) → Buf (Elt Ideal) ℓ) (c : Dev nD)

theorem N_eq : cfg0.N = 32 := N_0

/-- The launch's arrays. -/
abbrev X : FVec Ideal S8192x1024 .bf16 := m ((c : Thread nD τ).loc main_arg0)
abbrev W : FVec Ideal S9472x1024 .bf16 := m ((c : Thread nD τ).loc main_arg1)
abbrev Lg : FVec Ideal S2x1024 .f32 := m ((c : Thread nD τ).loc main_arg2)
abbrev Gn : FVec Ideal S1x1024 .f32 := m ((c : Thread nD τ).loc main_arg3)

/-- The first 4096 rows of the weights, which the call reads. -/
def usedRows (w : FVec Ideal S9472x1024 .bf16) : Fin 4096 → R := fun f => row w ⟨f.val, by omega⟩
/-- The four projections of every row, side by side. -/
def zAt (x : FVec Ideal S8192x1024 .bf16) (w : FVec Ideal S9472x1024 .bf16) : Fin 8192 → Fin 4096 → EReal := fun r f => across (row x r) (usedRows w) f
/-- The least gate of every column. -/
def lbAt (l : FVec Ideal S2x1024 .f32) : R := lower (row l 0) (row l 1)
theorem lbAt_lower (l : FVec Ideal S2x1024 .f32) : Lower (lbAt l) := fun j => lower_bound _ _ j

/-- The states at the start of chunk `n`. -/
def stateAt (lb : R) (Z : Fin 8192 → Fin 4096 → EReal) (h : Fin 8) (n : Fin 128) (a d : Fin 128) : EReal := state lb Z n.val h a d

/-- Row `r` of tile `t` as a row of the array. -/
def lane (t : Fin cfg0.N) (r : Fin 256) : Fin 8192 := ⟨t.val * 256 + r.val, by have h := lt_of_lt_of_eq t.isLt N_eq; omega⟩

/-- Where the windows' blocks lie. -/
theorem placesIn : ∀ t : Fin cfg0.N, (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) := by decide +kernel
theorem placesOut : ∀ t : Fin cfg0.N, (win0_4.index t 0 = t.val ∧ win0_4.index t 1 = 0) ∧ (win0_5.index t 0 = t.val ∧ win0_5.index t 1 = 0) ∧
    (win0_6.index t 0 = t.val ∧ win0_6.index t 1 = 0) ∧ (win0_7.index t 0 = 0 ∧ win0_7.index t 1 = t.val ∧ win0_7.index t 2 = 0 ∧ win0_7.index t 3 = 0) := by decide +kernel

theorem row0 (t : Fin cfg0.N) (r : Fin 256) : row (iblk m c 0 t) r = row (X m c) (lane t r) := by
  have e := placesIn t
  funext d; unfold row lane X; blk_ext [iblk, V, e.1.1, e.1.2]
theorem row1 (t : Fin cfg0.N) : row (iblk m c 1 t) = usedRows (W m c) := by
  have e := placesIn t
  funext f d; unfold usedRows row W
  refine congrArg (m ((c : Thread nD τ).loc main_arg1)) (funext fun a => Fin.ext ?_)
  match a with
  | 0 => exact (congrArg₂ (· + ·) e.2.1.1 (Nat.one_mul _)).trans (Nat.zero_add _)
  | 1 => exact (congrArg₂ (· + ·) e.2.1.2 (Nat.one_mul _)).trans (Nat.zero_add _)
theorem row2 (t : Fin cfg0.N) : row (iblk m c 2 t) = row (Lg m c) := by
  have e := placesIn t
  funext f d; unfold row Lg; blk_ext [iblk, V, e.2.2.1.1, e.2.2.1.2]
theorem row3 (t : Fin cfg0.N) : row (iblk m c 3 t) = row (Gn m c) := by
  have e := placesIn t
  funext f d; unfold row Gn; blk_ext [iblk, V, e.2.2.2.1, e.2.2.2.2]

theorem pay3_apply (x : FVec Ideal S256x1024 .bf16) (w : FVec Ideal S4096x1024 .bf16) (r : Fin 256) (f : Fin 4096) : (k0_pay3 (F := Ideal) x w : FVec Ideal S256x4096 .f32) (ix2 r f) = across (row x r) (row w) f := by
  unfold k0_pay3 across row
  pointwise []
theorem proj_at (t : Fin cfg0.N) (r : Fin 256) (f : Fin 4096) : proj m c t (ix2 r f) = zAt (X m c) (W m c) (lane t r) f := by
  unfold proj zAt
  refine (pay3_apply _ _ r f).trans ?_
  rw [row0, row1]

theorem pay4_apply (a b : FVec Ideal S1x1024 .f32) (j : Fin 1024) : (k0_pay4 (F := Ideal) a b : FVec Ideal S1x1024 .f32) (ix2 0 j) = lower (row a 0) (row b 0) j := by
  unfold k0_pay4 lower row
  pointwise []
theorem bound_at (t : Fin cfg0.N) : rowOf (bound m c t) = lbAt (Lg m c) := by
  funext j
  unfold rowOf bound lbAt
  refine (pay4_apply _ _ j).trans ?_
  rw [← row2 m c t]
  unfold lower row
  have e0 : ∀ j : Fin 1024, View.ld (iblk m c 2 t) (Rect.unit (s := S2x1024) ![0, 0] ![1, 1024] inb_S2x1024_S1x1024_0_0) (ix2 0 j) = iblk m c 2 t (ix2 0 j) :=
    fun j => View.ld_unit_apply_of _ _ _ _ _ _ fun a => match a with | 0 => rfl | 1 => (Nat.zero_add _).symm
  have e1 : ∀ j : Fin 1024, View.ld (iblk m c 2 t) (Rect.unit (s := S2x1024) ![1, 0] ![1, 1024] inb_S2x1024_S1x1024_1_0) (ix2 0 j) = iblk m c 2 t (ix2 1 j) :=
    fun j => View.ld_unit_apply_of _ _ _ _ _ _ fun a => match a with | 0 => rfl | 1 => (Nat.zero_add _).symm
  rw [e0, e1]
theorem gain_at (t : Fin cfg0.N) : rowOf (iblk m c 3 t) = row (Gn m c) 0 := by
  rw [← row3 m c t]; rfl

/-- The states a tile starts from. -/
def start (t : Fin cfg0.N) : Fin 8 → Head := if h : t.val % 32 = 0 then first else before m c t h

theorem raw_all (t : Fin cfg0.N) : (outsAt0 m c t.val t.isLt).2.2.1 = rawOf (bound m c t) (proj m c t) (start m c t) := by
  unfold start
  split
  · next h => exact raw_A m c t h
  · next h => exact raw_B m c t h
theorem z_all (t : Fin cfg0.N) : (outsAt0 m c t.val t.isLt).1 = proj m c t := by
  by_cases h : t.val % 32 = 0
  · exact z_A m c t h
  · exact z_B m c t h
theorem gated_all (t : Fin cfg0.N) : (outsAt0 m c t.val t.isLt).2.1 = gatedOf (bound m c t) (proj m c t) (iblk m c 3 t) (start m c t) := by
  unfold start
  split
  · next h => exact gated_A m c t h
  · next h => exact gated_B m c t h
theorem kept_all (t : Fin cfg0.N) : (outsAt0 m c t.val t.isLt).2.2.2.1 = keptOf (bound m c t) (proj m c t) (start m c t) := by
  unfold start
  split
  · next h => exact kept_A m c t h
  · next h => exact kept_B m c t h
theorem left_all (t : Fin cfg0.N) : Leaves (bound m c t) (proj m c t) (start m c t) (outsAt0 m c t.val t.isLt).2.2.2.2 := by
  unfold start
  split
  · next h => exact left_A m c t h
  · next h => exact left_B m c t h

theorem first_at (h : Fin 8) (a d : Fin 128) : stOf (first h) a d = 0 := by
  unfold stOf HgrnTile.first headOfAll k0_pay2
  exact GradXSpec.zero_f32

abbrev Z := zAt (X m c) (W m c)
abbrev lb := lbAt (Lg m c)

theorem bound_lower (t : Fin cfg0.N) : Lower (rowOf (bound m c t)) := by
  rw [bound_at]; exact lbAt_lower _

/-- The states of every head at the start of tile `n`. -/
theorem start_at (n : ℕ) : ∀ (hn : n < cfg0.N) (h : Fin 8) (a d : Fin 128), stOf (start m c ⟨n, hn⟩ h) a d = state (lb m c) (Z m c) (4 * n) h a d := by
  induction n with
  | zero =>
    intro hn h a d
    unfold start
    rw [dif_pos (show (0 : ℕ) % 32 = 0 from rfl)]
    exact first_at h a d
  | succ n ih =>
    intro hn h a d
    have h32 : n + 1 < 32 := lt_of_lt_of_eq hn N_eq
    have hn' : n < cfg0.N := by omega
    have g := tState_at (bound m c ⟨n, hn'⟩) (proj m c ⟨n, hn'⟩) (start m c ⟨n, hn'⟩) (Z m c) n (by omega) (bound_lower m c _) (proj_at m c ⟨n, hn'⟩)
      (fun h a d => (ih hn' h a d).trans (by rw [bound_at])) h 4 a d
    rw [bound_at] at g
    unfold start
    rw [dif_neg (show ¬ (n + 1) % 32 = 0 by omega)]
    exact (congrArg (fun s => stOf s a d) (left_head _ _ _ _ (left_all m c ⟨n, hn'⟩) h)).trans g

theorem start_bound (t : Fin cfg0.N) (h : Fin 8) (a d : Fin 128) : stOf (start m c t h) a d = state (rowOf (bound m c t)) (Z m c) (4 * t.val) h a d := by
  rw [bound_at]; exact start_at m c t.val t.isLt h a d

/-- The rows and the columns of a tile. -/
theorem lane_rows (t : Fin cfg0.N) (r : Fin 256) : ∃ (i : Fin 4) (x : Fin 64), r = ⟨64 * i.val + x.val, by omega⟩ ∧
    lane t r = rowAt ⟨4 * t.val + i.val, by have h := lt_of_lt_of_eq t.isLt N_eq; omega⟩ x :=
  ⟨⟨r.val / 64, by omega⟩, ⟨r.val % 64, by omega⟩, Fin.ext (by show r.val = 64 * (r.val / 64) + r.val % 64; omega),
    Fin.ext (by show t.val * 256 + r.val = (4 * t.val + r.val / 64) * 64 + r.val % 64; omega)⟩

/-- The first result: the four projections. -/
theorem z_final : (dats m 0 c).arrAt 4 cfg0.N = fun i : S8192x4096.Idx => Z m c (i 0) (i 1) := by
  refine (dats m 0 c).arrAt_eq_of_covers 4 _ (by decide +kernel) fun t hf y => ?_
  blk_simp
  rw [after0_4, z_all]
  have e := placesOut t
  idx_vars y
  refine (proj_at m c t y0 y1).trans ?_
  have a : ((View.whole main_v0_0).slice (win0_4.rect t)).emb (ix2 y0 y1) = ix2 (lane t y0) y1 := by
    unfold lane; blk_ext [e.1.1, e.1.2]
  rw [a]
  rfl

/-- The second result: the recurrence's output, normed and gated. -/
theorem gated_final : (dats m 0 c).arrAt 5 cfg0.N = fun i : S8192x1024.Idx => gatedAt (lb m c) (row (Gn m c) 0) (Z m c) (i 0) (i 1) := by
  refine (dats m 0 c).arrAt_eq_of_covers 5 _ (by decide +kernel) fun t hf y => ?_
  blk_simp
  rw [after0_5, gated_all]
  have e := placesOut t
  idx_vars y
  have a : ((View.whole main_v0_1).slice (win0_5.rect t)).emb (ix2 y0 y1) = ix2 (lane t y0) y1 := by
    unfold lane; blk_ext [e.2.1.1, e.2.1.2]
  rw [a]
  show gatedOf (bound m c t) (proj m c t) (iblk m c 3 t) (start m c t) (ix2 y0 y1) = gatedAt (lb m c) (row (Gn m c) 0) (Z m c) (lane t y0) y1
  obtain ⟨i, x, rfl, er⟩ := lane_rows t y0
  obtain ⟨h, d, rfl⟩ := cols_exist y1
  rw [gatedOf_at, er]
  refine (tGated_at (bound m c t) (proj m c t) (iblk m c 3 t) (start m c t) (Z m c) t.val (lt_of_lt_of_eq t.isLt N_eq) (bound_lower m c t) (proj_at m c t) (start_bound m c t) i x h d).trans ?_
  rw [bound_at, gain_at]

/-- The third result: the recurrence's output. -/
theorem raw_final : (dats m 0 c).arrAt 6 cfg0.N = fun i : S8192x1024.Idx => rawAt (lb m c) (Z m c) (i 0) (i 1) := by
  refine (dats m 0 c).arrAt_eq_of_covers 6 _ (by decide +kernel) fun t hf y => ?_
  blk_simp
  rw [after0_6, raw_all]
  have e := placesOut t
  idx_vars y
  have a : ((View.whole main_v0_2).slice (win0_6.rect t)).emb (ix2 y0 y1) = ix2 (lane t y0) y1 := by
    unfold lane; blk_ext [e.2.2.1.1, e.2.2.1.2]
  rw [a]
  show rawOf (bound m c t) (proj m c t) (start m c t) (ix2 y0 y1) = rawAt (lb m c) (Z m c) (lane t y0) y1
  obtain ⟨i, x, rfl, er⟩ := lane_rows t y0
  obtain ⟨h, d, rfl⟩ := cols_exist y1
  rw [rawOf_at, er]
  refine (tRaw_at (bound m c t) (proj m c t) (start m c t) (Z m c) t.val (lt_of_lt_of_eq t.isLt N_eq) (bound_lower m c t) (proj_at m c t) (start_bound m c t) i x h d).trans ?_
  rw [bound_at]

/-- The fourth result: the states at the start of every chunk. -/
theorem kept_final : (dats m 0 c).arrAt 7 cfg0.N = fun i : S8x128x128x128.Idx => stateAt (lb m c) (Z m c) (i 0) (i 1) (i 2) (i 3) := by
  refine (dats m 0 c).arrAt_eq_of_covers 7 _ (by decide +kernel) fun t hf y => ?_
  blk_simp
  rw [after0_7, kept_all]
  have e := placesOut t
  idx_vars y
  have ht := lt_of_lt_of_eq t.isLt N_eq
  have a : ((View.whole main_v0_3).slice (win0_7.rect t)).emb (ix4 y0 y1 y2 y3) = ix4 y0 ⟨4 * t.val + y1.val, by omega⟩ y2 y3 := by
    blk_ext [e.2.2.2.1, e.2.2.2.2.1, e.2.2.2.2.2.1, e.2.2.2.2.2.2]
  rw [a]
  show keptOf (bound m c t) (proj m c t) (start m c t) (ix4 y0 y1 y2 y3) = stateAt (lb m c) (Z m c) y0 ⟨4 * t.val + y1.val, by omega⟩ y2 y3
  rw [keptOf_at]
  refine (tState_at (bound m c t) (proj m c t) (start m c t) (Z m c) t.val ht (bound_lower m c t) (proj_at m c t) (start_bound m c t) y0 y1.castSucc y2 y3).trans ?_
  rw [bound_at]
  rfl

end Cert.HgrnFwdIdeal.Arrays
end
-- ==== Proof.HgrnFwdRef.lean ====
module

public import proofs.«01_k».proof.Proof.Gen.HgrnFwdReferenceIdeal.Run
public import proofs.«01_k».proof.Proof.Gen.HgrnFwdReferenceIdeal.Read
public import proofs.«01_k».proof.Proof.HgrnFwdArrays

@[expose] public section

set_option maxRecDepth 16384

noncomputable section

namespace Cert.HgrnFwdReferenceIdeal.Point

open Cert.HgrnFwdReferenceIdeal Cert.HgrnFwdReferenceIdeal.Gen Cert.HgrnFwdReferenceIdeal.Read Idealize.ShloMosaic Idealize.ShloMosaic.TcCoe Idealize.SL.Sem Cert.MemSpec Cert.MlpSpec Cert.MergeSpec Cert.HgrnSpec
open Cert.HgrnFwdIdeal.Arrays (usedRows zAt lbAt lbAt_lower stateAt)

variable (X : FVec Ideal S8192x1024 .bf16) (W : FVec Ideal S9472x1024 .bf16) (L : FVec Ideal S2x1024 .f32) (G : FVec Ideal S1x1024 .f32)

theorem v4_at (s : Fin 8192) (f : Fin 4096) : val_main_v4 (F := Ideal) X W (ix2 s f) = zAt X W s f := by
  unfold zAt across usedRows row
  pointwise [val_main_v4, val_main_v3, val_main_v2, val_main_v1, val_main_v0]

theorem v43_at (n : Fin 128) (c : Fin 64) (h : Fin 8) (d : Fin 128) : val_main_v43 (F := Ideal) X W (ix4 n c h d) = cut (zAt X W) 0 n.val c (col h d) := by
  rw [cut_mk, ← v4_at]
  unfold val_main_v43 val_main_v22 val_main_v5
  generalize val_main_v4 (F := Ideal) X W = a
  unfold rowAt col
  pointwise []

theorem v45_at (n : Fin 128) (c : Fin 64) (h : Fin 8) (d : Fin 128) : val_main_v45 (F := Ideal) X W (ix4 n c h d) = cut (zAt X W) 2 n.val c (col h d) := by
  rw [cut_mk, ← v4_at]
  unfold val_main_v45 val_main_v24 val_main_v7
  generalize val_main_v4 (F := Ideal) X W = a
  unfold rowAt col
  pointwise []

theorem v23_at (n : Fin 128) (c : Fin 64) (h : Fin 8) (d : Fin 128) : val_main_v23 (F := Ideal) X W (ix3 (rowAt n c) h d) = cut (zAt X W) 1 n.val c (col h d) := by
  rw [cut_mk, ← v4_at]
  unfold val_main_v23 val_main_v6
  generalize val_main_v4 (F := Ideal) X W = a
  unfold rowAt col
  pointwise []

theorem v8_at (n : Fin 128) (c : Fin 64) (j : Fin 1024) : val_main_v8 (F := Ideal) X W (ix2 (rowAt n c) j) = cut (zAt X W) 3 n.val c j := by
  rw [cut_mk, ← v4_at]
  unfold val_main_v8
  generalize val_main_v4 (F := Ideal) X W = a
  pointwise []

theorem v9_at (j : Fin 1024) : val_main_v9 (F := Ideal) L (ix1 j) = max (L (ix2 0 j)) (L (ix2 1 j)) := by
  unfold val_main_v9
  pointwise [val_main_cst, low_f32]
  rw [show (Finset.univ : Finset (Fin 2)) = {0, 1} from rfl, Finset.fold_insert (by decide), Finset.fold_singleton]
  exact congrArg (max _) (max_eq_left (by unfold low; exact bot_le))
theorem v11_at (j : Fin 1024) : val_main_v11 (F := Ideal) L (ix1 j) = max (L (ix2 0 j)) (L (ix2 1 j)) := by
  rw [val_main_v11_apply, val_main_v10_apply, val_main_cst_0_apply, v9_at]
  show max (Ideal.ofBits .f32 0xFF800000#32) _ = _
  rw [low_f32]
  exact max_eq_right (by unfold low; exact bot_le)
theorem v15_at (k : Fin 2) (j : Fin 1024) : val_main_v15 (F := Ideal) L (ix2 k j) = Ideal.exp (L (ix2 k j) - max (L (ix2 0 j)) (L (ix2 1 j))) := by
  rw [← v11_at]
  unfold val_main_v15 val_main_v14 val_main_v13 val_main_v12
  generalize val_main_v11 (F := Ideal) L = a
  pointwise []
theorem v16_at (j : Fin 1024) : val_main_v16 (F := Ideal) L (ix1 j) = val_main_v15 (F := Ideal) L (ix2 0 j) + val_main_v15 (F := Ideal) L (ix2 1 j) := by
  unfold val_main_v16
  generalize val_main_v15 (F := Ideal) L = a
  pointwise [val_main_cst_1, GradXSpec.zero_f32]
  exact Fin.sum_univ_two _
/-- The least gate by head. -/
theorem v25_at (h : Fin 8) (d : Fin 128) : val_main_v25 (F := Ideal) L (ix2 h d) = lbAt L (col h d) := by
  have e : lbAt L (col h d) = Ideal.div (val_main_v15 (F := Ideal) L (ix2 0 (col h d))) (val_main_v16 (F := Ideal) L (ix1 (col h d))) := by
    rw [v16_at, v15_at, v15_at]; rfl
  rw [e]
  unfold val_main_v25 val_main_v21 val_main_v20 val_main_v19 val_main_v18 val_main_v17 col
  generalize val_main_v15 (F := Ideal) L = a
  generalize val_main_v16 (F := Ideal) L = b
  pointwise []

/-- The gate. -/
theorem v39_at (n : Fin 128) (c : Fin 64) (h : Fin 8) (d : Fin 128) :
    val_main_v39 (F := Ideal) X W L (ix3 (rowAt n c) h d) = gate (lbAt L) (cut (zAt X W) 1 n.val) c (col h d) := by
  unfold HgrnSpec.gate Ideal.logistic
  rw [← v23_at, ← v25_at]
  unfold val_main_v39 val_main_v38 val_main_v37 val_main_v36 val_main_v35 val_main_v34 val_main_v33 val_main_v31 val_main_v29 val_main_v28 val_main_v27
  generalize val_main_v23 (F := Ideal) X W = a
  generalize val_main_v25 (F := Ideal) L = b
  pointwise [val_main_v32, val_main_v30, val_main_v26, val_main_cst_2, val_main_cst_3, val_main_cst_4, one_f32]
theorem v44_at (n : Fin 128) (c : Fin 64) (h : Fin 8) (d : Fin 128) :
    val_main_v44 (F := Ideal) X W L (ix4 n c h d) = 1 - gate (lbAt L) (cut (zAt X W) 1 n.val) c (col h d) := by
  rw [← v39_at]
  unfold val_main_v44 val_main_v42 rowAt
  generalize val_main_v39 (F := Ideal) X W L = a
  pointwise [val_main_v41, val_main_cst_5, one_f32]
theorem v46_at (n : Fin 128) (c : Fin 64) (h : Fin 8) (d : Fin 128) :
    val_main_v46 (F := Ideal) X W L (ix4 n c h d) = logs (lbAt L) (cut (zAt X W) 1 n.val) c (col h d) := by
  unfold logs
  rw [← v39_at]
  unfold val_main_v46 val_main_v40 rowAt
  generalize val_main_v39 (F := Ideal) X W L = a
  pointwise []

/-! ## The masks -/

theorem v48_at (c s : Fin 64) : val_main_v48 (F := Ideal) (ix2 c s) = if s.val ≤ c.val then 1#1 else 0#1 := by
  revert c s; decide +kernel
theorem v49_at (c s : Fin 64) : val_main_v49 (F := Ideal) (ix2 c s) = past c s := by
  unfold val_main_v49 past
  pointwise []
  rw [v48_at]
  split
  · show (((BitVec.toNat (1#1) : ℕ) : ℝ) : EReal) = 1
    norm_num
  · show (((BitVec.toNat (0#1) : ℕ) : ℝ) : EReal) = 0
    norm_num
theorem v71_at (n j : Fin 128) : val_main_v71 (F := Ideal) (ix2 n j) = if j.val < n.val then 1#1 else 0#1 := by
  revert n j; decide +kernel
theorem v78_at (n j i : Fin 128) : val_main_v78 (F := Ideal) (ix3 n j i) = if j.val < i.val ∧ i.val < n.val then 1 else 0 := by
  unfold val_main_v78 val_main_v77 val_main_v76 val_main_v75 val_main_v74 val_main_v73 val_main_v72
  pointwise [v71_at]
  by_cases u : i.val < n.val
  · by_cases w : j.val < i.val
    · rw [if_pos u, if_pos w, if_pos ⟨w, u⟩]
      show (((BitVec.toNat (IntOp.andi (1#1) (1#1)) : ℕ) : ℝ) : EReal) = 1
      rw [show BitVec.toNat (IntOp.andi (1#1) (1#1)) = 1 from rfl]
      norm_num
    · rw [if_pos u, if_neg w, if_neg fun x => w x.1]
      show (((BitVec.toNat (IntOp.andi (1#1) (0#1)) : ℕ) : ℝ) : EReal) = 0
      rw [show BitVec.toNat (IntOp.andi (1#1) (0#1)) = 0 from rfl]
      norm_num
  · have e : ∀ b : BitVec 1, IntOp.andi (0#1) b = 0#1 := fun b => BitVec.zero_and
    rw [if_neg u, e, if_neg fun x => u x.2]
    show (((BitVec.toNat (0#1) : ℕ) : ℝ) : EReal) = 0
    norm_num
theorem v84_at (n j : Fin 128) (h : Fin 8) (d : Fin 128) : val_main_v84 (F := Ideal) X W L (ix4 n j h d)
    = if j.val < n.val then Ideal.exp (val_main_v80 (F := Ideal) X W L (ix4 n j h d)) else 0 := by
  unfold val_main_v84 val_main_v81
  generalize val_main_v80 (F := Ideal) X W L = a
  pointwise [val_main_call2_v1, val_main_call2_v2, val_main_call2_v0, val_main_cst_7, val_main_v83, v71_at, GradXSpec.zero_f32]
  split
  · rfl
  · exact GradXSpec.zero_f32

/-! ## Within a chunk -/

theorem v51_at (n : Fin 128) (c : Fin 64) (h : Fin 8) (d : Fin 128) :
    val_main_v51 (F := Ideal) X W L (ix4 n c h d) = dec (lbAt L) (cut (zAt X W) 1 n.val) c (col h d) := by
  unfold dec
  simp only [← v46_at]
  unfold val_main_v51 val_main_v50
  generalize val_main_v46 (F := Ideal) X W L = a
  pointwise [v49_at]
  exact Finset.sum_congr rfl fun t _ => mul_comm _ _
theorem v54_at (n : Fin 128) (c : Fin 64) (h : Fin 8) (d : Fin 128) :
    val_main_v54 (F := Ideal) X W L (ix4 n c h d) = qIn (lbAt L) (cut (zAt X W) 0 n.val) (cut (zAt X W) 1 n.val) c (col h d) := by
  unfold qIn
  rw [← v51_at, ← v43_at]
  unfold val_main_v54 val_main_v53
  generalize val_main_v51 (F := Ideal) X W L = a
  generalize val_main_v43 (F := Ideal) X W = b
  pointwise []
theorem v57_at (n : Fin 128) (c : Fin 64) (h : Fin 8) (d : Fin 128) :
    val_main_v57 (F := Ideal) X W L (ix4 n c h d) = kIn (lbAt L) (cut (zAt X W) 1 n.val) c (col h d) := by
  unfold kIn
  rw [← v51_at, ← v44_at]
  unfold val_main_v57 val_main_v56 val_main_v55
  generalize val_main_v51 (F := Ideal) X W L = a
  generalize val_main_v44 (F := Ideal) X W L = b
  pointwise []
theorem v61_at (n : Fin 128) (c : Fin 64) (h : Fin 8) (d : Fin 128) :
    val_main_v61 (F := Ideal) X W L (ix4 n c h d) = kOut (lbAt L) (cut (zAt X W) 1 n.val) c (col h d) := by
  unfold kOut last
  rw [← v51_at, ← v51_at, ← v44_at]
  unfold val_main_v61 val_main_v60 val_main_v59 val_main_v58 val_main_v52
  generalize val_main_v51 (F := Ideal) X W L = a
  generalize val_main_v44 (F := Ideal) X W L = b
  pointwise []
theorem v79_at (n : Fin 128) (h : Fin 8) (d : Fin 128) :
    val_main_v79 (F := Ideal) X W L (ix3 n h d) = dec (lbAt L) (cut (zAt X W) 1 n.val) last (col h d) := by
  unfold last
  rw [← v51_at]
  unfold val_main_v79 val_main_v52
  generalize val_main_v51 (F := Ideal) X W L = a
  pointwise []
theorem v63_at (n : Fin 128) (h : Fin 8) (c s : Fin 64) :
    val_main_v63 (F := Ideal) X W L (ix4 n h c s) = att (lbAt L) (cut (zAt X W) 0 n.val) (cut (zAt X W) 1 n.val) h c s := by
  unfold att
  simp only [← v54_at, ← v57_at]
  unfold val_main_v63 val_main_v62
  generalize val_main_v54 (F := Ideal) X W L = a
  generalize val_main_v57 (F := Ideal) X W L = b
  pointwise [val_main_call1_v1, val_main_call1_v2, val_main_call1_v0, val_main_cst_6, v48_at, GradXSpec.zero_f32]
  by_cases u : s.val ≤ c.val
  · simp only [if_pos u]; rfl
  · simp only [if_neg u]; exact GradXSpec.zero_f32
theorem v65_at (n : Fin 128) (c : Fin 64) (h : Fin 8) (a : Fin 128) : val_main_v65 (F := Ideal) X W L (ix4 n c h a)
    = ∑ s, att (lbAt L) (cut (zAt X W) 0 n.val) (cut (zAt X W) 1 n.val) h c s * cut (zAt X W) 2 n.val s (col h a) := by
  simp only [← v63_at, ← v45_at]
  unfold val_main_v65 val_main_v64
  generalize val_main_v63 (F := Ideal) X W L = x
  generalize val_main_v45 (F := Ideal) X W = y
  pointwise []
  exact Finset.sum_congr rfl fun t _ => mul_comm _ _
theorem v82_at (n : Fin 128) (h : Fin 8) (a d : Fin 128) :
    val_main_v82 (F := Ideal) X W L (ix4 n h a d) = upd (lbAt L) (cut (zAt X W) 1 n.val) (cut (zAt X W) 2 n.val) h a d := by
  unfold upd
  simp only [← v45_at, ← v61_at]
  unfold val_main_v82
  generalize val_main_v45 (F := Ideal) X W = x
  generalize val_main_v61 (F := Ideal) X W L = y
  pointwise []

/-! ## Across chunks -/

theorem v80_at (n j : Fin 128) (h : Fin 8) (d : Fin 128) : val_main_v80 (F := Ideal) X W L (ix4 n j h d)
    = ∑ i : Fin 128, (if j.val < i.val ∧ i.val < n.val then (1 : EReal) else 0) * dec (lbAt L) (cut (zAt X W) 1 i.val) last (col h d) := by
  simp only [← v79_at]
  unfold val_main_v80
  generalize val_main_v79 (F := Ideal) X W L = x
  pointwise [v78_at]
theorem v84_kept (n j : Fin 128) (h : Fin 8) (d : Fin 128) : val_main_v84 (F := Ideal) X W L (ix4 n j h d)
    = kept (fun i : Fin 128 => dec (lbAt L) (cut (zAt X W) 1 i.val) last (col h d)) n.val j := by
  rw [v84_at, v80_at]; rfl
/-- The states at the start of every chunk. -/
theorem v86_at (h : Fin 8) (n a d : Fin 128) : val_main_v86 (F := Ideal) X W L (ix4 h n a d) = stateAt (lbAt L) (zAt X W) h n a d := by
  unfold stateAt
  rw [← state_eq_sum (lbAt L) (lbAt_lower L) (zAt X W) h a d n.val (by omega)]
  simp only [← v82_at, ← v84_kept]
  unfold val_main_v86 val_main_v85
  generalize val_main_v82 (F := Ideal) X W L = x
  generalize val_main_v84 (F := Ideal) X W L = y
  pointwise []
theorem v88_at (n : Fin 128) (c : Fin 64) (h : Fin 8) (a : Fin 128) : val_main_v88 (F := Ideal) X W L (ix4 n c h a)
    = ∑ d, qIn (lbAt L) (cut (zAt X W) 0 n.val) (cut (zAt X W) 1 n.val) c (col h d) * stateAt (lbAt L) (zAt X W) h n a d := by
  simp only [← v86_at, ← v54_at]
  unfold val_main_v88 val_main_v87
  generalize val_main_v86 (F := Ideal) X W L = x
  generalize val_main_v54 (F := Ideal) X W L = y
  pointwise []
  exact Finset.sum_congr rfl fun t _ => mul_comm _ _

/-! ## The outputs -/

theorem v90_at (n : Fin 128) (c : Fin 64) (h : Fin 8) (a : Fin 128) :
    val_main_v90 (F := Ideal) X W L (ix3 (rowAt n c) h a) = rawAt (lbAt L) (zAt X W) (rowAt n c) (col h a) := by
  have e : rawAt (lbAt L) (zAt X W) (rowAt n c) (col h a) = val_main_v65 (F := Ideal) X W L (ix4 n c h a) + val_main_v88 (F := Ideal) X W L (ix4 n c h a) := by
    rw [rawAt_mk, v65_at, v88_at]; rfl
  rw [e]
  unfold val_main_v90 val_main_v89 rowAt
  generalize val_main_v65 (F := Ideal) X W L = x
  generalize val_main_v88 (F := Ideal) X W L = y
  pointwise []
/-- The recurrence's output. -/
theorem v109_at (r : Fin 8192) (j : Fin 1024) : val_main_v109 (F := Ideal) X W L (ix2 r j) = rawAt (lbAt L) (zAt X W) r j := by
  obtain ⟨n, c, rfl⟩ := rows_exist r
  obtain ⟨h, a, rfl⟩ := cols_exist j
  rw [← v90_at]
  unfold val_main_v109 col
  generalize val_main_v90 (F := Ideal) X W L = x
  pointwise []
theorem v101_at (n : Fin 128) (c : Fin 64) (h : Fin 8) (a : Fin 128) : val_main_v101 (F := Ideal) X W L (ix2 (rowAt n c) (col h a))
    = rawAt (lbAt L) (zAt X W) (rowAt n c) (col h a) * Ideal.rsqrt (Ideal.div (∑ x, rawAt (lbAt L) (zAt X W) (rowAt n c) (col h x) * rawAt (lbAt L) (zAt X W) (rowAt n c) (col h x)) many + tiny) := by
  simp only [← v90_at]
  unfold val_main_v101 val_main_v100 val_main_v99 val_main_v98 val_main_v97 val_main_v95 val_main_v93 val_main_v92 val_main_v91 col
  generalize val_main_v90 (F := Ideal) X W L = x
  pointwise [val_main_v96, val_main_v94, val_main_cst_8, val_main_cst_9, val_main_cst_10, many_f32, tiny_f32, GradXSpec.zero_f32]
/-- The recurrence's output, normed and gated. -/
theorem v108_at (r : Fin 8192) (j : Fin 1024) : val_main_v108 (F := Ideal) X W L G (ix2 r j) = gatedAt (lbAt L) (row G 0) (zAt X W) r j := by
  obtain ⟨n, c, rfl⟩ := rows_exist r
  obtain ⟨h, a, rfl⟩ := cols_exist j
  rw [gatedAt_mk]
  unfold gated Ideal.logistic row
  rw [← v101_at, ← v8_at]
  unfold val_main_v108 val_main_v107 val_main_v106 val_main_v105 val_main_v104 val_main_v103 val_main_v102 val_main_call3_v5 val_main_call3_v3 val_main_call3_v1 val_main_call3_v0
  generalize val_main_v101 (F := Ideal) X W L = x
  generalize val_main_v8 (F := Ideal) X W = y
  pointwise [val_main_call3_v4, val_main_call3_v2, val_main_call3_cst, val_main_call3_cst_0, one_f32]

end Cert.HgrnFwdReferenceIdeal.Point
end
-- ==== Proof.HgrnFwdClaim.lean ====
module

public import proofs.«01_k».proof.Defs
public import proofs.«01_k».proof.Proof.Gen.HgrnFwd
public import proofs.«01_k».proof.Proof.Gen.HgrnFwdIdeal
public import proofs.«01_k».proof.Proof.Gen.HgrnFwdReferenceIdeal
public import proofs.«01_k».proof.Proof.Gen.HgrnFwd.Frame
public import proofs.«01_k».proof.Proof.Gen.HgrnFwdReferenceIdeal.Run
public import proofs.«01_k».proof.Proof.Gen.HgrnFwdReferenceIdeal.Read
public import proofs.«01_k».proof.Proof.HgrnFwdRef

@[expose] public section

set_option maxRecDepth 16384

noncomputable section

namespace Cert.HgrnFwdClaim

open Idealize.ShloMosaic Idealize.SL.Sem Cert.MemSpec Cert.MlpSpec Cert.MergeSpec Cert.HgrnSpec Cert.HgrnFwdIdeal.Arrays

theorem frame_kernel : Cert.quiescent_HgrnFwd := fun m ρ _ => Cert.HgrnFwd.Gen.frame m ρ

theorem frame_ideal : Cert.quiescent_HgrnFwdIdeal := fun m ρ _ => Cert.HgrnFwdIdeal.Gen.frame m ρ

theorem frame_reference : Cert.quiescent_HgrnFwdReferenceIdeal := fun m ρ _ =>
  (θ_run Cert.HgrnFwdReferenceIdeal.defs _ _).mono (fun r h => ⟨fun c => (h c).2.2.2.2, sem_eq_zero_of_no_sems (by decide) r.2⟩)
    (Cert.HgrnFwdReferenceIdeal.Value.run (F := Ideal) m ρ)

/-- Kernel and reference compute the same projections, the same outputs and the same states. -/
theorem value : Cert.algebraic_HgrnFwdIdeal_HgrnFwdReferenceIdeal := by
  intro m g m' g' _ hargs
  refine ⟨fun c i => zAt (X m c) (W m c) (i 0) (i 1), fun c i => gatedAt (lbAt (Lg m c)) (row (Gn m c) 0) (zAt (X m c) (W m c)) (i 0) (i 1),
    fun c i => rawAt (lbAt (Lg m c)) (zAt (X m c) (W m c)) (i 0) (i 1), fun c i => stateAt (lbAt (Lg m c)) (zAt (X m c) (W m c)) (i 0) (i 1) (i 2) (i 3), ?_, ?_⟩
  · refine (θ_run Cert.HgrnFwdIdeal.defs _ _).mono (fun r h c => ?_) (Cert.HgrnFwdIdeal.Value.run_blocks (F := Ideal) m g)
    obtain ⟨h0, h1, h2, h3, k⟩ := h c
    exact ⟨h0.trans (z_final m c), h1.trans (gated_final m c), h2.trans (raw_final m c), h3.trans (kept_final m c), k⟩
  · refine (θ_run Cert.HgrnFwdReferenceIdeal.defs _ _).mono (fun r h c => ?_) (Cert.HgrnFwdReferenceIdeal.Value.run (F := Ideal) m' g')
    obtain ⟨h0, h1, h2, h3, k⟩ := h c
    obtain ⟨a0, a1, a2, a3⟩ := hargs c
    replace h0 := h0.trans (Cert.HgrnFwdReferenceIdeal.Read.val_main_v4_eq (StableHlo.launchContents m' c))
    replace h1 := h1.trans (Cert.HgrnFwdReferenceIdeal.Read.val_main_v108_eq (StableHlo.launchContents m' c))
    replace h2 := h2.trans (Cert.HgrnFwdReferenceIdeal.Read.val_main_v109_eq (StableHlo.launchContents m' c))
    replace h3 := h3.trans (Cert.HgrnFwdReferenceIdeal.Read.val_main_v86_eq (StableHlo.launchContents m' c))
    replace a0 : StableHlo.launchContents m' c (Proc.devRef .tc Cert.HgrnFwdReferenceIdeal.main_arg0) = X m c := a0
    replace a1 : StableHlo.launchContents m' c (Proc.devRef .tc Cert.HgrnFwdReferenceIdeal.main_arg1) = W m c := a1
    replace a2 : StableHlo.launchContents m' c (Proc.devRef .tc Cert.HgrnFwdReferenceIdeal.main_arg2) = Lg m c := a2
    replace a3 : StableHlo.launchContents m' c (Proc.devRef .tc Cert.HgrnFwdReferenceIdeal.main_arg3) = Gn m c := a3
    rw [a0, a1] at h0
    rw [a0, a1, a2, a3] at h1
    rw [a0, a1, a2] at h2
    rw [a0, a1, a2] at h3
    refine ⟨h0.trans (funext fun i => ?_), h1.trans (funext fun i => ?_), h2.trans (funext fun i => ?_), h3.trans (funext fun i => ?_), k⟩
    · obtain ⟨r, j, rfl⟩ : ∃ (r : Fin 8192) (j : Fin 4096), i = ix2 r j := ⟨i 0, i 1, by idx_vars i⟩
      exact Cert.HgrnFwdReferenceIdeal.Point.v4_at _ _ r j
    · obtain ⟨r, j, rfl⟩ : ∃ (r : Fin 8192) (j : Fin 1024), i = ix2 r j := ⟨i 0, i 1, by idx_vars i⟩
      exact Cert.HgrnFwdReferenceIdeal.Point.v108_at _ _ _ _ r j
    · obtain ⟨r, j, rfl⟩ : ∃ (r : Fin 8192) (j : Fin 1024), i = ix2 r j := ⟨i 0, i 1, by idx_vars i⟩
      exact Cert.HgrnFwdReferenceIdeal.Point.v109_at _ _ _ r j
    · obtain ⟨h, n, a, d, rfl⟩ : ∃ (h : Fin 8) (n a d : Fin 128), i = ix4 h n a d := ⟨i 0, i 1, i 2, i 3, by idx_vars i⟩
      exact Cert.HgrnFwdReferenceIdeal.Point.v86_at _ _ _ h n a d

end Cert.HgrnFwdClaim
end
-- ==== Proof.lean ====
module

public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemReferenceIdeal
public import proofs.«01_k».proof.Proof.Gen.Pre_mem_finite
public import proofs.«01_k».proof.Proof.Gen.On_mem_written
public import proofs.«01_k».proof.Proof.Gen.MemBwdIdeal.Value
public import proofs.«01_k».proof.Proof.Gen.MemReferenceIdeal.Run
public import proofs.«01_k».proof.Proof.Gen.MemReferenceIdeal.Read
public import proofs.«01_k».proof.Proof.Gen.MlpLoss
public import proofs.«01_k».proof.Proof.Gen.MlpLoss.Skeleton
public import proofs.«01_k».proof.Proof.Gen.MlpLoss.Launch
public import proofs.«01_k».proof.Proof.Gen.MlpLoss.Points
public import proofs.«01_k».proof.Proof.Gen.MlpLoss.Frame
public import proofs.«01_k».proof.Proof.Gen.MlpLossIdeal
public import proofs.«01_k».proof.Proof.Gen.MlpLossIdeal.Skeleton
public import proofs.«01_k».proof.Proof.Gen.MlpLossIdeal.Launch
public import proofs.«01_k».proof.Proof.Gen.MlpLossIdeal.Points
public import proofs.«01_k».proof.Proof.Gen.MlpLossIdeal.Frame
public import proofs.«01_k».proof.Proof.Gen.MlpReferenceIdeal
public import proofs.«01_k».proof.Proof.Gen.Pre_mlp_finite
public import proofs.«01_k».proof.Proof.Gen.MlpLossIdeal.Value
public import proofs.«01_k».proof.Proof.Gen.MlpReferenceIdeal.Run
public import proofs.«01_k».proof.Proof.Gen.MlpReferenceIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdReferenceIdeal
public import proofs.«01_k».proof.Proof.Gen.MergeFwdIdeal.Value
public import proofs.«01_k».proof.Proof.Gen.MergeFwdReferenceIdeal.Run
public import proofs.«01_k».proof.Proof.Gen.MergeFwdReferenceIdeal.Read
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradDownIdeal.Value
public import proofs.«01_k».proof.Proof.Gen.GradDownReferenceIdeal
public import proofs.«01_k».proof.Proof.Gen.GradDownReferenceIdeal.Run
public import proofs.«01_k».proof.Proof.Gen.GradDownReferenceIdeal.Read
public import proofs.«01_k».proof.Proof.Gen.GradUp
public import proofs.«01_k».proof.Proof.Gen.GradUp.Skeleton
public import proofs.«01_k».proof.Proof.Gen.GradUp.Launch
public import proofs.«01_k».proof.Proof.Gen.GradUp.Points
public import proofs.«01_k».proof.Proof.Gen.GradUp.Frame
public import proofs.«01_k».proof.Proof.Gen.GradUpIdeal
public import proofs.«01_k».proof.Proof.Gen.GradUpIdeal.Skeleton
public import proofs.«01_k».proof.Proof.Gen.GradUpIdeal.Launch
public import proofs.«01_k».proof.Proof.Gen.GradUpIdeal.Points
public import proofs.«01_k».proof.Proof.Gen.GradUpIdeal.Frame
public import proofs.«01_k».proof.Proof.Gen.GradUpIdeal.Value
public import proofs.«01_k».proof.Proof.Gen.GradUpReferenceIdeal
public import proofs.«01_k».proof.Proof.Gen.GradUpReferenceIdeal.Run
public import proofs.«01_k».proof.Proof.Gen.GradUpReferenceIdeal.Read
public import proofs.«01_k».proof.Proof.Gen.GradInA
public import proofs.«01_k».proof.Proof.Gen.GradInA.Skeleton
public import proofs.«01_k».proof.Proof.Gen.GradInA.Launch
public import proofs.«01_k».proof.Proof.Gen.GradInA.Points
public import proofs.«01_k».proof.Proof.Gen.GradInA.Frame
public import proofs.«01_k».proof.Proof.Gen.GradInAIdeal
public import proofs.«01_k».proof.Proof.Gen.GradInAIdeal.Skeleton
public import proofs.«01_k».proof.Proof.Gen.GradInAIdeal.Launch
public import proofs.«01_k».proof.Proof.Gen.GradInAIdeal.Points
public import proofs.«01_k».proof.Proof.Gen.GradInAIdeal.Frame
public import proofs.«01_k».proof.Proof.Gen.GradInAIdeal.Value
public import proofs.«01_k».proof.Proof.Gen.GradInAReferenceIdeal
public import proofs.«01_k».proof.Proof.Gen.GradInAReferenceIdeal.Run
public import proofs.«01_k».proof.Proof.Gen.GradInAReferenceIdeal.Read
public import proofs.«01_k».proof.Proof.Gen.GradInB
public import proofs.«01_k».proof.Proof.Gen.GradInB.Skeleton
public import proofs.«01_k».proof.Proof.Gen.GradInB.Launch
public import proofs.«01_k».proof.Proof.Gen.GradInB.Points
public import proofs.«01_k».proof.Proof.Gen.GradInB.Frame
public import proofs.«01_k».proof.Proof.Gen.GradInBIdeal
public import proofs.«01_k».proof.Proof.Gen.GradInBIdeal.Skeleton
public import proofs.«01_k».proof.Proof.Gen.GradInBIdeal.Launch
public import proofs.«01_k».proof.Proof.Gen.GradInBIdeal.Points
public import proofs.«01_k».proof.Proof.Gen.GradInBIdeal.Frame
public import proofs.«01_k».proof.Proof.Gen.GradInBIdeal.Value
public import proofs.«01_k».proof.Proof.Gen.GradInBReferenceIdeal
public import proofs.«01_k».proof.Proof.Gen.GradInBReferenceIdeal.Run
public import proofs.«01_k».proof.Proof.Gen.GradInBReferenceIdeal.Read
public import proofs.«01_k».proof.Proof.Gen.GradInD
public import proofs.«01_k».proof.Proof.Gen.GradInD.Skeleton
public import proofs.«01_k».proof.Proof.Gen.GradInD.Launch
public import proofs.«01_k».proof.Proof.Gen.GradInD.Points
public import proofs.«01_k».proof.Proof.Gen.GradInD.Frame
public import proofs.«01_k».proof.Proof.Gen.GradInDIdeal
public import proofs.«01_k».proof.Proof.Gen.GradInDIdeal.Skeleton
public import proofs.«01_k».proof.Proof.Gen.GradInDIdeal.Launch
public import proofs.«01_k».proof.Proof.Gen.GradInDIdeal.Points
public import proofs.«01_k».proof.Proof.Gen.GradInDIdeal.Frame
public import proofs.«01_k».proof.Proof.Gen.GradInDIdeal.Value
public import proofs.«01_k».proof.Proof.Gen.GradInDReferenceIdeal
public import proofs.«01_k».proof.Proof.Gen.GradInDReferenceIdeal.Run
public import proofs.«01_k».proof.Proof.Gen.GradInDReferenceIdeal.Read
public import proofs.«01_k».proof.Proof.Gen.GradXHead
public import proofs.«01_k».proof.Proof.Gen.GradXHead.Skeleton
public import proofs.«01_k».proof.Proof.Gen.GradXHead.Launch
public import proofs.«01_k».proof.Proof.Gen.GradXHead.Points
public import proofs.«01_k».proof.Proof.Gen.GradXHead.Frame
public import proofs.«01_k».proof.Proof.Gen.GradXHeadIdeal
public import proofs.«01_k».proof.Proof.Gen.GradXHeadIdeal.Skeleton
public import proofs.«01_k».proof.Proof.Gen.GradXHeadIdeal.Launch
public import proofs.«01_k».proof.Proof.Gen.GradXHeadIdeal.Points
public import proofs.«01_k».proof.Proof.Gen.GradXHeadIdeal.Frame
public import proofs.«01_k».proof.Proof.Gen.GradXHeadIdeal.Value
public import proofs.«01_k».proof.Proof.Gen.GradXHeadReferenceIdeal
public import proofs.«01_k».proof.Proof.Gen.GradXHeadReferenceIdeal.Run
public import proofs.«01_k».proof.Proof.Gen.GradXHeadReferenceIdeal.Read
public import proofs.«01_k».proof.Proof.Gen.GradXTail
public import proofs.«01_k».proof.Proof.Gen.GradXTail.Skeleton
public import proofs.«01_k».proof.Proof.Gen.GradXTail.Launch
public import proofs.«01_k».proof.Proof.Gen.GradXTail.Points
public import proofs.«01_k».proof.Proof.Gen.GradXTail.Frame
public import proofs.«01_k».proof.Proof.Gen.GradXTailIdeal
public import proofs.«01_k».proof.Proof.Gen.GradXTailIdeal.Skeleton
public import proofs.«01_k».proof.Proof.Gen.GradXTailIdeal.Launch
public import proofs.«01_k».proof.Proof.Gen.GradXTailIdeal.Points
public import proofs.«01_k».proof.Proof.Gen.GradXTailIdeal.Frame
public import proofs.«01_k».proof.Proof.Gen.GradXTailIdeal.Value
public import proofs.«01_k».proof.Proof.Gen.GradXTailReferenceIdeal
public import proofs.«01_k».proof.Proof.Gen.GradXTailReferenceIdeal.Run
public import proofs.«01_k».proof.Proof.Gen.GradXTailReferenceIdeal.Read
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.GradKv
public import proofs.«01_k».proof.Proof.Gen.GradKv.Skeleton
public import proofs.«01_k».proof.Proof.Gen.GradKv.Launch
public import proofs.«01_k».proof.Proof.Gen.GradKv.Points
public import proofs.«01_k».proof.Proof.Gen.GradKv.Frame
public import proofs.«01_k».proof.Proof.Gen.GradKvIdeal
public import proofs.«01_k».proof.Proof.Gen.GradKvIdeal.Skeleton
public import proofs.«01_k».proof.Proof.Gen.GradKvIdeal.Launch
public import proofs.«01_k».proof.Proof.Gen.GradKvIdeal.Points
public import proofs.«01_k».proof.Proof.Gen.GradKvIdeal.Frame
public import proofs.«01_k».proof.Proof.Gen.GradKvIdeal.Value
public import proofs.«01_k».proof.Proof.Gen.GradKvReferenceIdeal
public import proofs.«01_k».proof.Proof.Gen.GradKvReferenceIdeal.Run
public import proofs.«01_k».proof.Proof.Gen.GradKvReferenceIdeal.Read
public import proofs.«01_k».proof.Proof.Gen.MemFwd
public import proofs.«01_k».proof.Proof.Gen.MemFwd.Skeleton
public import proofs.«01_k».proof.Proof.Gen.MemFwd.Launch
public import proofs.«01_k».proof.Proof.Gen.MemFwd.Points
public import proofs.«01_k».proof.Proof.Gen.MemFwd.Frame
public import proofs.«01_k».proof.Proof.Gen.MemFwdIdeal
public import proofs.«01_k».proof.Proof.Gen.MemFwdIdeal.Skeleton
public import proofs.«01_k».proof.Proof.Gen.MemFwdIdeal.Launch
public import proofs.«01_k».proof.Proof.Gen.MemFwdIdeal.Points
public import proofs.«01_k».proof.Proof.Gen.MemFwdIdeal.Frame
public import proofs.«01_k».proof.Proof.Gen.MemFwdIdeal.Value
public import proofs.«01_k».proof.Proof.Gen.MemFwdReferenceIdeal
public import proofs.«01_k».proof.Proof.Gen.MemFwdReferenceIdeal.Run
public import proofs.«01_k».proof.Proof.Gen.MemFwdReferenceIdeal.Read
public import proofs.«01_k».proof.Proof.Gen.HgrnFwd
public import proofs.«01_k».proof.Proof.Gen.HgrnFwd.Skeleton
public import proofs.«01_k».proof.Proof.Gen.HgrnFwd.Launch
public import proofs.«01_k».proof.Proof.Gen.HgrnFwd.Points
public import proofs.«01_k».proof.Proof.Gen.HgrnFwd.Frame
public import proofs.«01_k».proof.Proof.Gen.HgrnFwdIdeal
public import proofs.«01_k».proof.Proof.Gen.HgrnFwdIdeal.Skeleton
public import proofs.«01_k».proof.Proof.Gen.HgrnFwdIdeal.Launch
public import proofs.«01_k».proof.Proof.Gen.HgrnFwdIdeal.Points
public import proofs.«01_k».proof.Proof.Gen.HgrnFwdIdeal.Frame
public import proofs.«01_k».proof.Proof.Gen.HgrnFwdIdeal.Value
public import proofs.«01_k».proof.Proof.Gen.HgrnFwdReferenceIdeal
public import proofs.«01_k».proof.Proof.Gen.HgrnFwdReferenceIdeal.Run
public import proofs.«01_k».proof.Proof.Gen.HgrnFwdReferenceIdeal.Read
public import proofs.«01_k».proof.Proof.Gen.Pre_swa_finite
public import proofs.«01_k».proof.Proof.Gen.On_swa_later
public import proofs.«01_k».proof.Proof.SwaFwdClaim
public import proofs.«01_k».proof.Proof.Gen.SwaFwd
public import proofs.«01_k».proof.Proof.Gen.SwaFwd.Skeleton
public import proofs.«01_k».proof.Proof.Gen.SwaFwd.Launch
public import proofs.«01_k».proof.Proof.Gen.SwaFwd.Points
public import proofs.«01_k».proof.Proof.Gen.SwaFwd.Frame
public import proofs.«01_k».proof.Proof.Gen.SwaFwdIdeal
public import proofs.«01_k».proof.Proof.Gen.SwaFwdIdeal.Skeleton
public import proofs.«01_k».proof.Proof.Gen.SwaFwdIdeal.Launch
public import proofs.«01_k».proof.Proof.Gen.SwaFwdIdeal.Points
public import proofs.«01_k».proof.Proof.Gen.SwaFwdIdeal.Frame
public import proofs.«01_k».proof.Proof.Gen.SwaFwdIdeal.Value
public import proofs.«01_k».proof.Proof.Gen.SwaFwdReferenceIdeal
public import proofs.«01_k».proof.Proof.Gen.SwaFwdReferenceIdeal.Run
public import proofs.«01_k».proof.Proof.Gen.SwaFwdReferenceIdeal.Read
public import proofs.«01_k».proof.Proof.MemClaim
public import proofs.«01_k».proof.Proof.MlpClaim
public import proofs.«01_k».proof.Proof.MergeFwdClaim
public import proofs.«01_k».proof.Proof.GradDownClaim
public import proofs.«01_k».proof.Proof.GradUpClaim
public import proofs.«01_k».proof.Proof.GradInAClaim
public import proofs.«01_k».proof.Proof.GradInBClaim
public import proofs.«01_k».proof.Proof.GradInDClaim
public import proofs.«01_k».proof.Proof.GradXHeadClaim
public import proofs.«01_k».proof.Proof.GradXTailClaim
public import proofs.«01_k».proof.Proof.ProjBClaim
public import proofs.«01_k».proof.Proof.MemKvClaim
public import proofs.«01_k».proof.Proof.GradKvClaim
public import proofs.«01_k».proof.Proof.MemFwdClaim
public import proofs.«01_k».proof.Proof.HgrnFwdClaim
public import Idealize.ShloMosaic.Adequacy
public import Idealize.ShloMosaic.Init

@[expose] public section

noncomputable section

namespace Cert.Proof

open Idealize.ShloMosaic Idealize.SL.Sem Cert.MemBwd

theorem claim : Cert.Claim :=
  ⟨Cert.MemBwd.Gen.facts, Cert.MemBwdIdeal.Gen.facts, Cert.MemReferenceIdeal.Gen.facts,
    Cert.MlpLoss.Gen.facts, Cert.MlpLossIdeal.Gen.facts, Cert.MlpReferenceIdeal.Gen.facts,
    Cert.MergeFwd.Gen.facts, Cert.MergeFwdIdeal.Gen.facts, Cert.MergeFwdReferenceIdeal.Gen.facts,
    Cert.GradDown.Gen.facts, Cert.GradDownIdeal.Gen.facts, Cert.GradDownReferenceIdeal.Gen.facts,
    Cert.GradUp.Gen.facts, Cert.GradUpIdeal.Gen.facts, Cert.GradUpReferenceIdeal.Gen.facts,
    Cert.GradInA.Gen.facts, Cert.GradInAIdeal.Gen.facts, Cert.GradInAReferenceIdeal.Gen.facts,
    Cert.GradInB.Gen.facts, Cert.GradInBIdeal.Gen.facts, Cert.GradInBReferenceIdeal.Gen.facts,
    Cert.GradInD.Gen.facts, Cert.GradInDIdeal.Gen.facts, Cert.GradInDReferenceIdeal.Gen.facts,
    Cert.GradXHead.Gen.facts, Cert.GradXHeadIdeal.Gen.facts, Cert.GradXHeadReferenceIdeal.Gen.facts,
    Cert.GradXTail.Gen.facts, Cert.GradXTailIdeal.Gen.facts, Cert.GradXTailReferenceIdeal.Gen.facts,
    Cert.ProjB.Gen.facts, Cert.ProjBIdeal.Gen.facts, Cert.ProjBReferenceIdeal.Gen.facts,
    Cert.MemKv.Gen.facts, Cert.MemKvIdeal.Gen.facts, Cert.MemKvReferenceIdeal.Gen.facts,
    Cert.GradKv.Gen.facts, Cert.GradKvIdeal.Gen.facts, Cert.GradKvReferenceIdeal.Gen.facts,
    Cert.MemFwd.Gen.facts, Cert.MemFwdIdeal.Gen.facts, Cert.MemFwdReferenceIdeal.Gen.facts,
    Cert.HgrnFwd.Gen.facts, Cert.HgrnFwdIdeal.Gen.facts, Cert.HgrnFwdReferenceIdeal.Gen.facts,
    Cert.SwaFwd.Gen.facts, Cert.SwaFwdIdeal.Gen.facts, Cert.SwaFwdReferenceIdeal.Gen.facts,
    Cert.Pre_mem_finite.Gen.facts, Cert.Pre_mlp_finite.Gen.facts, Cert.Pre_swa_finite.Gen.facts, Cert.On_mem_written.Gen.facts, Cert.On_swa_later.Gen.facts,
    Cert.MemClaim.frame_kernel, Cert.MemClaim.frame_ideal, fun m ρ _ => Cert.MemClaim.frame_ideal m ρ trivial,
    Cert.MemClaim.frame_reference, fun m ρ _ => Cert.MemClaim.frame_reference m ρ trivial,
    Cert.MlpClaim.frame_kernel, Cert.MlpClaim.frame_ideal, fun m ρ _ => Cert.MlpClaim.frame_ideal m ρ trivial,
    Cert.MlpClaim.frame_reference, fun m ρ _ => Cert.MlpClaim.frame_reference m ρ trivial,
    Cert.MergeFwdClaim.frame_kernel, Cert.MergeFwdClaim.frame_ideal, Cert.MergeFwdClaim.frame_reference,
    Cert.GradDownClaim.frame_kernel, Cert.GradDownClaim.frame_ideal, Cert.GradDownClaim.frame_reference,
    Cert.GradUpClaim.frame_kernel, Cert.GradUpClaim.frame_ideal, Cert.GradUpClaim.frame_reference,
    Cert.GradInAClaim.frame_kernel, Cert.GradInAClaim.frame_ideal, Cert.GradInAClaim.frame_reference,
    Cert.GradInBClaim.frame_kernel, Cert.GradInBClaim.frame_ideal, Cert.GradInBClaim.frame_reference,
    Cert.GradInDClaim.frame_kernel, Cert.GradInDClaim.frame_ideal, Cert.GradInDClaim.frame_reference,
    Cert.GradXHeadClaim.frame_kernel, Cert.GradXHeadClaim.frame_ideal, Cert.GradXHeadClaim.frame_reference,
    Cert.GradXTailClaim.frame_kernel, Cert.GradXTailClaim.frame_ideal, Cert.GradXTailClaim.frame_reference,
    Cert.ProjBClaim.frame_kernel, Cert.ProjBClaim.frame_ideal, Cert.ProjBClaim.frame_reference,
    Cert.MemKvClaim.frame_kernel, Cert.MemKvClaim.frame_ideal, Cert.MemKvClaim.frame_reference,
    Cert.GradKvClaim.frame_kernel, Cert.GradKvClaim.frame_ideal, Cert.GradKvClaim.frame_reference,
    Cert.MemFwdClaim.frame_kernel, Cert.MemFwdClaim.frame_ideal, Cert.MemFwdClaim.frame_reference,
    Cert.HgrnFwdClaim.frame_kernel, Cert.HgrnFwdClaim.frame_ideal, Cert.HgrnFwdClaim.frame_reference,
    Cert.SwaFwdClaim.frame_kernel, Cert.SwaFwdClaim.frame_ideal, fun m ρ _ => Cert.SwaFwdClaim.frame_ideal m ρ trivial,
    Cert.SwaFwdClaim.frame_reference, fun m ρ _ => Cert.SwaFwdClaim.frame_reference m ρ trivial,
    trivial, Cert.MemClaim.value, trivial, Cert.MlpClaim.value, trivial, Cert.MergeFwdClaim.value,
    trivial, Cert.GradDownClaim.value,
    trivial, Cert.GradUpClaim.value,
    trivial, Cert.GradInAClaim.value,
    trivial, Cert.GradInBClaim.value,
    trivial, Cert.GradInDClaim.value,
    trivial, Cert.GradXHeadClaim.value,
    trivial, Cert.GradXTailClaim.value,
    trivial, Cert.ProjBClaim.value,
    trivial, Cert.MemKvClaim.value,
    trivial, Cert.GradKvClaim.value,
    trivial, Cert.MemFwdClaim.value,
    trivial, Cert.HgrnFwdClaim.value,
    trivial, Cert.SwaFwdClaim.value⟩

end Cert.Proof

end
